-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnReferenceIdeal (m : (ℓ : Loc Cert.HgrnReferenceIdeal.nD Cert.HgrnReferenceIdeal.τ Cert.HgrnReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnReferenceIdeal [hHgrnReferenceIdeal : Cert.HgrnReferenceIdeal.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0)
      ∧ r.2.mem ((c.tc : Thread Cert.HgrnReferenceIdeal.nD Cert.HgrnReferenceIdeal.τ).loc Cert.HgrnReferenceIdeal.main_arg1) = m ((c.tc : Thread Cert.HgrnReferenceIdeal.nD Cert.HgrnReferenceIdeal.τ).loc Cert.HgrnReferenceIdeal.main_arg1)
      ∧ r.2.mem ((c.tc : Thread Cert.HgrnReferenceIdeal.nD Cert.HgrnReferenceIdeal.τ).loc Cert.HgrnReferenceIdeal.main_arg2) = m ((c.tc : Thread Cert.HgrnReferenceIdeal.nD Cert.HgrnReferenceIdeal.τ).loc Cert.HgrnReferenceIdeal.main_arg2)
      ∧ r.2.mem ((c.tc : Thread Cert.HgrnReferenceIdeal.nD Cert.HgrnReferenceIdeal.τ).loc Cert.HgrnReferenceIdeal.main_arg3) = m ((c.tc : Thread Cert.HgrnReferenceIdeal.nD Cert.HgrnReferenceIdeal.τ).loc Cert.HgrnReferenceIdeal.main_arg3)
      ∧ r.2.mem ((c.tc : Thread Cert.HgrnReferenceIdeal.nD Cert.HgrnReferenceIdeal.τ).loc Cert.HgrnReferenceIdeal.main_arg4) = m ((c.tc : Thread Cert.HgrnReferenceIdeal.nD Cert.HgrnReferenceIdeal.τ).loc Cert.HgrnReferenceIdeal.main_arg4)
      ∧ r.2.mem ((c.tc : Thread Cert.HgrnReferenceIdeal.nD Cert.HgrnReferenceIdeal.τ).loc Cert.HgrnReferenceIdeal.main_arg5) = m ((c.tc : Thread Cert.HgrnReferenceIdeal.nD Cert.HgrnReferenceIdeal.τ).loc Cert.HgrnReferenceIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10)
      ∧ r.2.mem ((c.tc : Thread Cert.Mla.nD Cert.Mla.τ).loc Cert.Mla.main_arg11) = m ((c.tc : Thread Cert.Mla.nD Cert.Mla.τ).loc Cert.Mla.main_arg11))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
      ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9)
      ∧ r.2.mem ((c.tc : Thread Cert.MlaReferenceIdeal.nD Cert.MlaReferenceIdeal.τ).loc Cert.MlaReferenceIdeal.main_arg10) = m ((c.tc : Thread Cert.MlaReferenceIdeal.nD Cert.MlaReferenceIdeal.τ).loc Cert.MlaReferenceIdeal.main_arg10)
      ∧ r.2.mem ((c.tc : Thread Cert.MlaReferenceIdeal.nD Cert.MlaReferenceIdeal.τ).loc Cert.MlaReferenceIdeal.main_arg11) = m ((c.tc : Thread Cert.MlaReferenceIdeal.nD Cert.MlaReferenceIdeal.τ).loc Cert.MlaReferenceIdeal.main_arg11))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27)
      ∧ r.2.mem ((c.tc : Thread Cert.Adam.nD Cert.Adam.τ).loc Cert.Adam.main_arg28) = m ((c.tc : Thread Cert.Adam.nD Cert.Adam.τ).loc Cert.Adam.main_arg28)
      ∧ r.2.mem ((c.tc : Thread Cert.Adam.nD Cert.Adam.τ).loc Cert.Adam.main_arg29) = m ((c.tc : Thread Cert.Adam.nD Cert.Adam.τ).loc Cert.Adam.main_arg29)
      ∧ r.2.mem ((c.tc : Thread Cert.Adam.nD Cert.Adam.τ).loc Cert.Adam.main_arg30) = m ((c.tc : Thread Cert.Adam.nD Cert.Adam.τ).loc Cert.Adam.main_arg30)
      ∧ r.2.mem ((c.tc : Thread Cert.Adam.nD Cert.Adam.τ).loc Cert.Adam.main_arg31) = m ((c.tc : Thread Cert.Adam.nD Cert.Adam.τ).loc Cert.Adam.main_arg31)
      ∧ r.2.mem ((c.tc : Thread Cert.Adam.nD Cert.Adam.τ).loc Cert.Adam.main_arg32) = m ((c.tc : Thread Cert.Adam.nD Cert.Adam.τ).loc Cert.Adam.main_arg32)
      ∧ r.2.mem ((c.tc : Thread Cert.Adam.nD Cert.Adam.τ).loc Cert.Adam.main_arg33) = m ((c.tc : Thread Cert.Adam.nD Cert.Adam.τ).loc Cert.Adam.main_arg33)
      ∧ r.2.mem ((c.tc : Thread Cert.Adam.nD Cert.Adam.τ).loc Cert.Adam.main_arg34) = m ((c.tc : Thread Cert.Adam.nD Cert.Adam.τ).loc Cert.Adam.main_arg34)
      ∧ r.2.mem ((c.tc : Thread Cert.Adam.nD Cert.Adam.τ).loc Cert.Adam.main_arg35) = m ((c.tc : Thread Cert.Adam.nD Cert.Adam.τ).loc Cert.Adam.main_arg35)
      ∧ r.2.mem ((c.tc : Thread Cert.Adam.nD Cert.Adam.τ).loc Cert.Adam.main_arg36) = m ((c.tc : Thread Cert.Adam.nD Cert.Adam.τ).loc Cert.Adam.main_arg36)
      ∧ r.2.mem ((c.tc : Thread Cert.Adam.nD Cert.Adam.τ).loc Cert.Adam.main_arg37) = m ((c.tc : Thread Cert.Adam.nD Cert.Adam.τ).loc Cert.Adam.main_arg37)
      ∧ r.2.mem ((c.tc : Thread Cert.Adam.nD Cert.Adam.τ).loc Cert.Adam.main_arg38) = m ((c.tc : Thread Cert.Adam.nD Cert.Adam.τ).loc Cert.Adam.main_arg38)
      ∧ r.2.mem ((c.tc : Thread Cert.Adam.nD Cert.Adam.τ).loc Cert.Adam.main_arg39) = m ((c.tc : Thread Cert.Adam.nD Cert.Adam.τ).loc Cert.Adam.main_arg39))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
      ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
      ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
      ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
      ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
      ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
      ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
      ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
      ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
      ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
      ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
      ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
      ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11)
      ∧ r.2.mem ((c.tc : Thread Cert.AdamReferenceIdeal.nD Cert.AdamReferenceIdeal.τ).loc Cert.AdamReferenceIdeal.main_arg12) = m ((c.tc : Thread Cert.AdamReferenceIdeal.nD Cert.AdamReferenceIdeal.τ).loc Cert.AdamReferenceIdeal.main_arg12)
      ∧ r.2.mem ((c.tc : Thread Cert.AdamReferenceIdeal.nD Cert.AdamReferenceIdeal.τ).loc Cert.AdamReferenceIdeal.main_arg13) = m ((c.tc : Thread Cert.AdamReferenceIdeal.nD Cert.AdamReferenceIdeal.τ).loc Cert.AdamReferenceIdeal.main_arg13)
      ∧ r.2.mem ((c.tc : Thread Cert.AdamReferenceIdeal.nD Cert.AdamReferenceIdeal.τ).loc Cert.AdamReferenceIdeal.main_arg14) = m ((c.tc : Thread Cert.AdamReferenceIdeal.nD Cert.AdamReferenceIdeal.τ).loc Cert.AdamReferenceIdeal.main_arg14)
      ∧ r.2.mem ((c.tc : Thread Cert.AdamReferenceIdeal.nD Cert.AdamReferenceIdeal.τ).loc Cert.AdamReferenceIdeal.main_arg15) = m ((c.tc : Thread Cert.AdamReferenceIdeal.nD Cert.AdamReferenceIdeal.τ).loc Cert.AdamReferenceIdeal.main_arg15)
      ∧ r.2.mem ((c.tc : Thread Cert.AdamReferenceIdeal.nD Cert.AdamReferenceIdeal.τ).loc Cert.AdamReferenceIdeal.main_arg16) = m ((c.tc : Thread Cert.AdamReferenceIdeal.nD Cert.AdamReferenceIdeal.τ).loc Cert.AdamReferenceIdeal.main_arg16)
      ∧ r.2.mem ((c.tc : Thread Cert.AdamReferenceIdeal.nD Cert.AdamReferenceIdeal.τ).loc Cert.AdamReferenceIdeal.main_arg17) = m ((c.tc : Thread Cert.AdamReferenceIdeal.nD Cert.AdamReferenceIdeal.τ).loc Cert.AdamReferenceIdeal.main_arg17)
      ∧ r.2.mem ((c.tc : Thread Cert.AdamReferenceIdeal.nD Cert.AdamReferenceIdeal.τ).loc Cert.AdamReferenceIdeal.main_arg18) = m ((c.tc : Thread Cert.AdamReferenceIdeal.nD Cert.AdamReferenceIdeal.τ).loc Cert.AdamReferenceIdeal.main_arg18)
      ∧ r.2.mem ((c.tc : Thread Cert.AdamReferenceIdeal.nD Cert.AdamReferenceIdeal.τ).loc Cert.AdamReferenceIdeal.main_arg19) = m ((c.tc : Thread Cert.AdamReferenceIdeal.nD Cert.AdamReferenceIdeal.τ).loc Cert.AdamReferenceIdeal.main_arg19)
      ∧ r.2.mem ((c.tc : Thread Cert.AdamReferenceIdeal.nD Cert.AdamReferenceIdeal.τ).loc Cert.AdamReferenceIdeal.main_arg20) = m ((c.tc : Thread Cert.AdamReferenceIdeal.nD Cert.AdamReferenceIdeal.τ).loc Cert.AdamReferenceIdeal.main_arg20)
      ∧ r.2.mem ((c.tc : Thread Cert.AdamReferenceIdeal.nD Cert.AdamReferenceIdeal.τ).loc Cert.AdamReferenceIdeal.main_arg21) = m ((c.tc : Thread Cert.AdamReferenceIdeal.nD Cert.AdamReferenceIdeal.τ).loc Cert.AdamReferenceIdeal.main_arg21)
      ∧ r.2.mem ((c.tc : Thread Cert.AdamReferenceIdeal.nD Cert.AdamReferenceIdeal.τ).loc Cert.AdamReferenceIdeal.main_arg22) = m ((c.tc : Thread Cert.AdamReferenceIdeal.nD Cert.AdamReferenceIdeal.τ).loc Cert.AdamReferenceIdeal.main_arg22)
      ∧ r.2.mem ((c.tc : Thread Cert.AdamReferenceIdeal.nD Cert.AdamReferenceIdeal.τ).loc Cert.AdamReferenceIdeal.main_arg23) = m ((c.tc : Thread Cert.AdamReferenceIdeal.nD Cert.AdamReferenceIdeal.τ).loc Cert.AdamReferenceIdeal.main_arg23)
      ∧ r.2.mem ((c.tc : Thread Cert.AdamReferenceIdeal.nD Cert.AdamReferenceIdeal.τ).loc Cert.AdamReferenceIdeal.main_arg24) = m ((c.tc : Thread Cert.AdamReferenceIdeal.nD Cert.AdamReferenceIdeal.τ).loc Cert.AdamReferenceIdeal.main_arg24)
      ∧ r.2.mem ((c.tc : Thread Cert.AdamReferenceIdeal.nD Cert.AdamReferenceIdeal.τ).loc Cert.AdamReferenceIdeal.main_arg25) = m ((c.tc : Thread Cert.AdamReferenceIdeal.nD Cert.AdamReferenceIdeal.τ).loc Cert.AdamReferenceIdeal.main_arg25)
      ∧ r.2.mem ((c.tc : Thread Cert.AdamReferenceIdeal.nD Cert.AdamReferenceIdeal.τ).loc Cert.AdamReferenceIdeal.main_arg26) = m ((c.tc : Thread Cert.AdamReferenceIdeal.nD Cert.AdamReferenceIdeal.τ).loc Cert.AdamReferenceIdeal.main_arg26)
      ∧ r.2.mem ((c.tc : Thread Cert.AdamReferenceIdeal.nD Cert.AdamReferenceIdeal.τ).loc Cert.AdamReferenceIdeal.main_arg27) = m ((c.tc : Thread Cert.AdamReferenceIdeal.nD Cert.AdamReferenceIdeal.τ).loc Cert.AdamReferenceIdeal.main_arg27)
      ∧ r.2.mem ((c.tc : Thread Cert.AdamReferenceIdeal.nD Cert.AdamReferenceIdeal.τ).loc Cert.AdamReferenceIdeal.main_arg28) = m ((c.tc : Thread Cert.AdamReferenceIdeal.nD Cert.AdamReferenceIdeal.τ).loc Cert.AdamReferenceIdeal.main_arg28)
      ∧ r.2.mem ((c.tc : Thread Cert.AdamReferenceIdeal.nD Cert.AdamReferenceIdeal.τ).loc Cert.AdamReferenceIdeal.main_arg29) = m ((c.tc : Thread Cert.AdamReferenceIdeal.nD Cert.AdamReferenceIdeal.τ).loc Cert.AdamReferenceIdeal.main_arg29)
      ∧ r.2.mem ((c.tc : Thread Cert.AdamReferenceIdeal.nD Cert.AdamReferenceIdeal.τ).loc Cert.AdamReferenceIdeal.main_arg30) = m ((c.tc : Thread Cert.AdamReferenceIdeal.nD Cert.AdamReferenceIdeal.τ).loc Cert.AdamReferenceIdeal.main_arg30)
      ∧ r.2.mem ((c.tc : Thread Cert.AdamReferenceIdeal.nD Cert.AdamReferenceIdeal.τ).loc Cert.AdamReferenceIdeal.main_arg31) = m ((c.tc : Thread Cert.AdamReferenceIdeal.nD Cert.AdamReferenceIdeal.τ).loc Cert.AdamReferenceIdeal.main_arg31)
      ∧ r.2.mem ((c.tc : Thread Cert.AdamReferenceIdeal.nD Cert.AdamReferenceIdeal.τ).loc Cert.AdamReferenceIdeal.main_arg32) = m ((c.tc : Thread Cert.AdamReferenceIdeal.nD Cert.AdamReferenceIdeal.τ).loc Cert.AdamReferenceIdeal.main_arg32)
      ∧ r.2.mem ((c.tc : Thread Cert.AdamReferenceIdeal.nD Cert.AdamReferenceIdeal.τ).loc Cert.AdamReferenceIdeal.main_arg33) = m ((c.tc : Thread Cert.AdamReferenceIdeal.nD Cert.AdamReferenceIdeal.τ).loc Cert.AdamReferenceIdeal.main_arg33)
      ∧ r.2.mem ((c.tc : Thread Cert.AdamReferenceIdeal.nD Cert.AdamReferenceIdeal.τ).loc Cert.AdamReferenceIdeal.main_arg34) = m ((c.tc : Thread Cert.AdamReferenceIdeal.nD Cert.AdamReferenceIdeal.τ).loc Cert.AdamReferenceIdeal.main_arg34)
      ∧ r.2.mem ((c.tc : Thread Cert.AdamReferenceIdeal.nD Cert.AdamReferenceIdeal.τ).loc Cert.AdamReferenceIdeal.main_arg35) = m ((c.tc : Thread Cert.AdamReferenceIdeal.nD Cert.AdamReferenceIdeal.τ).loc Cert.AdamReferenceIdeal.main_arg35)
      ∧ r.2.mem ((c.tc : Thread Cert.AdamReferenceIdeal.nD Cert.AdamReferenceIdeal.τ).loc Cert.AdamReferenceIdeal.main_arg36) = m ((c.tc : Thread Cert.AdamReferenceIdeal.nD Cert.AdamReferenceIdeal.τ).loc Cert.AdamReferenceIdeal.main_arg36)
      ∧ r.2.mem ((c.tc : Thread Cert.AdamReferenceIdeal.nD Cert.AdamReferenceIdeal.τ).loc Cert.AdamReferenceIdeal.main_arg37) = m ((c.tc : Thread Cert.AdamReferenceIdeal.nD Cert.AdamReferenceIdeal.τ).loc Cert.AdamReferenceIdeal.main_arg37)
      ∧ r.2.mem ((c.tc : Thread Cert.AdamReferenceIdeal.nD Cert.AdamReferenceIdeal.τ).loc Cert.AdamReferenceIdeal.main_arg38) = m ((c.tc : Thread Cert.AdamReferenceIdeal.nD Cert.AdamReferenceIdeal.τ).loc Cert.AdamReferenceIdeal.main_arg38)
      ∧ r.2.mem ((c.tc : Thread Cert.AdamReferenceIdeal.nD Cert.AdamReferenceIdeal.τ).loc Cert.AdamReferenceIdeal.main_arg39) = m ((c.tc : Thread Cert.AdamReferenceIdeal.nD Cert.AdamReferenceIdeal.τ).loc Cert.AdamReferenceIdeal.main_arg39))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29)
      ∧ r.2.mem ((c.tc : Thread Cert.SmallReferenceIdeal.nD Cert.SmallReferenceIdeal.τ).loc Cert.SmallReferenceIdeal.main_arg30) = m ((c.tc : Thread Cert.SmallReferenceIdeal.nD Cert.SmallReferenceIdeal.τ).loc Cert.SmallReferenceIdeal.main_arg30)
      ∧ r.2.mem ((c.tc : Thread Cert.SmallReferenceIdeal.nD Cert.SmallReferenceIdeal.τ).loc Cert.SmallReferenceIdeal.main_arg31) = m ((c.tc : Thread Cert.SmallReferenceIdeal.nD Cert.SmallReferenceIdeal.τ).loc Cert.SmallReferenceIdeal.main_arg31))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v5)) (v1 : (c : Dev Cert.FfnIdeal.nD) → Buf (Elt Ideal) ((c.tc : Thread Cert.FfnIdeal.nD Cert.FfnIdeal.τ).loc Cert.FfnIdeal.main_v12)) (v2 : (c : Dev Cert.FfnIdeal.nD) → Buf (Elt Ideal) ((c.tc : Thread Cert.FfnIdeal.nD Cert.FfnIdeal.τ).loc Cert.FfnIdeal.main_v14)) (v3 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_v12) = v1 c
          ∧ r.2.mem ((c.tc : Thread Cert.FfnIdeal.nD Cert.FfnIdeal.τ).loc Cert.FfnIdeal.main_v14) = v2 c
          ∧ r.2.mem ((c.tc : Thread Cert.FfnIdeal.nD Cert.FfnIdeal.τ).loc Cert.FfnIdeal.main_v9) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v11) = v0 c
          ∧ r.2.mem ((c.tc : Thread Cert.FfnReferenceIdeal.nD Cert.FfnReferenceIdeal.τ).loc Cert.FfnReferenceIdeal.main_v24) = v1 c
          ∧ r.2.mem ((c.tc : Thread Cert.FfnReferenceIdeal.nD Cert.FfnReferenceIdeal.τ).loc Cert.FfnReferenceIdeal.main_v27) = v2 c
          ∧ r.2.mem ((c.tc : Thread Cert.FfnReferenceIdeal.nD Cert.FfnReferenceIdeal.τ).loc Cert.FfnReferenceIdeal.main_v17) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Hgrn_HgrnIdeal : Prop :=
  True

def algebraic_HgrnIdeal_HgrnReferenceIdeal [hHgrnIdeal : Cert.HgrnIdeal.Facts] [hHgrnReferenceIdeal : Cert.HgrnReferenceIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnReferenceIdeal.nD Cert.HgrnReferenceIdeal.τ Cert.HgrnReferenceIdeal.sig) → Buf (Elt Ideal) ℓ) (g' : Dev Cert.HgrnReferenceIdeal.nD → PrngReg), Pre_HgrnIdeal m →
    (∀ c : Dev Cert.HgrnIdeal.nD,
      m' ((c.tc : Thread Cert.HgrnReferenceIdeal.nD Cert.HgrnReferenceIdeal.τ).loc Cert.HgrnReferenceIdeal.main_arg0) = m ((c.tc : Thread Cert.HgrnIdeal.nD Cert.HgrnIdeal.τ).loc Cert.HgrnIdeal.main_arg0)
      ∧ m' ((c.tc : Thread Cert.HgrnReferenceIdeal.nD Cert.HgrnReferenceIdeal.τ).loc Cert.HgrnReferenceIdeal.main_arg1) = m ((c.tc : Thread Cert.HgrnIdeal.nD Cert.HgrnIdeal.τ).loc Cert.HgrnIdeal.main_arg1)
      ∧ m' ((c.tc : Thread Cert.HgrnReferenceIdeal.nD Cert.HgrnReferenceIdeal.τ).loc Cert.HgrnReferenceIdeal.main_arg2) = m ((c.tc : Thread Cert.HgrnIdeal.nD Cert.HgrnIdeal.τ).loc Cert.HgrnIdeal.main_arg2)
      ∧ m' ((c.tc : Thread Cert.HgrnReferenceIdeal.nD Cert.HgrnReferenceIdeal.τ).loc Cert.HgrnReferenceIdeal.main_arg3) = m ((c.tc : Thread Cert.HgrnIdeal.nD Cert.HgrnIdeal.τ).loc Cert.HgrnIdeal.main_arg3)
      ∧ m' ((c.tc : Thread Cert.HgrnReferenceIdeal.nD Cert.HgrnReferenceIdeal.τ).loc Cert.HgrnReferenceIdeal.main_arg4) = m ((c.tc : Thread Cert.HgrnIdeal.nD Cert.HgrnIdeal.τ).loc Cert.HgrnIdeal.main_arg4)
      ∧ m' ((c.tc : Thread Cert.HgrnReferenceIdeal.nD Cert.HgrnReferenceIdeal.τ).loc Cert.HgrnReferenceIdeal.main_arg5) = m ((c.tc : Thread Cert.HgrnIdeal.nD Cert.HgrnIdeal.τ).loc Cert.HgrnIdeal.main_arg5)) →
    ∃ (v0 : (c : Dev Cert.HgrnIdeal.nD) → Buf (Elt Ideal) ((c.tc : Thread Cert.HgrnIdeal.nD Cert.HgrnIdeal.τ).loc Cert.HgrnIdeal.main_v0)) (v1 : (c : Dev Cert.HgrnIdeal.nD) → Buf (Elt Ideal) ((c.tc : Thread Cert.HgrnIdeal.nD Cert.HgrnIdeal.τ).loc Cert.HgrnIdeal.main_v4)) (v2 : (c : Dev Cert.HgrnIdeal.nD) → Buf (Elt Ideal) ((c.tc : Thread Cert.HgrnIdeal.nD Cert.HgrnIdeal.τ).loc Cert.HgrnIdeal.main_v5)) (v3 : (c : Dev Cert.HgrnIdeal.nD) → Buf (Elt Ideal) ((c.tc : Thread Cert.HgrnIdeal.nD Cert.HgrnIdeal.τ).loc Cert.HgrnIdeal.main_v1)) (v4 : (c : Dev Cert.HgrnIdeal.nD) → Buf (Elt Ideal) ((c.tc : Thread Cert.HgrnIdeal.nD Cert.HgrnIdeal.τ).loc Cert.HgrnIdeal.main_v2)) (v5 : (c : Dev Cert.HgrnIdeal.nD) → Buf (Elt Ideal) ((c.tc : Thread Cert.HgrnIdeal.nD Cert.HgrnIdeal.τ).loc Cert.HgrnIdeal.main_v3)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v0) = v0 c
          ∧ r.2.mem ((c.tc : Thread Cert.HgrnIdeal.nD Cert.HgrnIdeal.τ).loc Cert.HgrnIdeal.main_v4) = v1 c
          ∧ r.2.mem ((c.tc : Thread Cert.HgrnIdeal.nD Cert.HgrnIdeal.τ).loc Cert.HgrnIdeal.main_v5) = v2 c
          ∧ r.2.mem ((c.tc : Thread Cert.HgrnIdeal.nD Cert.HgrnIdeal.τ).loc Cert.HgrnIdeal.main_v1) = v3 c
          ∧ r.2.mem ((c.tc : Thread Cert.HgrnIdeal.nD Cert.HgrnIdeal.τ).loc Cert.HgrnIdeal.main_v2) = v4 c
          ∧ r.2.mem ((c.tc : Thread Cert.HgrnIdeal.nD Cert.HgrnIdeal.τ).loc Cert.HgrnIdeal.main_v3) = v5 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ θ_run (Cert.HgrnReferenceIdeal.defs (F := Ideal)) (onTc (τ := Cert.HgrnReferenceIdeal.τ) (Cert.HgrnReferenceIdeal.main (F := Ideal))) ⟨m', fun _ => 0, g'⟩ (fun r => ∀ c : Dev Cert.HgrnReferenceIdeal.nD,
          r.2.mem ((c.tc : Thread Cert.HgrnReferenceIdeal.nD Cert.HgrnReferenceIdeal.τ).loc Cert.HgrnReferenceIdeal.main_v4) = v0 c
          ∧ r.2.mem ((c.tc : Thread Cert.HgrnReferenceIdeal.nD Cert.HgrnReferenceIdeal.τ).loc Cert.HgrnReferenceIdeal.main_v13) = v1 c
          ∧ r.2.mem ((c.tc : Thread Cert.HgrnReferenceIdeal.nD Cert.HgrnReferenceIdeal.τ).loc Cert.HgrnReferenceIdeal.main_v16) = v2 c
          ∧ r.2.mem ((c.tc : Thread Cert.HgrnReferenceIdeal.nD Cert.HgrnReferenceIdeal.τ).loc Cert.HgrnReferenceIdeal.main_v9) = v3 c
          ∧ r.2.mem ((c.tc : Thread Cert.HgrnReferenceIdeal.nD Cert.HgrnReferenceIdeal.τ).loc Cert.HgrnReferenceIdeal.main_v20) = v4 c
          ∧ r.2.mem ((c.tc : Thread Cert.HgrnReferenceIdeal.nD Cert.HgrnReferenceIdeal.τ).loc Cert.HgrnReferenceIdeal.main_v23) = v5 c
          ∧ r.2.mem ((c.tc : Thread Cert.HgrnReferenceIdeal.nD Cert.HgrnReferenceIdeal.τ).loc Cert.HgrnReferenceIdeal.main_arg0) = m' ((c.tc : Thread Cert.HgrnReferenceIdeal.nD Cert.HgrnReferenceIdeal.τ).loc Cert.HgrnReferenceIdeal.main_arg0)
          ∧ r.2.mem ((c.tc : Thread Cert.HgrnReferenceIdeal.nD Cert.HgrnReferenceIdeal.τ).loc Cert.HgrnReferenceIdeal.main_arg1) = m' ((c.tc : Thread Cert.HgrnReferenceIdeal.nD Cert.HgrnReferenceIdeal.τ).loc Cert.HgrnReferenceIdeal.main_arg1)
          ∧ r.2.mem ((c.tc : Thread Cert.HgrnReferenceIdeal.nD Cert.HgrnReferenceIdeal.τ).loc Cert.HgrnReferenceIdeal.main_arg2) = m' ((c.tc : Thread Cert.HgrnReferenceIdeal.nD Cert.HgrnReferenceIdeal.τ).loc Cert.HgrnReferenceIdeal.main_arg2)
          ∧ r.2.mem ((c.tc : Thread Cert.HgrnReferenceIdeal.nD Cert.HgrnReferenceIdeal.τ).loc Cert.HgrnReferenceIdeal.main_arg3) = m' ((c.tc : Thread Cert.HgrnReferenceIdeal.nD Cert.HgrnReferenceIdeal.τ).loc Cert.HgrnReferenceIdeal.main_arg3)
          ∧ r.2.mem ((c.tc : Thread Cert.HgrnReferenceIdeal.nD Cert.HgrnReferenceIdeal.τ).loc Cert.HgrnReferenceIdeal.main_arg4) = m' ((c.tc : Thread Cert.HgrnReferenceIdeal.nD Cert.HgrnReferenceIdeal.τ).loc Cert.HgrnReferenceIdeal.main_arg4)
          ∧ r.2.mem ((c.tc : Thread Cert.HgrnReferenceIdeal.nD Cert.HgrnReferenceIdeal.τ).loc Cert.HgrnReferenceIdeal.main_arg5) = m' ((c.tc : Thread Cert.HgrnReferenceIdeal.nD Cert.HgrnReferenceIdeal.τ).loc Cert.HgrnReferenceIdeal.main_arg5))

def preserves_Mla_MlaIdeal : Prop :=
  True

def algebraic_MlaIdeal_MlaReferenceIdeal [hMlaIdeal : Cert.MlaIdeal.Facts] [hMlaReferenceIdeal : Cert.MlaReferenceIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)
      ∧ m' ((c.tc : Thread Cert.MlaReferenceIdeal.nD Cert.MlaReferenceIdeal.τ).loc Cert.MlaReferenceIdeal.main_arg4) = m ((c.tc : Thread Cert.MlaIdeal.nD Cert.MlaIdeal.τ).loc Cert.MlaIdeal.main_arg4)
      ∧ m' ((c.tc : Thread Cert.MlaReferenceIdeal.nD Cert.MlaReferenceIdeal.τ).loc Cert.MlaReferenceIdeal.main_arg5) = m ((c.tc : Thread Cert.MlaIdeal.nD Cert.MlaIdeal.τ).loc Cert.MlaIdeal.main_arg5)
      ∧ m' ((c.tc : Thread Cert.MlaReferenceIdeal.nD Cert.MlaReferenceIdeal.τ).loc Cert.MlaReferenceIdeal.main_arg6) = m ((c.tc : Thread Cert.MlaIdeal.nD Cert.MlaIdeal.τ).loc Cert.MlaIdeal.main_arg6)
      ∧ m' ((c.tc : Thread Cert.MlaReferenceIdeal.nD Cert.MlaReferenceIdeal.τ).loc Cert.MlaReferenceIdeal.main_arg7) = m ((c.tc : Thread Cert.MlaIdeal.nD Cert.MlaIdeal.τ).loc Cert.MlaIdeal.main_arg7)
      ∧ m' ((c.tc : Thread Cert.MlaReferenceIdeal.nD Cert.MlaReferenceIdeal.τ).loc Cert.MlaReferenceIdeal.main_arg8) = m ((c.tc : Thread Cert.MlaIdeal.nD Cert.MlaIdeal.τ).loc Cert.MlaIdeal.main_arg8)
      ∧ m' ((c.tc : Thread Cert.MlaReferenceIdeal.nD Cert.MlaReferenceIdeal.τ).loc Cert.MlaReferenceIdeal.main_arg9) = m ((c.tc : Thread Cert.MlaIdeal.nD Cert.MlaIdeal.τ).loc Cert.MlaIdeal.main_arg9)
      ∧ m' ((c.tc : Thread Cert.MlaReferenceIdeal.nD Cert.MlaReferenceIdeal.τ).loc Cert.MlaReferenceIdeal.main_arg10) = m ((c.tc : Thread Cert.MlaIdeal.nD Cert.MlaIdeal.τ).loc Cert.MlaIdeal.main_arg10)
      ∧ m' ((c.tc : Thread Cert.MlaReferenceIdeal.nD Cert.MlaReferenceIdeal.τ).loc Cert.MlaReferenceIdeal.main_arg11) = m ((c.tc : Thread Cert.MlaIdeal.nD Cert.MlaIdeal.τ).loc Cert.MlaIdeal.main_arg11)) →
    ∃ (v0 : (c : Dev Cert.MlaIdeal.nD) → Buf (Elt Ideal) ((c.tc : Thread Cert.MlaIdeal.nD Cert.MlaIdeal.τ).loc Cert.MlaIdeal.main_v0)) (v1 : (c : Dev Cert.MlaIdeal.nD) → Buf (Elt Ideal) ((c.tc : Thread Cert.MlaIdeal.nD Cert.MlaIdeal.τ).loc Cert.MlaIdeal.main_v10)) (v2 : (c : Dev Cert.MlaIdeal.nD) → Buf (Elt Ideal) ((c.tc : Thread Cert.MlaIdeal.nD Cert.MlaIdeal.τ).loc Cert.MlaIdeal.main_v11)) (v3 : (c : Dev Cert.MlaIdeal.nD) → Buf (Elt Ideal) ((c.tc : Thread Cert.MlaIdeal.nD Cert.MlaIdeal.τ).loc Cert.MlaIdeal.main_v1)) (v4 : (c : Dev Cert.MlaIdeal.nD) → Buf (Elt Ideal) ((c.tc : Thread Cert.MlaIdeal.nD Cert.MlaIdeal.τ).loc Cert.MlaIdeal.main_v6)) (v5 : (c : Dev Cert.MlaIdeal.nD) → Buf (Elt Ideal) ((c.tc : Thread Cert.MlaIdeal.nD Cert.MlaIdeal.τ).loc Cert.MlaIdeal.main_v7)) (v6 : (c : Dev Cert.MlaIdeal.nD) → Buf (Elt Ideal) ((c.tc : Thread Cert.MlaIdeal.nD Cert.MlaIdeal.τ).loc Cert.MlaIdeal.main_v2)) (v7 : (c : Dev Cert.MlaIdeal.nD) → Buf (Elt Ideal) ((c.tc : Thread Cert.MlaIdeal.nD Cert.MlaIdeal.τ).loc Cert.MlaIdeal.main_v8)) (v8 : (c : Dev Cert.MlaIdeal.nD) → Buf (Elt Ideal) ((c.tc : Thread Cert.MlaIdeal.nD Cert.MlaIdeal.τ).loc Cert.MlaIdeal.main_v9)) (v9 : (c : Dev Cert.MlaIdeal.nD) → Buf (Elt Ideal) ((c.tc : Thread Cert.MlaIdeal.nD Cert.MlaIdeal.τ).loc Cert.MlaIdeal.main_v3)) (v10 : (c : Dev Cert.MlaIdeal.nD) → Buf (Elt Ideal) ((c.tc : Thread Cert.MlaIdeal.nD Cert.MlaIdeal.τ).loc Cert.MlaIdeal.main_v4)) (v11 : (c : Dev Cert.MlaIdeal.nD) → Buf (Elt Ideal) ((c.tc : Thread Cert.MlaIdeal.nD Cert.MlaIdeal.τ).loc Cert.MlaIdeal.main_v5)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_v10) = v1 c
          ∧ r.2.mem ((c.tc : Thread Cert.MlaIdeal.nD Cert.MlaIdeal.τ).loc Cert.MlaIdeal.main_v11) = v2 c
          ∧ r.2.mem ((c.tc : Thread Cert.MlaIdeal.nD Cert.MlaIdeal.τ).loc Cert.MlaIdeal.main_v1) = v3 c
          ∧ r.2.mem ((c.tc : Thread Cert.MlaIdeal.nD Cert.MlaIdeal.τ).loc Cert.MlaIdeal.main_v6) = v4 c
          ∧ r.2.mem ((c.tc : Thread Cert.MlaIdeal.nD Cert.MlaIdeal.τ).loc Cert.MlaIdeal.main_v7) = v5 c
          ∧ r.2.mem ((c.tc : Thread Cert.MlaIdeal.nD Cert.MlaIdeal.τ).loc Cert.MlaIdeal.main_v2) = v6 c
          ∧ r.2.mem ((c.tc : Thread Cert.MlaIdeal.nD Cert.MlaIdeal.τ).loc Cert.MlaIdeal.main_v8) = v7 c
          ∧ r.2.mem ((c.tc : Thread Cert.MlaIdeal.nD Cert.MlaIdeal.τ).loc Cert.MlaIdeal.main_v9) = v8 c
          ∧ r.2.mem ((c.tc : Thread Cert.MlaIdeal.nD Cert.MlaIdeal.τ).loc Cert.MlaIdeal.main_v3) = v9 c
          ∧ r.2.mem ((c.tc : Thread Cert.MlaIdeal.nD Cert.MlaIdeal.τ).loc Cert.MlaIdeal.main_v4) = v10 c
          ∧ r.2.mem ((c.tc : Thread Cert.MlaIdeal.nD Cert.MlaIdeal.τ).loc Cert.MlaIdeal.main_v5) = v11 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
          ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
          ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v4) = v0 c
          ∧ r.2.mem ((c.tc : Thread Cert.MlaReferenceIdeal.nD Cert.MlaReferenceIdeal.τ).loc Cert.MlaReferenceIdeal.main_v23) = v1 c
          ∧ r.2.mem ((c.tc : Thread Cert.MlaReferenceIdeal.nD Cert.MlaReferenceIdeal.τ).loc Cert.MlaReferenceIdeal.main_v26) = v2 c
          ∧ r.2.mem ((c.tc : Thread Cert.MlaReferenceIdeal.nD Cert.MlaReferenceIdeal.τ).loc Cert.MlaReferenceIdeal.main_v9) = v3 c
          ∧ r.2.mem ((c.tc : Thread Cert.MlaReferenceIdeal.nD Cert.MlaReferenceIdeal.τ).loc Cert.MlaReferenceIdeal.main_v30) = v4 c
          ∧ r.2.mem ((c.tc : Thread Cert.MlaReferenceIdeal.nD Cert.MlaReferenceIdeal.τ).loc Cert.MlaReferenceIdeal.main_v33) = v5 c
          ∧ r.2.mem ((c.tc : Thread Cert.MlaReferenceIdeal.nD Cert.MlaReferenceIdeal.τ).loc Cert.MlaReferenceIdeal.main_v14) = v6 c
          ∧ r.2.mem ((c.tc : Thread Cert.MlaReferenceIdeal.nD Cert.MlaReferenceIdeal.τ).loc Cert.MlaReferenceIdeal.main_v37) = v7 c
          ∧ r.2.mem ((c.tc : Thread Cert.MlaReferenceIdeal.nD Cert.MlaReferenceIdeal.τ).loc Cert.MlaReferenceIdeal.main_v40) = v8 c
          ∧ r.2.mem ((c.tc : Thread Cert.MlaReferenceIdeal.nD Cert.MlaReferenceIdeal.τ).loc Cert.MlaReferenceIdeal.main_v19) = v9 c
          ∧ r.2.mem ((c.tc : Thread Cert.MlaReferenceIdeal.nD Cert.MlaReferenceIdeal.τ).loc Cert.MlaReferenceIdeal.main_v48) = v10 c
          ∧ r.2.mem ((c.tc : Thread Cert.MlaReferenceIdeal.nD Cert.MlaReferenceIdeal.τ).loc Cert.MlaReferenceIdeal.main_v47) = v11 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8)
          ∧ r.2.mem ((c.tc : Thread Cert.MlaReferenceIdeal.nD Cert.MlaReferenceIdeal.τ).loc Cert.MlaReferenceIdeal.main_arg9) = m' ((c.tc : Thread Cert.MlaReferenceIdeal.nD Cert.MlaReferenceIdeal.τ).loc Cert.MlaReferenceIdeal.main_arg9)
          ∧ r.2.mem ((c.tc : Thread Cert.MlaReferenceIdeal.nD Cert.MlaReferenceIdeal.τ).loc Cert.MlaReferenceIdeal.main_arg10) = m' ((c.tc : Thread Cert.MlaReferenceIdeal.nD Cert.MlaReferenceIdeal.τ).loc Cert.MlaReferenceIdeal.main_arg10)
          ∧ r.2.mem ((c.tc : Thread Cert.MlaReferenceIdeal.nD Cert.MlaReferenceIdeal.τ).loc Cert.MlaReferenceIdeal.main_arg11) = m' ((c.tc : Thread Cert.MlaReferenceIdeal.nD Cert.MlaReferenceIdeal.τ).loc Cert.MlaReferenceIdeal.main_arg11))

def preserves_Adam_AdamIdeal : Prop :=
  IdealRules.named_const.Statement Cert.AdamIdeal.κ "correct1" .f32 0x3FC48605#32 (((5463681 / 8388608)⁻¹ : ℝ) : EReal)
  ∧ IdealRules.named_const.Statement Cert.AdamIdeal.κ "correct2" .f32 0x42C8E6D3#32 (((2672307 / 268435456)⁻¹ : ℝ) : EReal)

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)
      ∧ m' ((c.tc : Thread Cert.AdamReferenceIdeal.nD Cert.AdamReferenceIdeal.τ).loc Cert.AdamReferenceIdeal.main_arg4) = m ((c.tc : Thread Cert.AdamIdeal.nD Cert.AdamIdeal.τ).loc Cert.AdamIdeal.main_arg4)
      ∧ m' ((c.tc : Thread Cert.AdamReferenceIdeal.nD Cert.AdamReferenceIdeal.τ).loc Cert.AdamReferenceIdeal.main_arg5) = m ((c.tc : Thread Cert.AdamIdeal.nD Cert.AdamIdeal.τ).loc Cert.AdamIdeal.main_arg5)
      ∧ m' ((c.tc : Thread Cert.AdamReferenceIdeal.nD Cert.AdamReferenceIdeal.τ).loc Cert.AdamReferenceIdeal.main_arg6) = m ((c.tc : Thread Cert.AdamIdeal.nD Cert.AdamIdeal.τ).loc Cert.AdamIdeal.main_arg6)
      ∧ m' ((c.tc : Thread Cert.AdamReferenceIdeal.nD Cert.AdamReferenceIdeal.τ).loc Cert.AdamReferenceIdeal.main_arg7) = m ((c.tc : Thread Cert.AdamIdeal.nD Cert.AdamIdeal.τ).loc Cert.AdamIdeal.main_arg7)
      ∧ m' ((c.tc : Thread Cert.AdamReferenceIdeal.nD Cert.AdamReferenceIdeal.τ).loc Cert.AdamReferenceIdeal.main_arg8) = m ((c.tc : Thread Cert.AdamIdeal.nD Cert.AdamIdeal.τ).loc Cert.AdamIdeal.main_arg8)
      ∧ m' ((c.tc : Thread Cert.AdamReferenceIdeal.nD Cert.AdamReferenceIdeal.τ).loc Cert.AdamReferenceIdeal.main_arg9) = m ((c.tc : Thread Cert.AdamIdeal.nD Cert.AdamIdeal.τ).loc Cert.AdamIdeal.main_arg9)
      ∧ m' ((c.tc : Thread Cert.AdamReferenceIdeal.nD Cert.AdamReferenceIdeal.τ).loc Cert.AdamReferenceIdeal.main_arg10) = m ((c.tc : Thread Cert.AdamIdeal.nD Cert.AdamIdeal.τ).loc Cert.AdamIdeal.main_arg10)
      ∧ m' ((c.tc : Thread Cert.AdamReferenceIdeal.nD Cert.AdamReferenceIdeal.τ).loc Cert.AdamReferenceIdeal.main_arg11) = m ((c.tc : Thread Cert.AdamIdeal.nD Cert.AdamIdeal.τ).loc Cert.AdamIdeal.main_arg11)
      ∧ m' ((c.tc : Thread Cert.AdamReferenceIdeal.nD Cert.AdamReferenceIdeal.τ).loc Cert.AdamReferenceIdeal.main_arg12) = m ((c.tc : Thread Cert.AdamIdeal.nD Cert.AdamIdeal.τ).loc Cert.AdamIdeal.main_arg12)
      ∧ m' ((c.tc : Thread Cert.AdamReferenceIdeal.nD Cert.AdamReferenceIdeal.τ).loc Cert.AdamReferenceIdeal.main_arg13) = m ((c.tc : Thread Cert.AdamIdeal.nD Cert.AdamIdeal.τ).loc Cert.AdamIdeal.main_arg13)
      ∧ m' ((c.tc : Thread Cert.AdamReferenceIdeal.nD Cert.AdamReferenceIdeal.τ).loc Cert.AdamReferenceIdeal.main_arg14) = m ((c.tc : Thread Cert.AdamIdeal.nD Cert.AdamIdeal.τ).loc Cert.AdamIdeal.main_arg14)
      ∧ m' ((c.tc : Thread Cert.AdamReferenceIdeal.nD Cert.AdamReferenceIdeal.τ).loc Cert.AdamReferenceIdeal.main_arg15) = m ((c.tc : Thread Cert.AdamIdeal.nD Cert.AdamIdeal.τ).loc Cert.AdamIdeal.main_arg15)
      ∧ m' ((c.tc : Thread Cert.AdamReferenceIdeal.nD Cert.AdamReferenceIdeal.τ).loc Cert.AdamReferenceIdeal.main_arg16) = m ((c.tc : Thread Cert.AdamIdeal.nD Cert.AdamIdeal.τ).loc Cert.AdamIdeal.main_arg16)
      ∧ m' ((c.tc : Thread Cert.AdamReferenceIdeal.nD Cert.AdamReferenceIdeal.τ).loc Cert.AdamReferenceIdeal.main_arg17) = m ((c.tc : Thread Cert.AdamIdeal.nD Cert.AdamIdeal.τ).loc Cert.AdamIdeal.main_arg17)
      ∧ m' ((c.tc : Thread Cert.AdamReferenceIdeal.nD Cert.AdamReferenceIdeal.τ).loc Cert.AdamReferenceIdeal.main_arg18) = m ((c.tc : Thread Cert.AdamIdeal.nD Cert.AdamIdeal.τ).loc Cert.AdamIdeal.main_arg18)
      ∧ m' ((c.tc : Thread Cert.AdamReferenceIdeal.nD Cert.AdamReferenceIdeal.τ).loc Cert.AdamReferenceIdeal.main_arg19) = m ((c.tc : Thread Cert.AdamIdeal.nD Cert.AdamIdeal.τ).loc Cert.AdamIdeal.main_arg19)
      ∧ m' ((c.tc : Thread Cert.AdamReferenceIdeal.nD Cert.AdamReferenceIdeal.τ).loc Cert.AdamReferenceIdeal.main_arg20) = m ((c.tc : Thread Cert.AdamIdeal.nD Cert.AdamIdeal.τ).loc Cert.AdamIdeal.main_arg20)
      ∧ m' ((c.tc : Thread Cert.AdamReferenceIdeal.nD Cert.AdamReferenceIdeal.τ).loc Cert.AdamReferenceIdeal.main_arg21) = m ((c.tc : Thread Cert.AdamIdeal.nD Cert.AdamIdeal.τ).loc Cert.AdamIdeal.main_arg21)
      ∧ m' ((c.tc : Thread Cert.AdamReferenceIdeal.nD Cert.AdamReferenceIdeal.τ).loc Cert.AdamReferenceIdeal.main_arg22) = m ((c.tc : Thread Cert.AdamIdeal.nD Cert.AdamIdeal.τ).loc Cert.AdamIdeal.main_arg22)
      ∧ m' ((c.tc : Thread Cert.AdamReferenceIdeal.nD Cert.AdamReferenceIdeal.τ).loc Cert.AdamReferenceIdeal.main_arg23) = m ((c.tc : Thread Cert.AdamIdeal.nD Cert.AdamIdeal.τ).loc Cert.AdamIdeal.main_arg23)
      ∧ m' ((c.tc : Thread Cert.AdamReferenceIdeal.nD Cert.AdamReferenceIdeal.τ).loc Cert.AdamReferenceIdeal.main_arg24) = m ((c.tc : Thread Cert.AdamIdeal.nD Cert.AdamIdeal.τ).loc Cert.AdamIdeal.main_arg24)
      ∧ m' ((c.tc : Thread Cert.AdamReferenceIdeal.nD Cert.AdamReferenceIdeal.τ).loc Cert.AdamReferenceIdeal.main_arg25) = m ((c.tc : Thread Cert.AdamIdeal.nD Cert.AdamIdeal.τ).loc Cert.AdamIdeal.main_arg25)
      ∧ m' ((c.tc : Thread Cert.AdamReferenceIdeal.nD Cert.AdamReferenceIdeal.τ).loc Cert.AdamReferenceIdeal.main_arg26) = m ((c.tc : Thread Cert.AdamIdeal.nD Cert.AdamIdeal.τ).loc Cert.AdamIdeal.main_arg26)
      ∧ m' ((c.tc : Thread Cert.AdamReferenceIdeal.nD Cert.AdamReferenceIdeal.τ).loc Cert.AdamReferenceIdeal.main_arg27) = m ((c.tc : Thread Cert.AdamIdeal.nD Cert.AdamIdeal.τ).loc Cert.AdamIdeal.main_arg27)
      ∧ m' ((c.tc : Thread Cert.AdamReferenceIdeal.nD Cert.AdamReferenceIdeal.τ).loc Cert.AdamReferenceIdeal.main_arg28) = m ((c.tc : Thread Cert.AdamIdeal.nD Cert.AdamIdeal.τ).loc Cert.AdamIdeal.main_arg28)
      ∧ m' ((c.tc : Thread Cert.AdamReferenceIdeal.nD Cert.AdamReferenceIdeal.τ).loc Cert.AdamReferenceIdeal.main_arg29) = m ((c.tc : Thread Cert.AdamIdeal.nD Cert.AdamIdeal.τ).loc Cert.AdamIdeal.main_arg29)
      ∧ m' ((c.tc : Thread Cert.AdamReferenceIdeal.nD Cert.AdamReferenceIdeal.τ).loc Cert.AdamReferenceIdeal.main_arg30) = m ((c.tc : Thread Cert.AdamIdeal.nD Cert.AdamIdeal.τ).loc Cert.AdamIdeal.main_arg30)
      ∧ m' ((c.tc : Thread Cert.AdamReferenceIdeal.nD Cert.AdamReferenceIdeal.τ).loc Cert.AdamReferenceIdeal.main_arg31) = m ((c.tc : Thread Cert.AdamIdeal.nD Cert.AdamIdeal.τ).loc Cert.AdamIdeal.main_arg31)
      ∧ m' ((c.tc : Thread Cert.AdamReferenceIdeal.nD Cert.AdamReferenceIdeal.τ).loc Cert.AdamReferenceIdeal.main_arg32) = m ((c.tc : Thread Cert.AdamIdeal.nD Cert.AdamIdeal.τ).loc Cert.AdamIdeal.main_arg32)
      ∧ m' ((c.tc : Thread Cert.AdamReferenceIdeal.nD Cert.AdamReferenceIdeal.τ).loc Cert.AdamReferenceIdeal.main_arg33) = m ((c.tc : Thread Cert.AdamIdeal.nD Cert.AdamIdeal.τ).loc Cert.AdamIdeal.main_arg33)
      ∧ m' ((c.tc : Thread Cert.AdamReferenceIdeal.nD Cert.AdamReferenceIdeal.τ).loc Cert.AdamReferenceIdeal.main_arg34) = m ((c.tc : Thread Cert.AdamIdeal.nD Cert.AdamIdeal.τ).loc Cert.AdamIdeal.main_arg34)
      ∧ m' ((c.tc : Thread Cert.AdamReferenceIdeal.nD Cert.AdamReferenceIdeal.τ).loc Cert.AdamReferenceIdeal.main_arg35) = m ((c.tc : Thread Cert.AdamIdeal.nD Cert.AdamIdeal.τ).loc Cert.AdamIdeal.main_arg35)
      ∧ m' ((c.tc : Thread Cert.AdamReferenceIdeal.nD Cert.AdamReferenceIdeal.τ).loc Cert.AdamReferenceIdeal.main_arg36) = m ((c.tc : Thread Cert.AdamIdeal.nD Cert.AdamIdeal.τ).loc Cert.AdamIdeal.main_arg36)
      ∧ m' ((c.tc : Thread Cert.AdamReferenceIdeal.nD Cert.AdamReferenceIdeal.τ).loc Cert.AdamReferenceIdeal.main_arg37) = m ((c.tc : Thread Cert.AdamIdeal.nD Cert.AdamIdeal.τ).loc Cert.AdamIdeal.main_arg37)
      ∧ m' ((c.tc : Thread Cert.AdamReferenceIdeal.nD Cert.AdamReferenceIdeal.τ).loc Cert.AdamReferenceIdeal.main_arg38) = m ((c.tc : Thread Cert.AdamIdeal.nD Cert.AdamIdeal.τ).loc Cert.AdamIdeal.main_arg38)
      ∧ m' ((c.tc : Thread Cert.AdamReferenceIdeal.nD Cert.AdamReferenceIdeal.τ).loc Cert.AdamReferenceIdeal.main_arg39) = m ((c.tc : Thread Cert.AdamIdeal.nD Cert.AdamIdeal.τ).loc Cert.AdamIdeal.main_arg39)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)) (v4 : (c : Dev Cert.AdamIdeal.nD) → Buf (Elt Ideal) ((c.tc : Thread Cert.AdamIdeal.nD Cert.AdamIdeal.τ).loc Cert.AdamIdeal.main_v1_0)) (v5 : (c : Dev Cert.AdamIdeal.nD) → Buf (Elt Ideal) ((c.tc : Thread Cert.AdamIdeal.nD Cert.AdamIdeal.τ).loc Cert.AdamIdeal.main_v1_1)) (v6 : (c : Dev Cert.AdamIdeal.nD) → Buf (Elt Ideal) ((c.tc : Thread Cert.AdamIdeal.nD Cert.AdamIdeal.τ).loc Cert.AdamIdeal.main_v1_2)) (v7 : (c : Dev Cert.AdamIdeal.nD) → Buf (Elt Ideal) ((c.tc : Thread Cert.AdamIdeal.nD Cert.AdamIdeal.τ).loc Cert.AdamIdeal.main_v1_3)) (v8 : (c : Dev Cert.AdamIdeal.nD) → Buf (Elt Ideal) ((c.tc : Thread Cert.AdamIdeal.nD Cert.AdamIdeal.τ).loc Cert.AdamIdeal.main_v2_0)) (v9 : (c : Dev Cert.AdamIdeal.nD) → Buf (Elt Ideal) ((c.tc : Thread Cert.AdamIdeal.nD Cert.AdamIdeal.τ).loc Cert.AdamIdeal.main_v2_1)) (v10 : (c : Dev Cert.AdamIdeal.nD) → Buf (Elt Ideal) ((c.tc : Thread Cert.AdamIdeal.nD Cert.AdamIdeal.τ).loc Cert.AdamIdeal.main_v2_2)) (v11 : (c : Dev Cert.AdamIdeal.nD) → Buf (Elt Ideal) ((c.tc : Thread Cert.AdamIdeal.nD Cert.AdamIdeal.τ).loc Cert.AdamIdeal.main_v2_3)) (v12 : (c : Dev Cert.AdamIdeal.nD) → Buf (Elt Ideal) ((c.tc : Thread Cert.AdamIdeal.nD Cert.AdamIdeal.τ).loc Cert.AdamIdeal.main_v3_0)) (v13 : (c : Dev Cert.AdamIdeal.nD) → Buf (Elt Ideal) ((c.tc : Thread Cert.AdamIdeal.nD Cert.AdamIdeal.τ).loc Cert.AdamIdeal.main_v3_1)) (v14 : (c : Dev Cert.AdamIdeal.nD) → Buf (Elt Ideal) ((c.tc : Thread Cert.AdamIdeal.nD Cert.AdamIdeal.τ).loc Cert.AdamIdeal.main_v3_2)) (v15 : (c : Dev Cert.AdamIdeal.nD) → Buf (Elt Ideal) ((c.tc : Thread Cert.AdamIdeal.nD Cert.AdamIdeal.τ).loc Cert.AdamIdeal.main_v3_3)) (v16 : (c : Dev Cert.AdamIdeal.nD) → Buf (Elt Ideal) ((c.tc : Thread Cert.AdamIdeal.nD Cert.AdamIdeal.τ).loc Cert.AdamIdeal.main_v4_0)) (v17 : (c : Dev Cert.AdamIdeal.nD) → Buf (Elt Ideal) ((c.tc : Thread Cert.AdamIdeal.nD Cert.AdamIdeal.τ).loc Cert.AdamIdeal.main_v4_1)) (v18 : (c : Dev Cert.AdamIdeal.nD) → Buf (Elt Ideal) ((c.tc : Thread Cert.AdamIdeal.nD Cert.AdamIdeal.τ).loc Cert.AdamIdeal.main_v4_2)) (v19 : (c : Dev Cert.AdamIdeal.nD) → Buf (Elt Ideal) ((c.tc : Thread Cert.AdamIdeal.nD Cert.AdamIdeal.τ).loc Cert.AdamIdeal.main_v4_3)) (v20 : (c : Dev Cert.AdamIdeal.nD) → Buf (Elt Ideal) ((c.tc : Thread Cert.AdamIdeal.nD Cert.AdamIdeal.τ).loc Cert.AdamIdeal.main_v5_0)) (v21 : (c : Dev Cert.AdamIdeal.nD) → Buf (Elt Ideal) ((c.tc : Thread Cert.AdamIdeal.nD Cert.AdamIdeal.τ).loc Cert.AdamIdeal.main_v5_1)) (v22 : (c : Dev Cert.AdamIdeal.nD) → Buf (Elt Ideal) ((c.tc : Thread Cert.AdamIdeal.nD Cert.AdamIdeal.τ).loc Cert.AdamIdeal.main_v5_2)) (v23 : (c : Dev Cert.AdamIdeal.nD) → Buf (Elt Ideal) ((c.tc : Thread Cert.AdamIdeal.nD Cert.AdamIdeal.τ).loc Cert.AdamIdeal.main_v5_3)) (v24 : (c : Dev Cert.AdamIdeal.nD) → Buf (Elt Ideal) ((c.tc : Thread Cert.AdamIdeal.nD Cert.AdamIdeal.τ).loc Cert.AdamIdeal.main_v6_0)) (v25 : (c : Dev Cert.AdamIdeal.nD) → Buf (Elt Ideal) ((c.tc : Thread Cert.AdamIdeal.nD Cert.AdamIdeal.τ).loc Cert.AdamIdeal.main_v6_1)) (v26 : (c : Dev Cert.AdamIdeal.nD) → Buf (Elt Ideal) ((c.tc : Thread Cert.AdamIdeal.nD Cert.AdamIdeal.τ).loc Cert.AdamIdeal.main_v6_2)) (v27 : (c : Dev Cert.AdamIdeal.nD) → Buf (Elt Ideal) ((c.tc : Thread Cert.AdamIdeal.nD Cert.AdamIdeal.τ).loc Cert.AdamIdeal.main_v6_3)) (v28 : (c : Dev Cert.AdamIdeal.nD) → Buf (Elt Ideal) ((c.tc : Thread Cert.AdamIdeal.nD Cert.AdamIdeal.τ).loc Cert.AdamIdeal.main_v7_0)) (v29 : (c : Dev Cert.AdamIdeal.nD) → Buf (Elt Ideal) ((c.tc : Thread Cert.AdamIdeal.nD Cert.AdamIdeal.τ).loc Cert.AdamIdeal.main_v7_1)) (v30 : (c : Dev Cert.AdamIdeal.nD) → Buf (Elt Ideal) ((c.tc : Thread Cert.AdamIdeal.nD Cert.AdamIdeal.τ).loc Cert.AdamIdeal.main_v7_2)) (v31 : (c : Dev Cert.AdamIdeal.nD) → Buf (Elt Ideal) ((c.tc : Thread Cert.AdamIdeal.nD Cert.AdamIdeal.τ).loc Cert.AdamIdeal.main_v7_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_v1_0) = v4 c
          ∧ r.2.mem ((c.tc : Thread Cert.AdamIdeal.nD Cert.AdamIdeal.τ).loc Cert.AdamIdeal.main_v1_1) = v5 c
          ∧ r.2.mem ((c.tc : Thread Cert.AdamIdeal.nD Cert.AdamIdeal.τ).loc Cert.AdamIdeal.main_v1_2) = v6 c
          ∧ r.2.mem ((c.tc : Thread Cert.AdamIdeal.nD Cert.AdamIdeal.τ).loc Cert.AdamIdeal.main_v1_3) = v7 c
          ∧ r.2.mem ((c.tc : Thread Cert.AdamIdeal.nD Cert.AdamIdeal.τ).loc Cert.AdamIdeal.main_v2_0) = v8 c
          ∧ r.2.mem ((c.tc : Thread Cert.AdamIdeal.nD Cert.AdamIdeal.τ).loc Cert.AdamIdeal.main_v2_1) = v9 c
          ∧ r.2.mem ((c.tc : Thread Cert.AdamIdeal.nD Cert.AdamIdeal.τ).loc Cert.AdamIdeal.main_v2_2) = v10 c
          ∧ r.2.mem ((c.tc : Thread Cert.AdamIdeal.nD Cert.AdamIdeal.τ).loc Cert.AdamIdeal.main_v2_3) = v11 c
          ∧ r.2.mem ((c.tc : Thread Cert.AdamIdeal.nD Cert.AdamIdeal.τ).loc Cert.AdamIdeal.main_v3_0) = v12 c
          ∧ r.2.mem ((c.tc : Thread Cert.AdamIdeal.nD Cert.AdamIdeal.τ).loc Cert.AdamIdeal.main_v3_1) = v13 c
          ∧ r.2.mem ((c.tc : Thread Cert.AdamIdeal.nD Cert.AdamIdeal.τ).loc Cert.AdamIdeal.main_v3_2) = v14 c
          ∧ r.2.mem ((c.tc : Thread Cert.AdamIdeal.nD Cert.AdamIdeal.τ).loc Cert.AdamIdeal.main_v3_3) = v15 c
          ∧ r.2.mem ((c.tc : Thread Cert.AdamIdeal.nD Cert.AdamIdeal.τ).loc Cert.AdamIdeal.main_v4_0) = v16 c
          ∧ r.2.mem ((c.tc : Thread Cert.AdamIdeal.nD Cert.AdamIdeal.τ).loc Cert.AdamIdeal.main_v4_1) = v17 c
          ∧ r.2.mem ((c.tc : Thread Cert.AdamIdeal.nD Cert.AdamIdeal.τ).loc Cert.AdamIdeal.main_v4_2) = v18 c
          ∧ r.2.mem ((c.tc : Thread Cert.AdamIdeal.nD Cert.AdamIdeal.τ).loc Cert.AdamIdeal.main_v4_3) = v19 c
          ∧ r.2.mem ((c.tc : Thread Cert.AdamIdeal.nD Cert.AdamIdeal.τ).loc Cert.AdamIdeal.main_v5_0) = v20 c
          ∧ r.2.mem ((c.tc : Thread Cert.AdamIdeal.nD Cert.AdamIdeal.τ).loc Cert.AdamIdeal.main_v5_1) = v21 c
          ∧ r.2.mem ((c.tc : Thread Cert.AdamIdeal.nD Cert.AdamIdeal.τ).loc Cert.AdamIdeal.main_v5_2) = v22 c
          ∧ r.2.mem ((c.tc : Thread Cert.AdamIdeal.nD Cert.AdamIdeal.τ).loc Cert.AdamIdeal.main_v5_3) = v23 c
          ∧ r.2.mem ((c.tc : Thread Cert.AdamIdeal.nD Cert.AdamIdeal.τ).loc Cert.AdamIdeal.main_v6_0) = v24 c
          ∧ r.2.mem ((c.tc : Thread Cert.AdamIdeal.nD Cert.AdamIdeal.τ).loc Cert.AdamIdeal.main_v6_1) = v25 c
          ∧ r.2.mem ((c.tc : Thread Cert.AdamIdeal.nD Cert.AdamIdeal.τ).loc Cert.AdamIdeal.main_v6_2) = v26 c
          ∧ r.2.mem ((c.tc : Thread Cert.AdamIdeal.nD Cert.AdamIdeal.τ).loc Cert.AdamIdeal.main_v6_3) = v27 c
          ∧ r.2.mem ((c.tc : Thread Cert.AdamIdeal.nD Cert.AdamIdeal.τ).loc Cert.AdamIdeal.main_v7_0) = v28 c
          ∧ r.2.mem ((c.tc : Thread Cert.AdamIdeal.nD Cert.AdamIdeal.τ).loc Cert.AdamIdeal.main_v7_1) = v29 c
          ∧ r.2.mem ((c.tc : Thread Cert.AdamIdeal.nD Cert.AdamIdeal.τ).loc Cert.AdamIdeal.main_v7_2) = v30 c
          ∧ r.2.mem ((c.tc : Thread Cert.AdamIdeal.nD Cert.AdamIdeal.τ).loc Cert.AdamIdeal.main_v7_3) = v31 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
          ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
          ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
          ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
          ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
          ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
          ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
          ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
          ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
          ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
          ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
          ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
          ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v0) = v0 c
          ∧ r.2.mem ((c.tc : Thread Cert.AdamReferenceIdeal.nD Cert.AdamReferenceIdeal.τ).loc Cert.AdamReferenceIdeal.main_v24) = v1 c
          ∧ r.2.mem ((c.tc : Thread Cert.AdamReferenceIdeal.nD Cert.AdamReferenceIdeal.τ).loc Cert.AdamReferenceIdeal.main_v5) = v2 c
          ∧ r.2.mem ((c.tc : Thread Cert.AdamReferenceIdeal.nD Cert.AdamReferenceIdeal.τ).loc Cert.AdamReferenceIdeal.main_v11) = v3 c
          ∧ r.2.mem ((c.tc : Thread Cert.AdamReferenceIdeal.nD Cert.AdamReferenceIdeal.τ).loc Cert.AdamReferenceIdeal.main_v25) = v4 c
          ∧ r.2.mem ((c.tc : Thread Cert.AdamReferenceIdeal.nD Cert.AdamReferenceIdeal.τ).loc Cert.AdamReferenceIdeal.main_v49) = v5 c
          ∧ r.2.mem ((c.tc : Thread Cert.AdamReferenceIdeal.nD Cert.AdamReferenceIdeal.τ).loc Cert.AdamReferenceIdeal.main_v30) = v6 c
          ∧ r.2.mem ((c.tc : Thread Cert.AdamReferenceIdeal.nD Cert.AdamReferenceIdeal.τ).loc Cert.AdamReferenceIdeal.main_v36) = v7 c
          ∧ r.2.mem ((c.tc : Thread Cert.AdamReferenceIdeal.nD Cert.AdamReferenceIdeal.τ).loc Cert.AdamReferenceIdeal.main_v50) = v8 c
          ∧ r.2.mem ((c.tc : Thread Cert.AdamReferenceIdeal.nD Cert.AdamReferenceIdeal.τ).loc Cert.AdamReferenceIdeal.main_v74) = v9 c
          ∧ r.2.mem ((c.tc : Thread Cert.AdamReferenceIdeal.nD Cert.AdamReferenceIdeal.τ).loc Cert.AdamReferenceIdeal.main_v55) = v10 c
          ∧ r.2.mem ((c.tc : Thread Cert.AdamReferenceIdeal.nD Cert.AdamReferenceIdeal.τ).loc Cert.AdamReferenceIdeal.main_v61) = v11 c
          ∧ r.2.mem ((c.tc : Thread Cert.AdamReferenceIdeal.nD Cert.AdamReferenceIdeal.τ).loc Cert.AdamReferenceIdeal.main_v75) = v12 c
          ∧ r.2.mem ((c.tc : Thread Cert.AdamReferenceIdeal.nD Cert.AdamReferenceIdeal.τ).loc Cert.AdamReferenceIdeal.main_v99) = v13 c
          ∧ r.2.mem ((c.tc : Thread Cert.AdamReferenceIdeal.nD Cert.AdamReferenceIdeal.τ).loc Cert.AdamReferenceIdeal.main_v80) = v14 c
          ∧ r.2.mem ((c.tc : Thread Cert.AdamReferenceIdeal.nD Cert.AdamReferenceIdeal.τ).loc Cert.AdamReferenceIdeal.main_v86) = v15 c
          ∧ r.2.mem ((c.tc : Thread Cert.AdamReferenceIdeal.nD Cert.AdamReferenceIdeal.τ).loc Cert.AdamReferenceIdeal.main_v100) = v16 c
          ∧ r.2.mem ((c.tc : Thread Cert.AdamReferenceIdeal.nD Cert.AdamReferenceIdeal.τ).loc Cert.AdamReferenceIdeal.main_v124) = v17 c
          ∧ r.2.mem ((c.tc : Thread Cert.AdamReferenceIdeal.nD Cert.AdamReferenceIdeal.τ).loc Cert.AdamReferenceIdeal.main_v105) = v18 c
          ∧ r.2.mem ((c.tc : Thread Cert.AdamReferenceIdeal.nD Cert.AdamReferenceIdeal.τ).loc Cert.AdamReferenceIdeal.main_v111) = v19 c
          ∧ r.2.mem ((c.tc : Thread Cert.AdamReferenceIdeal.nD Cert.AdamReferenceIdeal.τ).loc Cert.AdamReferenceIdeal.main_v125) = v20 c
          ∧ r.2.mem ((c.tc : Thread Cert.AdamReferenceIdeal.nD Cert.AdamReferenceIdeal.τ).loc Cert.AdamReferenceIdeal.main_v149) = v21 c
          ∧ r.2.mem ((c.tc : Thread Cert.AdamReferenceIdeal.nD Cert.AdamReferenceIdeal.τ).loc Cert.AdamReferenceIdeal.main_v130) = v22 c
          ∧ r.2.mem ((c.tc : Thread Cert.AdamReferenceIdeal.nD Cert.AdamReferenceIdeal.τ).loc Cert.AdamReferenceIdeal.main_v136) = v23 c
          ∧ r.2.mem ((c.tc : Thread Cert.AdamReferenceIdeal.nD Cert.AdamReferenceIdeal.τ).loc Cert.AdamReferenceIdeal.main_v150) = v24 c
          ∧ r.2.mem ((c.tc : Thread Cert.AdamReferenceIdeal.nD Cert.AdamReferenceIdeal.τ).loc Cert.AdamReferenceIdeal.main_v174) = v25 c
          ∧ r.2.mem ((c.tc : Thread Cert.AdamReferenceIdeal.nD Cert.AdamReferenceIdeal.τ).loc Cert.AdamReferenceIdeal.main_v155) = v26 c
          ∧ r.2.mem ((c.tc : Thread Cert.AdamReferenceIdeal.nD Cert.AdamReferenceIdeal.τ).loc Cert.AdamReferenceIdeal.main_v161) = v27 c
          ∧ r.2.mem ((c.tc : Thread Cert.AdamReferenceIdeal.nD Cert.AdamReferenceIdeal.τ).loc Cert.AdamReferenceIdeal.main_v175) = v28 c
          ∧ r.2.mem ((c.tc : Thread Cert.AdamReferenceIdeal.nD Cert.AdamReferenceIdeal.τ).loc Cert.AdamReferenceIdeal.main_v199) = v29 c
          ∧ r.2.mem ((c.tc : Thread Cert.AdamReferenceIdeal.nD Cert.AdamReferenceIdeal.τ).loc Cert.AdamReferenceIdeal.main_v180) = v30 c
          ∧ r.2.mem ((c.tc : Thread Cert.AdamReferenceIdeal.nD Cert.AdamReferenceIdeal.τ).loc Cert.AdamReferenceIdeal.main_v186) = v31 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11)
          ∧ r.2.mem ((c.tc : Thread Cert.AdamReferenceIdeal.nD Cert.AdamReferenceIdeal.τ).loc Cert.AdamReferenceIdeal.main_arg12) = m' ((c.tc : Thread Cert.AdamReferenceIdeal.nD Cert.AdamReferenceIdeal.τ).loc Cert.AdamReferenceIdeal.main_arg12)
          ∧ r.2.mem ((c.tc : Thread Cert.AdamReferenceIdeal.nD Cert.AdamReferenceIdeal.τ).loc Cert.AdamReferenceIdeal.main_arg13) = m' ((c.tc : Thread Cert.AdamReferenceIdeal.nD Cert.AdamReferenceIdeal.τ).loc Cert.AdamReferenceIdeal.main_arg13)
          ∧ r.2.mem ((c.tc : Thread Cert.AdamReferenceIdeal.nD Cert.AdamReferenceIdeal.τ).loc Cert.AdamReferenceIdeal.main_arg14) = m' ((c.tc : Thread Cert.AdamReferenceIdeal.nD Cert.AdamReferenceIdeal.τ).loc Cert.AdamReferenceIdeal.main_arg14)
          ∧ r.2.mem ((c.tc : Thread Cert.AdamReferenceIdeal.nD Cert.AdamReferenceIdeal.τ).loc Cert.AdamReferenceIdeal.main_arg15) = m' ((c.tc : Thread Cert.AdamReferenceIdeal.nD Cert.AdamReferenceIdeal.τ).loc Cert.AdamReferenceIdeal.main_arg15)
          ∧ r.2.mem ((c.tc : Thread Cert.AdamReferenceIdeal.nD Cert.AdamReferenceIdeal.τ).loc Cert.AdamReferenceIdeal.main_arg16) = m' ((c.tc : Thread Cert.AdamReferenceIdeal.nD Cert.AdamReferenceIdeal.τ).loc Cert.AdamReferenceIdeal.main_arg16)
          ∧ r.2.mem ((c.tc : Thread Cert.AdamReferenceIdeal.nD Cert.AdamReferenceIdeal.τ).loc Cert.AdamReferenceIdeal.main_arg17) = m' ((c.tc : Thread Cert.AdamReferenceIdeal.nD Cert.AdamReferenceIdeal.τ).loc Cert.AdamReferenceIdeal.main_arg17)
          ∧ r.2.mem ((c.tc : Thread Cert.AdamReferenceIdeal.nD Cert.AdamReferenceIdeal.τ).loc Cert.AdamReferenceIdeal.main_arg18) = m' ((c.tc : Thread Cert.AdamReferenceIdeal.nD Cert.AdamReferenceIdeal.τ).loc Cert.AdamReferenceIdeal.main_arg18)
          ∧ r.2.mem ((c.tc : Thread Cert.AdamReferenceIdeal.nD Cert.AdamReferenceIdeal.τ).loc Cert.AdamReferenceIdeal.main_arg19) = m' ((c.tc : Thread Cert.AdamReferenceIdeal.nD Cert.AdamReferenceIdeal.τ).loc Cert.AdamReferenceIdeal.main_arg19)
          ∧ r.2.mem ((c.tc : Thread Cert.AdamReferenceIdeal.nD Cert.AdamReferenceIdeal.τ).loc Cert.AdamReferenceIdeal.main_arg20) = m' ((c.tc : Thread Cert.AdamReferenceIdeal.nD Cert.AdamReferenceIdeal.τ).loc Cert.AdamReferenceIdeal.main_arg20)
          ∧ r.2.mem ((c.tc : Thread Cert.AdamReferenceIdeal.nD Cert.AdamReferenceIdeal.τ).loc Cert.AdamReferenceIdeal.main_arg21) = m' ((c.tc : Thread Cert.AdamReferenceIdeal.nD Cert.AdamReferenceIdeal.τ).loc Cert.AdamReferenceIdeal.main_arg21)
          ∧ r.2.mem ((c.tc : Thread Cert.AdamReferenceIdeal.nD Cert.AdamReferenceIdeal.τ).loc Cert.AdamReferenceIdeal.main_arg22) = m' ((c.tc : Thread Cert.AdamReferenceIdeal.nD Cert.AdamReferenceIdeal.τ).loc Cert.AdamReferenceIdeal.main_arg22)
          ∧ r.2.mem ((c.tc : Thread Cert.AdamReferenceIdeal.nD Cert.AdamReferenceIdeal.τ).loc Cert.AdamReferenceIdeal.main_arg23) = m' ((c.tc : Thread Cert.AdamReferenceIdeal.nD Cert.AdamReferenceIdeal.τ).loc Cert.AdamReferenceIdeal.main_arg23)
          ∧ r.2.mem ((c.tc : Thread Cert.AdamReferenceIdeal.nD Cert.AdamReferenceIdeal.τ).loc Cert.AdamReferenceIdeal.main_arg24) = m' ((c.tc : Thread Cert.AdamReferenceIdeal.nD Cert.AdamReferenceIdeal.τ).loc Cert.AdamReferenceIdeal.main_arg24)
          ∧ r.2.mem ((c.tc : Thread Cert.AdamReferenceIdeal.nD Cert.AdamReferenceIdeal.τ).loc Cert.AdamReferenceIdeal.main_arg25) = m' ((c.tc : Thread Cert.AdamReferenceIdeal.nD Cert.AdamReferenceIdeal.τ).loc Cert.AdamReferenceIdeal.main_arg25)
          ∧ r.2.mem ((c.tc : Thread Cert.AdamReferenceIdeal.nD Cert.AdamReferenceIdeal.τ).loc Cert.AdamReferenceIdeal.main_arg26) = m' ((c.tc : Thread Cert.AdamReferenceIdeal.nD Cert.AdamReferenceIdeal.τ).loc Cert.AdamReferenceIdeal.main_arg26)
          ∧ r.2.mem ((c.tc : Thread Cert.AdamReferenceIdeal.nD Cert.AdamReferenceIdeal.τ).loc Cert.AdamReferenceIdeal.main_arg27) = m' ((c.tc : Thread Cert.AdamReferenceIdeal.nD Cert.AdamReferenceIdeal.τ).loc Cert.AdamReferenceIdeal.main_arg27)
          ∧ r.2.mem ((c.tc : Thread Cert.AdamReferenceIdeal.nD Cert.AdamReferenceIdeal.τ).loc Cert.AdamReferenceIdeal.main_arg28) = m' ((c.tc : Thread Cert.AdamReferenceIdeal.nD Cert.AdamReferenceIdeal.τ).loc Cert.AdamReferenceIdeal.main_arg28)
          ∧ r.2.mem ((c.tc : Thread Cert.AdamReferenceIdeal.nD Cert.AdamReferenceIdeal.τ).loc Cert.AdamReferenceIdeal.main_arg29) = m' ((c.tc : Thread Cert.AdamReferenceIdeal.nD Cert.AdamReferenceIdeal.τ).loc Cert.AdamReferenceIdeal.main_arg29)
          ∧ r.2.mem ((c.tc : Thread Cert.AdamReferenceIdeal.nD Cert.AdamReferenceIdeal.τ).loc Cert.AdamReferenceIdeal.main_arg30) = m' ((c.tc : Thread Cert.AdamReferenceIdeal.nD Cert.AdamReferenceIdeal.τ).loc Cert.AdamReferenceIdeal.main_arg30)
          ∧ r.2.mem ((c.tc : Thread Cert.AdamReferenceIdeal.nD Cert.AdamReferenceIdeal.τ).loc Cert.AdamReferenceIdeal.main_arg31) = m' ((c.tc : Thread Cert.AdamReferenceIdeal.nD Cert.AdamReferenceIdeal.τ).loc Cert.AdamReferenceIdeal.main_arg31)
          ∧ r.2.mem ((c.tc : Thread Cert.AdamReferenceIdeal.nD Cert.AdamReferenceIdeal.τ).loc Cert.AdamReferenceIdeal.main_arg32) = m' ((c.tc : Thread Cert.AdamReferenceIdeal.nD Cert.AdamReferenceIdeal.τ).loc Cert.AdamReferenceIdeal.main_arg32)
          ∧ r.2.mem ((c.tc : Thread Cert.AdamReferenceIdeal.nD Cert.AdamReferenceIdeal.τ).loc Cert.AdamReferenceIdeal.main_arg33) = m' ((c.tc : Thread Cert.AdamReferenceIdeal.nD Cert.AdamReferenceIdeal.τ).loc Cert.AdamReferenceIdeal.main_arg33)
          ∧ r.2.mem ((c.tc : Thread Cert.AdamReferenceIdeal.nD Cert.AdamReferenceIdeal.τ).loc Cert.AdamReferenceIdeal.main_arg34) = m' ((c.tc : Thread Cert.AdamReferenceIdeal.nD Cert.AdamReferenceIdeal.τ).loc Cert.AdamReferenceIdeal.main_arg34)
          ∧ r.2.mem ((c.tc : Thread Cert.AdamReferenceIdeal.nD Cert.AdamReferenceIdeal.τ).loc Cert.AdamReferenceIdeal.main_arg35) = m' ((c.tc : Thread Cert.AdamReferenceIdeal.nD Cert.AdamReferenceIdeal.τ).loc Cert.AdamReferenceIdeal.main_arg35)
          ∧ r.2.mem ((c.tc : Thread Cert.AdamReferenceIdeal.nD Cert.AdamReferenceIdeal.τ).loc Cert.AdamReferenceIdeal.main_arg36) = m' ((c.tc : Thread Cert.AdamReferenceIdeal.nD Cert.AdamReferenceIdeal.τ).loc Cert.AdamReferenceIdeal.main_arg36)
          ∧ r.2.mem ((c.tc : Thread Cert.AdamReferenceIdeal.nD Cert.AdamReferenceIdeal.τ).loc Cert.AdamReferenceIdeal.main_arg37) = m' ((c.tc : Thread Cert.AdamReferenceIdeal.nD Cert.AdamReferenceIdeal.τ).loc Cert.AdamReferenceIdeal.main_arg37)
          ∧ r.2.mem ((c.tc : Thread Cert.AdamReferenceIdeal.nD Cert.AdamReferenceIdeal.τ).loc Cert.AdamReferenceIdeal.main_arg38) = m' ((c.tc : Thread Cert.AdamReferenceIdeal.nD Cert.AdamReferenceIdeal.τ).loc Cert.AdamReferenceIdeal.main_arg38)
          ∧ r.2.mem ((c.tc : Thread Cert.AdamReferenceIdeal.nD Cert.AdamReferenceIdeal.τ).loc Cert.AdamReferenceIdeal.main_arg39) = m' ((c.tc : Thread Cert.AdamReferenceIdeal.nD Cert.AdamReferenceIdeal.τ).loc Cert.AdamReferenceIdeal.main_arg39))

def preserves_Small_SmallIdeal : Prop :=
  IdealRules.named_const.Statement Cert.SmallIdeal.κ "correct1" .f32 0x3FC48605#32 (((5463681 / 8388608)⁻¹ : ℝ) : EReal)
  ∧ IdealRules.named_const.Statement Cert.SmallIdeal.κ "correct2" .f32 0x42C8E6D3#32 (((2672307 / 268435456)⁻¹ : ℝ) : EReal)

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)
      ∧ m' ((c.tc : Thread Cert.SmallReferenceIdeal.nD Cert.SmallReferenceIdeal.τ).loc Cert.SmallReferenceIdeal.main_arg4) = m ((c.tc : Thread Cert.SmallIdeal.nD Cert.SmallIdeal.τ).loc Cert.SmallIdeal.main_arg4)
      ∧ m' ((c.tc : Thread Cert.SmallReferenceIdeal.nD Cert.SmallReferenceIdeal.τ).loc Cert.SmallReferenceIdeal.main_arg5) = m ((c.tc : Thread Cert.SmallIdeal.nD Cert.SmallIdeal.τ).loc Cert.SmallIdeal.main_arg5)
      ∧ m' ((c.tc : Thread Cert.SmallReferenceIdeal.nD Cert.SmallReferenceIdeal.τ).loc Cert.SmallReferenceIdeal.main_arg6) = m ((c.tc : Thread Cert.SmallIdeal.nD Cert.SmallIdeal.τ).loc Cert.SmallIdeal.main_arg6)
      ∧ m' ((c.tc : Thread Cert.SmallReferenceIdeal.nD Cert.SmallReferenceIdeal.τ).loc Cert.SmallReferenceIdeal.main_arg7) = m ((c.tc : Thread Cert.SmallIdeal.nD Cert.SmallIdeal.τ).loc Cert.SmallIdeal.main_arg7)
      ∧ m' ((c.tc : Thread Cert.SmallReferenceIdeal.nD Cert.SmallReferenceIdeal.τ).loc Cert.SmallReferenceIdeal.main_arg8) = m ((c.tc : Thread Cert.SmallIdeal.nD Cert.SmallIdeal.τ).loc Cert.SmallIdeal.main_arg8)
      ∧ m' ((c.tc : Thread Cert.SmallReferenceIdeal.nD Cert.SmallReferenceIdeal.τ).loc Cert.SmallReferenceIdeal.main_arg9) = m ((c.tc : Thread Cert.SmallIdeal.nD Cert.SmallIdeal.τ).loc Cert.SmallIdeal.main_arg9)
      ∧ m' ((c.tc : Thread Cert.SmallReferenceIdeal.nD Cert.SmallReferenceIdeal.τ).loc Cert.SmallReferenceIdeal.main_arg10) = m ((c.tc : Thread Cert.SmallIdeal.nD Cert.SmallIdeal.τ).loc Cert.SmallIdeal.main_arg10)
      ∧ m' ((c.tc : Thread Cert.SmallReferenceIdeal.nD Cert.SmallReferenceIdeal.τ).loc Cert.SmallReferenceIdeal.main_arg11) = m ((c.tc : Thread Cert.SmallIdeal.nD Cert.SmallIdeal.τ).loc Cert.SmallIdeal.main_arg11)
      ∧ m' ((c.tc : Thread Cert.SmallReferenceIdeal.nD Cert.SmallReferenceIdeal.τ).loc Cert.SmallReferenceIdeal.main_arg12) = m ((c.tc : Thread Cert.SmallIdeal.nD Cert.SmallIdeal.τ).loc Cert.SmallIdeal.main_arg12)
      ∧ m' ((c.tc : Thread Cert.SmallReferenceIdeal.nD Cert.SmallReferenceIdeal.τ).loc Cert.SmallReferenceIdeal.main_arg13) = m ((c.tc : Thread Cert.SmallIdeal.nD Cert.SmallIdeal.τ).loc Cert.SmallIdeal.main_arg13)
      ∧ m' ((c.tc : Thread Cert.SmallReferenceIdeal.nD Cert.SmallReferenceIdeal.τ).loc Cert.SmallReferenceIdeal.main_arg14) = m ((c.tc : Thread Cert.SmallIdeal.nD Cert.SmallIdeal.τ).loc Cert.SmallIdeal.main_arg14)
      ∧ m' ((c.tc : Thread Cert.SmallReferenceIdeal.nD Cert.SmallReferenceIdeal.τ).loc Cert.SmallReferenceIdeal.main_arg15) = m ((c.tc : Thread Cert.SmallIdeal.nD Cert.SmallIdeal.τ).loc Cert.SmallIdeal.main_arg15)
      ∧ m' ((c.tc : Thread Cert.SmallReferenceIdeal.nD Cert.SmallReferenceIdeal.τ).loc Cert.SmallReferenceIdeal.main_arg16) = m ((c.tc : Thread Cert.SmallIdeal.nD Cert.SmallIdeal.τ).loc Cert.SmallIdeal.main_arg16)
      ∧ m' ((c.tc : Thread Cert.SmallReferenceIdeal.nD Cert.SmallReferenceIdeal.τ).loc Cert.SmallReferenceIdeal.main_arg17) = m ((c.tc : Thread Cert.SmallIdeal.nD Cert.SmallIdeal.τ).loc Cert.SmallIdeal.main_arg17)
      ∧ m' ((c.tc : Thread Cert.SmallReferenceIdeal.nD Cert.SmallReferenceIdeal.τ).loc Cert.SmallReferenceIdeal.main_arg18) = m ((c.tc : Thread Cert.SmallIdeal.nD Cert.SmallIdeal.τ).loc Cert.SmallIdeal.main_arg18)
      ∧ m' ((c.tc : Thread Cert.SmallReferenceIdeal.nD Cert.SmallReferenceIdeal.τ).loc Cert.SmallReferenceIdeal.main_arg19) = m ((c.tc : Thread Cert.SmallIdeal.nD Cert.SmallIdeal.τ).loc Cert.SmallIdeal.main_arg19)
      ∧ m' ((c.tc : Thread Cert.SmallReferenceIdeal.nD Cert.SmallReferenceIdeal.τ).loc Cert.SmallReferenceIdeal.main_arg20) = m ((c.tc : Thread Cert.SmallIdeal.nD Cert.SmallIdeal.τ).loc Cert.SmallIdeal.main_arg20)
      ∧ m' ((c.tc : Thread Cert.SmallReferenceIdeal.nD Cert.SmallReferenceIdeal.τ).loc Cert.SmallReferenceIdeal.main_arg21) = m ((c.tc : Thread Cert.SmallIdeal.nD Cert.SmallIdeal.τ).loc Cert.SmallIdeal.main_arg21)
      ∧ m' ((c.tc : Thread Cert.SmallReferenceIdeal.nD Cert.SmallReferenceIdeal.τ).loc Cert.SmallReferenceIdeal.main_arg22) = m ((c.tc : Thread Cert.SmallIdeal.nD Cert.SmallIdeal.τ).loc Cert.SmallIdeal.main_arg22)
      ∧ m' ((c.tc : Thread Cert.SmallReferenceIdeal.nD Cert.SmallReferenceIdeal.τ).loc Cert.SmallReferenceIdeal.main_arg23) = m ((c.tc : Thread Cert.SmallIdeal.nD Cert.SmallIdeal.τ).loc Cert.SmallIdeal.main_arg23)
      ∧ m' ((c.tc : Thread Cert.SmallReferenceIdeal.nD Cert.SmallReferenceIdeal.τ).loc Cert.SmallReferenceIdeal.main_arg24) = m ((c.tc : Thread Cert.SmallIdeal.nD Cert.SmallIdeal.τ).loc Cert.SmallIdeal.main_arg24)
      ∧ m' ((c.tc : Thread Cert.SmallReferenceIdeal.nD Cert.SmallReferenceIdeal.τ).loc Cert.SmallReferenceIdeal.main_arg25) = m ((c.tc : Thread Cert.SmallIdeal.nD Cert.SmallIdeal.τ).loc Cert.SmallIdeal.main_arg25)
      ∧ m' ((c.tc : Thread Cert.SmallReferenceIdeal.nD Cert.SmallReferenceIdeal.τ).loc Cert.SmallReferenceIdeal.main_arg26) = m ((c.tc : Thread Cert.SmallIdeal.nD Cert.SmallIdeal.τ).loc Cert.SmallIdeal.main_arg26)
      ∧ m' ((c.tc : Thread Cert.SmallReferenceIdeal.nD Cert.SmallReferenceIdeal.τ).loc Cert.SmallReferenceIdeal.main_arg27) = m ((c.tc : Thread Cert.SmallIdeal.nD Cert.SmallIdeal.τ).loc Cert.SmallIdeal.main_arg27)
      ∧ m' ((c.tc : Thread Cert.SmallReferenceIdeal.nD Cert.SmallReferenceIdeal.τ).loc Cert.SmallReferenceIdeal.main_arg28) = m ((c.tc : Thread Cert.SmallIdeal.nD Cert.SmallIdeal.τ).loc Cert.SmallIdeal.main_arg28)
      ∧ m' ((c.tc : Thread Cert.SmallReferenceIdeal.nD Cert.SmallReferenceIdeal.τ).loc Cert.SmallReferenceIdeal.main_arg29) = m ((c.tc : Thread Cert.SmallIdeal.nD Cert.SmallIdeal.τ).loc Cert.SmallIdeal.main_arg29)
      ∧ m' ((c.tc : Thread Cert.SmallReferenceIdeal.nD Cert.SmallReferenceIdeal.τ).loc Cert.SmallReferenceIdeal.main_arg30) = m ((c.tc : Thread Cert.SmallIdeal.nD Cert.SmallIdeal.τ).loc Cert.SmallIdeal.main_arg30)
      ∧ m' ((c.tc : Thread Cert.SmallReferenceIdeal.nD Cert.SmallReferenceIdeal.τ).loc Cert.SmallReferenceIdeal.main_arg31) = m ((c.tc : Thread Cert.SmallIdeal.nD Cert.SmallIdeal.τ).loc Cert.SmallIdeal.main_arg31)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)) (v4 : (c : Dev Cert.SmallIdeal.nD) → Buf (Elt Ideal) ((c.tc : Thread Cert.SmallIdeal.nD Cert.SmallIdeal.τ).loc Cert.SmallIdeal.main_v1_0)) (v5 : (c : Dev Cert.SmallIdeal.nD) → Buf (Elt Ideal) ((c.tc : Thread Cert.SmallIdeal.nD Cert.SmallIdeal.τ).loc Cert.SmallIdeal.main_v1_1)) (v6 : (c : Dev Cert.SmallIdeal.nD) → Buf (Elt Ideal) ((c.tc : Thread Cert.SmallIdeal.nD Cert.SmallIdeal.τ).loc Cert.SmallIdeal.main_v1_2)) (v7 : (c : Dev Cert.SmallIdeal.nD) → Buf (Elt Ideal) ((c.tc : Thread Cert.SmallIdeal.nD Cert.SmallIdeal.τ).loc Cert.SmallIdeal.main_v1_3)) (v8 : (c : Dev Cert.SmallIdeal.nD) → Buf (Elt Ideal) ((c.tc : Thread Cert.SmallIdeal.nD Cert.SmallIdeal.τ).loc Cert.SmallIdeal.main_v2_0)) (v9 : (c : Dev Cert.SmallIdeal.nD) → Buf (Elt Ideal) ((c.tc : Thread Cert.SmallIdeal.nD Cert.SmallIdeal.τ).loc Cert.SmallIdeal.main_v2_1)) (v10 : (c : Dev Cert.SmallIdeal.nD) → Buf (Elt Ideal) ((c.tc : Thread Cert.SmallIdeal.nD Cert.SmallIdeal.τ).loc Cert.SmallIdeal.main_v2_2)) (v11 : (c : Dev Cert.SmallIdeal.nD) → Buf (Elt Ideal) ((c.tc : Thread Cert.SmallIdeal.nD Cert.SmallIdeal.τ).loc Cert.SmallIdeal.main_v2_3)) (v12 : (c : Dev Cert.SmallIdeal.nD) → Buf (Elt Ideal) ((c.tc : Thread Cert.SmallIdeal.nD Cert.SmallIdeal.τ).loc Cert.SmallIdeal.main_v3_0)) (v13 : (c : Dev Cert.SmallIdeal.nD) → Buf (Elt Ideal) ((c.tc : Thread Cert.SmallIdeal.nD Cert.SmallIdeal.τ).loc Cert.SmallIdeal.main_v3_1)) (v14 : (c : Dev Cert.SmallIdeal.nD) → Buf (Elt Ideal) ((c.tc : Thread Cert.SmallIdeal.nD Cert.SmallIdeal.τ).loc Cert.SmallIdeal.main_v3_2)) (v15 : (c : Dev Cert.SmallIdeal.nD) → Buf (Elt Ideal) ((c.tc : Thread Cert.SmallIdeal.nD Cert.SmallIdeal.τ).loc Cert.SmallIdeal.main_v3_3)) (v16 : (c : Dev Cert.SmallIdeal.nD) → Buf (Elt Ideal) ((c.tc : Thread Cert.SmallIdeal.nD Cert.SmallIdeal.τ).loc Cert.SmallIdeal.main_v4_0)) (v17 : (c : Dev Cert.SmallIdeal.nD) → Buf (Elt Ideal) ((c.tc : Thread Cert.SmallIdeal.nD Cert.SmallIdeal.τ).loc Cert.SmallIdeal.main_v4_1)) (v18 : (c : Dev Cert.SmallIdeal.nD) → Buf (Elt Ideal) ((c.tc : Thread Cert.SmallIdeal.nD Cert.SmallIdeal.τ).loc Cert.SmallIdeal.main_v4_2)) (v19 : (c : Dev Cert.SmallIdeal.nD) → Buf (Elt Ideal) ((c.tc : Thread Cert.SmallIdeal.nD Cert.SmallIdeal.τ).loc Cert.SmallIdeal.main_v4_3)) (v20 : (c : Dev Cert.SmallIdeal.nD) → Buf (Elt Ideal) ((c.tc : Thread Cert.SmallIdeal.nD Cert.SmallIdeal.τ).loc Cert.SmallIdeal.main_v5_0)) (v21 : (c : Dev Cert.SmallIdeal.nD) → Buf (Elt Ideal) ((c.tc : Thread Cert.SmallIdeal.nD Cert.SmallIdeal.τ).loc Cert.SmallIdeal.main_v5_1)) (v22 : (c : Dev Cert.SmallIdeal.nD) → Buf (Elt Ideal) ((c.tc : Thread Cert.SmallIdeal.nD Cert.SmallIdeal.τ).loc Cert.SmallIdeal.main_v5_2)) (v23 : (c : Dev Cert.SmallIdeal.nD) → Buf (Elt Ideal) ((c.tc : Thread Cert.SmallIdeal.nD Cert.SmallIdeal.τ).loc Cert.SmallIdeal.main_v5_3)) (v24 : (c : Dev Cert.SmallIdeal.nD) → Buf (Elt Ideal) ((c.tc : Thread Cert.SmallIdeal.nD Cert.SmallIdeal.τ).loc Cert.SmallIdeal.main_v6_0)) (v25 : (c : Dev Cert.SmallIdeal.nD) → Buf (Elt Ideal) ((c.tc : Thread Cert.SmallIdeal.nD Cert.SmallIdeal.τ).loc Cert.SmallIdeal.main_v6_1)) (v26 : (c : Dev Cert.SmallIdeal.nD) → Buf (Elt Ideal) ((c.tc : Thread Cert.SmallIdeal.nD Cert.SmallIdeal.τ).loc Cert.SmallIdeal.main_v6_2)) (v27 : (c : Dev Cert.SmallIdeal.nD) → Buf (Elt Ideal) ((c.tc : Thread Cert.SmallIdeal.nD Cert.SmallIdeal.τ).loc Cert.SmallIdeal.main_v6_3)) (v28 : (c : Dev Cert.SmallIdeal.nD) → Buf (Elt Ideal) ((c.tc : Thread Cert.SmallIdeal.nD Cert.SmallIdeal.τ).loc Cert.SmallIdeal.main_v7_0)) (v29 : (c : Dev Cert.SmallIdeal.nD) → Buf (Elt Ideal) ((c.tc : Thread Cert.SmallIdeal.nD Cert.SmallIdeal.τ).loc Cert.SmallIdeal.main_v7_1)) (v30 : (c : Dev Cert.SmallIdeal.nD) → Buf (Elt Ideal) ((c.tc : Thread Cert.SmallIdeal.nD Cert.SmallIdeal.τ).loc Cert.SmallIdeal.main_v7_2)) (v31 : (c : Dev Cert.SmallIdeal.nD) → Buf (Elt Ideal) ((c.tc : Thread Cert.SmallIdeal.nD Cert.SmallIdeal.τ).loc Cert.SmallIdeal.main_v7_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_v1_0) = v4 c
          ∧ r.2.mem ((c.tc : Thread Cert.SmallIdeal.nD Cert.SmallIdeal.τ).loc Cert.SmallIdeal.main_v1_1) = v5 c
          ∧ r.2.mem ((c.tc : Thread Cert.SmallIdeal.nD Cert.SmallIdeal.τ).loc Cert.SmallIdeal.main_v1_2) = v6 c
          ∧ r.2.mem ((c.tc : Thread Cert.SmallIdeal.nD Cert.SmallIdeal.τ).loc Cert.SmallIdeal.main_v1_3) = v7 c
          ∧ r.2.mem ((c.tc : Thread Cert.SmallIdeal.nD Cert.SmallIdeal.τ).loc Cert.SmallIdeal.main_v2_0) = v8 c
          ∧ r.2.mem ((c.tc : Thread Cert.SmallIdeal.nD Cert.SmallIdeal.τ).loc Cert.SmallIdeal.main_v2_1) = v9 c
          ∧ r.2.mem ((c.tc : Thread Cert.SmallIdeal.nD Cert.SmallIdeal.τ).loc Cert.SmallIdeal.main_v2_2) = v10 c
          ∧ r.2.mem ((c.tc : Thread Cert.SmallIdeal.nD Cert.SmallIdeal.τ).loc Cert.SmallIdeal.main_v2_3) = v11 c
          ∧ r.2.mem ((c.tc : Thread Cert.SmallIdeal.nD Cert.SmallIdeal.τ).loc Cert.SmallIdeal.main_v3_0) = v12 c
          ∧ r.2.mem ((c.tc : Thread Cert.SmallIdeal.nD Cert.SmallIdeal.τ).loc Cert.SmallIdeal.main_v3_1) = v13 c
          ∧ r.2.mem ((c.tc : Thread Cert.SmallIdeal.nD Cert.SmallIdeal.τ).loc Cert.SmallIdeal.main_v3_2) = v14 c
          ∧ r.2.mem ((c.tc : Thread Cert.SmallIdeal.nD Cert.SmallIdeal.τ).loc Cert.SmallIdeal.main_v3_3) = v15 c
          ∧ r.2.mem ((c.tc : Thread Cert.SmallIdeal.nD Cert.SmallIdeal.τ).loc Cert.SmallIdeal.main_v4_0) = v16 c
          ∧ r.2.mem ((c.tc : Thread Cert.SmallIdeal.nD Cert.SmallIdeal.τ).loc Cert.SmallIdeal.main_v4_1) = v17 c
          ∧ r.2.mem ((c.tc : Thread Cert.SmallIdeal.nD Cert.SmallIdeal.τ).loc Cert.SmallIdeal.main_v4_2) = v18 c
          ∧ r.2.mem ((c.tc : Thread Cert.SmallIdeal.nD Cert.SmallIdeal.τ).loc Cert.SmallIdeal.main_v4_3) = v19 c
          ∧ r.2.mem ((c.tc : Thread Cert.SmallIdeal.nD Cert.SmallIdeal.τ).loc Cert.SmallIdeal.main_v5_0) = v20 c
          ∧ r.2.mem ((c.tc : Thread Cert.SmallIdeal.nD Cert.SmallIdeal.τ).loc Cert.SmallIdeal.main_v5_1) = v21 c
          ∧ r.2.mem ((c.tc : Thread Cert.SmallIdeal.nD Cert.SmallIdeal.τ).loc Cert.SmallIdeal.main_v5_2) = v22 c
          ∧ r.2.mem ((c.tc : Thread Cert.SmallIdeal.nD Cert.SmallIdeal.τ).loc Cert.SmallIdeal.main_v5_3) = v23 c
          ∧ r.2.mem ((c.tc : Thread Cert.SmallIdeal.nD Cert.SmallIdeal.τ).loc Cert.SmallIdeal.main_v6_0) = v24 c
          ∧ r.2.mem ((c.tc : Thread Cert.SmallIdeal.nD Cert.SmallIdeal.τ).loc Cert.SmallIdeal.main_v6_1) = v25 c
          ∧ r.2.mem ((c.tc : Thread Cert.SmallIdeal.nD Cert.SmallIdeal.τ).loc Cert.SmallIdeal.main_v6_2) = v26 c
          ∧ r.2.mem ((c.tc : Thread Cert.SmallIdeal.nD Cert.SmallIdeal.τ).loc Cert.SmallIdeal.main_v6_3) = v27 c
          ∧ r.2.mem ((c.tc : Thread Cert.SmallIdeal.nD Cert.SmallIdeal.τ).loc Cert.SmallIdeal.main_v7_0) = v28 c
          ∧ r.2.mem ((c.tc : Thread Cert.SmallIdeal.nD Cert.SmallIdeal.τ).loc Cert.SmallIdeal.main_v7_1) = v29 c
          ∧ r.2.mem ((c.tc : Thread Cert.SmallIdeal.nD Cert.SmallIdeal.τ).loc Cert.SmallIdeal.main_v7_2) = v30 c
          ∧ r.2.mem ((c.tc : Thread Cert.SmallIdeal.nD Cert.SmallIdeal.τ).loc Cert.SmallIdeal.main_v7_3) = v31 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_arg3) = v0 c
          ∧ r.2.mem ((c.tc : Thread Cert.SmallReferenceIdeal.nD Cert.SmallReferenceIdeal.τ).loc Cert.SmallReferenceIdeal.main_v23) = v1 c
          ∧ r.2.mem ((c.tc : Thread Cert.SmallReferenceIdeal.nD Cert.SmallReferenceIdeal.τ).loc Cert.SmallReferenceIdeal.main_v4) = v2 c
          ∧ r.2.mem ((c.tc : Thread Cert.SmallReferenceIdeal.nD Cert.SmallReferenceIdeal.τ).loc Cert.SmallReferenceIdeal.main_v10) = v3 c
          ∧ r.2.mem ((c.tc : Thread Cert.SmallReferenceIdeal.nD Cert.SmallReferenceIdeal.τ).loc Cert.SmallReferenceIdeal.main_arg7) = v4 c
          ∧ r.2.mem ((c.tc : Thread Cert.SmallReferenceIdeal.nD Cert.SmallReferenceIdeal.τ).loc Cert.SmallReferenceIdeal.main_v47) = v5 c
          ∧ r.2.mem ((c.tc : Thread Cert.SmallReferenceIdeal.nD Cert.SmallReferenceIdeal.τ).loc Cert.SmallReferenceIdeal.main_v28) = v6 c
          ∧ r.2.mem ((c.tc : Thread Cert.SmallReferenceIdeal.nD Cert.SmallReferenceIdeal.τ).loc Cert.SmallReferenceIdeal.main_v34) = v7 c
          ∧ r.2.mem ((c.tc : Thread Cert.SmallReferenceIdeal.nD Cert.SmallReferenceIdeal.τ).loc Cert.SmallReferenceIdeal.main_arg11) = v8 c
          ∧ r.2.mem ((c.tc : Thread Cert.SmallReferenceIdeal.nD Cert.SmallReferenceIdeal.τ).loc Cert.SmallReferenceIdeal.main_v71) = v9 c
          ∧ r.2.mem ((c.tc : Thread Cert.SmallReferenceIdeal.nD Cert.SmallReferenceIdeal.τ).loc Cert.SmallReferenceIdeal.main_v52) = v10 c
          ∧ r.2.mem ((c.tc : Thread Cert.SmallReferenceIdeal.nD Cert.SmallReferenceIdeal.τ).loc Cert.SmallReferenceIdeal.main_v58) = v11 c
          ∧ r.2.mem ((c.tc : Thread Cert.SmallReferenceIdeal.nD Cert.SmallReferenceIdeal.τ).loc Cert.SmallReferenceIdeal.main_arg15) = v12 c
          ∧ r.2.mem ((c.tc : Thread Cert.SmallReferenceIdeal.nD Cert.SmallReferenceIdeal.τ).loc Cert.SmallReferenceIdeal.main_v95) = v13 c
          ∧ r.2.mem ((c.tc : Thread Cert.SmallReferenceIdeal.nD Cert.SmallReferenceIdeal.τ).loc Cert.SmallReferenceIdeal.main_v76) = v14 c
          ∧ r.2.mem ((c.tc : Thread Cert.SmallReferenceIdeal.nD Cert.SmallReferenceIdeal.τ).loc Cert.SmallReferenceIdeal.main_v82) = v15 c
          ∧ r.2.mem ((c.tc : Thread Cert.SmallReferenceIdeal.nD Cert.SmallReferenceIdeal.τ).loc Cert.SmallReferenceIdeal.main_arg19) = v16 c
          ∧ r.2.mem ((c.tc : Thread Cert.SmallReferenceIdeal.nD Cert.SmallReferenceIdeal.τ).loc Cert.SmallReferenceIdeal.main_v119) = v17 c
          ∧ r.2.mem ((c.tc : Thread Cert.SmallReferenceIdeal.nD Cert.SmallReferenceIdeal.τ).loc Cert.SmallReferenceIdeal.main_v100) = v18 c
          ∧ r.2.mem ((c.tc : Thread Cert.SmallReferenceIdeal.nD Cert.SmallReferenceIdeal.τ).loc Cert.SmallReferenceIdeal.main_v106) = v19 c
          ∧ r.2.mem ((c.tc : Thread Cert.SmallReferenceIdeal.nD Cert.SmallReferenceIdeal.τ).loc Cert.SmallReferenceIdeal.main_arg23) = v20 c
          ∧ r.2.mem ((c.tc : Thread Cert.SmallReferenceIdeal.nD Cert.SmallReferenceIdeal.τ).loc Cert.SmallReferenceIdeal.main_v143) = v21 c
          ∧ r.2.mem ((c.tc : Thread Cert.SmallReferenceIdeal.nD Cert.SmallReferenceIdeal.τ).loc Cert.SmallReferenceIdeal.main_v124) = v22 c
          ∧ r.2.mem ((c.tc : Thread Cert.SmallReferenceIdeal.nD Cert.SmallReferenceIdeal.τ).loc Cert.SmallReferenceIdeal.main_v130) = v23 c
          ∧ r.2.mem ((c.tc : Thread Cert.SmallReferenceIdeal.nD Cert.SmallReferenceIdeal.τ).loc Cert.SmallReferenceIdeal.main_arg27) = v24 c
          ∧ r.2.mem ((c.tc : Thread Cert.SmallReferenceIdeal.nD Cert.SmallReferenceIdeal.τ).loc Cert.SmallReferenceIdeal.main_v167) = v25 c
          ∧ r.2.mem ((c.tc : Thread Cert.SmallReferenceIdeal.nD Cert.SmallReferenceIdeal.τ).loc Cert.SmallReferenceIdeal.main_v148) = v26 c
          ∧ r.2.mem ((c.tc : Thread Cert.SmallReferenceIdeal.nD Cert.SmallReferenceIdeal.τ).loc Cert.SmallReferenceIdeal.main_v154) = v27 c
          ∧ r.2.mem ((c.tc : Thread Cert.SmallReferenceIdeal.nD Cert.SmallReferenceIdeal.τ).loc Cert.SmallReferenceIdeal.main_arg31) = v28 c
          ∧ r.2.mem ((c.tc : Thread Cert.SmallReferenceIdeal.nD Cert.SmallReferenceIdeal.τ).loc Cert.SmallReferenceIdeal.main_v191) = v29 c
          ∧ r.2.mem ((c.tc : Thread Cert.SmallReferenceIdeal.nD Cert.SmallReferenceIdeal.τ).loc Cert.SmallReferenceIdeal.main_v172) = v30 c
          ∧ r.2.mem ((c.tc : Thread Cert.SmallReferenceIdeal.nD Cert.SmallReferenceIdeal.τ).loc Cert.SmallReferenceIdeal.main_v178) = v31 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24)
          ∧ r.2.mem ((c.tc : Thread Cert.SmallReferenceIdeal.nD Cert.SmallReferenceIdeal.τ).loc Cert.SmallReferenceIdeal.main_arg25) = m' ((c.tc : Thread Cert.SmallReferenceIdeal.nD Cert.SmallReferenceIdeal.τ).loc Cert.SmallReferenceIdeal.main_arg25)
          ∧ r.2.mem ((c.tc : Thread Cert.SmallReferenceIdeal.nD Cert.SmallReferenceIdeal.τ).loc Cert.SmallReferenceIdeal.main_arg26) = m' ((c.tc : Thread Cert.SmallReferenceIdeal.nD Cert.SmallReferenceIdeal.τ).loc Cert.SmallReferenceIdeal.main_arg26)
          ∧ r.2.mem ((c.tc : Thread Cert.SmallReferenceIdeal.nD Cert.SmallReferenceIdeal.τ).loc Cert.SmallReferenceIdeal.main_arg27) = m' ((c.tc : Thread Cert.SmallReferenceIdeal.nD Cert.SmallReferenceIdeal.τ).loc Cert.SmallReferenceIdeal.main_arg27)
          ∧ r.2.mem ((c.tc : Thread Cert.SmallReferenceIdeal.nD Cert.SmallReferenceIdeal.τ).loc Cert.SmallReferenceIdeal.main_arg28) = m' ((c.tc : Thread Cert.SmallReferenceIdeal.nD Cert.SmallReferenceIdeal.τ).loc Cert.SmallReferenceIdeal.main_arg28)
          ∧ r.2.mem ((c.tc : Thread Cert.SmallReferenceIdeal.nD Cert.SmallReferenceIdeal.τ).loc Cert.SmallReferenceIdeal.main_arg29) = m' ((c.tc : Thread Cert.SmallReferenceIdeal.nD Cert.SmallReferenceIdeal.τ).loc Cert.SmallReferenceIdeal.main_arg29)
          ∧ r.2.mem ((c.tc : Thread Cert.SmallReferenceIdeal.nD Cert.SmallReferenceIdeal.τ).loc Cert.SmallReferenceIdeal.main_arg30) = m' ((c.tc : Thread Cert.SmallReferenceIdeal.nD Cert.SmallReferenceIdeal.τ).loc Cert.SmallReferenceIdeal.main_arg30)
          ∧ r.2.mem ((c.tc : Thread Cert.SmallReferenceIdeal.nD Cert.SmallReferenceIdeal.τ).loc Cert.SmallReferenceIdeal.main_arg31) = m' ((c.tc : Thread Cert.SmallReferenceIdeal.nD Cert.SmallReferenceIdeal.τ).loc Cert.SmallReferenceIdeal.main_arg31))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hHgrn : Cert.Hgrn.Facts) (hHgrnIdeal : Cert.HgrnIdeal.Facts) (hHgrnReferenceIdeal : Cert.HgrnReferenceIdeal.Facts) (hMla : Cert.Mla.Facts) (hMlaIdeal : Cert.MlaIdeal.Facts) (hMlaReferenceIdeal : Cert.MlaReferenceIdeal.Facts) (hAdam : Cert.Adam.Facts) (hAdamIdeal : Cert.AdamIdeal.Facts) (hAdamReferenceIdeal : Cert.AdamReferenceIdeal.Facts) (hSmall : Cert.Small.Facts) (hSmallIdeal : Cert.SmallIdeal.Facts) (hSmallReferenceIdeal : Cert.SmallReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Hgrn (hHgrn := hHgrn)
    ∧ quiescent_HgrnIdeal (hHgrnIdeal := hHgrnIdeal)
    ∧ quiescent_HgrnReferenceIdeal (hHgrnReferenceIdeal := hHgrnReferenceIdeal)
    ∧ quiescent_Mla (hMla := hMla)
    ∧ quiescent_MlaIdeal (hMlaIdeal := hMlaIdeal)
    ∧ quiescent_MlaReferenceIdeal (hMlaReferenceIdeal := hMlaReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_Small (hSmall := hSmall)
    ∧ quiescent_SmallIdeal (hSmallIdeal := hSmallIdeal)
    ∧ quiescent_SmallReferenceIdeal (hSmallReferenceIdeal := hSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Hgrn_HgrnIdeal
    ∧ algebraic_HgrnIdeal_HgrnReferenceIdeal (hHgrnIdeal := hHgrnIdeal) (hHgrnReferenceIdeal := hHgrnReferenceIdeal)
    ∧ preserves_Mla_MlaIdeal
    ∧ algebraic_MlaIdeal_MlaReferenceIdeal (hMlaIdeal := hMlaIdeal) (hMlaReferenceIdeal := hMlaReferenceIdeal)
    ∧ preserves_Adam_AdamIdeal
    ∧ algebraic_AdamIdeal_AdamReferenceIdeal (hAdamIdeal := hAdamIdeal) (hAdamReferenceIdeal := hAdamReferenceIdeal)
    ∧ preserves_Small_SmallIdeal
    ∧ algebraic_SmallIdeal_SmallReferenceIdeal (hSmallIdeal := hSmallIdeal) (hSmallReferenceIdeal := hSmallReferenceIdeal)
-- ==== Pre_finite.lean ====
abbrev S16x2x2048x96 : Shape := ⟨4, ![16, 2, 2048, 96]⟩
abbrev S16x2x2048x64 : Shape := ⟨4, ![16, 2, 2048, 64]⟩
abbrev S2x2048x1024 : Shape := ⟨3, ![2, 2048, 1024]⟩
abbrev S_ : Shape := ⟨0, ![]⟩

class Facts : Prop where
  bcast_S_S16x2x2048x96 : S_.BroadcastsInDim S16x2x2048x96 (![] : Fin 0 → Fin S16x2x2048x96.rank)
  bcast_S_S16x2x2048x64 : S_.BroadcastsInDim S16x2x2048x64 (![] : Fin 0 → Fin S16x2x2048x64.rank)
  bcast_S_S2x2048x1024 : S_.BroadcastsInDim S2x2048x1024 (![] : Fin 0 → Fin S2x2048x1024.rank)

variable [Facts]

def fn {F : FTy → Type} [FloatOps F] (main_arg0 : FVec F S16x2x2048x96 .bf16) (main_arg1 : FVec F S16x2x2048x96 .bf16) (main_arg2 : FVec F S16x2x2048x64 .bf16) (main_arg3 : FVec F S2x2048x1024 .bf16) : IVec S16x2x2048x96 1 × IVec S16x2x2048x96 1 × IVec S16x2x2048x64 1 × IVec S2x2048x1024 1 :=
  let main_v0 : FVec F S16x2x2048x96 .bf16 := Host.absf main_arg0
  let main_cst : FVec F S_ .bf16 := constant S_ .bf16 0x7F80#16
  let main_v1 : FVec F S16x2x2048x96 .bf16 := broadcastInDim S16x2x2048x96 ![] bcast_S_S16x2x2048x96 main_cst
  let main_v2 : IVec S16x2x2048x96 1 := cmpf .olt main_v0 main_v1
  let main_v3 : FVec F S16x2x2048x96 .bf16 := Host.absf main_arg1
  let main_cst_0 : FVec F S_ .bf16 := constant S_ .bf16 0x7F80#16
  let main_v4 : FVec F S16x2x2048x96 .bf16 := broadcastInDim S16x2x2048x96 ![] bcast_S_S16x2x2048x96 main_cst_0
  let main_v5 : IVec S16x2x2048x96 1 := cmpf .olt main_v3 main_v4
  let main_v6 : FVec F S16x2x2048x64 .bf16 := Host.absf main_arg2
  let main_cst_1 : FVec F S_ .bf16 := constant S_ .bf16 0x7F80#16
  let main_v7 : FVec F S16x2x2048x64 .bf16 := broadcastInDim S16x2x2048x64 ![] bcast_S_S16x2x2048x64 main_cst_1
  let main_v8 : IVec S16x2x2048x64 1 := cmpf .olt main_v6 main_v7
  let main_v9 : FVec F S2x2048x1024 .bf16 := Host.absf main_arg3
  let main_cst_2 : FVec F S_ .bf16 := constant S_ .bf16 0x7F80#16
  let main_v10 : FVec F S2x2048x1024 .bf16 := broadcastInDim S2x2048x1024 ![] bcast_S_S2x2048x1024 main_cst_2
  let main_v11 : IVec S2x2048x1024 1 := cmpf .olt main_v9 main_v10
  (main_v2, main_v5, main_v8, main_v11)
-- ==== Kernel.lean ====
abbrev S16x2x2048x96 : Shape := ⟨4, ![16, 2, 2048, 96]⟩
abbrev S16x2x2048x64 : Shape := ⟨4, ![16, 2, 2048, 64]⟩
abbrev S2x2048x1024 : Shape := ⟨3, ![2, 2048, 1024]⟩
abbrev S16x2x2048x2048 : Shape := ⟨4, ![16, 2, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2x2048 : Shape := ⟨3, ![16, 2, 2048]⟩
abbrev S16x2x2048x1 : Shape := ⟨4, ![16, 2, 2048, 1]⟩
abbrev S2x16x64x2048 : Shape := ⟨4, ![2, 16, 64, 2048]⟩
abbrev S2x2048x16x64 : Shape := ⟨4, ![2, 2048, 16, 64]⟩
abbrev S2x1x2048x96 : Shape := ⟨4, ![2, 1, 2048, 96]⟩
abbrev S2x1x2048x64 : Shape := ⟨4, ![2, 1, 2048, 64]⟩
abbrev S1x2048x128 : Shape := ⟨3, ![1, 2048, 128]⟩
abbrev S2x1x2048x1 : Shape := ⟨4, ![2, 1, 2048, 1]⟩
abbrev S2x2048x96 : Shape := ⟨3, ![2, 2048, 96]⟩
abbrev S2x2048x1 : Shape := ⟨3, ![2, 2048, 1]⟩
abbrev S2048x128 : Shape := ⟨2, ![2048, 128]⟩
abbrev S2048x64 : Shape := ⟨2, ![2048, 64]⟩
abbrev S1x2048x1 : Shape := ⟨3, ![1, 2048, 1]⟩
abbrev S1x1x2048x1 : Shape := ⟨4, ![1, 1, 2048, 1]⟩
abbrev S1x1x1024x96 : Shape := ⟨4, ![1, 1, 1024, 96]⟩
abbrev S1024x96 : Shape := ⟨2, ![1024, 96]⟩
abbrev S1x1x1024x64 : Shape := ⟨4, ![1, 1, 1024, 64]⟩
abbrev S1024x64 : Shape := ⟨2, ![1024, 64]⟩
abbrev S1024x512 : Shape := ⟨2, ![1024, 512]⟩
abbrev S512x96 : Shape := ⟨2, ![512, 96]⟩
abbrev S512x64 : Shape := ⟨2, ![512, 64]⟩
abbrev S1x1024x128 : Shape := ⟨3, ![1, 1024, 128]⟩
abbrev S1024x128 : Shape := ⟨2, ![1024, 128]⟩
abbrev S1x1024x1 : Shape := ⟨3, ![1, 1024, 1]⟩
abbrev S1024x1 : Shape := ⟨2, ![1024, 1]⟩
abbrev S1x1024x96 : Shape := ⟨3, ![1, 1024, 96]⟩
abbrev S512x512 : Shape := ⟨2, ![512, 512]⟩
abbrev S1x1x512x96 : Shape := ⟨4, ![1, 1, 512, 96]⟩
abbrev S1x512x128 : Shape := ⟨3, ![1, 512, 128]⟩
abbrev S512x128 : Shape := ⟨2, ![512, 128]⟩
abbrev S1x512x1 : Shape := ⟨3, ![1, 512, 1]⟩
abbrev S512x1 : Shape := ⟨2, ![512, 1]⟩
abbrev S1x512x96 : Shape := ⟨3, ![1, 512, 96]⟩
abbrev S1024x1024 : Shape := ⟨2, ![1024, 1024]⟩

abbrev nBuf : Space → Nat
  | .hbm => 43
  | .vmem => 21
  | .smem => 0
  | _ => 0

abbrev bufTy : (tb : Table) → Fin (tcTables nBuf tb) → BufTy
  | .hbm, ⟨0, _⟩ => ⟨S16x2x2048x96, .bf16⟩
  | .hbm, ⟨1, _⟩ => ⟨S16x2x2048x96, .bf16⟩
  | .hbm, ⟨2, _⟩ => ⟨S16x2x2048x64, .bf16⟩
  | .hbm, ⟨3, _⟩ => ⟨S2x2048x1024, .bf16⟩
  | .hbm, ⟨4, _⟩ => ⟨S16x2x2048x96, .f32⟩
  | .hbm, ⟨5, _⟩ => ⟨S16x2x2048x96, .f32⟩
  | .hbm, ⟨6, _⟩ => ⟨S16x2x2048x2048, .f32⟩
  | .hbm, ⟨7, _⟩ => ⟨S_, .f32⟩
  | .hbm, ⟨8, _⟩ => ⟨S16x2x2048x2048, .f32⟩
  | .hbm, ⟨9, _⟩ => ⟨S16x2x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S16x2x2048x2048, .i1⟩
  | .hbm, ⟨20, _⟩ => ⟨S16x2x2048x2048, .f32⟩
  | .hbm, ⟨21, _⟩ => ⟨S16x2x2048x2048, .f32⟩
  | .hbm, ⟨22, _⟩ => ⟨S_, .f32⟩
  | .hbm, ⟨23, _⟩ => ⟨S16x2x2048, .f32⟩
  | .hbm, ⟨24, _⟩ => ⟨S16x2x2048x1, .f32⟩
  | .hbm, ⟨25, _⟩ => ⟨S16x2x2048x2048, .f32⟩
  | .hbm, ⟨26, _⟩ => ⟨S16x2x2048x2048, .f32⟩
  | .hbm, ⟨27, _⟩ => ⟨S16x2x2048x2048, .f32⟩
  | .hbm, ⟨28, _⟩ => ⟨S_, .f32⟩
  | .hbm, ⟨29, _⟩ => ⟨S16x2x2048, .f32⟩
  | .hbm, ⟨30, _⟩ => ⟨S16x2x2048x1, .f32⟩
  | .hbm, ⟨31, _⟩ => ⟨S16x2x2048x1, .f32⟩
  | .hbm, ⟨32, _⟩ => ⟨S16x2x2048x1, .f32⟩
  | .hbm, ⟨33, _⟩ => ⟨S16x2x2048x2048, .f32⟩
  | .hbm, ⟨34, _⟩ => ⟨S16x2x2048x2048, .f32⟩
  | .hbm, ⟨35, _⟩ => ⟨S16x2x2048x64, .f32⟩
  | .hbm, ⟨36, _⟩ => ⟨S2x16x64x2048, .f32⟩
  | .hbm, ⟨37, _⟩ => ⟨S2x2048x16x64, .f32⟩
  | .hbm, ⟨38, _⟩ => ⟨S2x2048x1024, .f32⟩
  | .hbm, ⟨39, _⟩ => ⟨S2x2048x1024, .bf16⟩
  | .hbm, ⟨40, _⟩ => ⟨S16x2x2048x96, .bf16⟩
  | .hbm, ⟨41, _⟩ => ⟨S16x2x2048x96, .bf16⟩
  | .hbm, ⟨42, _⟩ => ⟨S16x2x2048x64, .bf16⟩
  | .local _ .vmem, ⟨0, _⟩ => ⟨S2x1x2048x96, .bf16⟩
  | .local _ .vmem, ⟨1, _⟩ => ⟨S2x1x2048x96, .bf16⟩
  | .local _ .vmem, ⟨2, _⟩ => ⟨S2x1x2048x96, .bf16⟩
  | .local _ .vmem, ⟨3, _⟩ => ⟨S2x1x2048x96, .bf16⟩
  | .local _ .vmem, ⟨4, _⟩ => ⟨S2x1x2048x64, .bf16⟩
  | .local _ .vmem, ⟨5, _⟩ => ⟨S2x1x2048x64, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S2x1x2048x1, .f32⟩
  | .local _ .vmem, ⟨11, _⟩ => ⟨S2x1x2048x1, .f32⟩
  | .local _ .vmem, ⟨12, _⟩ => ⟨S2x1x2048x96, .bf16⟩
  | .local _ .vmem, ⟨13, _⟩ => ⟨S2x1x2048x96, .bf16⟩
  | .local _ .vmem, ⟨14, _⟩ => ⟨S2x1x2048x96, .bf16⟩
  | .local _ .vmem, ⟨15, _⟩ => ⟨S2x1x2048x96, .bf16⟩
  | .local _ .vmem, ⟨16, _⟩ => ⟨S2x1x2048x64, .bf16⟩
  | .local _ .vmem, ⟨17, _⟩ => ⟨S2x1x2048x64, .bf16⟩
  | .local _ .vmem, ⟨18, _⟩ => ⟨S2x2048x96, .f32⟩
  | .local _ .vmem, ⟨19, _⟩ => ⟨S2x2048x1, .f32⟩
  | .local _ .vmem, ⟨20, _⟩ => ⟨S2x2048x1, .f32⟩
  | _, _ => ⟨S16x2x2048x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c2_i32 : BitVec 32 := 2#32
  let v37 : BitVec 32 := Scalar.addi c0_i32 c2_i32
  let c1_i32 : BitVec 32 := 1#32
  ⟨c0_i32, v37, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v45 : BitVec 32 := Scalar.muli arg14 c1024_i32
  v45
def k0_off1 (k0_t1 : Fin k0_t1_loop.trips) : Fin 4 → Nat :=
  let c0_40 : Index := 0#32
  let c0_41 : Index := 0#32
  let c0_i32 : BitVec 32 := 0#32
  let c1_i32 : BitVec 32 := 1#32
  let arg14 : BitVec 32 := Scf.iv c0_i32 c1_i32 k0_t1
  let c1024_i32 : BitVec 32 := 1024#32
  let v45 : BitVec 32 := Scalar.muli arg14 c1024_i32
  let v46 : BitVec 32 := v45
  let v47 : Index := Scalar.indexCast v46
  let c0_42 : Index := 0#32
  ![0, 0, v47.toNat, 0]
def k0_off2 (k0_t1 : Fin k0_t1_loop.trips) : Fin 4 → Nat :=
  let c1_43 : Index := 1#32
  let c0_44 : Index := 0#32
  let c0_i32 : BitVec 32 := 0#32
  let c1_i32 : BitVec 32 := 1#32
  let arg14 : BitVec 32 := Scf.iv c0_i32 c1_i32 k0_t1
  let c1024_i32 : BitVec 32 := 1024#32
  let v45 : BitVec 32 := Scalar.muli arg14 c1024_i32
  let v46 : BitVec 32 := v45
  let v50 : Index := Scalar.indexCast v46
  let c0_45 : Index := 0#32
  ![1, 0, v50.toNat, 0]
def k0_off3 (k0_t1 : Fin k0_t1_loop.trips) : Fin 4 → Nat :=
  let c0_46 : Index := 0#32
  let c0_47 : Index := 0#32
  let c0_i32 : BitVec 32 := 0#32
  let c1_i32 : BitVec 32 := 1#32
  let arg14 : BitVec 32 := Scf.iv c0_i32 c1_i32 k0_t1
  let c1024_i32 : BitVec 32 := 1024#32
  let v45 : BitVec 32 := Scalar.muli arg14 c1024_i32
  let v46 : BitVec 32 := v45
  let v53 : Index := Scalar.indexCast v46
  let c0_48 : Index := 0#32
  ![0, 0, v53.toNat, 0]
def k0_off4 (k0_t1 : Fin k0_t1_loop.trips) : Fin 4 → Nat :=
  let c1_49 : Index := 1#32
  let c0_50 : Index := 0#32
  let c0_i32 : BitVec 32 := 0#32
  let c1_i32 : BitVec 32 := 1#32
  let arg14 : BitVec 32 := Scf.iv c0_i32 c1_i32 k0_t1
  let c1024_i32 : BitVec 32 := 1024#32
  let v45 : BitVec 32 := Scalar.muli arg14 c1024_i32
  let v46 : BitVec 32 := v45
  let v56 : Index := Scalar.indexCast v46
  let c0_51 : Index := 0#32
  ![1, 0, v56.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32_53 : BitVec 32 := 1024#32
  let v60 : BitVec 32 := Scalar.muli arg14 c1024_i32_53
  let c0_i32_54 : BitVec 32 := 0#32
  let v61 : BitVec 32 := Scalar.addi v60 c0_i32_54
  v61
def k0_off5 (k0_t1 : Fin k0_t1_loop.trips) : Fin 4 → Nat :=
  let c0_55 : Index := 0#32
  let c0_56 : Index := 0#32
  let c0_i32 : BitVec 32 := 0#32
  let c1_i32 : BitVec 32 := 1#32
  let arg14 : BitVec 32 := Scf.iv c0_i32 c1_i32 k0_t1
  let c1024_i32_53 : BitVec 32 := 1024#32
  let v60 : BitVec 32 := Scalar.muli arg14 c1024_i32_53
  let c0_i32_54 : BitVec 32 := 0#32
  let v61 : BitVec 32 := Scalar.addi v60 c0_i32_54
  let v62 : BitVec 32 := v61
  let v68 : Index := Scalar.indexCast v62
  let c0_57 : Index := 0#32
  ![0, 0, v68.toNat, 0]
def k0_off6 (k0_t1 : Fin k0_t1_loop.trips) : Fin 3 → Nat :=
  let c0_58 : Index := 0#32
  let c0_i32 : BitVec 32 := 0#32
  let c1_i32 : BitVec 32 := 1#32
  let arg14 : BitVec 32 := Scf.iv c0_i32 c1_i32 k0_t1
  let c1024_i32_53 : BitVec 32 := 1024#32
  let v60 : BitVec 32 := Scalar.muli arg14 c1024_i32_53
  let c0_i32_54 : BitVec 32 := 0#32
  let v61 : BitVec 32 := Scalar.addi v60 c0_i32_54
  let v62 : BitVec 32 := v61
  let v71 : Index := Scalar.indexCast v62
  let c0_59 : Index := 0#32
  ![0, v71.toNat, 0]
def k0_off7 (k0_t1 : Fin k0_t1_loop.trips) : Fin 3 → Nat :=
  let c0_62 : Index := 0#32
  let c0_i32 : BitVec 32 := 0#32
  let c1_i32 : BitVec 32 := 1#32
  let arg14 : BitVec 32 := Scf.iv c0_i32 c1_i32 k0_t1
  let c1024_i32_53 : BitVec 32 := 1024#32
  let v60 : BitVec 32 := Scalar.muli arg14 c1024_i32_53
  let c0_i32_54 : BitVec 32 := 0#32
  let v61 : BitVec 32 := Scalar.addi v60 c0_i32_54
  let v62 : BitVec 32 := v61
  let v78 : Index := Scalar.indexCast v62
  let c0_63 : Index := 0#32
  ![0, v78.toNat, 0]
def k0_off8 (k0_t1 : Fin k0_t1_loop.trips) : Fin 3 → Nat :=
  let c0_69 : Index := 0#32
  let c0_i32 : BitVec 32 := 0#32
  let c1_i32 : BitVec 32 := 1#32
  let arg14 : BitVec 32 := Scf.iv c0_i32 c1_i32 k0_t1
  let c1024_i32_53 : BitVec 32 := 1024#32
  let v60 : BitVec 32 := Scalar.muli arg14 c1024_i32_53
  let c0_i32_54 : BitVec 32 := 0#32
  let v61 : BitVec 32 := Scalar.addi v60 c0_i32_54
  let v62 : BitVec 32 := v61
  let v96 : Index := Scalar.indexCast v62
  let c0_70 : Index := 0#32
  ![0, v96.toNat, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32_75 : BitVec 32 := 1024#32
  let v106 : BitVec 32 := Scalar.muli arg14 c1024_i32_75
  let c512_i32 : BitVec 32 := 512#32
  let v107 : BitVec 32 := Scalar.addi v106 c512_i32
  v107
def k0_off9 (k0_t1 : Fin k0_t1_loop.trips) : Fin 4 → Nat :=
  let c0_76 : Index := 0#32
  let c0_77 : Index := 0#32
  let c0_i32 : BitVec 32 := 0#32
  let c1_i32 : BitVec 32 := 1#32
  let arg14 : BitVec 32 := Scf.iv c0_i32 c1_i32 k0_t1
  let c1024_i32_75 : BitVec 32 := 1024#32
  let v106 : BitVec 32 := Scalar.muli arg14 c1024_i32_75
  let c512_i32 : BitVec 32 := 512#32
  let v107 : BitVec 32 := Scalar.addi v106 c512_i32
  let v108 : BitVec 32 := v107
  let v114 : Index := Scalar.indexCast v108
  let c0_78 : Index := 0#32
  ![0, 0, v114.toNat, 0]
def k0_off10 (k0_t1 : Fin k0_t1_loop.trips) : Fin 3 → Nat :=
  let c0_79 : Index := 0#32
  let c0_i32 : BitVec 32 := 0#32
  let c1_i32 : BitVec 32 := 1#32
  let arg14 : BitVec 32 := Scf.iv c0_i32 c1_i32 k0_t1
  let c1024_i32_75 : BitVec 32 := 1024#32
  let v106 : BitVec 32 := Scalar.muli arg14 c1024_i32_75
  let c512_i32 : BitVec 32 := 512#32
  let v107 : BitVec 32 := Scalar.addi v106 c512_i32
  let v108 : BitVec 32 := v107
  let v117 : Index := Scalar.indexCast v108
  let c0_80 : Index := 0#32
  ![0, v117.toNat, 0]
def k0_off11 (k0_t1 : Fin k0_t1_loop.trips) : Fin 3 → Nat :=
  let c0_83 : Index := 0#32
  let c0_i32 : BitVec 32 := 0#32
  let c1_i32 : BitVec 32 := 1#32
  let arg14 : BitVec 32 := Scf.iv c0_i32 c1_i32 k0_t1
  let c1024_i32_75 : BitVec 32 := 1024#32
  let v106 : BitVec 32 := Scalar.muli arg14 c1024_i32_75
  let c512_i32 : BitVec 32 := 512#32
  let v107 : BitVec 32 := Scalar.addi v106 c512_i32
  let v108 : BitVec 32 := v107
  let v124 : Index := Scalar.indexCast v108
  let c0_84 : Index := 0#32
  ![0, v124.toNat, 0]
def k0_off12 (k0_t1 : Fin k0_t1_loop.trips) : Fin 3 → Nat :=
  let c0_90 : Index := 0#32
  let c0_i32 : BitVec 32 := 0#32
  let c1_i32 : BitVec 32 := 1#32
  let arg14 : BitVec 32 := Scf.iv c0_i32 c1_i32 k0_t1
  let c1024_i32_75 : BitVec 32 := 1024#32
  let v106 : BitVec 32 := Scalar.muli arg14 c1024_i32_75
  let c512_i32 : BitVec 32 := 512#32
  let v107 : BitVec 32 := Scalar.addi v106 c512_i32
  let v108 : BitVec 32 := v107
  let v142 : Index := Scalar.indexCast v108
  let c0_91 : Index := 0#32
  ![0, v142.toNat, 0]
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32_96 : BitVec 32 := 1024#32
  let v154 : BitVec 32 := Scalar.muli arg14 c1024_i32_96
  let c0_i32_97 : BitVec 32 := 0#32
  let v155 : BitVec 32 := Scalar.addi v154 c0_i32_97
  v155
def k0_off13 (k0_t1 : Fin k0_t1_loop.trips) : Fin 4 → Nat :=
  let c1_98 : Index := 1#32
  let c0_99 : Index := 0#32
  let c0_i32 : BitVec 32 := 0#32
  let c1_i32 : BitVec 32 := 1#32
  let arg14 : BitVec 32 := Scf.iv c0_i32 c1_i32 k0_t1
  let c1024_i32_96 : BitVec 32 := 1024#32
  let v154 : BitVec 32 := Scalar.muli arg14 c1024_i32_96
  let c0_i32_97 : BitVec 32 := 0#32
  let v155 : BitVec 32 := Scalar.addi v154 c0_i32_97
  let v156 : BitVec 32 := v155
  let v162 : Index := Scalar.indexCast v156
  let c0_100 : Index := 0#32
  ![1, 0, v162.toNat, 0]
def k0_off14 (k0_t1 : Fin k0_t1_loop.trips) : Fin 3 → Nat :=
  let c1_105 : Index := 1#32
  let c0_i32 : BitVec 32 := 0#32
  let c1_i32 : BitVec 32 := 1#32
  let arg14 : BitVec 32 := Scf.iv c0_i32 c1_i32 k0_t1
  let c1024_i32_96 : BitVec 32 := 1024#32
  let v154 : BitVec 32 := Scalar.muli arg14 c1024_i32_96
  let c0_i32_97 : BitVec 32 := 0#32
  let v155 : BitVec 32 := Scalar.addi v154 c0_i32_97
  let v156 : BitVec 32 := v155
  let v172 : Index := Scalar.indexCast v156
  let c0_106 : Index := 0#32
  ![1, v172.toNat, 0]
def k0_off15 (k0_t1 : Fin k0_t1_loop.trips) : Fin 3 → Nat :=
  let c1_112 : Index := 1#32
  let c0_i32 : BitVec 32 := 0#32
  let c1_i32 : BitVec 32 := 1#32
  let arg14 : BitVec 32 := Scf.iv c0_i32 c1_i32 k0_t1
  let c1024_i32_96 : BitVec 32 := 1024#32
  let v154 : BitVec 32 := Scalar.muli arg14 c1024_i32_96
  let c0_i32_97 : BitVec 32 := 0#32
  let v155 : BitVec 32 := Scalar.addi v154 c0_i32_97
  let v156 : BitVec 32 := v155
  let v190 : Index := Scalar.indexCast v156
  let c0_113 : Index := 0#32
  ![1, v190.toNat, 0]
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32_118 : BitVec 32 := 1024#32
  let v200 : BitVec 32 := Scalar.muli arg14 c1024_i32_118
  let c512_i32_119 : BitVec 32 := 512#32
  let v201 : BitVec 32 := Scalar.addi v200 c512_i32_119
  v201
def k0_off16 (k0_t1 : Fin k0_t1_loop.trips) : Fin 4 → Nat :=
  let c1_120 : Index := 1#32
  let c0_121 : Index := 0#32
  let c0_i32 : BitVec 32 := 0#32
  let c1_i32 : BitVec 32 := 1#32
  let arg14 : BitVec 32 := Scf.iv c0_i32 c1_i32 k0_t1
  let c1024_i32_118 : BitVec 32 := 1024#32
  let v200 : BitVec 32 := Scalar.muli arg14 c1024_i32_118
  let c512_i32_119 : BitVec 32 := 512#32
  let v201 : BitVec 32 := Scalar.addi v200 c512_i32_119
  let v202 : BitVec 32 := v201
  let v208 : Index := Scalar.indexCast v202
  let c0_122 : Index := 0#32
  ![1, 0, v208.toNat, 0]
def k0_off17 (k0_t1 : Fin k0_t1_loop.trips) : Fin 3 → Nat :=
  let c1_127 : Index := 1#32
  let c0_i32 : BitVec 32 := 0#32
  let c1_i32 : BitVec 32 := 1#32
  let arg14 : BitVec 32 := Scf.iv c0_i32 c1_i32 k0_t1
  let c1024_i32_118 : BitVec 32 := 1024#32
  let v200 : BitVec 32 := Scalar.muli arg14 c1024_i32_118
  let c512_i32_119 : BitVec 32 := 512#32
  let v201 : BitVec 32 := Scalar.addi v200 c512_i32_119
  let v202 : BitVec 32 := v201
  let v218 : Index := Scalar.indexCast v202
  let c0_128 : Index := 0#32
  ![1, v218.toNat, 0]
def k0_off18 (k0_t1 : Fin k0_t1_loop.trips) : Fin 3 → Nat :=
  let c1_134 : Index := 1#32
  let c0_i32 : BitVec 32 := 0#32
  let c1_i32 : BitVec 32 := 1#32
  let arg14 : BitVec 32 := Scf.iv c0_i32 c1_i32 k0_t1
  let c1024_i32_118 : BitVec 32 := 1024#32
  let v200 : BitVec 32 := Scalar.muli arg14 c1024_i32_118
  let c512_i32_119 : BitVec 32 := 512#32
  let v201 : BitVec 32 := Scalar.addi v200 c512_i32_119
  let v202 : BitVec 32 := v201
  let v236 : Index := Scalar.indexCast v202
  let c0_135 : Index := 0#32
  ![1, v236.toNat, 0]
@[reducible] def k0_t2_loop (k0_t1 : Fin k0_t1_loop.trips) : Scf.Loop 32 :=
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_142 : BitVec 32 := 1#32
  ⟨v59, v252, c1_i32_142⟩
def k0_mult6 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  v279
def k0_off19 (k0_t1 : Fin k0_t1_loop.trips) (k0_t2 : Fin (k0_t2_loop k0_t1).trips) : Fin 4 → Nat :=
  let c0_159 : Index := 0#32
  let c0_160 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v281 : Index := Scalar.indexCast v280
  let c0_161 : Index := 0#32
  ![0, 0, v281.toNat, 0]
def k0_off20 (k0_t1 : Fin k0_t1_loop.trips) (k0_t2 : Fin (k0_t2_loop k0_t1).trips) : Fin 3 → Nat :=
  let c0_162 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v284 : Index := Scalar.indexCast v280
  let c0_163 : Index := 0#32
  ![0, v284.toNat, 0]
def k0_off21 (k0_t1 : Fin k0_t1_loop.trips) (k0_t2 : Fin (k0_t2_loop k0_t1).trips) : Fin 3 → Nat :=
  let c0_166 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v291 : Index := Scalar.indexCast v280
  let c0_167 : Index := 0#32
  ![0, v291.toNat, 0]
def k0_off22 (k0_t1 : Fin k0_t1_loop.trips) (k0_t2 : Fin (k0_t2_loop k0_t1).trips) : Fin 3 → Nat :=
  let c0_172 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v307 : Index := Scalar.indexCast v280
  let c0_173 : Index := 0#32
  ![0, v307.toNat, 0]
def k0_off23 (k0_t1 : Fin k0_t1_loop.trips) (k0_t2 : Fin (k0_t2_loop k0_t1).trips) : Fin 4 → Nat :=
  let c1_178 : Index := 1#32
  let c0_179 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v319 : Index := Scalar.indexCast v280
  let c0_180 : Index := 0#32
  ![1, 0, v319.toNat, 0]
def k0_off24 (k0_t1 : Fin k0_t1_loop.trips) (k0_t2 : Fin (k0_t2_loop k0_t1).trips) : Fin 3 → Nat :=
  let c1_185 : Index := 1#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v329 : Index := Scalar.indexCast v280
  let c0_186 : Index := 0#32
  ![1, v329.toNat, 0]
def k0_off25 (k0_t1 : Fin k0_t1_loop.trips) (k0_t2 : Fin (k0_t2_loop k0_t1).trips) : Fin 3 → Nat :=
  let c1_191 : Index := 1#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c1_i32_142 : BitVec 32 := 1#32
  let arg15 : BitVec 32 := Scf.iv v59 c1_i32_142 k0_t2
  let c1024_i32_158 : BitVec 32 := 1024#32
  let v279 : BitVec 32 := Scalar.muli arg15 c1024_i32_158
  let v280 : BitVec 32 := v279
  let v345 : Index := Scalar.indexCast v280
  let c0_192 : Index := 0#32
  ![1, v345.toNat, 0]
@[reducible] def k0_t3_loop (k0_t1 : Fin k0_t1_loop.trips) : Scf.Loop 32 :=
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let v249 : BitVec 32 := Scalar.addi v59 v248
  let c1_i32_143 : BitVec 32 := 1#32
  ⟨v252, v249, c1_i32_143⟩
def k0_mult7 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  v279
def k0_off26 (k0_t1 : Fin k0_t1_loop.trips) (k0_t3 : Fin (k0_t3_loop k0_t1).trips) : Fin 4 → Nat :=
  let c0_159 : Index := 0#32
  let c0_160 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v281 : Index := Scalar.indexCast v280
  let c0_161 : Index := 0#32
  ![0, 0, v281.toNat, 0]
def k0_off27 (k0_t1 : Fin k0_t1_loop.trips) (k0_t3 : Fin (k0_t3_loop k0_t1).trips) : Fin 3 → Nat :=
  let c0_162 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v284 : Index := Scalar.indexCast v280
  let c0_163 : Index := 0#32
  ![0, v284.toNat, 0]
def k0_off28 (k0_t1 : Fin k0_t1_loop.trips) (k0_t3 : Fin (k0_t3_loop k0_t1).trips) : Fin 3 → Nat :=
  let c0_166 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v291 : Index := Scalar.indexCast v280
  let c0_167 : Index := 0#32
  ![0, v291.toNat, 0]
def k0_off29 (k0_t1 : Fin k0_t1_loop.trips) (k0_t3 : Fin (k0_t3_loop k0_t1).trips) : Fin 3 → Nat :=
  let c0_172 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v307 : Index := Scalar.indexCast v280
  let c0_173 : Index := 0#32
  ![0, v307.toNat, 0]
def k0_off30 (k0_t1 : Fin k0_t1_loop.trips) (k0_t3 : Fin (k0_t3_loop k0_t1).trips) : Fin 4 → Nat :=
  let c1_178 : Index := 1#32
  let c0_179 : Index := 0#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v319 : Index := Scalar.indexCast v280
  let c0_180 : Index := 0#32
  ![1, 0, v319.toNat, 0]
def k0_off31 (k0_t1 : Fin k0_t1_loop.trips) (k0_t3 : Fin (k0_t3_loop k0_t1).trips) : Fin 3 → Nat :=
  let c1_185 : Index := 1#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v329 : Index := Scalar.indexCast v280
  let c0_186 : Index := 0#32
  ![1, v329.toNat, 0]
def k0_off32 (k0_t1 : Fin k0_t1_loop.trips) (k0_t3 : Fin (k0_t3_loop k0_t1).trips) : Fin 3 → Nat :=
  let c1_191 : Index := 1#32
  let c0_i32 : BitVec 32 := 0#32
  let c1_i32 : BitVec 32 := 1#32
  let arg14 : BitVec 32 := Scf.iv c0_i32 c1_i32 k0_t1
  let c1_i32_52 : BitVec 32 := 1#32
  let v59 : BitVec 32 := Scalar.addi arg14 c1_i32_52
  let c2_i32_140 : BitVec 32 := 2#32
  let v248 : BitVec 32 := Scalar.subi c2_i32_140 v59
  let c1_i32_141 : BitVec 32 := 1#32
  let v250 : BitVec 32 := Scalar.divsi v248 c1_i32_141
  let v251 : BitVec 32 := Scalar.muli v250 c1_i32_141
  let v252 : BitVec 32 := Scalar.addi v59 v251
  let c1_i32_143 : BitVec 32 := 1#32
  let arg15 : BitVec 32 := Scf.iv v252 c1_i32_143 k0_t3
  let c1024_i32_158 : BitVec 32 := 1024#32
  let v279 : BitVec 32 := Scalar.muli arg15 c1024_i32_158
  let v280 : BitVec 32 := v279
  let v345 : Index := Scalar.indexCast v280
  let c0_192 : Index := 0#32
  ![1, v345.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x2048x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x2048x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x2048x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== ReferenceIdeal.lean ====
abbrev S16x2x2048x96 : Shape := ⟨4, ![16, 2, 2048, 96]⟩
abbrev S16x2x2048x64 : Shape := ⟨4, ![16, 2, 2048, 64]⟩
abbrev S2x2048x1024 : Shape := ⟨3, ![2, 2048, 1024]⟩
abbrev S16x2x2048x2048 : Shape := ⟨4, ![16, 2, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2x2048 : Shape := ⟨3, ![16, 2, 2048]⟩
abbrev S16x2x2048x1 : Shape := ⟨4, ![16, 2, 2048, 1]⟩
abbrev S2x16x64x2048 : Shape := ⟨4, ![2, 16, 64, 2048]⟩
abbrev S2x2048x16x64 : Shape := ⟨4, ![2, 2048, 16, 64]⟩
abbrev S2x16x2048x2048 : Shape := ⟨4, ![2, 16, 2048, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16x2x2048x96, .bf16⟩
  | .hbm, ⟨1, _⟩ => ⟨S16x2x2048x96, .bf16⟩
  | .hbm, ⟨2, _⟩ => ⟨S16x2x2048x64, .bf16⟩
  | .hbm, ⟨3, _⟩ => ⟨S2x2048x1024, .bf16⟩
  | .hbm, ⟨4, _⟩ => ⟨S16x2x2048x96, .f32⟩
  | .hbm, ⟨5, _⟩ => ⟨S16x2x2048x96, .f32⟩
  | .hbm, ⟨6, _⟩ => ⟨S16x2x2048x2048, .f32⟩
  | .hbm, ⟨7, _⟩ => ⟨S_, .f32⟩
  | .hbm, ⟨8, _⟩ => ⟨S16x2x2048x2048, .f32⟩
  | .hbm, ⟨9, _⟩ => ⟨S16x2x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S16x2x2048x2048, .i1⟩
  | .hbm, ⟨20, _⟩ => ⟨S16x2x2048x2048, .f32⟩
  | .hbm, ⟨21, _⟩ => ⟨S16x2x2048x2048, .f32⟩
  | .hbm, ⟨22, _⟩ => ⟨S_, .f32⟩
  | .hbm, ⟨23, _⟩ => ⟨S16x2x2048x2048, .f32⟩
  | .hbm, ⟨24, _⟩ => ⟨S_, .f32⟩
  | .hbm, ⟨25, _⟩ => ⟨S16x2x2048, .f32⟩
  | .hbm, ⟨26, _⟩ => ⟨S16x2x2048x1, .f32⟩
  | .hbm, ⟨27, _⟩ => ⟨S16x2x2048x2048, .f32⟩
  | .hbm, ⟨28, _⟩ => ⟨S16x2x2048x2048, .i1⟩
  | .hbm, ⟨29, _⟩ => ⟨S16x2x2048x2048, .f32⟩
  | .hbm, ⟨30, _⟩ => ⟨S_, .f32⟩
  | .hbm, ⟨31, _⟩ => ⟨S16x2x2048, .f32⟩
  | .hbm, ⟨32, _⟩ => ⟨S_, .f32⟩
  | .hbm, ⟨33, _⟩ => ⟨S16x2x2048, .f32⟩
  | .hbm, ⟨34, _⟩ => ⟨S16x2x2048, .f32⟩
  | .hbm, ⟨35, _⟩ => ⟨S_, .f32⟩
  | .hbm, ⟨36, _⟩ => ⟨S16x2x2048, .f32⟩
  | .hbm, ⟨37, _⟩ => ⟨S16x2x2048, .i1⟩
  | .hbm, ⟨38, _⟩ => ⟨S_, .f32⟩
  | .hbm, ⟨39, _⟩ => ⟨S16x2x2048, .f32⟩
  | .hbm, ⟨40, _⟩ => ⟨S16x2x2048, .i1⟩
  | .hbm, ⟨41, _⟩ => ⟨S_, .f32⟩
  | .hbm, ⟨42, _⟩ => ⟨S16x2x2048, .f32⟩
  | .hbm, ⟨43, _⟩ => ⟨S_, .f32⟩
  | .hbm, ⟨44, _⟩ => ⟨S16x2x2048, .f32⟩
  | .hbm, ⟨45, _⟩ => ⟨S_, .f32⟩
  | .hbm, ⟨46, _⟩ => ⟨S16x2x2048, .f32⟩
  | .hbm, ⟨47, _⟩ => ⟨S16x2x2048, .f32⟩
  | .hbm, ⟨48, _⟩ => ⟨S16x2x2048, .f32⟩
  | .hbm, ⟨49, _⟩ => ⟨S16x2x2048x1, .f32⟩
  | .hbm, ⟨50, _⟩ => ⟨S16x2x2048x2048, .f32⟩
  | .hbm, ⟨51, _⟩ => ⟨S16x2x2048x2048, .f32⟩
  | .hbm, ⟨52, _⟩ => ⟨S16x2x2048x2048, .f32⟩
  | .hbm, ⟨53, _⟩ => ⟨S_, .f32⟩
  | .hbm, ⟨54, _⟩ => ⟨S16x2x2048, .f32⟩
  | .hbm, ⟨55, _⟩ => ⟨S16x2x2048x1, .f32⟩
  | .hbm, ⟨56, _⟩ => ⟨S16x2x2048x2048, .f32⟩
  | .hbm, ⟨57, _⟩ => ⟨S16x2x2048x2048, .f32⟩
  | .hbm, ⟨58, _⟩ => ⟨S16x2x2048x1, .f32⟩
  | .hbm, ⟨59, _⟩ => ⟨S_, .f32⟩
  | .hbm, ⟨60, _⟩ => ⟨S16x2x2048x1, .f32⟩
  | .hbm, ⟨61, _⟩ => ⟨S16x2x2048x1, .f32⟩
  | .hbm, ⟨62, _⟩ => ⟨S16x2x2048x64, .f32⟩
  | .hbm, ⟨63, _⟩ => ⟨S2x16x64x2048, .f32⟩
  | .hbm, ⟨64, _⟩ => ⟨S2x2048x16x64, .f32⟩
  | .hbm, ⟨65, _⟩ => ⟨S2x2048x1024, .f32⟩
  | .hbm, ⟨66, _⟩ => ⟨S2x2048x1024, .f32⟩
  | .hbm, ⟨67, _⟩ => ⟨S2x2048x16x64, .f32⟩
  | .hbm, ⟨68, _⟩ => ⟨S2x16x64x2048, .f32⟩
  | .hbm, ⟨69, _⟩ => ⟨S2x16x2048x2048, .f32⟩
  | .hbm, ⟨70, _⟩ => ⟨S16x2x2048x2048, .f32⟩
  | .hbm, ⟨71, _⟩ => ⟨S2x16x64x2048, .f32⟩
  | .hbm, ⟨72, _⟩ => ⟨S16x2x2048x64, .f32⟩
  | .hbm, ⟨73, _⟩ => ⟨S16x2x2048x64, .bf16⟩
  | .hbm, ⟨74, _⟩ => ⟨S16x2x2048x2048, .f32⟩
  | .hbm, ⟨75, _⟩ => ⟨S16x2x2048x2048, .f32⟩
  | .hbm, ⟨76, _⟩ => ⟨S16x2x2048x2048, .f32⟩
  | .hbm, ⟨77, _⟩ => ⟨S_, .f32⟩
  | .hbm, ⟨78, _⟩ => ⟨S16x2x2048, .f32⟩
  | .hbm, ⟨79, _⟩ => ⟨S16x2x2048x1, .f32⟩
  | .hbm, ⟨80, _⟩ => ⟨S16x2x2048x1, .f32⟩
  | .hbm, ⟨81, _⟩ => ⟨S16x2x2048x2048, .f32⟩
  | .hbm, ⟨82, _⟩ => ⟨S16x2x2048x2048, .f32⟩
  | .hbm, ⟨83, _⟩ => ⟨S_, .f32⟩
  | .hbm, ⟨84, _⟩ => ⟨S16x2x2048, .f32⟩
  | .hbm, ⟨85, _⟩ => ⟨S16x2x2048x2048, .f32⟩
  | .hbm, ⟨86, _⟩ => ⟨S16x2x2048x2048, .f32⟩
  | .hbm, ⟨87, _⟩ => ⟨S16x2x2048x2048, .f32⟩
  | .hbm, ⟨88, _⟩ => ⟨S_, .f32⟩
  | .hbm, ⟨89, _⟩ => ⟨S16x2x2048x2048, .f32⟩
  | .hbm, ⟨90, _⟩ => ⟨S16x2x2048x2048, .f32⟩
  | .hbm, ⟨91, _⟩ => ⟨S_, .f32⟩
  | .hbm, ⟨92, _⟩ => ⟨S16x2x2048x2048, .f32⟩
  | .hbm, ⟨93, _⟩ => ⟨S16x2x2048x2048, .f32⟩
  | .hbm, ⟨94, _⟩ => ⟨S16x2x2048x96, .f32⟩
  | .hbm, ⟨95, _⟩ => ⟨S16x2x2048x96, .f32⟩
  | .hbm, ⟨96, _⟩ => ⟨S16x2x2048x96, .bf16⟩
  | .hbm, ⟨97, _⟩ => ⟨S16x2x2048x96, .bf16⟩
  | _, _ => ⟨S16x2x2048x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Ffn.lean ====
abbrev S4096x1024 : Shape := ⟨2, ![4096, 1024]⟩
abbrev S4x1024x1408 : Shape := ⟨3, ![4, 1024, 1408]⟩
abbrev S1x2816x1024 : Shape := ⟨3, ![1, 2816, 1024]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩
abbrev S2x2048x2816 : Shape := ⟨3, ![2, 2048, 2816]⟩
abbrev S512x2816 : Shape := ⟨2, ![512, 2816]⟩
abbrev S2816x1024 : Shape := ⟨2, ![2816, 1024]⟩
abbrev S4096x256 : Shape := ⟨2, ![4096, 256]⟩
abbrev S1x256x1024 : Shape := ⟨3, ![1, 256, 1024]⟩
abbrev S256x1024 : Shape := ⟨2, ![256, 1024]⟩
abbrev S2x2048x5632 : Shape := ⟨3, ![2, 2048, 5632]⟩
abbrev S1x512x2816 : Shape := ⟨3, ![1, 512, 2816]⟩
abbrev S1x512x5632 : Shape := ⟨3, ![1, 512, 5632]⟩
abbrev S4096x5632 : Shape := ⟨2, ![4096, 5632]⟩
abbrev S512x5632 : Shape := ⟨2, ![512, 5632]⟩
abbrev S4096x512 : Shape := ⟨2, ![4096, 512]⟩
abbrev S4096x1408 : Shape := ⟨2, ![4096, 1408]⟩
abbrev S1x512x1408 : Shape := ⟨3, ![1, 512, 1408]⟩

abbrev nBuf : Space → Nat
  | .hbm => 21
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S1x2816x1024, .bf16⟩
  | .hbm, ⟨3, _⟩ => ⟨S4096x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S2x2048x2816, .bf16⟩
  | .hbm, ⟨8, _⟩ => ⟨S2x2048x2816, .bf16⟩
  | .hbm, ⟨9, _⟩ => ⟨S2x2048x2816, .bf16⟩
  | .hbm, ⟨10, _⟩ => ⟨S4096x2816, .bf16⟩
  | .hbm, ⟨11, _⟩ => ⟨S4096x1024, .f32⟩
  | .hbm, ⟨12, _⟩ => ⟨S4096x2816, .f32⟩
  | .hbm, ⟨13, _⟩ => ⟨S2x2048x2816, .f32⟩
  | .hbm, ⟨14, _⟩ => ⟨S4096x2816, .bf16⟩
  | .hbm, ⟨15, _⟩ => ⟨S1x2816x1024, .bf16⟩
  | .hbm, ⟨16, _⟩ => ⟨S2x2048x5632, .bf16⟩
  | .hbm, ⟨17, _⟩ => ⟨S4096x5632, .bf16⟩
  | .hbm, ⟨18, _⟩ => ⟨S4096x1024, .f32⟩
  | .hbm, ⟨19, _⟩ => ⟨S4096x5632, .bf16⟩
  | .hbm, ⟨20, _⟩ => ⟨S4x1024x1408, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x2816, .bf16⟩
  | .local _ .vmem, ⟨13, _⟩ => ⟨S512x2816, .bf16⟩
  | .local _ .vmem, ⟨14, _⟩ => ⟨S1x2816x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x2816x1024, .bf16⟩
  | .local _ .vmem, ⟨20, _⟩ => ⟨S512x2816, .f32⟩
  | .local _ .vmem, ⟨21, _⟩ => ⟨S512x2816, .f32⟩
  | .local _ .vmem, ⟨22, _⟩ => ⟨S4096x256, .bf16⟩
  | .local _ .vmem, ⟨23, _⟩ => ⟨S4096x256, .bf16⟩
  | .local _ .vmem, ⟨24, _⟩ => ⟨S4096x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x512x2816, .bf16⟩
  | .local _ .vmem, ⟨28, _⟩ => ⟨S1x512x2816, .bf16⟩
  | .local _ .vmem, ⟨29, _⟩ => ⟨S1x512x2816, .bf16⟩
  | .local _ .vmem, ⟨30, _⟩ => ⟨S1x512x2816, .bf16⟩
  | .local _ .vmem, ⟨31, _⟩ => ⟨S1x512x2816, .f32⟩
  | .local _ .vmem, ⟨32, _⟩ => ⟨S1x512x2816, .f32⟩
  | .local _ .vmem, ⟨33, _⟩ => ⟨S1x512x5632, .bf16⟩
  | .local _ .vmem, ⟨34, _⟩ => ⟨S1x512x5632, .bf16⟩
  | .local _ .vmem, ⟨35, _⟩ => ⟨S512x5632, .bf16⟩
  | .local _ .vmem, ⟨36, _⟩ => ⟨S512x5632, .bf16⟩
  | .local _ .vmem, ⟨37, _⟩ => ⟨S4x1024x1408, .bf16⟩
  | .local _ .vmem, ⟨38, _⟩ => ⟨S512x1024, .f32⟩
  | .local _ .vmem, ⟨39, _⟩ => ⟨S512x1024, .f32⟩
  | .local _ .vmem, ⟨40, _⟩ => ⟨S4096x512, .bf16⟩
  | .local _ .vmem, ⟨41, _⟩ => ⟨S4096x512, .bf16⟩
  | .local _ .vmem, ⟨42, _⟩ => ⟨S4096x1408, .bf16⟩
  | .local _ .vmem, ⟨43, _⟩ => ⟨S4096x1408, .bf16⟩
  | .local _ .vmem, ⟨44, _⟩ => ⟨S1x512x1408, .bf16⟩
  | .local _ .vmem, ⟨45, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2816 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1x256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x512x2816 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x512x5632 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x1024x1408 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![4, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage6_0 : Fin 2 → Memref sig .tc .vmem S4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S4096x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== FfnReferenceIdeal.lean ====
abbrev S4096x1024 : Shape := ⟨2, ![4096, 1024]⟩
abbrev S4x1024x1408 : Shape := ⟨3, ![4, 1024, 1408]⟩
abbrev S1x2816x1024 : Shape := ⟨3, ![1, 2816, 1024]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S5632x1024 : Shape := ⟨2, ![5632, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S1x2816x1024, .bf16⟩
  | .hbm, ⟨3, _⟩ => ⟨S4096x1024, .bf16⟩
  | .hbm, ⟨4, _⟩ => ⟨S4096x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S2816x1024, .bf16⟩
  | .hbm, ⟨26, _⟩ => ⟨S2816x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S2816x1024, .f32⟩
  | .hbm, ⟨31, _⟩ => ⟨S4096x2816, .f32⟩
  | .hbm, ⟨32, _⟩ => ⟨S2816x1024, .bf16⟩
  | .hbm, ⟨33, _⟩ => ⟨S1x2816x1024, .bf16⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x5632, .f32⟩
  | .hbm, ⟨41, _⟩ => ⟨S5632x1024, .f32⟩
  | .hbm, ⟨42, _⟩ => ⟨S1024x5632, .f32⟩
  | .hbm, ⟨43, _⟩ => ⟨S4096x1024, .f32⟩
  | .hbm, ⟨44, _⟩ => ⟨S1024x4x1408, .f32⟩
  | .hbm, ⟨45, _⟩ => ⟨S4x1024x1408, .f32⟩
  | .hbm, ⟨46, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Hgrn.lean ====
abbrev S4096x1024 : Shape := ⟨2, ![4096, 1024]⟩
abbrev S4x1024x1024 : Shape := ⟨3, ![4, 1024, 1024]⟩
abbrev S4096x4096 : Shape := ⟨2, ![4096, 4096]⟩
abbrev S1x1024x1024 : Shape := ⟨3, ![1, 1024, 1024]⟩
abbrev S512x1024 : Shape := ⟨2, ![512, 1024]⟩
abbrev S512x4096 : Shape := ⟨2, ![512, 4096]⟩
abbrev S1024x1024 : Shape := ⟨2, ![1024, 1024]⟩
abbrev S4096x512 : Shape := ⟨2, ![4096, 512]⟩
abbrev S1x512x1024 : Shape := ⟨3, ![1, 512, 1024]⟩

abbrev nBuf : Space → Nat
  | .hbm => 12
  | .vmem => 31
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x1024, .bf16⟩
  | .hbm, ⟨4, _⟩ => ⟨S1x1024x1024, .bf16⟩
  | .hbm, ⟨5, _⟩ => ⟨S4096x1024, .bf16⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S1x1024x1024, .bf16⟩
  | .hbm, ⟨10, _⟩ => ⟨S4096x1024, .f32⟩
  | .hbm, ⟨11, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .f32⟩
  | .local _ .vmem, ⟨4, _⟩ => ⟨S512x4096, .f32⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S4096x512, .bf16⟩
  | .local _ .vmem, ⟨16, _⟩ => ⟨S4096x512, .bf16⟩
  | .local _ .vmem, ⟨17, _⟩ => ⟨S4096x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S512x4096, .bf16⟩
  | .local _ .vmem, ⟨21, _⟩ => ⟨S512x4096, .bf16⟩
  | .local _ .vmem, ⟨22, _⟩ => ⟨S4x1024x1024, .bf16⟩
  | .local _ .vmem, ⟨23, _⟩ => ⟨S512x1024, .f32⟩
  | .local _ .vmem, ⟨24, _⟩ => ⟨S512x1024, .f32⟩
  | .local _ .vmem, ⟨25, _⟩ => ⟨S4096x512, .bf16⟩
  | .local _ .vmem, ⟨26, _⟩ => ⟨S4096x512, .bf16⟩
  | .local _ .vmem, ⟨27, _⟩ => ⟨S4096x1024, .bf16⟩
  | .local _ .vmem, ⟨28, _⟩ => ⟨S4096x1024, .bf16⟩
  | .local _ .vmem, ⟨29, _⟩ => ⟨S1x512x1024, .bf16⟩
  | .local _ .vmem, ⟨30, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== HgrnReferenceIdeal.lean ====
abbrev S4096x1024 : Shape := ⟨2, ![4096, 1024]⟩
abbrev S4x1024x1024 : Shape := ⟨3, ![4, 1024, 1024]⟩
abbrev S4096x4096 : Shape := ⟨2, ![4096, 4096]⟩
abbrev S1x1024x1024 : Shape := ⟨3, ![1, 1024, 1024]⟩
abbrev S1024x4x1024 : Shape := ⟨3, ![1024, 4, 1024]⟩
abbrev S1024x4096 : Shape := ⟨2, ![1024, 4096]⟩
abbrev S1024x1x1024 : Shape := ⟨3, ![1024, 1, 1024]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x1024, .bf16⟩
  | .hbm, ⟨4, _⟩ => ⟨S1x1024x1024, .bf16⟩
  | .hbm, ⟨5, _⟩ => ⟨S4096x1024, .bf16⟩
  | .hbm, ⟨6, _⟩ => ⟨S4096x1024, .f32⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S4096x4096, .f32⟩
  | .hbm, ⟨11, _⟩ => ⟨S4096x1024, .f32⟩
  | .hbm, ⟨12, _⟩ => ⟨S1x1024x1024, .f32⟩
  | .hbm, ⟨13, _⟩ => ⟨S1024x1x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S1024x4x1024, .f32⟩
  | .hbm, ⟨21, _⟩ => ⟨S4x1024x1024, .f32⟩
  | .hbm, ⟨22, _⟩ => ⟨S4x1024x1024, .bf16⟩
  | .hbm, ⟨23, _⟩ => ⟨S4096x1024, .f32⟩
  | .hbm, ⟨24, _⟩ => ⟨S1024x1024, .f32⟩
  | .hbm, ⟨25, _⟩ => ⟨S1024x1024, .f32⟩
  | .hbm, ⟨26, _⟩ => ⟨S4096x1024, .f32⟩
  | .hbm, ⟨27, _⟩ => ⟨S1024x1x1024, .f32⟩
  | .hbm, ⟨28, _⟩ => ⟨S1x1024x1024, .f32⟩
  | .hbm, ⟨29, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Mla.lean ====
abbrev S4096x1024 : Shape := ⟨2, ![4096, 1024]⟩
abbrev S1x1024x1056 : Shape := ⟨3, ![1, 1024, 1056]⟩
abbrev S4096x1056 : Shape := ⟨2, ![4096, 1056]⟩
abbrev S4096x768 : Shape := ⟨2, ![4096, 768]⟩
abbrev S4x768x384 : Shape := ⟨3, ![4, 768, 384]⟩
abbrev S4096x1536 : Shape := ⟨2, ![4096, 1536]⟩
abbrev S4096x256 : Shape := ⟨2, ![4096, 256]⟩
abbrev S4x256x512 : Shape := ⟨3, ![4, 256, 512]⟩
abbrev S4096x2048 : Shape := ⟨2, ![4096, 2048]⟩
abbrev S1x1024x1024 : Shape := ⟨3, ![1, 1024, 1024]⟩
abbrev S512x1024 : Shape := ⟨2, ![512, 1024]⟩
abbrev S512x1056 : Shape := ⟨2, ![512, 1056]⟩
abbrev S1024x1056 : Shape := ⟨2, ![1024, 1056]⟩
abbrev S512x768 : Shape := ⟨2, ![512, 768]⟩
abbrev S512x1536 : Shape := ⟨2, ![512, 1536]⟩
abbrev S1x768x384 : Shape := ⟨3, ![1, 768, 384]⟩
abbrev S768x384 : Shape := ⟨2, ![768, 384]⟩
abbrev S512x384 : Shape := ⟨2, ![512, 384]⟩
abbrev S512x256 : Shape := ⟨2, ![512, 256]⟩
abbrev S512x2048 : Shape := ⟨2, ![512, 2048]⟩
abbrev S1x256x512 : Shape := ⟨3, ![1, 256, 512]⟩
abbrev S256x512 : Shape := ⟨2, ![256, 512]⟩
abbrev S512x512 : Shape := ⟨2, ![512, 512]⟩
abbrev S1024x1024 : Shape := ⟨2, ![1024, 1024]⟩
abbrev S4096x512 : Shape := ⟨2, ![4096, 512]⟩
abbrev S1x512x1024 : Shape := ⟨3, ![1, 512, 1024]⟩
abbrev S4096x384 : Shape := ⟨2, ![4096, 384]⟩
abbrev S1x384x384 : Shape := ⟨3, ![1, 384, 384]⟩
abbrev S384x384 : Shape := ⟨2, ![384, 384]⟩
abbrev S1x512x1056 : Shape := ⟨3, ![1, 512, 1056]⟩

abbrev nBuf : Space → Nat
  | .hbm => 24
  | .vmem => 61
  | .smem => 0
  | _ => 0

abbrev bufTy : (tb : Table) → Fin (tcTables nBuf tb) → BufTy
  | .hbm, ⟨0, _⟩ => ⟨S4096x1024, .bf16⟩
  | .hbm, ⟨1, _⟩ => ⟨S1x1024x1056, .bf16⟩
  | .hbm, ⟨2, _⟩ => ⟨S4096x1056, .bf16⟩
  | .hbm, ⟨3, _⟩ => ⟨S4096x768, .bf16⟩
  | .hbm, ⟨4, _⟩ => ⟨S4x768x384, .bf16⟩
  | .hbm, ⟨5, _⟩ => ⟨S4096x1536, .bf16⟩
  | .hbm, ⟨6, _⟩ => ⟨S4096x256, .bf16⟩
  | .hbm, ⟨7, _⟩ => ⟨S4x256x512, .bf16⟩
  | .hbm, ⟨8, _⟩ => ⟨S4096x2048, .bf16⟩
  | .hbm, ⟨9, _⟩ => ⟨S4096x1024, .bf16⟩
  | .hbm, ⟨10, _⟩ => ⟨S1x1024x1024, .bf16⟩
  | .hbm, ⟨11, _⟩ => ⟨S4096x1024, .bf16⟩
  | .hbm, ⟨12, _⟩ => ⟨S4096x1056, .f32⟩
  | .hbm, ⟨13, _⟩ => ⟨S4096x1536, .f32⟩
  | .hbm, ⟨14, _⟩ => ⟨S4096x2048, .f32⟩
  | .hbm, ⟨15, _⟩ => ⟨S4096x1024, .f32⟩
  | .hbm, ⟨16, _⟩ => ⟨S4096x1024, .bf16⟩
  | .hbm, ⟨17, _⟩ => ⟨S1x1024x1024, .bf16⟩
  | .hbm, ⟨18, _⟩ => ⟨S4096x768, .f32⟩
  | .hbm, ⟨19, _⟩ => ⟨S4x768x384, .bf16⟩
  | .hbm, ⟨20, _⟩ => ⟨S4096x256, .f32⟩
  | .hbm, ⟨21, _⟩ => ⟨S4x256x512, .bf16⟩
  | .hbm, ⟨22, _⟩ => ⟨S4096x1024, .f32⟩
  | .hbm, ⟨23, _⟩ => ⟨S1x1024x1056, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1056, .bf16⟩
  | .local _ .vmem, ⟨3, _⟩ => ⟨S512x1056, .f32⟩
  | .local _ .vmem, ⟨4, _⟩ => ⟨S512x1056, .f32⟩
  | .local _ .vmem, ⟨5, _⟩ => ⟨S512x768, .bf16⟩
  | .local _ .vmem, ⟨6, _⟩ => ⟨S512x768, .bf16⟩
  | .local _ .vmem, ⟨7, _⟩ => ⟨S4x768x384, .bf16⟩
  | .local _ .vmem, ⟨8, _⟩ => ⟨S512x1536, .f32⟩
  | .local _ .vmem, ⟨9, _⟩ => ⟨S512x1536, .f32⟩
  | .local _ .vmem, ⟨10, _⟩ => ⟨S512x256, .bf16⟩
  | .local _ .vmem, ⟨11, _⟩ => ⟨S512x256, .bf16⟩
  | .local _ .vmem, ⟨12, _⟩ => ⟨S4x256x512, .bf16⟩
  | .local _ .vmem, ⟨13, _⟩ => ⟨S512x2048, .f32⟩
  | .local _ .vmem, ⟨14, _⟩ => ⟨S512x2048, .f32⟩
  | .local _ .vmem, ⟨15, _⟩ => ⟨S512x1024, .bf16⟩
  | .local _ .vmem, ⟨16, _⟩ => ⟨S512x1024, .bf16⟩
  | .local _ .vmem, ⟨17, _⟩ => ⟨S1x1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024x1024, .bf16⟩
  | .local _ .vmem, ⟨23, _⟩ => ⟨S512x1024, .bf16⟩
  | .local _ .vmem, ⟨24, _⟩ => ⟨S512x1024, .bf16⟩
  | .local _ .vmem, ⟨25, _⟩ => ⟨S4096x512, .bf16⟩
  | .local _ .vmem, ⟨26, _⟩ => ⟨S4096x512, .bf16⟩
  | .local _ .vmem, ⟨27, _⟩ => ⟨S4096x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S512x1536, .bf16⟩
  | .local _ .vmem, ⟨31, _⟩ => ⟨S512x1536, .bf16⟩
  | .local _ .vmem, ⟨32, _⟩ => ⟨S4x768x384, .bf16⟩
  | .local _ .vmem, ⟨33, _⟩ => ⟨S512x768, .f32⟩
  | .local _ .vmem, ⟨34, _⟩ => ⟨S512x768, .f32⟩
  | .local _ .vmem, ⟨35, _⟩ => ⟨S4096x384, .bf16⟩
  | .local _ .vmem, ⟨36, _⟩ => ⟨S4096x384, .bf16⟩
  | .local _ .vmem, ⟨37, _⟩ => ⟨S4096x384, .bf16⟩
  | .local _ .vmem, ⟨38, _⟩ => ⟨S4096x384, .bf16⟩
  | .local _ .vmem, ⟨39, _⟩ => ⟨S1x384x384, .bf16⟩
  | .local _ .vmem, ⟨40, _⟩ => ⟨S1x384x384, .bf16⟩
  | .local _ .vmem, ⟨41, _⟩ => ⟨S512x2048, .bf16⟩
  | .local _ .vmem, ⟨42, _⟩ => ⟨S512x2048, .bf16⟩
  | .local _ .vmem, ⟨43, _⟩ => ⟨S4x256x512, .bf16⟩
  | .local _ .vmem, ⟨44, _⟩ => ⟨S512x256, .f32⟩
  | .local _ .vmem, ⟨45, _⟩ => ⟨S512x256, .f32⟩
  | .local _ .vmem, ⟨46, _⟩ => ⟨S4096x256, .bf16⟩
  | .local _ .vmem, ⟨47, _⟩ => ⟨S4096x512, .bf16⟩
  | .local _ .vmem, ⟨48, _⟩ => ⟨S4096x512, .bf16⟩
  | .local _ .vmem, ⟨49, _⟩ => ⟨S1x256x512, .bf16⟩
  | .local _ .vmem, ⟨50, _⟩ => ⟨S1x256x512, .bf16⟩
  | .local _ .vmem, ⟨51, _⟩ => ⟨S512x1056, .bf16⟩
  | .local _ .vmem, ⟨52, _⟩ => ⟨S512x1056, .bf16⟩
  | .local _ .vmem, ⟨53, _⟩ => ⟨S1x1024x1056, .bf16⟩
  | .local _ .vmem, ⟨54, _⟩ => ⟨S512x1024, .f32⟩
  | .local _ .vmem, ⟨55, _⟩ => ⟨S512x1024, .f32⟩
  | .local _ .vmem, ⟨56, _⟩ => ⟨S4096x512, .bf16⟩
  | .local _ .vmem, ⟨57, _⟩ => ⟨S4096x512, .bf16⟩
  | .local _ .vmem, ⟨58, _⟩ => ⟨S4096x1056, .bf16⟩
  | .local _ .vmem, ⟨59, _⟩ => ⟨S1x512x1056, .bf16⟩
  | .local _ .vmem, ⟨60, _⟩ => ⟨S1x512x1056, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg0_1 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg2_1 : Ref sig .tc := ⟨.vmem, 45, rfl⟩
abbrev cc9_stg0_0 : Ref sig .tc := ⟨.vmem, 46, rfl⟩
abbrev cc9_stg1_0 : Ref sig .tc := ⟨.vmem, 47, rfl⟩
abbrev cc9_stg1_1 : Ref sig .tc := ⟨.vmem, 48, rfl⟩
abbrev cc9_stg2_0 : Ref sig .tc := ⟨.vmem, 49, rfl⟩
abbrev cc9_stg2_1 : Ref sig .tc := ⟨.vmem, 50, rfl⟩
abbrev cc10_stg0_0 : Ref sig .tc := ⟨.vmem, 51, rfl⟩
abbrev cc10_stg0_1 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg2_1 : Ref sig .tc := ⟨.vmem, 55, rfl⟩
abbrev cc11_stg0_0 : Ref sig .tc := ⟨.vmem, 56, rfl⟩
abbrev cc11_stg0_1 : Ref sig .tc := ⟨.vmem, 57, rfl⟩
abbrev cc11_stg1_0 : Ref sig .tc := ⟨.vmem, 58, rfl⟩
abbrev cc11_stg2_0 : Ref sig .tc := ⟨.vmem, 59, rfl⟩
abbrev cc11_stg2_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem1_1 : DmaSem sig := 38
abbrev cc7_sem2_0 : DmaSem sig := 39
abbrev cc7_sem2_1 : DmaSem sig := 40
abbrev cc8_sem0_0 : DmaSem sig := 41
abbrev cc8_sem0_1 : DmaSem sig := 42
abbrev cc8_sem1_0 : DmaSem sig := 43
abbrev cc8_sem2_0 : DmaSem sig := 44
abbrev cc8_sem2_1 : DmaSem sig := 45
abbrev cc9_sem0_0 : DmaSem sig := 46
abbrev cc9_sem1_0 : DmaSem sig := 47
abbrev cc9_sem1_1 : DmaSem sig := 48
abbrev cc9_sem2_0 : DmaSem sig := 49
abbrev cc9_sem2_1 : DmaSem sig := 50
abbrev cc10_sem0_0 : DmaSem sig := 51
abbrev cc10_sem0_1 : DmaSem sig := 52
abbrev cc10_sem1_0 : DmaSem sig := 53
abbrev cc10_sem2_0 : DmaSem sig := 54
abbrev cc10_sem2_1 : DmaSem sig := 55
abbrev cc11_sem0_0 : DmaSem sig := 56
abbrev cc11_sem0_1 : DmaSem sig := 57
abbrev cc11_sem1_0 : DmaSem sig := 58
abbrev cc11_sem2_0 : DmaSem sig := 59
abbrev cc11_sem2_1 : DmaSem sig := 60

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1056 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1056 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x768x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x256x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S1x512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1536 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4x768x384 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x768 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage7_0 : Fin 2 → Memref sig .tc .vmem S4096x384 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S4096x384 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x384x384 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S4x256x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![4, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_2 (i : grid9.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage9_0 : Fin 1 → Memref sig .tc .vmem S4096x256 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, true]

abbrev stage9_1 : Fin 2 → Memref sig .tc .vmem S4096x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S1x256x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x1056 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1024x1056 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![1, 2], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_2 (i : grid11.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage11_0 : Fin 2 → Memref sig .tc .vmem S4096x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 1 → Memref sig .tc .vmem S4096x1056 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S1x512x1056 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]
-- ==== MlaReferenceIdeal.lean ====
abbrev S4096x1024 : Shape := ⟨2, ![4096, 1024]⟩
abbrev S1x1024x1056 : Shape := ⟨3, ![1, 1024, 1056]⟩
abbrev S4096x1056 : Shape := ⟨2, ![4096, 1056]⟩
abbrev S4096x768 : Shape := ⟨2, ![4096, 768]⟩
abbrev S4x768x384 : Shape := ⟨3, ![4, 768, 384]⟩
abbrev S4096x1536 : Shape := ⟨2, ![4096, 1536]⟩
abbrev S4096x256 : Shape := ⟨2, ![4096, 256]⟩
abbrev S4x256x512 : Shape := ⟨3, ![4, 256, 512]⟩
abbrev S4096x2048 : Shape := ⟨2, ![4096, 2048]⟩
abbrev S1x1024x1024 : Shape := ⟨3, ![1, 1024, 1024]⟩
abbrev S1024x1x1056 : Shape := ⟨3, ![1024, 1, 1056]⟩
abbrev S1024x1056 : Shape := ⟨2, ![1024, 1056]⟩
abbrev S768x4x384 : Shape := ⟨3, ![768, 4, 384]⟩
abbrev S768x1536 : Shape := ⟨2, ![768, 1536]⟩
abbrev S256x4x512 : Shape := ⟨3, ![256, 4, 512]⟩
abbrev S256x2048 : Shape := ⟨2, ![256, 2048]⟩
abbrev S1024x1x1024 : Shape := ⟨3, ![1024, 1, 1024]⟩
abbrev S1024x1024 : Shape := ⟨2, ![1024, 1024]⟩
abbrev S1056x1024 : Shape := ⟨2, ![1056, 1024]⟩
abbrev S1536x768 : Shape := ⟨2, ![1536, 768]⟩
abbrev S2048x256 : Shape := ⟨2, ![2048, 256]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1056, .bf16⟩
  | .hbm, ⟨2, _⟩ => ⟨S4096x1056, .bf16⟩
  | .hbm, ⟨3, _⟩ => ⟨S4096x768, .bf16⟩
  | .hbm, ⟨4, _⟩ => ⟨S4x768x384, .bf16⟩
  | .hbm, ⟨5, _⟩ => ⟨S4096x1536, .bf16⟩
  | .hbm, ⟨6, _⟩ => ⟨S4096x256, .bf16⟩
  | .hbm, ⟨7, _⟩ => ⟨S4x256x512, .bf16⟩
  | .hbm, ⟨8, _⟩ => ⟨S4096x2048, .bf16⟩
  | .hbm, ⟨9, _⟩ => ⟨S4096x1024, .bf16⟩
  | .hbm, ⟨10, _⟩ => ⟨S1x1024x1024, .bf16⟩
  | .hbm, ⟨11, _⟩ => ⟨S4096x1024, .bf16⟩
  | .hbm, ⟨12, _⟩ => ⟨S4096x1024, .f32⟩
  | .hbm, ⟨13, _⟩ => ⟨S1x1024x1056, .f32⟩
  | .hbm, ⟨14, _⟩ => ⟨S1024x1x1056, .f32⟩
  | .hbm, ⟨15, _⟩ => ⟨S1024x1056, .f32⟩
  | .hbm, ⟨16, _⟩ => ⟨S4096x1056, .f32⟩
  | .hbm, ⟨17, _⟩ => ⟨S4096x768, .f32⟩
  | .hbm, ⟨18, _⟩ => ⟨S4x768x384, .f32⟩
  | .hbm, ⟨19, _⟩ => ⟨S768x4x384, .f32⟩
  | .hbm, ⟨20, _⟩ => ⟨S768x1536, .f32⟩
  | .hbm, ⟨21, _⟩ => ⟨S4096x1536, .f32⟩
  | .hbm, ⟨22, _⟩ => ⟨S4096x256, .f32⟩
  | .hbm, ⟨23, _⟩ => ⟨S4x256x512, .f32⟩
  | .hbm, ⟨24, _⟩ => ⟨S256x4x512, .f32⟩
  | .hbm, ⟨25, _⟩ => ⟨S256x2048, .f32⟩
  | .hbm, ⟨26, _⟩ => ⟨S4096x2048, .f32⟩
  | .hbm, ⟨27, _⟩ => ⟨S4096x1024, .f32⟩
  | .hbm, ⟨28, _⟩ => ⟨S1x1024x1024, .f32⟩
  | .hbm, ⟨29, _⟩ => ⟨S1024x1x1024, .f32⟩
  | .hbm, ⟨30, _⟩ => ⟨S1024x1024, .f32⟩
  | .hbm, ⟨31, _⟩ => ⟨S4096x1024, .f32⟩
  | .hbm, ⟨32, _⟩ => ⟨S4096x1056, .f32⟩
  | .hbm, ⟨33, _⟩ => ⟨S1056x1024, .f32⟩
  | .hbm, ⟨34, _⟩ => ⟨S1024x1056, .f32⟩
  | .hbm, ⟨35, _⟩ => ⟨S4096x1024, .f32⟩
  | .hbm, ⟨36, _⟩ => ⟨S1024x1x1056, .f32⟩
  | .hbm, ⟨37, _⟩ => ⟨S1x1024x1056, .f32⟩
  | .hbm, ⟨38, _⟩ => ⟨S1x1024x1056, .bf16⟩
  | .hbm, ⟨39, _⟩ => ⟨S4096x1536, .f32⟩
  | .hbm, ⟨40, _⟩ => ⟨S1536x768, .f32⟩
  | .hbm, ⟨41, _⟩ => ⟨S768x1536, .f32⟩
  | .hbm, ⟨42, _⟩ => ⟨S4096x768, .f32⟩
  | .hbm, ⟨43, _⟩ => ⟨S768x4x384, .f32⟩
  | .hbm, ⟨44, _⟩ => ⟨S4x768x384, .f32⟩
  | .hbm, ⟨45, _⟩ => ⟨S4x768x384, .bf16⟩
  | .hbm, ⟨46, _⟩ => ⟨S4096x2048, .f32⟩
  | .hbm, ⟨47, _⟩ => ⟨S2048x256, .f32⟩
  | .hbm, ⟨48, _⟩ => ⟨S256x2048, .f32⟩
  | .hbm, ⟨49, _⟩ => ⟨S4096x256, .f32⟩
  | .hbm, ⟨50, _⟩ => ⟨S256x4x512, .f32⟩
  | .hbm, ⟨51, _⟩ => ⟨S4x256x512, .f32⟩
  | .hbm, ⟨52, _⟩ => ⟨S4x256x512, .bf16⟩
  | .hbm, ⟨53, _⟩ => ⟨S4096x1024, .f32⟩
  | .hbm, ⟨54, _⟩ => ⟨S1024x1024, .f32⟩
  | .hbm, ⟨55, _⟩ => ⟨S1024x1024, .f32⟩
  | .hbm, ⟨56, _⟩ => ⟨S4096x1024, .f32⟩
  | .hbm, ⟨57, _⟩ => ⟨S1024x1x1024, .f32⟩
  | .hbm, ⟨58, _⟩ => ⟨S1x1024x1024, .f32⟩
  | .hbm, ⟨59, _⟩ => ⟨S1x1024x1024, .bf16⟩
  | .hbm, ⟨60, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Adam.lean ====
abbrev S2048x264 : Shape := ⟨2, ![2048, 264]⟩
abbrev S1536x384 : Shape := ⟨2, ![1536, 384]⟩
abbrev S512x512 : Shape := ⟨2, ![512, 512]⟩
abbrev S512x1024 : Shape := ⟨2, ![512, 1024]⟩
abbrev S2048x1024 : Shape := ⟨2, ![2048, 1024]⟩
abbrev S4096x1408 : Shape := ⟨2, ![4096, 1408]⟩
abbrev S2816x1024 : Shape := ⟨2, ![2816, 1024]⟩
abbrev S512x264 : Shape := ⟨2, ![512, 264]⟩
abbrev S512x384 : Shape := ⟨2, ![512, 384]⟩
abbrev S256x1408 : Shape := ⟨2, ![256, 1408]⟩
abbrev S256x1024 : Shape := ⟨2, ![256, 1024]⟩

abbrev nBuf : Space → Nat
  | .hbm => 72
  | .vmem => 117
  | .smem => 0
  | _ => 0

abbrev bufTy : (tb : Table) → Fin (tcTables nBuf tb) → BufTy
  | .hbm, ⟨0, _⟩ => ⟨S2048x264, .f32⟩
  | .hbm, ⟨1, _⟩ => ⟨S2048x264, .f32⟩
  | .hbm, ⟨2, _⟩ => ⟨S2048x264, .f32⟩
  | .hbm, ⟨3, _⟩ => ⟨S2048x264, .f32⟩
  | .hbm, ⟨4, _⟩ => ⟨S2048x264, .f32⟩
  | .hbm, ⟨5, _⟩ => ⟨S1536x384, .f32⟩
  | .hbm, ⟨6, _⟩ => ⟨S1536x384, .f32⟩
  | .hbm, ⟨7, _⟩ => ⟨S1536x384, .f32⟩
  | .hbm, ⟨8, _⟩ => ⟨S1536x384, .f32⟩
  | .hbm, ⟨9, _⟩ => ⟨S1536x384, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S4096x1408, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S4096x1408, .f32⟩
  | .hbm, ⟨35, _⟩ => ⟨S2816x1024, .f32⟩
  | .hbm, ⟨36, _⟩ => ⟨S2816x1024, .f32⟩
  | .hbm, ⟨37, _⟩ => ⟨S2816x1024, .f32⟩
  | .hbm, ⟨38, _⟩ => ⟨S2816x1024, .f32⟩
  | .hbm, ⟨39, _⟩ => ⟨S2816x1024, .f32⟩
  | .hbm, ⟨40, _⟩ => ⟨S2048x264, .f32⟩
  | .hbm, ⟨41, _⟩ => ⟨S2048x264, .f32⟩
  | .hbm, ⟨42, _⟩ => ⟨S2048x264, .f32⟩
  | .hbm, ⟨43, _⟩ => ⟨S2048x264, .f32⟩
  | .hbm, ⟨44, _⟩ => ⟨S1536x384, .f32⟩
  | .hbm, ⟨45, _⟩ => ⟨S1536x384, .f32⟩
  | .hbm, ⟨46, _⟩ => ⟨S1536x384, .f32⟩
  | .hbm, ⟨47, _⟩ => ⟨S1536x384, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S512x1024, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S512x1024, .f32⟩
  | .hbm, ⟨61, _⟩ => ⟨S512x1024, .f32⟩
  | .hbm, ⟨62, _⟩ => ⟨S512x1024, .f32⟩
  | .hbm, ⟨63, _⟩ => ⟨S512x1024, .f32⟩
  | .hbm, ⟨64, _⟩ => ⟨S4096x1408, .f32⟩
  | .hbm, ⟨65, _⟩ => ⟨S4096x1408, .f32⟩
  | .hbm, ⟨66, _⟩ => ⟨S4096x1408, .f32⟩
  | .hbm, ⟨67, _⟩ => ⟨S4096x1408, .f32⟩
  | .hbm, ⟨68, _⟩ => ⟨S2816x1024, .f32⟩
  | .hbm, ⟨69, _⟩ => ⟨S2816x1024, .f32⟩
  | .hbm, ⟨70, _⟩ => ⟨S2816x1024, .f32⟩
  | .hbm, ⟨71, _⟩ => ⟨S2816x1024, .f32⟩
  | .local _ .vmem, ⟨0, _⟩ => ⟨S512x264, .f32⟩
  | .local _ .vmem, ⟨1, _⟩ => ⟨S512x264, .f32⟩
  | .local _ .vmem, ⟨2, _⟩ => ⟨S512x264, .f32⟩
  | .local _ .vmem, ⟨3, _⟩ => ⟨S512x264, .f32⟩
  | .local _ .vmem, ⟨4, _⟩ => ⟨S512x264, .f32⟩
  | .local _ .vmem, ⟨5, _⟩ => ⟨S512x264, .f32⟩
  | .local _ .vmem, ⟨6, _⟩ => ⟨S512x264, .f32⟩
  | .local _ .vmem, ⟨7, _⟩ => ⟨S512x264, .f32⟩
  | .local _ .vmem, ⟨8, _⟩ => ⟨S512x264, .f32⟩
  | .local _ .vmem, ⟨9, _⟩ => ⟨S512x264, .f32⟩
  | .local _ .vmem, ⟨10, _⟩ => ⟨S512x264, .f32⟩
  | .local _ .vmem, ⟨11, _⟩ => ⟨S512x264, .f32⟩
  | .local _ .vmem, ⟨12, _⟩ => ⟨S512x264, .f32⟩
  | .local _ .vmem, ⟨13, _⟩ => ⟨S512x264, .f32⟩
  | .local _ .vmem, ⟨14, _⟩ => ⟨S512x264, .f32⟩
  | .local _ .vmem, ⟨15, _⟩ => ⟨S512x264, .f32⟩
  | .local _ .vmem, ⟨16, _⟩ => ⟨S512x264, .f32⟩
  | .local _ .vmem, ⟨17, _⟩ => ⟨S512x264, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x384, .f32⟩
  | .local _ .vmem, ⟨22, _⟩ => ⟨S512x384, .f32⟩
  | .local _ .vmem, ⟨23, _⟩ => ⟨S512x384, .f32⟩
  | .local _ .vmem, ⟨24, _⟩ => ⟨S512x384, .f32⟩
  | .local _ .vmem, ⟨25, _⟩ => ⟨S512x384, .f32⟩
  | .local _ .vmem, ⟨26, _⟩ => ⟨S512x384, .f32⟩
  | .local _ .vmem, ⟨27, _⟩ => ⟨S512x384, .f32⟩
  | .local _ .vmem, ⟨28, _⟩ => ⟨S512x384, .f32⟩
  | .local _ .vmem, ⟨29, _⟩ => ⟨S512x384, .f32⟩
  | .local _ .vmem, ⟨30, _⟩ => ⟨S512x384, .f32⟩
  | .local _ .vmem, ⟨31, _⟩ => ⟨S512x384, .f32⟩
  | .local _ .vmem, ⟨32, _⟩ => ⟨S512x384, .f32⟩
  | .local _ .vmem, ⟨33, _⟩ => ⟨S512x384, .f32⟩
  | .local _ .vmem, ⟨34, _⟩ => ⟨S512x384, .f32⟩
  | .local _ .vmem, ⟨35, _⟩ => ⟨S512x384, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | .local _ .vmem, ⟨77, _⟩ => ⟨S512x1024, .f32⟩
  | .local _ .vmem, ⟨78, _⟩ => ⟨S512x1024, .f32⟩
  | .local _ .vmem, ⟨79, _⟩ => ⟨S512x1024, .f32⟩
  | .local _ .vmem, ⟨80, _⟩ => ⟨S512x1024, .f32⟩
  | .local _ .vmem, ⟨81, _⟩ => ⟨S256x1408, .f32⟩
  | .local _ .vmem, ⟨82, _⟩ => ⟨S256x1408, .f32⟩
  | .local _ .vmem, ⟨83, _⟩ => ⟨S256x1408, .f32⟩
  | .local _ .vmem, ⟨84, _⟩ => ⟨S256x1408, .f32⟩
  | .local _ .vmem, ⟨85, _⟩ => ⟨S256x1408, .f32⟩
  | .local _ .vmem, ⟨86, _⟩ => ⟨S256x1408, .f32⟩
  | .local _ .vmem, ⟨87, _⟩ => ⟨S256x1408, .f32⟩
  | .local _ .vmem, ⟨88, _⟩ => ⟨S256x1408, .f32⟩
  | .local _ .vmem, ⟨89, _⟩ => ⟨S256x1408, .f32⟩
  | .local _ .vmem, ⟨90, _⟩ => ⟨S256x1408, .f32⟩
  | .local _ .vmem, ⟨91, _⟩ => ⟨S256x1408, .f32⟩
  | .local _ .vmem, ⟨92, _⟩ => ⟨S256x1408, .f32⟩
  | .local _ .vmem, ⟨93, _⟩ => ⟨S256x1408, .f32⟩
  | .local _ .vmem, ⟨94, _⟩ => ⟨S256x1408, .f32⟩
  | .local _ .vmem, ⟨95, _⟩ => ⟨S256x1408, .f32⟩
  | .local _ .vmem, ⟨96, _⟩ => ⟨S256x1408, .f32⟩
  | .local _ .vmem, ⟨97, _⟩ => ⟨S256x1408, .f32⟩
  | .local _ .vmem, ⟨98, _⟩ => ⟨S256x1408, .f32⟩
  | .local _ .vmem, ⟨99, _⟩ => ⟨S256x1024, .f32⟩
  | .local _ .vmem, ⟨100, _⟩ => ⟨S256x1024, .f32⟩
  | .local _ .vmem, ⟨101, _⟩ => ⟨S256x1024, .f32⟩
  | .local _ .vmem, ⟨102, _⟩ => ⟨S256x1024, .f32⟩
  | .local _ .vmem, ⟨103, _⟩ => ⟨S256x1024, .f32⟩
  | .local _ .vmem, ⟨104, _⟩ => ⟨S256x1024, .f32⟩
  | .local _ .vmem, ⟨105, _⟩ => ⟨S256x1024, .f32⟩
  | .local _ .vmem, ⟨106, _⟩ => ⟨S256x1024, .f32⟩
  | .local _ .vmem, ⟨107, _⟩ => ⟨S256x1024, .f32⟩
  | .local _ .vmem, ⟨108, _⟩ => ⟨S256x1024, .f32⟩
  | .local _ .vmem, ⟨109, _⟩ => ⟨S256x1024, .f32⟩
  | .local _ .vmem, ⟨110, _⟩ => ⟨S256x1024, .f32⟩
  | .local _ .vmem, ⟨111, _⟩ => ⟨S256x1024, .f32⟩
  | .local _ .vmem, ⟨112, _⟩ => ⟨S256x1024, .f32⟩
  | .local _ .vmem, ⟨113, _⟩ => ⟨S256x1024, .f32⟩
  | .local _ .vmem, ⟨114, _⟩ => ⟨S256x1024, .f32⟩
  | .local _ .vmem, ⟨115, _⟩ => ⟨S256x1024, .f32⟩
  | .local _ .vmem, ⟨116, _⟩ => ⟨S256x1024, .f32⟩
  | _, _ => ⟨S2048x264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v1_0 : Ref sig .tc := ⟨.hbm, 44, rfl⟩
abbrev main_v1_1 : Ref sig .tc := ⟨.hbm, 45, rfl⟩
abbrev main_v1_2 : Ref sig .tc := ⟨.hbm, 46, rfl⟩
abbrev main_v1_3 : Ref sig .tc := ⟨.hbm, 47, rfl⟩
abbrev main_v2_0 : Ref sig .tc := ⟨.hbm, 48, rfl⟩
abbrev main_v2_1 : Ref sig .tc := ⟨.hbm, 49, rfl⟩
abbrev main_v2_2 : Ref sig .tc := ⟨.hbm, 50, rfl⟩
abbrev main_v2_3 : Ref sig .tc := ⟨.hbm, 51, rfl⟩
abbrev main_v3_0 : Ref sig .tc := ⟨.hbm, 52, rfl⟩
abbrev main_v3_1 : Ref sig .tc := ⟨.hbm, 53, rfl⟩
abbrev main_v3_2 : Ref sig .tc := ⟨.hbm, 54, rfl⟩
abbrev main_v3_3 : Ref sig .tc := ⟨.hbm, 55, rfl⟩
abbrev main_v4_0 : Ref sig .tc := ⟨.hbm, 56, rfl⟩
abbrev main_v4_1 : Ref sig .tc := ⟨.hbm, 57, rfl⟩
abbrev main_v4_2 : Ref sig .tc := ⟨.hbm, 58, rfl⟩
abbrev main_v4_3 : Ref sig .tc := ⟨.hbm, 59, rfl⟩
abbrev main_v5_0 : Ref sig .tc := ⟨.hbm, 60, rfl⟩
abbrev main_v5_1 : Ref sig .tc := ⟨.hbm, 61, rfl⟩
abbrev main_v5_2 : Ref sig .tc := ⟨.hbm, 62, rfl⟩
abbrev main_v5_3 : Ref sig .tc := ⟨.hbm, 63, rfl⟩
abbrev main_v6_0 : Ref sig .tc := ⟨.hbm, 64, rfl⟩
abbrev main_v6_1 : Ref sig .tc := ⟨.hbm, 65, rfl⟩
abbrev main_v6_2 : Ref sig .tc := ⟨.hbm, 66, rfl⟩
abbrev main_v6_3 : Ref sig .tc := ⟨.hbm, 67, rfl⟩
abbrev main_v7_0 : Ref sig .tc := ⟨.hbm, 68, rfl⟩
abbrev main_v7_1 : Ref sig .tc := ⟨.hbm, 69, rfl⟩
abbrev main_v7_2 : Ref sig .tc := ⟨.hbm, 70, rfl⟩
abbrev main_v7_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg1_0 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc3_stg0_0 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg4_1 : Ref sig .tc := ⟨.vmem, 63, rfl⟩
abbrev cc4_stg5_0 : Ref sig .tc := ⟨.vmem, 64, rfl⟩
abbrev cc4_stg5_1 : Ref sig .tc := ⟨.vmem, 65, rfl⟩
abbrev cc4_stg6_0 : Ref sig .tc := ⟨.vmem, 66, rfl⟩
abbrev cc4_stg6_1 : Ref sig .tc := ⟨.vmem, 67, rfl⟩
abbrev cc4_stg7_0 : Ref sig .tc := ⟨.vmem, 68, rfl⟩
abbrev cc4_stg7_1 : Ref sig .tc := ⟨.vmem, 69, rfl⟩
abbrev cc4_stg8_0 : Ref sig .tc := ⟨.vmem, 70, rfl⟩
abbrev cc4_stg8_1 : Ref sig .tc := ⟨.vmem, 71, rfl⟩
abbrev cc5_stg0_0 : Ref sig .tc := ⟨.vmem, 72, rfl⟩
abbrev cc5_stg1_0 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg6_0 : Ref sig .tc := ⟨.vmem, 78, rfl⟩
abbrev cc5_stg7_0 : Ref sig .tc := ⟨.vmem, 79, rfl⟩
abbrev cc5_stg8_0 : Ref sig .tc := ⟨.vmem, 80, rfl⟩
abbrev cc6_stg0_0 : Ref sig .tc := ⟨.vmem, 81, rfl⟩
abbrev cc6_stg0_1 : Ref sig .tc := ⟨.vmem, 82, rfl⟩
abbrev cc6_stg1_0 : Ref sig .tc := ⟨.vmem, 83, rfl⟩
abbrev cc6_stg1_1 : Ref sig .tc := ⟨.vmem, 84, rfl⟩
abbrev cc6_stg2_0 : Ref sig .tc := ⟨.vmem, 85, rfl⟩
abbrev cc6_stg2_1 : Ref sig .tc := ⟨.vmem, 86, rfl⟩
abbrev cc6_stg3_0 : Ref sig .tc := ⟨.vmem, 87, rfl⟩
abbrev cc6_stg3_1 : Ref sig .tc := ⟨.vmem, 88, rfl⟩
abbrev cc6_stg4_0 : Ref sig .tc := ⟨.vmem, 89, rfl⟩
abbrev cc6_stg4_1 : Ref sig .tc := ⟨.vmem, 90, rfl⟩
abbrev cc6_stg5_0 : Ref sig .tc := ⟨.vmem, 91, rfl⟩
abbrev cc6_stg5_1 : Ref sig .tc := ⟨.vmem, 92, rfl⟩
abbrev cc6_stg6_0 : Ref sig .tc := ⟨.vmem, 93, rfl⟩
abbrev cc6_stg6_1 : Ref sig .tc := ⟨.vmem, 94, rfl⟩
abbrev cc6_stg7_0 : Ref sig .tc := ⟨.vmem, 95, rfl⟩
abbrev cc6_stg7_1 : Ref sig .tc := ⟨.vmem, 96, rfl⟩
abbrev cc6_stg8_0 : Ref sig .tc := ⟨.vmem, 97, rfl⟩
abbrev cc6_stg8_1 : Ref sig .tc := ⟨.vmem, 98, rfl⟩
abbrev cc7_stg0_0 : Ref sig .tc := ⟨.vmem, 99, rfl⟩
abbrev cc7_stg0_1 : Ref sig .tc := ⟨.vmem, 100, rfl⟩
abbrev cc7_stg1_0 : Ref sig .tc := ⟨.vmem, 101, rfl⟩
abbrev cc7_stg1_1 : Ref sig .tc := ⟨.vmem, 102, rfl⟩
abbrev cc7_stg2_0 : Ref sig .tc := ⟨.vmem, 103, rfl⟩
abbrev cc7_stg2_1 : Ref sig .tc := ⟨.vmem, 104, rfl⟩
abbrev cc7_stg3_0 : Ref sig .tc := ⟨.vmem, 105, rfl⟩
abbrev cc7_stg3_1 : Ref sig .tc := ⟨.vmem, 106, rfl⟩
abbrev cc7_stg4_0 : Ref sig .tc := ⟨.vmem, 107, rfl⟩
abbrev cc7_stg4_1 : Ref sig .tc := ⟨.vmem, 108, rfl⟩
abbrev cc7_stg5_0 : Ref sig .tc := ⟨.vmem, 109, rfl⟩
abbrev cc7_stg5_1 : Ref sig .tc := ⟨.vmem, 110, rfl⟩
abbrev cc7_stg6_0 : Ref sig .tc := ⟨.vmem, 111, rfl⟩
abbrev cc7_stg6_1 : Ref sig .tc := ⟨.vmem, 112, rfl⟩
abbrev cc7_stg7_0 : Ref sig .tc := ⟨.vmem, 113, rfl⟩
abbrev cc7_stg7_1 : Ref sig .tc := ⟨.vmem, 114, rfl⟩
abbrev cc7_stg8_0 : Ref sig .tc := ⟨.vmem, 115, rfl⟩
abbrev cc7_stg8_1 : Ref sig .tc := ⟨.vmem, 116, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem1_0 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc3_sem0_0 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem2_1 : DmaSem sig := 59
abbrev cc4_sem3_0 : DmaSem sig := 60
abbrev cc4_sem3_1 : DmaSem sig := 61
abbrev cc4_sem4_0 : DmaSem sig := 62
abbrev cc4_sem4_1 : DmaSem sig := 63
abbrev cc4_sem5_0 : DmaSem sig := 64
abbrev cc4_sem5_1 : DmaSem sig := 65
abbrev cc4_sem6_0 : DmaSem sig := 66
abbrev cc4_sem6_1 : DmaSem sig := 67
abbrev cc4_sem7_0 : DmaSem sig := 68
abbrev cc4_sem7_1 : DmaSem sig := 69
abbrev cc4_sem8_0 : DmaSem sig := 70
abbrev cc4_sem8_1 : DmaSem sig := 71
abbrev cc5_sem0_0 : DmaSem sig := 72
abbrev cc5_sem1_0 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem6_0 : DmaSem sig := 78
abbrev cc5_sem7_0 : DmaSem sig := 79
abbrev cc5_sem8_0 : DmaSem sig := 80
abbrev cc6_sem0_0 : DmaSem sig := 81
abbrev cc6_sem0_1 : DmaSem sig := 82
abbrev cc6_sem1_0 : DmaSem sig := 83
abbrev cc6_sem1_1 : DmaSem sig := 84
abbrev cc6_sem2_0 : DmaSem sig := 85
abbrev cc6_sem2_1 : DmaSem sig := 86
abbrev cc6_sem3_0 : DmaSem sig := 87
abbrev cc6_sem3_1 : DmaSem sig := 88
abbrev cc6_sem4_0 : DmaSem sig := 89
abbrev cc6_sem4_1 : DmaSem sig := 90
abbrev cc6_sem5_0 : DmaSem sig := 91
abbrev cc6_sem5_1 : DmaSem sig := 92
abbrev cc6_sem6_0 : DmaSem sig := 93
abbrev cc6_sem6_1 : DmaSem sig := 94
abbrev cc6_sem7_0 : DmaSem sig := 95
abbrev cc6_sem7_1 : DmaSem sig := 96
abbrev cc6_sem8_0 : DmaSem sig := 97
abbrev cc6_sem8_1 : DmaSem sig := 98
abbrev cc7_sem0_0 : DmaSem sig := 99
abbrev cc7_sem0_1 : DmaSem sig := 100
abbrev cc7_sem1_0 : DmaSem sig := 101
abbrev cc7_sem1_1 : DmaSem sig := 102
abbrev cc7_sem2_0 : DmaSem sig := 103
abbrev cc7_sem2_1 : DmaSem sig := 104
abbrev cc7_sem3_0 : DmaSem sig := 105
abbrev cc7_sem3_1 : DmaSem sig := 106
abbrev cc7_sem4_0 : DmaSem sig := 107
abbrev cc7_sem4_1 : DmaSem sig := 108
abbrev cc7_sem5_0 : DmaSem sig := 109
abbrev cc7_sem5_1 : DmaSem sig := 110
abbrev cc7_sem6_0 : DmaSem sig := 111
abbrev cc7_sem6_1 : DmaSem sig := 112
abbrev cc7_sem7_0 : DmaSem sig := 113
abbrev cc7_sem7_1 : DmaSem sig := 114
abbrev cc7_sem8_0 : DmaSem sig := 115
abbrev cc7_sem8_1 : DmaSem sig := 116

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x264 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x264 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x264 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x264 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x264 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x264 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev stage2_8 : Fin 1 → Memref sig .tc .vmem S512x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S512x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S512x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S512x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S512x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S512x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S512x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S512x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev stage3_8 : Fin 1 → Memref sig .tc .vmem S512x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S512x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S512x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S512x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S512x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S512x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S512x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S512x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev stage5_8 : Fin 1 → Memref sig .tc .vmem S512x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1408 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1408 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x1408 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x1408 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x1408 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x1408 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x1408 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x1408 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![11], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S256x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S256x1024 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]
-- ==== AdamIdeal.lean ====
variable {F : FTy → Type} [FloatOps F] [Named F]
def κ : String → Option EReal := fun
  | "correct1" => some (((5463681 / 8388608)⁻¹ : ℝ) : EReal)
  | "correct2" => some (((2672307 / 268435456)⁻¹ : ℝ) : EReal)
  | _ => none
-- ==== AdamReferenceIdeal.lean ====
abbrev S2048x264 : Shape := ⟨2, ![2048, 264]⟩
abbrev S1536x384 : Shape := ⟨2, ![1536, 384]⟩
abbrev S512x512 : Shape := ⟨2, ![512, 512]⟩
abbrev S512x1024 : Shape := ⟨2, ![512, 1024]⟩
abbrev S2048x1024 : Shape := ⟨2, ![2048, 1024]⟩
abbrev S4096x1408 : Shape := ⟨2, ![4096, 1408]⟩
abbrev S2816x1024 : Shape := ⟨2, ![2816, 1024]⟩
abbrev S_ : Shape := ⟨0, ![]⟩

abbrev nBuf : Space → Nat
  | .hbm => 312
  | .vmem => 0
  | .smem => 0
  | _ => 0

abbrev hbmTy0_0 (i : Nat) : BufTy := match i % 128 with
  | 0 => ⟨S2048x264, .f32⟩
  | 1 => ⟨S2048x264, .f32⟩
  | 2 => ⟨S2048x264, .f32⟩
  | 3 => ⟨S2048x264, .f32⟩
  | 4 => ⟨S2048x264, .f32⟩
  | 5 => ⟨S1536x384, .f32⟩
  | 6 => ⟨S1536x384, .f32⟩
  | 7 => ⟨S1536x384, .f32⟩
  | 8 => ⟨S1536x384, .f32⟩
  | 9 => ⟨S1536x384, .f32⟩
  | 10 => ⟨S512x512, .f32⟩
  | 11 => ⟨S512x512, .f32⟩
  | 12 => ⟨S512x512, .f32⟩
  | 13 => ⟨S512x512, .f32⟩
  | 14 => ⟨S512x512, .f32⟩
  | 15 => ⟨S512x1024, .f32⟩
  | 16 => ⟨S512x1024, .f32⟩
  | 17 => ⟨S512x1024, .f32⟩
  | 18 => ⟨S512x1024, .f32⟩
  | 19 => ⟨S512x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S512x1024, .f32⟩
  | 26 => ⟨S512x1024, .f32⟩
  | 27 => ⟨S512x1024, .f32⟩
  | 28 => ⟨S512x1024, .f32⟩
  | 29 => ⟨S512x1024, .f32⟩
  | 30 => ⟨S4096x1408, .f32⟩
  | 31 => ⟨S4096x1408, .f32⟩
  | 32 => ⟨S4096x1408, .f32⟩
  | 33 => ⟨S4096x1408, .f32⟩
  | 34 => ⟨S4096x1408, .f32⟩
  | 35 => ⟨S2816x1024, .f32⟩
  | 36 => ⟨S2816x1024, .f32⟩
  | 37 => ⟨S2816x1024, .f32⟩
  | 38 => ⟨S2816x1024, .f32⟩
  | 39 => ⟨S2816x1024, .f32⟩
  | 40 => ⟨S2048x264, .f32⟩
  | 41 => ⟨S_, .f32⟩
  | 42 => ⟨S2048x264, .f32⟩
  | 43 => ⟨S2048x264, .f32⟩
  | 44 => ⟨S_, .f32⟩
  | 45 => ⟨S2048x264, .f32⟩
  | 46 => ⟨S2048x264, .f32⟩
  | 47 => ⟨S2048x264, .f32⟩
  | 48 => ⟨S_, .f32⟩
  | 49 => ⟨S2048x264, .f32⟩
  | 50 => ⟨S2048x264, .f32⟩
  | 51 => ⟨S2048x264, .f32⟩
  | 52 => ⟨S_, .f32⟩
  | 53 => ⟨S2048x264, .f32⟩
  | 54 => ⟨S2048x264, .f32⟩
  | 55 => ⟨S2048x264, .f32⟩
  | 56 => ⟨S_, .f32⟩
  | 57 => ⟨S2048x264, .f32⟩
  | 58 => ⟨S2048x264, .f32⟩
  | 59 => ⟨S_, .f32⟩
  | 60 => ⟨S2048x264, .f32⟩
  | 61 => ⟨S2048x264, .f32⟩
  | 62 => ⟨S2048x264, .f32⟩
  | 63 => ⟨S_, .f32⟩
  | 64 => ⟨S2048x264, .f32⟩
  | 65 => ⟨S2048x264, .f32⟩
  | 66 => ⟨S2048x264, .f32⟩
  | 67 => ⟨S_, .f32⟩
  | 68 => ⟨S2048x264, .f32⟩
  | 69 => ⟨S2048x264, .f32⟩
  | 70 => ⟨S2048x264, .f32⟩
  | 71 => ⟨S_, .f32⟩
  | 72 => ⟨S2048x264, .f32⟩
  | 73 => ⟨S2048x264, .f32⟩
  | 74 => ⟨S1536x384, .f32⟩
  | 75 => ⟨S_, .f32⟩
  | 76 => ⟨S1536x384, .f32⟩
  | 77 => ⟨S1536x384, .f32⟩
  | 78 => ⟨S_, .f32⟩
  | 79 => ⟨S1536x384, .f32⟩
  | 80 => ⟨S1536x384, .f32⟩
  | 81 => ⟨S1536x384, .f32⟩
  | 82 => ⟨S_, .f32⟩
  | 83 => ⟨S1536x384, .f32⟩
  | 84 => ⟨S1536x384, .f32⟩
  | 85 => ⟨S1536x384, .f32⟩
  | 86 => ⟨S_, .f32⟩
  | 87 => ⟨S1536x384, .f32⟩
  | 88 => ⟨S1536x384, .f32⟩
  | 89 => ⟨S1536x384, .f32⟩
  | 90 => ⟨S_, .f32⟩
  | 91 => ⟨S1536x384, .f32⟩
  | 92 => ⟨S1536x384, .f32⟩
  | 93 => ⟨S_, .f32⟩
  | 94 => ⟨S1536x384, .f32⟩
  | 95 => ⟨S1536x384, .f32⟩
  | 96 => ⟨S1536x384, .f32⟩
  | 97 => ⟨S_, .f32⟩
  | 98 => ⟨S1536x384, .f32⟩
  | 99 => ⟨S1536x384, .f32⟩
  | 100 => ⟨S1536x384, .f32⟩
  | 101 => ⟨S_, .f32⟩
  | 102 => ⟨S1536x384, .f32⟩
  | 103 => ⟨S1536x384, .f32⟩
  | 104 => ⟨S1536x384, .f32⟩
  | 105 => ⟨S_, .f32⟩
  | 106 => ⟨S1536x384, .f32⟩
  | 107 => ⟨S1536x384, .f32⟩
  | 108 => ⟨S512x512, .f32⟩
  | 109 => ⟨S_, .f32⟩
  | 110 => ⟨S512x512, .f32⟩
  | 111 => ⟨S512x512, .f32⟩
  | 112 => ⟨S_, .f32⟩
  | 113 => ⟨S512x512, .f32⟩
  | 114 => ⟨S512x512, .f32⟩
  | 115 => ⟨S512x512, .f32⟩
  | 116 => ⟨S_, .f32⟩
  | 117 => ⟨S512x512, .f32⟩
  | 118 => ⟨S512x512, .f32⟩
  | 119 => ⟨S512x512, .f32⟩
  | 120 => ⟨S_, .f32⟩
  | 121 => ⟨S512x512, .f32⟩
  | 122 => ⟨S512x512, .f32⟩
  | 123 => ⟨S512x512, .f32⟩
  | 124 => ⟨S_, .f32⟩
  | 125 => ⟨S512x512, .f32⟩
  | 126 => ⟨S512x512, .f32⟩
  | 127 => ⟨S_, .f32⟩
  | _ => ⟨S2048x264, .f32⟩

abbrev hbmTy0_1 (i : Nat) : BufTy := match i % 128 with
  | 0 => ⟨S512x512, .f32⟩
  | 1 => ⟨S512x512, .f32⟩
  | 2 => ⟨S512x512, .f32⟩
  | 3 => ⟨S_, .f32⟩
  | 4 => ⟨S512x512, .f32⟩
  | 5 => ⟨S512x512, .f32⟩
  | 6 => ⟨S512x512, .f32⟩
  | 7 => ⟨S_, .f32⟩
  | 8 => ⟨S512x512, .f32⟩
  | 9 => ⟨S512x512, .f32⟩
  | 10 => ⟨S512x512, .f32⟩
  | 11 => ⟨S_, .f32⟩
  | 12 => ⟨S512x512, .f32⟩
  | 13 => ⟨S512x512, .f32⟩
  | 14 => ⟨S512x1024, .f32⟩
  | 15 => ⟨S_, .f32⟩
  | 16 => ⟨S512x1024, .f32⟩
  | 17 => ⟨S512x1024, .f32⟩
  | 18 => ⟨S_, .f32⟩
  | 19 => ⟨S512x1024, .f32⟩
  | 20 => ⟨S512x1024, .f32⟩
  | 21 => ⟨S512x1024, .f32⟩
  | 22 => ⟨S_, .f32⟩
  | 23 => ⟨S512x1024, .f32⟩
  | 24 => ⟨S512x1024, .f32⟩
  | 25 => ⟨S512x1024, .f32⟩
  | 26 => ⟨S_, .f32⟩
  | 27 => ⟨S512x1024, .f32⟩
  | 28 => ⟨S512x1024, .f32⟩
  | 29 => ⟨S512x1024, .f32⟩
  | 30 => ⟨S_, .f32⟩
  | 31 => ⟨S512x1024, .f32⟩
  | 32 => ⟨S512x1024, .f32⟩
  | 33 => ⟨S_, .f32⟩
  | 34 => ⟨S512x1024, .f32⟩
  | 35 => ⟨S512x1024, .f32⟩
  | 36 => ⟨S512x1024, .f32⟩
  | 37 => ⟨S_, .f32⟩
  | 38 => ⟨S512x1024, .f32⟩
  | 39 => ⟨S512x1024, .f32⟩
  | 40 => ⟨S512x1024, .f32⟩
  | 41 => ⟨S_, .f32⟩
  | 42 => ⟨S512x1024, .f32⟩
  | 43 => ⟨S512x1024, .f32⟩
  | 44 => ⟨S512x1024, .f32⟩
  | 45 => ⟨S_, .f32⟩
  | 46 => ⟨S512x1024, .f32⟩
  | 47 => ⟨S512x1024, .f32⟩
  | 48 => ⟨S2048x1024, .f32⟩
  | 49 => ⟨S_, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S512x1024, .f32⟩
  | 83 => ⟨S_, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S512x1024, .f32⟩
  | 90 => ⟨S_, .f32⟩
  | 91 => ⟨S512x1024, .f32⟩
  | 92 => ⟨S512x1024, .f32⟩
  | 93 => ⟨S512x1024, .f32⟩
  | 94 => ⟨S_, .f32⟩
  | 95 => ⟨S512x1024, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S512x1024, .f32⟩
  | 113 => ⟨S_, .f32⟩
  | 114 => ⟨S512x1024, .f32⟩
  | 115 => ⟨S512x1024, .f32⟩
  | 116 => ⟨S4096x1408, .f32⟩
  | 117 => ⟨S_, .f32⟩
  | 118 => ⟨S4096x1408, .f32⟩
  | 119 => ⟨S4096x1408, .f32⟩
  | 120 => ⟨S_, .f32⟩
  | 121 => ⟨S4096x1408, .f32⟩
  | 122 => ⟨S4096x1408, .f32⟩
  | 123 => ⟨S4096x1408, .f32⟩
  | 124 => ⟨S_, .f32⟩
  | 125 => ⟨S4096x1408, .f32⟩
  | 126 => ⟨S4096x1408, .f32⟩
  | 127 => ⟨S4096x1408, .f32⟩
  | _ => ⟨S2048x264, .f32⟩

abbrev hbmTy0_2 (i : Nat) : BufTy := match i % 128 with
  | 0 => ⟨S_, .f32⟩
  | 1 => ⟨S4096x1408, .f32⟩
  | 2 => ⟨S4096x1408, .f32⟩
  | 3 => ⟨S4096x1408, .f32⟩
  | 4 => ⟨S_, .f32⟩
  | 5 => ⟨S4096x1408, .f32⟩
  | 6 => ⟨S4096x1408, .f32⟩
  | 7 => ⟨S_, .f32⟩
  | 8 => ⟨S4096x1408, .f32⟩
  | 9 => ⟨S4096x1408, .f32⟩
  | 10 => ⟨S4096x1408, .f32⟩
  | 11 => ⟨S_, .f32⟩
  | 12 => ⟨S4096x1408, .f32⟩
  | 13 => ⟨S4096x1408, .f32⟩
  | 14 => ⟨S4096x1408, .f32⟩
  | 15 => ⟨S_, .f32⟩
  | 16 => ⟨S4096x1408, .f32⟩
  | 17 => ⟨S4096x1408, .f32⟩
  | 18 => ⟨S4096x1408, .f32⟩
  | 19 => ⟨S_, .f32⟩
  | 20 => ⟨S4096x1408, .f32⟩
  | 21 => ⟨S4096x1408, .f32⟩
  | 22 => ⟨S2816x1024, .f32⟩
  | 23 => ⟨S_, .f32⟩
  | 24 => ⟨S2816x1024, .f32⟩
  | 25 => ⟨S2816x1024, .f32⟩
  | 26 => ⟨S_, .f32⟩
  | 27 => ⟨S2816x1024, .f32⟩
  | 28 => ⟨S2816x1024, .f32⟩
  | 29 => ⟨S2816x1024, .f32⟩
  | 30 => ⟨S_, .f32⟩
  | 31 => ⟨S2816x1024, .f32⟩
  | 32 => ⟨S2816x1024, .f32⟩
  | 33 => ⟨S2816x1024, .f32⟩
  | 34 => ⟨S_, .f32⟩
  | 35 => ⟨S2816x1024, .f32⟩
  | 36 => ⟨S2816x1024, .f32⟩
  | 37 => ⟨S2816x1024, .f32⟩
  | 38 => ⟨S_, .f32⟩
  | 39 => ⟨S2816x1024, .f32⟩
  | 40 => ⟨S2816x1024, .f32⟩
  | 41 => ⟨S_, .f32⟩
  | 42 => ⟨S2816x1024, .f32⟩
  | 43 => ⟨S2816x1024, .f32⟩
  | 44 => ⟨S2816x1024, .f32⟩
  | 45 => ⟨S_, .f32⟩
  | 46 => ⟨S2816x1024, .f32⟩
  | 47 => ⟨S2816x1024, .f32⟩
  | 48 => ⟨S2816x1024, .f32⟩
  | 49 => ⟨S_, .f32⟩
  | 50 => ⟨S2816x1024, .f32⟩
  | 51 => ⟨S2816x1024, .f32⟩
  | 52 => ⟨S2816x1024, .f32⟩
  | 53 => ⟨S_, .f32⟩
  | 54 => ⟨S2816x1024, .f32⟩
  | 55 => ⟨S2816x1024, .f32⟩
  | _ => ⟨S2048x264, .f32⟩

abbrev hbmTy (i : Nat) : BufTy := match i / 128 with
  | 0 => hbmTy0_0 i
  | 1 => hbmTy0_1 i
  | 2 => hbmTy0_2 i
  | _ => ⟨S2048x264, .f32⟩

abbrev bufTy : (tb : Table) → Fin (tcTables nBuf tb) → BufTy
  | .hbm, ⟨i, _⟩ => hbmTy i
  | _, _ => ⟨S2048x264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_cst : Ref sig .tc := ⟨.hbm, 41, rfl⟩
abbrev main_v1 : Ref sig .tc := ⟨.hbm, 42, rfl⟩
abbrev main_v2 : Ref sig .tc := ⟨.hbm, 43, rfl⟩
abbrev main_cst_0 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_3 : Ref sig .tc := ⟨.hbm, 56, rfl⟩
abbrev main_v12 : Ref sig .tc := ⟨.hbm, 57, rfl⟩
abbrev main_v13 : Ref sig .tc := ⟨.hbm, 58, rfl⟩
abbrev main_cst_4 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_6 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst_7 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_8 : Ref sig .tc := ⟨.hbm, 75, rfl⟩
abbrev main_v26 : Ref sig .tc := ⟨.hbm, 76, rfl⟩
abbrev main_v27 : Ref sig .tc := ⟨.hbm, 77, rfl⟩
abbrev main_cst_9 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_10 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_11 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_12 : Ref sig .tc := ⟨.hbm, 90, rfl⟩
abbrev main_v37 : Ref sig .tc := ⟨.hbm, 91, rfl⟩
abbrev main_v38 : Ref sig .tc := ⟨.hbm, 92, rfl⟩
abbrev main_cst_13 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_cst_14 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_15 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_cst_16 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_17 : Ref sig .tc := ⟨.hbm, 109, rfl⟩
abbrev main_v51 : Ref sig .tc := ⟨.hbm, 110, rfl⟩
abbrev main_v52 : Ref sig .tc := ⟨.hbm, 111, rfl⟩
abbrev main_cst_18 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_19 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_20 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_21 : Ref sig .tc := ⟨.hbm, 124, rfl⟩
abbrev main_v62 : Ref sig .tc := ⟨.hbm, 125, rfl⟩
abbrev main_v63 : Ref sig .tc := ⟨.hbm, 126, rfl⟩
abbrev main_cst_22 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_23 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_24 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_25 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_26 : Ref sig .tc := ⟨.hbm, 143, rfl⟩
abbrev main_v76 : Ref sig .tc := ⟨.hbm, 144, rfl⟩
abbrev main_v77 : Ref sig .tc := ⟨.hbm, 145, rfl⟩
abbrev main_cst_27 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_28 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_29 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_30 : Ref sig .tc := ⟨.hbm, 158, rfl⟩
abbrev main_v87 : Ref sig .tc := ⟨.hbm, 159, rfl⟩
abbrev main_v88 : Ref sig .tc := ⟨.hbm, 160, rfl⟩
abbrev main_cst_31 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_32 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_33 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_cst_34 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_35 : Ref sig .tc := ⟨.hbm, 177, rfl⟩
abbrev main_v101 : Ref sig .tc := ⟨.hbm, 178, rfl⟩
abbrev main_v102 : Ref sig .tc := ⟨.hbm, 179, rfl⟩
abbrev main_cst_36 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_37 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_cst_38 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_39 : Ref sig .tc := ⟨.hbm, 192, rfl⟩
abbrev main_v112 : Ref sig .tc := ⟨.hbm, 193, rfl⟩
abbrev main_v113 : Ref sig .tc := ⟨.hbm, 194, rfl⟩
abbrev main_cst_40 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_cst_41 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_cst_42 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_cst_43 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_cst_44 : Ref sig .tc := ⟨.hbm, 211, rfl⟩
abbrev main_v126 : Ref sig .tc := ⟨.hbm, 212, rfl⟩
abbrev main_v127 : Ref sig .tc := ⟨.hbm, 213, rfl⟩
abbrev main_cst_45 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_cst_46 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_47 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_cst_48 : Ref sig .tc := ⟨.hbm, 226, rfl⟩
abbrev main_v137 : Ref sig .tc := ⟨.hbm, 227, rfl⟩
abbrev main_v138 : Ref sig .tc := ⟨.hbm, 228, rfl⟩
abbrev main_cst_49 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_cst_50 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_cst_51 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_cst_52 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_cst_53 : Ref sig .tc := ⟨.hbm, 245, rfl⟩
abbrev main_v151 : Ref sig .tc := ⟨.hbm, 246, rfl⟩
abbrev main_v152 : Ref sig .tc := ⟨.hbm, 247, rfl⟩
abbrev main_cst_54 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_cst_55 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_cst_56 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_cst_57 : Ref sig .tc := ⟨.hbm, 260, rfl⟩
abbrev main_v162 : Ref sig .tc := ⟨.hbm, 261, rfl⟩
abbrev main_v163 : Ref sig .tc := ⟨.hbm, 262, rfl⟩
abbrev main_cst_58 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_cst_59 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_cst_60 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_cst_61 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_cst_62 : Ref sig .tc := ⟨.hbm, 279, rfl⟩
abbrev main_v176 : Ref sig .tc := ⟨.hbm, 280, rfl⟩
abbrev main_v177 : Ref sig .tc := ⟨.hbm, 281, rfl⟩
abbrev main_cst_63 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_cst_64 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_cst_65 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_cst_66 : Ref sig .tc := ⟨.hbm, 294, rfl⟩
abbrev main_v187 : Ref sig .tc := ⟨.hbm, 295, rfl⟩
abbrev main_v188 : Ref sig .tc := ⟨.hbm, 296, rfl⟩
abbrev main_cst_67 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_cst_68 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_cst_69 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_cst_70 : Ref sig .tc := ⟨.hbm, 309, rfl⟩
abbrev main_v198 : Ref sig .tc := ⟨.hbm, 310, rfl⟩
abbrev main_v199 : Ref sig .tc := ⟨.hbm, 311, rfl⟩

abbrev nD : Nat := 1
abbrev τ : Topo := Topo.v7x

variable {F : FTy → Type} [FloatOps F]
-- ==== Small.lean ====
abbrev S2x768 : Shape := ⟨2, ![2, 768]⟩
abbrev S2x256 : Shape := ⟨2, ![2, 256]⟩
abbrev S2x128 : Shape := ⟨2, ![2, 128]⟩
abbrev S8192x768 : Shape := ⟨2, ![8192, 768]⟩
abbrev S8x768 : Shape := ⟨2, ![8, 768]⟩
abbrev S8x256 : Shape := ⟨2, ![8, 256]⟩
abbrev S512x768 : Shape := ⟨2, ![512, 768]⟩

abbrev nBuf : Space → Nat
  | .hbm => 64
  | .vmem => 72
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S2x256, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S2x128, .f32⟩
  | .hbm, ⟨16, _⟩ => ⟨S8192x768, .f32⟩
  | .hbm, ⟨17, _⟩ => ⟨S8192x768, .f32⟩
  | .hbm, ⟨18, _⟩ => ⟨S8192x768, .f32⟩
  | .hbm, ⟨19, _⟩ => ⟨S8192x768, .f32⟩
  | .hbm, ⟨20, _⟩ => ⟨S8x768, .f32⟩
  | .hbm, ⟨21, _⟩ => ⟨S8x768, .f32⟩
  | .hbm, ⟨22, _⟩ => ⟨S8x768, .f32⟩
  | .hbm, ⟨23, _⟩ => ⟨S8x768, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S2x768, .f32⟩
  | .hbm, ⟨33, _⟩ => ⟨S2x768, .f32⟩
  | .hbm, ⟨34, _⟩ => ⟨S2x768, .f32⟩
  | .hbm, ⟨35, _⟩ => ⟨S2x768, .f32⟩
  | .hbm, ⟨36, _⟩ => ⟨S2x256, .f32⟩
  | .hbm, ⟨37, _⟩ => ⟨S2x256, .f32⟩
  | .hbm, ⟨38, _⟩ => ⟨S2x256, .f32⟩
  | .hbm, ⟨39, _⟩ => ⟨S2x256, .f32⟩
  | .hbm, ⟨40, _⟩ => ⟨S2x256, .f32⟩
  | .hbm, ⟨41, _⟩ => ⟨S2x256, .f32⟩
  | .hbm, ⟨42, _⟩ => ⟨S2x256, .f32⟩
  | .hbm, ⟨43, _⟩ => ⟨S2x256, .f32⟩
  | .hbm, ⟨44, _⟩ => ⟨S2x128, .f32⟩
  | .hbm, ⟨45, _⟩ => ⟨S2x128, .f32⟩
  | .hbm, ⟨46, _⟩ => ⟨S2x128, .f32⟩
  | .hbm, ⟨47, _⟩ => ⟨S2x128, .f32⟩
  | .hbm, ⟨48, _⟩ => ⟨S8192x768, .f32⟩
  | .hbm, ⟨49, _⟩ => ⟨S8192x768, .f32⟩
  | .hbm, ⟨50, _⟩ => ⟨S8192x768, .f32⟩
  | .hbm, ⟨51, _⟩ => ⟨S8192x768, .f32⟩
  | .hbm, ⟨52, _⟩ => ⟨S8x768, .f32⟩
  | .hbm, ⟨53, _⟩ => ⟨S8x768, .f32⟩
  | .hbm, ⟨54, _⟩ => ⟨S8x768, .f32⟩
  | .hbm, ⟨55, _⟩ => ⟨S8x768, .f32⟩
  | .hbm, ⟨56, _⟩ => ⟨S8x256, .f32⟩
  | .hbm, ⟨57, _⟩ => ⟨S8x256, .f32⟩
  | .hbm, ⟨58, _⟩ => ⟨S8x256, .f32⟩
  | .hbm, ⟨59, _⟩ => ⟨S8x256, .f32⟩
  | .hbm, ⟨60, _⟩ => ⟨S8x256, .f32⟩
  | .hbm, ⟨61, _⟩ => ⟨S8x256, .f32⟩
  | .hbm, ⟨62, _⟩ => ⟨S8x256, .f32⟩
  | .hbm, ⟨63, _⟩ => ⟨S8x256, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | .local _ .vmem, ⟨8, _⟩ => ⟨S2x256, .f32⟩
  | .local _ .vmem, ⟨9, _⟩ => ⟨S2x256, .f32⟩
  | .local _ .vmem, ⟨10, _⟩ => ⟨S2x256, .f32⟩
  | .local _ .vmem, ⟨11, _⟩ => ⟨S2x256, .f32⟩
  | .local _ .vmem, ⟨12, _⟩ => ⟨S2x256, .f32⟩
  | .local _ .vmem, ⟨13, _⟩ => ⟨S2x256, .f32⟩
  | .local _ .vmem, ⟨14, _⟩ => ⟨S2x256, .f32⟩
  | .local _ .vmem, ⟨15, _⟩ => ⟨S2x256, .f32⟩
  | .local _ .vmem, ⟨16, _⟩ => ⟨S2x256, .f32⟩
  | .local _ .vmem, ⟨17, _⟩ => ⟨S2x256, .f32⟩
  | .local _ .vmem, ⟨18, _⟩ => ⟨S2x256, .f32⟩
  | .local _ .vmem, ⟨19, _⟩ => ⟨S2x256, .f32⟩
  | .local _ .vmem, ⟨20, _⟩ => ⟨S2x256, .f32⟩
  | .local _ .vmem, ⟨21, _⟩ => ⟨S2x256, .f32⟩
  | .local _ .vmem, ⟨22, _⟩ => ⟨S2x256, .f32⟩
  | .local _ .vmem, ⟨23, _⟩ => ⟨S2x256, .f32⟩
  | .local _ .vmem, ⟨24, _⟩ => ⟨S2x128, .f32⟩
  | .local _ .vmem, ⟨25, _⟩ => ⟨S2x128, .f32⟩
  | .local _ .vmem, ⟨26, _⟩ => ⟨S2x128, .f32⟩
  | .local _ .vmem, ⟨27, _⟩ => ⟨S2x128, .f32⟩
  | .local _ .vmem, ⟨28, _⟩ => ⟨S2x128, .f32⟩
  | .local _ .vmem, ⟨29, _⟩ => ⟨S2x128, .f32⟩
  | .local _ .vmem, ⟨30, _⟩ => ⟨S2x128, .f32⟩
  | .local _ .vmem, ⟨31, _⟩ => ⟨S2x128, .f32⟩
  | .local _ .vmem, ⟨32, _⟩ => ⟨S512x768, .f32⟩
  | .local _ .vmem, ⟨33, _⟩ => ⟨S512x768, .f32⟩
  | .local _ .vmem, ⟨34, _⟩ => ⟨S512x768, .f32⟩
  | .local _ .vmem, ⟨35, _⟩ => ⟨S512x768, .f32⟩
  | .local _ .vmem, ⟨36, _⟩ => ⟨S512x768, .f32⟩
  | .local _ .vmem, ⟨37, _⟩ => ⟨S512x768, .f32⟩
  | .local _ .vmem, ⟨38, _⟩ => ⟨S512x768, .f32⟩
  | .local _ .vmem, ⟨39, _⟩ => ⟨S512x768, .f32⟩
  | .local _ .vmem, ⟨40, _⟩ => ⟨S512x768, .f32⟩
  | .local _ .vmem, ⟨41, _⟩ => ⟨S512x768, .f32⟩
  | .local _ .vmem, ⟨42, _⟩ => ⟨S512x768, .f32⟩
  | .local _ .vmem, ⟨43, _⟩ => ⟨S512x768, .f32⟩
  | .local _ .vmem, ⟨44, _⟩ => ⟨S512x768, .f32⟩
  | .local _ .vmem, ⟨45, _⟩ => ⟨S512x768, .f32⟩
  | .local _ .vmem, ⟨46, _⟩ => ⟨S512x768, .f32⟩
  | .local _ .vmem, ⟨47, _⟩ => ⟨S512x768, .f32⟩
  | .local _ .vmem, ⟨48, _⟩ => ⟨S8x768, .f32⟩
  | .local _ .vmem, ⟨49, _⟩ => ⟨S8x768, .f32⟩
  | .local _ .vmem, ⟨50, _⟩ => ⟨S8x768, .f32⟩
  | .local _ .vmem, ⟨51, _⟩ => ⟨S8x768, .f32⟩
  | .local _ .vmem, ⟨52, _⟩ => ⟨S8x768, .f32⟩
  | .local _ .vmem, ⟨53, _⟩ => ⟨S8x768, .f32⟩
  | .local _ .vmem, ⟨54, _⟩ => ⟨S8x768, .f32⟩
  | .local _ .vmem, ⟨55, _⟩ => ⟨S8x768, .f32⟩
  | .local _ .vmem, ⟨56, _⟩ => ⟨S8x256, .f32⟩
  | .local _ .vmem, ⟨57, _⟩ => ⟨S8x256, .f32⟩
  | .local _ .vmem, ⟨58, _⟩ => ⟨S8x256, .f32⟩
  | .local _ .vmem, ⟨59, _⟩ => ⟨S8x256, .f32⟩
  | .local _ .vmem, ⟨60, _⟩ => ⟨S8x256, .f32⟩
  | .local _ .vmem, ⟨61, _⟩ => ⟨S8x256, .f32⟩
  | .local _ .vmem, ⟨62, _⟩ => ⟨S8x256, .f32⟩
  | .local _ .vmem, ⟨63, _⟩ => ⟨S8x256, .f32⟩
  | .local _ .vmem, ⟨64, _⟩ => ⟨S8x256, .f32⟩
  | .local _ .vmem, ⟨65, _⟩ => ⟨S8x256, .f32⟩
  | .local _ .vmem, ⟨66, _⟩ => ⟨S8x256, .f32⟩
  | .local _ .vmem, ⟨67, _⟩ => ⟨S8x256, .f32⟩
  | .local _ .vmem, ⟨68, _⟩ => ⟨S8x256, .f32⟩
  | .local _ .vmem, ⟨69, _⟩ => ⟨S8x256, .f32⟩
  | .local _ .vmem, ⟨70, _⟩ => ⟨S8x256, .f32⟩
  | .local _ .vmem, ⟨71, _⟩ => ⟨S8x256, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v1_0 : Ref sig .tc := ⟨.hbm, 36, rfl⟩
abbrev main_v1_1 : Ref sig .tc := ⟨.hbm, 37, rfl⟩
abbrev main_v1_2 : Ref sig .tc := ⟨.hbm, 38, rfl⟩
abbrev main_v1_3 : Ref sig .tc := ⟨.hbm, 39, rfl⟩
abbrev main_v2_0 : Ref sig .tc := ⟨.hbm, 40, rfl⟩
abbrev main_v2_1 : Ref sig .tc := ⟨.hbm, 41, rfl⟩
abbrev main_v2_2 : Ref sig .tc := ⟨.hbm, 42, rfl⟩
abbrev main_v2_3 : Ref sig .tc := ⟨.hbm, 43, rfl⟩
abbrev main_v3_0 : Ref sig .tc := ⟨.hbm, 44, rfl⟩
abbrev main_v3_1 : Ref sig .tc := ⟨.hbm, 45, rfl⟩
abbrev main_v3_2 : Ref sig .tc := ⟨.hbm, 46, rfl⟩
abbrev main_v3_3 : Ref sig .tc := ⟨.hbm, 47, rfl⟩
abbrev main_v4_0 : Ref sig .tc := ⟨.hbm, 48, rfl⟩
abbrev main_v4_1 : Ref sig .tc := ⟨.hbm, 49, rfl⟩
abbrev main_v4_2 : Ref sig .tc := ⟨.hbm, 50, rfl⟩
abbrev main_v4_3 : Ref sig .tc := ⟨.hbm, 51, rfl⟩
abbrev main_v5_0 : Ref sig .tc := ⟨.hbm, 52, rfl⟩
abbrev main_v5_1 : Ref sig .tc := ⟨.hbm, 53, rfl⟩
abbrev main_v5_2 : Ref sig .tc := ⟨.hbm, 54, rfl⟩
abbrev main_v5_3 : Ref sig .tc := ⟨.hbm, 55, rfl⟩
abbrev main_v6_0 : Ref sig .tc := ⟨.hbm, 56, rfl⟩
abbrev main_v6_1 : Ref sig .tc := ⟨.hbm, 57, rfl⟩
abbrev main_v6_2 : Ref sig .tc := ⟨.hbm, 58, rfl⟩
abbrev main_v6_3 : Ref sig .tc := ⟨.hbm, 59, rfl⟩
abbrev main_v7_0 : Ref sig .tc := ⟨.hbm, 60, rfl⟩
abbrev main_v7_1 : Ref sig .tc := ⟨.hbm, 61, rfl⟩
abbrev main_v7_2 : Ref sig .tc := ⟨.hbm, 62, rfl⟩
abbrev main_v7_3 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc5_stg0_0 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc7_stg0_0 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg5_0 : Ref sig .tc := ⟨.vmem, 69, rfl⟩
abbrev cc7_stg6_0 : Ref sig .tc := ⟨.vmem, 70, rfl⟩
abbrev cc7_stg7_0 : Ref sig .tc := ⟨.vmem, 71, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc4_sem5_0 : DmaSem sig := 42
abbrev cc4_sem5_1 : DmaSem sig := 43
abbrev cc4_sem6_0 : DmaSem sig := 44
abbrev cc4_sem6_1 : DmaSem sig := 45
abbrev cc4_sem7_0 : DmaSem sig := 46
abbrev cc4_sem7_1 : DmaSem sig := 47
abbrev cc5_sem0_0 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc6_sem0_0 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63
abbrev cc7_sem0_0 : DmaSem sig := 64
abbrev cc7_sem1_0 : DmaSem sig := 65
abbrev cc7_sem2_0 : DmaSem sig := 66
abbrev cc7_sem3_0 : DmaSem sig := 67
abbrev cc7_sem4_0 : DmaSem sig := 68
abbrev cc7_sem5_0 : DmaSem sig := 69
abbrev cc7_sem6_0 : DmaSem sig := 70
abbrev cc7_sem7_0 : DmaSem sig := 71

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S2x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S2x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S2x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S2x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S2x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S2x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S2x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S2x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S2x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S2x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S2x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x768 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x768 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x768 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x768 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S8x768 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S8x768 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S8x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S8x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S8x768 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S8x768 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S8x768 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S8x768 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S8x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S8x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S8x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S8x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S8x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S8x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S8x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev stage6_7 : Fin 1 → Memref sig .tc .vmem S8x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S8x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S8x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S8x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S8x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S8x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S8x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S8x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]

abbrev stage7_7 : Fin 1 → Memref sig .tc .vmem S8x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]
-- ==== SmallIdeal.lean ====
variable {F : FTy → Type} [FloatOps F] [Named F]
def κ : String → Option EReal := fun
  | "correct1" => some (((5463681 / 8388608)⁻¹ : ℝ) : EReal)
  | "correct2" => some (((2672307 / 268435456)⁻¹ : ℝ) : EReal)
  | _ => none
-- ==== SmallReferenceIdeal.lean ====
abbrev S2x768 : Shape := ⟨2, ![2, 768]⟩
abbrev S2x256 : Shape := ⟨2, ![2, 256]⟩
abbrev S2x128 : Shape := ⟨2, ![2, 128]⟩
abbrev S8192x768 : Shape := ⟨2, ![8192, 768]⟩
abbrev S8x768 : Shape := ⟨2, ![8, 768]⟩
abbrev S8x256 : Shape := ⟨2, ![8, 256]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S2x768, .f32⟩
  | 1 => ⟨S2x768, .f32⟩
  | 2 => ⟨S2x768, .f32⟩
  | 3 => ⟨S2x768, .f32⟩
  | 4 => ⟨S2x256, .f32⟩
  | 5 => ⟨S2x256, .f32⟩
  | 6 => ⟨S2x256, .f32⟩
  | 7 => ⟨S2x256, .f32⟩
  | 8 => ⟨S2x256, .f32⟩
  | 9 => ⟨S2x256, .f32⟩
  | 10 => ⟨S2x256, .f32⟩
  | 11 => ⟨S2x256, .f32⟩
  | 12 => ⟨S2x128, .f32⟩
  | 13 => ⟨S2x128, .f32⟩
  | 14 => ⟨S2x128, .f32⟩
  | 15 => ⟨S2x128, .f32⟩
  | 16 => ⟨S8192x768, .f32⟩
  | 17 => ⟨S8192x768, .f32⟩
  | 18 => ⟨S8192x768, .f32⟩
  | 19 => ⟨S8192x768, .f32⟩
  | 20 => ⟨S8x768, .f32⟩
  | 21 => ⟨S8x768, .f32⟩
  | 22 => ⟨S8x768, .f32⟩
  | 23 => ⟨S8x768, .f32⟩
  | 24 => ⟨S8x256, .f32⟩
  | 25 => ⟨S8x256, .f32⟩
  | 26 => ⟨S8x256, .f32⟩
  | 27 => ⟨S8x256, .f32⟩
  | 28 => ⟨S8x256, .f32⟩
  | 29 => ⟨S8x256, .f32⟩
  | 30 => ⟨S8x256, .f32⟩
  | 31 => ⟨S8x256, .f32⟩
  | 32 => ⟨S_, .f32⟩
  | 33 => ⟨S2x768, .f32⟩
  | 34 => ⟨S2x768, .f32⟩
  | 35 => ⟨S_, .f32⟩
  | 36 => ⟨S2x768, .f32⟩
  | 37 => ⟨S2x768, .f32⟩
  | 38 => ⟨S2x768, .f32⟩
  | 39 => ⟨S_, .f32⟩
  | 40 => ⟨S2x768, .f32⟩
  | 41 => ⟨S2x768, .f32⟩
  | 42 => ⟨S2x768, .f32⟩
  | 43 => ⟨S_, .f32⟩
  | 44 => ⟨S2x768, .f32⟩
  | 45 => ⟨S2x768, .f32⟩
  | 46 => ⟨S2x768, .f32⟩
  | 47 => ⟨S_, .f32⟩
  | 48 => ⟨S2x768, .f32⟩
  | 49 => ⟨S2x768, .f32⟩
  | 50 => ⟨S_, .f32⟩
  | 51 => ⟨S2x768, .f32⟩
  | 52 => ⟨S2x768, .f32⟩
  | 53 => ⟨S2x768, .f32⟩
  | 54 => ⟨S_, .f32⟩
  | 55 => ⟨S2x768, .f32⟩
  | 56 => ⟨S2x768, .f32⟩
  | 57 => ⟨S2x768, .f32⟩
  | 58 => ⟨S_, .f32⟩
  | 59 => ⟨S2x768, .f32⟩
  | 60 => ⟨S2x768, .f32⟩
  | 61 => ⟨S2x768, .f32⟩
  | 62 => ⟨S_, .f32⟩
  | 63 => ⟨S2x768, .f32⟩
  | 64 => ⟨S2x768, .f32⟩
  | 65 => ⟨S_, .f32⟩
  | 66 => ⟨S2x256, .f32⟩
  | 67 => ⟨S2x256, .f32⟩
  | 68 => ⟨S_, .f32⟩
  | 69 => ⟨S2x256, .f32⟩
  | 70 => ⟨S2x256, .f32⟩
  | 71 => ⟨S2x256, .f32⟩
  | 72 => ⟨S_, .f32⟩
  | 73 => ⟨S2x256, .f32⟩
  | 74 => ⟨S2x256, .f32⟩
  | 75 => ⟨S2x256, .f32⟩
  | 76 => ⟨S_, .f32⟩
  | 77 => ⟨S2x256, .f32⟩
  | 78 => ⟨S2x256, .f32⟩
  | 79 => ⟨S2x256, .f32⟩
  | 80 => ⟨S_, .f32⟩
  | 81 => ⟨S2x256, .f32⟩
  | 82 => ⟨S2x256, .f32⟩
  | 83 => ⟨S_, .f32⟩
  | 84 => ⟨S2x256, .f32⟩
  | 85 => ⟨S2x256, .f32⟩
  | 86 => ⟨S2x256, .f32⟩
  | 87 => ⟨S_, .f32⟩
  | 88 => ⟨S2x256, .f32⟩
  | 89 => ⟨S2x256, .f32⟩
  | 90 => ⟨S2x256, .f32⟩
  | 91 => ⟨S_, .f32⟩
  | 92 => ⟨S2x256, .f32⟩
  | 93 => ⟨S2x256, .f32⟩
  | 94 => ⟨S2x256, .f32⟩
  | 95 => ⟨S_, .f32⟩
  | 96 => ⟨S2x256, .f32⟩
  | 97 => ⟨S2x256, .f32⟩
  | 98 => ⟨S_, .f32⟩
  | 99 => ⟨S2x256, .f32⟩
  | 100 => ⟨S2x256, .f32⟩
  | 101 => ⟨S_, .f32⟩
  | 102 => ⟨S2x256, .f32⟩
  | 103 => ⟨S2x256, .f32⟩
  | 104 => ⟨S2x256, .f32⟩
  | 105 => ⟨S_, .f32⟩
  | 106 => ⟨S2x256, .f32⟩
  | 107 => ⟨S2x256, .f32⟩
  | 108 => ⟨S2x256, .f32⟩
  | 109 => ⟨S_, .f32⟩
  | 110 => ⟨S2x256, .f32⟩
  | 111 => ⟨S2x256, .f32⟩
  | 112 => ⟨S2x256, .f32⟩
  | 113 => ⟨S_, .f32⟩
  | 114 => ⟨S2x256, .f32⟩
  | 115 => ⟨S2x256, .f32⟩
  | 116 => ⟨S_, .f32⟩
  | 117 => ⟨S2x256, .f32⟩
  | 118 => ⟨S2x256, .f32⟩
  | 119 => ⟨S2x256, .f32⟩
  | 120 => ⟨S_, .f32⟩
  | 121 => ⟨S2x256, .f32⟩
  | 122 => ⟨S2x256, .f32⟩
  | 123 => ⟨S2x256, .f32⟩
  | 124 => ⟨S_, .f32⟩
  | 125 => ⟨S2x256, .f32⟩
  | 126 => ⟨S2x256, .f32⟩
  | 127 => ⟨S2x256, .f32⟩
  | _ => ⟨S2x768, .f32⟩

abbrev hbmTy0_1 (i : Nat) : BufTy := match i % 128 with
  | 0 => ⟨S_, .f32⟩
  | 1 => ⟨S2x256, .f32⟩
  | 2 => ⟨S2x256, .f32⟩
  | 3 => ⟨S_, .f32⟩
  | 4 => ⟨S2x128, .f32⟩
  | 5 => ⟨S2x128, .f32⟩
  | 6 => ⟨S_, .f32⟩
  | 7 => ⟨S2x128, .f32⟩
  | 8 => ⟨S2x128, .f32⟩
  | 9 => ⟨S2x128, .f32⟩
  | 10 => ⟨S_, .f32⟩
  | 11 => ⟨S2x128, .f32⟩
  | 12 => ⟨S2x128, .f32⟩
  | 13 => ⟨S2x128, .f32⟩
  | 14 => ⟨S_, .f32⟩
  | 15 => ⟨S2x128, .f32⟩
  | 16 => ⟨S2x128, .f32⟩
  | 17 => ⟨S2x128, .f32⟩
  | 18 => ⟨S_, .f32⟩
  | 19 => ⟨S2x128, .f32⟩
  | 20 => ⟨S2x128, .f32⟩
  | 21 => ⟨S_, .f32⟩
  | 22 => ⟨S2x128, .f32⟩
  | 23 => ⟨S2x128, .f32⟩
  | 24 => ⟨S2x128, .f32⟩
  | 25 => ⟨S_, .f32⟩
  | 26 => ⟨S2x128, .f32⟩
  | 27 => ⟨S2x128, .f32⟩
  | 28 => ⟨S2x128, .f32⟩
  | 29 => ⟨S_, .f32⟩
  | 30 => ⟨S2x128, .f32⟩
  | 31 => ⟨S2x128, .f32⟩
  | 32 => ⟨S2x128, .f32⟩
  | 33 => ⟨S_, .f32⟩
  | 34 => ⟨S2x128, .f32⟩
  | 35 => ⟨S2x128, .f32⟩
  | 36 => ⟨S_, .f32⟩
  | 37 => ⟨S8192x768, .f32⟩
  | 38 => ⟨S8192x768, .f32⟩
  | 39 => ⟨S_, .f32⟩
  | 40 => ⟨S8192x768, .f32⟩
  | 41 => ⟨S8192x768, .f32⟩
  | 42 => ⟨S8192x768, .f32⟩
  | 43 => ⟨S_, .f32⟩
  | 44 => ⟨S8192x768, .f32⟩
  | 45 => ⟨S8192x768, .f32⟩
  | 46 => ⟨S8192x768, .f32⟩
  | 47 => ⟨S_, .f32⟩
  | 48 => ⟨S8192x768, .f32⟩
  | 49 => ⟨S8192x768, .f32⟩
  | 50 => ⟨S8192x768, .f32⟩
  | 51 => ⟨S_, .f32⟩
  | 52 => ⟨S8192x768, .f32⟩
  | 53 => ⟨S8192x768, .f32⟩
  | 54 => ⟨S_, .f32⟩
  | 55 => ⟨S8192x768, .f32⟩
  | 56 => ⟨S8192x768, .f32⟩
  | 57 => ⟨S8192x768, .f32⟩
  | 58 => ⟨S_, .f32⟩
  | 59 => ⟨S8192x768, .f32⟩
  | 60 => ⟨S8192x768, .f32⟩
  | 61 => ⟨S8192x768, .f32⟩
  | 62 => ⟨S_, .f32⟩
  | 63 => ⟨S8192x768, .f32⟩
  | 64 => ⟨S8192x768, .f32⟩
  | 65 => ⟨S8192x768, .f32⟩
  | 66 => ⟨S_, .f32⟩
  | 67 => ⟨S8192x768, .f32⟩
  | 68 => ⟨S8192x768, .f32⟩
  | 69 => ⟨S_, .f32⟩
  | 70 => ⟨S8x768, .f32⟩
  | 71 => ⟨S8x768, .f32⟩
  | 72 => ⟨S_, .f32⟩
  | 73 => ⟨S8x768, .f32⟩
  | 74 => ⟨S8x768, .f32⟩
  | 75 => ⟨S8x768, .f32⟩
  | 76 => ⟨S_, .f32⟩
  | 77 => ⟨S8x768, .f32⟩
  | 78 => ⟨S8x768, .f32⟩
  | 79 => ⟨S8x768, .f32⟩
  | 80 => ⟨S_, .f32⟩
  | 81 => ⟨S8x768, .f32⟩
  | 82 => ⟨S8x768, .f32⟩
  | 83 => ⟨S8x768, .f32⟩
  | 84 => ⟨S_, .f32⟩
  | 85 => ⟨S8x768, .f32⟩
  | 86 => ⟨S8x768, .f32⟩
  | 87 => ⟨S_, .f32⟩
  | 88 => ⟨S8x768, .f32⟩
  | 89 => ⟨S8x768, .f32⟩
  | 90 => ⟨S8x768, .f32⟩
  | 91 => ⟨S_, .f32⟩
  | 92 => ⟨S8x768, .f32⟩
  | 93 => ⟨S8x768, .f32⟩
  | 94 => ⟨S8x768, .f32⟩
  | 95 => ⟨S_, .f32⟩
  | 96 => ⟨S8x768, .f32⟩
  | 97 => ⟨S8x768, .f32⟩
  | 98 => ⟨S8x768, .f32⟩
  | 99 => ⟨S_, .f32⟩
  | 100 => ⟨S8x768, .f32⟩
  | 101 => ⟨S8x768, .f32⟩
  | 102 => ⟨S_, .f32⟩
  | 103 => ⟨S8x256, .f32⟩
  | 104 => ⟨S8x256, .f32⟩
  | 105 => ⟨S_, .f32⟩
  | 106 => ⟨S8x256, .f32⟩
  | 107 => ⟨S8x256, .f32⟩
  | 108 => ⟨S8x256, .f32⟩
  | 109 => ⟨S_, .f32⟩
  | 110 => ⟨S8x256, .f32⟩
  | 111 => ⟨S8x256, .f32⟩
  | 112 => ⟨S8x256, .f32⟩
  | 113 => ⟨S_, .f32⟩
  | 114 => ⟨S8x256, .f32⟩
  | 115 => ⟨S8x256, .f32⟩
  | 116 => ⟨S8x256, .f32⟩
  | 117 => ⟨S_, .f32⟩
  | 118 => ⟨S8x256, .f32⟩
  | 119 => ⟨S8x256, .f32⟩
  | 120 => ⟨S_, .f32⟩
  | 121 => ⟨S8x256, .f32⟩
  | 122 => ⟨S8x256, .f32⟩
  | 123 => ⟨S8x256, .f32⟩
  | 124 => ⟨S_, .f32⟩
  | 125 => ⟨S8x256, .f32⟩
  | 126 => ⟨S8x256, .f32⟩
  | 127 => ⟨S8x256, .f32⟩
  | _ => ⟨S2x768, .f32⟩

abbrev hbmTy0_2 (i : Nat) : BufTy := match i % 128 with
  | 0 => ⟨S_, .f32⟩
  | 1 => ⟨S8x256, .f32⟩
  | 2 => ⟨S8x256, .f32⟩
  | 3 => ⟨S8x256, .f32⟩
  | 4 => ⟨S_, .f32⟩
  | 5 => ⟨S8x256, .f32⟩
  | 6 => ⟨S8x256, .f32⟩
  | 7 => ⟨S_, .f32⟩
  | 8 => ⟨S8x256, .f32⟩
  | 9 => ⟨S8x256, .f32⟩
  | 10 => ⟨S_, .f32⟩
  | 11 => ⟨S8x256, .f32⟩
  | 12 => ⟨S8x256, .f32⟩
  | 13 => ⟨S8x256, .f32⟩
  | 14 => ⟨S_, .f32⟩
  | 15 => ⟨S8x256, .f32⟩
  | 16 => ⟨S8x256, .f32⟩
  | 17 => ⟨S8x256, .f32⟩
  | 18 => ⟨S_, .f32⟩
  | 19 => ⟨S8x256, .f32⟩
  | 20 => ⟨S8x256, .f32⟩
  | 21 => ⟨S8x256, .f32⟩
  | 22 => ⟨S_, .f32⟩
  | 23 => ⟨S8x256, .f32⟩
  | 24 => ⟨S8x256, .f32⟩
  | 25 => ⟨S_, .f32⟩
  | 26 => ⟨S8x256, .f32⟩
  | 27 => ⟨S8x256, .f32⟩
  | 28 => ⟨S8x256, .f32⟩
  | 29 => ⟨S_, .f32⟩
  | 30 => ⟨S8x256, .f32⟩
  | 31 => ⟨S8x256, .f32⟩
  | 32 => ⟨S8x256, .f32⟩
  | 33 => ⟨S_, .f32⟩
  | 34 => ⟨S8x256, .f32⟩
  | 35 => ⟨S8x256, .f32⟩
  | 36 => ⟨S8x256, .f32⟩
  | 37 => ⟨S_, .f32⟩
  | 38 => ⟨S8x256, .f32⟩
  | 39 => ⟨S8x256, .f32⟩
  | _ => ⟨S2x768, .f32⟩

abbrev hbmTy (i : Nat) : BufTy := match i / 128 with
  | 0 => hbmTy0_0 i
  | 1 => hbmTy0_1 i
  | 2 => hbmTy0_2 i
  | _ => ⟨S2x768, .f32⟩

abbrev bufTy : (tb : Table) → Fin (tcTables nBuf tb) → BufTy
  | .hbm, ⟨i, _⟩ => hbmTy i
  | _, _ => ⟨S2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Proof.LoopsKernelIdeal.lean ====
/- The outer loop of the gradient kernel (its key blocks): one block's run over symbolic contents, the pieces it stores
   found by the run, and the loop's invariant over their recursion. -/
module

public import proofs.«01_k».proof.Proof.Gen.KernelIdeal.Frame
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one key block's run touches: the staged operands and the saved row sums it reads, the two gradients and the
   query accumulator it writes. -/
abbrev KBlock (c : Dev nD) (arg2 : Memref sig .tc .vmem S2x1x2048x96 .bf16) (arg3 : Memref sig .tc .vmem S2x1x2048x96 .bf16) (arg4 : Memref sig .tc .vmem S2x1x2048x64 .bf16) (arg6 : Memref sig .tc .vmem S1x2048x128 .bf16) (arg12 : Memref sig .tc .vmem S2x2048x1 .f32) (arg13 : Memref sig .tc .vmem S2x2048x1 .f32) (arg9 : Memref sig .tc .vmem S2x1x2048x96 .bf16) (arg10 : Memref sig .tc .vmem S2x1x2048x64 .bf16) (arg11 : Memref sig .tc .vmem S2x2048x96 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg12 : BufTy.Contents (Elt F) arg12.view.ty) (X_arg13 : BufTy.Contents (Elt F) arg13.view.ty) (f_arg9 : BufTy.Contents (Elt F) arg9.view.ty) (f_arg10 : BufTy.Contents (Elt F) arg10.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg12.view.loc (c : Thread nD τ) ↦[arg12.view.set]{fullShare} X_arg12) ∗ (arg13.view.loc (c : Thread nD τ) ↦[arg13.view.set]{fullShare} X_arg13) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- One key block's run: the pieces it stores into the two gradients and into the query accumulator, as functions of
   what the accumulator holds when the block begins. -/
@[irreducible] def kblock (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg12 : BufTy.Contents (Elt F) arg12.view.ty) (X_arg13 : BufTy.Contents (Elt F) arg13.view.ty) (k : Fin k0_t1_loop.trips) :
    Σ' (L9 : BufTy.Contents (Elt F) arg11.view.ty → List (View.Piece (Elt F) S2x1x2048x96 .bf16)) (L10 : BufTy.Contents (Elt F) arg11.view.ty → List (View.Piece (Elt F) S2x1x2048x64 .bf16)), { L11 : BufTy.Contents (Elt F) arg11.view.ty → List (View.Piece (Elt F) S2x2048x96 .f32) // ∀ (E : Set ℕ) (f_arg9 : BufTy.Contents (Elt F) arg9.view.ty) (f_arg10 : BufTy.Contents (Elt F) arg10.view.ty) (f_arg11 : BufTy.Contents (Elt F) arg11.view.ty),
      KBlock (F := F) c arg2 arg3 arg4 arg6 arg12 arg13 arg9 arg10 arg11 X_arg2 X_arg3 X_arg4 X_arg6 X_arg12 X_arg13 f_arg9 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k ())
          (fun _ => KBlock (F := F) c arg2 arg3 arg4 arg6 arg12 arg13 arg9 arg10 arg11 X_arg2 X_arg3 X_arg4 X_arg6 X_arg12 X_arg13 (arg9.view.writes (Elt F) f_arg9 (L9 f_arg11)) (arg10.view.writes (Elt F) f_arg10 (L10 f_arg11)) (arg11.view.writes (Elt F) f_arg11 (L11 f_arg11))) } := by
  refine ⟨?_, ?_, ?_, fun E f_arg9 f_arg10 f_arg11 => ?run⟩
  case run =>
    unfold k0_t1_body
    iintro ⟨H_arg2, H_arg3, H_arg4, H_arg6, H_arg12, H_arg13, H_arg9, H_arg10, H_arg11⟩
    sl_exec
    sl_step
    sl_close

/-- The pieces stored by the key blocks before `k` (last first), from what the accumulator holds at loop entry. -/
def pieces (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg12 : BufTy.Contents (Elt F) arg12.view.ty) (X_arg13 : BufTy.Contents (Elt F) arg13.view.ty) (G_arg11 : BufTy.Contents (Elt F) arg11.view.ty) : ℕ → List (View.Piece (Elt F) S2x1x2048x96 .bf16) × List (View.Piece (Elt F) S2x1x2048x64 .bf16) × List (View.Piece (Elt F) S2x2048x96 .f32)
  | 0 => ([], [], [])
  | k + 1 =>
    let p := pieces 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k
    if h : k < k0_t1_loop.trips then
      let s := kblock (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 ⟨k, h⟩
      let f := arg11.view.writes (Elt F) G_arg11 p.2.2
      (s.1 f ++ p.1, s.2.1 f ++ p.2.1, s.2.2.1 f ++ p.2.2)
    else p

theorem pieces_succ (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg12 : BufTy.Contents (Elt F) arg12.view.ty) (X_arg13 : BufTy.Contents (Elt F) arg13.view.ty) (G_arg11 : BufTy.Contents (Elt F) arg11.view.ty) (k : Fin k0_t1_loop.trips) :
    pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 (k.val + 1) =
      ((kblock (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).1 (arg11.view.writes (Elt F) G_arg11 (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k.val).2.2) ++ (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k.val).1,
       (kblock (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).2.1 (arg11.view.writes (Elt F) G_arg11 (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k.val).2.2) ++ (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k.val).2.1,
       (kblock (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).2.2.1 (arg11.view.writes (Elt F) G_arg11 (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k.val).2.2) ++ (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k.val).2.2) := by
  rw [pieces.eq_2]; exact dif_pos k.isLt

/-- The invariant before key block `k`. -/
abbrev kinv (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg12 : BufTy.Contents (Elt F) arg12.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (k : ℕ) (_ : Unit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg12.view.loc (c : Thread nD τ) ↦[arg12.view.set]{fullShare} X_arg12) ∗ (arg13.view.loc (c : Thread nD τ) ↦[arg13.view.set]{fullShare} X_arg13)
    ∗ (∃ f, (arg9.view.loc (c : Thread nD τ) ↦[arg9.view.set]{fullShare} f) ∗ ⌜f = arg9.view.writes (Elt F) G_arg9 (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k).1⌝)
    ∗ (∃ f, (arg10.view.loc (c : Thread nD τ) ↦[arg10.view.set]{fullShare} f) ∗ ⌜f = arg10.view.writes (Elt F) G_arg10 (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k).2.1⌝)
    ∗ (∃ f, (arg11.view.loc (c : Thread nD τ) ↦[arg11.view.set]{fullShare} f) ∗ ⌜f = arg11.view.writes (Elt F) G_arg11 (pieces (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg11 k).2.2⌝))

set_option warn.classDefReducibility false in
/-- The loop over the key blocks by its invariant. -/
@[sl_loop] def kloop (𝒱 : Variants) (c : Dev nD) (bd : Option 𝒱.V) (E : Set ℕ) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg12 : BufTy.Contents (Elt F) arg12.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 where
  inv := kinv (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G_arg9 G_arg10 G_arg11
  step k acc := by
    iintro ⟨H_arg2, H_arg3, H_arg4, H_arg6, H_arg12, H_arg13, ⟨%f9, H_arg9, %h9⟩, ⟨%f10, H_arg10, %h10⟩, ⟨%f11, H_arg11, %h11⟩⟩
    iapply (wp_wand_r Idealize.ShloMosaic.frame (wpE (defs₀ (F := F)) 𝒱 (c : Thread nD τ) bd) E)
    isplitl [H_arg2 H_arg3 H_arg4 H_arg6 H_arg12 H_arg13 H_arg9 H_arg10 H_arg11]
    · iapply ((kblock (F := F) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).2.2.2 E f9 f10 f11)
      isplitl [H_arg2]; · iexact H_arg2
      isplitl [H_arg3]; · iexact H_arg3
      isplitl [H_arg4]; · iexact H_arg4
      isplitl [H_arg6]; · iexact H_arg6
      isplitl [H_arg12]; · iexact H_arg12
      isplitl [H_arg13]; · iexact H_arg13
      isplitl [H_arg9]; · iexact H_arg9
      isplitl [H_arg10]; · iexact H_arg10
      iexact H_arg11
    · iintro %yld ⟨H_arg2, H_arg3, H_arg4, H_arg6, H_arg12, H_arg13, H_arg9, H_arg10, H_arg11⟩
      isplitl [H_arg2]; · iexact H_arg2
      isplitl [H_arg3]; · iexact H_arg3
      isplitl [H_arg4]; · iexact H_arg4
      isplitl [H_arg6]; · iexact H_arg6
      isplitl [H_arg12]; · iexact H_arg12
      isplitl [H_arg13]; · iexact H_arg13
      simp only [pieces_succ]
      isplitl [H_arg9]
      · iexists _; isplitl [H_arg9]; · iexact H_arg9
        ipureintro; rw [h9, h11, ← View.writes_append]
      isplitl [H_arg10]
      · iexists _; isplitl [H_arg10]; · iexact H_arg10
        ipureintro; rw [h10, h11, ← View.writes_append]
      iexists _; isplitl [H_arg11]; · iexact H_arg11
      ipureintro; rw [h11, ← View.writes_append]

end Cert.Proof.KernelIdeal

end
-- ==== Proof.RunKernelIdeal.lean ====
/- The gradient kernel at one grid point, on any staging buffers: what it stores into its three results. -/
module

public import proofs.«01_k».proof.Proof.LoopsKernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The kernel's run at one point: the pieces it leaves in the gradients of the queries, the keys and the values. -/
def bodyRun (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) :
    Σ' (L8 : List (View.Piece (Elt F) S2x1x2048x96 .bf16)) (L9 : List (View.Piece (Elt F) S2x1x2048x96 .bf16)), { L10 : List (View.Piece (Elt F) S2x1x2048x64 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Proof.KernelIdeal

end
-- ==== Proof.FrameKernelIdeal.lean ====
/- The gradient kernel at every grid point: the pipeline's proof data, the body obligation, the run of the whole program. -/
module

public import proofs.«01_k».proof.Proof.RunKernelIdeal
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's staging memref at point `t`. -/
abbrev sm0 (t : Fin cfg0.N) : Memref sig .tc .vmem S2x1x2048x96 .bf16 := win0_0.stage (cfg0.slots t 0)
theorem hm0 (t : Fin cfg0.N) : (sm0 t).IsWhole := hstage0_0 ((cfg0.slots t 0).cast nbuf0_0)
/-- Window 1's staging memref at point `t`. -/
abbrev sm1 (t : Fin cfg0.N) : Memref sig .tc .vmem S2x1x2048x96 .bf16 := win0_1.stage (cfg0.slots t 1)
theorem hm1 (t : Fin cfg0.N) : (sm1 t).IsWhole := hstage0_1 ((cfg0.slots t 1).cast nbuf0_1)
/-- Window 2's staging memref at point `t`. -/
abbrev sm2 (t : Fin cfg0.N) : Memref sig .tc .vmem S2x1x2048x64 .bf16 := win0_2.stage (cfg0.slots t 2)
theorem hm2 (t : Fin cfg0.N) : (sm2 t).IsWhole := hstage0_2 ((cfg0.slots t 2).cast nbuf0_2)
/-- Window 3's staging memref at point `t`. -/
abbrev sm3 (t : Fin cfg0.N) : Memref sig .tc .vmem S1x2048x128 .bf16 := win0_3.stage (cfg0.slots t 3)
theorem hm3 (t : Fin cfg0.N) : (sm3 t).IsWhole := hstage0_3 ((cfg0.slots t 3).cast nbuf0_3)
/-- Window 4's staging memref at point `t`. -/
abbrev sm4 (t : Fin cfg0.N) : Memref sig .tc .vmem S1x2048x128 .bf16 := win0_4.stage (cfg0.slots t 4)
theorem hm4 (t : Fin cfg0.N) : (sm4 t).IsWhole := hstage0_4 ((cfg0.slots t 4).cast nbuf0_4)
/-- Window 5's staging memref at point `t`. -/
abbrev sm5 (t : Fin cfg0.N) : Memref sig .tc .vmem S2x1x2048x1 .f32 := win0_5.stage (cfg0.slots t 5)
theorem hm5 (t : Fin cfg0.N) : (sm5 t).IsWhole := hstage0_5 ((cfg0.slots t 5).cast nbuf0_5)
/-- Window 6's staging memref at point `t`. -/
abbrev sm6 (t : Fin cfg0.N) : Memref sig .tc .vmem S2x1x2048x96 .bf16 := win0_6.stage (cfg0.slots t 6)
theorem hm6 (t : Fin cfg0.N) : (sm6 t).IsWhole := hstage0_6 ((cfg0.slots t 6).cast nbuf0_6)
/-- Window 7's staging memref at point `t`. -/
abbrev sm7 (t : Fin cfg0.N) : Memref sig .tc .vmem S2x1x2048x96 .bf16 := win0_7.stage (cfg0.slots t 7)
theorem hm7 (t : Fin cfg0.N) : (sm7 t).IsWhole := hstage0_7 ((cfg0.slots t 7).cast nbuf0_7)
/-- Window 8's staging memref at point `t`. -/
abbrev sm8 (t : Fin cfg0.N) : Memref sig .tc .vmem S2x1x2048x64 .bf16 := win0_8.stage (cfg0.slots t 8)
theorem hm8 (t : Fin cfg0.N) : (sm8 t).IsWhole := hstage0_8 ((cfg0.slots t 8).cast nbuf0_8)
abbrev scr0 : Memref sig .tc .vmem S2x2048x96 .f32 := Memref.whole cc0_scratch0
abbrev scr1 : Memref sig .tc .vmem S2x2048x1 .f32 := Memref.whole cc0_scratch1
abbrev scr2 : Memref sig .tc .vmem S2x2048x1 .f32 := Memref.whole cc0_scratch2

/-- The kernel's own buffers, each at some contents, beside the generator register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The stores into result 0 tile its block. -/
theorem covers8 (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) (y : S2x1x2048x96.Idx) :
    ∃ pc ∈ (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).1, y ∈ pc.1.set :=
  View.cover_of_tiledL (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).1 S2x1x2048x96.size (by sl_kernel_rfl) y

/-- What the run leaves in result 0's staging buffer. -/
def left8 (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) : Vec F S2x1x2048x96 .bf16 :=
  (Memref.whole cc0_stg6_0 : Memref sig .tc .vmem S2x1x2048x96 .bf16).view.read (Elt F) ((Memref.whole cc0_stg6_0 : Memref sig .tc .vmem S2x1x2048x96 .bf16).view.writes (Elt F) (Memref.whole cc0_stg6_0 : Memref sig .tc .vmem S2x1x2048x96 .bf16).view.junk (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).1)

/-- The stores into result 1 tile its block. -/
theorem covers9 (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) (y : S2x1x2048x96.Idx) :
    ∃ pc ∈ (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).2.1, y ∈ pc.1.set :=
  View.cover_of_tiledL (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).2.1 S1x1x1024x96.size (by sl_kernel_rfl) y

/-- What the run leaves in result 1's staging buffer. -/
def left9 (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) : Vec F S2x1x2048x96 .bf16 :=
  (Memref.whole cc0_stg7_0 : Memref sig .tc .vmem S2x1x2048x96 .bf16).view.read (Elt F) ((Memref.whole cc0_stg7_0 : Memref sig .tc .vmem S2x1x2048x96 .bf16).view.writes (Elt F) (Memref.whole cc0_stg7_0 : Memref sig .tc .vmem S2x1x2048x96 .bf16).view.junk (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).2.1)

/-- The stores into result 2 tile its block. -/
theorem covers10 (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) (y : S2x1x2048x64.Idx) :
    ∃ pc ∈ (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).2.2.1, y ∈ pc.1.set :=
  View.cover_of_tiledL (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).2.2.1 S1x1x1024x64.size (by sl_kernel_rfl) y

/-- What the run leaves in result 2's staging buffer. -/
def left10 (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole)
    (x2 : Vec F S2x1x2048x96 .bf16) (x3 : Vec F S2x1x2048x96 .bf16) (x4 : Vec F S2x1x2048x64 .bf16) (x5 : Vec F S1x2048x128 .bf16) (x6 : Vec F S1x2048x128 .bf16) (x7 : Vec F S2x1x2048x1 .f32) : Vec F S2x1x2048x64 .bf16 :=
  (Memref.whole cc0_stg8_0 : Memref sig .tc .vmem S2x1x2048x64 .bf16).view.read (Elt F) ((Memref.whole cc0_stg8_0 : Memref sig .tc .vmem S2x1x2048x64 .bf16).view.writes (Elt F) (Memref.whole cc0_stg8_0 : Memref sig .tc .vmem S2x1x2048x64 .bf16).view.junk (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).2.2.1)

/-- The pipeline's proof data: inputs stay at their blocks, each result's buffer at what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left8 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t)
    | ⟨7, _⟩ => left9 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t)
    | ⟨8, _⟩ => left10 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = left8 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t) := by dsimp only [dats]
theorem after7 (c : Dev nD) (t : Fin cfg0.N) : (dats m 0 c).after 7 t = left9 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t) := by dsimp only [dats]
theorem after8 (c : Dev nD) (t : Fin cfg0.N) : (dats m 0 c).after 8 t = left10 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, window by window, -/
def pre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d))
    ∗ (∃ d, owns (c : Thread nD τ) (sm8 t) fullShare ((dats m 0 c).before 8 t d)))

/-- and what it returns. -/
def post (c : Dev nD) (t : Fin cfg0.N) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t)
    ∗ owns (c : Thread nD τ) (sm5 t) fullShare ((dats m 0 c).after 5 t)
    ∗ owns (c : Thread nD τ) (sm6 t) fullShare ((dats m 0 c).after 6 t)
    ∗ owns (c : Thread nD τ) (sm7 t) fullShare ((dats m 0 c).after 7 t)
    ∗ owns (c : Thread nD τ) (sm8 t) fullShare ((dats m 0 c).after 8 t))

/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, scratch_eq]
  unfold left8 left9 left10
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun (F := F) c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  iintro ⟨H0, H1, H2, H3, H4, H5, ⟨%e6, H6⟩, ⟨%e7, H7⟩, ⟨%e8, H8⟩, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (covers8 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t))
  isplitl [H7]
  · unfold owns; iexists _; isplitr
    swap; · iexact H7
    ipureintro; exact View.read_writes_of_cover _ _ _ _ _ (covers9 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t))
  unfold owns; iexists _; isplitr
  swap; · iexact H8
  ipureintro; exact View.read_writes_of_cover _ _ _ _ _ (covers10 c (grid0.coords t) (sm0 t) (hm0 t) (sm1 t) (hm1 t) (sm2 t) (hm2 t) (sm3 t) (hm3 t) (sm4 t) (hm4 t) (sm5 t) (hm5 t) (sm6 t) (hm6 t) (sm7 t) (hm7 t) (sm8 t) (hm8 t) scr0 (Memref.isWhole_whole _) scr1 (Memref.isWhole_whole _) scr2 (Memref.isWhole_whole _) (iblk m c 0 t) (iblk m c 1 t) (iblk m c 2 t) (iblk m c 3 t) (iblk m c 4 t) (iblk m c 5 t))

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch: every execution terminates with every array at what the proof data say and every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as they were and every counter is zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Proof.KernelIdeal

end
-- ==== Proof.TilesKernelIdeal.lean ====
/- The tiles of the attention gradient: each product the kernel forms on a tile, read at one entry as a sum over the tile. -/
module

public import proofs.«01_k».proof.Proof.FrameKernelIdeal
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

theorem o1 : ∀ k, k0_off1 k = ![0, 0, k.val * 1024, 0] := by decide +kernel
theorem o2 : ∀ k, k0_off2 k = ![1, 0, k.val * 1024, 0] := by decide +kernel
theorem o3 : ∀ k, k0_off3 k = ![0, 0, k.val * 1024, 0] := by decide +kernel
theorem o4 : ∀ k, k0_off4 k = ![1, 0, k.val * 1024, 0] := by decide +kernel
theorem o5 : ∀ k, k0_off5 k = ![0, 0, k.val * 1024, 0] := by decide +kernel
theorem o6 : ∀ k, k0_off6 k = ![0, k.val * 1024, 0] := by decide +kernel
theorem o7 : ∀ k, k0_off7 k = ![0, k.val * 1024, 0] := by decide +kernel
theorem o8 : ∀ k, k0_off8 k = ![0, k.val * 1024, 0] := by decide +kernel
theorem o9 : ∀ k, k0_off9 k = ![0, 0, k.val * 1024 + 512, 0] := by decide +kernel
theorem o10 : ∀ k, k0_off10 k = ![0, k.val * 1024 + 512, 0] := by decide +kernel
theorem o11 : ∀ k, k0_off11 k = ![0, k.val * 1024 + 512, 0] := by decide +kernel
theorem o12 : ∀ k, k0_off12 k = ![0, k.val * 1024 + 512, 0] := by decide +kernel
theorem o13 : ∀ k, k0_off13 k = ![1, 0, k.val * 1024, 0] := by decide +kernel
theorem o14 : ∀ k, k0_off14 k = ![1, k.val * 1024, 0] := by decide +kernel
theorem o15 : ∀ k, k0_off15 k = ![1, k.val * 1024, 0] := by decide +kernel
theorem o16 : ∀ k, k0_off16 k = ![1, 0, k.val * 1024 + 512, 0] := by decide +kernel
theorem o17 : ∀ k, k0_off17 k = ![1, k.val * 1024 + 512, 0] := by decide +kernel
theorem o18 : ∀ k, k0_off18 k = ![1, k.val * 1024 + 512, 0] := by decide +kernel
theorem o19 : ∀ k i, k0_off19 k i = ![0, 0, 1024, 0] := by decide +kernel
theorem o20 : ∀ k i, k0_off20 k i = ![0, 1024, 0] := by decide +kernel
theorem o21 : ∀ k i, k0_off21 k i = ![0, 1024, 0] := by decide +kernel
theorem o22 : ∀ k i, k0_off22 k i = ![0, 1024, 0] := by decide +kernel
theorem o23 : ∀ k i, k0_off23 k i = ![1, 0, 1024, 0] := by decide +kernel
theorem o24 : ∀ k i, k0_off24 k i = ![1, 1024, 0] := by decide +kernel
theorem o25 : ∀ k i, k0_off25 k i = ![1, 1024, 0] := by decide +kernel

/-- The inner loop over the later query blocks runs once for the first key block and never for the last one. -/
theorem trips2 : ∀ k : Fin k0_t1_loop.trips, Scf.trips (k0_t2_loop k).lb (k0_t2_loop k).ub (k0_t2_loop k).st = 1 - k.val := by decide +kernel
theorem trips2' : ∀ k : Fin k0_t1_loop.trips, (k0_t2_loop k).trips = 1 - k.val := by decide +kernel
theorem trips3 : ∀ k : Fin k0_t1_loop.trips, Scf.trips (k0_t3_loop k).lb (k0_t3_loop k).ub (k0_t3_loop k).st = 0 := by decide +kernel
theorem trips1 : Scf.trips k0_t1_loop.lb k0_t1_loop.ub k0_t1_loop.st = 2 := by decide +kernel
theorem kv (k : Fin k0_t1_loop.trips) : k.val < 2 := lt_of_lt_of_le k.isLt (by decide +kernel)

/-- A signed comparison of two small row numbers, read as the comparison of the numbers. -/
theorem sge_select {α : Type} (r c : ℕ) (hr : r < 2048) (hc : c < 2048) (a b : α) :
    Scalar.select (IntOp.cmpi .sge (BitVec.ofNat 32 r) (BitVec.ofNat 32 c)) a b = if c ≤ r then a else b := by
  rw [WordCmp.cmpi_sge_ofNat (by omega) (by omega)]
  by_cases h : c ≤ r <;> simp [h, Scalar.select]

/-- The unmasked weight of key `j` for query `i`, from the row's log-sum-exp in base two. -/
def prob (Q K : S2x1x2048x96.Idx → EReal) (L : S2x2048x1.Idx → EReal) (h : Fin 2) (i j : Fin 2048) : EReal :=
  FloatOps.exp2 (F := Ideal) (φ := .f32) ((∑ d : Fin 96, Q (ix4 h 0 i d) * K (ix4 h 0 j d)) * (Named.named (F := Ideal) (φ := .f32) κ "scale_log2e" 0x3E16C740#32 : EReal) - L (ix3 h i 0))

/-- The weight under the causal mask. -/
def pm (Q K : S2x1x2048x96.Idx → EReal) (L : S2x2048x1.Idx → EReal) (h : Fin 2) (i j : Fin 2048) : EReal :=
  if j.val ≤ i.val then prob Q K L h i j else 0

/-- Column `d` of head `h` in a pair of heads side by side. -/
def wc (h : Fin 2) (d : Fin 64) : Fin 128 := ⟨h.val * 64 + d.val, by omega⟩

/-- The gradient of the score of query `i` and key `j`. -/
def gs (Q K : S2x1x2048x96.Idx → EReal) (V : S2x1x2048x64.Idx → EReal) (W : S1x2048x128.Idx → EReal) (D L : S2x2048x1.Idx → EReal)
    (h : Fin 2) (i j : Fin 2048) : EReal :=
  pm Q K L h i j * ((∑ d : Fin 64, W (ix3 0 i (wc h d)) * V (ix4 h 0 j d)) - D (ix3 h i 0))

/-- Row `n` of key block `k`. -/
def krow (k : Fin k0_t1_loop.trips) (n : ℕ) (hn : n < 1024) : Fin 2048 := ⟨k.val * 1024 + n, by have := kv k; omega⟩

theorem pm_row (Q K L h k) (r c : ℕ) (hr hc) : pm Q K L h (krow k r hr) (krow k c hc) = if c ≤ r then prob Q K L h (krow k r hr) (krow k c hc) else 0 := by
  unfold pm
  have : ((krow k c hc).val ≤ (krow k r hr).val) ↔ c ≤ r := by simp [krow]
  simp only [this]

theorem pm_zero (Q K L h) (i j : Fin 2048) (hij : i.val < j.val) : pm Q K L h i j = 0 := if_neg (by omega)
theorem pm_prob (Q K L h) (i j : Fin 2048) (hij : j.val ≤ i.val) : pm Q K L h i j = prob Q K L h i j := if_pos hij
theorem gs_zero (Q K V W D L h) (i j : Fin 2048) (hij : i.val < j.val) : gs Q K V W D L h i j = 0 := by
  rw [gs, pm_zero _ _ _ _ _ _ hij, zero_mul]

variable {arg2 arg3 : Memref sig .tc .vmem S2x1x2048x96 .bf16} {arg4 : Memref sig .tc .vmem S2x1x2048x64 .bf16} {arg6 : Memref sig .tc .vmem S1x2048x128 .bf16}
  {arg11 : Memref sig .tc .vmem S2x2048x96 .f32} {arg12 arg13 : Memref sig .tc .vmem S2x2048x1 .f32}
  {X_arg2 : BufTy.Contents (Elt Ideal) arg2.view.ty} {X_arg3 : BufTy.Contents (Elt Ideal) arg3.view.ty} {X_arg4 : BufTy.Contents (Elt Ideal) arg4.view.ty}
  {X_arg6 : BufTy.Contents (Elt Ideal) arg6.view.ty} {X_arg12 : BufTy.Contents (Elt Ideal) arg12.view.ty} {X_arg13 : BufTy.Contents (Elt Ideal) arg13.view.ty}
  {f_arg11 : BufTy.Contents (Elt Ideal) arg11.view.ty}

set_option maxHeartbeats 1000000 in
theorem p0 (k : Fin k0_t1_loop.trips) (r : Fin 1024) (c : Fin 512) :
    kblock.sl.v85 (F := Ideal) arg2 arg3 arg13 X_arg2 X_arg3 X_arg13 k (ix2 r c) = pm (arg2.view.read (Elt Ideal) X_arg2) (arg3.view.read (Elt Ideal) X_arg3) (arg13.view.read (Elt Ideal) X_arg13) 0 (krow k r.val (by omega)) (krow k c.val (by omega)) := by
  rw [pm_row]; unfold prob
  unfold kblock.sl.v85 kblock.sl.v84 kblock.sl.v83 kblock.sl.v82 kblock.sl.v81 kblock.sl.v80 kblock.sl.r_8 kblock.sl.cst_64
  try simp only [View.readAt_eq_ld]
  pointwise [k0_pay41, k0_pay46, k0_pay44, k0_pay42, k0_pay37]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem g0 (k : Fin k0_t1_loop.trips) (r : Fin 1024) (c : Fin 512) :
    kblock.sl.v94 (F := Ideal) arg2 arg3 arg4 arg6 arg12 arg13 X_arg2 X_arg3 X_arg4 X_arg6 X_arg12 X_arg13 k (ix2 r c) = gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k r.val (by omega)) (krow k c.val (by omega)) := by
  unfold gs
  unfold kblock.sl.v94 kblock.sl.v93 kblock.sl.v92 kblock.sl.v91 kblock.sl.v88 kblock.sl.r_7 kblock.sl.r_5 kblock.sl.cst_66
  try simp only [View.readAt_eq_ld]
  pointwise [k0_pay45, k0_pay43, k0_pay39, p0]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv00 (k : Fin k0_t1_loop.trips) (c : Fin 512) (d : Fin 64) :
    kblock.sl.v87 (F := Ideal) arg2 arg3 arg6 arg13 X_arg2 X_arg3 X_arg6 X_arg13 k (ix2 c d) = ∑ r : Fin 1024, pm (arg2.view.read (Elt Ideal) X_arg2) (arg3.view.read (Elt Ideal) X_arg3) (arg13.view.read (Elt Ideal) X_arg13) 0 (krow k r.val (by omega)) (krow k c.val (by omega)) * (arg6.view.read (Elt Ideal) X_arg6) (ix3 0 (krow k r.val (by omega)) (wc 0 d)) := by
  unfold kblock.sl.v87 kblock.sl.v86 kblock.sl.r_7 kblock.sl.cst_65
  try simp only [View.readAt_eq_ld]
  pointwise [k0_pay45, p0]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dk00 (k : Fin k0_t1_loop.trips) (c : Fin 512) (d : Fin 96) :
    kblock.sl.v105 (F := Ideal) arg2 arg3 arg4 arg6 arg12 arg13 X_arg2 X_arg3 X_arg4 X_arg6 X_arg12 X_arg13 k (ix2 c d) = ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k r.val (by omega)) (krow k c.val (by omega)) * (arg2.view.read (Elt Ideal) X_arg2) (ix4 0 0 (krow k r.val (by omega)) d) := by
  unfold kblock.sl.v105 kblock.sl.v95 kblock.sl.r_6 kblock.sl.cst_74
  try simp only [View.readAt_eq_ld]
  pointwise [k0_pay44, g0]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dq00 (k : Fin k0_t1_loop.trips) (r : Fin 1024) (d : Fin 96) :
    kblock.sl.v104 (F := Ideal) arg2 arg3 arg4 arg6 arg11 arg12 arg13 X_arg2 X_arg3 X_arg4 X_arg6 X_arg12 X_arg13 k f_arg11 (ix3 0 r d) = (arg11.view.read (Elt Ideal) f_arg11) (ix3 0 (krow k r.val (by omega)) d) + ∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k r.val (by omega)) (krow k c.val (by omega)) * (arg3.view.read (Elt Ideal) X_arg3) (ix4 0 0 (krow k c.val (by omega)) d) := by
  unfold kblock.sl.v104 kblock.sl.v100 kblock.sl.v98 kblock.sl.v99 kblock.sl.v95 kblock.sl.r_4 kblock.sl.cst_71
  try simp only [View.readAt_eq_ld]
  pointwise [k0_pay42, k0_pay37, g0]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv01a (k : Fin k0_t1_loop.trips) (c : Fin 512) (d : Fin 64) :
    kblock.sl.r_10 (F := Ideal) arg2 arg3 arg6 arg13 X_arg2 X_arg3 X_arg6 X_arg13 k (ix2 (⟨c.val, by omega⟩ : Fin 1024) d) = ∑ r : Fin 1024, pm (arg2.view.read (Elt Ideal) X_arg2) (arg3.view.read (Elt Ideal) X_arg3) (arg13.view.read (Elt Ideal) X_arg13) 0 (krow k r.val (by omega)) (krow k c.val (by omega)) * (arg6.view.read (Elt Ideal) X_arg6) (ix3 0 (krow k r.val (by omega)) (wc 0 d)) := by
  unfold kblock.sl.r_10
  try simp only [View.readAt_eq_ld]
  pointwise [k0_pay62, dv00]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv01 (k : Fin k0_t1_loop.trips) (c : Fin 512) (d : Fin 64) :
    kblock.sl.r_10 (F := Ideal) arg2 arg3 arg6 arg13 X_arg2 X_arg3 X_arg6 X_arg13 k (ix2 (⟨512 + c.val, by omega⟩ : Fin 1024) d) = ∑ r : Fin 512, pm (arg2.view.read (Elt Ideal) X_arg2) (arg3.view.read (Elt Ideal) X_arg3) (arg13.view.read (Elt Ideal) X_arg13) 0 (krow k (512 + r.val) (by omega)) (krow k (512 + c.val) (by omega)) * (arg6.view.read (Elt Ideal) X_arg6) (ix3 0 (krow k (512 + r.val) (by omega)) (wc 0 d)) := by
  simp only [gs, pm_row, prob]
  unfold kblock.sl.r_10 kblock.sl.v109 kblock.sl.v110 kblock.sl.v112 kblock.sl.v116 kblock.sl.v119 kblock.sl.r
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dk01a (k : Fin k0_t1_loop.trips) (c : Fin 512) (d : Fin 96) :
    kblock.sl.r_9 (F := Ideal) arg2 arg3 arg4 arg6 arg12 arg13 X_arg2 X_arg3 X_arg4 X_arg6 X_arg12 X_arg13 k (ix2 (⟨c.val, by omega⟩ : Fin 1024) d) = ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k r.val (by omega)) (krow k c.val (by omega)) * (arg2.view.read (Elt Ideal) X_arg2) (ix4 0 0 (krow k r.val (by omega)) d) := by
  unfold kblock.sl.r_9
  try simp only [View.readAt_eq_ld]
  pointwise [k0_pay61, dk00]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dk01 (k : Fin k0_t1_loop.trips) (c : Fin 512) (d : Fin 96) :
    kblock.sl.r_9 (F := Ideal) arg2 arg3 arg4 arg6 arg12 arg13 X_arg2 X_arg3 X_arg4 X_arg6 X_arg12 X_arg13 k (ix2 (⟨512 + c.val, by omega⟩ : Fin 1024) d) = ∑ r : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k (512 + r.val) (by omega)) (krow k (512 + c.val) (by omega)) * (arg2.view.read (Elt Ideal) X_arg2) (ix4 0 0 (krow k (512 + r.val) (by omega)) d) := by
  simp only [gs, pm_row, prob]
  unfold kblock.sl.r_9 kblock.sl.v109 kblock.sl.v110 kblock.sl.v112 kblock.sl.v113 kblock.sl.v116 kblock.sl.v119 kblock.sl.r kblock.sl.r_2
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dq01 (k : Fin k0_t1_loop.trips) (r : Fin 512) (d : Fin 96) (z : FVec Ideal S1x512x96 .f32) (h11 : ∀ a, k0_off11 k a + S1x512x1.size a ≤ S2x2048x1.size a) :
    k0_pay60 (F := Ideal) (cmpi .sge kblock.sl.v109 kblock.sl.v110) (kblock.sl.v112 (F := Ideal) arg3 X_arg3 k) (kblock.sl.v113 (F := Ideal) arg4 X_arg4 k) (kblock.sl.v116 (F := Ideal) arg2 X_arg2 k) (kblock.sl.v119 (F := Ideal) arg6 X_arg6 k) (View.readAt (Elt Ideal) arg13.view (Rect.unit (s := S2x2048x1) (k0_off11 k) S1x512x1.size h11).toLoadRect X_arg13) (View.readAt (Elt Ideal) arg12.view (Rect.unit (s := S2x2048x1) (k0_off11 k) S1x512x1.size h11).toLoadRect X_arg12) z (ix3 0 r d) = z (ix3 0 r d) + ∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k (512 + r.val) (by omega)) (krow k (512 + c.val) (by omega)) * (arg3.view.read (Elt Ideal) X_arg3) (ix4 0 0 (krow k (512 + c.val) (by omega)) d) := by
  simp only [gs, pm_row, prob]
  unfold kblock.sl.v109 kblock.sl.v110 kblock.sl.v112 kblock.sl.v113 kblock.sl.v116 kblock.sl.v119 kblock.sl.r kblock.sl.r_2
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dq10 (k : Fin k0_t1_loop.trips) (r : Fin 1024) (d : Fin 96) (z : FVec Ideal S1x1024x96 .f32) (h13 : ∀ a, k0_off13 k a + S1x1x1024x96.size a ≤ S2x1x2048x96.size a)(h6 : ∀ a, k0_off6 k a + S1x1024x128.size a ≤ S1x2048x128.size a)(h14 : ∀ a, k0_off14 k a + S1x1024x1.size a ≤ S2x2048x1.size a) :
    k0_pay71 (F := Ideal) k0_pay63 (kblock.sl.r_11 (F := Ideal) arg3 X_arg3 k) (kblock.sl.r_12 (F := Ideal) arg4 X_arg4 k) (View.readAt (Elt Ideal) arg2.view (Rect.unit (s := S2x1x2048x96) (k0_off13 k) S1x1x1024x96.size h13).toLoadRect X_arg2) (View.readAt (Elt Ideal) arg6.view (Rect.unit (s := S1x2048x128) (k0_off6 k) S1x1024x128.size h6).toLoadRect X_arg6) (View.readAt (Elt Ideal) arg13.view (Rect.unit (s := S2x2048x1) (k0_off14 k) S1x1024x1.size h14).toLoadRect X_arg13) (View.readAt (Elt Ideal) arg12.view (Rect.unit (s := S2x2048x1) (k0_off14 k) S1x1024x1.size h14).toLoadRect X_arg12) z (ix3 0 r d) = z (ix3 0 r d) + ∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k r.val (by omega)) (krow k c.val (by omega)) * (arg3.view.read (Elt Ideal) X_arg3) (ix4 1 0 (krow k c.val (by omega)) d) := by
  simp only [gs, pm_row, prob]
  unfold kblock.sl.r_11 kblock.sl.r_12 kblock.sl.r_1 kblock.sl.r_3
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv10 (k : Fin k0_t1_loop.trips) (c : Fin 512) (d : Fin 64) :
    kblock.sl.r_13 (F := Ideal) arg2 arg3 arg6 arg13 X_arg2 X_arg3 X_arg6 X_arg13 k (ix2 c d) = ∑ r : Fin 1024, pm (arg2.view.read (Elt Ideal) X_arg2) (arg3.view.read (Elt Ideal) X_arg3) (arg13.view.read (Elt Ideal) X_arg13) 1 (krow k r.val (by omega)) (krow k c.val (by omega)) * (arg6.view.read (Elt Ideal) X_arg6) (ix3 0 (krow k r.val (by omega)) (wc 1 d)) := by
  simp only [gs, pm_row, prob]
  unfold kblock.sl.r_13 kblock.sl.r_11 kblock.sl.r_1
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dk10 (k : Fin k0_t1_loop.trips) (c : Fin 512) (d : Fin 96) :
    kblock.sl.r_14 (F := Ideal) arg2 arg3 arg4 arg6 arg12 arg13 X_arg2 X_arg3 X_arg4 X_arg6 X_arg12 X_arg13 k (ix2 c d) = ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k r.val (by omega)) (krow k c.val (by omega)) * (arg2.view.read (Elt Ideal) X_arg2) (ix4 1 0 (krow k r.val (by omega)) d) := by
  simp only [gs, pm_row, prob]
  unfold kblock.sl.r_14 kblock.sl.r_11 kblock.sl.r_12 kblock.sl.r_1 kblock.sl.r_3
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv11 (k : Fin k0_t1_loop.trips) (c : Fin 512) (d : Fin 64) :
    kblock.sl.r_16 (F := Ideal) arg2 arg3 arg6 arg13 X_arg2 X_arg3 X_arg6 X_arg13 k (ix2 c d) = ∑ r : Fin 512, pm (arg2.view.read (Elt Ideal) X_arg2) (arg3.view.read (Elt Ideal) X_arg3) (arg13.view.read (Elt Ideal) X_arg13) 1 (krow k (512 + r.val) (by omega)) (krow k (512 + c.val) (by omega)) * (arg6.view.read (Elt Ideal) X_arg6) (ix3 0 (krow k (512 + r.val) (by omega)) (wc 1 d)) := by
  simp only [gs, pm_row, prob]
  unfold kblock.sl.r_16 kblock.sl.r_1
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dk11a (k : Fin k0_t1_loop.trips) (c : Fin 512) (d : Fin 96) :
    k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k) (ix2 (⟨c.val, by omega⟩ : Fin 1024) d) = ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k r.val (by omega)) (krow k c.val (by omega)) * (arg2.view.read (Elt Ideal) X_arg2) (ix4 1 0 (krow k r.val (by omega)) d) := by
  unfold kblock.sl.r_15
  try simp only [View.readAt_eq_ld]
  pointwise [k0_pay81, dk10]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dk11 (k : Fin k0_t1_loop.trips) (c : Fin 512) (d : Fin 96) :
    k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k) (ix2 (⟨512 + c.val, by omega⟩ : Fin 1024) d) = ∑ r : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k (512 + r.val) (by omega)) (krow k (512 + c.val) (by omega)) * (arg2.view.read (Elt Ideal) X_arg2) (ix4 1 0 (krow k (512 + r.val) (by omega)) d) := by
  simp only [gs, pm_row, prob]
  unfold kblock.sl.r_15 kblock.sl.r_17 kblock.sl.r_1 kblock.sl.r_3
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv11a (k : Fin k0_t1_loop.trips) (c : Fin 512) (d : Fin 64) :
    k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k) (ix2 (⟨c.val, by omega⟩ : Fin 1024) d) = ∑ r : Fin 1024, pm (arg2.view.read (Elt Ideal) X_arg2) (arg3.view.read (Elt Ideal) X_arg3) (arg13.view.read (Elt Ideal) X_arg13) 1 (krow k r.val (by omega)) (krow k c.val (by omega)) * (arg6.view.read (Elt Ideal) X_arg6) (ix3 0 (krow k r.val (by omega)) (wc 1 d)) := by
  skip
  try simp only [View.readAt_eq_ld]
  pointwise [k0_pay82, dv10]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dv11b (k : Fin k0_t1_loop.trips) (c : Fin 512) (d : Fin 64) :
    k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k) (ix2 (⟨512 + c.val, by omega⟩ : Fin 1024) d) = ∑ r : Fin 512, pm (arg2.view.read (Elt Ideal) X_arg2) (arg3.view.read (Elt Ideal) X_arg3) (arg13.view.read (Elt Ideal) X_arg13) 1 (krow k (512 + r.val) (by omega)) (krow k (512 + c.val) (by omega)) * (arg6.view.read (Elt Ideal) X_arg6) (ix3 0 (krow k (512 + r.val) (by omega)) (wc 1 d)) := by
  skip
  try simp only [View.readAt_eq_ld]
  pointwise [k0_pay82, dv11]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem dq11 (k : Fin k0_t1_loop.trips) (r : Fin 512) (d : Fin 96) :
    k0_pay80 (F := Ideal) (kblock.sl.r_18 (F := Ideal) arg2 arg3 arg4 arg6 arg11 arg12 arg13 X_arg2 X_arg3 X_arg4 X_arg6 X_arg12 X_arg13 k f_arg11) (ix3 0 r d) = kblock.sl.v237 (F := Ideal) arg2 arg3 arg4 arg6 arg11 arg12 arg13 X_arg2 X_arg3 X_arg4 X_arg6 X_arg12 X_arg13 k f_arg11 (ix3 0 r d) + ∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k (512 + r.val) (by omega)) (krow k (512 + c.val) (by omega)) * (arg3.view.read (Elt Ideal) X_arg3) (ix4 1 0 (krow k (512 + c.val) (by omega)) d) := by
  simp only [gs, pm_row, prob]
  unfold kblock.sl.r_18 kblock.sl.r_1 kblock.sl.r_3
  try simp only [View.readAt_eq_ld]
  pointwise [k0_pay37, k0_pay38, k0_pay39, k0_pay40, k0_pay41, k0_pay42, k0_pay43, k0_pay44, k0_pay45, k0_pay46, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  all_goals simp only [sge_select _ _ (lt_trans (Fin.isLt _) (by decide : 1024 < 2048)) (lt_trans (Fin.isLt _) (by decide : 512 < 2048)), sge_select _ _ (lt_trans (Fin.isLt _) (by decide : 512 < 2048)) (lt_trans (Fin.isLt _) (by decide : 512 < 2048)), o1, o2, o3, o4, o5, o6, o7, o8, o9, o10, o11, o12, o13, o14, o15, o16, o17, o18, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

/-- Row `r` of the second half. -/
def late (r : Fin 1024) : Fin 2048 := ⟨1024 + r.val, by omega⟩

theorem pm_late (Q K L h) {k : Fin k0_t1_loop.trips} (kk : Fin (k0_t2_loop k).trips) (r c hc) : pm Q K L h (late r) (krow k c hc) = prob Q K L h (late r) (krow k c hc) := by
  have h1 : kk.val < 1 - k.val := trips2' k ▸ kk.isLt
  exact pm_prob _ _ _ _ _ _ (by simp only [late, krow]; omega)

set_option maxHeartbeats 1000000 in
theorem tk0 {k : Fin k0_t1_loop.trips} (kk : Fin (k0_t2_loop k).trips) (c : Fin 1024) (d : Fin 96) (acc : FVec Ideal S1024x96 .f32 × FVec Ideal S1024x64 .f32 × FVec Ideal S1024x96 .f32 × FVec Ideal S1024x64 .f32) :
    trip_k0_t2.sl.r_2 (F := Ideal) arg2 arg6 arg12 arg13 k (kblock.sl.r (F := Ideal) arg3 X_arg3 k) (kblock.sl.r_2 (F := Ideal) arg4 X_arg4 k) X_arg2 X_arg6 X_arg12 X_arg13 kk acc (ix2 c d) = acc.1 (ix2 c d) + ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (late r) (krow k c.val (by omega)) * (arg2.view.read (Elt Ideal) X_arg2) (ix4 0 0 (late r) d) := by
  simp only [gs, pm_late _ _ _ _ kk, prob]
  try unfold trip_k0_t2.sl.r_2 trip_k0_t2.sl.r_1 kblock.sl.r kblock.sl.r_2
  try simp only [View.readAt_eq_ld]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay37, k0_pay38, k0_pay39, k0_pay40]
  all_goals simp only [o19, o20, o21, o22, o23, o24, o25, o1, o2, o3, o4, late, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem tv0 {k : Fin k0_t1_loop.trips} (kk : Fin (k0_t2_loop k).trips) (c : Fin 1024) (d : Fin 64) (acc : FVec Ideal S1024x96 .f32 × FVec Ideal S1024x64 .f32 × FVec Ideal S1024x96 .f32 × FVec Ideal S1024x64 .f32) :
    trip_k0_t2.sl.r_3 (F := Ideal) arg2 arg6 arg13 k (kblock.sl.r (F := Ideal) arg3 X_arg3 k) X_arg2 X_arg6 X_arg13 kk acc (ix2 c d) = acc.2.1 (ix2 c d) + ∑ r : Fin 1024, pm (arg2.view.read (Elt Ideal) X_arg2) (arg3.view.read (Elt Ideal) X_arg3) (arg13.view.read (Elt Ideal) X_arg13) 0 (late r) (krow k c.val (by omega)) * (arg6.view.read (Elt Ideal) X_arg6) (ix3 0 (late r) (wc 0 d)) := by
  simp only [pm_late _ _ _ _ kk, prob]
  try unfold trip_k0_t2.sl.r_3 trip_k0_t2.sl.r kblock.sl.r
  try simp only [View.readAt_eq_ld]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay37, k0_pay38, k0_pay39, k0_pay40]
  all_goals simp only [o19, o20, o21, o22, o23, o24, o25, o1, o2, o3, o4, late, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem tk1 {k : Fin k0_t1_loop.trips} (kk : Fin (k0_t2_loop k).trips) (c : Fin 1024) (d : Fin 96) (acc : FVec Ideal S1024x96 .f32 × FVec Ideal S1024x64 .f32 × FVec Ideal S1024x96 .f32 × FVec Ideal S1024x64 .f32) :
    trip_k0_t2.sl.r_4 (F := Ideal) arg2 arg6 arg12 arg13 k (kblock.sl.r_1 (F := Ideal) arg3 X_arg3 k) (kblock.sl.r_3 (F := Ideal) arg4 X_arg4 k) X_arg2 X_arg6 X_arg12 X_arg13 kk acc (ix2 c d) = acc.2.2.1 (ix2 c d) + ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (late r) (krow k c.val (by omega)) * (arg2.view.read (Elt Ideal) X_arg2) (ix4 1 0 (late r) d) := by
  simp only [gs, pm_late _ _ _ _ kk, prob]
  try unfold trip_k0_t2.sl.r_4 kblock.sl.r_1 kblock.sl.r_3
  try simp only [View.readAt_eq_ld]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay37, k0_pay38, k0_pay39, k0_pay40]
  all_goals simp only [o19, o20, o21, o22, o23, o24, o25, o1, o2, o3, o4, late, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem tv1 {k : Fin k0_t1_loop.trips} (kk : Fin (k0_t2_loop k).trips) (c : Fin 1024) (d : Fin 64) (acc : FVec Ideal S1024x96 .f32 × FVec Ideal S1024x64 .f32 × FVec Ideal S1024x96 .f32 × FVec Ideal S1024x64 .f32) :
    trip_k0_t2.sl.r_5 (F := Ideal) arg2 arg6 arg13 k (kblock.sl.r_1 (F := Ideal) arg3 X_arg3 k) X_arg2 X_arg6 X_arg13 kk acc (ix2 c d) = acc.2.2.2 (ix2 c d) + ∑ r : Fin 1024, pm (arg2.view.read (Elt Ideal) X_arg2) (arg3.view.read (Elt Ideal) X_arg3) (arg13.view.read (Elt Ideal) X_arg13) 1 (late r) (krow k c.val (by omega)) * (arg6.view.read (Elt Ideal) X_arg6) (ix3 0 (late r) (wc 1 d)) := by
  simp only [pm_late _ _ _ _ kk, prob]
  try unfold trip_k0_t2.sl.r_5 kblock.sl.r_1
  try simp only [View.readAt_eq_ld]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay37, k0_pay38, k0_pay39, k0_pay40]
  all_goals simp only [o19, o20, o21, o22, o23, o24, o25, o1, o2, o3, o4, late, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem tq0 {k : Fin k0_t1_loop.trips} (kk : Fin (k0_t2_loop k).trips) (r : Fin 1024) (d : Fin 96) (z : FVec Ideal S1x1024x96 .f32) (h19 : ∀ a, k0_off19 k kk a + S1x1x1024x96.size a ≤ S2x1x2048x96.size a)(h20 : ∀ a, k0_off20 k kk a + S1x1024x128.size a ≤ S1x2048x128.size a)(h21 : ∀ a, k0_off21 k kk a + S1x1024x1.size a ≤ S2x2048x1.size a) :
    k0_pay10 (F := Ideal) (kblock.sl.r (F := Ideal) arg3 X_arg3 k) (kblock.sl.r_2 (F := Ideal) arg4 X_arg4 k) (View.readAt (Elt Ideal) arg2.view (Rect.unit (s := S2x1x2048x96) (k0_off19 k kk) S1x1x1024x96.size h19).toLoadRect X_arg2) (View.readAt (Elt Ideal) arg6.view (Rect.unit (s := S1x2048x128) (k0_off20 k kk) S1x1024x128.size h20).toLoadRect X_arg6) (View.readAt (Elt Ideal) arg13.view (Rect.unit (s := S2x2048x1) (k0_off21 k kk) S1x1024x1.size h21).toLoadRect X_arg13) (View.readAt (Elt Ideal) arg12.view (Rect.unit (s := S2x2048x1) (k0_off21 k kk) S1x1024x1.size h21).toLoadRect X_arg12) z (ix3 0 r d) = z (ix3 0 r d) + ∑ c : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (late r) (krow k c.val (by omega)) * (arg3.view.read (Elt Ideal) X_arg3) (ix4 0 0 (krow k c.val (by omega)) d) := by
  simp only [gs, pm_late _ _ _ _ kk, prob]
  try unfold kblock.sl.r kblock.sl.r_2
  try simp only [View.readAt_eq_ld]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay37, k0_pay38, k0_pay39, k0_pay40]
  all_goals simp only [o19, o20, o21, o22, o23, o24, o25, o1, o2, o3, o4, late, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)

set_option maxHeartbeats 1000000 in
theorem tq1 {k : Fin k0_t1_loop.trips} (kk : Fin (k0_t2_loop k).trips) (r : Fin 1024) (d : Fin 96) (z : FVec Ideal S1x1024x96 .f32) (h23 : ∀ a, k0_off23 k kk a + S1x1x1024x96.size a ≤ S2x1x2048x96.size a)(h20 : ∀ a, k0_off20 k kk a + S1x1024x128.size a ≤ S1x2048x128.size a)(h24 : ∀ a, k0_off24 k kk a + S1x1024x1.size a ≤ S2x2048x1.size a) :
    k0_pay18 (F := Ideal) (kblock.sl.r_1 (F := Ideal) arg3 X_arg3 k) (kblock.sl.r_3 (F := Ideal) arg4 X_arg4 k) (View.readAt (Elt Ideal) arg2.view (Rect.unit (s := S2x1x2048x96) (k0_off23 k kk) S1x1x1024x96.size h23).toLoadRect X_arg2) (View.readAt (Elt Ideal) arg6.view (Rect.unit (s := S1x2048x128) (k0_off20 k kk) S1x1024x128.size h20).toLoadRect X_arg6) (View.readAt (Elt Ideal) arg13.view (Rect.unit (s := S2x2048x1) (k0_off24 k kk) S1x1024x1.size h24).toLoadRect X_arg13) (View.readAt (Elt Ideal) arg12.view (Rect.unit (s := S2x2048x1) (k0_off24 k kk) S1x1024x1.size h24).toLoadRect X_arg12) z (ix3 0 r d) = z (ix3 0 r d) + ∑ c : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (late r) (krow k c.val (by omega)) * (arg3.view.read (Elt Ideal) X_arg3) (ix4 1 0 (krow k c.val (by omega)) d) := by
  simp only [gs, pm_late _ _ _ _ kk, prob]
  try unfold kblock.sl.r_1 kblock.sl.r_3
  try simp only [View.readAt_eq_ld]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay37, k0_pay38, k0_pay39, k0_pay40]
  all_goals simp only [o19, o20, o21, o22, o23, o24, o25, o1, o2, o3, o4, late, ite_mul, zero_mul, Nat.add_le_add_iff_left, Matrix.cons_val, Nat.zero_add, Nat.add_zero, zero_add, add_zero, Nat.add_assoc, Fin.eta, Fin.zero_eta, Fin.mk_one, krow, wc, Fin.val_zero, Fin.val_one, Nat.zero_mul, Nat.one_mul]
  all_goals (try rfl)
end Cert.Proof.KernelIdeal
end
-- ==== Proof.BlockKernelIdeal.lean ====
/- One key block of the attention gradient: what it stores into the key and value gradients and adds to the query gradient. -/
module

public import proofs.«01_k».proof.Proof.TilesKernelIdeal
public import Idealize.ShloMosaic.Lib.Pipeline.ValueKit
public import Idealize.ShloMosaic.Lib.WritesUnit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

theorem sum_two (n : ℕ) (F : Fin (n + n) → EReal) : ∑ i, F i = (∑ r : Fin n, F (Fin.castAdd n r)) + ∑ r : Fin n, F (Fin.natAdd n r) := Fin.sum_univ_add F

/-- A sum over all rows whose terms before the key block vanish: the block's own rows, then the later ones. -/
theorem split_rows (k : Fin k0_t1_loop.trips) (F : Fin 2048 → EReal) (hz : ∀ i : Fin 2048, i.val < k.val * 1024 → F i = 0) :
    ∑ i, F i = (∑ r : Fin 1024, F (krow k r.val r.isLt)) + (if k.val = 0 then ∑ r : Fin 1024, F (late r) else 0) := by
  rw [sum_two 1024 F]
  have hk := kv k
  by_cases h : k.val = 0
  · rw [if_pos h]
    refine congrArg₂ (· + ·) (Finset.sum_congr rfl fun r _ => congrArg F (Fin.ext ?_)) (Finset.sum_congr rfl fun r _ => congrArg F (Fin.ext ?_))
    · simp [krow, h]
    · simp [late, Nat.add_comm]
  · have h1 : k.val = 1 := by omega
    rw [if_neg h, add_zero, Finset.sum_eq_zero (s := Finset.univ) (f := fun r : Fin 1024 => F (Fin.castAdd 1024 r)), zero_add]
    · exact Finset.sum_congr rfl fun r _ => congrArg F (Fin.ext (by simp [krow, h1, Nat.add_comm]))
    · intro r _
      exact hz _ (by simp [h1])

/-- The rows of a key block, half by half. -/
theorem split_half (k : Fin k0_t1_loop.trips) (F : Fin 2048 → EReal) :
    (∑ r : Fin 1024, F (krow k r.val r.isLt)) = (∑ r : Fin 512, F (krow k r.val (by omega))) + ∑ r : Fin 512, F (krow k (512 + r.val) (by omega)) := by
  rw [sum_two 512 fun r : Fin 1024 => F (krow k r.val r.isLt)]
  rfl

/-- The value gradient of head `h` at key `j`, before any rounding. -/
def DV (Q K : S2x1x2048x96.Idx → EReal) (W : S1x2048x128.Idx → EReal) (L : S2x2048x1.Idx → EReal) (h : Fin 2) (j : Fin 2048) (d : Fin 64) : EReal :=
  ∑ i : Fin 2048, pm Q K L h i j * W (ix3 0 i (wc h d))

/-- The key gradient of head `h` at key `j`, before the scale. -/
def DK (Q K : S2x1x2048x96.Idx → EReal) (V : S2x1x2048x64.Idx → EReal) (W : S1x2048x128.Idx → EReal) (D L : S2x2048x1.Idx → EReal)
    (h : Fin 2) (j : Fin 2048) (d : Fin 96) : EReal :=
  ∑ i : Fin 2048, gs Q K V W D L h i j * Q (ix4 h 0 i d)

set_option maxHeartbeats 1000000 in
/-- The inner loop over the later query blocks: what it adds to its four sums. -/
theorem later_sums (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (v46 : BitVec 32) (v59 : BitVec 32) (v152 : FVec Ideal S1024x96 .f32) (v153 : FVec Ideal S1024x64 .f32) (v181 : FVec Ideal S512x64 .f32) (v199 : FVec Ideal S512x96 .f32) (v202 : BitVec 32) (v210 : FVec Ideal S512x96 .bf16) (v227 : FVec Ideal S512x64 .f32) (v235 : FVec Ideal S512x512 .bf16) (v240 : FVec Ideal S512x96 .f32) (G : BufTy.Contents (Elt Ideal) arg11.view.ty) (init : FVec Ideal S1024x96 .f32 × FVec Ideal S1024x64 .f32 × FVec Ideal S1024x96 .f32 × FVec Ideal S1024x64 .f32) (e : Fin 1024) :
    (∀ d, (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (Scf.trips (k0_t2_loop k).lb (k0_t2_loop k).ub (k0_t2_loop k).st)).1.1 (ix2 e d) = init.1 (ix2 e d) + (if k.val = 0 then ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (late r) (krow k e.val (by omega)) * (arg2.view.read (Elt Ideal) X_arg2) (ix4 0 0 (late r) d) else 0)) ∧
    (∀ d, (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (Scf.trips (k0_t2_loop k).lb (k0_t2_loop k).ub (k0_t2_loop k).st)).1.2.1 (ix2 e d) = init.2.1 (ix2 e d) + (if k.val = 0 then ∑ r : Fin 1024, pm (arg2.view.read (Elt Ideal) X_arg2) (arg3.view.read (Elt Ideal) X_arg3) (arg13.view.read (Elt Ideal) X_arg13) 0 (late r) (krow k e.val (by omega)) * (arg6.view.read (Elt Ideal) X_arg6) (ix3 0 (late r) (wc 0 d)) else 0)) ∧
    (∀ d, (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (Scf.trips (k0_t2_loop k).lb (k0_t2_loop k).ub (k0_t2_loop k).st)).1.2.2.1 (ix2 e d) = init.2.2.1 (ix2 e d) + (if k.val = 0 then ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (late r) (krow k e.val (by omega)) * (arg2.view.read (Elt Ideal) X_arg2) (ix4 1 0 (late r) d) else 0)) ∧
    (∀ d, (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (Scf.trips (k0_t2_loop k).lb (k0_t2_loop k).ub (k0_t2_loop k).st)).1.2.2.2 (ix2 e d) = init.2.2.2 (ix2 e d) + (if k.val = 0 then ∑ r : Fin 1024, pm (arg2.view.read (Elt Ideal) X_arg2) (arg3.view.read (Elt Ideal) X_arg3) (arg13.view.read (Elt Ideal) X_arg13) 1 (late r) (krow k e.val (by omega)) * (arg6.view.read (Elt Ideal) X_arg6) (ix3 0 (late r) (wc 1 d)) else 0)) := by
  have hk := kv k
  rw [trips2 k]
  by_cases h : k.val = 0
  · have ht : 0 < (k0_t2_loop k).trips := by rw [trips2' k]; omega
    have hn : 1 - k.val = (⟨0, ht⟩ : Fin (k0_t2_loop k).trips).val + 1 := by show 1 - k.val = 0 + 1; omega
    rw [hn, st_k0_t2_succ]
    rw [show st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (⟨0, ht⟩ : Fin (k0_t2_loop k).trips).val = (init, []) from rfl]
    simp only [h, if_true]
    unfold tripR_k0_t2 trip_k0_t2
    exact ⟨fun d => tk0 _ _ _ _, fun d => tv0 _ _ _ _, fun d => tk1 _ _ _ _, fun d => tv1 _ _ _ _⟩
  · have hn : 1 - k.val = 0 := by omega
    rw [hn, st_k0_t2_zero]
    simp only [h, if_false, add_zero, implies_true, and_self]

/-- The accumulator after a store of rows `o … o + n` of head `hh`, read at one entry. -/
theorem acc_store (v : View sig .tc .vmem S2x2048x96 .f32) (f : v.ty.Contents (Elt Ideal)) (hh o n : ℕ) (off : Fin 3 → ℕ) (ho : off = ![hh, o, 0])
    (inb : ∀ a, off a + (![1, n, 96] : Fin 3 → ℕ) a ≤ S2x2048x96.size a) (w : (Rect.unit (s := S2x2048x96) off ![1, n, 96] inb).shape.Idx → Elt Ideal .f32)
    (P : List (View.Piece (Elt Ideal) S2x2048x96 .f32)) (h : Fin 2) (u : Fin 2048) (d : Fin 96) :
    v.read (Elt Ideal) (v.writes (Elt Ideal) f ((⟨Rect.unit (s := S2x2048x96) off ![1, n, 96] inb, w⟩ : View.Piece (Elt Ideal) S2x2048x96 .f32) :: P)) (ix3 h u d)
      = if hc : h.val = hh ∧ o ≤ u.val ∧ u.val < o + n then w (ix3 (0 : Fin 1) (⟨u.val - o, by omega⟩ : Fin n) d)
        else v.read (Elt Ideal) (v.writes (Elt Ideal) f P) (ix3 h u d) := by
  by_cases hc : h.val = hh ∧ o ≤ u.val ∧ u.val < o + n
  · rw [dif_pos hc]
    refine View.read_writes_cons_unit_of_mem v f (off' := ![hh, o, 0]) inb w P (ix3 h u d) (ix3 (0 : Fin 1) (⟨u.val - o, by omega⟩ : Fin n) d) ho ?_
    intro a
    match a with
    | ⟨0, _⟩ => show h.val = hh + 0; omega
    | ⟨1, _⟩ => show u.val = o + (u.val - o); omega
    | ⟨2, _⟩ => show d.val = 0 + d.val; omega
  · rw [dif_neg hc]
    by_cases h1 : h.val = hh
    · refine View.read_writes_cons_unit_of_not_mem v f (off' := ![hh, o, 0]) inb w P (ix3 h u d) ho (1 : Fin 3) ?_
      show u.val < o ∨ o + n ≤ u.val
      omega
    · refine View.read_writes_cons_unit_of_not_mem v f (off' := ![hh, o, 0]) inb w P (ix3 h u d) ho (0 : Fin 3) ?_
      show h.val < hh ∨ hh + 1 ≤ h.val
      omega

/-- A load of rows `o … o + n` of head `hh` of the accumulator, read at one entry. -/
theorem acc_load (v : View sig .tc .vmem S2x2048x96 .f32) (f : v.ty.Contents (Elt Ideal)) (hh : Fin 2) (o n : ℕ) (off : Fin 3 → ℕ) (ho : off = ![hh.val, o, 0])
    (inb : ∀ a, off a + (![1, n, 96] : Fin 3 → ℕ) a ≤ S2x2048x96.size a) (r : Fin n) (u : Fin 2048) (hu : u.val = o + r.val) (d : Fin 96) :
    View.readAt (Elt Ideal) v (Rect.unit (s := S2x2048x96) off ![1, n, 96] inb).toLoadRect f (ix3 (0 : Fin 1) r d) = v.read (Elt Ideal) f (ix3 hh u d) := by
  subst ho
  refine congrArg (v.read (Elt Ideal) f) (funext fun a => Fin.ext ?_)
  match a with
  | ⟨0, _⟩ => show hh.val + 1 * 0 = hh.val; omega
  | ⟨1, _⟩ => show o + 1 * r.val = u.val; omega
  | ⟨2, _⟩ => show 0 + 1 * d.val = d.val; omega

set_option maxHeartbeats 1000000 in
/-- The inner loop over the later query blocks: what it leaves in the query gradient's accumulator. -/
theorem later_acc (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (v46 : BitVec 32) (v59 : BitVec 32) (v152 : FVec Ideal S1024x96 .f32) (v153 : FVec Ideal S1024x64 .f32) (v181 : FVec Ideal S512x64 .f32) (v199 : FVec Ideal S512x96 .f32) (v202 : BitVec 32) (v210 : FVec Ideal S512x96 .bf16) (v227 : FVec Ideal S512x64 .f32) (v235 : FVec Ideal S512x512 .bf16) (v240 : FVec Ideal S512x96 .f32) (G : BufTy.Contents (Elt Ideal) arg11.view.ty) (init : FVec Ideal S1024x96 .f32 × FVec Ideal S1024x64 .f32 × FVec Ideal S1024x96 .f32 × FVec Ideal S1024x64 .f32) (h : Fin 2) (u : Fin 2048) (d : Fin 96) :
    arg11.view.read (Elt Ideal) (arg11.view.writes (Elt Ideal) G (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (Scf.trips (k0_t2_loop k).lb (k0_t2_loop k).ub (k0_t2_loop k).st)).2) (ix3 h u d)
      = (arg11.view.read (Elt Ideal) G) (ix3 h u d) + (if k.val = 0 ∧ 1024 ≤ u.val then ∑ e : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k e.val (by omega)) * (arg3.view.read (Elt Ideal) X_arg3) (ix4 h 0 (krow k e.val (by omega)) d) else 0) := by
  have hk := kv k
  rw [trips2 k]
  by_cases h0 : k.val = 0
  · have ht : 0 < (k0_t2_loop k).trips := by rw [trips2' k]; omega
    have hn : 1 - k.val = (⟨0, ht⟩ : Fin (k0_t2_loop k).trips).val + 1 := by show 1 - k.val = 0 + 1; omega
    rw [hn, st_k0_t2_succ]
    rw [show st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G init (⟨0, ht⟩ : Fin (k0_t2_loop k).trips).val = (init, []) from rfl]
    unfold tripL_k0_t2 trip_k0_t2
    unfold trip_k0_t2.sl.v346
    show arg11.view.read (Elt Ideal) (arg11.view.writes (Elt Ideal) G (_ :: _ :: [])) (ix3 h u d) = _
    refine (acc_store arg11.view G 1 1024 1024 _ (o25 k _) _ _ _ h u d).trans ?_
    by_cases h1 : h.val = 1 ∧ 1024 ≤ u.val ∧ u.val < 1024 + 1024
    · rw [dif_pos h1, if_pos ⟨h0, h1.2.1⟩]
      obtain rfl : h = 1 := Fin.ext h1.1
      refine (tq1 ⟨0, ht⟩ _ _ _ _ _ _).trans ?_
      have hl : late ⟨u.val - 1024, by omega⟩ = u := Fin.ext (by simp only [late]; omega)
      rw [hl]
      exact congrArg₂ (· + ·) (acc_load arg11.view G 1 1024 1024 _ (o25 k _) _ _ u (by show u.val = 1024 + (u.val - 1024); omega) d) rfl
    · rw [dif_neg h1]
      refine (acc_store arg11.view G 0 1024 1024 _ (o22 k _) _ _ _ h u d).trans ?_
      by_cases h2 : h.val = 0 ∧ 1024 ≤ u.val ∧ u.val < 1024 + 1024
      · rw [dif_pos h2, if_pos ⟨h0, h2.2.1⟩]
        obtain rfl : h = 0 := Fin.ext h2.1
        refine (tq0 ⟨0, ht⟩ _ _ _ _ _ _).trans ?_
        have hl : late ⟨u.val - 1024, by omega⟩ = u := Fin.ext (by simp only [late]; omega)
        rw [hl]
        exact congrArg₂ (· + ·) (acc_load arg11.view G 0 1024 1024 _ (o22 k _) _ _ u (by show u.val = 1024 + (u.val - 1024); omega) d) rfl
      · rw [dif_neg h2, if_neg (by omega), add_zero]
        rfl
  · have hn : 1 - k.val = 0 := by omega
    rw [hn, if_neg (by tauto), add_zero]
    rfl

end Cert.Proof.KernelIdeal
end
-- ==== Proof.PiecesKernelIdeal.lean ====
/- What one key block of the attention gradient stores, as sums over all the query rows. -/
module

public import proofs.«01_k».proof.Proof.BlockKernelIdeal
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
variable {arg2 arg3 : Memref sig .tc .vmem S2x1x2048x96 .bf16} {arg4 : Memref sig .tc .vmem S2x1x2048x64 .bf16} {arg6 : Memref sig .tc .vmem S1x2048x128 .bf16}
  {arg11 : Memref sig .tc .vmem S2x2048x96 .f32} {arg12 arg13 : Memref sig .tc .vmem S2x2048x1 .f32}
  {X_arg2 : BufTy.Contents (Elt Ideal) arg2.view.ty} {X_arg3 : BufTy.Contents (Elt Ideal) arg3.view.ty} {X_arg4 : BufTy.Contents (Elt Ideal) arg4.view.ty}
  {X_arg6 : BufTy.Contents (Elt Ideal) arg6.view.ty} {X_arg12 : BufTy.Contents (Elt Ideal) arg12.view.ty} {X_arg13 : BufTy.Contents (Elt Ideal) arg13.view.ty}
  {f_arg11 : BufTy.Contents (Elt Ideal) arg11.view.ty}

theorem first_dk0 (k : Fin k0_t1_loop.trips) (e : Fin 1024) (d : Fin 96) :
    (kblock.sl.r_9 (F := Ideal) arg2 arg3 arg4 arg6 arg12 arg13 X_arg2 X_arg3 X_arg4 X_arg6 X_arg12 X_arg13 k) (ix2 e d) = ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k r.val (by omega)) (krow k e.val (by omega)) * (arg2.view.read (Elt Ideal) X_arg2) (ix4 0 0 (krow k r.val (by omega)) d) := by
  by_cases h : e.val < 512
  · exact dk01a k ⟨e.val, h⟩ d
  · have he : (⟨512 + (e.val - 512), by omega⟩ : Fin 1024) = e := Fin.ext (by show 512 + (e.val - 512) = e.val; omega)
    have hj : krow k (512 + (e.val - 512)) (by omega) = (krow k e.val (by omega)) := Fin.ext (by simp only [krow]; omega)
    have h1 := dk01 (arg2 := arg2) (arg3 := arg3) (arg6 := arg6) (arg13 := arg13) (X_arg2 := X_arg2) (X_arg3 := X_arg3) (X_arg6 := X_arg6) (X_arg13 := X_arg13) (arg4 := arg4) (arg12 := arg12) (X_arg4 := X_arg4) (X_arg12 := X_arg12) k ⟨e.val - 512, by omega⟩ d
    rw [he] at h1
    refine h1.trans ?_
    rw [split_half k fun i => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 i (krow k e.val (by omega)) * (arg2.view.read (Elt Ideal) X_arg2) (ix4 0 0 i d)]
    rw [Finset.sum_eq_zero (s := Finset.univ) (f := fun r : Fin 512 => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k r.val (by omega)) (krow k e.val (by omega)) * (arg2.view.read (Elt Ideal) X_arg2) (ix4 0 0 (krow k r.val (by omega)) d)), zero_add]
    · exact Finset.sum_congr rfl fun r _ => by rw [hj]
    · intro r _
      rw [gs_zero _ _ _ _ _ _ _ _ _ (by simp only [krow]; omega), zero_mul]

theorem first_dv0 (k : Fin k0_t1_loop.trips) (e : Fin 1024) (d : Fin 64) :
    (kblock.sl.r_10 (F := Ideal) arg2 arg3 arg6 arg13 X_arg2 X_arg3 X_arg6 X_arg13 k) (ix2 e d) = ∑ r : Fin 1024, pm (arg2.view.read (Elt Ideal) X_arg2) (arg3.view.read (Elt Ideal) X_arg3) (arg13.view.read (Elt Ideal) X_arg13) 0 (krow k r.val (by omega)) (krow k e.val (by omega)) * (arg6.view.read (Elt Ideal) X_arg6) (ix3 0 (krow k r.val (by omega)) (wc 0 d)) := by
  by_cases h : e.val < 512
  · exact dv01a k ⟨e.val, h⟩ d
  · have he : (⟨512 + (e.val - 512), by omega⟩ : Fin 1024) = e := Fin.ext (by show 512 + (e.val - 512) = e.val; omega)
    have hj : krow k (512 + (e.val - 512)) (by omega) = (krow k e.val (by omega)) := Fin.ext (by simp only [krow]; omega)
    have h1 := dv01 (arg2 := arg2) (arg3 := arg3) (arg6 := arg6) (arg13 := arg13) (X_arg2 := X_arg2) (X_arg3 := X_arg3) (X_arg6 := X_arg6) (X_arg13 := X_arg13) k ⟨e.val - 512, by omega⟩ d
    rw [he] at h1
    refine h1.trans ?_
    rw [split_half k fun i => pm (arg2.view.read (Elt Ideal) X_arg2) (arg3.view.read (Elt Ideal) X_arg3) (arg13.view.read (Elt Ideal) X_arg13) 0 i (krow k e.val (by omega)) * (arg6.view.read (Elt Ideal) X_arg6) (ix3 0 i (wc 0 d))]
    rw [Finset.sum_eq_zero (s := Finset.univ) (f := fun r : Fin 512 => pm (arg2.view.read (Elt Ideal) X_arg2) (arg3.view.read (Elt Ideal) X_arg3) (arg13.view.read (Elt Ideal) X_arg13) 0 (krow k r.val (by omega)) (krow k e.val (by omega)) * (arg6.view.read (Elt Ideal) X_arg6) (ix3 0 (krow k r.val (by omega)) (wc 0 d))), zero_add]
    · exact Finset.sum_congr rfl fun r _ => by rw [hj]
    · intro r _
      rw [pm_zero _ _ _ _ _ _ (by simp only [krow]; omega), zero_mul]

theorem first_dk1 (k : Fin k0_t1_loop.trips) (e : Fin 1024) (d : Fin 96) :
    k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k) (ix2 e d) = ∑ r : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k r.val (by omega)) (krow k e.val (by omega)) * (arg2.view.read (Elt Ideal) X_arg2) (ix4 1 0 (krow k r.val (by omega)) d) := by
  by_cases h : e.val < 512
  · exact dk11a k ⟨e.val, h⟩ d
  · have he : (⟨512 + (e.val - 512), by omega⟩ : Fin 1024) = e := Fin.ext (by show 512 + (e.val - 512) = e.val; omega)
    have hj : krow k (512 + (e.val - 512)) (by omega) = (krow k e.val (by omega)) := Fin.ext (by simp only [krow]; omega)
    have h1 := dk11 (arg2 := arg2) (arg3 := arg3) (arg6 := arg6) (arg13 := arg13) (X_arg2 := X_arg2) (X_arg3 := X_arg3) (X_arg6 := X_arg6) (X_arg13 := X_arg13) (arg4 := arg4) (arg12 := arg12) (X_arg4 := X_arg4) (X_arg12 := X_arg12) k ⟨e.val - 512, by omega⟩ d
    rw [he] at h1
    refine h1.trans ?_
    rw [split_half k fun i => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 i (krow k e.val (by omega)) * (arg2.view.read (Elt Ideal) X_arg2) (ix4 1 0 i d)]
    rw [Finset.sum_eq_zero (s := Finset.univ) (f := fun r : Fin 512 => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k r.val (by omega)) (krow k e.val (by omega)) * (arg2.view.read (Elt Ideal) X_arg2) (ix4 1 0 (krow k r.val (by omega)) d)), zero_add]
    · exact Finset.sum_congr rfl fun r _ => by rw [hj]
    · intro r _
      rw [gs_zero _ _ _ _ _ _ _ _ _ (by simp only [krow]; omega), zero_mul]

theorem first_dv1 (k : Fin k0_t1_loop.trips) (e : Fin 1024) (d : Fin 64) :
    k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k) (ix2 e d) = ∑ r : Fin 1024, pm (arg2.view.read (Elt Ideal) X_arg2) (arg3.view.read (Elt Ideal) X_arg3) (arg13.view.read (Elt Ideal) X_arg13) 1 (krow k r.val (by omega)) (krow k e.val (by omega)) * (arg6.view.read (Elt Ideal) X_arg6) (ix3 0 (krow k r.val (by omega)) (wc 1 d)) := by
  by_cases h : e.val < 512
  · exact dv11a k ⟨e.val, h⟩ d
  · have he : (⟨512 + (e.val - 512), by omega⟩ : Fin 1024) = e := Fin.ext (by show 512 + (e.val - 512) = e.val; omega)
    have hj : krow k (512 + (e.val - 512)) (by omega) = (krow k e.val (by omega)) := Fin.ext (by simp only [krow]; omega)
    have h1 := dv11b (arg2 := arg2) (arg3 := arg3) (arg6 := arg6) (arg13 := arg13) (X_arg2 := X_arg2) (X_arg3 := X_arg3) (X_arg6 := X_arg6) (X_arg13 := X_arg13) k ⟨e.val - 512, by omega⟩ d
    rw [he] at h1
    refine h1.trans ?_
    rw [split_half k fun i => pm (arg2.view.read (Elt Ideal) X_arg2) (arg3.view.read (Elt Ideal) X_arg3) (arg13.view.read (Elt Ideal) X_arg13) 1 i (krow k e.val (by omega)) * (arg6.view.read (Elt Ideal) X_arg6) (ix3 0 i (wc 1 d))]
    rw [Finset.sum_eq_zero (s := Finset.univ) (f := fun r : Fin 512 => pm (arg2.view.read (Elt Ideal) X_arg2) (arg3.view.read (Elt Ideal) X_arg3) (arg13.view.read (Elt Ideal) X_arg13) 1 (krow k r.val (by omega)) (krow k e.val (by omega)) * (arg6.view.read (Elt Ideal) X_arg6) (ix3 0 (krow k r.val (by omega)) (wc 1 d))), zero_add]
    · exact Finset.sum_congr rfl fun r _ => by rw [hj]
    · intro r _
      rw [pm_zero _ _ _ _ _ _ (by simp only [krow]; omega), zero_mul]

theorem all_dk0 (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (v46 : BitVec 32) (v59 : BitVec 32) (v152 : FVec Ideal S1024x96 .f32) (v153 : FVec Ideal S1024x64 .f32) (v181 : FVec Ideal S512x64 .f32) (v199 : FVec Ideal S512x96 .f32) (v202 : BitVec 32) (v210 : FVec Ideal S512x96 .bf16) (v227 : FVec Ideal S512x64 .f32) (v235 : FVec Ideal S512x512 .bf16) (v240 : FVec Ideal S512x96 .f32) (G : BufTy.Contents (Elt Ideal) arg11.view.ty) (e : Fin 1024) (d : Fin 96) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G (kblock.sl.r_9 (F := Ideal) arg2 arg3 arg4 arg6 arg12 arg13 X_arg2 X_arg3 X_arg4 X_arg6 X_arg12 X_arg13 k, kblock.sl.r_10 (F := Ideal) arg2 arg3 arg6 arg13 X_arg2 X_arg3 X_arg6 X_arg13 k, k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k), k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k)) (Scf.trips (k0_t2_loop k).lb (k0_t2_loop k).ub (k0_t2_loop k).st)).1.1 (ix2 e d) = DK (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 (krow k e.val (by omega)) d := by
  rw [(later_sums 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k v46 v59 v152 v153 v181 v199 v202 v210 v227 v235 v240 G _ e).1 d]
  rw [DK, split_rows k (fun i => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 0 i (krow k e.val (by omega)) * (arg2.view.read (Elt Ideal) X_arg2) (ix4 0 0 i d)) fun i hi => by
    rw [gs_zero _ _ _ _ _ _ _ i _ (by simp only [krow]; omega), zero_mul]]
  exact congrArg (· + _) (first_dk0 k e d)

theorem all_dv0 (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (v46 : BitVec 32) (v59 : BitVec 32) (v152 : FVec Ideal S1024x96 .f32) (v153 : FVec Ideal S1024x64 .f32) (v181 : FVec Ideal S512x64 .f32) (v199 : FVec Ideal S512x96 .f32) (v202 : BitVec 32) (v210 : FVec Ideal S512x96 .bf16) (v227 : FVec Ideal S512x64 .f32) (v235 : FVec Ideal S512x512 .bf16) (v240 : FVec Ideal S512x96 .f32) (G : BufTy.Contents (Elt Ideal) arg11.view.ty) (e : Fin 1024) (d : Fin 64) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G (kblock.sl.r_9 (F := Ideal) arg2 arg3 arg4 arg6 arg12 arg13 X_arg2 X_arg3 X_arg4 X_arg6 X_arg12 X_arg13 k, kblock.sl.r_10 (F := Ideal) arg2 arg3 arg6 arg13 X_arg2 X_arg3 X_arg6 X_arg13 k, k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k), k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k)) (Scf.trips (k0_t2_loop k).lb (k0_t2_loop k).ub (k0_t2_loop k).st)).1.2.1 (ix2 e d) = DV (arg2.view.read (Elt Ideal) X_arg2) (arg3.view.read (Elt Ideal) X_arg3) (arg6.view.read (Elt Ideal) X_arg6) (arg13.view.read (Elt Ideal) X_arg13) 0 (krow k e.val (by omega)) d := by
  rw [(later_sums 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k v46 v59 v152 v153 v181 v199 v202 v210 v227 v235 v240 G _ e).2.1 d]
  rw [DV, split_rows k (fun i => pm (arg2.view.read (Elt Ideal) X_arg2) (arg3.view.read (Elt Ideal) X_arg3) (arg13.view.read (Elt Ideal) X_arg13) 0 i (krow k e.val (by omega)) * (arg6.view.read (Elt Ideal) X_arg6) (ix3 0 i (wc 0 d))) fun i hi => by
    rw [pm_zero _ _ _ _ i _ (by simp only [krow]; omega), zero_mul]]
  exact congrArg (· + _) (first_dv0 k e d)

theorem all_dk1 (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (v46 : BitVec 32) (v59 : BitVec 32) (v152 : FVec Ideal S1024x96 .f32) (v153 : FVec Ideal S1024x64 .f32) (v181 : FVec Ideal S512x64 .f32) (v199 : FVec Ideal S512x96 .f32) (v202 : BitVec 32) (v210 : FVec Ideal S512x96 .bf16) (v227 : FVec Ideal S512x64 .f32) (v235 : FVec Ideal S512x512 .bf16) (v240 : FVec Ideal S512x96 .f32) (G : BufTy.Contents (Elt Ideal) arg11.view.ty) (e : Fin 1024) (d : Fin 96) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G (kblock.sl.r_9 (F := Ideal) arg2 arg3 arg4 arg6 arg12 arg13 X_arg2 X_arg3 X_arg4 X_arg6 X_arg12 X_arg13 k, kblock.sl.r_10 (F := Ideal) arg2 arg3 arg6 arg13 X_arg2 X_arg3 X_arg6 X_arg13 k, k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k), k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k)) (Scf.trips (k0_t2_loop k).lb (k0_t2_loop k).ub (k0_t2_loop k).st)).1.2.2.1 (ix2 e d) = DK (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 (krow k e.val (by omega)) d := by
  rw [(later_sums 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k v46 v59 v152 v153 v181 v199 v202 v210 v227 v235 v240 G _ e).2.2.1 d]
  rw [DK, split_rows k (fun i => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) 1 i (krow k e.val (by omega)) * (arg2.view.read (Elt Ideal) X_arg2) (ix4 1 0 i d)) fun i hi => by
    rw [gs_zero _ _ _ _ _ _ _ i _ (by simp only [krow]; omega), zero_mul]]
  exact congrArg (· + _) (first_dk1 k e d)

theorem all_dv1 (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (v46 : BitVec 32) (v59 : BitVec 32) (v152 : FVec Ideal S1024x96 .f32) (v153 : FVec Ideal S1024x64 .f32) (v181 : FVec Ideal S512x64 .f32) (v199 : FVec Ideal S512x96 .f32) (v202 : BitVec 32) (v210 : FVec Ideal S512x96 .bf16) (v227 : FVec Ideal S512x64 .f32) (v235 : FVec Ideal S512x512 .bf16) (v240 : FVec Ideal S512x96 .f32) (G : BufTy.Contents (Elt Ideal) arg11.view.ty) (e : Fin 1024) (d : Fin 64) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 k v46 (kblock.sl.r (F := Ideal) arg3 X_arg3 k) (kblock.sl.r_1 (F := Ideal) arg3 X_arg3 k) (kblock.sl.r_2 (F := Ideal) arg4 X_arg4 k) (kblock.sl.r_3 (F := Ideal) arg4 X_arg4 k) v59 v152 v153 v181 v199 v202 v210 v227 v235 v240 X_arg2 X_arg6 X_arg12 X_arg13 G (kblock.sl.r_9 (F := Ideal) arg2 arg3 arg4 arg6 arg12 arg13 X_arg2 X_arg3 X_arg4 X_arg6 X_arg12 X_arg13 k, kblock.sl.r_10 (F := Ideal) arg2 arg3 arg6 arg13 X_arg2 X_arg3 X_arg6 X_arg13 k, k0_pay81 (F := Ideal) (kblock.sl.r_14 (F := Ideal) arg2 arg3 arg4 arg6 arg12 arg13 X_arg2 X_arg3 X_arg4 X_arg6 X_arg12 X_arg13 k) (kblock.sl.r_15 (F := Ideal) arg2 X_arg2 k) (kblock.sl.r_17 (F := Ideal) arg2 arg3 arg4 arg6 arg12 arg13 X_arg2 X_arg3 X_arg4 X_arg6 X_arg12 X_arg13 k), k0_pay82 (F := Ideal) (kblock.sl.r_13 (F := Ideal) arg2 arg3 arg6 arg13 X_arg2 X_arg3 X_arg6 X_arg13 k) (kblock.sl.r_16 (F := Ideal) arg2 arg3 arg6 arg13 X_arg2 X_arg3 X_arg6 X_arg13 k)) (Scf.trips (k0_t2_loop k).lb (k0_t2_loop k).ub (k0_t2_loop k).st)).1.2.2.2 (ix2 e d) = DV (arg2.view.read (Elt Ideal) X_arg2) (arg3.view.read (Elt Ideal) X_arg3) (arg6.view.read (Elt Ideal) X_arg6) (arg13.view.read (Elt Ideal) X_arg13) 1 (krow k e.val (by omega)) d := by
  rw [(later_sums 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k v46 v59 v152 v153 v181 v199 v202 v210 v227 v235 v240 G _ e).2.2.2 d]
  rw [DV, split_rows k (fun i => pm (arg2.view.read (Elt Ideal) X_arg2) (arg3.view.read (Elt Ideal) X_arg3) (arg13.view.read (Elt Ideal) X_arg13) 1 i (krow k e.val (by omega)) * (arg6.view.read (Elt Ideal) X_arg6) (ix3 0 i (wc 1 d))) fun i hi => by
    rw [pm_zero _ _ _ _ i _ (by simp only [krow]; omega), zero_mul]]
  exact congrArg (· + _) (first_dv1 k e d)

theorem emb96 (k : Fin k0_t1_loop.trips) (hh : Fin 2) (off : Fin 4 → ℕ) (ho : off = ![hh.val, 0, k.val * 1024, 0])
    (inb : ∀ a, off a + (![1, 1, 1024, 96] : Fin 4 → ℕ) a ≤ S2x1x2048x96.size a) (e : Fin 1024) (d : Fin 96) :
    (Rect.unit (s := S2x1x2048x96) off ![1, 1, 1024, 96] inb).emb (ix4 (0 : Fin 1) (0 : Fin 1) e d) = ix4 hh (0 : Fin 1) (krow k e.val e.isLt) d := by
  subst ho
  funext a
  refine Fin.ext ?_
  match a with
  | ⟨0, _⟩ => show hh.val + 1 * 0 = hh.val; omega
  | ⟨1, _⟩ => show 0 + 1 * 0 = 0; omega
  | ⟨2, _⟩ => show k.val * 1024 + 1 * e.val = k.val * 1024 + e.val; omega
  | ⟨3, _⟩ => show 0 + 1 * d.val = d.val; omega

theorem emb64 (k : Fin k0_t1_loop.trips) (hh : Fin 2) (off : Fin 4 → ℕ) (ho : off = ![hh.val, 0, k.val * 1024, 0])
    (inb : ∀ a, off a + (![1, 1, 1024, 64] : Fin 4 → ℕ) a ≤ S2x1x2048x64.size a) (e : Fin 1024) (d : Fin 64) :
    (Rect.unit (s := S2x1x2048x64) off ![1, 1, 1024, 64] inb).emb (ix4 (0 : Fin 1) (0 : Fin 1) e d) = ix4 hh (0 : Fin 1) (krow k e.val e.isLt) d := by
  subst ho
  funext a
  refine Fin.ext ?_
  match a with
  | ⟨0, _⟩ => show hh.val + 1 * 0 = hh.val; omega
  | ⟨1, _⟩ => show 0 + 1 * 0 = 0; omega
  | ⟨2, _⟩ => show k.val * 1024 + 1 * e.val = k.val * 1024 + e.val; omega
  | ⟨3, _⟩ => show 0 + 1 * d.val = d.val; omega

/-- The key gradient the kernel stores. -/
def KG (Q K : S2x1x2048x96.Idx → EReal) (V : S2x1x2048x64.Idx → EReal) (W : S1x2048x128.Idx → EReal) (D L : S2x2048x1.Idx → EReal) (y : S2x1x2048x96.Idx) : EReal :=
  DK Q K V W D L (y 0) (y 2) (y 3) * Ideal.ofBits .f32 0x3DD105EC#32

/-- The value gradient the kernel stores. -/
def VG (Q K : S2x1x2048x96.Idx → EReal) (W : S1x2048x128.Idx → EReal) (L : S2x2048x1.Idx → EReal) (y : S2x1x2048x64.Idx) : EReal :=
  DV Q K W L (y 0) (y 2) (y 3)

theorem in1 : ∀ k : Fin k0_t1_loop.trips, ∀ a : Fin 4, k0_off1 k a + (![1, 1, 1024, 96] : Fin 4 → ℕ) a ≤ S2x1x2048x96.size a := by decide +kernel
theorem in2 : ∀ k : Fin k0_t1_loop.trips, ∀ a : Fin 4, k0_off2 k a + (![1, 1, 1024, 96] : Fin 4 → ℕ) a ≤ S2x1x2048x96.size a := by decide +kernel
theorem in3 : ∀ k : Fin k0_t1_loop.trips, ∀ a : Fin 4, k0_off3 k a + (![1, 1, 1024, 64] : Fin 4 → ℕ) a ≤ S2x1x2048x64.size a := by decide +kernel
theorem in4 : ∀ k : Fin k0_t1_loop.trips, ∀ a : Fin 4, k0_off4 k a + (![1, 1, 1024, 64] : Fin 4 → ℕ) a ≤ S2x1x2048x64.size a := by decide +kernel

theorem idx_block96 (x : (⟨4, ![1, 1, 1024, 96]⟩ : Shape).Idx) : ∃ (e : Fin 1024) (d : Fin 96), x = ix4 (0 : Fin 1) (0 : Fin 1) e d := by
  refine ⟨x 2, x 3, funext fun a => ?_⟩
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

theorem idx_block64 (x : (⟨4, ![1, 1, 1024, 64]⟩ : Shape).Idx) : ∃ (e : Fin 1024) (d : Fin 64), x = ix4 (0 : Fin 1) (0 : Fin 1) e d := by
  refine ⟨x 2, x 3, funext fun a => ?_⟩
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

theorem pay83_at (v : FVec Ideal S1024x96 .f32) (e : Fin 1024) (d : Fin 96) :
    k0_pay83 (F := Ideal) v (ix4 (0 : Fin 1) (0 : Fin 1) e d) = v (ix2 e d) * Ideal.ofBits .f32 0x3DD105EC#32 := by
  pointwise [k0_pay83]
theorem pay85_at (v : FVec Ideal S1024x96 .f32) (e : Fin 1024) (d : Fin 96) :
    k0_pay85 (F := Ideal) v (ix4 (0 : Fin 1) (0 : Fin 1) e d) = v (ix2 e d) * Ideal.ofBits .f32 0x3DD105EC#32 := by
  pointwise [k0_pay85]
theorem pay84_at (v : FVec Ideal S1024x64 .f32) (e : Fin 1024) (d : Fin 64) :
    k0_pay84 (F := Ideal) v (ix4 (0 : Fin 1) (0 : Fin 1) e d) = v (ix2 e d) := by
  pointwise [k0_pay84]
theorem pay86_at (v : FVec Ideal S1024x64 .f32) (e : Fin 1024) (d : Fin 64) :
    k0_pay3 (F := Ideal) (k0_pay86 (F := Ideal) v) (ix4 (0 : Fin 1) (0 : Fin 1) e d) = v (ix2 e d) := by
  pointwise [k0_pay3, k0_pay86]

/-- The inner loop's remainder never runs. -/
theorem no_rest1 {F : FTy → Type} [FloatOps F] [Named F] (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (k : Fin k0_t1_loop.trips)
    (v46 : BitVec 32) (v49 : FVec F S1024x96 .bf16) (v52 : FVec F S1024x96 .bf16) (v55 : FVec F S1024x64 .bf16) (v58 : FVec F S1024x64 .bf16) (v59 : BitVec 32) (v152 : FVec F S1024x96 .f32) (v153 : FVec F S1024x64 .f32) (v181 : FVec F S512x64 .f32) (v199 : FVec F S512x96 .f32) (v202 : BitVec 32) (v210 : FVec F S512x96 .bf16) (v227 : FVec F S512x64 .f32) (v235 : FVec F S512x512 .bf16) (v240 : FVec F S512x96 .f32) (c2 : BitVec 32)
    (X_arg2 : BufTy.Contents (Elt F) arg2.view.ty) (X_arg6 : BufTy.Contents (Elt F) arg6.view.ty) (X_arg12 : BufTy.Contents (Elt F) arg12.view.ty) (X_arg13 : BufTy.Contents (Elt F) arg13.view.ty)
    (G : BufTy.Contents (Elt F) arg11.view.ty) (init : FVec F S1024x96 .f32 × FVec F S1024x64 .f32 × FVec F S1024x96 .f32 × FVec F S1024x64 .f32) :
    (st_k0_t3 (F := F) 𝒱 c bd i arg2 harg2 arg3 harg3 arg4 harg4 arg5 harg5 arg6 harg6 arg7 harg7 arg8 harg8 arg9 harg9 arg10 harg10 arg11 harg11 arg12 harg12 arg13 harg13 k v46 v49 v52 v55 v58 v59 v152 v153 v181 v199 v202 v210 v227 v235 v240 c2 X_arg2 X_arg6 X_arg12 X_arg13 G init (Scf.trips (k0_t3_loop k).lb (k0_t3_loop k).ub (k0_t3_loop k).st)).1 = init := by
  rw [trips3 k]
  rfl

/-- The inner loop's remainder never runs. -/
theorem no_rest2 {F : FTy → Type} [FloatOps F] [Named F] (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (k : Fin k0_t1_loop.trips)
    (v46 : BitVec 32) (v49 : FVec F S1024x96 .bf16) (v52 : FVec F S1024x96 .bf16) (v55 : FVec F S1024x64 .bf16) (v58 : FVec F S1024x64 .bf16) (v59 : BitVec 32) (v152 : FVec F S1024x96 .f32) (v153 : FVec F S1024x64 .f32) (v181 : FVec F S512x64 .f32) (v199 : FVec F S512x96 .f32) (v202 : BitVec 32) (v210 : FVec F S512x96 .bf16) (v227 : FVec F S512x64 .f32) (v235 : FVec F S512x512 .bf16) (v240 : FVec F S512x96 .f32) (c2 : BitVec 32)
    (X_arg2 : BufTy.Contents (Elt F) arg2.view.ty) (X_arg6 : BufTy.Contents (Elt F) arg6.view.ty) (X_arg12 : BufTy.Contents (Elt F) arg12.view.ty) (X_arg13 : BufTy.Contents (Elt F) arg13.view.ty)
    (G : BufTy.Contents (Elt F) arg11.view.ty) (init : FVec F S1024x96 .f32 × FVec F S1024x64 .f32 × FVec F S1024x96 .f32 × FVec F S1024x64 .f32) :
    (st_k0_t3 (F := F) 𝒱 c bd i arg2 harg2 arg3 harg3 arg4 harg4 arg5 harg5 arg6 harg6 arg7 harg7 arg8 harg8 arg9 harg9 arg10 harg10 arg11 harg11 arg12 harg12 arg13 harg13 k v46 v49 v52 v55 v58 v59 v152 v153 v181 v199 v202 v210 v227 v235 v240 c2 X_arg2 X_arg6 X_arg12 X_arg13 G init (Scf.trips (k0_t3_loop k).lb (k0_t3_loop k).ub (k0_t3_loop k).st)).2 = [] := by
  rw [trips3 k]
  rfl

end Cert.Proof.KernelIdeal
end
-- ==== Proof.StoresKernelIdeal.lean ====
/- What one key block of the attention gradient stores, put together. -/
module

public import proofs.«01_k».proof.Proof.PiecesKernelIdeal
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
variable {arg2 arg3 : Memref sig .tc .vmem S2x1x2048x96 .bf16} {arg4 : Memref sig .tc .vmem S2x1x2048x64 .bf16} {arg6 : Memref sig .tc .vmem S1x2048x128 .bf16}
  {arg11 : Memref sig .tc .vmem S2x2048x96 .f32} {arg12 arg13 : Memref sig .tc .vmem S2x2048x1 .f32}
  {X_arg2 : BufTy.Contents (Elt Ideal) arg2.view.ty} {X_arg3 : BufTy.Contents (Elt Ideal) arg3.view.ty} {X_arg4 : BufTy.Contents (Elt Ideal) arg4.view.ty}
  {X_arg6 : BufTy.Contents (Elt Ideal) arg6.view.ty} {X_arg12 : BufTy.Contents (Elt Ideal) arg12.view.ty} {X_arg13 : BufTy.Contents (Elt Ideal) arg13.view.ty}
  {f_arg11 : BufTy.Contents (Elt Ideal) arg11.view.ty}
set_option maxHeartbeats 1000000 in
theorem dk_pieces (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (f : BufTy.Contents (Elt Ideal) arg11.view.ty) :
    ∀ p ∈ (kblock (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).1 f, ∀ x : p.1.shape.Idx, p.2 x = KG (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) (p.1.emb x) := by
  unfold kblock
  intro p hp
  rcases List.mem_cons.mp hp with rfl | hp
  · intro x
    obtain ⟨e, d, rfl⟩ := idx_block96 x
    refine (pay85_at _ e d).trans ?_
    refine Eq.trans ?_ (congrArg (KG (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13)) (emb96 k 1 _ (o2 k) (in2 k) e d).symm)
    refine (congrArg (fun z : FVec Ideal S1024x96 .f32 × FVec Ideal S1024x64 .f32 × FVec Ideal S1024x96 .f32 × FVec Ideal S1024x64 .f32 => z.2.2.1 (ix2 e d) * Ideal.ofBits .f32 0x3DD105EC#32) (no_rest1 ..)).trans ?_
    exact congrArg (· * Ideal.ofBits .f32 0x3DD105EC#32) (all_dk1 ..)
  · rcases List.mem_cons.mp hp with rfl | hp
    · intro x
      obtain ⟨e, d, rfl⟩ := idx_block96 x
      refine (pay83_at _ e d).trans ?_
      refine Eq.trans ?_ (congrArg (KG (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13)) (emb96 k 0 _ (o1 k) (in1 k) e d).symm)
      refine (congrArg (fun z : FVec Ideal S1024x96 .f32 × FVec Ideal S1024x64 .f32 × FVec Ideal S1024x96 .f32 × FVec Ideal S1024x64 .f32 => z.1 (ix2 e d) * Ideal.ofBits .f32 0x3DD105EC#32) (no_rest1 ..)).trans ?_
      exact congrArg (· * Ideal.ofBits .f32 0x3DD105EC#32) (all_dk0 ..)
    · cases hp

set_option maxHeartbeats 1000000 in
theorem dv_pieces (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (f : BufTy.Contents (Elt Ideal) arg11.view.ty) :
    ∀ p ∈ (kblock (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).2.1 f, ∀ x : p.1.shape.Idx, p.2 x = VG (arg2.view.read (Elt Ideal) X_arg2) (arg3.view.read (Elt Ideal) X_arg3) (arg6.view.read (Elt Ideal) X_arg6) (arg13.view.read (Elt Ideal) X_arg13) (p.1.emb x) := by
  unfold kblock
  intro p hp
  rcases List.mem_cons.mp hp with rfl | hp
  · intro x
    obtain ⟨e, d, rfl⟩ := idx_block64 x
    unfold kblock.sl.r_19
    refine (pay86_at _ e d).trans ?_
    refine Eq.trans ?_ (congrArg (VG (arg2.view.read (Elt Ideal) X_arg2) (arg3.view.read (Elt Ideal) X_arg3) (arg6.view.read (Elt Ideal) X_arg6) (arg13.view.read (Elt Ideal) X_arg13)) (emb64 k 1 _ (o4 k) (in4 k) e d).symm)
    refine (congrArg (fun z : FVec Ideal S1024x96 .f32 × FVec Ideal S1024x64 .f32 × FVec Ideal S1024x96 .f32 × FVec Ideal S1024x64 .f32 => z.2.2.2 (ix2 e d)) (no_rest1 ..)).trans ?_
    exact all_dv1 ..
  · rcases List.mem_cons.mp hp with rfl | hp
    · intro x
      obtain ⟨e, d, rfl⟩ := idx_block64 x
      refine (pay84_at _ e d).trans ?_
      refine Eq.trans ?_ (congrArg (VG (arg2.view.read (Elt Ideal) X_arg2) (arg3.view.read (Elt Ideal) X_arg3) (arg6.view.read (Elt Ideal) X_arg6) (arg13.view.read (Elt Ideal) X_arg13)) (emb64 k 0 _ (o3 k) (in3 k) e d).symm)
      refine (congrArg (fun z : FVec Ideal S1024x96 .f32 × FVec Ideal S1024x64 .f32 × FVec Ideal S1024x96 .f32 × FVec Ideal S1024x64 .f32 => z.2.1 (ix2 e d)) (no_rest1 ..)).trans ?_
      exact all_dv0 ..
    · cases hp

theorem dead_half (k : Fin k0_t1_loop.trips) (h : Fin 2) (u : Fin 2048) (hu : u.val < k.val * 1024 + 512) (d : Fin 96) :
    (∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k (512 + c.val) (by omega)) * (arg3.view.read (Elt Ideal) X_arg3) (ix4 h 0 (krow k (512 + c.val) (by omega)) d)) = 0 :=
  Finset.sum_eq_zero fun c _ => by rw [gs_zero _ _ _ _ _ _ _ _ _ (by simp only [krow]; omega), zero_mul]

set_option maxHeartbeats 1000000 in
/-- The diagonal tile's four stores into the accumulator. -/
theorem base_acc (k : Fin k0_t1_loop.trips) (f : BufTy.Contents (Elt Ideal) arg11.view.ty) (h : Fin 2) (u : Fin 2048) (d : Fin 96)
    (inb : ∀ a, k0_off18 k a + (![1, 512, 96] : Fin 3 → ℕ) a ≤ S2x2048x96.size a) :
    arg11.view.read (Elt Ideal) (arg11.view.writes (Elt Ideal) f ((⟨Rect.unit (s := S2x2048x96) (k0_off18 k) ![1, 512, 96] inb, k0_pay80 (F := Ideal) (kblock.sl.r_18 (F := Ideal) arg2 arg3 arg4 arg6 arg11 arg12 arg13 X_arg2 X_arg3 X_arg4 X_arg6 X_arg12 X_arg13 k f)⟩ : View.Piece (Elt Ideal) S2x2048x96 .f32)
        :: kblock.sl.H_arg11_3 (F := Ideal) arg2 arg3 arg4 arg6 arg11 arg12 arg13 X_arg2 X_arg3 X_arg4 X_arg6 X_arg12 X_arg13 k f)) (ix3 h u d)
      = (arg11.view.read (Elt Ideal) f) (ix3 h u d) + (if k.val * 1024 ≤ u.val ∧ u.val < k.val * 1024 + 1024 then ∑ e : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k e.val (by omega)) * (arg3.view.read (Elt Ideal) X_arg3) (ix4 h 0 (krow k e.val (by omega)) d) else 0) := by
  have hk := kv k
  have hsum : (∑ e : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k e.val (by omega)) * (arg3.view.read (Elt Ideal) X_arg3) (ix4 h 0 (krow k e.val (by omega)) d))
      = (∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k c.val (by omega)) * (arg3.view.read (Elt Ideal) X_arg3) (ix4 h 0 (krow k c.val (by omega)) d))
        + ∑ c : Fin 512, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k (512 + c.val) (by omega)) * (arg3.view.read (Elt Ideal) X_arg3) (ix4 h 0 (krow k (512 + c.val) (by omega)) d) :=
    split_half k fun j => gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u j * (arg3.view.read (Elt Ideal) X_arg3) (ix4 h 0 j d)
  rw [hsum]
  refine (acc_store arg11.view f 1 (k.val * 1024 + 512) 512 _ (o18 k) _ _ _ h u d).trans ?_
  by_cases c1 : h.val = 1 ∧ k.val * 1024 + 512 ≤ u.val ∧ u.val < k.val * 1024 + 512 + 512
  · rw [dif_pos c1, if_pos (by omega)]
    obtain rfl : h = 1 := Fin.ext c1.1
    have hl : krow k (512 + (u.val - (k.val * 1024 + 512))) (by omega) = u := Fin.ext (by simp only [krow]; omega)
    refine (dq11 k _ d).trans ?_
    rw [hl, ← add_assoc]
    refine congrArg (· + _) ?_
    unfold kblock.sl.v237 kblock.sl.H_arg11_3
    refine (acc_load arg11.view _ 1 (k.val * 1024 + 512) 512 _ (o18 k) _ _ u (by show u.val = k.val * 1024 + 512 + (u.val - (k.val * 1024 + 512)); omega) d).trans ?_
    refine (acc_store arg11.view _ 1 (k.val * 1024) 1024 _ (o15 k) _ _ _ 1 u d).trans ?_
    rw [dif_pos (by exact ⟨rfl, by omega, by omega⟩)]
    have hl2 : krow k (u.val - k.val * 1024) (by omega) = u := Fin.ext (by simp only [krow]; omega)
    refine (dq10 k _ d _ _ _ _).trans ?_
    rw [hl2]
    refine congrArg (· + _) ?_
    unfold kblock.sl.v191
    exact acc_load arg11.view f 1 (k.val * 1024) 1024 _ (o15 k) _ _ u (by show u.val = k.val * 1024 + (u.val - k.val * 1024); omega) d
  rw [dif_neg c1]
  unfold kblock.sl.H_arg11_3
  refine (acc_store arg11.view f 1 (k.val * 1024) 1024 _ (o15 k) _ _ _ h u d).trans ?_
  by_cases c2 : h.val = 1 ∧ k.val * 1024 ≤ u.val ∧ u.val < k.val * 1024 + 1024
  · rw [dif_pos c2, if_pos (by omega)]
    obtain rfl : h = 1 := Fin.ext c2.1
    have hl2 : krow k (u.val - k.val * 1024) (by omega) = u := Fin.ext (by simp only [krow]; omega)
    refine (dq10 k _ d _ _ _ _).trans ?_
    rw [hl2, dead_half k 1 u (by omega) d, add_zero]
    refine congrArg (· + _) ?_
    unfold kblock.sl.v191
    exact acc_load arg11.view f 1 (k.val * 1024) 1024 _ (o15 k) _ _ u (by show u.val = k.val * 1024 + (u.val - k.val * 1024); omega) d
  rw [dif_neg c2]
  refine (acc_store arg11.view f 0 (k.val * 1024 + 512) 512 _ (o12 k) _ _ _ h u d).trans ?_
  by_cases c3 : h.val = 0 ∧ k.val * 1024 + 512 ≤ u.val ∧ u.val < k.val * 1024 + 512 + 512
  · rw [dif_pos c3, if_pos (by omega)]
    obtain rfl : h = 0 := Fin.ext c3.1
    have hl : krow k (512 + (u.val - (k.val * 1024 + 512))) (by omega) = u := Fin.ext (by simp only [krow]; omega)
    refine (dq01 k _ d _ _).trans ?_
    rw [hl, ← add_assoc]
    refine congrArg (· + _) ?_
    unfold kblock.sl.v143 kblock.sl.H_arg11_1
    refine (acc_load arg11.view _ 0 (k.val * 1024 + 512) 512 _ (o12 k) _ _ u (by show u.val = k.val * 1024 + 512 + (u.val - (k.val * 1024 + 512)); omega) d).trans ?_
    refine (acc_store arg11.view _ 0 (k.val * 1024) 1024 _ (o8 k) _ _ _ 0 u d).trans ?_
    rw [dif_pos (by exact ⟨rfl, by omega, by omega⟩)]
    have hl2 : krow k (u.val - k.val * 1024) (by omega) = u := Fin.ext (by simp only [krow]; omega)
    refine (dq00 k _ d).trans ?_
    rw [hl2]
  rw [dif_neg c3]
  unfold kblock.sl.H_arg11_1
  refine (acc_store arg11.view f 0 (k.val * 1024) 1024 _ (o8 k) _ _ _ h u d).trans ?_
  by_cases c4 : h.val = 0 ∧ k.val * 1024 ≤ u.val ∧ u.val < k.val * 1024 + 1024
  · rw [dif_pos c4, if_pos (by omega)]
    obtain rfl : h = 0 := Fin.ext c4.1
    have hl2 : krow k (u.val - k.val * 1024) (by omega) = u := Fin.ext (by simp only [krow]; omega)
    refine (dq00 k _ d).trans ?_
    rw [hl2, dead_half k 0 u (by omega) d, add_zero]
  rw [dif_neg c4, if_neg (by omega), add_zero]
  rfl

end Cert.Proof.KernelIdeal
end
-- ==== Proof.AccKernelIdeal.lean ====
/- What one key block of the attention gradient stores, for the query gradient. -/
module

public import proofs.«01_k».proof.Proof.StoresKernelIdeal
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
variable {arg2 arg3 : Memref sig .tc .vmem S2x1x2048x96 .bf16} {arg4 : Memref sig .tc .vmem S2x1x2048x64 .bf16} {arg6 : Memref sig .tc .vmem S1x2048x128 .bf16}
  {arg11 : Memref sig .tc .vmem S2x2048x96 .f32} {arg12 arg13 : Memref sig .tc .vmem S2x2048x1 .f32}
  {X_arg2 : BufTy.Contents (Elt Ideal) arg2.view.ty} {X_arg3 : BufTy.Contents (Elt Ideal) arg3.view.ty} {X_arg4 : BufTy.Contents (Elt Ideal) arg4.view.ty}
  {X_arg6 : BufTy.Contents (Elt Ideal) arg6.view.ty} {X_arg12 : BufTy.Contents (Elt Ideal) arg12.view.ty} {X_arg13 : BufTy.Contents (Elt Ideal) arg13.view.ty}
  {f_arg11 : BufTy.Contents (Elt Ideal) arg11.view.ty}
theorem two_lists (v : View sig .tc .vmem S2x2048x96 .f32) (f : v.ty.Contents (Elt Ideal)) (R T B : List (View.Piece (Elt Ideal) S2x2048x96 .f32)) (hR : R = []) (y : S2x2048x96.Idx) :
    v.read (Elt Ideal) (v.writes (Elt Ideal) f (R ++ (T ++ B))) y = v.read (Elt Ideal) (v.writes (Elt Ideal) (v.writes (Elt Ideal) f B) T) y := by
  subst hR
  rw [List.nil_append, View.writes_append]

set_option maxHeartbeats 1000000 in
/-- A key block adds its own terms to the query gradient's accumulator. -/
theorem dq_pieces (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty) (k : Fin k0_t1_loop.trips) (f : BufTy.Contents (Elt Ideal) arg11.view.ty) (h : Fin 2) (u : Fin 2048) (d : Fin 96) :
    arg11.view.read (Elt Ideal) (arg11.view.writes (Elt Ideal) f ((kblock (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k).2.2.1 f)) (ix3 h u d)
      = (arg11.view.read (Elt Ideal) f) (ix3 h u d) + ∑ e : Fin 1024, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u (krow k e.val (by omega)) * (arg3.view.read (Elt Ideal) X_arg3) (ix4 h 0 (krow k e.val (by omega)) d) := by
  have hk := kv k
  unfold kblock
  refine (two_lists arg11.view f _ _ _ (no_rest2 ..) (ix3 h u d)).trans ?_
  refine (later_acc 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 k _ _ _ _ _ _ _ _ _ _ _ _ _ h u d).trans ?_
  refine (congrArg (· + _) (base_acc k f h u d _)).trans ?_
  by_cases c1 : k.val * 1024 ≤ u.val ∧ u.val < k.val * 1024 + 1024
  · rw [if_pos c1, if_neg (by omega), add_zero]
  · rw [if_neg c1, add_zero]
    by_cases c2 : k.val = 0 ∧ 1024 ≤ u.val
    · rw [if_pos c2]
    · rw [if_neg c2]
      refine congrArg (_ + ·) (Finset.sum_eq_zero fun e _ => ?_).symm
      rw [gs_zero _ _ _ _ _ _ _ _ _ (by simp only [krow]; omega), zero_mul]

end Cert.Proof.KernelIdeal
end
-- ==== Proof.BodyKernelIdeal.lean ====
/- What the gradient kernel leaves in its three results at one grid point, as functions of the six blocks it reads. -/
module

public import proofs.«01_k».proof.Proof.AccKernelIdeal
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

/-- The kernel's row constant of a pair of heads: the sum of the products of the output's and its gradient's columns. -/
def DO (o w : S1x2048x128.Idx → EReal) (y : S2x2048x1.Idx) : EReal :=
  ∑ d : Fin 64, o (ix3 0 (y 1) (wc (y 0) d)) * w (ix3 0 (y 1) (wc (y 0) d))

/-- The kernel's log-sum-exp of a row, in the units of its own exponential. -/
def LO (l : S2x1x2048x1.Idx → EReal) (y : S2x2048x1.Idx) : EReal :=
  l (ix4 (y 0) 0 (y 1) 0) * (Named.named (F := Ideal) (φ := .f32) κ "log2e" 0x3FB8AA3B#32 : EReal)

/-- Two stores of a whole head each into a pair of columns. -/
theorem two_heads (v : View sig .tc .vmem S2x2048x1 .f32) (f : v.ty.Contents (Elt Ideal)) (inb1 : ∀ a, (![1, 0, 0] : Fin 3 → ℕ) a + (![1, 2048, 1] : Fin 3 → ℕ) a ≤ S2x2048x1.size a)
    (inb0 : ∀ a, (![0, 0, 0] : Fin 3 → ℕ) a + (![1, 2048, 1] : Fin 3 → ℕ) a ≤ S2x2048x1.size a)
    (w1 w0 : FVec Ideal S1x2048x1 .f32) (G : S2x2048x1.Idx → EReal)
    (h1 : ∀ u : Fin 2048, w1 (ix3 0 u 0) = G (ix3 1 u 0)) (h0 : ∀ u : Fin 2048, w0 (ix3 0 u 0) = G (ix3 0 u 0)) :
    v.read (Elt Ideal) (v.writes (Elt Ideal) f [(⟨Rect.unit (s := S2x2048x1) ![1, 0, 0] ![1, 2048, 1] inb1, w1⟩ : View.Piece (Elt Ideal) S2x2048x1 .f32),
      ⟨Rect.unit (s := S2x2048x1) ![0, 0, 0] ![1, 2048, 1] inb0, w0⟩]) = G := by
  funext y
  obtain ⟨h, u, rfl⟩ : ∃ (h : Fin 2) (u : Fin 2048), y = ix3 h u (0 : Fin 1) :=
    ⟨y 0, y 1, funext fun a => match a with
      | ⟨0, _⟩ => rfl
      | ⟨1, _⟩ => rfl
      | ⟨2, _⟩ => Fin.ext (by have h : (y 2).val < 1 := (y 2).isLt; show (y 2).val = 0; omega)⟩
  by_cases hh : h.val = 1
  · obtain rfl : h = 1 := Fin.ext hh
    refine (View.read_writes_cons_unit_of_mem v f (off' := ![1, 0, 0]) inb1 w1 _ (ix3 1 u (0 : Fin 1)) (ix3 (0 : Fin 1) u (0 : Fin 1)) rfl ?_).trans (h1 u)
    intro a
    match a with
    | ⟨0, _⟩ => rfl
    | ⟨1, _⟩ => show u.val = 0 + u.val; omega
    | ⟨2, _⟩ => rfl
  · obtain rfl : h = 0 := Fin.ext (by show h.val = 0; omega)
    refine (View.read_writes_cons_unit_of_not_mem v f (off' := ![1, 0, 0]) inb1 w1 _ (ix3 0 u (0 : Fin 1)) rfl (0 : Fin 3) (Or.inl (by show 0 < 1; omega))).trans ?_
    refine (View.read_writes_cons_unit_of_mem v f (off' := ![0, 0, 0]) inb0 w0 _ (ix3 0 u (0 : Fin 1)) (ix3 (0 : Fin 1) u (0 : Fin 1)) rfl ?_).trans (h0 u)
    intro a
    match a with
    | ⟨0, _⟩ => rfl
    | ⟨1, _⟩ => show u.val = 0 + u.val; omega
    | ⟨2, _⟩ => rfl

theorem pay87_at (o w : FVec Ideal S1x2048x128 .bf16) (u : Fin 2048) (e : Fin 128) : k0_pay87 (F := Ideal) o w (ix2 u e) = o (ix3 0 u e) * w (ix3 0 u e) := by
  pointwise [k0_pay87]
theorem pay90_at (o w : FVec Ideal S1x2048x128 .bf16) (u : Fin 2048) : k0_pay90 (F := Ideal) o w (ix3 0 u 0) = DO o w (ix3 1 u 0) := by
  pointwise [k0_pay90, DO]
  refine Finset.sum_congr rfl fun x _ => (pay87_at o w u ⟨64 + x.val, by omega⟩).trans ?_
  rw [show wc 1 x = ⟨64 + x.val, by omega⟩ from Fin.ext (by show 1 * 64 + x.val = 64 + x.val; omega)]
theorem pay88_at (o w : FVec Ideal S1x2048x128 .bf16) (u : Fin 2048) : k0_pay88 (F := Ideal) o w (ix3 0 u 0) = DO o w (ix3 0 u 0) := by
  pointwise [k0_pay88, DO]
  refine Finset.sum_congr rfl fun x _ => (pay87_at o w u ⟨x.val, by omega⟩).trans ?_
  rw [show wc 0 x = ⟨x.val, by omega⟩ from Fin.ext (by show 0 * 64 + x.val = x.val; omega)]
theorem pay89_at (l : FVec Ideal S1x1x2048x1 .f32) (u : Fin 2048) :
    k0_pay89 (F := Ideal) l (ix3 0 u 0) = l (ix4 0 0 u 0) * (Named.named (F := Ideal) (φ := .f32) κ "log2e" 0x3FB8AA3B#32 : EReal) := by
  pointwise [k0_pay89]
theorem pay1_at (l : FVec Ideal S1x1x2048x1 .f32) (z : EReal) (u : Fin 2048) :
    k0_pay1 (F := Ideal) (k0_pay91 (F := Ideal) l) z (ix3 0 u 0) = l (ix4 0 0 u 0) * z := by
  pointwise [k0_pay1, k0_pay91]
theorem pay4_at (v : FVec Ideal S2x2048x96 .f32) (h : Fin 2) (u : Fin 2048) (d : Fin 96) :
    k0_pay4 (F := Ideal) v (ix4 h 0 u d) = v (ix3 h u d) * Ideal.ofBits .f32 0x3DD105EC#32 := by
  pointwise [k0_pay4]
theorem pay2_at (y) : k0_pay2 (F := Ideal) y = 0 := by
  pointwise [k0_pay2]

theorem delta_at (c : Dev nD) (arg5 : Memref sig .tc .vmem S1x2048x128 .bf16) (harg5 : arg5.IsWhole) (arg6 : Memref sig .tc .vmem S1x2048x128 .bf16) (harg6 : arg6.IsWhole)
    (arg12 : Memref sig .tc .vmem S2x2048x1 .f32) (x5 x6 : Vec Ideal S1x2048x128 .bf16) :
    arg12.view.read (Elt Ideal) (arg12.view.writes (Elt Ideal) arg12.view.junk (bodyRun.sl.H12_2 (F := Ideal) c arg5 harg5 arg6 harg6 x5 x6)) = DO x5 x6 := by
  unfold bodyRun.sl.H12_2
  have e5 : View.readAt (Elt Ideal) arg5.view (Rect.unit ![0, 0, 0] S1x2048x128.size inb_S1x2048x128_S1x2048x128_0_0_0).toLoadRect (harg5.unread x5) = x5 := by
    rw [View.readAt_eq_ld, harg5.read_unread]; exact View.ld_unit_lit _ _ (by decide)
  have e6 : View.readAt (Elt Ideal) arg6.view (Rect.unit ![0, 0, 0] S1x2048x128.size inb_S1x2048x128_S1x2048x128_0_0_0).toLoadRect (harg6.unread x6) = x6 := by
    rw [View.readAt_eq_ld, harg6.read_unread]; exact View.ld_unit_lit _ _ (by decide)
  rw [e5, e6]
  exact two_heads arg12.view _ _ _ _ _ _ (fun u => pay90_at x5 x6 u) (fun u => pay88_at x5 x6 u)

theorem lse_at (c : Dev nD) (arg7 : Memref sig .tc .vmem S2x1x2048x1 .f32) (harg7 : arg7.IsWhole)
    (arg13 : Memref sig .tc .vmem S2x2048x1 .f32) (x7 : Vec Ideal S2x1x2048x1 .f32) :
    arg13.view.read (Elt Ideal) (arg13.view.writes (Elt Ideal) arg13.view.junk (bodyRun.sl.H13_2 (F := Ideal) c arg7 harg7 x7)) = LO x7 := by
  unfold bodyRun.sl.H13_2 bodyRun.sl.r bodyRun.sl.cst_23
  refine two_heads arg13.view _ _ _ _ _ _ (fun u => (pay1_at _ _ u).trans ?_) (fun u => (pay89_at _ u).trans ?_)
  · refine congrArg (· * _) ?_
    rw [View.readAt_eq_ld, harg7.read_unread]
    refine congrArg x7 (funext fun a => Fin.ext ?_)
    match a with
    | ⟨0, _⟩ => rfl
    | ⟨1, _⟩ => rfl
    | ⟨2, _⟩ => show 0 + 1 * u.val = u.val; omega
    | ⟨3, _⟩ => rfl
  · refine congrArg (· * _) ?_
    rw [View.readAt_eq_ld, harg7.read_unread]
    refine congrArg x7 (funext fun a => Fin.ext ?_)
    match a with
    | ⟨0, _⟩ => rfl
    | ⟨1, _⟩ => rfl
    | ⟨2, _⟩ => show 0 + 1 * u.val = u.val; omega
    | ⟨3, _⟩ => rfl

/-- Every piece stored into the key gradient, over all key blocks. -/
theorem dk_all (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty)  (G : BufTy.Contents (Elt Ideal) arg11.view.ty) : ∀ n,
    (∀ q ∈ (pieces (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G n).1, ∀ x : q.1.shape.Idx, q.2 x = KG (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) (q.1.emb x)) ∧ ∀ q ∈ (pieces (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G n).2.1, ∀ x : q.1.shape.Idx, q.2 x = VG (arg2.view.read (Elt Ideal) X_arg2) (arg3.view.read (Elt Ideal) X_arg3) (arg6.view.read (Elt Ideal) X_arg6) (arg13.view.read (Elt Ideal) X_arg13) (q.1.emb x)
  | 0 => ⟨fun q hq => (List.not_mem_nil hq).elim, fun q hq => (List.not_mem_nil hq).elim⟩
  | n + 1 => by
    have ih := dk_all 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G n
    by_cases hn : n < k0_t1_loop.trips
    · rw [pieces_succ (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G ⟨n, hn⟩]
      refine ⟨fun q hq => ?_, fun q hq => ?_⟩
      · rcases List.mem_append.mp hq with h | h
        · exact dk_pieces 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 ⟨n, hn⟩ _ q h
        · exact ih.1 q h
      · rcases List.mem_append.mp hq with h | h
        · exact dv_pieces 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 ⟨n, hn⟩ _ q h
        · exact ih.2 q h
    · rw [pieces.eq_2, dif_neg hn]
      exact ih

/-- The query gradient's accumulator after both key blocks. -/
theorem dq_all (𝒱 : Variants) (c : Dev nD) (bd : Option 𝒱.V) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (X_arg13 : BufTy.Contents (Elt Ideal) arg13.view.ty)  (G : BufTy.Contents (Elt Ideal) arg11.view.ty) (h : Fin 2) (u : Fin 2048) (d : Fin 96) :
    arg11.view.read (Elt Ideal) (arg11.view.writes (Elt Ideal) G (pieces (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G 2).2.2) (ix3 h u d)
      = arg11.view.read (Elt Ideal) G (ix3 h u d) + ∑ j : Fin 2048, gs (arg2.view.read (Elt Ideal) X_arg2) (arg3.view.read (Elt Ideal) X_arg3) (arg4.view.read (Elt Ideal) X_arg4) (arg6.view.read (Elt Ideal) X_arg6) (arg12.view.read (Elt Ideal) X_arg12) (arg13.view.read (Elt Ideal) X_arg13) h u j * (arg3.view.read (Elt Ideal) X_arg3) (ix4 h 0 j d) := by
  have t0 : 0 < k0_t1_loop.trips := by decide +kernel
  have t1 : 1 < k0_t1_loop.trips := by decide +kernel
  rw [pieces_succ (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G ⟨1, t1⟩]
  rw [View.writes_append]
  refine (dq_pieces 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 ⟨1, t1⟩ _ h u d).trans ?_
  rw [pieces_succ (F := Ideal) 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 G ⟨0, t0⟩]
  rw [View.writes_append]
  refine (congrArg (· + _) (dq_pieces 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg6 X_arg12 X_arg13 ⟨0, t0⟩ _ h u d)).trans ?_
  rw [add_assoc, sum_two 1024]
  refine congrArg₂ (· + ·) rfl (congrArg₂ (· + ·) ?_ ?_)
  · refine Finset.sum_congr rfl fun e _ => ?_
    rw [show krow ⟨0, t0⟩ e.val e.isLt = Fin.castAdd 1024 e from Fin.ext (by show 0 * 1024 + e.val = e.val; omega)]
  · refine Finset.sum_congr rfl fun e _ => ?_
    rw [show krow ⟨1, t1⟩ e.val e.isLt = Fin.natAdd 1024 e from Fin.ext (by show 1 * 1024 + e.val = 1024 + e.val; omega)]

/-- The query gradient the kernel stores. -/
def QG (Q K : S2x1x2048x96.Idx → EReal) (V : S2x1x2048x64.Idx → EReal) (W : S1x2048x128.Idx → EReal) (D L : S2x2048x1.Idx → EReal) (y : S2x1x2048x96.Idx) : EReal :=
  (∑ j : Fin 2048, gs Q K V W D L (y 0) (y 2) j * K (ix4 (y 0) 0 j (y 3))) * Ideal.ofBits .f32 0x3DD105EC#32

theorem left9_eq (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (x2 : Vec Ideal S2x1x2048x96 .bf16) (x3 : Vec Ideal S2x1x2048x96 .bf16) (x4 : Vec Ideal S2x1x2048x64 .bf16) (x5 : Vec Ideal S1x2048x128 .bf16) (x6 : Vec Ideal S1x2048x128 .bf16) (x7 : Vec Ideal S2x1x2048x1 .f32) : left9 (F := Ideal) c i arg2 harg2 arg3 harg3 arg4 harg4 arg5 harg5 arg6 harg6 arg7 harg7 arg8 harg8 arg9 harg9 arg10 harg10 arg11 harg11 arg12 harg12 arg13 harg13 x2 x3 x4 x5 x6 x7 = KG x2 x3 x4 x6 (DO x5 x6) (LO x7) := by
  funext y
  unfold left9
  rw [View.read_writes_junk_eq_canon]
  refine View.canon_apply_of_pieces _ _ ?_ y (covers9 c i arg2 harg2 arg3 harg3 arg4 harg4 arg5 harg5 arg6 harg6 arg7 harg7 arg8 harg8 arg9 harg9 arg10 harg10 arg11 harg11 arg12 harg12 arg13 harg13 x2 x3 x4 x5 x6 x7 y)
  unfold bodyRun
  intro q hq x
  have h := (dk_all Variants.none c none i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg6.unread x6) (arg12.view.writes (Elt Ideal) arg12.view.junk (bodyRun.sl.H12_2 (F := Ideal) c arg5 harg5 arg6 harg6 x5 x6)) (arg13.view.writes (Elt Ideal) arg13.view.junk (bodyRun.sl.H13_2 (F := Ideal) c arg7 harg7 x7)) _ _).1 q hq x
  rw [harg2.read_unread, harg3.read_unread, harg4.read_unread, harg6.read_unread, delta_at, lse_at] at h
  exact h

theorem left10_eq (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (x2 : Vec Ideal S2x1x2048x96 .bf16) (x3 : Vec Ideal S2x1x2048x96 .bf16) (x4 : Vec Ideal S2x1x2048x64 .bf16) (x5 : Vec Ideal S1x2048x128 .bf16) (x6 : Vec Ideal S1x2048x128 .bf16) (x7 : Vec Ideal S2x1x2048x1 .f32) : left10 (F := Ideal) c i arg2 harg2 arg3 harg3 arg4 harg4 arg5 harg5 arg6 harg6 arg7 harg7 arg8 harg8 arg9 harg9 arg10 harg10 arg11 harg11 arg12 harg12 arg13 harg13 x2 x3 x4 x5 x6 x7 = VG x2 x3 x6 (LO x7) := by
  funext y
  unfold left10
  rw [View.read_writes_junk_eq_canon]
  refine View.canon_apply_of_pieces _ _ ?_ y (covers10 c i arg2 harg2 arg3 harg3 arg4 harg4 arg5 harg5 arg6 harg6 arg7 harg7 arg8 harg8 arg9 harg9 arg10 harg10 arg11 harg11 arg12 harg12 arg13 harg13 x2 x3 x4 x5 x6 x7 y)
  unfold bodyRun
  intro q hq x
  have h := (dk_all Variants.none c none i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg6.unread x6) (arg12.view.writes (Elt Ideal) arg12.view.junk (bodyRun.sl.H12_2 (F := Ideal) c arg5 harg5 arg6 harg6 x5 x6)) (arg13.view.writes (Elt Ideal) arg13.view.junk (bodyRun.sl.H13_2 (F := Ideal) c arg7 harg7 x7)) _ _).2 q hq x
  rw [harg2.read_unread, harg3.read_unread, harg6.read_unread, lse_at] at h
  exact h

theorem left8_eq (c : Dev nD) (i : grid0.Coords) (arg2 : Memref sig .tc .vmem S2x1x2048x96 .bf16) (harg2 : arg2.IsWhole) (arg3 : Memref sig .tc .vmem S2x1x2048x96 .bf16) (harg3 : arg3.IsWhole) (arg4 : Memref sig .tc .vmem S2x1x2048x64 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x1x2048x1 .f32) (harg7 : arg7.IsWhole) (arg8 : Memref sig .tc .vmem S2x1x2048x96 .bf16) (harg8 : arg8.IsWhole) (arg9 : Memref sig .tc .vmem S2x1x2048x96 .bf16) (harg9 : arg9.IsWhole) (arg10 : Memref sig .tc .vmem S2x1x2048x64 .bf16) (harg10 : arg10.IsWhole) (arg11 : Memref sig .tc .vmem S2x2048x96 .f32) (harg11 : arg11.IsWhole) (arg12 : Memref sig .tc .vmem S2x2048x1 .f32) (harg12 : arg12.IsWhole) (arg13 : Memref sig .tc .vmem S2x2048x1 .f32) (harg13 : arg13.IsWhole) (x2 : Vec Ideal S2x1x2048x96 .bf16) (x3 : Vec Ideal S2x1x2048x96 .bf16) (x4 : Vec Ideal S2x1x2048x64 .bf16) (x5 : Vec Ideal S1x2048x128 .bf16) (x6 : Vec Ideal S1x2048x128 .bf16) (x7 : Vec Ideal S2x1x2048x1 .f32) : left8 (F := Ideal) c i arg2 harg2 arg3 harg3 arg4 harg4 arg5 harg5 arg6 harg6 arg7 harg7 arg8 harg8 arg9 harg9 arg10 harg10 arg11 harg11 arg12 harg12 arg13 harg13 x2 x3 x4 x5 x6 x7 = QG x2 x3 x4 x6 (DO x5 x6) (LO x7) := by
  unfold left8
  rw [View.read_writes_junk_eq_canon]
  unfold bodyRun
  refine (View.canon_cons_unit_lit _ _ _ (by decide)).trans ?_
  funext y
  obtain ⟨h, u, d, rfl⟩ : ∃ (h : Fin 2) (u : Fin 2048) (d : Fin 96), y = ix4 h (0 : Fin 1) u d :=
    ⟨y 0, y 2, y 3, funext fun a => match a with
      | ⟨0, _⟩ => rfl
      | ⟨1, _⟩ => Fin.ext (by have h : (y 1).val < 1 := (y 1).isLt; show (y 1).val = 0; omega)
      | ⟨2, _⟩ => rfl
      | ⟨3, _⟩ => rfl⟩
  refine (pay4_at _ h u d).trans ?_
  refine congrArg (· * _) ?_
  unfold bodyRun.sl.v38
  rw [trips1]
  refine Eq.trans (b := arg11.view.read (Elt Ideal) (arg11.view.writes (Elt Ideal) arg11.view.junk (_ ++ bodyRun.sl.H11_1)) (ix3 h u d)) (congrArg (arg11.view.read (Elt Ideal) _) (funext fun a => Fin.ext ?_)) ?_
  · match a with
    | ⟨0, _⟩ => show 0 + 1 * h.val = h.val; omega
    | ⟨1, _⟩ => show 0 + 1 * u.val = u.val; omega
    | ⟨2, _⟩ => show 0 + 1 * d.val = d.val; omega
  rw [View.writes_append]
  refine (dq_all Variants.none c none i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg6.unread x6) (arg12.view.writes (Elt Ideal) arg12.view.junk (bodyRun.sl.H12_2 (F := Ideal) c arg5 harg5 arg6 harg6 x5 x6)) (arg13.view.writes (Elt Ideal) arg13.view.junk (bodyRun.sl.H13_2 (F := Ideal) c arg7 harg7 x7)) _ h u d).trans ?_
  rw [harg2.read_unread, harg3.read_unread, harg4.read_unread, harg6.read_unread, delta_at, lse_at]
  refine (congrArg (· + _) ?_).trans (zero_add _)
  rw [View.read_writes_junk_eq_canon]
  unfold bodyRun.sl.H11_1
  exact (congrFun (View.canon_cons_unit_lit _ _ _ (by decide)) _).trans (pay2_at _)

end Cert.Proof.KernelIdeal
end
-- ==== Proof.Model.lean ====
/- Causal attention's gradients of one head over the real numbers. -/
module

public import Idealize.ShloMosaic.PureOps.Ideal.Laws
public import Idealize.ShloMosaic.Lib.IdealHost
public import Idealize.ShloMosaic.Lib.Pointwise
public import Mathlib.Analysis.SpecialFunctions.Pow.Real

@[expose] public section

noncomputable section

namespace Cert.Proof.Model

open Idealize.ShloMosaic

/-- A sum of reals taken among the extended reals. -/
theorem sum_coe {n : ℕ} (f : Fin n → ℝ) : (∑ x, ((f x : ℝ) : EReal)) = ((∑ x, f x : ℝ) : EReal) := by
  have h : ∀ s : Finset (Fin n), (∑ x ∈ s, ((f x : ℝ) : EReal)) = ((∑ x ∈ s, f x : ℝ) : EReal) := by
    intro s
    induction s using Finset.induction_on with
    | empty => simp
    | insert a s ha ih => rw [Finset.sum_insert ha, Finset.sum_insert ha, ih, EReal.coe_add]
  exact h _

/-- The scale of the scores. -/
def sc : ℝ := 3424635 / 33554432

theorem word_scale : Ideal.ofBits .f32 0x3DD105EC#32 = ((sc : ℝ) : EReal) := by
  have h : (13698540 : ℝ) * 2 ^ (-27 : ℤ) = sc := by unfold sc; norm_num
  rw [← h]
  simp [Ideal.ofBits, Ideal.ieee]

theorem word_low : Ideal.ofBits .f32 0xFF800000#32 = ⊥ := by
  simp [Ideal.ofBits, Ideal.ieee]

theorem word_inf : Ideal.ofBits .bf16 0x7F80#16 = ⊤ := by
  simp [Ideal.ofBits, Ideal.ieee]

/-- Off the top and off the bottom, an extended real is its real part. -/
theorem real_of {x : EReal} (h1 : x ≠ ⊤) (h2 : x ≠ ⊥) : x = ((x.toReal : ℝ) : EReal) := (EReal.coe_toReal h1 h2).symm

/-- A row's maximum over reals and minus infinities, not all minus infinities, is a real. -/
theorem reduce_real {s t u : Shape} {axes : List (Fin s.rank)} (x : s.Idx → Ideal .f32) (init : u.Idx → Ideal .f32) (h : s.ReducesTo axes t)
    (hu : 0 < u.numel) (j : t.Idx) (i : s.Idx) (hi : h.drop i = j) (hb : x i ≠ (⊥ : EReal)) (hx : ∀ a, x a ≠ (⊤ : EReal))
    (h0 : init (Shape.Idx.first hu) ≠ (⊤ : EReal)) :
    Host.reduce (FloatOps.maximumf (F := Ideal) (φ := .f32)) x init h hu j ≠ (⊤ : EReal)
      ∧ Host.reduce (FloatOps.maximumf (F := Ideal) (φ := .f32)) x init h hu j ≠ (⊥ : EReal) := by
  rw [Host.reduce_eq_fold]
  change Finset.fold (max : EReal → EReal → EReal) _ _ _ ≠ ⊤ ∧ Finset.fold (max : EReal → EReal → EReal) _ _ _ ≠ ⊥
  constructor
  · exact (Finset.fold_max_lt _ |>.mpr ⟨lt_top_iff_ne_top.mpr h0, fun a _ => lt_top_iff_ne_top.mpr (hx a)⟩).ne
  · exact (Finset.lt_fold_max _ |>.mpr (Or.inr ⟨i, Finset.mem_filter.mpr ⟨Finset.mem_univ _, hi⟩, bot_lt_iff_ne_bot.mpr hb⟩)).ne'

/-- One head of one batch of an array, in reals. -/
def headed {n : ℕ} (X : (⟨4, ![16, 2, 2048, n]⟩ : Shape).Idx → EReal) (H : Fin 16) (B : Fin 2) : Fin 2048 → Fin n → ℝ :=
  fun i d => (X (ix4 H B i d)).toReal

/-- The same of an array with its heads side by side. -/
def cols (W : (⟨3, ![2, 2048, 1024]⟩ : Shape).Idx → EReal) (H : Fin 16) (B : Fin 2) : Fin 2048 → Fin 64 → ℝ :=
  fun i d => (W (ix3 B i ⟨H.val * 64 + d.val, by omega⟩)).toReal

section Head

variable (q k : Fin 2048 → Fin 96 → ℝ) (v w : Fin 2048 → Fin 64 → ℝ)

/-- The product of query `i` and key `j`. -/
def raw (i j : Fin 2048) : ℝ := ∑ d, q i d * k j d

/-- The exponential of a scaled score, zero above the diagonal. -/
def num (i j : Fin 2048) : ℝ := if j.val ≤ i.val then Real.exp (raw q k i j * sc) else 0

/-- The sum of a row. -/
def den (i : Fin 2048) : ℝ := ∑ j, num q k i j

/-- The attention weight of key `j` for query `i`. -/
def wt (i j : Fin 2048) : ℝ := num q k i j / den q k i

/-- The gradient of the weights. -/
def gw (i j : Fin 2048) : ℝ := ∑ d, w i d * v j d

/-- The gradient of the scaled scores. -/
def ds (i j : Fin 2048) : ℝ := wt q k i j * (gw v w i j - ∑ l, gw v w i l * wt q k i l)

/-- The query gradient. -/
def gq (i : Fin 2048) (d : Fin 96) : ℝ := (∑ j, ds q k v w i j * k j d) * sc

/-- The key gradient. -/
def gk (j : Fin 2048) (d : Fin 96) : ℝ := (∑ i, ds q k v w i j * q i d) * sc

/-- The value gradient. -/
def gv (j : Fin 2048) (d : Fin 64) : ℝ := ∑ i, wt q k i j * w i d

theorem num_nonneg (i j : Fin 2048) : 0 ≤ num q k i j := by
  unfold num; split
  · exact (Real.exp_pos _).le
  · exact le_rfl

theorem den_pos (i : Fin 2048) : 0 < den q k i :=
  Finset.sum_pos' (fun j _ => num_nonneg q k i j) ⟨i, Finset.mem_univ _, by unfold num; rw [if_pos le_rfl]; exact Real.exp_pos _⟩

theorem wt_above {i j : Fin 2048} (h : ¬ j.val ≤ i.val) : wt q k i j = 0 := by
  unfold wt num; rw [if_neg h, zero_div]

/-- A row's exponentials under any shift. -/
theorem exp_shift (a : ℝ) (i j : Fin 2048) :
    Ideal.exp ((if j.val ≤ i.val then ((raw q k i j * sc : ℝ) : EReal) else ⊥) - ((a : ℝ) : EReal)) = ((num q k i j * Real.exp (-a) : ℝ) : EReal) := by
  unfold num
  by_cases h : j.val ≤ i.val
  · rw [if_pos h, if_pos h, ← EReal.coe_sub, Ideal.exp_coe, ← Real.exp_add, sub_eq_add_neg]
  · rw [if_neg h, if_neg h, zero_mul]
    have : (⊥ : EReal) - ((a : ℝ) : EReal) = ⊥ := EReal.bot_sub _
    rw [this, Ideal.exp_bot, EReal.coe_zero]

/-- Their sum. -/
theorem sum_shift (a : ℝ) (i : Fin 2048) : (∑ j, ((num q k i j * Real.exp (-a) : ℝ) : EReal)) = ((den q k i * Real.exp (-a) : ℝ) : EReal) := by
  rw [sum_coe, ← Finset.sum_mul]; rfl

theorem shifted_pos (a : ℝ) (i : Fin 2048) : 0 < den q k i * Real.exp (-a) := mul_pos (den_pos q k i) (Real.exp_pos _)

/-- A quotient of reals. -/
theorem div_real (x : ℝ) {y : ℝ} (h : y ≠ 0) : Ideal.div ((x : ℝ) : EReal) ((y : ℝ) : EReal) = ((x / y : ℝ) : EReal) := by
  rw [Ideal.div_coe h, ← EReal.coe_mul, mul_one_div]

/-- The shift falls out of the weights. -/
theorem wt_shift (a : ℝ) (i j : Fin 2048) : num q k i j * Real.exp (-a) / (den q k i * Real.exp (-a)) = wt q k i j :=
  mul_div_mul_right _ _ (Real.exp_pos _).ne'

/-- The gradient of the scores, as differentiating the quotient writes it. -/
theorem ds_quotient (a : ℝ) (i j : Fin 2048) :
    (gw v w i j / (den q k i * Real.exp (-a)) + -(∑ l, gw v w i l * (1 / (den q k i * Real.exp (-a) * (den q k i * Real.exp (-a)))) * (num q k i l * Real.exp (-a)))) * (num q k i j * Real.exp (-a)) = ds q k v w i j := by
  have hL := (shifted_pos q k a i).ne'
  have e : (∑ l, gw v w i l * (1 / (den q k i * Real.exp (-a) * (den q k i * Real.exp (-a)))) * (num q k i l * Real.exp (-a)))
      = (∑ l, gw v w i l * wt q k i l) / (den q k i * Real.exp (-a)) := by
    rw [Finset.sum_div]
    refine Finset.sum_congr rfl fun l _ => ?_
    rw [← wt_shift q k a i l]; field_simp
  rw [e]; unfold ds; rw [← wt_shift q k a i j]; field_simp; ring

theorem ds_above {i j : Fin 2048} (h : ¬ j.val ≤ i.val) : ds q k v w i j = 0 := by
  unfold ds; rw [wt_above q k h, zero_mul]

/-- The weight from the row's log-sum-exp in base two. -/
theorem wt_log {i j : Fin 2048} (h : j.val ≤ i.val) (a : ℝ) :
    Real.rpow 2 (raw q k i j * (sc * (Real.log 2)⁻¹) - (a + Real.log (den q k i * Real.exp (-a))) * (Real.log 2)⁻¹) = wt q k i j := by
  have h2 : Real.log 2 ≠ 0 := (Real.log_pos (by norm_num)).ne'
  have hp := den_pos q k i
  have e : a + Real.log (den q k i * Real.exp (-a)) = Real.log (den q k i) := by
    rw [Real.log_mul hp.ne' (Real.exp_pos _).ne', Real.log_exp]; ring
  have e2 : Real.log 2 * (raw q k i j * (sc * (Real.log 2)⁻¹) - Real.log (den q k i) * (Real.log 2)⁻¹) = raw q k i j * sc - Real.log (den q k i) := by
    field_simp
  rw [Real.rpow_eq_pow, e, Real.rpow_def_of_pos (by norm_num), e2, Real.exp_sub, Real.exp_log hp]
  unfold wt num; rw [if_pos h]

/-- The row's output and its gradient, summed over the columns, is the weighted sum of the gradient of the weights. -/
theorem out_dot (i : Fin 2048) : (∑ d, (∑ j, v j d * wt q k i j) * w i d) = ∑ l, gw v w i l * wt q k i l := by
  unfold gw
  simp only [Finset.sum_mul]
  rw [Finset.sum_comm]
  exact Finset.sum_congr rfl fun j _ => Finset.sum_congr rfl fun d _ => by ring

end Head

end Cert.Proof.Model
end
-- ==== Proof.Reference.lean ====
/- The reference's gradients as named arrays, and each of them read at an index. -/
module

public import proofs.«01_k».proof.Proof.Gen.ReferenceIdeal.Run
public import proofs.«01_k».proof.Proof.Model
public import Idealize.ShloMosaic.Lib.Pointwise
public import Idealize.ShloMosaic.Lib.WordCmp

@[expose] public section

set_option maxRecDepth 16384

noncomputable section

namespace Cert.Proof.Reference

open Cert.ReferenceIdeal Cert.ReferenceIdeal.Gen
open Idealize.ShloMosaic Idealize.ShloMosaic.TcCoe Idealize.ShloMosaic.Tactic Idealize.SL.Sem
open Cert.Proof.Model

/-- The scaled and masked scores. -/
def rS (Q : FVec Ideal S16x2x2048x96 .bf16) (K : FVec Ideal S16x2x2048x96 .bf16) : FVec Ideal S16x2x2048x2048 .f32 :=
  select (broadcastInDim S16x2x2048x2048 ![2, 3] bcast_S2048x2048_S16x2x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (Host.dotGeneral dot_S16x2x2048x96_S16x2x2048x96_S16x2x2048x2048_3_3_2_2_01_01 none (extf .f32 Q bitsLt_bf16_f32) (extf .f32 K bitsLt_bf16_f32)) (broadcastInDim S16x2x2048x2048 ![] bcast_S_S16x2x2048x2048 (constant S_ .f32 0x3DD105EC#32))) (broadcastInDim S16x2x2048x2048 ![] bcast_S_S16x2x2048x2048 (id (constant S_ .f32 0xFF800000#32)))

/-- The largest score of each row. -/
def rM (Q : FVec Ideal S16x2x2048x96 .bf16) (K : FVec Ideal S16x2x2048x96 .bf16) : FVec Ideal S16x2x2048 .f32 :=
  maximumf (broadcastInDim S16x2x2048 ![] bcast_S_S16x2x2048 (constant S_ .f32 0xFF800000#32)) (Host.reduce FloatOps.maximumf (rS Q K) (constant S_ .f32 0xFF800000#32) reducesTo_S16x2x2048x2048_S16x2x2048_d3 h_S_)

/-- The exponentials of the scores under their row maximum. -/
def rE (Q : FVec Ideal S16x2x2048x96 .bf16) (K : FVec Ideal S16x2x2048x96 .bf16) : FVec Ideal S16x2x2048x2048 .f32 :=
  Host.exp (subf (rS Q K) (broadcastInDim S16x2x2048x2048 ![0, 1, 2, 3] bcast_S16x2x2048x1_S16x2x2048x2048_0_1_2_3 (broadcastInDim S16x2x2048x1 ![0, 1, 2] bcast_S16x2x2048_S16x2x2048x1_0_1_2 (rM Q K))))

/-- The sum of each row. -/
def rL (Q : FVec Ideal S16x2x2048x96 .bf16) (K : FVec Ideal S16x2x2048x96 .bf16) : FVec Ideal S16x2x2048x1 .f32 :=
  broadcastInDim S16x2x2048x1 ![0, 1, 2] bcast_S16x2x2048_S16x2x2048x1_0_1_2 (Host.reduceAdd (rE Q K) (constant S_ .f32 0x00000000#32) reducesTo_S16x2x2048x2048_S16x2x2048_d3 h_S_)

/-- The attention weights. -/
def rP (Q : FVec Ideal S16x2x2048x96 .bf16) (K : FVec Ideal S16x2x2048x96 .bf16) : FVec Ideal S16x2x2048x2048 .f32 :=
  Host.divf (rE Q K) (broadcastInDim S16x2x2048x2048 ![0, 1, 2, 3] bcast_S16x2x2048x1_S16x2x2048x2048_0_1_2_3 (rL Q K))

/-- The gradient of the weights. -/
def rG (V : FVec Ideal S16x2x2048x64 .bf16) (W : FVec Ideal S2x2048x1024 .bf16) : FVec Ideal S16x2x2048x2048 .f32 :=
  transpose S16x2x2048x2048 [1, 0, 2, 3] (Host.dotGeneral dot_S2x16x64x2048_S16x2x2048x64_S2x16x2048x2048_2_3_3_2_01_10 none (transpose S2x16x64x2048 [0, 2, 3, 1] (shapeCast _ (extf .f32 W bitsLt_bf16_f32) shapeCasts_S2x2048x1024_S2x2048x16x64) transposes_S2x2048x16x64_S2x16x64x2048_0_2_3_1) (extf .f32 V bitsLt_bf16_f32)) transposes_S2x16x2048x2048_S16x2x2048x2048_1_0_2_3

/-- What the gradient of the row sums needs. -/
def rN (Q : FVec Ideal S16x2x2048x96 .bf16) (K : FVec Ideal S16x2x2048x96 .bf16) (V : FVec Ideal S16x2x2048x64 .bf16) (W : FVec Ideal S2x2048x1024 .bf16) : FVec Ideal S16x2x2048x1 .f32 :=
  shapeCast _ (Host.reduceAdd (mulf (mulf (rG V W) (broadcastInDim S16x2x2048x2048 ![0, 1, 2, 3] bcast_S16x2x2048x1_S16x2x2048x2048_0_1_2_3 (Host.divf (broadcastInDim S16x2x2048x1 ![] bcast_S_S16x2x2048x1 (constant S_ .f32 0x3F800000#32)) (mulf (rL Q K) (rL Q K))))) (rE Q K)) (constant S_ .f32 0x00000000#32) reducesTo_S16x2x2048x2048_S16x2x2048_d3 h_S_) shapeCasts_S16x2x2048_S16x2x2048x1

/-- The gradient of the unscaled scores. -/
def rD (Q : FVec Ideal S16x2x2048x96 .bf16) (K : FVec Ideal S16x2x2048x96 .bf16) (V : FVec Ideal S16x2x2048x64 .bf16) (W : FVec Ideal S2x2048x1024 .bf16) : FVec Ideal S16x2x2048x2048 .f32 :=
  mulf (select (broadcastInDim S16x2x2048x2048 ![2, 3] bcast_S2048x2048_S16x2x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (addf (Host.divf (rG V W) (broadcastInDim S16x2x2048x2048 ![0, 1, 2, 3] bcast_S16x2x2048x1_S16x2x2048x2048_0_1_2_3 (rL Q K))) (broadcastInDim S16x2x2048x2048 ![0, 1, 2] bcast_S16x2x2048_S16x2x2048x2048_0_1_2 (Host.reduceAdd (Host.negf (rN Q K V W)) (constant S_ .f32 0x00000000#32) reducesTo_S16x2x2048x1_S16x2x2048_d3 h_S_))) (rE Q K)) (broadcastInDim S16x2x2048x2048 ![] bcast_S_S16x2x2048x2048 (constant S_ .f32 0x00000000#32))) (broadcastInDim S16x2x2048x2048 ![] bcast_S_S16x2x2048x2048 (constant S_ .f32 0x3DD105EC#32))

/-- The query gradient. -/
def rDQ (Q : FVec Ideal S16x2x2048x96 .bf16) (K : FVec Ideal S16x2x2048x96 .bf16) (V : FVec Ideal S16x2x2048x64 .bf16) (W : FVec Ideal S2x2048x1024 .bf16) : FVec Ideal S16x2x2048x96 .bf16 :=
  truncf .bf16 (Host.dotGeneral dot_S16x2x2048x2048_S16x2x2048x96_S16x2x2048x96_3_2_2_3_01_01 none (rD Q K V W) (extf .f32 K bitsLt_bf16_f32)) bitsLt_bf16_f32

/-- The key gradient. -/
def rDK (Q : FVec Ideal S16x2x2048x96 .bf16) (K : FVec Ideal S16x2x2048x96 .bf16) (V : FVec Ideal S16x2x2048x64 .bf16) (W : FVec Ideal S2x2048x1024 .bf16) : FVec Ideal S16x2x2048x96 .bf16 :=
  truncf .bf16 (Host.dotGeneral dot_S16x2x2048x2048_S16x2x2048x96_S16x2x2048x96_2_2_3_3_01_01 none (rD Q K V W) (extf .f32 Q bitsLt_bf16_f32)) bitsLt_bf16_f32

/-- The value gradient. -/
def rDV (Q : FVec Ideal S16x2x2048x96 .bf16) (K : FVec Ideal S16x2x2048x96 .bf16) (W : FVec Ideal S2x2048x1024 .bf16) : FVec Ideal S16x2x2048x64 .bf16 :=
  truncf .bf16 (transpose S16x2x2048x64 [1, 0, 3, 2] (Host.dotGeneral dot_S2x16x64x2048_S16x2x2048x2048_S2x16x64x2048_3_2_2_3_01_10 none (transpose S2x16x64x2048 [0, 2, 3, 1] (shapeCast _ (extf .f32 W bitsLt_bf16_f32) shapeCasts_S2x2048x1024_S2x2048x16x64) transposes_S2x2048x16x64_S2x16x64x2048_0_2_3_1) (rP Q K)) transposes_S2x16x64x2048_S16x2x2048x64_1_0_3_2) bitsLt_bf16_f32

/-- A select on a signed comparison of two positions is an `if`. -/
theorem sge_select {α : Type} (r c : ℕ) (hr : r < 2048) (hc : c < 2048) (a b : α) :
    Scalar.select (IntOp.cmpi .sge (BitVec.ofNat 32 r) (BitVec.ofNat 32 c)) a b = if c ≤ r then a else b := by
  rw [WordCmp.cmpi_sge_ofNat (by omega) (by omega)]
  by_cases h : c ≤ r <;> simp [h, Scalar.select]

variable (Q K : FVec Ideal S16x2x2048x96 .bf16) (V : FVec Ideal S16x2x2048x64 .bf16) (W : FVec Ideal S2x2048x1024 .bf16)
variable (hQ : ∀ x, Q x = (((Q x : EReal).toReal : ℝ) : EReal)) (hK : ∀ x, K x = (((K x : EReal).toReal : ℝ) : EReal))
variable (hV : ∀ x, V x = (((V x : EReal).toReal : ℝ) : EReal)) (hW : ∀ x, W x = (((W x : EReal).toReal : ℝ) : EReal))

include hQ hK in
theorem rS_at (H : Fin 16) (B : Fin 2) (i j : Fin 2048) :
    rS Q K (ix4 H B i j) = if j.val ≤ i.val then ((raw (headed Q H B) (headed K H B) i j * sc : ℝ) : EReal) else ⊥ := by
  have e : (∑ d : Fin 96, Q (ix4 H B i d) * K (ix4 H B j d)) = ((raw (headed Q H B) (headed K H B) i j : ℝ) : EReal) := by
    unfold raw headed; rw [← sum_coe]
    exact Finset.sum_congr rfl fun d _ => by rw [EReal.coe_mul, ← hQ, ← hK]
  pointwise [rS]
  rw [sge_select _ _ i.isLt j.isLt, e, word_scale, ← EReal.coe_mul]
  exact congrArg (fun z => if j.val ≤ i.val then ((raw (headed Q H B) (headed K H B) i j * sc : ℝ) : EReal) else z) word_low

/-- Row `i` of head `H` holds the entry at column `j`. -/
theorem drop_row (H : Fin 16) (B : Fin 2) (i j : Fin 2048) :
    Shape.ReducesTo.drop reducesTo_S16x2x2048x2048_S16x2x2048_d3 (ix4 H B i j) = ix3 H B i := by
  funext b
  match b with
  | ⟨0, _⟩ => rfl
  | ⟨1, _⟩ => rfl
  | ⟨2, _⟩ => rfl

/-- A maximum one of whose sides is minus infinity. -/
theorem larger_at {s : Shape} (a b : FVec Ideal s .f32) (x : s.Idx) (h : a x = (⊥ : EReal)) : maximumf a b x = b x :=
  (congrArg (fun z : EReal => max z (b x)) h).trans (max_eq_right bot_le)

include hQ hK in
theorem rM_at (H : Fin 16) (B : Fin 2) (i : Fin 2048) : rM Q K (ix3 H B i) = (((rM Q K (ix3 H B i) : EReal).toReal : ℝ) : EReal) := by
  have hx : ∀ a, rS Q K a ≠ (⊤ : EReal) := by
    intro a
    obtain ⟨H', B', i', j', rfl⟩ : ∃ (H' : Fin 16) (B' : Fin 2) (i' j' : Fin 2048), a = ix4 H' B' i' j' := ⟨a 0, a 1, a 2, a 3, eq_ix4 a⟩
    rw [rS_at Q K hQ hK]
    split
    · exact EReal.coe_ne_top _
    · exact bot_ne_top
  have hb : rS Q K (ix4 H B i i) ≠ (⊥ : EReal) := by
    rw [rS_at Q K hQ hK, if_pos le_rfl]; exact EReal.coe_ne_bot _
  have h0 : constant (F := Ideal) S_ .f32 0xFF800000#32 (Shape.Idx.first h_S_) = (⊥ : EReal) := word_low
  obtain ⟨h1, h2⟩ := reduce_real (rS Q K) (constant S_ .f32 0xFF800000#32) reducesTo_S16x2x2048x2048_S16x2x2048_d3 h_S_ (ix3 H B i) (ix4 H B i i)
    (drop_row H B i i) hb hx (by rw [h0]; exact bot_ne_top)
  unfold rM
  rw [larger_at _ _ _ (show broadcastInDim S16x2x2048 ![] bcast_S_S16x2x2048 (constant (F := Ideal) S_ .f32 0xFF800000#32) (ix3 H B i) = (⊥ : EReal) from word_low)]
  exact real_of h1 h2

/-- The row maximum as a real. -/
def top (H : Fin 16) (B : Fin 2) (i : Fin 2048) : ℝ := (rM Q K (ix3 H B i) : EReal).toReal

include hQ hK in
theorem rE_at (H : Fin 16) (B : Fin 2) (i j : Fin 2048) :
    rE Q K (ix4 H B i j) = ((num (headed Q H B) (headed K H B) i j * Real.exp (-top Q K H B i) : ℝ) : EReal) := by
  pointwise [rE]
  rw [rS_at Q K hQ hK, rM_at Q K hQ hK]
  exact exp_shift _ _ _ i j

include hQ hK in
theorem rL_at (H : Fin 16) (B : Fin 2) (i : Fin 2048) :
    rL Q K (ix4 H B i (0 : Fin 1)) = ((den (headed Q H B) (headed K H B) i * Real.exp (-top Q K H B i) : ℝ) : EReal) := by
  pointwise [rL]
  rw [← sum_shift]
  exact Finset.sum_congr rfl fun j _ => rE_at Q K hQ hK H B i j

include hQ hK in
theorem rP_at (H : Fin 16) (B : Fin 2) (i j : Fin 2048) :
    rP Q K (ix4 H B i j) = ((wt (headed Q H B) (headed K H B) i j : ℝ) : EReal) := by
  pointwise [rP]
  rw [rE_at Q K hQ hK, rL_at Q K hQ hK, div_real _ (shifted_pos _ _ _ i).ne', wt_shift]

include hV hW in
theorem rG_at (H : Fin 16) (B : Fin 2) (i j : Fin 2048) :
    rG V W (ix4 H B i j) = ((gw (headed V H B) (cols W H B) i j : ℝ) : EReal) := by
  pointwise [rG]
  unfold gw headed cols; rw [← sum_coe]
  exact Finset.sum_congr rfl fun d _ => by rw [EReal.coe_mul, ← hV, ← hW]

include hQ hK hV hW in
theorem rN_at (H : Fin 16) (B : Fin 2) (i : Fin 2048) :
    rN Q K V W (ix4 H B i (0 : Fin 1)) = ((∑ l, gw (headed V H B) (cols W H B) i l * (1 / (den (headed Q H B) (headed K H B) i * Real.exp (-top Q K H B i) * (den (headed Q H B) (headed K H B) i * Real.exp (-top Q K H B i)))) * (num (headed Q H B) (headed K H B) i l * Real.exp (-top Q K H B i)) : ℝ) : EReal) := by
  have hL := (shifted_pos (headed Q H B) (headed K H B) (top Q K H B i) i).ne'
  pointwise [rN]
  rw [← sum_coe]
  refine Finset.sum_congr rfl fun l _ => ?_
  rw [rG_at V W hV hW, rL_at Q K hQ hK, rE_at Q K hQ hK, ← EReal.coe_mul, ← EReal.coe_one, div_real _ (mul_ne_zero hL hL), ← EReal.coe_mul, ← EReal.coe_mul]

include hQ hK hV hW in
theorem rD_at (H : Fin 16) (B : Fin 2) (i j : Fin 2048) :
    rD Q K V W (ix4 H B i j) = ((ds (headed Q H B) (headed K H B) (headed V H B) (cols W H B) i j * sc : ℝ) : EReal) := by
  have hL := (shifted_pos (headed Q H B) (headed K H B) (top Q K H B i) i).ne'
  pointwise [rD]
  rw [sge_select _ _ i.isLt j.isLt, word_scale]
  by_cases h : j.val ≤ i.val
  · rw [if_pos h, Fin.sum_univ_one, rG_at V W hV hW, rL_at Q K hQ hK, rE_at Q K hQ hK, rN_at Q K V W hQ hK hV hW, div_real _ hL, ← EReal.coe_neg,
      ← EReal.coe_add, ← EReal.coe_mul, ds_quotient, ← EReal.coe_mul]
  · rw [if_neg h, ds_above _ _ _ _ h, zero_mul, EReal.coe_zero]

include hQ hK hV hW in
theorem rDQ_at (H : Fin 16) (B : Fin 2) (i : Fin 2048) (d : Fin 96) :
    rDQ Q K V W (ix4 H B i d) = ((gq (headed Q H B) (headed K H B) (headed V H B) (cols W H B) i d : ℝ) : EReal) := by
  pointwise [rDQ]
  unfold gq
  rw [Finset.sum_mul, ← sum_coe]
  refine Finset.sum_congr rfl fun j _ => ?_
  rw [rD_at Q K V W hQ hK hV hW, hK, ← EReal.coe_mul]
  exact congrArg _ (mul_right_comm _ _ _)

include hQ hK hV hW in
theorem rDK_at (H : Fin 16) (B : Fin 2) (j : Fin 2048) (d : Fin 96) :
    rDK Q K V W (ix4 H B j d) = ((gk (headed Q H B) (headed K H B) (headed V H B) (cols W H B) j d : ℝ) : EReal) := by
  pointwise [rDK]
  unfold gk
  rw [Finset.sum_mul, ← sum_coe]
  refine Finset.sum_congr rfl fun i _ => ?_
  rw [rD_at Q K V W hQ hK hV hW, hQ, ← EReal.coe_mul]
  exact congrArg _ (mul_right_comm _ _ _)

include hQ hK hW in
theorem rDV_at (H : Fin 16) (B : Fin 2) (j : Fin 2048) (d : Fin 64) :
    rDV Q K W (ix4 H B j d) = ((gv (headed Q H B) (headed K H B) (cols W H B) j d : ℝ) : EReal) := by
  pointwise [rDV]
  unfold gv
  rw [← sum_coe]
  refine Finset.sum_congr rfl fun i _ => ?_
  rw [rP_at Q K hQ hK, hW, ← EReal.coe_mul]
  exact congrArg _ (mul_comm _ _)

section Run
variable (m : (ℓ : Loc nD τ sig) → Buf (Elt Ideal) ℓ) (c : Dev nD)

theorem q_eq : Cert.ReferenceIdeal.Value.res_main_v71 m c = rDQ (m ((c.tc : Thread nD τ).loc main_arg0)) (m ((c.tc : Thread nD τ).loc main_arg1)) (m ((c.tc : Thread nD τ).loc main_arg2)) (m ((c.tc : Thread nD τ).loc main_arg3)) := rfl
theorem k_eq : Cert.ReferenceIdeal.Value.res_main_v70 m c = rDK (m ((c.tc : Thread nD τ).loc main_arg0)) (m ((c.tc : Thread nD τ).loc main_arg1)) (m ((c.tc : Thread nD τ).loc main_arg2)) (m ((c.tc : Thread nD τ).loc main_arg3)) := rfl
theorem v_eq : Cert.ReferenceIdeal.Value.res_main_v52 m c = rDV (m ((c.tc : Thread nD τ).loc main_arg0)) (m ((c.tc : Thread nD τ).loc main_arg1)) (m ((c.tc : Thread nD τ).loc main_arg3)) := rfl

end Run

end Cert.Proof.Reference
end
-- ==== Proof.HostKernelIdeal.lean ====
/- What the host lines before the gradient kernel hand to it: each row's log-sum-exp and the attention's output. -/
module

public import proofs.«01_k».proof.Proof.Reference
public import proofs.«01_k».proof.Proof.BodyKernelIdeal
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem
open Cert.Proof.Model Cert.Proof.Reference

/-- The logarithm of a positive real. -/
theorem log_real {x : ℝ} (h : 0 < x) : Ideal.log ((x : ℝ) : EReal) = ((Real.log x : ℝ) : EReal) := by
  rw [Ideal.log_coe, if_neg (not_le.mpr h)]

section Arrays

variable (Q K : FVec Ideal S16x2x2048x96 .bf16) (V' : FVec Ideal S16x2x2048x64 .bf16)

/-- The largest score of each row. -/
def hM : FVec Ideal S16x2x2048 .f32 :=
  Host.reduce FloatOps.maximumf (rS Q K) (constant S_ .f32 0xFF800000#32) reducesTo_S16x2x2048x2048_S16x2x2048_d3 h_S_

/-- The exponentials of the scores under their row maximum. -/
def hE : FVec Ideal S16x2x2048x2048 .f32 :=
  Host.exp (subf (rS Q K) (broadcastInDim S16x2x2048x2048 ![0, 1, 2, 3] bcast_S16x2x2048x1_S16x2x2048x2048_0_1_2_3 (broadcastInDim S16x2x2048x1 ![0, 1, 2] bcast_S16x2x2048_S16x2x2048x1_0_1_2 (hM Q K))))

/-- The sum of each row. -/
def hL : FVec Ideal S16x2x2048x1 .f32 :=
  broadcastInDim S16x2x2048x1 ![0, 1, 2] bcast_S16x2x2048_S16x2x2048x1_0_1_2 (Host.reduceAdd (hE Q K) (constant S_ .f32 0x00000000#32) reducesTo_S16x2x2048x2048_S16x2x2048_d3 h_S_)

/-- The log-sum-exp of each row. -/
def hLse : FVec Ideal S16x2x2048x1 .f32 :=
  addf (broadcastInDim S16x2x2048x1 ![0, 1, 2] bcast_S16x2x2048_S16x2x2048x1_0_1_2 (hM Q K)) (Host.log (hL Q K))

/-- The attention weights. -/
def hP : FVec Ideal S16x2x2048x2048 .f32 :=
  Host.divf (hE Q K) (broadcastInDim S16x2x2048x2048 ![0, 1, 2, 3] bcast_S16x2x2048x1_S16x2x2048x2048_0_1_2_3 (hL Q K))

/-- The attention's output, heads side by side. -/
def hO : FVec Ideal S2x2048x1024 .bf16 :=
  truncf .bf16 (shapeCast _ (transpose S2x2048x16x64 [0, 3, 1, 2] (Host.dotGeneral dot_S16x2x2048x64_S16x2x2048x2048_S2x16x64x2048_2_3_3_2_10_10 none (extf .f32 V' bitsLt_bf16_f32) (hP Q K)) transposes_S2x16x64x2048_S2x2048x16x64_0_3_1_2) shapeCasts_S2x2048x16x64_S2x2048x1024) bitsLt_bf16_f32

theorem hM_eq : hM Q K = rM Q K := by
  funext x
  unfold rM
  exact (larger_at _ _ x (show broadcastInDim S16x2x2048 ![] Cert.ReferenceIdeal.Gen.bcast_S_S16x2x2048 (constant (F := Ideal) S_ .f32 0xFF800000#32) x = (⊥ : EReal) from word_low)).symm

theorem hE_eq : hE Q K = rE Q K := by
  unfold hE; rw [hM_eq]; rfl

theorem hL_eq : hL Q K = rL Q K := by
  unfold hL; rw [hE_eq]; rfl

theorem hP_eq : hP Q K = rP Q K := by
  unfold hP; rw [hE_eq, hL_eq]; rfl

variable (hQ : ∀ x, Q x = (((Q x : EReal).toReal : ℝ) : EReal)) (hK : ∀ x, K x = (((K x : EReal).toReal : ℝ) : EReal))
variable (hV : ∀ x, V' x = (((V' x : EReal).toReal : ℝ) : EReal))

theorem log_sum_at (M : FVec Ideal S16x2x2048 .f32) (L : FVec Ideal S16x2x2048x1 .f32) (H : Fin 16) (B : Fin 2) (i : Fin 2048) :
    addf (broadcastInDim S16x2x2048x1 ![0, 1, 2] bcast_S16x2x2048_S16x2x2048x1_0_1_2 M) (Host.log L) (ix4 H B i (0 : Fin 1)) = (M (ix3 H B i) : EReal) + Ideal.log (L (ix4 H B i (0 : Fin 1))) := by
  pointwise

include hQ hK in
theorem hM_at (H : Fin 16) (B : Fin 2) (i : Fin 2048) : hM Q K (ix3 H B i) = ((top Q K H B i : ℝ) : EReal) := by
  rw [hM_eq]
  exact rM_at Q K hQ hK H B i

include hQ hK in
theorem hLse_at (H : Fin 16) (B : Fin 2) (i : Fin 2048) :
    hLse Q K (ix4 H B i (0 : Fin 1)) = ((top Q K H B i + Real.log (den (headed Q H B) (headed K H B) i * Real.exp (-top Q K H B i)) : ℝ) : EReal) := by
  have h := shifted_pos (headed Q H B) (headed K H B) (top Q K H B i) i
  have e1 := hM_at Q K hQ hK H B i
  have e2 : hL Q K (ix4 H B i (0 : Fin 1)) = ((den (headed Q H B) (headed K H B) i * Real.exp (-top Q K H B i) : ℝ) : EReal) := by rw [hL_eq]; exact rL_at Q K hQ hK H B i
  have e0 : hLse Q K (ix4 H B i (0 : Fin 1)) = (hM Q K (ix3 H B i) : EReal) + Ideal.log (hL Q K (ix4 H B i (0 : Fin 1))) := log_sum_at _ _ H B i
  rw [e0, e1, e2, log_real h, ← EReal.coe_add]

include hQ hK hV in
theorem hO_at (H : Fin 16) (B : Fin 2) (i : Fin 2048) (d : Fin 64) :
    hO Q K V' (ix3 B i (⟨H.val * 64 + d.val, by omega⟩ : Fin 1024)) = ((∑ j, headed V' H B j d * wt (headed Q H B) (headed K H B) i j : ℝ) : EReal) := by
  pointwise [hO]
  rw [← sum_coe]
  refine Finset.sum_congr rfl fun j _ => ?_
  rw [hP_eq, rP_at Q K hQ hK, hV, ← EReal.coe_mul]
  rfl

end Arrays

variable (m : (ℓ : Loc nD τ sig) → Buf (Elt Ideal) ℓ) (c : Dev nD)

theorem entry_lse : (V m c main_v21 : FVec Ideal S16x2x2048x1 .f32) = hLse (m ((c.tc : Thread nD τ).loc main_arg0)) (m ((c.tc : Thread nD τ).loc main_arg1)) := by
  unfold V
  simp only [hostOps0, hostOps0_1, hostOps0_2, List.flatten_cons, List.flatten_nil, List.append_nil, List.cons_append, List.nil_append]
  entry_read
  rfl

theorem entry_out : (V m c main_v28 : FVec Ideal S2x2048x1024 .bf16) = hO (m ((c.tc : Thread nD τ).loc main_arg0)) (m ((c.tc : Thread nD τ).loc main_arg1)) (m ((c.tc : Thread nD τ).loc main_arg2)) := by
  unfold V
  simp only [hostOps0, hostOps0_1, hostOps0_2, List.flatten_cons, List.flatten_nil, List.append_nil, List.cons_append, List.nil_append]
  entry_read
  rfl

end Cert.Proof.KernelIdeal
end
-- ==== Proof.ArraysKernelIdeal.lean ====
/- What the gradient kernel stores for one pair of heads, and the arrays its blocks are read from. -/
module

public import proofs.«01_k».proof.Proof.BodyKernelIdeal
public import proofs.«01_k».proof.Proof.HostKernelIdeal
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem
open Idealize.ShloMosaic.Pipeline (Dat)

open Cert.Proof.Model

/-- The two named constants over the reals. -/
theorem named_log2e : (Named.named (F := Ideal) (φ := .f32) κ "log2e" 0x3FB8AA3B#32 : EReal) = (((Real.log 2)⁻¹ : ℝ) : EReal) := rfl

theorem named_scale : (Named.named (F := Ideal) (φ := .f32) κ "scale_log2e" 0x3E16C740#32 : EReal) = ((sc * (Real.log 2)⁻¹ : ℝ) : EReal) := rfl

section Pair

/- One pair of heads: its blocks hold the reals `q k v w`, the outputs of attention and each row's log-sum-exp. -/
variable (x2 x3 : S2x1x2048x96.Idx → EReal) (x4 : S2x1x2048x64.Idx → EReal) (x5 x6 : S1x2048x128.Idx → EReal) (x7 : S2x1x2048x1.Idx → EReal)
variable (q k : Fin 2 → Fin 2048 → Fin 96 → ℝ) (v w : Fin 2 → Fin 2048 → Fin 64 → ℝ) (a : Fin 2 → Fin 2048 → ℝ)
variable (e2 : ∀ (h : Fin 2) (i : Fin 2048) (d : Fin 96), x2 (ix4 h (0 : Fin 1) i d) = ((q h i d : ℝ) : EReal))
variable (e3 : ∀ (h : Fin 2) (i : Fin 2048) (d : Fin 96), x3 (ix4 h (0 : Fin 1) i d) = ((k h i d : ℝ) : EReal))
variable (e4 : ∀ (h : Fin 2) (i : Fin 2048) (d : Fin 64), x4 (ix4 h (0 : Fin 1) i d) = ((v h i d : ℝ) : EReal))
variable (e5 : ∀ (h : Fin 2) (i : Fin 2048) (d : Fin 64), x5 (ix3 (0 : Fin 1) i (wc h d)) = ((∑ j, v h j d * wt (q h) (k h) i j : ℝ) : EReal))
variable (e6 : ∀ (h : Fin 2) (i : Fin 2048) (d : Fin 64), x6 (ix3 (0 : Fin 1) i (wc h d)) = ((w h i d : ℝ) : EReal))
variable (e7 : ∀ (h : Fin 2) (i : Fin 2048), x7 (ix4 h (0 : Fin 1) i (0 : Fin 1)) = ((a h i + Real.log (den (q h) (k h) i * Real.exp (-a h i)) : ℝ) : EReal))

include e2 e3 e7 in
theorem pm_real (h : Fin 2) (i j : Fin 2048) : pm x2 x3 (LO x7) h i j = ((wt (q h) (k h) i j : ℝ) : EReal) := by
  unfold pm
  by_cases hj : j.val ≤ i.val
  · rw [if_pos hj]
    have er : (∑ d : Fin 96, x2 (ix4 h (0 : Fin 1) i d) * x3 (ix4 h (0 : Fin 1) j d)) = ((raw (q h) (k h) i j : ℝ) : EReal) := by
      unfold raw; rw [← sum_coe]
      exact Finset.sum_congr rfl fun d _ => by rw [e2, e3, EReal.coe_mul]
    have el : LO x7 (ix3 h i (0 : Fin 1)) = (((a h i + Real.log (den (q h) (k h) i * Real.exp (-a h i))) * (Real.log 2)⁻¹ : ℝ) : EReal) := by
      rw [EReal.coe_mul, ← e7, ← named_log2e]; rfl
    unfold prob
    rw [er, el, named_scale, ← EReal.coe_mul, ← EReal.coe_sub, ← wt_log (q h) (k h) hj (a h i)]
    exact Ideal.exp2_coe _
  · rw [if_neg hj, wt_above _ _ hj, EReal.coe_zero]

include e5 e6 in
theorem do_real (h : Fin 2) (i : Fin 2048) : DO x5 x6 (ix3 h i (0 : Fin 1)) = ((∑ l, gw (v h) (w h) i l * wt (q h) (k h) i l : ℝ) : EReal) := by
  rw [← out_dot, ← sum_coe]
  show (∑ d : Fin 64, x5 (ix3 (0 : Fin 1) i (wc h d)) * x6 (ix3 (0 : Fin 1) i (wc h d))) = _
  exact Finset.sum_congr rfl fun d _ => by rw [e5, e6, ← EReal.coe_mul]

include e2 e3 e4 e5 e6 e7 in
theorem gs_real (h : Fin 2) (i j : Fin 2048) :
    gs x2 x3 x4 x6 (DO x5 x6) (LO x7) h i j = ((ds (q h) (k h) (v h) (w h) i j : ℝ) : EReal) := by
  have eg : (∑ d : Fin 64, x6 (ix3 (0 : Fin 1) i (wc h d)) * x4 (ix4 h (0 : Fin 1) j d)) = ((gw (v h) (w h) i j : ℝ) : EReal) := by
    unfold gw; rw [← sum_coe]
    exact Finset.sum_congr rfl fun d _ => by rw [e4, e6, EReal.coe_mul]
  unfold gs
  rw [pm_real x2 x3 x7 q k a e2 e3 e7, do_real x5 x6 q k v w e5 e6, eg, ← EReal.coe_sub, ← EReal.coe_mul]
  rfl

include e2 e3 e4 e5 e6 e7 in
theorem qg_real (h : Fin 2) (i : Fin 2048) (d : Fin 96) :
    QG x2 x3 x4 x6 (DO x5 x6) (LO x7) (ix4 h (0 : Fin 1) i d) = ((gq (q h) (k h) (v h) (w h) i d : ℝ) : EReal) := by
  show (∑ j : Fin 2048, gs x2 x3 x4 x6 (DO x5 x6) (LO x7) h i j * x3 (ix4 h (0 : Fin 1) j d)) * Ideal.ofBits .f32 0x3DD105EC#32 = _
  unfold gq
  rw [word_scale, EReal.coe_mul, ← sum_coe]
  refine congrArg (· * _) (Finset.sum_congr rfl fun j _ => ?_)
  rw [gs_real x2 x3 x4 x5 x6 x7 q k v w a e2 e3 e4 e5 e6 e7, EReal.coe_mul, e3]

include e2 e3 e4 e5 e6 e7 in
theorem kg_real (h : Fin 2) (i : Fin 2048) (d : Fin 96) :
    KG x2 x3 x4 x6 (DO x5 x6) (LO x7) (ix4 h (0 : Fin 1) i d) = ((gk (q h) (k h) (v h) (w h) i d : ℝ) : EReal) := by
  show (∑ j : Fin 2048, gs x2 x3 x4 x6 (DO x5 x6) (LO x7) h j i * x2 (ix4 h (0 : Fin 1) j d)) * Ideal.ofBits .f32 0x3DD105EC#32 = _
  unfold gk
  rw [word_scale, EReal.coe_mul, ← sum_coe]
  refine congrArg (· * _) (Finset.sum_congr rfl fun i _ => ?_)
  rw [gs_real x2 x3 x4 x5 x6 x7 q k v w a e2 e3 e4 e5 e6 e7, EReal.coe_mul, e2]

include e2 e3 e6 e7 in
theorem vg_real (h : Fin 2) (i : Fin 2048) (d : Fin 64) :
    VG x2 x3 x6 (LO x7) (ix4 h (0 : Fin 1) i d) = ((gv (q h) (k h) (w h) i d : ℝ) : EReal) := by
  show (∑ j : Fin 2048, pm x2 x3 (LO x7) h j i * x6 (ix3 (0 : Fin 1) j (wc h d))) = _
  unfold gv
  rw [← sum_coe]
  refine Finset.sum_congr rfl fun i _ => ?_
  rw [pm_real x2 x3 x7 q k a e2 e3 e7, EReal.coe_mul, e6]

end Pair

section Arrays

variable (m : (ℓ : Loc nD τ sig) → Buf (Elt Ideal) ℓ) (c : Dev nD)

/-- Where each window's block lies. -/
theorem idx : ∀ t : Fin cfg0.N, win0_0.index t = ![(grid0.coords t 1).val, (grid0.coords t 0).val, 0, 0] ∧ win0_1.index t = ![(grid0.coords t 1).val, (grid0.coords t 0).val, 0, 0] ∧ win0_2.index t = ![(grid0.coords t 1).val, (grid0.coords t 0).val, 0, 0]
    ∧ win0_3.index t = ![(grid0.coords t 0).val, 0, (grid0.coords t 1).val] ∧ win0_4.index t = ![(grid0.coords t 0).val, 0, (grid0.coords t 1).val] ∧ win0_5.index t = ![(grid0.coords t 1).val, (grid0.coords t 0).val, 0, 0]
    ∧ win0_6.index t = ![(grid0.coords t 1).val, (grid0.coords t 0).val, 0, 0] ∧ win0_7.index t = ![(grid0.coords t 1).val, (grid0.coords t 0).val, 0, 0] ∧ win0_8.index t = ![(grid0.coords t 1).val, (grid0.coords t 0).val, 0, 0] :=
  (by decide +kernel : ∀ t : Fin grid0.N, _)

/-- The array a window reads. -/
abbrev aQ : S16x2x2048x96.Idx → EReal := m ((c.tc : Thread nD τ).loc main_arg0)
abbrev aK : S16x2x2048x96.Idx → EReal := m ((c.tc : Thread nD τ).loc main_arg1)
abbrev aV : S16x2x2048x64.Idx → EReal := m ((c.tc : Thread nD τ).loc main_arg2)
abbrev aW : S2x2048x1024.Idx → EReal := m ((c.tc : Thread nD τ).loc main_arg3)

/-- Head `h` of the pair at a grid point. -/
def hp (t : Fin cfg0.N) (h : Fin 2) : Fin 16 := ⟨(grid0.coords t 1).val * 2 + h.val, by have : (grid0.coords t 1).val < 8 := (grid0.coords t 1).isLt; omega⟩
def bp (t : Fin cfg0.N) : Fin 2 := ⟨(grid0.coords t 0).val, (grid0.coords t 0).isLt⟩

theorem r0 (t : Fin cfg0.N) (h : Fin 2) (i : Fin 2048) (d : Fin 96) : iblk m c 0 t (ix4 h (0 : Fin 1) i d) = aQ m c (ix4 (hp t h) (bp t) i d) := by
  unfold hp bp aQ; blk_ext [iblk, V, idx t]
theorem r1 (t : Fin cfg0.N) (h : Fin 2) (i : Fin 2048) (d : Fin 96) : iblk m c 1 t (ix4 h (0 : Fin 1) i d) = aK m c (ix4 (hp t h) (bp t) i d) := by
  unfold hp bp aK; blk_ext [iblk, V, idx t]
theorem r2 (t : Fin cfg0.N) (h : Fin 2) (i : Fin 2048) (d : Fin 64) : iblk m c 2 t (ix4 h (0 : Fin 1) i d) = aV m c (ix4 (hp t h) (bp t) i d) := by
  unfold hp bp aV; blk_ext [iblk, V, idx t]
theorem r4 (t : Fin cfg0.N) (h : Fin 2) (i : Fin 2048) (d : Fin 64) : iblk m c 4 t (ix3 (0 : Fin 1) i (wc h d)) = aW m c (ix3 (bp t) i ⟨(hp t h).val * 64 + d.val, by omega⟩) := by
  unfold wc hp bp aW; blk_ext [iblk, V, idx t]
theorem r3 (t : Fin cfg0.N) (h : Fin 2) (i : Fin 2048) (d : Fin 64) : iblk m c 3 t (ix3 (0 : Fin 1) i (wc h d)) = (V m c main_v28 : S2x2048x1024.Idx → EReal) (ix3 (bp t) i ⟨(hp t h).val * 64 + d.val, by omega⟩) := by
  unfold wc hp bp; blk_ext [iblk, idx t]
theorem read5 (A : Buf (Elt Ideal) ((c.tc : Thread nD τ).loc main_v21)) (t : Fin cfg0.N) (h : Fin 2) (i : Fin 2048) :
    ((cfg0.win 5).blk t).view.read (Elt Ideal) A (ix4 h (0 : Fin 1) i (0 : Fin 1)) = (A : S16x2x2048x1.Idx → EReal) (ix4 (hp t h) (bp t) i (0 : Fin 1)) := by
  unfold hp bp; blk_ext [idx t]
theorem r5 (t : Fin cfg0.N) (h : Fin 2) (i : Fin 2048) : iblk m c 5 t (ix4 h (0 : Fin 1) i (0 : Fin 1)) = (V m c main_v21 : S16x2x2048x1.Idx → EReal) (ix4 (hp t h) (bp t) i (0 : Fin 1)) :=
  read5 c (V m c main_v21) t h i

end Arrays

end Cert.Proof.KernelIdeal
end
-- ==== Proof.EndsKernelIdeal.lean ====
/- The arrays the gradient kernel leaves are the reference's gradients. -/
module

public import proofs.«01_k».proof.Proof.ArraysKernelIdeal
public import proofs.«01_k».proof.Proof.FrameKernelIdeal
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem
open Idealize.ShloMosaic.Pipeline (Dat)
open Cert.Proof.Model

section Ends

variable (m : (ℓ : Loc nD τ sig) → Buf (Elt Ideal) ℓ) (c : Dev nD)
variable (hQ : ∀ x, aQ m c x = (((aQ m c x).toReal : ℝ) : EReal)) (hK : ∀ x, aK m c x = (((aK m c x).toReal : ℝ) : EReal))
variable (hV : ∀ x, aV m c x = (((aV m c x).toReal : ℝ) : EReal)) (hW : ∀ x, aW m c x = (((aW m c x).toReal : ℝ) : EReal))

include hQ in
theorem b0 (t : Fin cfg0.N) (h : Fin 2) (i : Fin 2048) (d : Fin 96) : iblk m c 0 t (ix4 h (0 : Fin 1) i d) = ((headed (aQ m c) (hp t h) (bp t) i d : ℝ) : EReal) :=
  (r0 m c t h i d).trans (hQ _)
include hK in
theorem b1 (t : Fin cfg0.N) (h : Fin 2) (i : Fin 2048) (d : Fin 96) : iblk m c 1 t (ix4 h (0 : Fin 1) i d) = ((headed (aK m c) (hp t h) (bp t) i d : ℝ) : EReal) :=
  (r1 m c t h i d).trans (hK _)
include hV in
theorem b2 (t : Fin cfg0.N) (h : Fin 2) (i : Fin 2048) (d : Fin 64) : iblk m c 2 t (ix4 h (0 : Fin 1) i d) = ((headed (aV m c) (hp t h) (bp t) i d : ℝ) : EReal) :=
  (r2 m c t h i d).trans (hV _)
include hW in
theorem b4 (t : Fin cfg0.N) (h : Fin 2) (i : Fin 2048) (d : Fin 64) : iblk m c 4 t (ix3 (0 : Fin 1) i (wc h d)) = ((cols (aW m c) (hp t h) (bp t) i d : ℝ) : EReal) :=
  (r4 m c t h i d).trans (hW _)
include hQ hK hV in
theorem b3 (t : Fin cfg0.N) (h : Fin 2) (i : Fin 2048) (d : Fin 64) : iblk m c 3 t (ix3 (0 : Fin 1) i (wc h d)) = ((∑ j, headed (aV m c) (hp t h) (bp t) j d * wt (headed (aQ m c) (hp t h) (bp t)) (headed (aK m c) (hp t h) (bp t)) i j : ℝ) : EReal) :=
  ((r3 m c t h i d).trans (congrFun (entry_out m c) _)).trans (hO_at _ _ _ hQ hK hV (hp t h) (bp t) i d)
include hQ hK in
theorem b5 (t : Fin cfg0.N) (h : Fin 2) (i : Fin 2048) : iblk m c 5 t (ix4 h (0 : Fin 1) i (0 : Fin 1)) = ((Cert.Proof.Reference.top (aQ m c) (aK m c) (hp t h) (bp t) i + Real.log (den (headed (aQ m c) (hp t h) (bp t)) (headed (aK m c) (hp t h) (bp t)) i * Real.exp (-Cert.Proof.Reference.top (aQ m c) (aK m c) (hp t h) (bp t) i)) : ℝ) : EReal) :=
  ((r5 m c t h i).trans (congrFun (entry_lse m c) _)).trans (hLse_at _ _ hQ hK (hp t h) (bp t) i)

include hQ hK hV hW in
theorem point6 (t : Fin cfg0.N) (h : Fin 2) (i : Fin 2048) (d : Fin 96) :
    (dats m 0 c).after 6 t (ix4 h (0 : Fin 1) i d) = Cert.Proof.Reference.rDQ (aQ m c) (aK m c) (aV m c) (aW m c) (ix4 (hp t h) (bp t) i d) := by
  rw [after6, left8_eq, Cert.Proof.Reference.rDQ_at _ _ _ _ hQ hK hV hW]
  exact qg_real _ _ _ _ _ _ (fun h => headed (aQ m c) (hp t h) (bp t)) (fun h => headed (aK m c) (hp t h) (bp t)) (fun h => headed (aV m c) (hp t h) (bp t)) (fun h => cols (aW m c) (hp t h) (bp t)) (fun h => Cert.Proof.Reference.top (aQ m c) (aK m c) (hp t h) (bp t))
    (b0 m c hQ t) (b1 m c hK t) (b2 m c hV t) (b3 m c hQ hK hV t) (b4 m c hW t) (b5 m c hQ hK t) h i d

include hQ hK hV hW in
theorem point7 (t : Fin cfg0.N) (h : Fin 2) (i : Fin 2048) (d : Fin 96) :
    (dats m 0 c).after 7 t (ix4 h (0 : Fin 1) i d) = Cert.Proof.Reference.rDK (aQ m c) (aK m c) (aV m c) (aW m c) (ix4 (hp t h) (bp t) i d) := by
  rw [after7, left9_eq, Cert.Proof.Reference.rDK_at _ _ _ _ hQ hK hV hW]
  exact kg_real _ _ _ _ _ _ (fun h => headed (aQ m c) (hp t h) (bp t)) (fun h => headed (aK m c) (hp t h) (bp t)) (fun h => headed (aV m c) (hp t h) (bp t)) (fun h => cols (aW m c) (hp t h) (bp t)) (fun h => Cert.Proof.Reference.top (aQ m c) (aK m c) (hp t h) (bp t))
    (b0 m c hQ t) (b1 m c hK t) (b2 m c hV t) (b3 m c hQ hK hV t) (b4 m c hW t) (b5 m c hQ hK t) h i d

include hQ hK hW in
theorem point8 (t : Fin cfg0.N) (h : Fin 2) (i : Fin 2048) (d : Fin 64) :
    (dats m 0 c).after 8 t (ix4 h (0 : Fin 1) i d) = Cert.Proof.Reference.rDV (aQ m c) (aK m c) (aW m c) (ix4 (hp t h) (bp t) i d) := by
  rw [after8, left10_eq, Cert.Proof.Reference.rDV_at _ _ _ hQ hK hW]
  exact vg_real _ _ _ _ (fun h => headed (aQ m c) (hp t h) (bp t)) (fun h => headed (aK m c) (hp t h) (bp t)) (fun h => cols (aW m c) (hp t h) (bp t)) (fun h => Cert.Proof.Reference.top (aQ m c) (aK m c) (hp t h) (bp t))
    (b0 m c hQ t) (b1 m c hK t) (b4 m c hW t) (b5 m c hQ hK t) h i d

include hQ hK hV hW in
theorem end6 : (dats m 0 c).arrAt 6 cfg0.N = Cert.Proof.Reference.rDQ (aQ m c) (aK m c) (aV m c) (aW m c) := by
  refine (dats m 0 c).arrAt_eq_of_covers 6 _ (by decide +kernel) fun t _ y => ?_
  obtain ⟨h, i, d, rfl⟩ : ∃ (h : Fin 2) (i : Fin 2048) (d : Fin 96), y = ix4 h (0 : Fin 1) i d :=
    ⟨y 0, y 2, y 3, by refine (eq_ix4 y).trans ?_; congr 1; exact Subsingleton.elim (α := Fin 1) _ _⟩
  have p := point6 m c hQ hK hV hW t h i d
  generalize Cert.Proof.Reference.rDQ (aQ m c) (aK m c) (aV m c) (aW m c) = G at *
  blk_simp
  refine p.trans ?_
  unfold hp bp
  blk_ext [idx t]

include hQ hK hV hW in
theorem end7 : (dats m 0 c).arrAt 7 cfg0.N = Cert.Proof.Reference.rDK (aQ m c) (aK m c) (aV m c) (aW m c) := by
  refine (dats m 0 c).arrAt_eq_of_covers 7 _ (by decide +kernel) fun t _ y => ?_
  obtain ⟨h, i, d, rfl⟩ : ∃ (h : Fin 2) (i : Fin 2048) (d : Fin 96), y = ix4 h (0 : Fin 1) i d :=
    ⟨y 0, y 2, y 3, by refine (eq_ix4 y).trans ?_; congr 1; exact Subsingleton.elim (α := Fin 1) _ _⟩
  have p := point7 m c hQ hK hV hW t h i d
  generalize Cert.Proof.Reference.rDK (aQ m c) (aK m c) (aV m c) (aW m c) = G at *
  blk_simp
  refine p.trans ?_
  unfold hp bp
  blk_ext [idx t]

include hQ hK hW in
theorem end8 : (dats m 0 c).arrAt 8 cfg0.N = Cert.Proof.Reference.rDV (aQ m c) (aK m c) (aW m c) := by
  refine (dats m 0 c).arrAt_eq_of_covers 8 _ (by decide +kernel) fun t _ y => ?_
  obtain ⟨h, i, d, rfl⟩ : ∃ (h : Fin 2) (i : Fin 2048) (d : Fin 64), y = ix4 h (0 : Fin 1) i d :=
    ⟨y 0, y 2, y 3, by refine (eq_ix4 y).trans ?_; congr 1; exact Subsingleton.elim (α := Fin 1) _ _⟩
  have p := point8 m c hQ hK hW t h i d
  generalize Cert.Proof.Reference.rDV (aQ m c) (aK m c) (aW m c) = G at *
  blk_simp
  refine p.trans ?_
  unfold hp bp
  blk_ext [idx t]

end Ends

/-- The launch's account of the arrays and that of the arguments, of one run. -/
theorem both (m : (ℓ : Loc nD τ sig) → Buf (Elt Ideal) ℓ) (ρ : Dev nD → PrngReg) :
    θ_run defs (onTc (τ := τ) (main (F := Ideal))) ⟨m, fun _ => 0, ρ⟩ (fun r => (Pipeline.FramePost cfgs (dats m) 0 (V m) r ∧ r.2.sem = fun _ => 0)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  θ_run_and (launch m ρ) (framed m ρ)

end Cert.Proof.KernelIdeal
end
-- ==== Proof.FfnRun.lean ====
/- The run of the feed-forward program: what each returned array holds at the end. -/
module

public import proofs.«01_k».proof.Proof.Gen.FfnIdeal.Frame
public import Idealize.ShloMosaic.Lib.Ring
public import Idealize.ShloMosaic.Lib.Tactic
public import Idealize.ShloMosaic.Lib.Pointwise

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic Idealize.SL.Sem
open Idealize.ShloMosaic.Pipeline (Dat)
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the four results at the last segment's contents and the arguments as launched. -/
theorem ran : θ_run defs (onTc (τ := τ) (main (F := Ideal))) ⟨m, fun _ => 0, ρ⟩ (fun r => ∀ c : Dev nD,
      r.2.mem ((c.tc : Thread nD τ).loc main_v5) = W11 m ρ c (Proc.devRef .tc main_v5)
      ∧ r.2.mem ((c.tc : Thread nD τ).loc main_v12) = W11 m ρ c (Proc.devRef .tc main_v12)
      ∧ r.2.mem ((c.tc : Thread nD τ).loc main_v14) = W11 m ρ c (Proc.devRef .tc main_v14)
      ∧ r.2.mem ((c.tc : Thread nD τ).loc main_v9) = W11 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨h c _ (mem_uc main_v5 (by decide)), h c _ (mem_uc main_v12 (by decide)),
       h c _ (mem_uc main_v14 (by decide)), h c _ (mem_uc main_v9 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.Proof.FfnIdeal
-- ==== Proof.FfnModel.lean ====
/- The gated feed-forward layer and its gradients, entry by entry over the extended reals. -/
module

public import proofs.«01_k».proof.FfnIdeal
public import Idealize.ShloMosaic.Lib.Pointwise

@[expose] public section

noncomputable section

namespace Cert.Proof.FfnModel

open Cert.FfnIdeal
open Idealize.ShloMosaic

/-- A gate column of the concatenated weight. -/
def lo (f : Fin 2816) : Fin 5632 := ⟨f.val, by omega⟩

/-- The up column that belongs to a gate column. -/
def hi (f : Fin 2816) : Fin 5632 := ⟨f.val + 2816, by omega⟩

/-- The weight slab that holds a concatenated column. -/
def slab (j : Fin 5632) : Fin 4 := ⟨j.val / 1408, by omega⟩

/-- The place of a concatenated column in its slab. -/
def place (j : Fin 5632) : Fin 1408 := ⟨j.val % 1408, by omega⟩

/-- The first projection: token `t`, concatenated column `j`. -/
def pre (H : FVec Ideal S4096x1024 .bf16) (W : FVec Ideal S4x1024x1408 .bf16) (t : Fin 4096) (j : Fin 5632) : EReal :=
  ∑ d : Fin 1024, (H (ix2 t d) : EReal) * W (ix3 (slab j) d (place j))

/-- The gated value of a gate and an up entry. -/
def act (g u : EReal) : EReal := g * Ideal.logistic g * u

/-- The gradient of the gate. -/
def dgate (g u d : EReal) : EReal :=
  d * u * Ideal.logistic g + g * (d * u) * (Ideal.logistic g * (1 - Ideal.logistic g))

/-- The gradient of the up entry. -/
def dup (g d : EReal) : EReal := g * Ideal.logistic g * d

/-- The gradient in concatenated column `n`: gates first. -/
def cell (n : ℕ) (g u d : EReal) : EReal := if n < 2816 then dgate g u d else dup g d

theorem cell_congr {n n' : ℕ} {g g' u u' d d' : EReal} (hn : n = n') (hg : g = g') (hu : u = u') (hd : d = d') :
    cell n g u d = cell n' g' u' d' := by rw [hn, hg, hu, hd]

theorem cell_gate {n : ℕ} (h : n < 2816) (g u d : EReal) : cell n g u d = dgate g u d := if_pos h

theorem cell_up {n : ℕ} (h : 2816 ≤ n) (g u d : EReal) : cell n g u d = dup g d := if_neg (by omega)

end Cert.Proof.FfnModel
-- ==== Proof.FfnIn.lean ====
/- What the first call of the feed-forward leaves: the gated value and the two projections. -/
module

public import proofs.«01_k».proof.Proof.Gen.FfnIdeal.Frame
public import proofs.«01_k».proof.Proof.FfnModel
public import Idealize.ShloMosaic.Lib.Pipeline.ValueKit
public import Idealize.ShloMosaic.Lib.Pointwise

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic Idealize.SL.Sem
open Idealize.ShloMosaic.Pipeline (Dat)
open Cert.Proof.FfnModel

variable (V : (c : Dev nD) → (b : Ref sig .tc) → Buf (Elt Ideal) ((c : Thread nD τ).loc b))

theorem idx0 : ∀ t : Fin cfg0.N, win0_0.index t = ![(grid0.coords t 1).val, 0] ∧ win0_1.index t = ![(grid0.coords t 0).val, 0, 0]
    ∧ win0_2.index t = ![2 + (grid0.coords t 0).val, 0, 0] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- The gate projection as an array. -/
def gateArr (H : FVec Ideal S4096x1024 .bf16) (W : FVec Ideal S4x1024x1408 .bf16) : FVec Ideal S4096x2816 .bf16 :=
  fun i => pre H W (i 0) (lo (i 1))

/-- The up projection as an array. -/
def upArr (H : FVec Ideal S4096x1024 .bf16) (W : FVec Ideal S4x1024x1408 .bf16) : FVec Ideal S4096x2816 .bf16 :=
  fun i => pre H W (i 0) (hi (i 1))

/-- The gated value as an array. -/
def actArr (H : FVec Ideal S4096x1024 .bf16) (W : FVec Ideal S4x1024x1408 .bf16) : FVec Ideal S4096x2816 .bf16 :=
  fun i => act (gateArr H W i) (upArr H W i)

theorem gate_point (c : Dev nD) (t : Fin cfg0.N) (y : S512x1408.Idx) : k0_pay1 (iblk0 V c 0 t) (iblk0 V c 1 t) y
    = gateArr (V c main_arg0) (V c main_arg1) (((cfg0.win 4).blk t).view.emb y) := by
  obtain ⟨y0, y1, rfl⟩ : ∃ (y0 : Fin 512) (y1 : Fin 1408), y = ix2 y0 y1 := ⟨y 0, y 1, eq_ix2 y⟩
  pointwise [k0_pay1, gateArr, pre]
  blk_point [iblk0, idx0 t, slab, place, lo]

theorem up_point (c : Dev nD) (t : Fin cfg0.N) (y : S512x1408.Idx) : k0_pay2 (iblk0 V c 0 t) (iblk0 V c 2 t) y
    = upArr (V c main_arg0) (V c main_arg1) (((cfg0.win 5).blk t).view.emb y) := by
  obtain ⟨y0, y1, rfl⟩ : ∃ (y0 : Fin 512) (y1 : Fin 1408), y = ix2 y0 y1 := ⟨y 0, y 1, eq_ix2 y⟩
  pointwise [k0_pay2, upArr, pre]
  blk_point [iblk0, idx0 t, slab, place, hi]

/-- The second result of the call: the gate projection. -/
theorem gate_final (c : Dev nD) : (dat0 V c).arrAt 4 cfg0.N = gateArr (V c main_arg0) (V c main_arg1) := by
  refine (dat0 V c).arrAt_eq_of_covers 4 _ (by decide +kernel) fun t _ y => ?_
  blk_simp
  rw [after0_4]; frame_out
  exact gate_point V c t y

/-- The third result of the call: the up projection. -/
theorem up_final (c : Dev nD) : (dat0 V c).arrAt 5 cfg0.N = upArr (V c main_arg0) (V c main_arg1) := by
  refine (dat0 V c).arrAt_eq_of_covers 5 _ (by decide +kernel) fun t _ y => ?_
  blk_simp
  rw [after0_5]; frame_out
  exact up_point V c t y

theorem act_point (c : Dev nD) (t : Fin cfg0.N) (y : S512x1408.Idx) : k0_pay3 (iblk0 V c 0 t) (iblk0 V c 1 t) (iblk0 V c 2 t) y
    = actArr (V c main_arg0) (V c main_arg1) (((cfg0.win 3).blk t).view.emb y) := by
  have e1 := gate_point V c t y
  have e2 := up_point V c t y
  exact congrArg₂ act e1 e2

/-- The first result of the call: the gated value. -/
theorem act_final (c : Dev nD) : (dat0 V c).arrAt 3 cfg0.N = actArr (V c main_arg0) (V c main_arg1) := by
  refine (dat0 V c).arrAt_eq_of_covers 3 _ (by decide +kernel) fun t _ y => ?_
  blk_simp
  rw [after0_3]; frame_out
  exact act_point V c t y

end Cert.Proof.FfnIdeal
-- ==== Proof.FfnProducts.lean ====
/- What the plain products of the feed-forward leave. -/
module

public import proofs.«01_k».proof.Proof.Gen.FfnIdeal.Frame
public import proofs.«01_k».proof.Proof.FfnModel
public import Idealize.ShloMosaic.Lib.Pipeline.ValueKit
public import Idealize.ShloMosaic.Lib.Pointwise

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic Idealize.SL.Sem
open Idealize.ShloMosaic.Pipeline (Dat)
open Cert.Proof.FfnModel

variable (V : (c : Dev nD) → (b : Ref sig .tc) → Buf (Elt Ideal) ((c : Thread nD τ).loc b))

theorem idx1 : ∀ t : Fin cfg1.N, win1_0.index t = ![(grid1.coords t 1).val, 0] ∧ win1_1.index t = ![0, 0, 0]
    ∧ win1_2.index t = ![(grid1.coords t 1).val, 0] :=
  (by decide +kernel : ∀ t : Fin grid1.N, _)

theorem idx2 : ∀ t : Fin cfg2.N, win2_0.index t = ![(grid2.coords t 0).val, 0] ∧ win2_1.index t = ![0, 0, 0]
    ∧ win2_2.index t = ![(grid2.coords t 0).val, 0] :=
  (by decide +kernel : ∀ t : Fin grid2.N, _)

theorem idx3 : ∀ t : Fin cfg3.N, win3_0.index t = ![0, (grid3.coords t 1).val] ∧ win3_1.index t = ![0, 0]
    ∧ win3_2.index t = ![0, (grid3.coords t 1).val, 0] :=
  (by decide +kernel : ∀ t : Fin grid3.N, _)

theorem idx6 : ∀ t : Fin cfg6.N, win6_0.index t = ![0, (grid6.coords t 1).val] ∧ win6_1.index t = ![0, (grid6.coords t 0).val]
    ∧ win6_2.index t = ![(grid6.coords t 0).val, (grid6.coords t 1).val, 0] :=
  (by decide +kernel : ∀ t : Fin grid6.N, _)

/-- The second projection. -/
def downArr (A : FVec Ideal S4096x2816 .bf16) (O : FVec Ideal S1x2816x1024 .bf16) : FVec Ideal S4096x1024 .f32 :=
  fun i => ∑ f : Fin 2816, (A (ix2 (i 0) f) : EReal) * O (ix3 (0 : Fin 1) f (i 1))

/-- The gradient of the gated value. -/
def backArr (C : FVec Ideal S4096x1024 .bf16) (O : FVec Ideal S1x2816x1024 .bf16) : FVec Ideal S4096x2816 .f32 :=
  fun i => ∑ d : Fin 1024, (C (ix2 (i 0) d) : EReal) * O (ix3 (0 : Fin 1) (i 1) d)

/-- The gradient of the second weight. -/
def outGrad (A : FVec Ideal S4096x2816 .bf16) (C : FVec Ideal S4096x1024 .bf16) : FVec Ideal S1x2816x1024 .bf16 :=
  fun i => ∑ t : Fin 4096, (A (ix2 t (i 1)) : EReal) * C (ix2 t (i 2))

/-- The concatenated column of a slab's place. -/
def col (s : Fin 4) (n : Fin 1408) : Fin 5632 := ⟨s.val * 1408 + n.val, by omega⟩

/-- The gradient of the first weight. -/
def inGrad (H : FVec Ideal S4096x1024 .bf16) (D : FVec Ideal S4096x5632 .bf16) : FVec Ideal S4x1024x1408 .bf16 :=
  fun i => ∑ t : Fin 4096, (H (ix2 t (i 1)) : EReal) * D (ix2 t (col (i 0) (i 2)))

theorem down_point (c : Dev nD) (t : Fin cfg1.N) (y : S512x1024.Idx) : k1_pay1 (iblk1 V c 0 t) (iblk1 V c 1 t) y
    = downArr (V c main_v4) (V c main_arg2) (((cfg1.win 2).blk t).view.emb y) := by
  obtain ⟨y0, y1, rfl⟩ : ∃ (y0 : Fin 512) (y1 : Fin 1024), y = ix2 y0 y1 := ⟨y 0, y 1, eq_ix2 y⟩
  pointwise [k1_pay1, downArr]
  blk_point [iblk1, idx1 t]

theorem down_final (c : Dev nD) : (dat1 V c).arrAt 2 cfg1.N = downArr (V c main_v4) (V c main_arg2) := by
  refine (dat1 V c).arrAt_eq_of_covers 2 _ (by decide +kernel) fun t _ y => ?_
  blk_simp
  rw [after1_2]; frame_out
  exact down_point V c t y

theorem back_point (c : Dev nD) (t : Fin cfg2.N) (y : S512x2816.Idx) : k2_pay1 (iblk2 V c 0 t) (iblk2 V c 1 t) y
    = backArr (V c main_arg3) (V c main_arg2) (((cfg2.win 2).blk t).view.emb y) := by
  obtain ⟨y0, y1, rfl⟩ : ∃ (y0 : Fin 512) (y1 : Fin 2816), y = ix2 y0 y1 := ⟨y 0, y 1, eq_ix2 y⟩
  pointwise [k2_pay1, backArr]
  blk_point [iblk2, idx2 t]

theorem back_final (c : Dev nD) : (dat2 V c).arrAt 2 cfg2.N = backArr (V c main_arg3) (V c main_arg2) := by
  refine (dat2 V c).arrAt_eq_of_covers 2 _ (by decide +kernel) fun t _ y => ?_
  blk_simp
  rw [after2_2]; frame_out
  exact back_point V c t y

theorem outGrad_point (c : Dev nD) (t : Fin cfg3.N) (y : S1x256x1024.Idx) : k3_pay1 (iblk3 V c 0 t) (iblk3 V c 1 t) y
    = outGrad (V c main_v8) (V c main_arg3) (((cfg3.win 2).blk t).view.emb y) := by
  obtain ⟨y0, y1, y2, rfl⟩ : ∃ (y0 : Fin 1) (y1 : Fin 256) (y2 : Fin 1024), y = ix3 y0 y1 y2 := ⟨y 0, y 1, y 2, eq_ix3 y⟩
  pointwise [k3_pay1, outGrad]
  blk_point [iblk3, idx3 t]

theorem outGrad_final (c : Dev nD) : (dat3 V c).arrAt 2 cfg3.N = outGrad (V c main_v8) (V c main_arg3) := by
  refine (dat3 V c).arrAt_eq_of_covers 2 _ (by decide +kernel) fun t _ y => ?_
  blk_simp
  rw [after3_2]; frame_out
  exact outGrad_point V c t y

theorem inGrad_point (c : Dev nD) (t : Fin cfg6.N) (y : S1x512x1408.Idx) : k6_pay1 (iblk6 V c 0 t) (iblk6 V c 1 t) y
    = inGrad (V c main_arg0) (V c main_v13) (((cfg6.win 2).blk t).view.emb y) := by
  obtain ⟨y0, y1, y2, rfl⟩ : ∃ (y0 : Fin 1) (y1 : Fin 512) (y2 : Fin 1408), y = ix3 y0 y1 y2 := ⟨y 0, y 1, y 2, eq_ix3 y⟩
  pointwise [k6_pay1, inGrad]
  blk_point [iblk6, idx6 t, col]

theorem inGrad_final (c : Dev nD) : (dat6 V c).arrAt 2 cfg6.N = inGrad (V c main_arg0) (V c main_v13) := by
  refine (dat6 V c).arrAt_eq_of_covers 2 _ (by decide +kernel) fun t _ y => ?_
  blk_simp
  rw [after6_2]; frame_out
  exact inGrad_point V c t y

end Cert.Proof.FfnIdeal
-- ==== Proof.FfnTokens.lean ====
/- What the gate's gradient and the first product's transpose leave. -/
module

public import proofs.«01_k».proof.Proof.Gen.FfnIdeal.Frame
public import proofs.«01_k».proof.Proof.FfnModel
public import Idealize.ShloMosaic.Lib.Pipeline.ValueKit
public import Idealize.ShloMosaic.Lib.Pointwise

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic Idealize.SL.Sem
open Idealize.ShloMosaic.Pipeline (Dat)
open Cert.Proof.FfnModel

variable (V : (c : Dev nD) → (b : Ref sig .tc) → Buf (Elt Ideal) ((c : Thread nD τ).loc b))

theorem idx4 : ∀ t : Fin cfg4.N, win4_0.index t = ![(grid4.coords t 0).val, (grid4.coords t 1).val, 0]
    ∧ win4_1.index t = ![(grid4.coords t 0).val, (grid4.coords t 1).val, 0]
    ∧ win4_2.index t = ![(grid4.coords t 0).val, (grid4.coords t 1).val, 0] ∧ win4_3.index t = ![(grid4.coords t 0).val, (grid4.coords t 1).val, 0] :=
  (by decide +kernel : ∀ t : Fin grid4.N, _)

theorem idx5 : ∀ t : Fin cfg5.N, win5_0.index t = ![(grid5.coords t 0).val, 0] ∧ win5_1.index t = ![0, 0, 0]
    ∧ win5_2.index t = ![(grid5.coords t 0).val, 0] :=
  (by decide +kernel : ∀ t : Fin grid5.N, _)

/-- The column of a half. -/
def half (j : Fin 5632) : Fin 2816 := ⟨j.val % 2816, by omega⟩

/-- The gradients of the two projections, side by side. -/
def glueArr (G U : FVec Ideal S2x2048x2816 .bf16) (D : FVec Ideal S2x2048x2816 .f32) : FVec Ideal S2x2048x5632 .bf16 :=
  fun i => cell (i 2).val (G (ix3 (i 0) (i 1) (half (i 2)))) (U (ix3 (i 0) (i 1) (half (i 2)))) (D (ix3 (i 0) (i 1) (half (i 2))))

/-- The gradient of the tokens. -/
def tokGrad (D : FVec Ideal S4096x5632 .bf16) (W : FVec Ideal S4x1024x1408 .bf16) : FVec Ideal S4096x1024 .f32 :=
  fun i => ∑ j : Fin 5632, (D (ix2 (i 0) j) : EReal) * W (ix3 (slab j) (i 1) (place j))

/-- A sum over the concatenated columns is the sum over the four slabs. -/
theorem sum_slabs (f : Fin 5632 → EReal) : ∑ j, f j
    = ∑ n : Fin 1408, f ⟨n.val, by omega⟩ + ∑ n : Fin 1408, f ⟨1408 + n.val, by omega⟩
      + ∑ n : Fin 1408, f ⟨2816 + n.val, by omega⟩ + ∑ n : Fin 1408, f ⟨4224 + n.val, by omega⟩ := by
  have h1 := Fin.sum_univ_add (a := 4224) (b := 1408) f
  have h2 := Fin.sum_univ_add (a := 2816) (b := 1408) fun j => f (Fin.castAdd 1408 j)
  have h3 := Fin.sum_univ_add (a := 1408) (b := 1408) fun j => f (Fin.castAdd 1408 (Fin.castAdd 1408 j))
  rw [h2, h3] at h1
  exact h1

/-- The tokens' gradient as the sum over the four slabs. -/
theorem tokGrad_slabs (D : FVec Ideal S4096x5632 .bf16) (W : FVec Ideal S4x1024x1408 .bf16) (i : S4096x1024.Idx) : tokGrad D W i
    = ∑ n : Fin 1408, (D (ix2 (i 0) ⟨n.val, by omega⟩) : EReal) * W (ix3 (0 : Fin 4) (i 1) n)
      + ∑ n : Fin 1408, (D (ix2 (i 0) ⟨1408 + n.val, by omega⟩) : EReal) * W (ix3 (1 : Fin 4) (i 1) n)
      + ∑ n : Fin 1408, (D (ix2 (i 0) ⟨2816 + n.val, by omega⟩) : EReal) * W (ix3 (2 : Fin 4) (i 1) n)
      + ∑ n : Fin 1408, (D (ix2 (i 0) ⟨4224 + n.val, by omega⟩) : EReal) * W (ix3 (3 : Fin 4) (i 1) n) := by
  have hs : ∀ (j : Fin 5632) (s : Fin 4) (n : Fin 1408), j.val = 1408 * s.val + n.val → slab j = s ∧ place j = n := by
    intro j s n h
    constructor <;> apply Fin.ext <;> simp only [slab, place] <;> omega
  unfold tokGrad
  rw [sum_slabs]
  refine congrArg₂ _ (congrArg₂ _ (congrArg₂ _ ?_ ?_) ?_) ?_
  · refine Finset.sum_congr rfl fun n _ => ?_
    obtain ⟨h1, h2⟩ := hs ⟨n.val, by omega⟩ 0 n (by simp)
    rw [h1, h2]
  · refine Finset.sum_congr rfl fun n _ => ?_
    obtain ⟨h1, h2⟩ := hs ⟨1408 + n.val, by omega⟩ 1 n (by simp)
    rw [h1, h2]
  · refine Finset.sum_congr rfl fun n _ => ?_
    obtain ⟨h1, h2⟩ := hs ⟨2816 + n.val, by omega⟩ 2 n (by simp)
    rw [h1, h2]
  · refine Finset.sum_congr rfl fun n _ => ?_
    obtain ⟨h1, h2⟩ := hs ⟨4224 + n.val, by omega⟩ 3 n (by simp)
    rw [h1, h2]

section Block

variable (x0 x1 : Vec Ideal S1x512x2816 .bf16) (x2 : Vec Ideal S1x512x2816 .f32)

theorem dgate_block (y : S1x512x2816.Idx) : k4_pay4 x0 x1 x2 y = dgate (x0 y) (x1 y) (x2 y) := by
  obtain ⟨y0, y1, y2, rfl⟩ : ∃ (y0 : Fin 1) (y1 : Fin 512) (y2 : Fin 2816), y = ix3 y0 y1 y2 := ⟨y 0, y 1, y 2, eq_ix3 y⟩
  obtain rfl : y0 = 0 := Subsingleton.elim _ _
  pointwise [k4_pay4, k4_pay3, k4_pay2, k4_pay1, dgate]

theorem dup_block (y : S1x512x2816.Idx) : k4_pay5 x0 x2 y = dup (x0 y) (x2 y) := by
  obtain ⟨y0, y1, y2, rfl⟩ : ∃ (y0 : Fin 1) (y1 : Fin 512) (y2 : Fin 2816), y = ix3 y0 y1 y2 := ⟨y 0, y 1, y 2, eq_ix3 y⟩
  obtain rfl : y0 = 0 := Subsingleton.elim _ _
  pointwise [k4_pay5, k4_pay3, k4_pay2, k4_pay1, dup]

/-- Both halves of a block of the call's result. -/
def glueBlk (y : S1x512x5632.Idx) : Elt Ideal .bf16 :=
  cell (y 2).val (x0 (ix3 (y 0) (y 1) (half (y 2)))) (x1 (ix3 (y 0) (y 1) (half (y 2)))) (x2 (ix3 (y 0) (y 1) (half (y 2))))

theorem glue_left (x : S1x512x2816.Idx) : glueBlk x0 x1 x2 (r4_1.emb x) = dgate (x0 x) (x1 x) (x2 x) := by
  obtain ⟨a, b, n, rfl⟩ : ∃ (a : Fin 1) (b : Fin 512) (n : Fin 2816), x = ix3 a b n := ⟨x 0, x 1, x 2, eq_ix3 x⟩
  have e0 : r4_1.emb (ix3 a b n) 0 = a := Fin.ext (by show 0 + 1 * a.val = a.val; omega)
  have e1 : r4_1.emb (ix3 a b n) 1 = b := Fin.ext (by show 0 + 1 * b.val = b.val; omega)
  have e2 : (r4_1.emb (ix3 a b n) 2).val = n.val := by show 0 + 1 * n.val = n.val; omega
  have e3 : half (r4_1.emb (ix3 a b n) 2) = n := Fin.ext (by show (r4_1.emb (ix3 a b n) 2).val % 2816 = n.val; rw [e2]; exact Nat.mod_eq_of_lt n.isLt)
  unfold glueBlk
  rw [cell_gate (by rw [e2]; exact n.isLt), e0, e1, e3]

theorem glue_right (x : S1x512x2816.Idx) : glueBlk x0 x1 x2 (r4_2.emb x) = dup (x0 x) (x2 x) := by
  obtain ⟨a, b, n, rfl⟩ : ∃ (a : Fin 1) (b : Fin 512) (n : Fin 2816), x = ix3 a b n := ⟨x 0, x 1, x 2, eq_ix3 x⟩
  have e0 : r4_2.emb (ix3 a b n) 0 = a := Fin.ext (by show 0 + 1 * a.val = a.val; omega)
  have e1 : r4_2.emb (ix3 a b n) 1 = b := Fin.ext (by show 0 + 1 * b.val = b.val; omega)
  have e2 : (r4_2.emb (ix3 a b n) 2).val = 2816 + n.val := by show 2816 + 1 * n.val = 2816 + n.val; omega
  have e3 : half (r4_2.emb (ix3 a b n) 2) = n := Fin.ext (by show (r4_2.emb (ix3 a b n) 2).val % 2816 = n.val; rw [e2]; have := n.isLt; omega)
  unfold glueBlk
  rw [cell_up (by rw [e2]; omega), e0, e1, e3]

theorem glue_block (y : S1x512x5632.Idx) : out4_3 x0 x1 x2 y = glueBlk x0 x1 x2 y := by
  frame_out
  refine View.canon_apply_of_pieces (glueBlk x0 x1 x2) _ ?_ y (cover4_3 _ _ y)
  intro q hq x
  rcases List.mem_cons.mp hq with rfl | hq
  · exact (dup_block x0 x2 x).trans (glue_right x0 x1 x2 x).symm
  · rcases List.mem_singleton.mp hq with rfl
    exact (dgate_block x0 x1 x2 x).trans (glue_left x0 x1 x2 x).symm

end Block

theorem glue_point (c : Dev nD) (t : Fin cfg4.N) (y : S1x512x5632.Idx) :
    glueBlk (iblk4 V c 0 t) (iblk4 V c 1 t) (iblk4 V c 2 t) y
      = glueArr (V c main_v2) (V c main_v3) (V c main_v7) (((cfg4.win 3).blk t).view.emb y) := by
  obtain ⟨y0, y1, y2, rfl⟩ : ∃ (y0 : Fin 1) (y1 : Fin 512) (y2 : Fin 5632), y = ix3 y0 y1 y2 := ⟨y 0, y 1, y 2, eq_ix3 y⟩
  unfold glueBlk glueArr
  refine cell_congr ?_ ?_ ?_ ?_
  · blk_simp [idx4 t]
  · blk_ext [iblk4, idx4 t, half]
  · blk_ext [iblk4, idx4 t, half]
  · blk_ext [iblk4, idx4 t, half]

theorem glue_final (c : Dev nD) : (dat4 V c).arrAt 3 cfg4.N = glueArr (V c main_v2) (V c main_v3) (V c main_v7) := by
  refine (dat4 V c).arrAt_eq_of_covers 3 _ (by decide +kernel) fun t _ y => ?_
  blk_simp
  rw [after4_3]
  exact (glue_block _ _ _ y).trans (glue_point V c t y)

theorem tok_point (c : Dev nD) (t : Fin cfg5.N) (y : S512x1024.Idx) :
    k5_pay1 (View.ld (iblk5 V c 0 t) r5_0) (View.ld (iblk5 V c 1 t) r5_1) (View.ld (iblk5 V c 0 t) r5_2)
      (View.ld (iblk5 V c 1 t) r5_3) (View.ld (iblk5 V c 0 t) r5_4) (View.ld (iblk5 V c 1 t) r5_5)
      (View.ld (iblk5 V c 0 t) r5_6) (View.ld (iblk5 V c 1 t) r5_7) y
    = tokGrad (V c main_v11) (V c main_arg1) (((cfg5.win 2).blk t).view.emb y) := by
  refine Eq.trans ?_ (tokGrad_slabs _ _ _).symm
  obtain ⟨y0, y1, rfl⟩ : ∃ (y0 : Fin 512) (y1 : Fin 1024), y = ix2 y0 y1 := ⟨y 0, y 1, eq_ix2 y⟩
  pointwise [k5_pay1]
  blk_point [iblk5, idx5 t]

theorem tok_final (c : Dev nD) : (dat5 V c).arrAt 2 cfg5.N = tokGrad (V c main_v11) (V c main_arg1) := by
  refine (dat5 V c).arrAt_eq_of_covers 2 _ (by decide +kernel) fun t _ y => ?_
  blk_simp
  rw [after5_2]; frame_out
  exact tok_point V c t y

end Cert.Proof.FfnIdeal
-- ==== Proof.FfnArrays.lean ====
/- The arrays the feed-forward program returns, as functions of its arguments. -/
module

public import proofs.«01_k».proof.Proof.FfnIn
public import proofs.«01_k».proof.Proof.FfnProducts
public import proofs.«01_k».proof.Proof.FfnTokens
public import Idealize.ShloMosaic.Lib.Claim
public import Idealize.ShloMosaic.Lib.Pipeline.ValueKit
public import Idealize.ShloMosaic.Lib.Pointwise

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic Idealize.SL.Sem
open Idealize.ShloMosaic.Pipeline (Dat)
open Cert.Proof.FfnModel

section Reads

variable (w : Valuation τ sig (Elt Ideal))

theorem read_v4 : StableHlo.after hostOps1 w (Proc.devRef .tc main_v4)
    = shapeCast S4096x2816 (shapeCast S2x2048x2816 (w (Proc.devRef .tc main_v0_0)) shapeCasts_S4096x2816_S2x2048x2816) shapeCasts_S2x2048x2816_S4096x2816 := by
  entry_read
  rfl

theorem read_v1 : StableHlo.after hostOps1 w (Proc.devRef .tc main_v1)
    = shapeCast S2x2048x2816 (w (Proc.devRef .tc main_v0_0)) shapeCasts_S4096x2816_S2x2048x2816 := by
  entry_read
  rfl

theorem read_v2 : StableHlo.after hostOps1 w (Proc.devRef .tc main_v2)
    = shapeCast S2x2048x2816 (w (Proc.devRef .tc main_v0_1)) shapeCasts_S4096x2816_S2x2048x2816 := by
  entry_read
  rfl

theorem read_v3 : StableHlo.after hostOps1 w (Proc.devRef .tc main_v3)
    = shapeCast S2x2048x2816 (w (Proc.devRef .tc main_v0_2)) shapeCasts_S4096x2816_S2x2048x2816 := by
  entry_read
  rfl

theorem read_v7 : StableHlo.after hostOps3 w (Proc.devRef .tc main_v7)
    = shapeCast S2x2048x2816 (w (Proc.devRef .tc main_v6)) shapeCasts_S4096x2816_S2x2048x2816 := by
  entry_read
  rfl

theorem read_v8 : StableHlo.after hostOps3 w (Proc.devRef .tc main_v8)
    = shapeCast S4096x2816 (w (Proc.devRef .tc main_v1)) shapeCasts_S2x2048x2816_S4096x2816 := by
  entry_read
  rfl

theorem read_v11 : StableHlo.after hostOps5 w (Proc.devRef .tc main_v11)
    = shapeCast S4096x5632 (w (Proc.devRef .tc main_v10)) shapeCasts_S2x2048x5632_S4096x5632 := by
  entry_read
  rfl

theorem read_v13 : StableHlo.after hostOps6 w (Proc.devRef .tc main_v13)
    = shapeCast S4096x5632 (w (Proc.devRef .tc main_v10)) shapeCasts_S2x2048x5632_S4096x5632 := by
  entry_read
  rfl

end Reads

/-- The gradients of the two projections, one row per token. -/
def cellArr (G U : FVec Ideal S4096x2816 .bf16) (D : FVec Ideal S4096x2816 .f32) : FVec Ideal S4096x5632 .bf16 :=
  fun i => cell (i 1).val (G (ix2 (i 0) (half (i 1)))) (U (ix2 (i 0) (half (i 1)))) (D (ix2 (i 0) (half (i 1))))

/-- Splitting the tokens in two halves and joining them changes nothing. -/
theorem split_join (A : FVec Ideal S4096x2816 .bf16) :
    shapeCast S4096x2816 (shapeCast S2x2048x2816 A shapeCasts_S4096x2816_S2x2048x2816) shapeCasts_S2x2048x2816_S4096x2816 = A := by
  funext y
  obtain ⟨t, f, rfl⟩ : ∃ (t : Fin 4096) (f : Fin 2816), y = ix2 t f := ⟨y 0, y 1, eq_ix2 y⟩
  pointwise

theorem join_cell (G U : FVec Ideal S4096x2816 .bf16) (D : FVec Ideal S4096x2816 .f32) :
    shapeCast S4096x5632 (glueArr (shapeCast S2x2048x2816 G shapeCasts_S4096x2816_S2x2048x2816) (shapeCast S2x2048x2816 U shapeCasts_S4096x2816_S2x2048x2816)
      (shapeCast S2x2048x2816 D shapeCasts_S4096x2816_S2x2048x2816)) shapeCasts_S2x2048x5632_S4096x5632 = cellArr G U D := by
  funext y
  obtain ⟨t, j, rfl⟩ : ∃ (t : Fin 4096) (j : Fin 5632), y = ix2 t j := ⟨y 0, y 1, eq_ix2 y⟩
  pointwise [glueArr, cellArr]

section Ends

variable (m : (ℓ : Loc nD τ sig) → Buf (Elt Ideal) ℓ) (ρ : Dev nD → PrngReg) (c : Dev nD)

/-- The tokens. -/
abbrev aH : FVec Ideal S4096x1024 .bf16 := m ((c : Thread nD τ).loc main_arg0)
/-- The first weight. -/
abbrev aW : FVec Ideal S4x1024x1408 .bf16 := m ((c : Thread nD τ).loc main_arg1)
/-- The second weight. -/
abbrev aO : FVec Ideal S1x2816x1024 .bf16 := m ((c : Thread nD τ).loc main_arg2)
/-- The cotangent. -/
abbrev aC : FVec Ideal S4096x1024 .bf16 := m ((c : Thread nD τ).loc main_arg3)

theorem at1_a : W1 m ρ c (Proc.devRef .tc main_v0_0) = actArr (aH m c) (aW m c) :=
  (W1_arr m ρ c 3).trans (act_final (V0 m ρ) c)
theorem at1_g : W1 m ρ c (Proc.devRef .tc main_v0_1) = gateArr (aH m c) (aW m c) :=
  (W1_arr m ρ c 4).trans (gate_final (V0 m ρ) c)
theorem at1_u : W1 m ρ c (Proc.devRef .tc main_v0_2) = upArr (aH m c) (aW m c) :=
  (W1_arr m ρ c 5).trans (up_final (V0 m ρ) c)

theorem at2_v4 : W2 m ρ c (Proc.devRef .tc main_v4) = actArr (aH m c) (aW m c) :=
  (read_v4 (W1 m ρ c)).trans ((congrArg (fun A : FVec Ideal S4096x2816 .bf16 => shapeCast S4096x2816 (shapeCast S2x2048x2816 A shapeCasts_S4096x2816_S2x2048x2816) shapeCasts_S2x2048x2816_S4096x2816) (at1_a m ρ c)).trans (split_join _))
theorem at2_v1 : W2 m ρ c (Proc.devRef .tc main_v1) = shapeCast S2x2048x2816 (actArr (aH m c) (aW m c)) shapeCasts_S4096x2816_S2x2048x2816 :=
  (read_v1 (W1 m ρ c)).trans (congrArg (fun A : FVec Ideal S4096x2816 .bf16 => shapeCast S2x2048x2816 A shapeCasts_S4096x2816_S2x2048x2816) (at1_a m ρ c))
theorem at2_v2 : W2 m ρ c (Proc.devRef .tc main_v2) = shapeCast S2x2048x2816 (gateArr (aH m c) (aW m c)) shapeCasts_S4096x2816_S2x2048x2816 :=
  (read_v2 (W1 m ρ c)).trans (congrArg (fun A : FVec Ideal S4096x2816 .bf16 => shapeCast S2x2048x2816 A shapeCasts_S4096x2816_S2x2048x2816) (at1_g m ρ c))
theorem at2_v3 : W2 m ρ c (Proc.devRef .tc main_v3) = shapeCast S2x2048x2816 (upArr (aH m c) (aW m c)) shapeCasts_S4096x2816_S2x2048x2816 :=
  (read_v3 (W1 m ρ c)).trans (congrArg (fun A : FVec Ideal S4096x2816 .bf16 => shapeCast S2x2048x2816 A shapeCasts_S4096x2816_S2x2048x2816) (at1_u m ρ c))

theorem at3_v5 : W3 m ρ c (Proc.devRef .tc main_v5) = downArr (actArr (aH m c) (aW m c)) (aO m c) :=
  (W3_arr m ρ c 2).trans ((down_final (V2 m ρ) c).trans (congrArg₂ downArr (at2_v4 m ρ c) (W2_args m ρ c main_arg2 (by decide))))

theorem at4_v6 : W4 m ρ c (Proc.devRef .tc main_v6) = backArr (aC m c) (aO m c) :=
  (W4_arr m ρ c 2).trans ((back_final (V3 m ρ) c).trans (congrArg₂ backArr (W3_args m ρ c main_arg3 (by decide)) (W3_args m ρ c main_arg2 (by decide))))

theorem at4_v1 : W4 m ρ c (Proc.devRef .tc main_v1) = shapeCast S2x2048x2816 (actArr (aH m c) (aW m c)) shapeCasts_S4096x2816_S2x2048x2816 :=
  (W4_of m ρ c main_v1 (by decide)).trans ((W3_of m ρ c main_v1 (by decide)).trans (at2_v1 m ρ c))

theorem at5_v8 : W5 m ρ c (Proc.devRef .tc main_v8) = actArr (aH m c) (aW m c) :=
  (read_v8 (W4 m ρ c)).trans ((congrArg (fun A : FVec Ideal S2x2048x2816 .bf16 => shapeCast S4096x2816 A shapeCasts_S2x2048x2816_S4096x2816) (at4_v1 m ρ c)).trans (split_join _))
theorem at5_v7 : W5 m ρ c (Proc.devRef .tc main_v7) = shapeCast S2x2048x2816 (backArr (aC m c) (aO m c)) shapeCasts_S4096x2816_S2x2048x2816 :=
  (read_v7 (W4 m ρ c)).trans (congrArg (fun A : FVec Ideal S4096x2816 .f32 => shapeCast S2x2048x2816 A shapeCasts_S4096x2816_S2x2048x2816) (at4_v6 m ρ c))

theorem at6_v9 : W6 m ρ c (Proc.devRef .tc main_v9) = outGrad (actArr (aH m c) (aW m c)) (aC m c) :=
  (W6_arr m ρ c 2).trans ((outGrad_final (V5 m ρ) c).trans (congrArg₂ outGrad (at5_v8 m ρ c) (W5_args m ρ c main_arg3 (by decide))))
theorem at6_v2 : W6 m ρ c (Proc.devRef .tc main_v2) = shapeCast S2x2048x2816 (gateArr (aH m c) (aW m c)) shapeCasts_S4096x2816_S2x2048x2816 :=
  (W6_of m ρ c main_v2 (by decide)).trans ((W5_of m ρ c main_v2 (by decide)).trans ((W4_of m ρ c main_v2 (by decide)).trans ((W3_of m ρ c main_v2 (by decide)).trans (at2_v2 m ρ c))))
theorem at6_v3 : W6 m ρ c (Proc.devRef .tc main_v3) = shapeCast S2x2048x2816 (upArr (aH m c) (aW m c)) shapeCasts_S4096x2816_S2x2048x2816 :=
  (W6_of m ρ c main_v3 (by decide)).trans ((W5_of m ρ c main_v3 (by decide)).trans ((W4_of m ρ c main_v3 (by decide)).trans ((W3_of m ρ c main_v3 (by decide)).trans (at2_v3 m ρ c))))
theorem at6_v7 : W6 m ρ c (Proc.devRef .tc main_v7) = shapeCast S2x2048x2816 (backArr (aC m c) (aO m c)) shapeCasts_S4096x2816_S2x2048x2816 :=
  (W6_of m ρ c main_v7 (by decide)).trans (at5_v7 m ρ c)

theorem glue_congr {G G' U U' : FVec Ideal S2x2048x2816 .bf16} {D D' : FVec Ideal S2x2048x2816 .f32} (hG : G = G') (hU : U = U') (hD : D = D') :
    glueArr G U D = glueArr G' U' D' := by rw [hG, hU, hD]

/-- The gradients of the two projections, in two halves of tokens. -/
abbrev halves : FVec Ideal S2x2048x5632 .bf16 :=
  glueArr (shapeCast S2x2048x2816 (gateArr (aH m c) (aW m c)) shapeCasts_S4096x2816_S2x2048x2816)
    (shapeCast S2x2048x2816 (upArr (aH m c) (aW m c)) shapeCasts_S4096x2816_S2x2048x2816)
    (shapeCast S2x2048x2816 (backArr (aC m c) (aO m c)) shapeCasts_S4096x2816_S2x2048x2816)

/-- The gradients of the two projections. -/
abbrev rows : FVec Ideal S4096x5632 .bf16 := cellArr (gateArr (aH m c) (aW m c)) (upArr (aH m c) (aW m c)) (backArr (aC m c) (aO m c))

theorem at7_v10 : W7 m ρ c (Proc.devRef .tc main_v10) = halves m c :=
  (W7_arr m ρ c 3).trans ((glue_final (V6 m ρ) c).trans (glue_congr (at6_v2 m ρ c) (at6_v3 m ρ c) (at6_v7 m ρ c)))

theorem at8_v11 : W8 m ρ c (Proc.devRef .tc main_v11) = rows m c :=
  (read_v11 (W7 m ρ c)).trans ((congrArg (fun A : FVec Ideal S2x2048x5632 .bf16 => shapeCast S4096x5632 A shapeCasts_S2x2048x5632_S4096x5632) (at7_v10 m ρ c)).trans (join_cell _ _ _))

theorem at9_v12 : W9 m ρ c (Proc.devRef .tc main_v12) = tokGrad (rows m c) (aW m c) :=
  (W9_arr m ρ c 2).trans ((tok_final (V8 m ρ) c).trans (congrArg₂ tokGrad (at8_v11 m ρ c) (W8_args m ρ c main_arg1 (by decide))))
theorem at9_v10 : W9 m ρ c (Proc.devRef .tc main_v10) = halves m c :=
  (W9_of m ρ c main_v10 (by decide)).trans ((W8_of m ρ c main_v10 (by decide)).trans (at7_v10 m ρ c))

theorem at10_v13 : W10 m ρ c (Proc.devRef .tc main_v13) = rows m c :=
  (read_v13 (W9 m ρ c)).trans ((congrArg (fun A : FVec Ideal S2x2048x5632 .bf16 => shapeCast S4096x5632 A shapeCasts_S2x2048x5632_S4096x5632) (at9_v10 m ρ c)).trans (join_cell _ _ _))

/-- The gradient of the first weight. -/
theorem end_v14 : W11 m ρ c (Proc.devRef .tc main_v14) = inGrad (aH m c) (rows m c) :=
  (W11_arr m ρ c 2).trans ((inGrad_final (V10 m ρ) c).trans (congrArg₂ inGrad (W10_args m ρ c main_arg0 (by decide)) (at10_v13 m ρ c)))
/-- The gradient of the tokens. -/
theorem end_v12 : W11 m ρ c (Proc.devRef .tc main_v12) = tokGrad (rows m c) (aW m c) :=
  (W11_of m ρ c main_v12 (by decide)).trans ((W10_of m ρ c main_v12 (by decide)).trans (at9_v12 m ρ c))
/-- The gradient of the second weight. -/
theorem end_v9 : W11 m ρ c (Proc.devRef .tc main_v9) = outGrad (actArr (aH m c) (aW m c)) (aC m c) :=
  (W11_of m ρ c main_v9 (by decide)).trans ((W10_of m ρ c main_v9 (by decide)).trans ((W9_of m ρ c main_v9 (by decide)).trans ((W8_of m ρ c main_v9 (by decide)).trans
    ((W7_of m ρ c main_v9 (by decide)).trans (at6_v9 m ρ c)))))
/-- The result of the layer. -/
theorem end_v5 : W11 m ρ c (Proc.devRef .tc main_v5) = downArr (actArr (aH m c) (aW m c)) (aO m c) :=
  (W11_of m ρ c main_v5 (by decide)).trans ((W10_of m ρ c main_v5 (by decide)).trans ((W9_of m ρ c main_v5 (by decide)).trans ((W8_of m ρ c main_v5 (by decide)).trans
    ((W7_of m ρ c main_v5 (by decide)).trans ((W6_of m ρ c main_v5 (by decide)).trans ((W5_of m ρ c main_v5 (by decide)).trans ((W4_of m ρ c main_v5 (by decide)).trans (at3_v5 m ρ c))))))))

end Ends

end Cert.Proof.FfnIdeal
-- ==== Proof.FfnReference.lean ====
/- The reference's feed-forward and its gradients as named arrays, and each of them read at an index. -/
module

public import proofs.«01_k».proof.Proof.Gen.FfnReferenceIdeal.Run
public import proofs.«01_k».proof.Proof.FfnArrays
public import Idealize.ShloMosaic.Lib.Pipeline.ValueKit
public import Idealize.ShloMosaic.Lib.Pointwise

@[expose] public section

set_option maxRecDepth 16384

noncomputable section

namespace Cert.Proof.FfnReference

open Cert.FfnReferenceIdeal Cert.FfnReferenceIdeal.Gen
open Idealize.ShloMosaic Idealize.ShloMosaic.TcCoe Idealize.ShloMosaic.Tactic Idealize.SL.Sem
open Cert.Proof.FfnModel
open Cert.Proof.FfnIdeal (gateArr upArr actArr downArr backArr outGrad inGrad tokGrad cellArr col half)

variable (H : FVec Ideal S4096x1024 .bf16) (W : FVec Ideal S4x1024x1408 .bf16) (O : FVec Ideal S1x2816x1024 .bf16) (C : FVec Ideal S4096x1024 .bf16)

/-- The first weight, its slabs side by side. -/
def rW : FVec Ideal S1024x5632 .f32 :=
  shapeCast _ (transpose S1024x4x1408 [1, 0, 2] (extf .f32 W bitsLt_bf16_f32) transposes_S4x1024x1408_S1024x4x1408_1_0_2) shapeCasts_S1024x4x1408_S1024x5632

/-- The first projection. -/
def rPre : FVec Ideal S4096x5632 .f32 :=
  Host.dotGeneral dot_S4096x1024_S1024x5632_S4096x5632_1_0_0_1_n_n none (extf .f32 H bitsLt_bf16_f32) (rW W)

/-- The gate. -/
def rG : FVec Ideal S4096x2816 .f32 := extractStridedSlice S4096x2816 ![0, 0] (rPre H W) slices_S4096x5632_S4096x2816_0_0

/-- The up projection. -/
def rU : FVec Ideal S4096x2816 .f32 := extractStridedSlice S4096x2816 ![0, 2816] (rPre H W) slices_S4096x5632_S4096x2816_0_2816

/-- The logistic of the gate. -/
def rS : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (rG H W))))

/-- The gated value. -/
def rA : FVec Ideal S4096x2816 .f32 := mulf (mulf (rG H W) (rS H W)) (rU H W)

/-- The second weight. -/
def rO : FVec Ideal S2816x1024 .f32 := extf .f32 (shapeCast _ O shapeCasts_S1x2816x1024_S2816x1024) bitsLt_bf16_f32

/-- The gradient of the gated value. -/
def rD : FVec Ideal S4096x2816 .f32 :=
  Host.dotGeneral dot_S4096x1024_S2816x1024_S4096x2816_1_1_0_0_n_n none (extf .f32 C bitsLt_bf16_f32) (rO O)

/-- The gradients of the two projections. -/
def rB : FVec Ideal S4096x5632 .f32 :=
  concatenate S4096x5632 1 [⟨S4096x2816, (addf (mulf (mulf (rD O C) (rU H W)) (rS H W)) (mulf (mulf (rG H W) (mulf (rD O C) (rU H W))) (mulf (rS H W) (subf (broadcastInDim S4096x2816 ![] bcast_S_S4096x2816 (constant S_ .f32 0x3F800000#32)) (rS H W)))))⟩,
    ⟨S4096x2816, (mulf (mulf (rG H W) (rS H W)) (rD O C))⟩] concatenates_S4096x2816_S4096x2816_S4096x5632_d1

/-- The result of the layer. -/
def rY : FVec Ideal S4096x1024 .f32 := Host.dotGeneral dot_S4096x2816_S2816x1024_S4096x1024_1_0_0_1_n_n none (rA H W) (rO O)

/-- The gradient of the tokens. -/
def rDH : FVec Ideal S4096x1024 .f32 := Host.dotGeneral dot_S4096x5632_S1024x5632_S4096x1024_1_1_0_0_n_n none (rB H W O C) (rW W)

/-- The gradient of the first weight. -/
def rDW : FVec Ideal S4x1024x1408 .bf16 :=
  truncf .bf16 (transpose S4x1024x1408 [1, 0, 2] (shapeCast _ (transpose S1024x5632 [1, 0] (Host.dotGeneral dot_S4096x5632_S4096x1024_S5632x1024_0_0_1_1_n_n none (rB H W O C) (extf .f32 H bitsLt_bf16_f32)) transposes_S5632x1024_S1024x5632_1_0) shapeCasts_S1024x5632_S1024x4x1408) transposes_S1024x4x1408_S4x1024x1408_1_0_2) bitsLt_bf16_f32

/-- The gradient of the second weight. -/
def rDO : FVec Ideal S1x2816x1024 .bf16 :=
  broadcastInDim S1x2816x1024 ![1, 2] bcast_S2816x1024_S1x2816x1024_1_2 (truncf .bf16 (transpose S2816x1024 [1, 0] (Host.dotGeneral dot_S4096x1024_S4096x2816_S1024x2816_0_0_1_1_n_n none (extf .f32 C bitsLt_bf16_f32) (rA H W)) transposes_S1024x2816_S2816x1024_1_0) bitsLt_bf16_f32)

theorem rW_at (d : Fin 1024) (j : Fin 5632) : rW W (ix2 d j) = (W (ix3 (slab j) d (place j)) : EReal) := by
  pointwise [rW]
  blk_ext [slab, place]

theorem rPre_at (t : Fin 4096) (j : Fin 5632) : rPre H W (ix2 t j) = pre H W t j := by
  unfold pre
  pointwise [rPre]
  exact Finset.sum_congr rfl fun d _ => congrArg (fun z : EReal => (H (ix2 t d) : EReal) * z) (rW_at W d j)

theorem rG_at (t : Fin 4096) (f : Fin 2816) : rG H W (ix2 t f) = (gateArr H W (ix2 t f) : EReal) := by
  refine Eq.trans ?_ (rPre_at H W t (lo f))
  pointwise [rG]
  blk_ext [lo]

theorem rU_at (t : Fin 4096) (f : Fin 2816) : rU H W (ix2 t f) = (upArr H W (ix2 t f) : EReal) := by
  refine Eq.trans ?_ (rPre_at H W t (hi f))
  pointwise [rU]
  blk_ext [hi]

theorem rS_at (t : Fin 4096) (f : Fin 2816) : rS H W (ix2 t f) = Ideal.logistic (gateArr H W (ix2 t f)) := by
  rw [← rG_at]
  unfold Ideal.logistic
  pointwise [rS]

theorem rA_at (t : Fin 4096) (f : Fin 2816) : rA H W (ix2 t f) = (actArr H W (ix2 t f) : EReal) := by
  show _ = act (gateArr H W (ix2 t f)) (upArr H W (ix2 t f))
  unfold act
  rw [← rS_at, ← rG_at, ← rU_at]
  pointwise [rA]

theorem rO_at (f : Fin 2816) (d : Fin 1024) : rO O (ix2 f d) = (O (ix3 (0 : Fin 1) f d) : EReal) := by
  pointwise [rO]

theorem rD_at (t : Fin 4096) (f : Fin 2816) : rD O C (ix2 t f) = (backArr C O (ix2 t f) : EReal) := by
  show _ = ∑ d : Fin 1024, (C (ix2 t d) : EReal) * O (ix3 (0 : Fin 1) f d)
  pointwise [rD]
  exact Finset.sum_congr rfl fun d _ => congrArg (fun z : EReal => (C (ix2 t d) : EReal) * z) (rO_at O f d)

theorem rB_at (t : Fin 4096) (j : Fin 5632) : rB H W O C (ix2 t j) = (cellArr (gateArr H W) (upArr H W) (backArr C O) (ix2 t j) : EReal) := by
  show _ = cell j.val (gateArr H W (ix2 t (half j))) (upArr H W (ix2 t (half j))) (backArr C O (ix2 t (half j)))
  by_cases h : j.val < 2816
  · rw [cell_gate h]
    unfold dgate
    rw [← rS_at, ← rG_at, ← rU_at, ← rD_at]
    pointwise [rB]
    have e : (⟨j.val, h⟩ : Fin 2816) = half j := Fin.ext (Nat.mod_eq_of_lt h).symm
    rw [dif_pos h, e]
  · rw [cell_up (by omega)]
    unfold dup
    rw [← rS_at, ← rG_at, ← rD_at]
    pointwise [rB]
    have e : (⟨j.val - 2816, by omega⟩ : Fin 2816) = half j := Fin.ext (by show j.val - 2816 = j.val % 2816; omega)
    rw [dif_neg h, e]

theorem rY_eq : rY H W O = downArr (actArr H W) O := by
  funext y
  obtain ⟨t, d, rfl⟩ : ∃ (t : Fin 4096) (d : Fin 1024), y = ix2 t d := ⟨y 0, y 1, eq_ix2 y⟩
  show _ = ∑ f : Fin 2816, (actArr H W (ix2 t f) : EReal) * O (ix3 (0 : Fin 1) f d)
  pointwise [rY]
  exact Finset.sum_congr rfl fun f _ => congrArg₂ (fun a b : EReal => a * b) (rA_at H W t f) (rO_at O f d)

theorem rDH_eq : rDH H W O C = tokGrad (cellArr (gateArr H W) (upArr H W) (backArr C O)) W := by
  funext y
  obtain ⟨t, d, rfl⟩ : ∃ (t : Fin 4096) (d : Fin 1024), y = ix2 t d := ⟨y 0, y 1, eq_ix2 y⟩
  show _ = ∑ j : Fin 5632, (cellArr (gateArr H W) (upArr H W) (backArr C O) (ix2 t j) : EReal) * W (ix3 (slab j) d (place j))
  pointwise [rDH]
  exact Finset.sum_congr rfl fun j _ => congrArg₂ (fun a b : EReal => a * b) (rB_at H W O C t j) (rW_at W d j)

theorem rDW_eq : rDW H W O C = inGrad H (cellArr (gateArr H W) (upArr H W) (backArr C O)) := by
  funext y
  obtain ⟨s, d, n, rfl⟩ : ∃ (s : Fin 4) (d : Fin 1024) (n : Fin 1408), y = ix3 s d n := ⟨y 0, y 1, y 2, eq_ix3 y⟩
  show _ = ∑ t : Fin 4096, (H (ix2 t d) : EReal) * cellArr (gateArr H W) (upArr H W) (backArr C O) (ix2 t (col s n))
  pointwise [rDW]
  refine Finset.sum_congr rfl fun t _ => ?_
  rw [mul_comm]
  refine congrArg (fun b : EReal => (H (ix2 t d) : EReal) * b) (Eq.trans ?_ (rB_at H W O C t (col s n)))
  blk_ext [col]

theorem rDO_eq : rDO H W C = outGrad (actArr H W) C := by
  funext y
  obtain ⟨z, f, d, rfl⟩ : ∃ (z : Fin 1) (f : Fin 2816) (d : Fin 1024), y = ix3 z f d := ⟨y 0, y 1, y 2, eq_ix3 y⟩
  show _ = ∑ t : Fin 4096, (actArr H W (ix2 t f) : EReal) * C (ix2 t d)
  pointwise [rDO]
  refine Finset.sum_congr rfl fun t _ => ?_
  rw [mul_comm]
  exact congrArg (fun b : EReal => b * (C (ix2 t d) : EReal)) (rA_at H W t f)

/-- Every execution of the reference ends with the named arrays and the arguments as launched. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = rY (m ((c.tc : Thread nD τ).loc main_arg0)) (m ((c.tc : Thread nD τ).loc main_arg1)) (m ((c.tc : Thread nD τ).loc main_arg2))
      ∧ r.2.mem ((c.tc : Thread nD τ).loc main_v24) = rDH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v27) = rDW (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = rDO (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1, (h c).2.1, (h c).2.2.1, (h c).2.2.2.1, (h c).2.2.2.2⟩) (Cert.FfnReferenceIdeal.Value.run (F := Ideal) m ρ)

end Cert.Proof.FfnReference
-- ==== Proof.HgrnIn.lean ====
/- What the three calls of the input projection leave. -/
module

public import proofs.«01_k».proof.Proof.Gen.HgrnIdeal.Frame
public import Idealize.ShloMosaic.Lib.Pipeline.ValueKit
public import Idealize.ShloMosaic.Lib.Pointwise

@[expose] public section

set_option maxRecDepth 16384

noncomputable section

namespace Cert.Proof.HgrnIdeal

open Cert.HgrnIdeal Cert.HgrnIdeal.Gen
open Idealize.ShloMosaic Idealize.ShloMosaic.TcCoe Idealize.ShloMosaic.Tactic Idealize.SL.Sem
open Idealize.ShloMosaic.Pipeline (Dat)

/-- The block of a column of the input projection. -/
def inSlab (j : Fin 4096) : Fin 4 := ⟨j.val / 1024, by omega⟩

/-- The place of a column in its block. -/
def inPlace (j : Fin 4096) : Fin 1024 := ⟨j.val % 1024, by omega⟩

/-- The column at a place of a block. -/
def inCol (s : Fin 4) (n : Fin 1024) : Fin 4096 := ⟨s.val * 1024 + n.val, by omega⟩

/-- The input projection of the tokens. -/
def inOut (X : FVec Ideal S4096x1024 .bf16) (W : FVec Ideal S4x1024x1024 .bf16) : FVec Ideal S4096x4096 .f32 :=
  fun i => ∑ k : Fin 1024, (X (ix2 (i 0) k) : EReal) * W (ix3 (inSlab (i 1)) k (inPlace (i 1)))

/-- The gradient of the tokens. -/
def inBack (D : FVec Ideal S4096x4096 .bf16) (W : FVec Ideal S4x1024x1024 .bf16) : FVec Ideal S4096x1024 .f32 :=
  fun i => ∑ j : Fin 4096, (D (ix2 (i 0) j) : EReal) * W (ix3 (inSlab j) (i 1) (inPlace j))

/-- The gradient of the weight. -/
def inGrad (X : FVec Ideal S4096x1024 .bf16) (D : FVec Ideal S4096x4096 .bf16) : FVec Ideal S4x1024x1024 .bf16 :=
  fun i => ∑ t : Fin 4096, (X (ix2 t (i 1)) : EReal) * D (ix2 t (inCol (i 0) (i 2)))

/-- A sum over the columns is the sum over the blocks. -/
theorem in_blocks (f : Fin 4096 → EReal) : ∑ j, f j
    = ∑ n : Fin 1024, f ⟨n.val, by omega⟩ + ∑ n : Fin 1024, f ⟨1024 + n.val, by omega⟩ + ∑ n : Fin 1024, f ⟨2048 + n.val, by omega⟩ + ∑ n : Fin 1024, f ⟨3072 + n.val, by omega⟩ := by
  have h1 := Fin.sum_univ_add (a := 3072) (b := 1024) f
  have h2 := Fin.sum_univ_add (a := 2048) (b := 1024) fun j => f (Fin.castAdd 1024 j)
  have h3 := Fin.sum_univ_add (a := 1024) (b := 1024) fun j => f (Fin.castAdd 1024 (Fin.castAdd 1024 j))
  rw [h2, h3] at h1
  exact h1

theorem in_at {j : Fin 4096} {s : Fin 4} {n : Fin 1024} (h : j.val = 1024 * s.val + n.val) : inSlab j = s ∧ inPlace j = n := by
  constructor <;> apply Fin.ext <;> simp only [inSlab, inPlace] <;> omega

theorem inBack_blocks (D : FVec Ideal S4096x4096 .bf16) (W : FVec Ideal S4x1024x1024 .bf16) (i : S4096x1024.Idx) : inBack D W i
    = ∑ n : Fin 1024, (D (ix2 (i 0) ⟨n.val, by omega⟩) : EReal) * W (ix3 (0 : Fin 4) (i 1) n) + ∑ n : Fin 1024, (D (ix2 (i 0) ⟨1024 + n.val, by omega⟩) : EReal) * W (ix3 (1 : Fin 4) (i 1) n) + ∑ n : Fin 1024, (D (ix2 (i 0) ⟨2048 + n.val, by omega⟩) : EReal) * W (ix3 (2 : Fin 4) (i 1) n) + ∑ n : Fin 1024, (D (ix2 (i 0) ⟨3072 + n.val, by omega⟩) : EReal) * W (ix3 (3 : Fin 4) (i 1) n) := by
  unfold inBack
  rw [in_blocks]
  refine congrArg₂ _ (congrArg₂ _ (congrArg₂ _ ?_ ?_) ?_) ?_
  · refine Finset.sum_congr rfl fun n _ => ?_
    obtain ⟨h1, h2⟩ := in_at (j := ⟨n.val, by omega⟩) (s := 0) (n := n) (by simp)
    rw [h1, h2]
  · refine Finset.sum_congr rfl fun n _ => ?_
    obtain ⟨h1, h2⟩ := in_at (j := ⟨1024 + n.val, by omega⟩) (s := 1) (n := n) (by simp)
    rw [h1, h2]
  · refine Finset.sum_congr rfl fun n _ => ?_
    obtain ⟨h1, h2⟩ := in_at (j := ⟨2048 + n.val, by omega⟩) (s := 2) (n := n) (by simp)
    rw [h1, h2]
  · refine Finset.sum_congr rfl fun n _ => ?_
    obtain ⟨h1, h2⟩ := in_at (j := ⟨3072 + n.val, by omega⟩) (s := 3) (n := n) (by simp)
    rw [h1, h2]

section Block

variable (x0 : Vec Ideal S512x1024 .bf16) (x1 : Vec Ideal S4x1024x1024 .bf16)

/-- A block of the input projection. -/
def inBlk (y : S512x4096.Idx) : Elt Ideal .f32 :=
  (∑ k : Fin 1024, (x0 (ix2 (y 0) k) : EReal) * x1 (ix3 (inSlab (y 1)) k (inPlace (y 1))) : EReal)

theorem in_piece0 (x : S512x1024.Idx) : k0_pay1 x0 (View.ld x1 r0_1) x = inBlk x0 x1 (r0_2.emb x) := by
  obtain ⟨a, b, rfl⟩ : ∃ (a : Fin 512) (b : Fin 1024), x = ix2 a b := ⟨x 0, x 1, eq_ix2 x⟩
  have e0 : r0_2.emb (ix2 a b) 0 = a := Fin.ext (by show 0 + 1 * a.val = a.val; omega)
  have e1 : (r0_2.emb (ix2 a b) 1).val = 1024 * 0 + b.val := by show 0 + 1 * b.val = 1024 * 0 + b.val; omega
  obtain ⟨e2, e3⟩ := in_at (j := r0_2.emb (ix2 a b) 1) (s := 0) (n := b) e1
  unfold inBlk
  rw [e0, e2, e3]
  pointwise [k0_pay1]

theorem in_piece1 (x : S512x1024.Idx) : k0_pay2 x0 (View.ld x1 r0_3) x = inBlk x0 x1 (r0_4.emb x) := by
  obtain ⟨a, b, rfl⟩ : ∃ (a : Fin 512) (b : Fin 1024), x = ix2 a b := ⟨x 0, x 1, eq_ix2 x⟩
  have e0 : r0_4.emb (ix2 a b) 0 = a := Fin.ext (by show 0 + 1 * a.val = a.val; omega)
  have e1 : (r0_4.emb (ix2 a b) 1).val = 1024 * 1 + b.val := by show 1024 + 1 * b.val = 1024 * 1 + b.val; omega
  obtain ⟨e2, e3⟩ := in_at (j := r0_4.emb (ix2 a b) 1) (s := 1) (n := b) e1
  unfold inBlk
  rw [e0, e2, e3]
  pointwise [k0_pay2]

theorem in_piece2 (x : S512x1024.Idx) : k0_pay3 x0 (View.ld x1 r0_5) x = inBlk x0 x1 (r0_6.emb x) := by
  obtain ⟨a, b, rfl⟩ : ∃ (a : Fin 512) (b : Fin 1024), x = ix2 a b := ⟨x 0, x 1, eq_ix2 x⟩
  have e0 : r0_6.emb (ix2 a b) 0 = a := Fin.ext (by show 0 + 1 * a.val = a.val; omega)
  have e1 : (r0_6.emb (ix2 a b) 1).val = 1024 * 2 + b.val := by show 2048 + 1 * b.val = 1024 * 2 + b.val; omega
  obtain ⟨e2, e3⟩ := in_at (j := r0_6.emb (ix2 a b) 1) (s := 2) (n := b) e1
  unfold inBlk
  rw [e0, e2, e3]
  pointwise [k0_pay3]

theorem in_piece3 (x : S512x1024.Idx) : k0_pay4 x0 (View.ld x1 r0_7) x = inBlk x0 x1 (r0_8.emb x) := by
  obtain ⟨a, b, rfl⟩ : ∃ (a : Fin 512) (b : Fin 1024), x = ix2 a b := ⟨x 0, x 1, eq_ix2 x⟩
  have e0 : r0_8.emb (ix2 a b) 0 = a := Fin.ext (by show 0 + 1 * a.val = a.val; omega)
  have e1 : (r0_8.emb (ix2 a b) 1).val = 1024 * 3 + b.val := by show 3072 + 1 * b.val = 1024 * 3 + b.val; omega
  obtain ⟨e2, e3⟩ := in_at (j := r0_8.emb (ix2 a b) 1) (s := 3) (n := b) e1
  unfold inBlk
  rw [e0, e2, e3]
  pointwise [k0_pay4]

theorem in_block (y : S512x4096.Idx) : out0_2 x0 x1 y = inBlk x0 x1 y := by
  frame_out
  refine View.canon_apply_of_pieces (inBlk x0 x1) _ ?_ y (cover0_2 _ _ _ _ y)
  intro z hz x
  rcases List.mem_cons.mp hz with rfl | hz
  · exact in_piece3 x0 x1 x
  rcases List.mem_cons.mp hz with rfl | hz
  · exact in_piece2 x0 x1 x
  rcases List.mem_cons.mp hz with rfl | hz
  · exact in_piece1 x0 x1 x
  rcases List.mem_singleton.mp hz with rfl
  exact in_piece0 x0 x1 x

end Block

variable (V : (c : Dev nD) → (b : Ref sig .tc) → Buf (Elt Ideal) ((c : Thread nD τ).loc b))

theorem idx0 : ∀ t : Fin cfg0.N, win0_0.index t = ![(grid0.coords t 0).val, 0] ∧ win0_1.index t = ![0, 0, 0] ∧ win0_2.index t = ![(grid0.coords t 0).val, 0] :=
  (by decide +kernel : ∀ t : Fin grid0.N, _)

theorem idx4 : ∀ t : Fin cfg4.N, win4_0.index t = ![(grid4.coords t 0).val, 0] ∧ win4_1.index t = ![0, 0, 0] ∧ win4_2.index t = ![(grid4.coords t 0).val, 0] :=
  (by decide +kernel : ∀ t : Fin grid4.N, _)

theorem idx5 : ∀ t : Fin cfg5.N, win5_0.index t = ![0, (grid5.coords t 1).val] ∧ win5_1.index t = ![0, (grid5.coords t 0).val] ∧ win5_2.index t = ![(grid5.coords t 0).val, (grid5.coords t 1).val, 0] :=
  (by decide +kernel : ∀ t : Fin grid5.N, _)

theorem inOut_point (c : Dev nD) (t : Fin cfg0.N) (y : S512x4096.Idx) :
    inBlk (iblk0 V c 0 t) (iblk0 V c 1 t) y = inOut (V c main_arg0) (V c main_arg1) (((cfg0.win 2).blk t).view.emb y) := by
  obtain ⟨y0, y1, rfl⟩ : ∃ (y0 : Fin 512) (y1 : Fin 4096), y = ix2 y0 y1 := ⟨y 0, y 1, eq_ix2 y⟩
  unfold inBlk inOut
  refine Finset.sum_congr rfl fun k _ => congrArg₂ (fun a b : EReal => a * b) ?_ ?_
  · blk_ext [iblk0, idx0 t]
  · blk_ext [iblk0, idx0 t, inSlab, inPlace]

theorem inOut_final (c : Dev nD) : (dat0 V c).arrAt 2 cfg0.N = inOut (V c main_arg0) (V c main_arg1) := by
  refine (dat0 V c).arrAt_eq_of_covers 2 _ (by decide +kernel) fun t _ y => ?_
  blk_simp
  rw [after0_2]
  exact (in_block _ _ y).trans (inOut_point V c t y)

theorem inBack_point (c : Dev nD) (t : Fin cfg4.N) (y : S512x1024.Idx) :
    k4_pay1 (View.ld (iblk4 V c 0 t) r4_0) (View.ld (iblk4 V c 1 t) r4_1) (View.ld (iblk4 V c 0 t) r4_2) (View.ld (iblk4 V c 1 t) r4_3) (View.ld (iblk4 V c 0 t) r4_4) (View.ld (iblk4 V c 1 t) r4_5) (View.ld (iblk4 V c 0 t) r4_6) (View.ld (iblk4 V c 1 t) r4_7) y
    = inBack (V c main_arg2) (V c main_arg1) (((cfg4.win 2).blk t).view.emb y) := by
  refine Eq.trans ?_ (inBack_blocks _ _ _).symm
  obtain ⟨y0, y1, rfl⟩ : ∃ (y0 : Fin 512) (y1 : Fin 1024), y = ix2 y0 y1 := ⟨y 0, y 1, eq_ix2 y⟩
  pointwise [k4_pay1]
  blk_point [iblk4, idx4 t]

theorem inBack_final (c : Dev nD) : (dat4 V c).arrAt 2 cfg4.N = inBack (V c main_arg2) (V c main_arg1) := by
  refine (dat4 V c).arrAt_eq_of_covers 2 _ (by decide +kernel) fun t _ y => ?_
  blk_simp
  rw [after4_2]; frame_out
  exact inBack_point V c t y

theorem inGrad_point (c : Dev nD) (t : Fin cfg5.N) (y : S1x512x1024.Idx) : k5_pay1 (iblk5 V c 0 t) (iblk5 V c 1 t) y
    = inGrad (V c main_arg0) (V c main_arg2) (((cfg5.win 2).blk t).view.emb y) := by
  obtain ⟨y0, y1, y2, rfl⟩ : ∃ (y0 : Fin 1) (y1 : Fin 512) (y2 : Fin 1024), y = ix3 y0 y1 y2 := ⟨y 0, y 1, y 2, eq_ix3 y⟩
  pointwise [k5_pay1, inGrad]
  blk_point [iblk5, idx5 t, inCol]

theorem inGrad_final (c : Dev nD) : (dat5 V c).arrAt 2 cfg5.N = inGrad (V c main_arg0) (V c main_arg2) := by
  refine (dat5 V c).arrAt_eq_of_covers 2 _ (by decide +kernel) fun t _ y => ?_
  blk_simp
  rw [after5_2]; frame_out
  exact inGrad_point V c t y

end Cert.Proof.HgrnIdeal
-- ==== Proof.HgrnO.lean ====
/- What the three calls of the output projection leave. -/
module

public import proofs.«01_k».proof.Proof.Gen.HgrnIdeal.Frame
public import Idealize.ShloMosaic.Lib.Pipeline.ValueKit
public import Idealize.ShloMosaic.Lib.Pointwise

@[expose] public section

set_option maxRecDepth 16384

noncomputable section

namespace Cert.Proof.HgrnIdeal

open Cert.HgrnIdeal Cert.HgrnIdeal.Gen
open Idealize.ShloMosaic Idealize.ShloMosaic.TcCoe Idealize.ShloMosaic.Tactic Idealize.SL.Sem
open Idealize.ShloMosaic.Pipeline (Dat)

/-- The output projection of the tokens. -/
def oOut (X : FVec Ideal S4096x1024 .bf16) (W : FVec Ideal S1x1024x1024 .bf16) : FVec Ideal S4096x1024 .f32 :=
  fun i => ∑ k : Fin 1024, (X (ix2 (i 0) k) : EReal) * W (ix3 (0 : Fin 1) k (i 1))

/-- The gradient of the tokens. -/
def oBack (D : FVec Ideal S4096x1024 .bf16) (W : FVec Ideal S1x1024x1024 .bf16) : FVec Ideal S4096x1024 .f32 :=
  fun i => ∑ j : Fin 1024, (D (ix2 (i 0) j) : EReal) * W (ix3 (0 : Fin 1) (i 1) j)

/-- The gradient of the weight. -/
def oGrad (X : FVec Ideal S4096x1024 .bf16) (D : FVec Ideal S4096x1024 .bf16) : FVec Ideal S1x1024x1024 .bf16 :=
  fun i => ∑ t : Fin 4096, (X (ix2 t (i 1)) : EReal) * D (ix2 t (i 2))

variable (V : (c : Dev nD) → (b : Ref sig .tc) → Buf (Elt Ideal) ((c : Thread nD τ).loc b))

theorem idx1 : ∀ t : Fin cfg1.N, win1_0.index t = ![(grid1.coords t 1).val, 0] ∧ win1_1.index t = ![0, 0, 0] ∧ win1_2.index t = ![(grid1.coords t 1).val, 0] :=
  (by decide +kernel : ∀ t : Fin grid1.N, _)

theorem idx2 : ∀ t : Fin cfg2.N, win2_0.index t = ![(grid2.coords t 0).val, 0] ∧ win2_1.index t = ![0, 0, 0] ∧ win2_2.index t = ![(grid2.coords t 0).val, 0] :=
  (by decide +kernel : ∀ t : Fin grid2.N, _)

theorem idx3 : ∀ t : Fin cfg3.N, win3_0.index t = ![0, (grid3.coords t 1).val] ∧ win3_1.index t = ![0, 0] ∧ win3_2.index t = ![0, (grid3.coords t 1).val, 0] :=
  (by decide +kernel : ∀ t : Fin grid3.N, _)

theorem oOut_point (c : Dev nD) (t : Fin cfg1.N) (y : S512x1024.Idx) : k1_pay1 (iblk1 V c 0 t) (iblk1 V c 1 t) y
    = oOut (V c main_arg3) (V c main_arg4) (((cfg1.win 2).blk t).view.emb y) := by
  obtain ⟨y0, y1, rfl⟩ : ∃ (y0 : Fin 512) (y1 : Fin 1024), y = ix2 y0 y1 := ⟨y 0, y 1, eq_ix2 y⟩
  pointwise [k1_pay1, oOut]
  blk_point [iblk1, idx1 t]

theorem oOut_final (c : Dev nD) : (dat1 V c).arrAt 2 cfg1.N = oOut (V c main_arg3) (V c main_arg4) := by
  refine (dat1 V c).arrAt_eq_of_covers 2 _ (by decide +kernel) fun t _ y => ?_
  blk_simp
  rw [after1_2]; frame_out
  exact oOut_point V c t y

theorem oBack_point (c : Dev nD) (t : Fin cfg2.N) (y : S512x1024.Idx) :
    k2_pay1 (iblk2 V c 0 t) (iblk2 V c 1 t) y
    = oBack (V c main_arg5) (V c main_arg4) (((cfg2.win 2).blk t).view.emb y) := by
  obtain ⟨y0, y1, rfl⟩ : ∃ (y0 : Fin 512) (y1 : Fin 1024), y = ix2 y0 y1 := ⟨y 0, y 1, eq_ix2 y⟩
  pointwise [k2_pay1, oBack]
  blk_point [iblk2, idx2 t]

theorem oBack_final (c : Dev nD) : (dat2 V c).arrAt 2 cfg2.N = oBack (V c main_arg5) (V c main_arg4) := by
  refine (dat2 V c).arrAt_eq_of_covers 2 _ (by decide +kernel) fun t _ y => ?_
  blk_simp
  rw [after2_2]; frame_out
  exact oBack_point V c t y

theorem oGrad_point (c : Dev nD) (t : Fin cfg3.N) (y : S1x512x1024.Idx) : k3_pay1 (iblk3 V c 0 t) (iblk3 V c 1 t) y
    = oGrad (V c main_arg3) (V c main_arg5) (((cfg3.win 2).blk t).view.emb y) := by
  obtain ⟨y0, y1, y2, rfl⟩ : ∃ (y0 : Fin 1) (y1 : Fin 512) (y2 : Fin 1024), y = ix3 y0 y1 y2 := ⟨y 0, y 1, y 2, eq_ix3 y⟩
  pointwise [k3_pay1, oGrad]
  blk_point [iblk3, idx3 t]

theorem oGrad_final (c : Dev nD) : (dat3 V c).arrAt 2 cfg3.N = oGrad (V c main_arg3) (V c main_arg5) := by
  refine (dat3 V c).arrAt_eq_of_covers 2 _ (by decide +kernel) fun t _ y => ?_
  blk_simp
  rw [after3_2]; frame_out
  exact oGrad_point V c t y

end Cert.Proof.HgrnIdeal
-- ==== Proof.HgrnRun.lean ====
/- The run of the program of the recurrence's projections: what each returned array holds at the end. -/
module

public import proofs.«01_k».proof.Proof.HgrnIn
public import proofs.«01_k».proof.Proof.HgrnO
public import Idealize.ShloMosaic.Lib.Ring
public import Idealize.ShloMosaic.Lib.Tactic
public import Idealize.ShloMosaic.Lib.Claim

@[expose] public section

set_option maxRecDepth 16384

noncomputable section

namespace Cert.Proof.HgrnIdeal

open Cert.HgrnIdeal Cert.HgrnIdeal.Gen
open Idealize.ShloMosaic Idealize.ShloMosaic.TcCoe Idealize.ShloMosaic.Tactic Idealize.SL.Sem
open Idealize.ShloMosaic.Pipeline (Dat)
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem end_v0 (c : Dev nD) : W6 m ρ c (Proc.devRef .tc main_v0) = inOut (m ((c : Thread nD τ).loc main_arg0)) (m ((c : Thread nD τ).loc main_arg1)) :=
  (W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans ((inOut_final (V0 m ρ) c).trans (congrArg₂ inOut (W0_args m ρ c main_arg0 (by decide)) (W0_args m ρ c main_arg1 (by decide)))))))))

theorem end_v4 (c : Dev nD) : W6 m ρ c (Proc.devRef .tc main_v4) = inBack (m ((c : Thread nD τ).loc main_arg2)) (m ((c : Thread nD τ).loc main_arg1)) :=
  (W6_of m ρ c main_v4 (by decide)).trans ((W5_arr m ρ c 2).trans ((inBack_final (V4 m ρ) c).trans (congrArg₂ inBack (W4_args m ρ c main_arg2 (by decide)) (W4_args m ρ c main_arg1 (by decide)))))

theorem end_v5 (c : Dev nD) : W6 m ρ c (Proc.devRef .tc main_v5) = inGrad (m ((c : Thread nD τ).loc main_arg0)) (m ((c : Thread nD τ).loc main_arg2)) :=
  (W6_arr m ρ c 2).trans ((inGrad_final (V5 m ρ) c).trans (congrArg₂ inGrad (W5_args m ρ c main_arg0 (by decide)) (W5_args m ρ c main_arg2 (by decide))))

theorem end_v1 (c : Dev nD) : W6 m ρ c (Proc.devRef .tc main_v1) = oOut (m ((c : Thread nD τ).loc main_arg3)) (m ((c : Thread nD τ).loc main_arg4)) :=
  (W6_of m ρ c main_v1 (by decide)).trans ((W5_of m ρ c main_v1 (by decide)).trans ((W4_of m ρ c main_v1 (by decide)).trans ((W3_of m ρ c main_v1 (by decide)).trans ((W2_arr m ρ c 2).trans ((oOut_final (V1 m ρ) c).trans (congrArg₂ oOut (W1_args m ρ c main_arg3 (by decide)) (W1_args m ρ c main_arg4 (by decide))))))))

theorem end_v2 (c : Dev nD) : W6 m ρ c (Proc.devRef .tc main_v2) = oBack (m ((c : Thread nD τ).loc main_arg5)) (m ((c : Thread nD τ).loc main_arg4)) :=
  (W6_of m ρ c main_v2 (by decide)).trans ((W5_of m ρ c main_v2 (by decide)).trans ((W4_of m ρ c main_v2 (by decide)).trans ((W3_arr m ρ c 2).trans ((oBack_final (V2 m ρ) c).trans (congrArg₂ oBack (W2_args m ρ c main_arg5 (by decide)) (W2_args m ρ c main_arg4 (by decide)))))))

theorem end_v3 (c : Dev nD) : W6 m ρ c (Proc.devRef .tc main_v3) = oGrad (m ((c : Thread nD τ).loc main_arg3)) (m ((c : Thread nD τ).loc main_arg5)) :=
  (W6_of m ρ c main_v3 (by decide)).trans ((W5_of m ρ c main_v3 (by decide)).trans ((W4_arr m ρ c 2).trans ((oGrad_final (V3 m ρ) c).trans (congrArg₂ oGrad (W3_args m ρ c main_arg3 (by decide)) (W3_args m ρ c main_arg5 (by decide))))))

set_option backward.isDefEq.respectTransparency.types false in
/-- Every execution ends with the products of the arguments in the results, and the arguments as launched. -/
theorem ran : θ_run defs (onTc (τ := τ) (main (F := Ideal))) ⟨m, fun _ => 0, ρ⟩ (fun r => ∀ c : Dev nD,
      r.2.mem ((c.tc : Thread nD τ).loc main_v0) = inOut (m ((c.tc : Thread nD τ).loc main_arg0)) (m ((c.tc : Thread nD τ).loc main_arg1))
      ∧ r.2.mem ((c.tc : Thread nD τ).loc main_v4) = inBack (m ((c.tc : Thread nD τ).loc main_arg2)) (m ((c.tc : Thread nD τ).loc main_arg1))
      ∧ r.2.mem ((c.tc : Thread nD τ).loc main_v5) = inGrad (m ((c.tc : Thread nD τ).loc main_arg0)) (m ((c.tc : Thread nD τ).loc main_arg2))
      ∧ r.2.mem ((c.tc : Thread nD τ).loc main_v1) = oOut (m ((c.tc : Thread nD τ).loc main_arg3)) (m ((c.tc : Thread nD τ).loc main_arg4))
      ∧ r.2.mem ((c.tc : Thread nD τ).loc main_v2) = oBack (m ((c.tc : Thread nD τ).loc main_arg5)) (m ((c.tc : Thread nD τ).loc main_arg4))
      ∧ r.2.mem ((c.tc : Thread nD τ).loc main_v3) = oGrad (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨(h c _ (mem_uc main_v0 (by decide))).trans (end_v0 m ρ c),
       (h c _ (mem_uc main_v4 (by decide))).trans (end_v4 m ρ c),
       (h c _ (mem_uc main_v5 (by decide))).trans (end_v5 m ρ c),
       (h c _ (mem_uc main_v1 (by decide))).trans (end_v1 m ρ c),
       (h c _ (mem_uc main_v2 (by decide))).trans (end_v2 m ρ c),
       (h c _ (mem_uc main_v3 (by decide))).trans (end_v3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Proof.HgrnIdeal
-- ==== Proof.HgrnReference.lean ====
/- The reference's projections around the recurrence and their gradients, read at an index. -/
module

public import proofs.«01_k».proof.Proof.Gen.HgrnReferenceIdeal.Run
public import proofs.«01_k».proof.Proof.HgrnIn
public import proofs.«01_k».proof.Proof.HgrnO
public import Idealize.ShloMosaic.Lib.Pipeline.ValueKit
public import Idealize.ShloMosaic.Lib.Pointwise

@[expose] public section

set_option maxRecDepth 16384

noncomputable section

namespace Cert.Proof.HgrnReference

open Cert.HgrnReferenceIdeal Cert.HgrnReferenceIdeal.Gen
open Idealize.ShloMosaic Idealize.ShloMosaic.TcCoe Idealize.ShloMosaic.Tactic Idealize.SL.Sem
open Cert.Proof.HgrnIdeal (inOut inBack inGrad inSlab inPlace inCol oOut oBack oGrad)

/-- The weight of the input projection, its blocks of columns side by side. -/
def inW (W : FVec Ideal S4x1024x1024 .bf16) : FVec Ideal S1024x4096 .f32 :=
  shapeCast _ (transpose S1024x4x1024 [1, 0, 2] (extf .f32 W bitsLt_bf16_f32) transposes_S4x1024x1024_S1024x4x1024_1_0_2) shapeCasts_S1024x4x1024_S1024x4096

theorem inW_at (W : FVec Ideal S4x1024x1024 .bf16) (k : Fin 1024) (j : Fin 4096) : inW W (ix2 k j) = (W (ix3 (inSlab j) k (inPlace j)) : EReal) := by
  pointwise [inW]
  blk_ext [inSlab, inPlace]

/-- The input projection. -/
def inY (X : FVec Ideal S4096x1024 .bf16) (W : FVec Ideal S4x1024x1024 .bf16) : FVec Ideal S4096x4096 .f32 :=
  Host.dotGeneral dot_S4096x1024_S1024x4096_S4096x4096_1_0_0_1_n_n none (extf .f32 X bitsLt_bf16_f32) (inW W)

theorem inY_eq (X : FVec Ideal S4096x1024 .bf16) (W : FVec Ideal S4x1024x1024 .bf16) : inY X W = inOut X W := by
  funext y
  obtain ⟨t, j, rfl⟩ : ∃ (t : Fin 4096) (j : Fin 4096), y = ix2 t j := ⟨y 0, y 1, eq_ix2 y⟩
  show _ = (∑ k : Fin 1024, (X (ix2 t k) : EReal) * W (ix3 (inSlab j) k (inPlace j)) : EReal)
  pointwise [inY]
  exact Finset.sum_congr rfl fun k _ => congrArg (fun z : EReal => (X (ix2 t k) : EReal) * z) (inW_at W k j)

/-- The gradient of its tokens. -/
def inDX (D : FVec Ideal S4096x4096 .bf16) (W : FVec Ideal S4x1024x1024 .bf16) : FVec Ideal S4096x1024 .f32 :=
  Host.dotGeneral dot_S4096x4096_S1024x4096_S4096x1024_1_1_0_0_n_n none (extf .f32 D bitsLt_bf16_f32) (inW W)

theorem inDX_eq (D : FVec Ideal S4096x4096 .bf16) (W : FVec Ideal S4x1024x1024 .bf16) : inDX D W = inBack D W := by
  funext y
  obtain ⟨t, k, rfl⟩ : ∃ (t : Fin 4096) (k : Fin 1024), y = ix2 t k := ⟨y 0, y 1, eq_ix2 y⟩
  show _ = (∑ j : Fin 4096, (D (ix2 t j) : EReal) * W (ix3 (inSlab j) k (inPlace j)) : EReal)
  pointwise [inDX]
  exact Finset.sum_congr rfl fun j _ => congrArg (fun z : EReal => (D (ix2 t j) : EReal) * z) (inW_at W k j)

/-- The gradient of its weight. -/
def inDW (X : FVec Ideal S4096x1024 .bf16) (D : FVec Ideal S4096x4096 .bf16) : FVec Ideal S4x1024x1024 .bf16 :=
  truncf .bf16 (transpose S4x1024x1024 [1, 0, 2] (shapeCast _ (transpose S1024x4096 [1, 0] (Host.dotGeneral dot_S4096x4096_S4096x1024_S4096x1024_0_0_1_1_n_n none (extf .f32 D bitsLt_bf16_f32) (extf .f32 X bitsLt_bf16_f32)) transposes_S4096x1024_S1024x4096_1_0) shapeCasts_S1024x4096_S1024x4x1024) transposes_S1024x4x1024_S4x1024x1024_1_0_2) bitsLt_bf16_f32

theorem inDW_eq (X : FVec Ideal S4096x1024 .bf16) (D : FVec Ideal S4096x4096 .bf16) : inDW X D = inGrad X D := by
  funext y
  obtain ⟨s, k, n, rfl⟩ : ∃ (s : Fin 4) (k : Fin 1024) (n : Fin 1024), y = ix3 s k n := ⟨y 0, y 1, y 2, eq_ix3 y⟩
  show _ = (∑ t : Fin 4096, (X (ix2 t k) : EReal) * D (ix2 t (inCol s n)) : EReal)
  pointwise [inDW]
  refine Finset.sum_congr rfl fun t _ => (mul_comm _ _).trans (congrArg (fun z : EReal => (X (ix2 t k) : EReal) * z) ?_)
  blk_ext [inCol]

/-- The weight of the output projection, its blocks of columns side by side. -/
def oW (W : FVec Ideal S1x1024x1024 .bf16) : FVec Ideal S1024x1024 .f32 :=
  shapeCast _ (transpose S1024x1x1024 [1, 0, 2] (extf .f32 W bitsLt_bf16_f32) transposes_S1x1024x1024_S1024x1x1024_1_0_2) shapeCasts_S1024x1x1024_S1024x1024

theorem oW_at (W : FVec Ideal S1x1024x1024 .bf16) (k : Fin 1024) (j : Fin 1024) : oW W (ix2 k j) = (W (ix3 (0 : Fin 1) k j) : EReal) := by
  pointwise [oW]
  blk_ext

/-- The output projection. -/
def oY (X : FVec Ideal S4096x1024 .bf16) (W : FVec Ideal S1x1024x1024 .bf16) : FVec Ideal S4096x1024 .f32 :=
  Host.dotGeneral dot_S4096x1024_S1024x1024_S4096x1024_1_0_0_1_n_n none (extf .f32 X bitsLt_bf16_f32) (oW W)

theorem oY_eq (X : FVec Ideal S4096x1024 .bf16) (W : FVec Ideal S1x1024x1024 .bf16) : oY X W = oOut X W := by
  funext y
  obtain ⟨t, j, rfl⟩ : ∃ (t : Fin 4096) (j : Fin 1024), y = ix2 t j := ⟨y 0, y 1, eq_ix2 y⟩
  show _ = (∑ k : Fin 1024, (X (ix2 t k) : EReal) * W (ix3 (0 : Fin 1) k j) : EReal)
  pointwise [oY]
  exact Finset.sum_congr rfl fun k _ => congrArg (fun z : EReal => (X (ix2 t k) : EReal) * z) (oW_at W k j)

/-- The gradient of its tokens. -/
def oDX (D : FVec Ideal S4096x1024 .bf16) (W : FVec Ideal S1x1024x1024 .bf16) : FVec Ideal S4096x1024 .f32 :=
  Host.dotGeneral dot_S4096x1024_S1024x1024_S4096x1024_1_1_0_0_n_n none (extf .f32 D bitsLt_bf16_f32) (oW W)

theorem oDX_eq (D : FVec Ideal S4096x1024 .bf16) (W : FVec Ideal S1x1024x1024 .bf16) : oDX D W = oBack D W := by
  funext y
  obtain ⟨t, k, rfl⟩ : ∃ (t : Fin 4096) (k : Fin 1024), y = ix2 t k := ⟨y 0, y 1, eq_ix2 y⟩
  show _ = (∑ j : Fin 1024, (D (ix2 t j) : EReal) * W (ix3 (0 : Fin 1) k j) : EReal)
  pointwise [oDX]
  exact Finset.sum_congr rfl fun j _ => congrArg (fun z : EReal => (D (ix2 t j) : EReal) * z) (oW_at W k j)

/-- The gradient of its weight. -/
def oDW (X : FVec Ideal S4096x1024 .bf16) (D : FVec Ideal S4096x1024 .bf16) : FVec Ideal S1x1024x1024 .bf16 :=
  truncf .bf16 (transpose S1x1024x1024 [1, 0, 2] (shapeCast _ (transpose S1024x1024 [1, 0] (Host.dotGeneral dot_S4096x1024_S4096x1024_S1024x1024_0_0_1_1_n_n none (extf .f32 D bitsLt_bf16_f32) (extf .f32 X bitsLt_bf16_f32)) transposes_S1024x1024_S1024x1024_1_0) shapeCasts_S1024x1024_S1024x1x1024) transposes_S1024x1x1024_S1x1024x1024_1_0_2) bitsLt_bf16_f32

theorem oDW_eq (X : FVec Ideal S4096x1024 .bf16) (D : FVec Ideal S4096x1024 .bf16) : oDW X D = oGrad X D := by
  funext y
  obtain ⟨s, k, n, rfl⟩ : ∃ (s : Fin 1) (k : Fin 1024) (n : Fin 1024), y = ix3 s k n := ⟨y 0, y 1, y 2, eq_ix3 y⟩
  show _ = (∑ t : Fin 4096, (X (ix2 t k) : EReal) * D (ix2 t n) : EReal)
  pointwise [oDW]
  refine Finset.sum_congr rfl fun t _ => (mul_comm _ _).trans (congrArg (fun z : EReal => (X (ix2 t k) : EReal) * z) ?_)
  blk_ext

/-- Every execution of the reference ends with the products of the arguments in the results, and the arguments as launched. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = inOut (m ((c.tc : Thread nD τ).loc main_arg0)) (m ((c.tc : Thread nD τ).loc main_arg1))
      ∧ r.2.mem ((c.tc : Thread nD τ).loc main_v13) = inBack (m ((c.tc : Thread nD τ).loc main_arg2)) (m ((c.tc : Thread nD τ).loc main_arg1))
      ∧ r.2.mem ((c.tc : Thread nD τ).loc main_v16) = inGrad (m ((c.tc : Thread nD τ).loc main_arg0)) (m ((c.tc : Thread nD τ).loc main_arg2))
      ∧ r.2.mem ((c.tc : Thread nD τ).loc main_v9) = oOut (m ((c.tc : Thread nD τ).loc main_arg3)) (m ((c.tc : Thread nD τ).loc main_arg4))
      ∧ r.2.mem ((c.tc : Thread nD τ).loc main_v20) = oBack (m ((c.tc : Thread nD τ).loc main_arg5)) (m ((c.tc : Thread nD τ).loc main_arg4))
      ∧ r.2.mem ((c.tc : Thread nD τ).loc main_v23) = oGrad (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (inY_eq _ _),
      (h c).2.1.trans (inDX_eq _ _),
      (h c).2.2.1.trans (inDW_eq _ _),
      (h c).2.2.2.1.trans (oY_eq _ _),
      (h c).2.2.2.2.1.trans (oDX_eq _ _),
      (h c).2.2.2.2.2.1.trans (oDW_eq _ _), (h c).2.2.2.2.2.2⟩)
    (Cert.HgrnReferenceIdeal.Value.run (F := Ideal) m ρ)

end Cert.Proof.HgrnReference
-- ==== Proof.MlaIn.lean ====
/- What the three calls of the input projection leave. -/
module

public import proofs.«01_k».proof.Proof.Gen.MlaIdeal.Frame
public import Idealize.ShloMosaic.Lib.Pipeline.ValueKit
public import Idealize.ShloMosaic.Lib.Pointwise

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic Idealize.SL.Sem
open Idealize.ShloMosaic.Pipeline (Dat)

/-- The input projection of the tokens. -/
def inOut (X : FVec Ideal S4096x1024 .bf16) (W : FVec Ideal S1x1024x1056 .bf16) : FVec Ideal S4096x1056 .f32 :=
  fun i => ∑ k : Fin 1024, (X (ix2 (i 0) k) : EReal) * W (ix3 (0 : Fin 1) k (i 1))

/-- The gradient of the tokens. -/
def inBack (D : FVec Ideal S4096x1056 .bf16) (W : FVec Ideal S1x1024x1056 .bf16) : FVec Ideal S4096x1024 .f32 :=
  fun i => ∑ j : Fin 1056, (D (ix2 (i 0) j) : EReal) * W (ix3 (0 : Fin 1) (i 1) j)

/-- The gradient of the weight. -/
def inGrad (X : FVec Ideal S4096x1024 .bf16) (D : FVec Ideal S4096x1056 .bf16) : FVec Ideal S1x1024x1056 .bf16 :=
  fun i => ∑ t : Fin 4096, (X (ix2 t (i 1)) : EReal) * D (ix2 t (i 2))

variable (V : (c : Dev nD) → (b : Ref sig .tc) → Buf (Elt Ideal) ((c : Thread nD τ).loc b))

theorem idx0 : ∀ t : Fin cfg0.N, win0_0.index t = ![(grid0.coords t 1).val, 0] ∧ win0_1.index t = ![0, 0, 0] ∧ win0_2.index t = ![(grid0.coords t 1).val, 0] :=
  (by decide +kernel : ∀ t : Fin grid0.N, _)

theorem idx10 : ∀ t : Fin cfg10.N, win10_0.index t = ![(grid10.coords t 0).val, 0] ∧ win10_1.index t = ![0, 0, 0] ∧ win10_2.index t = ![(grid10.coords t 0).val, 0] :=
  (by decide +kernel : ∀ t : Fin grid10.N, _)

theorem idx11 : ∀ t : Fin cfg11.N, win11_0.index t = ![0, (grid11.coords t 1).val] ∧ win11_1.index t = ![0, 0] ∧ win11_2.index t = ![0, (grid11.coords t 1).val, 0] :=
  (by decide +kernel : ∀ t : Fin grid11.N, _)

theorem inOut_point (c : Dev nD) (t : Fin cfg0.N) (y : S512x1056.Idx) : k0_pay1 (iblk0 V c 0 t) (iblk0 V c 1 t) y
    = inOut (V c main_arg0) (V c main_arg1) (((cfg0.win 2).blk t).view.emb y) := by
  obtain ⟨y0, y1, rfl⟩ : ∃ (y0 : Fin 512) (y1 : Fin 1056), y = ix2 y0 y1 := ⟨y 0, y 1, eq_ix2 y⟩
  pointwise [k0_pay1, inOut]
  blk_point [iblk0, idx0 t]

theorem inOut_final (c : Dev nD) : (dat0 V c).arrAt 2 cfg0.N = inOut (V c main_arg0) (V c main_arg1) := by
  refine (dat0 V c).arrAt_eq_of_covers 2 _ (by decide +kernel) fun t _ y => ?_
  blk_simp
  rw [after0_2]; frame_out
  exact inOut_point V c t y

theorem inBack_point (c : Dev nD) (t : Fin cfg10.N) (y : S512x1024.Idx) :
    k10_pay1 (iblk10 V c 0 t) (iblk10 V c 1 t) y
    = inBack (V c main_arg2) (V c main_arg1) (((cfg10.win 2).blk t).view.emb y) := by
  obtain ⟨y0, y1, rfl⟩ : ∃ (y0 : Fin 512) (y1 : Fin 1024), y = ix2 y0 y1 := ⟨y 0, y 1, eq_ix2 y⟩
  pointwise [k10_pay1, inBack]
  blk_point [iblk10, idx10 t]

theorem inBack_final (c : Dev nD) : (dat10 V c).arrAt 2 cfg10.N = inBack (V c main_arg2) (V c main_arg1) := by
  refine (dat10 V c).arrAt_eq_of_covers 2 _ (by decide +kernel) fun t _ y => ?_
  blk_simp
  rw [after10_2]; frame_out
  exact inBack_point V c t y

theorem inGrad_point (c : Dev nD) (t : Fin cfg11.N) (y : S1x512x1056.Idx) : k11_pay1 (iblk11 V c 0 t) (iblk11 V c 1 t) y
    = inGrad (V c main_arg0) (V c main_arg2) (((cfg11.win 2).blk t).view.emb y) := by
  obtain ⟨y0, y1, y2, rfl⟩ : ∃ (y0 : Fin 1) (y1 : Fin 512) (y2 : Fin 1056), y = ix3 y0 y1 y2 := ⟨y 0, y 1, y 2, eq_ix3 y⟩
  pointwise [k11_pay1, inGrad]
  blk_point [iblk11, idx11 t]

theorem inGrad_final (c : Dev nD) : (dat11 V c).arrAt 2 cfg11.N = inGrad (V c main_arg0) (V c main_arg2) := by
  refine (dat11 V c).arrAt_eq_of_covers 2 _ (by decide +kernel) fun t _ y => ?_
  blk_simp
  rw [after11_2]; frame_out
  exact inGrad_point V c t y

end Cert.Proof.MlaIdeal
-- ==== Proof.MlaQb.lean ====
/- What the three calls of the projection to the queries leave. -/
module

public import proofs.«01_k».proof.Proof.Gen.MlaIdeal.Frame
public import Idealize.ShloMosaic.Lib.Pipeline.ValueKit
public import Idealize.ShloMosaic.Lib.Pointwise

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic Idealize.SL.Sem
open Idealize.ShloMosaic.Pipeline (Dat)

/-- The block of a column of the projection to the queries. -/
def qbSlab (j : Fin 1536) : Fin 4 := ⟨j.val / 384, by omega⟩

/-- The place of a column in its block. -/
def qbPlace (j : Fin 1536) : Fin 384 := ⟨j.val % 384, by omega⟩

/-- The column at a place of a block. -/
def qbCol (s : Fin 4) (n : Fin 384) : Fin 1536 := ⟨s.val * 384 + n.val, by omega⟩

/-- The projection to the queries of the tokens. -/
def qbOut (X : FVec Ideal S4096x768 .bf16) (W : FVec Ideal S4x768x384 .bf16) : FVec Ideal S4096x1536 .f32 :=
  fun i => ∑ k : Fin 768, (X (ix2 (i 0) k) : EReal) * W (ix3 (qbSlab (i 1)) k (qbPlace (i 1)))

/-- The gradient of the tokens. -/
def qbBack (D : FVec Ideal S4096x1536 .bf16) (W : FVec Ideal S4x768x384 .bf16) : FVec Ideal S4096x768 .f32 :=
  fun i => ∑ j : Fin 1536, (D (ix2 (i 0) j) : EReal) * W (ix3 (qbSlab j) (i 1) (qbPlace j))

/-- The gradient of the weight. -/
def qbGrad (X : FVec Ideal S4096x768 .bf16) (D : FVec Ideal S4096x1536 .bf16) : FVec Ideal S4x768x384 .bf16 :=
  fun i => ∑ t : Fin 4096, (X (ix2 t (i 1)) : EReal) * D (ix2 t (qbCol (i 0) (i 2)))

/-- A sum over the columns is the sum over the blocks. -/
theorem qb_blocks (f : Fin 1536 → EReal) : ∑ j, f j
    = ∑ n : Fin 384, f ⟨n.val, by omega⟩ + ∑ n : Fin 384, f ⟨384 + n.val, by omega⟩ + ∑ n : Fin 384, f ⟨768 + n.val, by omega⟩ + ∑ n : Fin 384, f ⟨1152 + n.val, by omega⟩ := by
  have h1 := Fin.sum_univ_add (a := 1152) (b := 384) f
  have h2 := Fin.sum_univ_add (a := 768) (b := 384) fun j => f (Fin.castAdd 384 j)
  have h3 := Fin.sum_univ_add (a := 384) (b := 384) fun j => f (Fin.castAdd 384 (Fin.castAdd 384 j))
  rw [h2, h3] at h1
  exact h1

theorem qb_at {j : Fin 1536} {s : Fin 4} {n : Fin 384} (h : j.val = 384 * s.val + n.val) : qbSlab j = s ∧ qbPlace j = n := by
  constructor <;> apply Fin.ext <;> simp only [qbSlab, qbPlace] <;> omega

theorem qbBack_blocks (D : FVec Ideal S4096x1536 .bf16) (W : FVec Ideal S4x768x384 .bf16) (i : S4096x768.Idx) : qbBack D W i
    = ∑ n : Fin 384, (D (ix2 (i 0) ⟨n.val, by omega⟩) : EReal) * W (ix3 (0 : Fin 4) (i 1) n) + ∑ n : Fin 384, (D (ix2 (i 0) ⟨384 + n.val, by omega⟩) : EReal) * W (ix3 (1 : Fin 4) (i 1) n) + ∑ n : Fin 384, (D (ix2 (i 0) ⟨768 + n.val, by omega⟩) : EReal) * W (ix3 (2 : Fin 4) (i 1) n) + ∑ n : Fin 384, (D (ix2 (i 0) ⟨1152 + n.val, by omega⟩) : EReal) * W (ix3 (3 : Fin 4) (i 1) n) := by
  unfold qbBack
  rw [qb_blocks]
  refine congrArg₂ _ (congrArg₂ _ (congrArg₂ _ ?_ ?_) ?_) ?_
  · refine Finset.sum_congr rfl fun n _ => ?_
    obtain ⟨h1, h2⟩ := qb_at (j := ⟨n.val, by omega⟩) (s := 0) (n := n) (by simp)
    rw [h1, h2]
  · refine Finset.sum_congr rfl fun n _ => ?_
    obtain ⟨h1, h2⟩ := qb_at (j := ⟨384 + n.val, by omega⟩) (s := 1) (n := n) (by simp)
    rw [h1, h2]
  · refine Finset.sum_congr rfl fun n _ => ?_
    obtain ⟨h1, h2⟩ := qb_at (j := ⟨768 + n.val, by omega⟩) (s := 2) (n := n) (by simp)
    rw [h1, h2]
  · refine Finset.sum_congr rfl fun n _ => ?_
    obtain ⟨h1, h2⟩ := qb_at (j := ⟨1152 + n.val, by omega⟩) (s := 3) (n := n) (by simp)
    rw [h1, h2]

section Block

variable (x0 : Vec Ideal S512x768 .bf16) (x1 : Vec Ideal S4x768x384 .bf16)

/-- A block of the projection to the queries. -/
def qbBlk (y : S512x1536.Idx) : Elt Ideal .f32 :=
  (∑ k : Fin 768, (x0 (ix2 (y 0) k) : EReal) * x1 (ix3 (qbSlab (y 1)) k (qbPlace (y 1))) : EReal)

theorem qb_piece0 (x : S512x384.Idx) : k1_pay1 x0 (View.ld x1 r1_1) x = qbBlk x0 x1 (r1_2.emb x) := by
  obtain ⟨a, b, rfl⟩ : ∃ (a : Fin 512) (b : Fin 384), x = ix2 a b := ⟨x 0, x 1, eq_ix2 x⟩
  have e0 : r1_2.emb (ix2 a b) 0 = a := Fin.ext (by show 0 + 1 * a.val = a.val; omega)
  have e1 : (r1_2.emb (ix2 a b) 1).val = 384 * 0 + b.val := by show 0 + 1 * b.val = 384 * 0 + b.val; omega
  obtain ⟨e2, e3⟩ := qb_at (j := r1_2.emb (ix2 a b) 1) (s := 0) (n := b) e1
  unfold qbBlk
  rw [e0, e2, e3]
  pointwise [k1_pay1]

theorem qb_piece1 (x : S512x384.Idx) : k1_pay2 x0 (View.ld x1 r1_3) x = qbBlk x0 x1 (r1_4.emb x) := by
  obtain ⟨a, b, rfl⟩ : ∃ (a : Fin 512) (b : Fin 384), x = ix2 a b := ⟨x 0, x 1, eq_ix2 x⟩
  have e0 : r1_4.emb (ix2 a b) 0 = a := Fin.ext (by show 0 + 1 * a.val = a.val; omega)
  have e1 : (r1_4.emb (ix2 a b) 1).val = 384 * 1 + b.val := by show 384 + 1 * b.val = 384 * 1 + b.val; omega
  obtain ⟨e2, e3⟩ := qb_at (j := r1_4.emb (ix2 a b) 1) (s := 1) (n := b) e1
  unfold qbBlk
  rw [e0, e2, e3]
  pointwise [k1_pay2]

theorem qb_piece2 (x : S512x384.Idx) : k1_pay3 x0 (View.ld x1 r1_5) x = qbBlk x0 x1 (r1_6.emb x) := by
  obtain ⟨a, b, rfl⟩ : ∃ (a : Fin 512) (b : Fin 384), x = ix2 a b := ⟨x 0, x 1, eq_ix2 x⟩
  have e0 : r1_6.emb (ix2 a b) 0 = a := Fin.ext (by show 0 + 1 * a.val = a.val; omega)
  have e1 : (r1_6.emb (ix2 a b) 1).val = 384 * 2 + b.val := by show 768 + 1 * b.val = 384 * 2 + b.val; omega
  obtain ⟨e2, e3⟩ := qb_at (j := r1_6.emb (ix2 a b) 1) (s := 2) (n := b) e1
  unfold qbBlk
  rw [e0, e2, e3]
  pointwise [k1_pay3]

theorem qb_piece3 (x : S512x384.Idx) : k1_pay4 x0 (View.ld x1 r1_7) x = qbBlk x0 x1 (r1_8.emb x) := by
  obtain ⟨a, b, rfl⟩ : ∃ (a : Fin 512) (b : Fin 384), x = ix2 a b := ⟨x 0, x 1, eq_ix2 x⟩
  have e0 : r1_8.emb (ix2 a b) 0 = a := Fin.ext (by show 0 + 1 * a.val = a.val; omega)
  have e1 : (r1_8.emb (ix2 a b) 1).val = 384 * 3 + b.val := by show 1152 + 1 * b.val = 384 * 3 + b.val; omega
  obtain ⟨e2, e3⟩ := qb_at (j := r1_8.emb (ix2 a b) 1) (s := 3) (n := b) e1
  unfold qbBlk
  rw [e0, e2, e3]
  pointwise [k1_pay4]

theorem qb_block (y : S512x1536.Idx) : out1_2 x0 x1 y = qbBlk x0 x1 y := by
  frame_out
  refine View.canon_apply_of_pieces (qbBlk x0 x1) _ ?_ y (cover1_2 _ _ _ _ y)
  intro z hz x
  rcases List.mem_cons.mp hz with rfl | hz
  · exact qb_piece3 x0 x1 x
  rcases List.mem_cons.mp hz with rfl | hz
  · exact qb_piece2 x0 x1 x
  rcases List.mem_cons.mp hz with rfl | hz
  · exact qb_piece1 x0 x1 x
  rcases List.mem_singleton.mp hz with rfl
  exact qb_piece0 x0 x1 x

end Block

variable (V : (c : Dev nD) → (b : Ref sig .tc) → Buf (Elt Ideal) ((c : Thread nD τ).loc b))

theorem idx1 : ∀ t : Fin cfg1.N, win1_0.index t = ![(grid1.coords t 0).val, 0] ∧ win1_1.index t = ![0, 0, 0] ∧ win1_2.index t = ![(grid1.coords t 0).val, 0] :=
  (by decide +kernel : ∀ t : Fin grid1.N, _)

theorem idx6 : ∀ t : Fin cfg6.N, win6_0.index t = ![(grid6.coords t 0).val, 0] ∧ win6_1.index t = ![0, 0, 0] ∧ win6_2.index t = ![(grid6.coords t 0).val, 0] :=
  (by decide +kernel : ∀ t : Fin grid6.N, _)

theorem idx7 : ∀ t : Fin cfg7.N, win7_0.index t = ![0, (grid7.coords t 1).val] ∧ win7_1.index t = ![0, (grid7.coords t 0).val] ∧ win7_2.index t = ![(grid7.coords t 0).val, (grid7.coords t 1).val, 0] :=
  (by decide +kernel : ∀ t : Fin grid7.N, _)

theorem qbOut_point (c : Dev nD) (t : Fin cfg1.N) (y : S512x1536.Idx) :
    qbBlk (iblk1 V c 0 t) (iblk1 V c 1 t) y = qbOut (V c main_arg3) (V c main_arg4) (((cfg1.win 2).blk t).view.emb y) := by
  obtain ⟨y0, y1, rfl⟩ : ∃ (y0 : Fin 512) (y1 : Fin 1536), y = ix2 y0 y1 := ⟨y 0, y 1, eq_ix2 y⟩
  unfold qbBlk qbOut
  refine Finset.sum_congr rfl fun k _ => congrArg₂ (fun a b : EReal => a * b) ?_ ?_
  · blk_ext [iblk1, idx1 t]
  · blk_ext [iblk1, idx1 t, qbSlab, qbPlace]

theorem qbOut_final (c : Dev nD) : (dat1 V c).arrAt 2 cfg1.N = qbOut (V c main_arg3) (V c main_arg4) := by
  refine (dat1 V c).arrAt_eq_of_covers 2 _ (by decide +kernel) fun t _ y => ?_
  blk_simp
  rw [after1_2]
  exact (qb_block _ _ y).trans (qbOut_point V c t y)

theorem qbBack_point (c : Dev nD) (t : Fin cfg6.N) (y : S512x768.Idx) :
    k6_pay1 (View.ld (iblk6 V c 0 t) r6_0) (View.ld (iblk6 V c 1 t) r6_1) (View.ld (iblk6 V c 0 t) r6_2) (View.ld (iblk6 V c 1 t) r6_3) (View.ld (iblk6 V c 0 t) r6_4) (View.ld (iblk6 V c 1 t) r6_5) (View.ld (iblk6 V c 0 t) r6_6) (View.ld (iblk6 V c 1 t) r6_7) y
    = qbBack (V c main_arg5) (V c main_arg4) (((cfg6.win 2).blk t).view.emb y) := by
  refine Eq.trans ?_ (qbBack_blocks _ _ _).symm
  obtain ⟨y0, y1, rfl⟩ : ∃ (y0 : Fin 512) (y1 : Fin 768), y = ix2 y0 y1 := ⟨y 0, y 1, eq_ix2 y⟩
  pointwise [k6_pay1]
  blk_point [iblk6, idx6 t]

theorem qbBack_final (c : Dev nD) : (dat6 V c).arrAt 2 cfg6.N = qbBack (V c main_arg5) (V c main_arg4) := by
  refine (dat6 V c).arrAt_eq_of_covers 2 _ (by decide +kernel) fun t _ y => ?_
  blk_simp
  rw [after6_2]; frame_out
  exact qbBack_point V c t y

theorem qbGrad_point (c : Dev nD) (t : Fin cfg7.N) (y : S1x384x384.Idx) : k7_pay1 (iblk7 V c 0 t) (iblk7 V c 1 t) y
    = qbGrad (V c main_arg3) (V c main_arg5) (((cfg7.win 2).blk t).view.emb y) := by
  obtain ⟨y0, y1, y2, rfl⟩ : ∃ (y0 : Fin 1) (y1 : Fin 384) (y2 : Fin 384), y = ix3 y0 y1 y2 := ⟨y 0, y 1, y 2, eq_ix3 y⟩
  pointwise [k7_pay1, qbGrad]
  blk_point [iblk7, idx7 t, qbCol]

theorem qbGrad_final (c : Dev nD) : (dat7 V c).arrAt 2 cfg7.N = qbGrad (V c main_arg3) (V c main_arg5) := by
  refine (dat7 V c).arrAt_eq_of_covers 2 _ (by decide +kernel) fun t _ y => ?_
  blk_simp
  rw [after7_2]; frame_out
  exact qbGrad_point V c t y

end Cert.Proof.MlaIdeal
-- ==== Proof.MlaKvb.lean ====
/- What the three calls of the projection to the keys and values leave. -/
module

public import proofs.«01_k».proof.Proof.Gen.MlaIdeal.Frame
public import Idealize.ShloMosaic.Lib.Pipeline.ValueKit
public import Idealize.ShloMosaic.Lib.Pointwise

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic Idealize.SL.Sem
open Idealize.ShloMosaic.Pipeline (Dat)

/-- The block of a column of the projection to the keys and values. -/
def kvbSlab (j : Fin 2048) : Fin 4 := ⟨j.val / 512, by omega⟩

/-- The place of a column in its block. -/
def kvbPlace (j : Fin 2048) : Fin 512 := ⟨j.val % 512, by omega⟩

/-- The column at a place of a block. -/
def kvbCol (s : Fin 4) (n : Fin 512) : Fin 2048 := ⟨s.val * 512 + n.val, by omega⟩

/-- The projection to the keys and values of the tokens. -/
def kvbOut (X : FVec Ideal S4096x256 .bf16) (W : FVec Ideal S4x256x512 .bf16) : FVec Ideal S4096x2048 .f32 :=
  fun i => ∑ k : Fin 256, (X (ix2 (i 0) k) : EReal) * W (ix3 (kvbSlab (i 1)) k (kvbPlace (i 1)))

/-- The gradient of the tokens. -/
def kvbBack (D : FVec Ideal S4096x2048 .bf16) (W : FVec Ideal S4x256x512 .bf16) : FVec Ideal S4096x256 .f32 :=
  fun i => ∑ j : Fin 2048, (D (ix2 (i 0) j) : EReal) * W (ix3 (kvbSlab j) (i 1) (kvbPlace j))

/-- The gradient of the weight. -/
def kvbGrad (X : FVec Ideal S4096x256 .bf16) (D : FVec Ideal S4096x2048 .bf16) : FVec Ideal S4x256x512 .bf16 :=
  fun i => ∑ t : Fin 4096, (X (ix2 t (i 1)) : EReal) * D (ix2 t (kvbCol (i 0) (i 2)))

/-- A sum over the columns is the sum over the blocks. -/
theorem kvb_blocks (f : Fin 2048 → EReal) : ∑ j, f j
    = ∑ n : Fin 512, f ⟨n.val, by omega⟩ + ∑ n : Fin 512, f ⟨512 + n.val, by omega⟩ + ∑ n : Fin 512, f ⟨1024 + n.val, by omega⟩ + ∑ n : Fin 512, f ⟨1536 + n.val, by omega⟩ := by
  have h1 := Fin.sum_univ_add (a := 1536) (b := 512) f
  have h2 := Fin.sum_univ_add (a := 1024) (b := 512) fun j => f (Fin.castAdd 512 j)
  have h3 := Fin.sum_univ_add (a := 512) (b := 512) fun j => f (Fin.castAdd 512 (Fin.castAdd 512 j))
  rw [h2, h3] at h1
  exact h1

theorem kvb_at {j : Fin 2048} {s : Fin 4} {n : Fin 512} (h : j.val = 512 * s.val + n.val) : kvbSlab j = s ∧ kvbPlace j = n := by
  constructor <;> apply Fin.ext <;> simp only [kvbSlab, kvbPlace] <;> omega

theorem kvbBack_blocks (D : FVec Ideal S4096x2048 .bf16) (W : FVec Ideal S4x256x512 .bf16) (i : S4096x256.Idx) : kvbBack D W i
    = ∑ n : Fin 512, (D (ix2 (i 0) ⟨n.val, by omega⟩) : EReal) * W (ix3 (0 : Fin 4) (i 1) n) + ∑ n : Fin 512, (D (ix2 (i 0) ⟨512 + n.val, by omega⟩) : EReal) * W (ix3 (1 : Fin 4) (i 1) n) + ∑ n : Fin 512, (D (ix2 (i 0) ⟨1024 + n.val, by omega⟩) : EReal) * W (ix3 (2 : Fin 4) (i 1) n) + ∑ n : Fin 512, (D (ix2 (i 0) ⟨1536 + n.val, by omega⟩) : EReal) * W (ix3 (3 : Fin 4) (i 1) n) := by
  unfold kvbBack
  rw [kvb_blocks]
  refine congrArg₂ _ (congrArg₂ _ (congrArg₂ _ ?_ ?_) ?_) ?_
  · refine Finset.sum_congr rfl fun n _ => ?_
    obtain ⟨h1, h2⟩ := kvb_at (j := ⟨n.val, by omega⟩) (s := 0) (n := n) (by simp)
    rw [h1, h2]
  · refine Finset.sum_congr rfl fun n _ => ?_
    obtain ⟨h1, h2⟩ := kvb_at (j := ⟨512 + n.val, by omega⟩) (s := 1) (n := n) (by simp)
    rw [h1, h2]
  · refine Finset.sum_congr rfl fun n _ => ?_
    obtain ⟨h1, h2⟩ := kvb_at (j := ⟨1024 + n.val, by omega⟩) (s := 2) (n := n) (by simp)
    rw [h1, h2]
  · refine Finset.sum_congr rfl fun n _ => ?_
    obtain ⟨h1, h2⟩ := kvb_at (j := ⟨1536 + n.val, by omega⟩) (s := 3) (n := n) (by simp)
    rw [h1, h2]

section Block

variable (x0 : Vec Ideal S512x256 .bf16) (x1 : Vec Ideal S4x256x512 .bf16)

/-- A block of the projection to the keys and values. -/
def kvbBlk (y : S512x2048.Idx) : Elt Ideal .f32 :=
  (∑ k : Fin 256, (x0 (ix2 (y 0) k) : EReal) * x1 (ix3 (kvbSlab (y 1)) k (kvbPlace (y 1))) : EReal)

theorem kvb_piece0 (x : S512x512.Idx) : k2_pay1 x0 (View.ld x1 r2_1) x = kvbBlk x0 x1 (r2_2.emb x) := by
  obtain ⟨a, b, rfl⟩ : ∃ (a : Fin 512) (b : Fin 512), x = ix2 a b := ⟨x 0, x 1, eq_ix2 x⟩
  have e0 : r2_2.emb (ix2 a b) 0 = a := Fin.ext (by show 0 + 1 * a.val = a.val; omega)
  have e1 : (r2_2.emb (ix2 a b) 1).val = 512 * 0 + b.val := by show 0 + 1 * b.val = 512 * 0 + b.val; omega
  obtain ⟨e2, e3⟩ := kvb_at (j := r2_2.emb (ix2 a b) 1) (s := 0) (n := b) e1
  unfold kvbBlk
  rw [e0, e2, e3]
  pointwise [k2_pay1]

theorem kvb_piece1 (x : S512x512.Idx) : k2_pay2 x0 (View.ld x1 r2_3) x = kvbBlk x0 x1 (r2_4.emb x) := by
  obtain ⟨a, b, rfl⟩ : ∃ (a : Fin 512) (b : Fin 512), x = ix2 a b := ⟨x 0, x 1, eq_ix2 x⟩
  have e0 : r2_4.emb (ix2 a b) 0 = a := Fin.ext (by show 0 + 1 * a.val = a.val; omega)
  have e1 : (r2_4.emb (ix2 a b) 1).val = 512 * 1 + b.val := by show 512 + 1 * b.val = 512 * 1 + b.val; omega
  obtain ⟨e2, e3⟩ := kvb_at (j := r2_4.emb (ix2 a b) 1) (s := 1) (n := b) e1
  unfold kvbBlk
  rw [e0, e2, e3]
  pointwise [k2_pay2]

theorem kvb_piece2 (x : S512x512.Idx) : k2_pay3 x0 (View.ld x1 r2_5) x = kvbBlk x0 x1 (r2_6.emb x) := by
  obtain ⟨a, b, rfl⟩ : ∃ (a : Fin 512) (b : Fin 512), x = ix2 a b := ⟨x 0, x 1, eq_ix2 x⟩
  have e0 : r2_6.emb (ix2 a b) 0 = a := Fin.ext (by show 0 + 1 * a.val = a.val; omega)
  have e1 : (r2_6.emb (ix2 a b) 1).val = 512 * 2 + b.val := by show 1024 + 1 * b.val = 512 * 2 + b.val; omega
  obtain ⟨e2, e3⟩ := kvb_at (j := r2_6.emb (ix2 a b) 1) (s := 2) (n := b) e1
  unfold kvbBlk
  rw [e0, e2, e3]
  pointwise [k2_pay3]

theorem kvb_piece3 (x : S512x512.Idx) : k2_pay4 x0 (View.ld x1 r2_7) x = kvbBlk x0 x1 (r2_8.emb x) := by
  obtain ⟨a, b, rfl⟩ : ∃ (a : Fin 512) (b : Fin 512), x = ix2 a b := ⟨x 0, x 1, eq_ix2 x⟩
  have e0 : r2_8.emb (ix2 a b) 0 = a := Fin.ext (by show 0 + 1 * a.val = a.val; omega)
  have e1 : (r2_8.emb (ix2 a b) 1).val = 512 * 3 + b.val := by show 1536 + 1 * b.val = 512 * 3 + b.val; omega
  obtain ⟨e2, e3⟩ := kvb_at (j := r2_8.emb (ix2 a b) 1) (s := 3) (n := b) e1
  unfold kvbBlk
  rw [e0, e2, e3]
  pointwise [k2_pay4]

theorem kvb_block (y : S512x2048.Idx) : out2_2 x0 x1 y = kvbBlk x0 x1 y := by
  frame_out
  refine View.canon_apply_of_pieces (kvbBlk x0 x1) _ ?_ y (cover2_2 _ _ _ _ y)
  intro z hz x
  rcases List.mem_cons.mp hz with rfl | hz
  · exact kvb_piece3 x0 x1 x
  rcases List.mem_cons.mp hz with rfl | hz
  · exact kvb_piece2 x0 x1 x
  rcases List.mem_cons.mp hz with rfl | hz
  · exact kvb_piece1 x0 x1 x
  rcases List.mem_singleton.mp hz with rfl
  exact kvb_piece0 x0 x1 x

end Block

variable (V : (c : Dev nD) → (b : Ref sig .tc) → Buf (Elt Ideal) ((c : Thread nD τ).loc b))

theorem idx2 : ∀ t : Fin cfg2.N, win2_0.index t = ![(grid2.coords t 0).val, 0] ∧ win2_1.index t = ![0, 0, 0] ∧ win2_2.index t = ![(grid2.coords t 0).val, 0] :=
  (by decide +kernel : ∀ t : Fin grid2.N, _)

theorem idx8 : ∀ t : Fin cfg8.N, win8_0.index t = ![(grid8.coords t 0).val, 0] ∧ win8_1.index t = ![0, 0, 0] ∧ win8_2.index t = ![(grid8.coords t 0).val, 0] :=
  (by decide +kernel : ∀ t : Fin grid8.N, _)

theorem idx9 : ∀ t : Fin cfg9.N, win9_0.index t = ![0, (grid9.coords t 1).val] ∧ win9_1.index t = ![0, (grid9.coords t 0).val] ∧ win9_2.index t = ![(grid9.coords t 0).val, (grid9.coords t 1).val, 0] :=
  (by decide +kernel : ∀ t : Fin grid9.N, _)

theorem kvbOut_point (c : Dev nD) (t : Fin cfg2.N) (y : S512x2048.Idx) :
    kvbBlk (iblk2 V c 0 t) (iblk2 V c 1 t) y = kvbOut (V c main_arg6) (V c main_arg7) (((cfg2.win 2).blk t).view.emb y) := by
  obtain ⟨y0, y1, rfl⟩ : ∃ (y0 : Fin 512) (y1 : Fin 2048), y = ix2 y0 y1 := ⟨y 0, y 1, eq_ix2 y⟩
  unfold kvbBlk kvbOut
  refine Finset.sum_congr rfl fun k _ => congrArg₂ (fun a b : EReal => a * b) ?_ ?_
  · blk_ext [iblk2, idx2 t]
  · blk_ext [iblk2, idx2 t, kvbSlab, kvbPlace]

theorem kvbOut_final (c : Dev nD) : (dat2 V c).arrAt 2 cfg2.N = kvbOut (V c main_arg6) (V c main_arg7) := by
  refine (dat2 V c).arrAt_eq_of_covers 2 _ (by decide +kernel) fun t _ y => ?_
  blk_simp
  rw [after2_2]
  exact (kvb_block _ _ y).trans (kvbOut_point V c t y)

theorem kvbBack_point (c : Dev nD) (t : Fin cfg8.N) (y : S512x256.Idx) :
    k8_pay1 (View.ld (iblk8 V c 0 t) r8_0) (View.ld (iblk8 V c 1 t) r8_1) (View.ld (iblk8 V c 0 t) r8_2) (View.ld (iblk8 V c 1 t) r8_3) (View.ld (iblk8 V c 0 t) r8_4) (View.ld (iblk8 V c 1 t) r8_5) (View.ld (iblk8 V c 0 t) r8_6) (View.ld (iblk8 V c 1 t) r8_7) y
    = kvbBack (V c main_arg8) (V c main_arg7) (((cfg8.win 2).blk t).view.emb y) := by
  refine Eq.trans ?_ (kvbBack_blocks _ _ _).symm
  obtain ⟨y0, y1, rfl⟩ : ∃ (y0 : Fin 512) (y1 : Fin 256), y = ix2 y0 y1 := ⟨y 0, y 1, eq_ix2 y⟩
  pointwise [k8_pay1]
  blk_point [iblk8, idx8 t]

theorem kvbBack_final (c : Dev nD) : (dat8 V c).arrAt 2 cfg8.N = kvbBack (V c main_arg8) (V c main_arg7) := by
  refine (dat8 V c).arrAt_eq_of_covers 2 _ (by decide +kernel) fun t _ y => ?_
  blk_simp
  rw [after8_2]; frame_out
  exact kvbBack_point V c t y

theorem kvbGrad_point (c : Dev nD) (t : Fin cfg9.N) (y : S1x256x512.Idx) : k9_pay1 (iblk9 V c 0 t) (iblk9 V c 1 t) y
    = kvbGrad (V c main_arg6) (V c main_arg8) (((cfg9.win 2).blk t).view.emb y) := by
  obtain ⟨y0, y1, y2, rfl⟩ : ∃ (y0 : Fin 1) (y1 : Fin 256) (y2 : Fin 512), y = ix3 y0 y1 y2 := ⟨y 0, y 1, y 2, eq_ix3 y⟩
  pointwise [k9_pay1, kvbGrad]
  blk_point [iblk9, idx9 t, kvbCol]

theorem kvbGrad_final (c : Dev nD) : (dat9 V c).arrAt 2 cfg9.N = kvbGrad (V c main_arg6) (V c main_arg8) := by
  refine (dat9 V c).arrAt_eq_of_covers 2 _ (by decide +kernel) fun t _ y => ?_
  blk_simp
  rw [after9_2]; frame_out
  exact kvbGrad_point V c t y

end Cert.Proof.MlaIdeal
-- ==== Proof.MlaO.lean ====
/- What the three calls of the output projection leave. -/
module

public import proofs.«01_k».proof.Proof.Gen.MlaIdeal.Frame
public import Idealize.ShloMosaic.Lib.Pipeline.ValueKit
public import Idealize.ShloMosaic.Lib.Pointwise

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic Idealize.SL.Sem
open Idealize.ShloMosaic.Pipeline (Dat)

/-- The output projection of the tokens. -/
def oOut (X : FVec Ideal S4096x1024 .bf16) (W : FVec Ideal S1x1024x1024 .bf16) : FVec Ideal S4096x1024 .f32 :=
  fun i => ∑ k : Fin 1024, (X (ix2 (i 0) k) : EReal) * W (ix3 (0 : Fin 1) k (i 1))

/-- The gradient of the tokens. -/
def oBack (D : FVec Ideal S4096x1024 .bf16) (W : FVec Ideal S1x1024x1024 .bf16) : FVec Ideal S4096x1024 .bf16 :=
  fun i => ∑ j : Fin 1024, (D (ix2 (i 0) j) : EReal) * W (ix3 (0 : Fin 1) (i 1) j)

/-- The gradient of the weight. -/
def oGrad (X : FVec Ideal S4096x1024 .bf16) (D : FVec Ideal S4096x1024 .bf16) : FVec Ideal S1x1024x1024 .bf16 :=
  fun i => ∑ t : Fin 4096, (X (ix2 t (i 1)) : EReal) * D (ix2 t (i 2))

variable (V : (c : Dev nD) → (b : Ref sig .tc) → Buf (Elt Ideal) ((c : Thread nD τ).loc b))

theorem idx3 : ∀ t : Fin cfg3.N, win3_0.index t = ![(grid3.coords t 1).val, 0] ∧ win3_1.index t = ![0, 0, 0] ∧ win3_2.index t = ![(grid3.coords t 1).val, 0] :=
  (by decide +kernel : ∀ t : Fin grid3.N, _)

theorem idx4 : ∀ t : Fin cfg4.N, win4_0.index t = ![(grid4.coords t 0).val, 0] ∧ win4_1.index t = ![0, 0, 0] ∧ win4_2.index t = ![(grid4.coords t 0).val, 0] :=
  (by decide +kernel : ∀ t : Fin grid4.N, _)

theorem idx5 : ∀ t : Fin cfg5.N, win5_0.index t = ![0, (grid5.coords t 1).val] ∧ win5_1.index t = ![0, 0] ∧ win5_2.index t = ![0, (grid5.coords t 1).val, 0] :=
  (by decide +kernel : ∀ t : Fin grid5.N, _)

theorem oOut_point (c : Dev nD) (t : Fin cfg3.N) (y : S512x1024.Idx) : k3_pay1 (iblk3 V c 0 t) (iblk3 V c 1 t) y
    = oOut (V c main_arg9) (V c main_arg10) (((cfg3.win 2).blk t).view.emb y) := by
  obtain ⟨y0, y1, rfl⟩ : ∃ (y0 : Fin 512) (y1 : Fin 1024), y = ix2 y0 y1 := ⟨y 0, y 1, eq_ix2 y⟩
  pointwise [k3_pay1, oOut]
  blk_point [iblk3, idx3 t]

theorem oOut_final (c : Dev nD) : (dat3 V c).arrAt 2 cfg3.N = oOut (V c main_arg9) (V c main_arg10) := by
  refine (dat3 V c).arrAt_eq_of_covers 2 _ (by decide +kernel) fun t _ y => ?_
  blk_simp
  rw [after3_2]; frame_out
  exact oOut_point V c t y

theorem oBack_point (c : Dev nD) (t : Fin cfg4.N) (y : S512x1024.Idx) :
    k4_pay1 (iblk4 V c 0 t) (iblk4 V c 1 t) y
    = oBack (V c main_arg11) (V c main_arg10) (((cfg4.win 2).blk t).view.emb y) := by
  obtain ⟨y0, y1, rfl⟩ : ∃ (y0 : Fin 512) (y1 : Fin 1024), y = ix2 y0 y1 := ⟨y 0, y 1, eq_ix2 y⟩
  pointwise [k4_pay1, oBack]
  blk_point [iblk4, idx4 t]

theorem oBack_final (c : Dev nD) : (dat4 V c).arrAt 2 cfg4.N = oBack (V c main_arg11) (V c main_arg10) := by
  refine (dat4 V c).arrAt_eq_of_covers 2 _ (by decide +kernel) fun t _ y => ?_
  blk_simp
  rw [after4_2]; frame_out
  exact oBack_point V c t y

theorem oGrad_point (c : Dev nD) (t : Fin cfg5.N) (y : S1x512x1024.Idx) : k5_pay1 (iblk5 V c 0 t) (iblk5 V c 1 t) y
    = oGrad (V c main_arg9) (V c main_arg11) (((cfg5.win 2).blk t).view.emb y) := by
  obtain ⟨y0, y1, y2, rfl⟩ : ∃ (y0 : Fin 1) (y1 : Fin 512) (y2 : Fin 1024), y = ix3 y0 y1 y2 := ⟨y 0, y 1, y 2, eq_ix3 y⟩
  pointwise [k5_pay1, oGrad]
  blk_point [iblk5, idx5 t]

theorem oGrad_final (c : Dev nD) : (dat5 V c).arrAt 2 cfg5.N = oGrad (V c main_arg9) (V c main_arg11) := by
  refine (dat5 V c).arrAt_eq_of_covers 2 _ (by decide +kernel) fun t _ y => ?_
  blk_simp
  rw [after5_2]; frame_out
  exact oGrad_point V c t y

end Cert.Proof.MlaIdeal
-- ==== Proof.MlaRun.lean ====
/- The run of the program of the attention's projections: what each returned array holds at the end. -/
module

public import proofs.«01_k».proof.Proof.MlaIn
public import proofs.«01_k».proof.Proof.MlaQb
public import proofs.«01_k».proof.Proof.MlaKvb
public import proofs.«01_k».proof.Proof.MlaO
public import Idealize.ShloMosaic.Lib.Ring
public import Idealize.ShloMosaic.Lib.Tactic
public import Idealize.ShloMosaic.Lib.Claim

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic Idealize.SL.Sem
open Idealize.ShloMosaic.Pipeline (Dat)
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem end_v0 (c : Dev nD) : W12 m ρ c (Proc.devRef .tc main_v0) = inOut (m ((c : Thread nD τ).loc main_arg0)) (m ((c : Thread nD τ).loc main_arg1)) :=
  (W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans ((inOut_final (V0 m ρ) c).trans (congrArg₂ inOut (W0_args m ρ c main_arg0 (by decide)) (W0_args m ρ c main_arg1 (by decide)))))))))))))))

theorem end_v10 (c : Dev nD) : W12 m ρ c (Proc.devRef .tc main_v10) = inBack (m ((c : Thread nD τ).loc main_arg2)) (m ((c : Thread nD τ).loc main_arg1)) :=
  (W12_of m ρ c main_v10 (by decide)).trans ((W11_arr m ρ c 2).trans ((inBack_final (V10 m ρ) c).trans (congrArg₂ inBack (W10_args m ρ c main_arg2 (by decide)) (W10_args m ρ c main_arg1 (by decide)))))

theorem end_v11 (c : Dev nD) : W12 m ρ c (Proc.devRef .tc main_v11) = inGrad (m ((c : Thread nD τ).loc main_arg0)) (m ((c : Thread nD τ).loc main_arg2)) :=
  (W12_arr m ρ c 2).trans ((inGrad_final (V11 m ρ) c).trans (congrArg₂ inGrad (W11_args m ρ c main_arg0 (by decide)) (W11_args m ρ c main_arg2 (by decide))))

theorem end_v1 (c : Dev nD) : W12 m ρ c (Proc.devRef .tc main_v1) = qbOut (m ((c : Thread nD τ).loc main_arg3)) (m ((c : Thread nD τ).loc main_arg4)) :=
  (W12_of m ρ c main_v1 (by decide)).trans ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans ((W2_arr m ρ c 2).trans ((qbOut_final (V1 m ρ) c).trans (congrArg₂ qbOut (W1_args m ρ c main_arg3 (by decide)) (W1_args m ρ c main_arg4 (by decide))))))))))))))

theorem end_v6 (c : Dev nD) : W12 m ρ c (Proc.devRef .tc main_v6) = qbBack (m ((c : Thread nD τ).loc main_arg5)) (m ((c : Thread nD τ).loc main_arg4)) :=
  (W12_of m ρ c main_v6 (by decide)).trans ((W11_of m ρ c main_v6 (by decide)).trans ((W10_of m ρ c main_v6 (by decide)).trans ((W9_of m ρ c main_v6 (by decide)).trans ((W8_of m ρ c main_v6 (by decide)).trans ((W7_arr m ρ c 2).trans ((qbBack_final (V6 m ρ) c).trans (congrArg₂ qbBack (W6_args m ρ c main_arg5 (by decide)) (W6_args m ρ c main_arg4 (by decide)))))))))

theorem end_v7 (c : Dev nD) : W12 m ρ c (Proc.devRef .tc main_v7) = qbGrad (m ((c : Thread nD τ).loc main_arg3)) (m ((c : Thread nD τ).loc main_arg5)) :=
  (W12_of m ρ c main_v7 (by decide)).trans ((W11_of m ρ c main_v7 (by decide)).trans ((W10_of m ρ c main_v7 (by decide)).trans ((W9_of m ρ c main_v7 (by decide)).trans ((W8_arr m ρ c 2).trans ((qbGrad_final (V7 m ρ) c).trans (congrArg₂ qbGrad (W7_args m ρ c main_arg3 (by decide)) (W7_args m ρ c main_arg5 (by decide))))))))

theorem end_v2 (c : Dev nD) : W12 m ρ c (Proc.devRef .tc main_v2) = kvbOut (m ((c : Thread nD τ).loc main_arg6)) (m ((c : Thread nD τ).loc main_arg7)) :=
  (W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_arr m ρ c 2).trans ((kvbOut_final (V2 m ρ) c).trans (congrArg₂ kvbOut (W2_args m ρ c main_arg6 (by decide)) (W2_args m ρ c main_arg7 (by decide)))))))))))))

theorem end_v8 (c : Dev nD) : W12 m ρ c (Proc.devRef .tc main_v8) = kvbBack (m ((c : Thread nD τ).loc main_arg8)) (m ((c : Thread nD τ).loc main_arg7)) :=
  (W12_of m ρ c main_v8 (by decide)).trans ((W11_of m ρ c main_v8 (by decide)).trans ((W10_of m ρ c main_v8 (by decide)).trans ((W9_arr m ρ c 2).trans ((kvbBack_final (V8 m ρ) c).trans (congrArg₂ kvbBack (W8_args m ρ c main_arg8 (by decide)) (W8_args m ρ c main_arg7 (by decide)))))))

theorem end_v9 (c : Dev nD) : W12 m ρ c (Proc.devRef .tc main_v9) = kvbGrad (m ((c : Thread nD τ).loc main_arg6)) (m ((c : Thread nD τ).loc main_arg8)) :=
  (W12_of m ρ c main_v9 (by decide)).trans ((W11_of m ρ c main_v9 (by decide)).trans ((W10_arr m ρ c 2).trans ((kvbGrad_final (V9 m ρ) c).trans (congrArg₂ kvbGrad (W9_args m ρ c main_arg6 (by decide)) (W9_args m ρ c main_arg8 (by decide))))))

theorem end_v3 (c : Dev nD) : W12 m ρ c (Proc.devRef .tc main_v3) = oOut (m ((c : Thread nD τ).loc main_arg9)) (m ((c : Thread nD τ).loc main_arg10)) :=
  (W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_arr m ρ c 2).trans ((oOut_final (V3 m ρ) c).trans (congrArg₂ oOut (W3_args m ρ c main_arg9 (by decide)) (W3_args m ρ c main_arg10 (by decide))))))))))))

theorem end_v4 (c : Dev nD) : W12 m ρ c (Proc.devRef .tc main_v4) = oBack (m ((c : Thread nD τ).loc main_arg11)) (m ((c : Thread nD τ).loc main_arg10)) :=
  (W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_arr m ρ c 2).trans ((oBack_final (V4 m ρ) c).trans (congrArg₂ oBack (W4_args m ρ c main_arg11 (by decide)) (W4_args m ρ c main_arg10 (by decide)))))))))))

theorem end_v5 (c : Dev nD) : W12 m ρ c (Proc.devRef .tc main_v5) = oGrad (m ((c : Thread nD τ).loc main_arg9)) (m ((c : Thread nD τ).loc main_arg11)) :=
  (W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_arr m ρ c 2).trans ((oGrad_final (V5 m ρ) c).trans (congrArg₂ oGrad (W5_args m ρ c main_arg9 (by decide)) (W5_args m ρ c main_arg11 (by decide))))))))))

set_option backward.isDefEq.respectTransparency.types false in
/-- Every execution ends with the products of the arguments in the results, and the arguments as launched. -/
theorem ran : θ_run defs (onTc (τ := τ) (main (F := Ideal))) ⟨m, fun _ => 0, ρ⟩ (fun r => ∀ c : Dev nD,
      r.2.mem ((c.tc : Thread nD τ).loc main_v0) = inOut (m ((c.tc : Thread nD τ).loc main_arg0)) (m ((c.tc : Thread nD τ).loc main_arg1))
      ∧ r.2.mem ((c.tc : Thread nD τ).loc main_v10) = inBack (m ((c.tc : Thread nD τ).loc main_arg2)) (m ((c.tc : Thread nD τ).loc main_arg1))
      ∧ r.2.mem ((c.tc : Thread nD τ).loc main_v11) = inGrad (m ((c.tc : Thread nD τ).loc main_arg0)) (m ((c.tc : Thread nD τ).loc main_arg2))
      ∧ r.2.mem ((c.tc : Thread nD τ).loc main_v1) = qbOut (m ((c.tc : Thread nD τ).loc main_arg3)) (m ((c.tc : Thread nD τ).loc main_arg4))
      ∧ r.2.mem ((c.tc : Thread nD τ).loc main_v6) = qbBack (m ((c.tc : Thread nD τ).loc main_arg5)) (m ((c.tc : Thread nD τ).loc main_arg4))
      ∧ r.2.mem ((c.tc : Thread nD τ).loc main_v7) = qbGrad (m ((c.tc : Thread nD τ).loc main_arg3)) (m ((c.tc : Thread nD τ).loc main_arg5))
      ∧ r.2.mem ((c.tc : Thread nD τ).loc main_v2) = kvbOut (m ((c.tc : Thread nD τ).loc main_arg6)) (m ((c.tc : Thread nD τ).loc main_arg7))
      ∧ r.2.mem ((c.tc : Thread nD τ).loc main_v8) = kvbBack (m ((c.tc : Thread nD τ).loc main_arg8)) (m ((c.tc : Thread nD τ).loc main_arg7))
      ∧ r.2.mem ((c.tc : Thread nD τ).loc main_v9) = kvbGrad (m ((c.tc : Thread nD τ).loc main_arg6)) (m ((c.tc : Thread nD τ).loc main_arg8))
      ∧ r.2.mem ((c.tc : Thread nD τ).loc main_v3) = oOut (m ((c.tc : Thread nD τ).loc main_arg9)) (m ((c.tc : Thread nD τ).loc main_arg10))
      ∧ r.2.mem ((c.tc : Thread nD τ).loc main_v4) = oBack (m ((c.tc : Thread nD τ).loc main_arg11)) (m ((c.tc : Thread nD τ).loc main_arg10))
      ∧ r.2.mem ((c.tc : Thread nD τ).loc main_v5) = oGrad (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v0 (by decide))).trans (end_v0 m ρ c),
       (h c _ (mem_uc main_v10 (by decide))).trans (end_v10 m ρ c),
       (h c _ (mem_uc main_v11 (by decide))).trans (end_v11 m ρ c),
       (h c _ (mem_uc main_v1 (by decide))).trans (end_v1 m ρ c),
       (h c _ (mem_uc main_v6 (by decide))).trans (end_v6 m ρ c),
       (h c _ (mem_uc main_v7 (by decide))).trans (end_v7 m ρ c),
       (h c _ (mem_uc main_v2 (by decide))).trans (end_v2 m ρ c),
       (h c _ (mem_uc main_v8 (by decide))).trans (end_v8 m ρ c),
       (h c _ (mem_uc main_v9 (by decide))).trans (end_v9 m ρ c),
       (h c _ (mem_uc main_v3 (by decide))).trans (end_v3 m ρ c),
       (h c _ (mem_uc main_v4 (by decide))).trans (end_v4 m ρ c),
       (h c _ (mem_uc main_v5 (by decide))).trans (end_v5 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.Proof.MlaIdeal
-- ==== Proof.MlaReference.lean ====
/- The reference's projections around the attention and their gradients, read at an index. -/
module

public import proofs.«01_k».proof.Proof.Gen.MlaReferenceIdeal.Run
public import proofs.«01_k».proof.Proof.MlaIn
public import proofs.«01_k».proof.Proof.MlaQb
public import proofs.«01_k».proof.Proof.MlaKvb
public import proofs.«01_k».proof.Proof.MlaO
public import Idealize.ShloMosaic.Lib.Pipeline.ValueKit
public import Idealize.ShloMosaic.Lib.Pointwise

@[expose] public section

set_option maxRecDepth 16384

noncomputable section

namespace Cert.Proof.MlaReference

open Cert.MlaReferenceIdeal Cert.MlaReferenceIdeal.Gen
open Idealize.ShloMosaic Idealize.ShloMosaic.TcCoe Idealize.ShloMosaic.Tactic Idealize.SL.Sem
open Cert.Proof.MlaIdeal (inOut inBack inGrad qbOut qbBack qbGrad qbSlab qbPlace qbCol kvbOut kvbBack kvbGrad kvbSlab kvbPlace kvbCol oOut oBack oGrad)

/-- The weight of the input projection, its blocks of columns side by side. -/
def inW (W : FVec Ideal S1x1024x1056 .bf16) : FVec Ideal S1024x1056 .f32 :=
  shapeCast _ (transpose S1024x1x1056 [1, 0, 2] (extf .f32 W bitsLt_bf16_f32) transposes_S1x1024x1056_S1024x1x1056_1_0_2) shapeCasts_S1024x1x1056_S1024x1056

theorem inW_at (W : FVec Ideal S1x1024x1056 .bf16) (k : Fin 1024) (j : Fin 1056) : inW W (ix2 k j) = (W (ix3 (0 : Fin 1) k j) : EReal) := by
  pointwise [inW]
  blk_ext

/-- The input projection. -/
def inY (X : FVec Ideal S4096x1024 .bf16) (W : FVec Ideal S1x1024x1056 .bf16) : FVec Ideal S4096x1056 .f32 :=
  Host.dotGeneral dot_S4096x1024_S1024x1056_S4096x1056_1_0_0_1_n_n none (extf .f32 X bitsLt_bf16_f32) (inW W)

theorem inY_eq (X : FVec Ideal S4096x1024 .bf16) (W : FVec Ideal S1x1024x1056 .bf16) : inY X W = inOut X W := by
  funext y
  obtain ⟨t, j, rfl⟩ : ∃ (t : Fin 4096) (j : Fin 1056), y = ix2 t j := ⟨y 0, y 1, eq_ix2 y⟩
  show _ = (∑ k : Fin 1024, (X (ix2 t k) : EReal) * W (ix3 (0 : Fin 1) k j) : EReal)
  pointwise [inY]
  exact Finset.sum_congr rfl fun k _ => congrArg (fun z : EReal => (X (ix2 t k) : EReal) * z) (inW_at W k j)

/-- The gradient of its tokens. -/
def inDX (D : FVec Ideal S4096x1056 .bf16) (W : FVec Ideal S1x1024x1056 .bf16) : FVec Ideal S4096x1024 .f32 :=
  Host.dotGeneral dot_S4096x1056_S1024x1056_S4096x1024_1_1_0_0_n_n none (extf .f32 D bitsLt_bf16_f32) (inW W)

theorem inDX_eq (D : FVec Ideal S4096x1056 .bf16) (W : FVec Ideal S1x1024x1056 .bf16) : inDX D W = inBack D W := by
  funext y
  obtain ⟨t, k, rfl⟩ : ∃ (t : Fin 4096) (k : Fin 1024), y = ix2 t k := ⟨y 0, y 1, eq_ix2 y⟩
  show _ = (∑ j : Fin 1056, (D (ix2 t j) : EReal) * W (ix3 (0 : Fin 1) k j) : EReal)
  pointwise [inDX]
  exact Finset.sum_congr rfl fun j _ => congrArg (fun z : EReal => (D (ix2 t j) : EReal) * z) (inW_at W k j)

/-- The gradient of its weight. -/
def inDW (X : FVec Ideal S4096x1024 .bf16) (D : FVec Ideal S4096x1056 .bf16) : FVec Ideal S1x1024x1056 .bf16 :=
  truncf .bf16 (transpose S1x1024x1056 [1, 0, 2] (shapeCast _ (transpose S1024x1056 [1, 0] (Host.dotGeneral dot_S4096x1056_S4096x1024_S1056x1024_0_0_1_1_n_n none (extf .f32 D bitsLt_bf16_f32) (extf .f32 X bitsLt_bf16_f32)) transposes_S1056x1024_S1024x1056_1_0) shapeCasts_S1024x1056_S1024x1x1056) transposes_S1024x1x1056_S1x1024x1056_1_0_2) bitsLt_bf16_f32

theorem inDW_eq (X : FVec Ideal S4096x1024 .bf16) (D : FVec Ideal S4096x1056 .bf16) : inDW X D = inGrad X D := by
  funext y
  obtain ⟨s, k, n, rfl⟩ : ∃ (s : Fin 1) (k : Fin 1024) (n : Fin 1056), y = ix3 s k n := ⟨y 0, y 1, y 2, eq_ix3 y⟩
  show _ = (∑ t : Fin 4096, (X (ix2 t k) : EReal) * D (ix2 t n) : EReal)
  pointwise [inDW]
  refine Finset.sum_congr rfl fun t _ => (mul_comm _ _).trans (congrArg (fun z : EReal => (X (ix2 t k) : EReal) * z) ?_)
  blk_ext

/-- The weight of the projection to the queries, its blocks of columns side by side. -/
def qbW (W : FVec Ideal S4x768x384 .bf16) : FVec Ideal S768x1536 .f32 :=
  shapeCast _ (transpose S768x4x384 [1, 0, 2] (extf .f32 W bitsLt_bf16_f32) transposes_S4x768x384_S768x4x384_1_0_2) shapeCasts_S768x4x384_S768x1536

theorem qbW_at (W : FVec Ideal S4x768x384 .bf16) (k : Fin 768) (j : Fin 1536) : qbW W (ix2 k j) = (W (ix3 (qbSlab j) k (qbPlace j)) : EReal) := by
  pointwise [qbW]
  blk_ext [qbSlab, qbPlace]

/-- The projection to the queries. -/
def qbY (X : FVec Ideal S4096x768 .bf16) (W : FVec Ideal S4x768x384 .bf16) : FVec Ideal S4096x1536 .f32 :=
  Host.dotGeneral dot_S4096x768_S768x1536_S4096x1536_1_0_0_1_n_n none (extf .f32 X bitsLt_bf16_f32) (qbW W)

theorem qbY_eq (X : FVec Ideal S4096x768 .bf16) (W : FVec Ideal S4x768x384 .bf16) : qbY X W = qbOut X W := by
  funext y
  obtain ⟨t, j, rfl⟩ : ∃ (t : Fin 4096) (j : Fin 1536), y = ix2 t j := ⟨y 0, y 1, eq_ix2 y⟩
  show _ = (∑ k : Fin 768, (X (ix2 t k) : EReal) * W (ix3 (qbSlab j) k (qbPlace j)) : EReal)
  pointwise [qbY]
  exact Finset.sum_congr rfl fun k _ => congrArg (fun z : EReal => (X (ix2 t k) : EReal) * z) (qbW_at W k j)

/-- The gradient of its tokens. -/
def qbDX (D : FVec Ideal S4096x1536 .bf16) (W : FVec Ideal S4x768x384 .bf16) : FVec Ideal S4096x768 .f32 :=
  Host.dotGeneral dot_S4096x1536_S768x1536_S4096x768_1_1_0_0_n_n none (extf .f32 D bitsLt_bf16_f32) (qbW W)

theorem qbDX_eq (D : FVec Ideal S4096x1536 .bf16) (W : FVec Ideal S4x768x384 .bf16) : qbDX D W = qbBack D W := by
  funext y
  obtain ⟨t, k, rfl⟩ : ∃ (t : Fin 4096) (k : Fin 768), y = ix2 t k := ⟨y 0, y 1, eq_ix2 y⟩
  show _ = (∑ j : Fin 1536, (D (ix2 t j) : EReal) * W (ix3 (qbSlab j) k (qbPlace j)) : EReal)
  pointwise [qbDX]
  exact Finset.sum_congr rfl fun j _ => congrArg (fun z : EReal => (D (ix2 t j) : EReal) * z) (qbW_at W k j)

/-- The gradient of its weight. -/
def qbDW (X : FVec Ideal S4096x768 .bf16) (D : FVec Ideal S4096x1536 .bf16) : FVec Ideal S4x768x384 .bf16 :=
  truncf .bf16 (transpose S4x768x384 [1, 0, 2] (shapeCast _ (transpose S768x1536 [1, 0] (Host.dotGeneral dot_S4096x1536_S4096x768_S1536x768_0_0_1_1_n_n none (extf .f32 D bitsLt_bf16_f32) (extf .f32 X bitsLt_bf16_f32)) transposes_S1536x768_S768x1536_1_0) shapeCasts_S768x1536_S768x4x384) transposes_S768x4x384_S4x768x384_1_0_2) bitsLt_bf16_f32

theorem qbDW_eq (X : FVec Ideal S4096x768 .bf16) (D : FVec Ideal S4096x1536 .bf16) : qbDW X D = qbGrad X D := by
  funext y
  obtain ⟨s, k, n, rfl⟩ : ∃ (s : Fin 4) (k : Fin 768) (n : Fin 384), y = ix3 s k n := ⟨y 0, y 1, y 2, eq_ix3 y⟩
  show _ = (∑ t : Fin 4096, (X (ix2 t k) : EReal) * D (ix2 t (qbCol s n)) : EReal)
  pointwise [qbDW]
  refine Finset.sum_congr rfl fun t _ => (mul_comm _ _).trans (congrArg (fun z : EReal => (X (ix2 t k) : EReal) * z) ?_)
  blk_ext [qbCol]

/-- The weight of the projection to the keys and values, its blocks of columns side by side. -/
def kvbW (W : FVec Ideal S4x256x512 .bf16) : FVec Ideal S256x2048 .f32 :=
  shapeCast _ (transpose S256x4x512 [1, 0, 2] (extf .f32 W bitsLt_bf16_f32) transposes_S4x256x512_S256x4x512_1_0_2) shapeCasts_S256x4x512_S256x2048

theorem kvbW_at (W : FVec Ideal S4x256x512 .bf16) (k : Fin 256) (j : Fin 2048) : kvbW W (ix2 k j) = (W (ix3 (kvbSlab j) k (kvbPlace j)) : EReal) := by
  pointwise [kvbW]
  blk_ext [kvbSlab, kvbPlace]

/-- The projection to the keys and values. -/
def kvbY (X : FVec Ideal S4096x256 .bf16) (W : FVec Ideal S4x256x512 .bf16) : FVec Ideal S4096x2048 .f32 :=
  Host.dotGeneral dot_S4096x256_S256x2048_S4096x2048_1_0_0_1_n_n none (extf .f32 X bitsLt_bf16_f32) (kvbW W)

theorem kvbY_eq (X : FVec Ideal S4096x256 .bf16) (W : FVec Ideal S4x256x512 .bf16) : kvbY X W = kvbOut X W := by
  funext y
  obtain ⟨t, j, rfl⟩ : ∃ (t : Fin 4096) (j : Fin 2048), y = ix2 t j := ⟨y 0, y 1, eq_ix2 y⟩
  show _ = (∑ k : Fin 256, (X (ix2 t k) : EReal) * W (ix3 (kvbSlab j) k (kvbPlace j)) : EReal)
  pointwise [kvbY]
  exact Finset.sum_congr rfl fun k _ => congrArg (fun z : EReal => (X (ix2 t k) : EReal) * z) (kvbW_at W k j)

/-- The gradient of its tokens. -/
def kvbDX (D : FVec Ideal S4096x2048 .bf16) (W : FVec Ideal S4x256x512 .bf16) : FVec Ideal S4096x256 .f32 :=
  Host.dotGeneral dot_S4096x2048_S256x2048_S4096x256_1_1_0_0_n_n none (extf .f32 D bitsLt_bf16_f32) (kvbW W)

theorem kvbDX_eq (D : FVec Ideal S4096x2048 .bf16) (W : FVec Ideal S4x256x512 .bf16) : kvbDX D W = kvbBack D W := by
  funext y
  obtain ⟨t, k, rfl⟩ : ∃ (t : Fin 4096) (k : Fin 256), y = ix2 t k := ⟨y 0, y 1, eq_ix2 y⟩
  show _ = (∑ j : Fin 2048, (D (ix2 t j) : EReal) * W (ix3 (kvbSlab j) k (kvbPlace j)) : EReal)
  pointwise [kvbDX]
  exact Finset.sum_congr rfl fun j _ => congrArg (fun z : EReal => (D (ix2 t j) : EReal) * z) (kvbW_at W k j)

/-- The gradient of its weight. -/
def kvbDW (X : FVec Ideal S4096x256 .bf16) (D : FVec Ideal S4096x2048 .bf16) : FVec Ideal S4x256x512 .bf16 :=
  truncf .bf16 (transpose S4x256x512 [1, 0, 2] (shapeCast _ (transpose S256x2048 [1, 0] (Host.dotGeneral dot_S4096x2048_S4096x256_S2048x256_0_0_1_1_n_n none (extf .f32 D bitsLt_bf16_f32) (extf .f32 X bitsLt_bf16_f32)) transposes_S2048x256_S256x2048_1_0) shapeCasts_S256x2048_S256x4x512) transposes_S256x4x512_S4x256x512_1_0_2) bitsLt_bf16_f32

theorem kvbDW_eq (X : FVec Ideal S4096x256 .bf16) (D : FVec Ideal S4096x2048 .bf16) : kvbDW X D = kvbGrad X D := by
  funext y
  obtain ⟨s, k, n, rfl⟩ : ∃ (s : Fin 4) (k : Fin 256) (n : Fin 512), y = ix3 s k n := ⟨y 0, y 1, y 2, eq_ix3 y⟩
  show _ = (∑ t : Fin 4096, (X (ix2 t k) : EReal) * D (ix2 t (kvbCol s n)) : EReal)
  pointwise [kvbDW]
  refine Finset.sum_congr rfl fun t _ => (mul_comm _ _).trans (congrArg (fun z : EReal => (X (ix2 t k) : EReal) * z) ?_)
  blk_ext [kvbCol]

/-- The weight of the output projection, its blocks of columns side by side. -/
def oW (W : FVec Ideal S1x1024x1024 .bf16) : FVec Ideal S1024x1024 .f32 :=
  shapeCast _ (transpose S1024x1x1024 [1, 0, 2] (extf .f32 W bitsLt_bf16_f32) transposes_S1x1024x1024_S1024x1x1024_1_0_2) shapeCasts_S1024x1x1024_S1024x1024

theorem oW_at (W : FVec Ideal S1x1024x1024 .bf16) (k : Fin 1024) (j : Fin 1024) : oW W (ix2 k j) = (W (ix3 (0 : Fin 1) k j) : EReal) := by
  pointwise [oW]
  blk_ext

/-- The output projection. -/
def oY (X : FVec Ideal S4096x1024 .bf16) (W : FVec Ideal S1x1024x1024 .bf16) : FVec Ideal S4096x1024 .f32 :=
  Host.dotGeneral dot_S4096x1024_S1024x1024_S4096x1024_1_0_0_1_n_n none (extf .f32 X bitsLt_bf16_f32) (oW W)

theorem oY_eq (X : FVec Ideal S4096x1024 .bf16) (W : FVec Ideal S1x1024x1024 .bf16) : oY X W = oOut X W := by
  funext y
  obtain ⟨t, j, rfl⟩ : ∃ (t : Fin 4096) (j : Fin 1024), y = ix2 t j := ⟨y 0, y 1, eq_ix2 y⟩
  show _ = (∑ k : Fin 1024, (X (ix2 t k) : EReal) * W (ix3 (0 : Fin 1) k j) : EReal)
  pointwise [oY]
  exact Finset.sum_congr rfl fun k _ => congrArg (fun z : EReal => (X (ix2 t k) : EReal) * z) (oW_at W k j)

/-- The gradient of its tokens. -/
def oDX (D : FVec Ideal S4096x1024 .bf16) (W : FVec Ideal S1x1024x1024 .bf16) : FVec Ideal S4096x1024 .bf16 :=
  truncf .bf16 (Host.dotGeneral dot_S4096x1024_S1024x1024_S4096x1024_1_1_0_0_n_n none (extf .f32 D bitsLt_bf16_f32) (oW W)) bitsLt_bf16_f32

theorem oDX_eq (D : FVec Ideal S4096x1024 .bf16) (W : FVec Ideal S1x1024x1024 .bf16) : oDX D W = oBack D W := by
  funext y
  obtain ⟨t, k, rfl⟩ : ∃ (t : Fin 4096) (k : Fin 1024), y = ix2 t k := ⟨y 0, y 1, eq_ix2 y⟩
  show _ = (∑ j : Fin 1024, (D (ix2 t j) : EReal) * W (ix3 (0 : Fin 1) k j) : EReal)
  pointwise [oDX]
  exact Finset.sum_congr rfl fun j _ => congrArg (fun z : EReal => (D (ix2 t j) : EReal) * z) (oW_at W k j)

/-- The gradient of its weight. -/
def oDW (X : FVec Ideal S4096x1024 .bf16) (D : FVec Ideal S4096x1024 .bf16) : FVec Ideal S1x1024x1024 .bf16 :=
  truncf .bf16 (transpose S1x1024x1024 [1, 0, 2] (shapeCast _ (transpose S1024x1024 [1, 0] (Host.dotGeneral dot_S4096x1024_S4096x1024_S1024x1024_0_0_1_1_n_n none (extf .f32 D bitsLt_bf16_f32) (extf .f32 X bitsLt_bf16_f32)) transposes_S1024x1024_S1024x1024_1_0) shapeCasts_S1024x1024_S1024x1x1024) transposes_S1024x1x1024_S1x1024x1024_1_0_2) bitsLt_bf16_f32

theorem oDW_eq (X : FVec Ideal S4096x1024 .bf16) (D : FVec Ideal S4096x1024 .bf16) : oDW X D = oGrad X D := by
  funext y
  obtain ⟨s, k, n, rfl⟩ : ∃ (s : Fin 1) (k : Fin 1024) (n : Fin 1024), y = ix3 s k n := ⟨y 0, y 1, y 2, eq_ix3 y⟩
  show _ = (∑ t : Fin 4096, (X (ix2 t k) : EReal) * D (ix2 t n) : EReal)
  pointwise [oDW]
  refine Finset.sum_congr rfl fun t _ => (mul_comm _ _).trans (congrArg (fun z : EReal => (X (ix2 t k) : EReal) * z) ?_)
  blk_ext

/-- Every execution of the reference ends with the products of the arguments in the results, and the arguments as launched. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = inOut (m ((c.tc : Thread nD τ).loc main_arg0)) (m ((c.tc : Thread nD τ).loc main_arg1))
      ∧ r.2.mem ((c.tc : Thread nD τ).loc main_v23) = inBack (m ((c.tc : Thread nD τ).loc main_arg2)) (m ((c.tc : Thread nD τ).loc main_arg1))
      ∧ r.2.mem ((c.tc : Thread nD τ).loc main_v26) = inGrad (m ((c.tc : Thread nD τ).loc main_arg0)) (m ((c.tc : Thread nD τ).loc main_arg2))
      ∧ r.2.mem ((c.tc : Thread nD τ).loc main_v9) = qbOut (m ((c.tc : Thread nD τ).loc main_arg3)) (m ((c.tc : Thread nD τ).loc main_arg4))
      ∧ r.2.mem ((c.tc : Thread nD τ).loc main_v30) = qbBack (m ((c.tc : Thread nD τ).loc main_arg5)) (m ((c.tc : Thread nD τ).loc main_arg4))
      ∧ r.2.mem ((c.tc : Thread nD τ).loc main_v33) = qbGrad (m ((c.tc : Thread nD τ).loc main_arg3)) (m ((c.tc : Thread nD τ).loc main_arg5))
      ∧ r.2.mem ((c.tc : Thread nD τ).loc main_v14) = kvbOut (m ((c.tc : Thread nD τ).loc main_arg6)) (m ((c.tc : Thread nD τ).loc main_arg7))
      ∧ r.2.mem ((c.tc : Thread nD τ).loc main_v37) = kvbBack (m ((c.tc : Thread nD τ).loc main_arg8)) (m ((c.tc : Thread nD τ).loc main_arg7))
      ∧ r.2.mem ((c.tc : Thread nD τ).loc main_v40) = kvbGrad (m ((c.tc : Thread nD τ).loc main_arg6)) (m ((c.tc : Thread nD τ).loc main_arg8))
      ∧ r.2.mem ((c.tc : Thread nD τ).loc main_v19) = oOut (m ((c.tc : Thread nD τ).loc main_arg9)) (m ((c.tc : Thread nD τ).loc main_arg10))
      ∧ r.2.mem ((c.tc : Thread nD τ).loc main_v48) = oBack (m ((c.tc : Thread nD τ).loc main_arg11)) (m ((c.tc : Thread nD τ).loc main_arg10))
      ∧ r.2.mem ((c.tc : Thread nD τ).loc main_v47) = oGrad (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (inY_eq _ _),
      (h c).2.1.trans (inDX_eq _ _),
      (h c).2.2.1.trans (inDW_eq _ _),
      (h c).2.2.2.1.trans (qbY_eq _ _),
      (h c).2.2.2.2.1.trans (qbDX_eq _ _),
      (h c).2.2.2.2.2.1.trans (qbDW_eq _ _),
      (h c).2.2.2.2.2.2.1.trans (kvbY_eq _ _),
      (h c).2.2.2.2.2.2.2.1.trans (kvbDX_eq _ _),
      (h c).2.2.2.2.2.2.2.2.1.trans (kvbDW_eq _ _),
      (h c).2.2.2.2.2.2.2.2.2.1.trans (oY_eq _ _),
      (h c).2.2.2.2.2.2.2.2.2.2.1.trans (oDX_eq _ _),
      (h c).2.2.2.2.2.2.2.2.2.2.2.1.trans (oDW_eq _ _), (h c).2.2.2.2.2.2.2.2.2.2.2.2⟩)
    (Cert.MlaReferenceIdeal.Value.run (F := Ideal) m ρ)

end Cert.Proof.MlaReference
-- ==== Proof.AdamModel.lean ====
/- One step of the optimiser at an entry, and on arrays. -/
module

public import Idealize.ShloMosaic.Lib.Pipeline.ValueKit
public import Idealize.ShloMosaic.Lib.Pointwise

@[expose] public section

set_option maxRecDepth 16384

noncomputable section

namespace Cert.Proof.AdamModel

open Idealize.ShloMosaic

/-- The reciprocal of the first bias correction. -/
def k1 : EReal := (((5463681 / 8388608)⁻¹ : ℝ) : EReal)

/-- The reciprocal of the second bias correction. -/
def k2 : EReal := (((2672307 / 268435456)⁻¹ : ℝ) : EReal)

/-- The new first moment. -/
def mom (m g : EReal) : EReal := Ideal.ofBits .f32 0x3F666666#32 * m + Ideal.ofBits .f32 0x3DCCCCCD#32 * g

/-- The new second moment. -/
def vel (v g : EReal) : EReal := Ideal.ofBits .f32 0x3F7FBE77#32 * v + Ideal.ofBits .f32 0x3A83126F#32 * (g * g)

/-- The change of a weight, from the weight and the new moments. -/
def delta (w m v : EReal) : EReal :=
  Ideal.ofBits .f32 0xBA83126F#32 * (Ideal.div (m * k1) (Ideal.sqrt (v * k2) + Ideal.ofBits .f32 0x322BCC77#32) + Ideal.ofBits .f32 0x3C23D70A#32 * w)

theorem word1 : Ideal.ofBits .f32 0x3F26BD02#32 = ((5463681 / 8388608 : ℝ) : EReal) := by
  simp [Ideal.ofBits, Ideal.ieee, -EReal.coe_mul]
  norm_num

theorem word2 : Ideal.ofBits .f32 0x3C231ACC#32 = ((2672307 / 268435456 : ℝ) : EReal) := by
  simp [Ideal.ofBits, Ideal.ieee, -EReal.coe_mul]
  norm_num

/-- Dividing by the first bias correction. -/
theorem div1 (x : EReal) : Ideal.div x (Ideal.ofBits .f32 0x3F26BD02#32) = x * k1 := by
  rw [word1, Ideal.div_coe (by norm_num), k1, one_div]

/-- Dividing by the second bias correction. -/
theorem div2 (x : EReal) : Ideal.div x (Ideal.ofBits .f32 0x3C231ACC#32) = x * k2 := by
  rw [word2, Ideal.div_coe (by norm_num), k2, one_div]

variable {s : Shape}

/-- The gradient from its two parts. -/
def both (A B : FVec Ideal s .f32) : FVec Ideal s .f32 := fun i => (A i + B i : EReal)

/-- The new first moments. -/
def momArr (M G : FVec Ideal s .f32) : FVec Ideal s .f32 := fun i => mom (M i) (G i)

/-- The new second moments. -/
def velArr (V G : FVec Ideal s .f32) : FVec Ideal s .f32 := fun i => vel (V i) (G i)

/-- The changes of the weights. -/
def deltaArr (W M V : FVec Ideal s .f32) : FVec Ideal s .f32 := fun i => delta (W i) (M i) (V i)

theorem delta_congr {w w' m m' v v' : EReal} (hw : w = w') (hm : m = m') (hv : v = v') : delta w m v = delta w' m' v' := by rw [hw, hm, hv]

/-- The changes of the weights from the weights, the old moments and the gradient. -/
def step (W M V G : FVec Ideal s .f32) : FVec Ideal s .f32 := deltaArr W (momArr M G) (velArr V G)

theorem step_congr {W W' M M' V V' G G' : FVec Ideal s .f32} (hw : W = W') (hm : M = M') (hv : V = V') (hg : G = G') : step W M V G = step W' M' V' G' := by
  rw [hw, hm, hv, hg]

/-- The number of a bit pattern at every entry. -/
def fill (h : (⟨0, ![]⟩ : Shape).BroadcastsInDim s (![] : Fin 0 → Fin s.rank)) (b : BitVec 32) : FVec Ideal s .f32 := broadcastInDim s ![] h (constant (F := Ideal) (⟨0, ![]⟩ : Shape) .f32 b)

/-- The change of the weights with the corrections divided out, as the reference writes it. -/
def refDelta (h : (⟨0, ![]⟩ : Shape).BroadcastsInDim s (![] : Fin 0 → Fin s.rank)) (W M V : FVec Ideal s .f32) : FVec Ideal s .f32 :=
  mulf (fill h 0xBA83126F#32) (addf (Host.divf (Host.divf M (fill h 0x3F26BD02#32)) (addf (Host.sqrt (Host.divf V (fill h 0x3C231ACC#32))) (fill h 0x322BCC77#32))) (mulf (fill h 0x3C23D70A#32) W))

theorem refDelta_eq (h : (⟨0, ![]⟩ : Shape).BroadcastsInDim s (![] : Fin 0 → Fin s.rank)) (W M V : FVec Ideal s .f32) : refDelta h W M V = deltaArr W M V := by
  funext y
  show Ideal.ofBits .f32 0xBA83126F#32 * (Ideal.div (Ideal.div (M y) (Ideal.ofBits .f32 0x3F26BD02#32)) (Ideal.sqrt (Ideal.div (V y) (Ideal.ofBits .f32 0x3C231ACC#32)) + Ideal.ofBits .f32 0x322BCC77#32) + Ideal.ofBits .f32 0x3C23D70A#32 * W y) = _
  rw [div1, div2]
  rfl

end Cert.Proof.AdamModel
-- ==== Proof.Adam0.lean ====
/- What the optimiser's call `adamw_mla_w_in` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S512x264 .f32)

theorem grad_block0 (y : S512x264.Idx) : k0_pay2 a b y = (a y + b y : EReal) := rfl

theorem mom_block0 (y : S512x264.Idx) : k0_pay3 a b m y = mom (m y) (a y + b y : EReal) := rfl

theorem vel_block0 (y : S512x264.Idx) : k0_pay4 a b v y = vel (v y) (a y + b y : EReal) := rfl

theorem delta_block0 (y : S512x264.Idx) : k0_pay1 (k0_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx0 : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] ∧ win0_8.index t = ![(grid0.coords t 0).val, 0] :=
  (by decide +kernel : ∀ t : Fin grid0.N, _)

theorem read0_0 (c : Dev nD) (t : Fin cfg0.N) (y : S512x264.Idx) : iblk0 V c 0 t y = V c main_arg0 (((cfg0.win 5).blk t).view.emb y) := by
  obtain ⟨y0, y1, rfl⟩ : ∃ (y0 : Fin 512) (y1 : Fin 264), y = ix2 y0 y1 := ⟨y 0, y 1, eq_ix2 y⟩
  blk_ext [iblk0, idx0 t]

theorem read0_1 (c : Dev nD) (t : Fin cfg0.N) (y : S512x264.Idx) : iblk0 V c 1 t y = V c main_arg1 (((cfg0.win 5).blk t).view.emb y) := by
  obtain ⟨y0, y1, rfl⟩ : ∃ (y0 : Fin 512) (y1 : Fin 264), y = ix2 y0 y1 := ⟨y 0, y 1, eq_ix2 y⟩
  blk_ext [iblk0, idx0 t]

theorem read0_2 (c : Dev nD) (t : Fin cfg0.N) (y : S512x264.Idx) : iblk0 V c 2 t y = V c main_arg2 (((cfg0.win 5).blk t).view.emb y) := by
  obtain ⟨y0, y1, rfl⟩ : ∃ (y0 : Fin 512) (y1 : Fin 264), y = ix2 y0 y1 := ⟨y 0, y 1, eq_ix2 y⟩
  blk_ext [iblk0, idx0 t]

theorem read0_3 (c : Dev nD) (t : Fin cfg0.N) (y : S512x264.Idx) : iblk0 V c 3 t y = V c main_arg3 (((cfg0.win 5).blk t).view.emb y) := by
  obtain ⟨y0, y1, rfl⟩ : ∃ (y0 : Fin 512) (y1 : Fin 264), y = ix2 y0 y1 := ⟨y 0, y 1, eq_ix2 y⟩
  blk_ext [iblk0, idx0 t]

theorem read0_4 (c : Dev nD) (t : Fin cfg0.N) (y : S512x264.Idx) : iblk0 V c 4 t y = V c main_arg4 (((cfg0.win 5).blk t).view.emb y) := by
  obtain ⟨y0, y1, rfl⟩ : ∃ (y0 : Fin 512) (y1 : Fin 264), y = ix2 y0 y1 := ⟨y 0, y 1, eq_ix2 y⟩
  blk_ext [iblk0, idx0 t]

theorem grad_final0 (c : Dev nD) : (dat0 V c).arrAt 5 cfg0.N = (both (V c main_arg3) (V c main_arg4)) := by
  refine (dat0 V c).arrAt_eq_of_covers 5 _ (by decide +kernel) fun t _ y => ?_
  blk_simp
  rw [after0_5]; frame_out
  exact (grad_block0 _ _ y).trans ((congrArg₂ (fun a b : EReal => a + b) (read0_3 V c t y) (read0_4 V c t y)))

theorem delta_final0 (c : Dev nD) : (dat0 V c).arrAt 6 cfg0.N = deltaArr (V c main_arg0) (momArr (V c main_arg1) (both (V c main_arg3) (V c main_arg4))) (velArr (V c main_arg2) (both (V c main_arg3) (V c main_arg4))) := by
  refine (dat0 V c).arrAt_eq_of_covers 6 _ (by decide +kernel) fun t _ y => ?_
  blk_simp
  rw [after0_6]; frame_out
  exact (delta_block0 _ _ _ _ _ y).trans (delta_congr (read0_0 V c t y) (congrArg₂ mom (read0_1 V c t y) (congrArg₂ (fun a b : EReal => a + b) (read0_3 V c t y) (read0_4 V c t y))) (congrArg₂ vel (read0_2 V c t y) (congrArg₂ (fun a b : EReal => a + b) (read0_3 V c t y) (read0_4 V c t y))))

theorem mom_final0 (c : Dev nD) : (dat0 V c).arrAt 7 cfg0.N = momArr (V c main_arg1) (both (V c main_arg3) (V c main_arg4)) := by
  refine (dat0 V c).arrAt_eq_of_covers 7 _ (by decide +kernel) fun t _ y => ?_
  blk_simp
  rw [after0_7]; frame_out
  exact (mom_block0 _ _ _ y).trans (congrArg₂ mom (read0_1 V c t y) (congrArg₂ (fun a b : EReal => a + b) (read0_3 V c t y) (read0_4 V c t y)))

theorem vel_final0 (c : Dev nD) : (dat0 V c).arrAt 8 cfg0.N = velArr (V c main_arg2) (both (V c main_arg3) (V c main_arg4)) := by
  refine (dat0 V c).arrAt_eq_of_covers 8 _ (by decide +kernel) fun t _ y => ?_
  blk_simp
  rw [after0_8]; frame_out
  exact (vel_block0 _ _ _ y).trans (congrArg₂ vel (read0_2 V c t y) (congrArg₂ (fun a b : EReal => a + b) (read0_3 V c t y) (read0_4 V c t y)))

end Cert.Proof.AdamIdeal
-- ==== Proof.Adam1.lean ====
/- What the optimiser's call `adamw_mla_w_qb` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S512x384 .f32)

theorem grad_block1 (y : S512x384.Idx) : k1_pay2 a b y = (a y + b y : EReal) := rfl

theorem mom_block1 (y : S512x384.Idx) : k1_pay3 a b m y = mom (m y) (a y + b y : EReal) := rfl

theorem vel_block1 (y : S512x384.Idx) : k1_pay4 a b v y = vel (v y) (a y + b y : EReal) := rfl

theorem delta_block1 (y : S512x384.Idx) : k1_pay1 (k1_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx1 : ∀ t : Fin cfg1.N, win1_0.index t = ![(grid1.coords t 0).val, 0] ∧ win1_1.index t = ![(grid1.coords t 0).val, 0] ∧ win1_2.index t = ![(grid1.coords t 0).val, 0] ∧ win1_3.index t = ![(grid1.coords t 0).val, 0] ∧ win1_4.index t = ![(grid1.coords t 0).val, 0] ∧ win1_5.index t = ![(grid1.coords t 0).val, 0] ∧ win1_6.index t = ![(grid1.coords t 0).val, 0] ∧ win1_7.index t = ![(grid1.coords t 0).val, 0] ∧ win1_8.index t = ![(grid1.coords t 0).val, 0] :=
  (by decide +kernel : ∀ t : Fin grid1.N, _)

theorem read1_0 (c : Dev nD) (t : Fin cfg1.N) (y : S512x384.Idx) : iblk1 V c 0 t y = V c main_arg5 (((cfg1.win 5).blk t).view.emb y) := by
  obtain ⟨y0, y1, rfl⟩ : ∃ (y0 : Fin 512) (y1 : Fin 384), y = ix2 y0 y1 := ⟨y 0, y 1, eq_ix2 y⟩
  blk_ext [iblk1, idx1 t]

theorem read1_1 (c : Dev nD) (t : Fin cfg1.N) (y : S512x384.Idx) : iblk1 V c 1 t y = V c main_arg6 (((cfg1.win 5).blk t).view.emb y) := by
  obtain ⟨y0, y1, rfl⟩ : ∃ (y0 : Fin 512) (y1 : Fin 384), y = ix2 y0 y1 := ⟨y 0, y 1, eq_ix2 y⟩
  blk_ext [iblk1, idx1 t]

theorem read1_2 (c : Dev nD) (t : Fin cfg1.N) (y : S512x384.Idx) : iblk1 V c 2 t y = V c main_arg7 (((cfg1.win 5).blk t).view.emb y) := by
  obtain ⟨y0, y1, rfl⟩ : ∃ (y0 : Fin 512) (y1 : Fin 384), y = ix2 y0 y1 := ⟨y 0, y 1, eq_ix2 y⟩
  blk_ext [iblk1, idx1 t]

theorem read1_3 (c : Dev nD) (t : Fin cfg1.N) (y : S512x384.Idx) : iblk1 V c 3 t y = V c main_arg8 (((cfg1.win 5).blk t).view.emb y) := by
  obtain ⟨y0, y1, rfl⟩ : ∃ (y0 : Fin 512) (y1 : Fin 384), y = ix2 y0 y1 := ⟨y 0, y 1, eq_ix2 y⟩
  blk_ext [iblk1, idx1 t]

theorem read1_4 (c : Dev nD) (t : Fin cfg1.N) (y : S512x384.Idx) : iblk1 V c 4 t y = V c main_arg9 (((cfg1.win 5).blk t).view.emb y) := by
  obtain ⟨y0, y1, rfl⟩ : ∃ (y0 : Fin 512) (y1 : Fin 384), y = ix2 y0 y1 := ⟨y 0, y 1, eq_ix2 y⟩
  blk_ext [iblk1, idx1 t]

theorem grad_final1 (c : Dev nD) : (dat1 V c).arrAt 5 cfg1.N = (both (V c main_arg8) (V c main_arg9)) := by
  refine (dat1 V c).arrAt_eq_of_covers 5 _ (by decide +kernel) fun t _ y => ?_
  blk_simp
  rw [after1_5]; frame_out
  exact (grad_block1 _ _ y).trans ((congrArg₂ (fun a b : EReal => a + b) (read1_3 V c t y) (read1_4 V c t y)))

theorem delta_final1 (c : Dev nD) : (dat1 V c).arrAt 6 cfg1.N = deltaArr (V c main_arg5) (momArr (V c main_arg6) (both (V c main_arg8) (V c main_arg9))) (velArr (V c main_arg7) (both (V c main_arg8) (V c main_arg9))) := by
  refine (dat1 V c).arrAt_eq_of_covers 6 _ (by decide +kernel) fun t _ y => ?_
  blk_simp
  rw [after1_6]; frame_out
  exact (delta_block1 _ _ _ _ _ y).trans (delta_congr (read1_0 V c t y) (congrArg₂ mom (read1_1 V c t y) (congrArg₂ (fun a b : EReal => a + b) (read1_3 V c t y) (read1_4 V c t y))) (congrArg₂ vel (read1_2 V c t y) (congrArg₂ (fun a b : EReal => a + b) (read1_3 V c t y) (read1_4 V c t y))))

theorem mom_final1 (c : Dev nD) : (dat1 V c).arrAt 7 cfg1.N = momArr (V c main_arg6) (both (V c main_arg8) (V c main_arg9)) := by
  refine (dat1 V c).arrAt_eq_of_covers 7 _ (by decide +kernel) fun t _ y => ?_
  blk_simp
  rw [after1_7]; frame_out
  exact (mom_block1 _ _ _ y).trans (congrArg₂ mom (read1_1 V c t y) (congrArg₂ (fun a b : EReal => a + b) (read1_3 V c t y) (read1_4 V c t y)))

theorem vel_final1 (c : Dev nD) : (dat1 V c).arrAt 8 cfg1.N = velArr (V c main_arg7) (both (V c main_arg8) (V c main_arg9)) := by
  refine (dat1 V c).arrAt_eq_of_covers 8 _ (by decide +kernel) fun t _ y => ?_
  blk_simp
  rw [after1_8]; frame_out
  exact (vel_block1 _ _ _ y).trans (congrArg₂ vel (read1_2 V c t y) (congrArg₂ (fun a b : EReal => a + b) (read1_3 V c t y) (read1_4 V c t y)))

end Cert.Proof.AdamIdeal
-- ==== Proof.Adam2.lean ====
/- What the optimiser's call `adamw_mla_w_kvb` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S512x512 .f32)

theorem grad_block2 (y : S512x512.Idx) : k2_pay2 a b y = (a y + b y : EReal) := rfl

theorem mom_block2 (y : S512x512.Idx) : k2_pay3 a b m y = mom (m y) (a y + b y : EReal) := rfl

theorem vel_block2 (y : S512x512.Idx) : k2_pay4 a b v y = vel (v y) (a y + b y : EReal) := rfl

theorem delta_block2 (y : S512x512.Idx) : k2_pay1 (k2_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx2 : ∀ t : Fin cfg2.N, win2_0.index t = ![0, 0] ∧ win2_1.index t = ![0, 0] ∧ win2_2.index t = ![0, 0] ∧ win2_3.index t = ![0, 0] ∧ win2_4.index t = ![0, 0] ∧ win2_5.index t = ![0, 0] ∧ win2_6.index t = ![0, 0] ∧ win2_7.index t = ![0, 0] ∧ win2_8.index t = ![0, 0] :=
  (by decide +kernel : ∀ t : Fin grid2.N, _)

theorem read2_0 (c : Dev nD) (t : Fin cfg2.N) (y : S512x512.Idx) : iblk2 V c 0 t y = V c main_arg10 (((cfg2.win 5).blk t).view.emb y) := by
  obtain ⟨y0, y1, rfl⟩ : ∃ (y0 : Fin 512) (y1 : Fin 512), y = ix2 y0 y1 := ⟨y 0, y 1, eq_ix2 y⟩
  blk_ext [iblk2, idx2 t]

theorem read2_1 (c : Dev nD) (t : Fin cfg2.N) (y : S512x512.Idx) : iblk2 V c 1 t y = V c main_arg11 (((cfg2.win 5).blk t).view.emb y) := by
  obtain ⟨y0, y1, rfl⟩ : ∃ (y0 : Fin 512) (y1 : Fin 512), y = ix2 y0 y1 := ⟨y 0, y 1, eq_ix2 y⟩
  blk_ext [iblk2, idx2 t]

theorem read2_2 (c : Dev nD) (t : Fin cfg2.N) (y : S512x512.Idx) : iblk2 V c 2 t y = V c main_arg12 (((cfg2.win 5).blk t).view.emb y) := by
  obtain ⟨y0, y1, rfl⟩ : ∃ (y0 : Fin 512) (y1 : Fin 512), y = ix2 y0 y1 := ⟨y 0, y 1, eq_ix2 y⟩
  blk_ext [iblk2, idx2 t]

theorem read2_3 (c : Dev nD) (t : Fin cfg2.N) (y : S512x512.Idx) : iblk2 V c 3 t y = V c main_arg13 (((cfg2.win 5).blk t).view.emb y) := by
  obtain ⟨y0, y1, rfl⟩ : ∃ (y0 : Fin 512) (y1 : Fin 512), y = ix2 y0 y1 := ⟨y 0, y 1, eq_ix2 y⟩
  blk_ext [iblk2, idx2 t]

theorem read2_4 (c : Dev nD) (t : Fin cfg2.N) (y : S512x512.Idx) : iblk2 V c 4 t y = V c main_arg14 (((cfg2.win 5).blk t).view.emb y) := by
  obtain ⟨y0, y1, rfl⟩ : ∃ (y0 : Fin 512) (y1 : Fin 512), y = ix2 y0 y1 := ⟨y 0, y 1, eq_ix2 y⟩
  blk_ext [iblk2, idx2 t]

theorem grad_final2 (c : Dev nD) : (dat2 V c).arrAt 5 cfg2.N = (both (V c main_arg13) (V c main_arg14)) := by
  refine (dat2 V c).arrAt_eq_of_covers 5 _ (by decide +kernel) fun t _ y => ?_
  blk_simp
  rw [after2_5]; frame_out
  exact (grad_block2 _ _ y).trans ((congrArg₂ (fun a b : EReal => a + b) (read2_3 V c t y) (read2_4 V c t y)))

theorem delta_final2 (c : Dev nD) : (dat2 V c).arrAt 6 cfg2.N = deltaArr (V c main_arg10) (momArr (V c main_arg11) (both (V c main_arg13) (V c main_arg14))) (velArr (V c main_arg12) (both (V c main_arg13) (V c main_arg14))) := by
  refine (dat2 V c).arrAt_eq_of_covers 6 _ (by decide +kernel) fun t _ y => ?_
  blk_simp
  rw [after2_6]; frame_out
  exact (delta_block2 _ _ _ _ _ y).trans (delta_congr (read2_0 V c t y) (congrArg₂ mom (read2_1 V c t y) (congrArg₂ (fun a b : EReal => a + b) (read2_3 V c t y) (read2_4 V c t y))) (congrArg₂ vel (read2_2 V c t y) (congrArg₂ (fun a b : EReal => a + b) (read2_3 V c t y) (read2_4 V c t y))))

theorem mom_final2 (c : Dev nD) : (dat2 V c).arrAt 7 cfg2.N = momArr (V c main_arg11) (both (V c main_arg13) (V c main_arg14)) := by
  refine (dat2 V c).arrAt_eq_of_covers 7 _ (by decide +kernel) fun t _ y => ?_
  blk_simp
  rw [after2_7]; frame_out
  exact (mom_block2 _ _ _ y).trans (congrArg₂ mom (read2_1 V c t y) (congrArg₂ (fun a b : EReal => a + b) (read2_3 V c t y) (read2_4 V c t y)))

theorem vel_final2 (c : Dev nD) : (dat2 V c).arrAt 8 cfg2.N = velArr (V c main_arg12) (both (V c main_arg13) (V c main_arg14)) := by
  refine (dat2 V c).arrAt_eq_of_covers 8 _ (by decide +kernel) fun t _ y => ?_
  blk_simp
  rw [after2_8]; frame_out
  exact (vel_block2 _ _ _ y).trans (congrArg₂ vel (read2_2 V c t y) (congrArg₂ (fun a b : EReal => a + b) (read2_3 V c t y) (read2_4 V c t y)))

end Cert.Proof.AdamIdeal
-- ==== Proof.Adam3.lean ====
/- What the optimiser's call `adamw_mla_w_o` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S512x1024 .f32)

theorem grad_block3 (y : S512x1024.Idx) : k3_pay2 a b y = (a y + b y : EReal) := rfl

theorem mom_block3 (y : S512x1024.Idx) : k3_pay3 a b m y = mom (m y) (a y + b y : EReal) := rfl

theorem vel_block3 (y : S512x1024.Idx) : k3_pay4 a b v y = vel (v y) (a y + b y : EReal) := rfl

theorem delta_block3 (y : S512x1024.Idx) : k3_pay1 (k3_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx3 : ∀ t : Fin cfg3.N, win3_0.index t = ![0, 0] ∧ win3_1.index t = ![0, 0] ∧ win3_2.index t = ![0, 0] ∧ win3_3.index t = ![0, 0] ∧ win3_4.index t = ![0, 0] ∧ win3_5.index t = ![0, 0] ∧ win3_6.index t = ![0, 0] ∧ win3_7.index t = ![0, 0] ∧ win3_8.index t = ![0, 0] :=
  (by decide +kernel : ∀ t : Fin grid3.N, _)

theorem read3_0 (c : Dev nD) (t : Fin cfg3.N) (y : S512x1024.Idx) : iblk3 V c 0 t y = V c main_arg15 (((cfg3.win 5).blk t).view.emb y) := by
  obtain ⟨y0, y1, rfl⟩ : ∃ (y0 : Fin 512) (y1 : Fin 1024), y = ix2 y0 y1 := ⟨y 0, y 1, eq_ix2 y⟩
  blk_ext [iblk3, idx3 t]

theorem read3_1 (c : Dev nD) (t : Fin cfg3.N) (y : S512x1024.Idx) : iblk3 V c 1 t y = V c main_arg16 (((cfg3.win 5).blk t).view.emb y) := by
  obtain ⟨y0, y1, rfl⟩ : ∃ (y0 : Fin 512) (y1 : Fin 1024), y = ix2 y0 y1 := ⟨y 0, y 1, eq_ix2 y⟩
  blk_ext [iblk3, idx3 t]

theorem read3_2 (c : Dev nD) (t : Fin cfg3.N) (y : S512x1024.Idx) : iblk3 V c 2 t y = V c main_arg17 (((cfg3.win 5).blk t).view.emb y) := by
  obtain ⟨y0, y1, rfl⟩ : ∃ (y0 : Fin 512) (y1 : Fin 1024), y = ix2 y0 y1 := ⟨y 0, y 1, eq_ix2 y⟩
  blk_ext [iblk3, idx3 t]

theorem read3_3 (c : Dev nD) (t : Fin cfg3.N) (y : S512x1024.Idx) : iblk3 V c 3 t y = V c main_arg18 (((cfg3.win 5).blk t).view.emb y) := by
  obtain ⟨y0, y1, rfl⟩ : ∃ (y0 : Fin 512) (y1 : Fin 1024), y = ix2 y0 y1 := ⟨y 0, y 1, eq_ix2 y⟩
  blk_ext [iblk3, idx3 t]

theorem read3_4 (c : Dev nD) (t : Fin cfg3.N) (y : S512x1024.Idx) : iblk3 V c 4 t y = V c main_arg19 (((cfg3.win 5).blk t).view.emb y) := by
  obtain ⟨y0, y1, rfl⟩ : ∃ (y0 : Fin 512) (y1 : Fin 1024), y = ix2 y0 y1 := ⟨y 0, y 1, eq_ix2 y⟩
  blk_ext [iblk3, idx3 t]

theorem grad_final3 (c : Dev nD) : (dat3 V c).arrAt 5 cfg3.N = (both (V c main_arg18) (V c main_arg19)) := by
  refine (dat3 V c).arrAt_eq_of_covers 5 _ (by decide +kernel) fun t _ y => ?_
  blk_simp
  rw [after3_5]; frame_out
  exact (grad_block3 _ _ y).trans ((congrArg₂ (fun a b : EReal => a + b) (read3_3 V c t y) (read3_4 V c t y)))

theorem delta_final3 (c : Dev nD) : (dat3 V c).arrAt 6 cfg3.N = deltaArr (V c main_arg15) (momArr (V c main_arg16) (both (V c main_arg18) (V c main_arg19))) (velArr (V c main_arg17) (both (V c main_arg18) (V c main_arg19))) := by
  refine (dat3 V c).arrAt_eq_of_covers 6 _ (by decide +kernel) fun t _ y => ?_
  blk_simp
  rw [after3_6]; frame_out
  exact (delta_block3 _ _ _ _ _ y).trans (delta_congr (read3_0 V c t y) (congrArg₂ mom (read3_1 V c t y) (congrArg₂ (fun a b : EReal => a + b) (read3_3 V c t y) (read3_4 V c t y))) (congrArg₂ vel (read3_2 V c t y) (congrArg₂ (fun a b : EReal => a + b) (read3_3 V c t y) (read3_4 V c t y))))

theorem mom_final3 (c : Dev nD) : (dat3 V c).arrAt 7 cfg3.N = momArr (V c main_arg16) (both (V c main_arg18) (V c main_arg19)) := by
  refine (dat3 V c).arrAt_eq_of_covers 7 _ (by decide +kernel) fun t _ y => ?_
  blk_simp
  rw [after3_7]; frame_out
  exact (mom_block3 _ _ _ y).trans (congrArg₂ mom (read3_1 V c t y) (congrArg₂ (fun a b : EReal => a + b) (read3_3 V c t y) (read3_4 V c t y)))

theorem vel_final3 (c : Dev nD) : (dat3 V c).arrAt 8 cfg3.N = velArr (V c main_arg17) (both (V c main_arg18) (V c main_arg19)) := by
  refine (dat3 V c).arrAt_eq_of_covers 8 _ (by decide +kernel) fun t _ y => ?_
  blk_simp
  rw [after3_8]; frame_out
  exact (vel_block3 _ _ _ y).trans (congrArg₂ vel (read3_2 V c t y) (congrArg₂ (fun a b : EReal => a + b) (read3_3 V c t y) (read3_4 V c t y)))

end Cert.Proof.AdamIdeal
-- ==== Proof.Adam4.lean ====
/- What the optimiser's call `adamw_hgrn_w_in` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S512x1024 .f32)

theorem grad_block4 (y : S512x1024.Idx) : k4_pay2 a b y = (a y + b y : EReal) := rfl

theorem mom_block4 (y : S512x1024.Idx) : k4_pay3 a b m y = mom (m y) (a y + b y : EReal) := rfl

theorem vel_block4 (y : S512x1024.Idx) : k4_pay4 a b v y = vel (v y) (a y + b y : EReal) := rfl

theorem delta_block4 (y : S512x1024.Idx) : k4_pay1 (k4_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx4 : ∀ t : Fin cfg4.N, win4_0.index t = ![(grid4.coords t 0).val, 0] ∧ win4_1.index t = ![(grid4.coords t 0).val, 0] ∧ win4_2.index t = ![(grid4.coords t 0).val, 0] ∧ win4_3.index t = ![(grid4.coords t 0).val, 0] ∧ win4_4.index t = ![(grid4.coords t 0).val, 0] ∧ win4_5.index t = ![(grid4.coords t 0).val, 0] ∧ win4_6.index t = ![(grid4.coords t 0).val, 0] ∧ win4_7.index t = ![(grid4.coords t 0).val, 0] ∧ win4_8.index t = ![(grid4.coords t 0).val, 0] :=
  (by decide +kernel : ∀ t : Fin grid4.N, _)

theorem read4_0 (c : Dev nD) (t : Fin cfg4.N) (y : S512x1024.Idx) : iblk4 V c 0 t y = V c main_arg20 (((cfg4.win 5).blk t).view.emb y) := by
  obtain ⟨y0, y1, rfl⟩ : ∃ (y0 : Fin 512) (y1 : Fin 1024), y = ix2 y0 y1 := ⟨y 0, y 1, eq_ix2 y⟩
  blk_ext [iblk4, idx4 t]

theorem read4_1 (c : Dev nD) (t : Fin cfg4.N) (y : S512x1024.Idx) : iblk4 V c 1 t y = V c main_arg21 (((cfg4.win 5).blk t).view.emb y) := by
  obtain ⟨y0, y1, rfl⟩ : ∃ (y0 : Fin 512) (y1 : Fin 1024), y = ix2 y0 y1 := ⟨y 0, y 1, eq_ix2 y⟩
  blk_ext [iblk4, idx4 t]

theorem read4_2 (c : Dev nD) (t : Fin cfg4.N) (y : S512x1024.Idx) : iblk4 V c 2 t y = V c main_arg22 (((cfg4.win 5).blk t).view.emb y) := by
  obtain ⟨y0, y1, rfl⟩ : ∃ (y0 : Fin 512) (y1 : Fin 1024), y = ix2 y0 y1 := ⟨y 0, y 1, eq_ix2 y⟩
  blk_ext [iblk4, idx4 t]

theorem read4_3 (c : Dev nD) (t : Fin cfg4.N) (y : S512x1024.Idx) : iblk4 V c 3 t y = V c main_arg23 (((cfg4.win 5).blk t).view.emb y) := by
  obtain ⟨y0, y1, rfl⟩ : ∃ (y0 : Fin 512) (y1 : Fin 1024), y = ix2 y0 y1 := ⟨y 0, y 1, eq_ix2 y⟩
  blk_ext [iblk4, idx4 t]

theorem read4_4 (c : Dev nD) (t : Fin cfg4.N) (y : S512x1024.Idx) : iblk4 V c 4 t y = V c main_arg24 (((cfg4.win 5).blk t).view.emb y) := by
  obtain ⟨y0, y1, rfl⟩ : ∃ (y0 : Fin 512) (y1 : Fin 1024), y = ix2 y0 y1 := ⟨y 0, y 1, eq_ix2 y⟩
  blk_ext [iblk4, idx4 t]

theorem grad_final4 (c : Dev nD) : (dat4 V c).arrAt 5 cfg4.N = (both (V c main_arg23) (V c main_arg24)) := by
  refine (dat4 V c).arrAt_eq_of_covers 5 _ (by decide +kernel) fun t _ y => ?_
  blk_simp
  rw [after4_5]; frame_out
  exact (grad_block4 _ _ y).trans ((congrArg₂ (fun a b : EReal => a + b) (read4_3 V c t y) (read4_4 V c t y)))

theorem delta_final4 (c : Dev nD) : (dat4 V c).arrAt 6 cfg4.N = deltaArr (V c main_arg20) (momArr (V c main_arg21) (both (V c main_arg23) (V c main_arg24))) (velArr (V c main_arg22) (both (V c main_arg23) (V c main_arg24))) := by
  refine (dat4 V c).arrAt_eq_of_covers 6 _ (by decide +kernel) fun t _ y => ?_
  blk_simp
  rw [after4_6]; frame_out
  exact (delta_block4 _ _ _ _ _ y).trans (delta_congr (read4_0 V c t y) (congrArg₂ mom (read4_1 V c t y) (congrArg₂ (fun a b : EReal => a + b) (read4_3 V c t y) (read4_4 V c t y))) (congrArg₂ vel (read4_2 V c t y) (congrArg₂ (fun a b : EReal => a + b) (read4_3 V c t y) (read4_4 V c t y))))

theorem mom_final4 (c : Dev nD) : (dat4 V c).arrAt 7 cfg4.N = momArr (V c main_arg21) (both (V c main_arg23) (V c main_arg24)) := by
  refine (dat4 V c).arrAt_eq_of_covers 7 _ (by decide +kernel) fun t _ y => ?_
  blk_simp
  rw [after4_7]; frame_out
  exact (mom_block4 _ _ _ y).trans (congrArg₂ mom (read4_1 V c t y) (congrArg₂ (fun a b : EReal => a + b) (read4_3 V c t y) (read4_4 V c t y)))

theorem vel_final4 (c : Dev nD) : (dat4 V c).arrAt 8 cfg4.N = velArr (V c main_arg22) (both (V c main_arg23) (V c main_arg24)) := by
  refine (dat4 V c).arrAt_eq_of_covers 8 _ (by decide +kernel) fun t _ y => ?_
  blk_simp
  rw [after4_8]; frame_out
  exact (vel_block4 _ _ _ y).trans (congrArg₂ vel (read4_2 V c t y) (congrArg₂ (fun a b : EReal => a + b) (read4_3 V c t y) (read4_4 V c t y)))

end Cert.Proof.AdamIdeal
-- ==== Proof.Adam5.lean ====
/- What the optimiser's call `adamw_hgrn_w_o` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S512x1024 .f32)

theorem grad_block5 (y : S512x1024.Idx) : k5_pay2 a b y = (a y + b y : EReal) := rfl

theorem mom_block5 (y : S512x1024.Idx) : k5_pay3 a b m y = mom (m y) (a y + b y : EReal) := rfl

theorem vel_block5 (y : S512x1024.Idx) : k5_pay4 a b v y = vel (v y) (a y + b y : EReal) := rfl

theorem delta_block5 (y : S512x1024.Idx) : k5_pay1 (k5_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx5 : ∀ t : Fin cfg5.N, win5_0.index t = ![0, 0] ∧ win5_1.index t = ![0, 0] ∧ win5_2.index t = ![0, 0] ∧ win5_3.index t = ![0, 0] ∧ win5_4.index t = ![0, 0] ∧ win5_5.index t = ![0, 0] ∧ win5_6.index t = ![0, 0] ∧ win5_7.index t = ![0, 0] ∧ win5_8.index t = ![0, 0] :=
  (by decide +kernel : ∀ t : Fin grid5.N, _)

theorem read5_0 (c : Dev nD) (t : Fin cfg5.N) (y : S512x1024.Idx) : iblk5 V c 0 t y = V c main_arg25 (((cfg5.win 5).blk t).view.emb y) := by
  obtain ⟨y0, y1, rfl⟩ : ∃ (y0 : Fin 512) (y1 : Fin 1024), y = ix2 y0 y1 := ⟨y 0, y 1, eq_ix2 y⟩
  blk_ext [iblk5, idx5 t]

theorem read5_1 (c : Dev nD) (t : Fin cfg5.N) (y : S512x1024.Idx) : iblk5 V c 1 t y = V c main_arg26 (((cfg5.win 5).blk t).view.emb y) := by
  obtain ⟨y0, y1, rfl⟩ : ∃ (y0 : Fin 512) (y1 : Fin 1024), y = ix2 y0 y1 := ⟨y 0, y 1, eq_ix2 y⟩
  blk_ext [iblk5, idx5 t]

theorem read5_2 (c : Dev nD) (t : Fin cfg5.N) (y : S512x1024.Idx) : iblk5 V c 2 t y = V c main_arg27 (((cfg5.win 5).blk t).view.emb y) := by
  obtain ⟨y0, y1, rfl⟩ : ∃ (y0 : Fin 512) (y1 : Fin 1024), y = ix2 y0 y1 := ⟨y 0, y 1, eq_ix2 y⟩
  blk_ext [iblk5, idx5 t]

theorem read5_3 (c : Dev nD) (t : Fin cfg5.N) (y : S512x1024.Idx) : iblk5 V c 3 t y = V c main_arg28 (((cfg5.win 5).blk t).view.emb y) := by
  obtain ⟨y0, y1, rfl⟩ : ∃ (y0 : Fin 512) (y1 : Fin 1024), y = ix2 y0 y1 := ⟨y 0, y 1, eq_ix2 y⟩
  blk_ext [iblk5, idx5 t]

theorem read5_4 (c : Dev nD) (t : Fin cfg5.N) (y : S512x1024.Idx) : iblk5 V c 4 t y = V c main_arg29 (((cfg5.win 5).blk t).view.emb y) := by
  obtain ⟨y0, y1, rfl⟩ : ∃ (y0 : Fin 512) (y1 : Fin 1024), y = ix2 y0 y1 := ⟨y 0, y 1, eq_ix2 y⟩
  blk_ext [iblk5, idx5 t]

theorem grad_final5 (c : Dev nD) : (dat5 V c).arrAt 5 cfg5.N = (both (V c main_arg28) (V c main_arg29)) := by
  refine (dat5 V c).arrAt_eq_of_covers 5 _ (by decide +kernel) fun t _ y => ?_
  blk_simp
  rw [after5_5]; frame_out
  exact (grad_block5 _ _ y).trans ((congrArg₂ (fun a b : EReal => a + b) (read5_3 V c t y) (read5_4 V c t y)))

theorem delta_final5 (c : Dev nD) : (dat5 V c).arrAt 6 cfg5.N = deltaArr (V c main_arg25) (momArr (V c main_arg26) (both (V c main_arg28) (V c main_arg29))) (velArr (V c main_arg27) (both (V c main_arg28) (V c main_arg29))) := by
  refine (dat5 V c).arrAt_eq_of_covers 6 _ (by decide +kernel) fun t _ y => ?_
  blk_simp
  rw [after5_6]; frame_out
  exact (delta_block5 _ _ _ _ _ y).trans (delta_congr (read5_0 V c t y) (congrArg₂ mom (read5_1 V c t y) (congrArg₂ (fun a b : EReal => a + b) (read5_3 V c t y) (read5_4 V c t y))) (congrArg₂ vel (read5_2 V c t y) (congrArg₂ (fun a b : EReal => a + b) (read5_3 V c t y) (read5_4 V c t y))))

theorem mom_final5 (c : Dev nD) : (dat5 V c).arrAt 7 cfg5.N = momArr (V c main_arg26) (both (V c main_arg28) (V c main_arg29)) := by
  refine (dat5 V c).arrAt_eq_of_covers 7 _ (by decide +kernel) fun t _ y => ?_
  blk_simp
  rw [after5_7]; frame_out
  exact (mom_block5 _ _ _ y).trans (congrArg₂ mom (read5_1 V c t y) (congrArg₂ (fun a b : EReal => a + b) (read5_3 V c t y) (read5_4 V c t y)))

theorem vel_final5 (c : Dev nD) : (dat5 V c).arrAt 8 cfg5.N = velArr (V c main_arg27) (both (V c main_arg28) (V c main_arg29)) := by
  refine (dat5 V c).arrAt_eq_of_covers 8 _ (by decide +kernel) fun t _ y => ?_
  blk_simp
  rw [after5_8]; frame_out
  exact (vel_block5 _ _ _ y).trans (congrArg₂ vel (read5_2 V c t y) (congrArg₂ (fun a b : EReal => a + b) (read5_3 V c t y) (read5_4 V c t y)))

end Cert.Proof.AdamIdeal
-- ==== Proof.Adam6.lean ====
/- What the optimiser's call `adamw_ffn_w_in` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S256x1408 .f32)

theorem grad_block6 (y : S256x1408.Idx) : k6_pay2 a b y = (a y + b y : EReal) := rfl

theorem mom_block6 (y : S256x1408.Idx) : k6_pay3 a b m y = mom (m y) (a y + b y : EReal) := rfl

theorem vel_block6 (y : S256x1408.Idx) : k6_pay4 a b v y = vel (v y) (a y + b y : EReal) := rfl

theorem delta_block6 (y : S256x1408.Idx) : k6_pay1 (k6_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx6 : ∀ t : Fin cfg6.N, win6_0.index t = ![(grid6.coords t 0).val, 0] ∧ win6_1.index t = ![(grid6.coords t 0).val, 0] ∧ win6_2.index t = ![(grid6.coords t 0).val, 0] ∧ win6_3.index t = ![(grid6.coords t 0).val, 0] ∧ win6_4.index t = ![(grid6.coords t 0).val, 0] ∧ win6_5.index t = ![(grid6.coords t 0).val, 0] ∧ win6_6.index t = ![(grid6.coords t 0).val, 0] ∧ win6_7.index t = ![(grid6.coords t 0).val, 0] ∧ win6_8.index t = ![(grid6.coords t 0).val, 0] :=
  (by decide +kernel : ∀ t : Fin grid6.N, _)

theorem read6_0 (c : Dev nD) (t : Fin cfg6.N) (y : S256x1408.Idx) : iblk6 V c 0 t y = V c main_arg30 (((cfg6.win 5).blk t).view.emb y) := by
  obtain ⟨y0, y1, rfl⟩ : ∃ (y0 : Fin 256) (y1 : Fin 1408), y = ix2 y0 y1 := ⟨y 0, y 1, eq_ix2 y⟩
  blk_ext [iblk6, idx6 t]

theorem read6_1 (c : Dev nD) (t : Fin cfg6.N) (y : S256x1408.Idx) : iblk6 V c 1 t y = V c main_arg31 (((cfg6.win 5).blk t).view.emb y) := by
  obtain ⟨y0, y1, rfl⟩ : ∃ (y0 : Fin 256) (y1 : Fin 1408), y = ix2 y0 y1 := ⟨y 0, y 1, eq_ix2 y⟩
  blk_ext [iblk6, idx6 t]

theorem read6_2 (c : Dev nD) (t : Fin cfg6.N) (y : S256x1408.Idx) : iblk6 V c 2 t y = V c main_arg32 (((cfg6.win 5).blk t).view.emb y) := by
  obtain ⟨y0, y1, rfl⟩ : ∃ (y0 : Fin 256) (y1 : Fin 1408), y = ix2 y0 y1 := ⟨y 0, y 1, eq_ix2 y⟩
  blk_ext [iblk6, idx6 t]

theorem read6_3 (c : Dev nD) (t : Fin cfg6.N) (y : S256x1408.Idx) : iblk6 V c 3 t y = V c main_arg33 (((cfg6.win 5).blk t).view.emb y) := by
  obtain ⟨y0, y1, rfl⟩ : ∃ (y0 : Fin 256) (y1 : Fin 1408), y = ix2 y0 y1 := ⟨y 0, y 1, eq_ix2 y⟩
  blk_ext [iblk6, idx6 t]

theorem read6_4 (c : Dev nD) (t : Fin cfg6.N) (y : S256x1408.Idx) : iblk6 V c 4 t y = V c main_arg34 (((cfg6.win 5).blk t).view.emb y) := by
  obtain ⟨y0, y1, rfl⟩ : ∃ (y0 : Fin 256) (y1 : Fin 1408), y = ix2 y0 y1 := ⟨y 0, y 1, eq_ix2 y⟩
  blk_ext [iblk6, idx6 t]

theorem grad_final6 (c : Dev nD) : (dat6 V c).arrAt 5 cfg6.N = (both (V c main_arg33) (V c main_arg34)) := by
  refine (dat6 V c).arrAt_eq_of_covers 5 _ (by decide +kernel) fun t _ y => ?_
  blk_simp
  rw [after6_5]; frame_out
  exact (grad_block6 _ _ y).trans ((congrArg₂ (fun a b : EReal => a + b) (read6_3 V c t y) (read6_4 V c t y)))

theorem delta_final6 (c : Dev nD) : (dat6 V c).arrAt 6 cfg6.N = deltaArr (V c main_arg30) (momArr (V c main_arg31) (both (V c main_arg33) (V c main_arg34))) (velArr (V c main_arg32) (both (V c main_arg33) (V c main_arg34))) := by
  refine (dat6 V c).arrAt_eq_of_covers 6 _ (by decide +kernel) fun t _ y => ?_
  blk_simp
  rw [after6_6]; frame_out
  exact (delta_block6 _ _ _ _ _ y).trans (delta_congr (read6_0 V c t y) (congrArg₂ mom (read6_1 V c t y) (congrArg₂ (fun a b : EReal => a + b) (read6_3 V c t y) (read6_4 V c t y))) (congrArg₂ vel (read6_2 V c t y) (congrArg₂ (fun a b : EReal => a + b) (read6_3 V c t y) (read6_4 V c t y))))

theorem mom_final6 (c : Dev nD) : (dat6 V c).arrAt 7 cfg6.N = momArr (V c main_arg31) (both (V c main_arg33) (V c main_arg34)) := by
  refine (dat6 V c).arrAt_eq_of_covers 7 _ (by decide +kernel) fun t _ y => ?_
  blk_simp
  rw [after6_7]; frame_out
  exact (mom_block6 _ _ _ y).trans (congrArg₂ mom (read6_1 V c t y) (congrArg₂ (fun a b : EReal => a + b) (read6_3 V c t y) (read6_4 V c t y)))

theorem vel_final6 (c : Dev nD) : (dat6 V c).arrAt 8 cfg6.N = velArr (V c main_arg32) (both (V c main_arg33) (V c main_arg34)) := by
  refine (dat6 V c).arrAt_eq_of_covers 8 _ (by decide +kernel) fun t _ y => ?_
  blk_simp
  rw [after6_8]; frame_out
  exact (vel_block6 _ _ _ y).trans (congrArg₂ vel (read6_2 V c t y) (congrArg₂ (fun a b : EReal => a + b) (read6_3 V c t y) (read6_4 V c t y)))

end Cert.Proof.AdamIdeal
-- ==== Proof.Adam7.lean ====
/- What the optimiser's call `adamw_ffn_w_out` leaves. -/
module

public import proofs.«01_k».proof.Proof.Gen.AdamIdeal.Frame
public import proofs.«01_k».proof.Proof.AdamModel

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel

section Block

variable (w m v a b : Vec Ideal S256x1024 .f32)

theorem grad_block7 (y : S256x1024.Idx) : k7_pay2 a b y = (a y + b y : EReal) := rfl

theorem mom_block7 (y : S256x1024.Idx) : k7_pay3 a b m y = mom (m y) (a y + b y : EReal) := rfl

theorem vel_block7 (y : S256x1024.Idx) : k7_pay4 a b v y = vel (v y) (a y + b y : EReal) := rfl

theorem delta_block7 (y : S256x1024.Idx) : k7_pay1 (k7_pay5 a b m v w) (Scalar.ofBits .f32 0xBA83126F#32) y = delta (w y) (mom (m y) (a y + b y : EReal)) (vel (v y) (a y + b y : EReal)) := rfl

end Block

variable (V : (c : Dev nD) → (b : Ref sig .tc) → Buf (Elt Ideal) ((c : Thread nD τ).loc b))

theorem idx7 : ∀ t : Fin cfg7.N, win7_0.index t = ![(grid7.coords t 0).val, 0] ∧ win7_1.index t = ![(grid7.coords t 0).val, 0] ∧ win7_2.index t = ![(grid7.coords t 0).val, 0] ∧ win7_3.index t = ![(grid7.coords t 0).val, 0] ∧ win7_4.index t = ![(grid7.coords t 0).val, 0] ∧ win7_5.index t = ![(grid7.coords t 0).val, 0] ∧ win7_6.index t = ![(grid7.coords t 0).val, 0] ∧ win7_7.index t = ![(grid7.coords t 0).val, 0] ∧ win7_8.index t = ![(grid7.coords t 0).val, 0] :=
  (by decide +kernel : ∀ t : Fin grid7.N, _)

theorem read7_0 (c : Dev nD) (t : Fin cfg7.N) (y : S256x1024.Idx) : iblk7 V c 0 t y = V c main_arg35 (((cfg7.win 5).blk t).view.emb y) := by
  obtain ⟨y0, y1, rfl⟩ : ∃ (y0 : Fin 256) (y1 : Fin 1024), y = ix2 y0 y1 := ⟨y 0, y 1, eq_ix2 y⟩
  blk_ext [iblk7, idx7 t]

theorem read7_1 (c : Dev nD) (t : Fin cfg7.N) (y : S256x1024.Idx) : iblk7 V c 1 t y = V c main_arg36 (((cfg7.win 5).blk t).view.emb y) := by
  obtain ⟨y0, y1, rfl⟩ : ∃ (y0 : Fin 256) (y1 : Fin 1024), y = ix2 y0 y1 := ⟨y 0, y 1, eq_ix2 y⟩
  blk_ext [iblk7, idx7 t]

theorem read7_2 (c : Dev nD) (t : Fin cfg7.N) (y : S256x1024.Idx) : iblk7 V c 2 t y = V c main_arg37 (((cfg7.win 5).blk t).view.emb y) := by
  obtain ⟨y0, y1, rfl⟩ : ∃ (y0 : Fin 256) (y1 : Fin 1024), y = ix2 y0 y1 := ⟨y 0, y 1, eq_ix2 y⟩
  blk_ext [iblk7, idx7 t]

theorem read7_3 (c : Dev nD) (t : Fin cfg7.N) (y : S256x1024.Idx) : iblk7 V c 3 t y = V c main_arg38 (((cfg7.win 5).blk t).view.emb y) := by
  obtain ⟨y0, y1, rfl⟩ : ∃ (y0 : Fin 256) (y1 : Fin 1024), y = ix2 y0 y1 := ⟨y 0, y 1, eq_ix2 y⟩
  blk_ext [iblk7, idx7 t]

theorem read7_4 (c : Dev nD) (t : Fin cfg7.N) (y : S256x1024.Idx) : iblk7 V c 4 t y = V c main_arg39 (((cfg7.win 5).blk t).view.emb y) := by
  obtain ⟨y0, y1, rfl⟩ : ∃ (y0 : Fin 256) (y1 : Fin 1024), y = ix2 y0 y1 := ⟨y 0, y 1, eq_ix2 y⟩
  blk_ext [iblk7, idx7 t]

theorem grad_final7 (c : Dev nD) : (dat7 V c).arrAt 5 cfg7.N = (both (V c main_arg38) (V c main_arg39)) := by
  refine (dat7 V c).arrAt_eq_of_covers 5 _ (by decide +kernel) fun t _ y => ?_
  blk_simp
  rw [after7_5]; frame_out
  exact (grad_block7 _ _ y).trans ((congrArg₂ (fun a b : EReal => a + b) (read7_3 V c t y) (read7_4 V c t y)))

theorem delta_final7 (c : Dev nD) : (dat7 V c).arrAt 6 cfg7.N = deltaArr (V c main_arg35) (momArr (V c main_arg36) (both (V c main_arg38) (V c main_arg39))) (velArr (V c main_arg37) (both (V c main_arg38) (V c main_arg39))) := by
  refine (dat7 V c).arrAt_eq_of_covers 6 _ (by decide +kernel) fun t _ y => ?_
  blk_simp
  rw [after7_6]; frame_out
  exact (delta_block7 _ _ _ _ _ y).trans (delta_congr (read7_0 V c t y) (congrArg₂ mom (read7_1 V c t y) (congrArg₂ (fun a b : EReal => a + b) (read7_3 V c t y) (read7_4 V c t y))) (congrArg₂ vel (read7_2 V c t y) (congrArg₂ (fun a b : EReal => a + b) (read7_3 V c t y) (read7_4 V c t y))))

theorem mom_final7 (c : Dev nD) : (dat7 V c).arrAt 7 cfg7.N = momArr (V c main_arg36) (both (V c main_arg38) (V c main_arg39)) := by
  refine (dat7 V c).arrAt_eq_of_covers 7 _ (by decide +kernel) fun t _ y => ?_
  blk_simp
  rw [after7_7]; frame_out
  exact (mom_block7 _ _ _ y).trans (congrArg₂ mom (read7_1 V c t y) (congrArg₂ (fun a b : EReal => a + b) (read7_3 V c t y) (read7_4 V c t y)))

theorem vel_final7 (c : Dev nD) : (dat7 V c).arrAt 8 cfg7.N = velArr (V c main_arg37) (both (V c main_arg38) (V c main_arg39)) := by
  refine (dat7 V c).arrAt_eq_of_covers 8 _ (by decide +kernel) fun t _ y => ?_
  blk_simp
  rw [after7_8]; frame_out
  exact (vel_block7 _ _ _ y).trans (congrArg₂ vel (read7_2 V c t y) (congrArg₂ (fun a b : EReal => a + b) (read7_3 V c t y) (read7_4 V c t y)))

end Cert.Proof.AdamIdeal
-- ==== Proof.AdamRun.lean ====
/- The run of the program of the optimiser's large weights: what each returned array holds at the end. -/
module

public import proofs.«01_k».proof.Proof.Adam0
public import proofs.«01_k».proof.Proof.Adam1
public import proofs.«01_k».proof.Proof.Adam2
public import proofs.«01_k».proof.Proof.Adam3
public import proofs.«01_k».proof.Proof.Adam4
public import proofs.«01_k».proof.Proof.Adam5
public import proofs.«01_k».proof.Proof.Adam6
public import proofs.«01_k».proof.Proof.Adam7
public import Idealize.ShloMosaic.Lib.Ring
public import Idealize.ShloMosaic.Lib.Tactic
public import Idealize.ShloMosaic.Lib.Claim

@[expose] public section

set_option maxRecDepth 16384

noncomputable section

namespace Cert.Proof.AdamIdeal

open Cert.AdamIdeal Cert.AdamIdeal.Gen
open Idealize.ShloMosaic Idealize.ShloMosaic.TcCoe Idealize.ShloMosaic.Tactic Idealize.SL.Sem
open Idealize.ShloMosaic.Pipeline (Dat)
open Cert.Proof.AdamModel
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- An argument as launched. -/
abbrev arg (c : Dev nD) (b : Ref sig .tc) : Buf (Elt Ideal) ((c : Thread nD τ).loc b) := m ((c : Thread nD τ).loc b)

/-- The gradient of weight 0. -/
def res0_0 (c : Dev nD) : FVec Ideal S2048x264 .f32 := both (arg m c main_arg3) (arg m c main_arg4)

theorem end_v0_0 (c : Dev nD) : W8 m ρ c (Proc.devRef .tc main_v0_0) = res0_0 m c :=
  (W8_of m ρ c main_v0_0 (by decide)).trans ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans ((W1_arr m ρ c 5).trans ((grad_final0 (V0 m ρ) c).trans (congrArg₂ both (W0_args m ρ c main_arg3 (by decide)) (W0_args m ρ c main_arg4 (by decide)))))))))))

/-- The change of weight 0. -/
def res0_1 (c : Dev nD) : FVec Ideal S2048x264 .f32 := step (arg m c main_arg0) (arg m c main_arg1) (arg m c main_arg2) (both (arg m c main_arg3) (arg m c main_arg4))

theorem end_v0_1 (c : Dev nD) : W8 m ρ c (Proc.devRef .tc main_v0_1) = res0_1 m c :=
  (W8_of m ρ c main_v0_1 (by decide)).trans ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans ((W1_arr m ρ c 6).trans ((delta_final0 (V0 m ρ) c).trans (step_congr (W0_args m ρ c main_arg0 (by decide)) (W0_args m ρ c main_arg1 (by decide)) (W0_args m ρ c main_arg2 (by decide)) (congrArg₂ both (W0_args m ρ c main_arg3 (by decide)) (W0_args m ρ c main_arg4 (by decide))))))))))))

/-- The new first moments of weight 0. -/
def res0_2 (c : Dev nD) : FVec Ideal S2048x264 .f32 := momArr (arg m c main_arg1) (both (arg m c main_arg3) (arg m c main_arg4))

theorem end_v0_2 (c : Dev nD) : W8 m ρ c (Proc.devRef .tc main_v0_2) = res0_2 m c :=
  (W8_of m ρ c main_v0_2 (by decide)).trans ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans ((W1_arr m ρ c 7).trans ((mom_final0 (V0 m ρ) c).trans (congrArg₂ momArr (W0_args m ρ c main_arg1 (by decide)) (congrArg₂ both (W0_args m ρ c main_arg3 (by decide)) (W0_args m ρ c main_arg4 (by decide))))))))))))

/-- The new second moments of weight 0. -/
def res0_3 (c : Dev nD) : FVec Ideal S2048x264 .f32 := velArr (arg m c main_arg2) (both (arg m c main_arg3) (arg m c main_arg4))

theorem end_v0_3 (c : Dev nD) : W8 m ρ c (Proc.devRef .tc main_v0_3) = res0_3 m c :=
  (W8_of m ρ c main_v0_3 (by decide)).trans ((W7_of m ρ c main_v0_3 (by decide)).trans ((W6_of m ρ c main_v0_3 (by decide)).trans ((W5_of m ρ c main_v0_3 (by decide)).trans ((W4_of m ρ c main_v0_3 (by decide)).trans ((W3_of m ρ c main_v0_3 (by decide)).trans ((W2_of m ρ c main_v0_3 (by decide)).trans ((W1_arr m ρ c 8).trans ((vel_final0 (V0 m ρ) c).trans (congrArg₂ velArr (W0_args m ρ c main_arg2 (by decide)) (congrArg₂ both (W0_args m ρ c main_arg3 (by decide)) (W0_args m ρ c main_arg4 (by decide))))))))))))

/-- The gradient of weight 1. -/
def res1_0 (c : Dev nD) : FVec Ideal S1536x384 .f32 := both (arg m c main_arg8) (arg m c main_arg9)

theorem end_v1_0 (c : Dev nD) : W8 m ρ c (Proc.devRef .tc main_v1_0) = res1_0 m c :=
  (W8_of m ρ c main_v1_0 (by decide)).trans ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)).trans ((W2_arr m ρ c 5).trans ((grad_final1 (V1 m ρ) c).trans (congrArg₂ both (W1_args m ρ c main_arg8 (by decide)) (W1_args m ρ c main_arg9 (by decide))))))))))

/-- The change of weight 1. -/
def res1_1 (c : Dev nD) : FVec Ideal S1536x384 .f32 := step (arg m c main_arg5) (arg m c main_arg6) (arg m c main_arg7) (both (arg m c main_arg8) (arg m c main_arg9))

theorem end_v1_1 (c : Dev nD) : W8 m ρ c (Proc.devRef .tc main_v1_1) = res1_1 m c :=
  (W8_of m ρ c main_v1_1 (by decide)).trans ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)).trans ((W2_arr m ρ c 6).trans ((delta_final1 (V1 m ρ) c).trans (step_congr (W1_args m ρ c main_arg5 (by decide)) (W1_args m ρ c main_arg6 (by decide)) (W1_args m ρ c main_arg7 (by decide)) (congrArg₂ both (W1_args m ρ c main_arg8 (by decide)) (W1_args m ρ c main_arg9 (by decide)))))))))))

/-- The new first moments of weight 1. -/
def res1_2 (c : Dev nD) : FVec Ideal S1536x384 .f32 := momArr (arg m c main_arg6) (both (arg m c main_arg8) (arg m c main_arg9))

theorem end_v1_2 (c : Dev nD) : W8 m ρ c (Proc.devRef .tc main_v1_2) = res1_2 m c :=
  (W8_of m ρ c main_v1_2 (by decide)).trans ((W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)).trans ((W2_arr m ρ c 7).trans ((mom_final1 (V1 m ρ) c).trans (congrArg₂ momArr (W1_args m ρ c main_arg6 (by decide)) (congrArg₂ both (W1_args m ρ c main_arg8 (by decide)) (W1_args m ρ c main_arg9 (by decide)))))))))))

/-- The new second moments of weight 1. -/
def res1_3 (c : Dev nD) : FVec Ideal S1536x384 .f32 := velArr (arg m c main_arg7) (both (arg m c main_arg8) (arg m c main_arg9))

theorem end_v1_3 (c : Dev nD) : W8 m ρ c (Proc.devRef .tc main_v1_3) = res1_3 m c :=
  (W8_of m ρ c main_v1_3 (by decide)).trans ((W7_of m ρ c main_v1_3 (by decide)).trans ((W6_of m ρ c main_v1_3 (by decide)).trans ((W5_of m ρ c main_v1_3 (by decide)).trans ((W4_of m ρ c main_v1_3 (by decide)).trans ((W3_of m ρ c main_v1_3 (by decide)).trans ((W2_arr m ρ c 8).trans ((vel_final1 (V1 m ρ) c).trans (congrArg₂ velArr (W1_args m ρ c main_arg7 (by decide)) (congrArg₂ both (W1_args m ρ c main_arg8 (by decide)) (W1_args m ρ c main_arg9 (by decide)))))))))))

/-- The gradient of weight 2. -/
def res2_0 (c : Dev nD) : FVec Ideal S512x512 .f32 := both (arg m c main_arg13) (arg m c main_arg14)

theorem end_v2_0 (c : Dev nD) : W8 m ρ c (Proc.devRef .tc main_v2_0) = res2_0 m c :=
  (W8_of m ρ c main_v2_0 (by decide)).trans ((W7_of m ρ c main_v2_0 (by decide)).trans ((W6_of m ρ c main_v2_0 (by decide)).trans ((W5_of m ρ c main_v2_0 (by decide)).trans ((W4_of m ρ c main_v2_0 (by decide)).trans ((W3_arr m ρ c 5).trans ((grad_final2 (V2 m ρ) c).trans (congrArg₂ both (W2_args m ρ c main_arg13 (by decide)) (W2_args m ρ c main_arg14 (by decide)))))))))

/-- The change of weight 2. -/
def res2_1 (c : Dev nD) : FVec Ideal S512x512 .f32 := step (arg m c main_arg10) (arg m c main_arg11) (arg m c main_arg12) (both (arg m c main_arg13) (arg m c main_arg14))

theorem end_v2_1 (c : Dev nD) : W8 m ρ c (Proc.devRef .tc main_v2_1) = res2_1 m c :=
  (W8_of m ρ c main_v2_1 (by decide)).trans ((W7_of m ρ c main_v2_1 (by decide)).trans ((W6_of m ρ c main_v2_1 (by decide)).trans ((W5_of m ρ c main_v2_1 (by decide)).trans ((W4_of m ρ c main_v2_1 (by decide)).trans ((W3_arr m ρ c 6).trans ((delta_final2 (V2 m ρ) c).trans (step_congr (W2_args m ρ c main_arg10 (by decide)) (W2_args m ρ c main_arg11 (by decide)) (W2_args m ρ c main_arg12 (by decide)) (congrArg₂ both (W2_args m ρ c main_arg13 (by decide)) (W2_args m ρ c main_arg14 (by decide))))))))))

/-- The new first moments of weight 2. -/
def res2_2 (c : Dev nD) : FVec Ideal S512x512 .f32 := momArr (arg m c main_arg11) (both (arg m c main_arg13) (arg m c main_arg14))

theorem end_v2_2 (c : Dev nD) : W8 m ρ c (Proc.devRef .tc main_v2_2) = res2_2 m c :=
  (W8_of m ρ c main_v2_2 (by decide)).trans ((W7_of m ρ c main_v2_2 (by decide)).trans ((W6_of m ρ c main_v2_2 (by decide)).trans ((W5_of m ρ c main_v2_2 (by decide)).trans ((W4_of m ρ c main_v2_2 (by decide)).trans ((W3_arr m ρ c 7).trans ((mom_final2 (V2 m ρ) c).trans (congrArg₂ momArr (W2_args m ρ c main_arg11 (by decide)) (congrArg₂ both (W2_args m ρ c main_arg13 (by decide)) (W2_args m ρ c main_arg14 (by decide))))))))))

/-- The new second moments of weight 2. -/
def res2_3 (c : Dev nD) : FVec Ideal S512x512 .f32 := velArr (arg m c main_arg12) (both (arg m c main_arg13) (arg m c main_arg14))

theorem end_v2_3 (c : Dev nD) : W8 m ρ c (Proc.devRef .tc main_v2_3) = res2_3 m c :=
  (W8_of m ρ c main_v2_3 (by decide)).trans ((W7_of m ρ c main_v2_3 (by decide)).trans ((W6_of m ρ c main_v2_3 (by decide)).trans ((W5_of m ρ c main_v2_3 (by decide)).trans ((W4_of m ρ c main_v2_3 (by decide)).trans ((W3_arr m ρ c 8).trans ((vel_final2 (V2 m ρ) c).trans (congrArg₂ velArr (W2_args m ρ c main_arg12 (by decide)) (congrArg₂ both (W2_args m ρ c main_arg13 (by decide)) (W2_args m ρ c main_arg14 (by decide))))))))))

/-- The gradient of weight 3. -/
def res3_0 (c : Dev nD) : FVec Ideal S512x1024 .f32 := both (arg m c main_arg18) (arg m c main_arg19)

theorem end_v3_0 (c : Dev nD) : W8 m ρ c (Proc.devRef .tc main_v3_0) = res3_0 m c :=
  (W8_of m ρ c main_v3_0 (by decide)).trans ((W7_of m ρ c main_v3_0 (by decide)).trans ((W6_of m ρ c main_v3_0 (by decide)).trans ((W5_of m ρ c main_v3_0 (by decide)).trans ((W4_arr m ρ c 5).trans ((grad_final3 (V3 m ρ) c).trans (congrArg₂ both (W3_args m ρ c main_arg18 (by decide)) (W3_args m ρ c main_arg19 (by decide))))))))

/-- The change of weight 3. -/
def res3_1 (c : Dev nD) : FVec Ideal S512x1024 .f32 := step (arg m c main_arg15) (arg m c main_arg16) (arg m c main_arg17) (both (arg m c main_arg18) (arg m c main_arg19))

theorem end_v3_1 (c : Dev nD) : W8 m ρ c (Proc.devRef .tc main_v3_1) = res3_1 m c :=
  (W8_of m ρ c main_v3_1 (by decide)).trans ((W7_of m ρ c main_v3_1 (by decide)).trans ((W6_of m ρ c main_v3_1 (by decide)).trans ((W5_of m ρ c main_v3_1 (by decide)).trans ((W4_arr m ρ c 6).trans ((delta_final3 (V3 m ρ) c).trans (step_congr (W3_args m ρ c main_arg15 (by decide)) (W3_args m ρ c main_arg16 (by decide)) (W3_args m ρ c main_arg17 (by decide)) (congrArg₂ both (W3_args m ρ c main_arg18 (by decide)) (W3_args m ρ c main_arg19 (by decide)))))))))

/-- The new first moments of weight 3. -/
def res3_2 (c : Dev nD) : FVec Ideal S512x1024 .f32 := momArr (arg m c main_arg16) (both (arg m c main_arg18) (arg m c main_arg19))

theorem end_v3_2 (c : Dev nD) : W8 m ρ c (Proc.devRef .tc main_v3_2) = res3_2 m c :=
  (W8_of m ρ c main_v3_2 (by decide)).trans ((W7_of m ρ c main_v3_2 (by decide)).trans ((W6_of m ρ c main_v3_2 (by decide)).trans ((W5_of m ρ c main_v3_2 (by decide)).trans ((W4_arr m ρ c 7).trans ((mom_final3 (V3 m ρ) c).trans (congrArg₂ momArr (W3_args m ρ c main_arg16 (by decide)) (congrArg₂ both (W3_args m ρ c main_arg18 (by decide)) (W3_args m ρ c main_arg19 (by decide)))))))))

/-- The new second moments of weight 3. -/
def res3_3 (c : Dev nD) : FVec Ideal S512x1024 .f32 := velArr (arg m c main_arg17) (both (arg m c main_arg18) (arg m c main_arg19))

theorem end_v3_3 (c : Dev nD) : W8 m ρ c (Proc.devRef .tc main_v3_3) = res3_3 m c :=
  (W8_of m ρ c main_v3_3 (by decide)).trans ((W7_of m ρ c main_v3_3 (by decide)).trans ((W6_of m ρ c main_v3_3 (by decide)).trans ((W5_of m ρ c main_v3_3 (by decide)).trans ((W4_arr m ρ c 8).trans ((vel_final3 (V3 m ρ) c).trans (congrArg₂ velArr (W3_args m ρ c main_arg17 (by decide)) (congrArg₂ both (W3_args m ρ c main_arg18 (by decide)) (W3_args m ρ c main_arg19 (by decide)))))))))

/-- The gradient of weight 4. -/
def res4_0 (c : Dev nD) : FVec Ideal S2048x1024 .f32 := both (arg m c main_arg23) (arg m c main_arg24)

theorem end_v4_0 (c : Dev nD) : W8 m ρ c (Proc.devRef .tc main_v4_0) = res4_0 m c :=
  (W8_of m ρ c main_v4_0 (by decide)).trans ((W7_of m ρ c main_v4_0 (by decide)).trans ((W6_of m ρ c main_v4_0 (by decide)).trans ((W5_arr m ρ c 5).trans ((grad_final4 (V4 m ρ) c).trans (congrArg₂ both (W4_args m ρ c main_arg23 (by decide)) (W4_args m ρ c main_arg24 (by decide)))))))

/-- The change of weight 4. -/
def res4_1 (c : Dev nD) : FVec Ideal S2048x1024 .f32 := step (arg m c main_arg20) (arg m c main_arg21) (arg m c main_arg22) (both (arg m c main_arg23) (arg m c main_arg24))

theorem end_v4_1 (c : Dev nD) : W8 m ρ c (Proc.devRef .tc main_v4_1) = res4_1 m c :=
  (W8_of m ρ c main_v4_1 (by decide)).trans ((W7_of m ρ c main_v4_1 (by decide)).trans ((W6_of m ρ c main_v4_1 (by decide)).trans ((W5_arr m ρ c 6).trans ((delta_final4 (V4 m ρ) c).trans (step_congr (W4_args m ρ c main_arg20 (by decide)) (W4_args m ρ c main_arg21 (by decide)) (W4_args m ρ c main_arg22 (by decide)) (congrArg₂ both (W4_args m ρ c main_arg23 (by decide)) (W4_args m ρ c main_arg24 (by decide))))))))

/-- The new first moments of weight 4. -/
def res4_2 (c : Dev nD) : FVec Ideal S2048x1024 .f32 := momArr (arg m c main_arg21) (both (arg m c main_arg23) (arg m c main_arg24))

theorem end_v4_2 (c : Dev nD) : W8 m ρ c (Proc.devRef .tc main_v4_2) = res4_2 m c :=
  (W8_of m ρ c main_v4_2 (by decide)).trans ((W7_of m ρ c main_v4_2 (by decide)).trans ((W6_of m ρ c main_v4_2 (by decide)).trans ((W5_arr m ρ c 7).trans ((mom_final4 (V4 m ρ) c).trans (congrArg₂ momArr (W4_args m ρ c main_arg21 (by decide)) (congrArg₂ both (W4_args m ρ c main_arg23 (by decide)) (W4_args m ρ c main_arg24 (by decide))))))))

/-- The new second moments of weight 4. -/
def res4_3 (c : Dev nD) : FVec Ideal S2048x1024 .f32 := velArr (arg m c main_arg22) (both (arg m c main_arg23) (arg m c main_arg24))

theorem end_v4_3 (c : Dev nD) : W8 m ρ c (Proc.devRef .tc main_v4_3) = res4_3 m c :=
  (W8_of m ρ c main_v4_3 (by decide)).trans ((W7_of m ρ c main_v4_3 (by decide)).trans ((W6_of m ρ c main_v4_3 (by decide)).trans ((W5_arr m ρ c 8).trans ((vel_final4 (V4 m ρ) c).trans (congrArg₂ velArr (W4_args m ρ c main_arg22 (by decide)) (congrArg₂ both (W4_args m ρ c main_arg23 (by decide)) (W4_args m ρ c main_arg24 (by decide))))))))

/-- The gradient of weight 5. -/
def res5_0 (c : Dev nD) : FVec Ideal S512x1024 .f32 := both (arg m c main_arg28) (arg m c main_arg29)

theorem end_v5_0 (c : Dev nD) : W8 m ρ c (Proc.devRef .tc main_v5_0) = res5_0 m c :=
  (W8_of m ρ c main_v5_0 (by decide)).trans ((W7_of m ρ c main_v5_0 (by decide)).trans ((W6_arr m ρ c 5).trans ((grad_final5 (V5 m ρ) c).trans (congrArg₂ both (W5_args m ρ c main_arg28 (by decide)) (W5_args m ρ c main_arg29 (by decide))))))

/-- The change of weight 5. -/
def res5_1 (c : Dev nD) : FVec Ideal S512x1024 .f32 := step (arg m c main_arg25) (arg m c main_arg26) (arg m c main_arg27) (both (arg m c main_arg28) (arg m c main_arg29))

theorem end_v5_1 (c : Dev nD) : W8 m ρ c (Proc.devRef .tc main_v5_1) = res5_1 m c :=
  (W8_of m ρ c main_v5_1 (by decide)).trans ((W7_of m ρ c main_v5_1 (by decide)).trans ((W6_arr m ρ c 6).trans ((delta_final5 (V5 m ρ) c).trans (step_congr (W5_args m ρ c main_arg25 (by decide)) (W5_args m ρ c main_arg26 (by decide)) (W5_args m ρ c main_arg27 (by decide)) (congrArg₂ both (W5_args m ρ c main_arg28 (by decide)) (W5_args m ρ c main_arg29 (by decide)))))))

/-- The new first moments of weight 5. -/
def res5_2 (c : Dev nD) : FVec Ideal S512x1024 .f32 := momArr (arg m c main_arg26) (both (arg m c main_arg28) (arg m c main_arg29))

theorem end_v5_2 (c : Dev nD) : W8 m ρ c (Proc.devRef .tc main_v5_2) = res5_2 m c :=
  (W8_of m ρ c main_v5_2 (by decide)).trans ((W7_of m ρ c main_v5_2 (by decide)).trans ((W6_arr m ρ c 7).trans ((mom_final5 (V5 m ρ) c).trans (congrArg₂ momArr (W5_args m ρ c main_arg26 (by decide)) (congrArg₂ both (W5_args m ρ c main_arg28 (by decide)) (W5_args m ρ c main_arg29 (by decide)))))))

/-- The new second moments of weight 5. -/
def res5_3 (c : Dev nD) : FVec Ideal S512x1024 .f32 := velArr (arg m c main_arg27) (both (arg m c main_arg28) (arg m c main_arg29))

theorem end_v5_3 (c : Dev nD) : W8 m ρ c (Proc.devRef .tc main_v5_3) = res5_3 m c :=
  (W8_of m ρ c main_v5_3 (by decide)).trans ((W7_of m ρ c main_v5_3 (by decide)).trans ((W6_arr m ρ c 8).trans ((vel_final5 (V5 m ρ) c).trans (congrArg₂ velArr (W5_args m ρ c main_arg27 (by decide)) (congrArg₂ both (W5_args m ρ c main_arg28 (by decide)) (W5_args m ρ c main_arg29 (by decide)))))))

/-- The gradient of weight 6. -/
def res6_0 (c : Dev nD) : FVec Ideal S4096x1408 .f32 := both (arg m c main_arg33) (arg m c main_arg34)

theorem end_v6_0 (c : Dev nD) : W8 m ρ c (Proc.devRef .tc main_v6_0) = res6_0 m c :=
  (W8_of m ρ c main_v6_0 (by decide)).trans ((W7_arr m ρ c 5).trans ((grad_final6 (V6 m ρ) c).trans (congrArg₂ both (W6_args m ρ c main_arg33 (by decide)) (W6_args m ρ c main_arg34 (by decide)))))

/-- The change of weight 6. -/
def res6_1 (c : Dev nD) : FVec Ideal S4096x1408 .f32 := step (arg m c main_arg30) (arg m c main_arg31) (arg m c main_arg32) (both (arg m c main_arg33) (arg m c main_arg34))

theorem end_v6_1 (c : Dev nD) : W8 m ρ c (Proc.devRef .tc main_v6_1) = res6_1 m c :=
  (W8_of m ρ c main_v6_1 (by decide)).trans ((W7_arr m ρ c 6).trans ((delta_final6 (V6 m ρ) c).trans (step_congr (W6_args m ρ c main_arg30 (by decide)) (W6_args m ρ c main_arg31 (by decide)) (W6_args m ρ c main_arg32 (by decide)) (congrArg₂ both (W6_args m ρ c main_arg33 (by decide)) (W6_args m ρ c main_arg34 (by decide))))))

/-- The new first moments of weight 6. -/
def res6_2 (c : Dev nD) : FVec Ideal S4096x1408 .f32 := momArr (arg m c main_arg31) (both (arg m c main_arg33) (arg m c main_arg34))

theorem end_v6_2 (c : Dev nD) : W8 m ρ c (Proc.devRef .tc main_v6_2) = res6_2 m c :=
  (W8_of m ρ c main_v6_2 (by decide)).trans ((W7_arr m ρ c 7).trans ((mom_final6 (V6 m ρ) c).trans (congrArg₂ momArr (W6_args m ρ c main_arg31 (by decide)) (congrArg₂ both (W6_args m ρ c main_arg33 (by decide)) (W6_args m ρ c main_arg34 (by decide))))))

/-- The new second moments of weight 6. -/
def res6_3 (c : Dev nD) : FVec Ideal S4096x1408 .f32 := velArr (arg m c main_arg32) (both (arg m c main_arg33) (arg m c main_arg34))

theorem end_v6_3 (c : Dev nD) : W8 m ρ c (Proc.devRef .tc main_v6_3) = res6_3 m c :=
  (W8_of m ρ c main_v6_3 (by decide)).trans ((W7_arr m ρ c 8).trans ((vel_final6 (V6 m ρ) c).trans (congrArg₂ velArr (W6_args m ρ c main_arg32 (by decide)) (congrArg₂ both (W6_args m ρ c main_arg33 (by decide)) (W6_args m ρ c main_arg34 (by decide))))))

/-- The gradient of weight 7. -/
def res7_0 (c : Dev nD) : FVec Ideal S2816x1024 .f32 := both (arg m c main_arg38) (arg m c main_arg39)

theorem end_v7_0 (c : Dev nD) : W8 m ρ c (Proc.devRef .tc main_v7_0) = res7_0 m c :=
  (W8_arr m ρ c 5).trans ((grad_final7 (V7 m ρ) c).trans (congrArg₂ both (W7_args m ρ c main_arg38 (by decide)) (W7_args m ρ c main_arg39 (by decide))))

/-- The change of weight 7. -/
def res7_1 (c : Dev nD) : FVec Ideal S2816x1024 .f32 := step (arg m c main_arg35) (arg m c main_arg36) (arg m c main_arg37) (both (arg m c main_arg38) (arg m c main_arg39))

theorem end_v7_1 (c : Dev nD) : W8 m ρ c (Proc.devRef .tc main_v7_1) = res7_1 m c :=
  (W8_arr m ρ c 6).trans ((delta_final7 (V7 m ρ) c).trans (step_congr (W7_args m ρ c main_arg35 (by decide)) (W7_args m ρ c main_arg36 (by decide)) (W7_args m ρ c main_arg37 (by decide)) (congrArg₂ both (W7_args m ρ c main_arg38 (by decide)) (W7_args m ρ c main_arg39 (by decide)))))

/-- The new first moments of weight 7. -/
def res7_2 (c : Dev nD) : FVec Ideal S2816x1024 .f32 := momArr (arg m c main_arg36) (both (arg m c main_arg38) (arg m c main_arg39))

theorem end_v7_2 (c : Dev nD) : W8 m ρ c (Proc.devRef .tc main_v7_2) = res7_2 m c :=
  (W8_arr m ρ c 7).trans ((mom_final7 (V7 m ρ) c).trans (congrArg₂ momArr (W7_args m ρ c main_arg36 (by decide)) (congrArg₂ both (W7_args m ρ c main_arg38 (by decide)) (W7_args m ρ c main_arg39 (by decide)))))

/-- The new second moments of weight 7. -/
def res7_3 (c : Dev nD) : FVec Ideal S2816x1024 .f32 := velArr (arg m c main_arg37) (both (arg m c main_arg38) (arg m c main_arg39))

theorem end_v7_3 (c : Dev nD) : W8 m ρ c (Proc.devRef .tc main_v7_3) = res7_3 m c :=
  (W8_arr m ρ c 8).trans ((vel_final7 (V7 m ρ) c).trans (congrArg₂ velArr (W7_args m ρ c main_arg37 (by decide)) (congrArg₂ both (W7_args m ρ c main_arg38 (by decide)) (W7_args m ρ c main_arg39 (by decide)))))

set_option backward.isDefEq.respectTransparency.types false in
/-- Every execution ends with every array as the calls, run in turn, leave it. -/
theorem ended : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

set_option maxHeartbeats 4000000 in
/-- Every execution ends with the step of every weight in the results, and the arguments as launched. -/
theorem ran : θ_run defs (onTc (τ := τ) (main (F := Ideal))) ⟨m, fun _ => 0, ρ⟩ (fun r => ∀ c : Dev nD,
      r.2.mem ((c.tc : Thread nD τ).loc main_v0_0) = res0_0 m c
      ∧ r.2.mem ((c.tc : Thread nD τ).loc main_v0_1) = res0_1 m c
      ∧ r.2.mem ((c.tc : Thread nD τ).loc main_v0_2) = res0_2 m c
      ∧ r.2.mem ((c.tc : Thread nD τ).loc main_v0_3) = res0_3 m c
      ∧ r.2.mem ((c.tc : Thread nD τ).loc main_v1_0) = res1_0 m c
      ∧ r.2.mem ((c.tc : Thread nD τ).loc main_v1_1) = res1_1 m c
      ∧ r.2.mem ((c.tc : Thread nD τ).loc main_v1_2) = res1_2 m c
      ∧ r.2.mem ((c.tc : Thread nD τ).loc main_v1_3) = res1_3 m c
      ∧ r.2.mem ((c.tc : Thread nD τ).loc main_v2_0) = res2_0 m c
      ∧ r.2.mem ((c.tc : Thread nD τ).loc main_v2_1) = res2_1 m c
      ∧ r.2.mem ((c.tc : Thread nD τ).loc main_v2_2) = res2_2 m c
      ∧ r.2.mem ((c.tc : Thread nD τ).loc main_v2_3) = res2_3 m c
      ∧ r.2.mem ((c.tc : Thread nD τ).loc main_v3_0) = res3_0 m c
      ∧ r.2.mem ((c.tc : Thread nD τ).loc main_v3_1) = res3_1 m c
      ∧ r.2.mem ((c.tc : Thread nD τ).loc main_v3_2) = res3_2 m c
      ∧ r.2.mem ((c.tc : Thread nD τ).loc main_v3_3) = res3_3 m c
      ∧ r.2.mem ((c.tc : Thread nD τ).loc main_v4_0) = res4_0 m c
      ∧ r.2.mem ((c.tc : Thread nD τ).loc main_v4_1) = res4_1 m c
      ∧ r.2.mem ((c.tc : Thread nD τ).loc main_v4_2) = res4_2 m c
      ∧ r.2.mem ((c.tc : Thread nD τ).loc main_v4_3) = res4_3 m c
      ∧ r.2.mem ((c.tc : Thread nD τ).loc main_v5_0) = res5_0 m c
      ∧ r.2.mem ((c.tc : Thread nD τ).loc main_v5_1) = res5_1 m c
      ∧ r.2.mem ((c.tc : Thread nD τ).loc main_v5_2) = res5_2 m c
      ∧ r.2.mem ((c.tc : Thread nD τ).loc main_v5_3) = res5_3 m c
      ∧ r.2.mem ((c.tc : Thread nD τ).loc main_v6_0) = res6_0 m c
      ∧ r.2.mem ((c.tc : Thread nD τ).loc main_v6_1) = res6_1 m c
      ∧ r.2.mem ((c.tc : Thread nD τ).loc main_v6_2) = res6_2 m c
      ∧ r.2.mem ((c.tc : Thread nD τ).loc main_v6_3) = res6_3 m c
      ∧ r.2.mem ((c.tc : Thread nD τ).loc main_v7_0) = res7_0 m c
      ∧ r.2.mem ((c.tc : Thread nD τ).loc main_v7_1) = res7_1 m c
      ∧ r.2.mem ((c.tc : Thread nD τ).loc main_v7_2) = res7_2 m c
      ∧ r.2.mem ((c.tc : Thread nD τ).loc main_v7_3) = res7_3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun r h c =>
      ⟨(h c _ (mem_uc main_v0_0 (by decide))).trans (end_v0_0 m ρ c),
       (h c _ (mem_uc main_v0_1 (by decide))).trans (end_v0_1 m ρ c),
       (h c _ (mem_uc main_v0_2 (by decide))).trans (end_v0_2 m ρ c),
       (h c _ (mem_uc main_v0_3 (by decide))).trans (end_v0_3 m ρ c),
       (h c _ (mem_uc main_v1_0 (by decide))).trans (end_v1_0 m ρ c),
       (h c _ (mem_uc main_v1_1 (by decide))).trans (end_v1_1 m ρ c),
       (h c _ (mem_uc main_v1_2 (by decide))).trans (end_v1_2 m ρ c),
       (h c _ (mem_uc main_v1_3 (by decide))).trans (end_v1_3 m ρ c),
       (h c _ (mem_uc main_v2_0 (by decide))).trans (end_v2_0 m ρ c),
       (h c _ (mem_uc main_v2_1 (by decide))).trans (end_v2_1 m ρ c),
       (h c _ (mem_uc main_v2_2 (by decide))).trans (end_v2_2 m ρ c),
       (h c _ (mem_uc main_v2_3 (by decide))).trans (end_v2_3 m ρ c),
       (h c _ (mem_uc main_v3_0 (by decide))).trans (end_v3_0 m ρ c),
       (h c _ (mem_uc main_v3_1 (by decide))).trans (end_v3_1 m ρ c),
       (h c _ (mem_uc main_v3_2 (by decide))).trans (end_v3_2 m ρ c),
       (h c _ (mem_uc main_v3_3 (by decide))).trans (end_v3_3 m ρ c),
       (h c _ (mem_uc main_v4_0 (by decide))).trans (end_v4_0 m ρ c),
       (h c _ (mem_uc main_v4_1 (by decide))).trans (end_v4_1 m ρ c),
       (h c _ (mem_uc main_v4_2 (by decide))).trans (end_v4_2 m ρ c),
       (h c _ (mem_uc main_v4_3 (by decide))).trans (end_v4_3 m ρ c),
       (h c _ (mem_uc main_v5_0 (by decide))).trans (end_v5_0 m ρ c),
       (h c _ (mem_uc main_v5_1 (by decide))).trans (end_v5_1 m ρ c),
       (h c _ (mem_uc main_v5_2 (by decide))).trans (end_v5_2 m ρ c),
       (h c _ (mem_uc main_v5_3 (by decide))).trans (end_v5_3 m ρ c),
       (h c _ (mem_uc main_v6_0 (by decide))).trans (end_v6_0 m ρ c),
       (h c _ (mem_uc main_v6_1 (by decide))).trans (end_v6_1 m ρ c),
       (h c _ (mem_uc main_v6_2 (by decide))).trans (end_v6_2 m ρ c),
       (h c _ (mem_uc main_v6_3 (by decide))).trans (end_v6_3 m ρ c),
       (h c _ (mem_uc main_v7_0 (by decide))).trans (end_v7_0 m ρ c),
       (h c _ (mem_uc main_v7_1 (by decide))).trans (end_v7_1 m ρ c),
       (h c _ (mem_uc main_v7_2 (by decide))).trans (end_v7_2 m ρ c),
       (h c _ (mem_uc main_v7_3 (by decide))).trans (end_v7_3 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c),
       (h c _ (mem_uc main_arg30 (by decide))).trans (W8_main_arg30 m ρ c),
       (h c _ (mem_uc main_arg31 (by decide))).trans (W8_main_arg31 m ρ c),
       (h c _ (mem_uc main_arg32 (by decide))).trans (W8_main_arg32 m ρ c),
       (h c _ (mem_uc main_arg33 (by decide))).trans (W8_main_arg33 m ρ c),
       (h c _ (mem_uc main_arg34 (by decide))).trans (W8_main_arg34 m ρ c),
       (h c _ (mem_uc main_arg35 (by decide))).trans (W8_main_arg35 m ρ c),
       (h c _ (mem_uc main_arg36 (by decide))).trans (W8_main_arg36 m ρ c),
       (h c _ (mem_uc main_arg37 (by decide))).trans (W8_main_arg37 m ρ c),
       (h c _ (mem_uc main_arg38 (by decide))).trans (W8_main_arg38 m ρ c),
       (h c _ (mem_uc main_arg39 (by decide))).trans (W8_main_arg39 m ρ c)⟩)
    (ended m ρ)

end Cert.Proof.AdamIdeal
-- ==== Proof.Small0.lean ====
/- What the optimiser's call `adamw_mla_q_norm` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S2x768 .f32)

theorem mom_block0 (y : S2x768.Idx) : k0_pay1 a m y = mom (m y) (a y) := rfl

theorem vel_block0 (y : S2x768.Idx) : k0_pay2 a v y = vel (v y) (a y) := rfl

theorem delta_block0 (y : S2x768.Idx) : k0_pay3 a m v w y = delta (w y) (mom (m y) (a y)) (vel (v y) (a y)) := rfl

end Block

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem read0_0 (c : Dev nD) (t : Fin cfg0.N) (y : S2x768.Idx) : iblk0 V c 0 t y = V c main_arg0 (((cfg0.win 4).blk t).view.emb y) := by
  obtain ⟨y0, y1, rfl⟩ : ∃ (y0 : Fin 2) (y1 : Fin 768), y = ix2 y0 y1 := ⟨y 0, y 1, eq_ix2 y⟩
  blk_ext [iblk0, idx0 t]

theorem read0_1 (c : Dev nD) (t : Fin cfg0.N) (y : S2x768.Idx) : iblk0 V c 1 t y = V c main_arg1 (((cfg0.win 4).blk t).view.emb y) := by
  obtain ⟨y0, y1, rfl⟩ : ∃ (y0 : Fin 2) (y1 : Fin 768), y = ix2 y0 y1 := ⟨y 0, y 1, eq_ix2 y⟩
  blk_ext [iblk0, idx0 t]

theorem read0_2 (c : Dev nD) (t : Fin cfg0.N) (y : S2x768.Idx) : iblk0 V c 2 t y = V c main_arg2 (((cfg0.win 4).blk t).view.emb y) := by
  obtain ⟨y0, y1, rfl⟩ : ∃ (y0 : Fin 2) (y1 : Fin 768), y = ix2 y0 y1 := ⟨y 0, y 1, eq_ix2 y⟩
  blk_ext [iblk0, idx0 t]

theorem read0_3 (c : Dev nD) (t : Fin cfg0.N) (y : S2x768.Idx) : iblk0 V c 3 t y = V c main_arg3 (((cfg0.win 4).blk t).view.emb y) := by
  obtain ⟨y0, y1, rfl⟩ : ∃ (y0 : Fin 2) (y1 : Fin 768), y = ix2 y0 y1 := ⟨y 0, y 1, eq_ix2 y⟩
  blk_ext [iblk0, idx0 t]

theorem grad_final0 (c : Dev nD) : (dat0 V c).arrAt 4 cfg0.N = (V c main_arg3) := by
  refine (dat0 V c).arrAt_eq_of_covers 4 _ (by decide +kernel) fun t _ y => ?_
  blk_simp
  rw [after0_4]; frame_out
  exact ((read0_3 V c t y))

theorem delta_final0 (c : Dev nD) : (dat0 V c).arrAt 5 cfg0.N = deltaArr (V c main_arg0) (momArr (V c main_arg1) (V c main_arg3)) (velArr (V c main_arg2) (V c main_arg3)) := by
  refine (dat0 V c).arrAt_eq_of_covers 5 _ (by decide +kernel) fun t _ y => ?_
  blk_simp
  rw [after0_5]; frame_out
  exact (delta_block0 _ _ _ _ y).trans (delta_congr (read0_0 V c t y) (congrArg₂ mom (read0_1 V c t y) (read0_3 V c t y)) (congrArg₂ vel (read0_2 V c t y) (read0_3 V c t y)))

theorem mom_final0 (c : Dev nD) : (dat0 V c).arrAt 6 cfg0.N = momArr (V c main_arg1) (V c main_arg3) := by
  refine (dat0 V c).arrAt_eq_of_covers 6 _ (by decide +kernel) fun t _ y => ?_
  blk_simp
  rw [after0_6]; frame_out
  exact (mom_block0 _ _ y).trans (congrArg₂ mom (read0_1 V c t y) (read0_3 V c t y))

theorem vel_final0 (c : Dev nD) : (dat0 V c).arrAt 7 cfg0.N = velArr (V c main_arg2) (V c main_arg3) := by
  refine (dat0 V c).arrAt_eq_of_covers 7 _ (by decide +kernel) fun t _ y => ?_
  blk_simp
  rw [after0_7]; frame_out
  exact (vel_block0 _ _ y).trans (congrArg₂ vel (read0_2 V c t y) (read0_3 V c t y))

end Cert.Proof.SmallIdeal
-- ==== Proof.Small1.lean ====
/- What the optimiser's call `adamw_mla_kv_norm` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S2x256 .f32)

theorem mom_block1 (y : S2x256.Idx) : k1_pay1 a m y = mom (m y) (a y) := rfl

theorem vel_block1 (y : S2x256.Idx) : k1_pay2 a v y = vel (v y) (a y) := rfl

theorem delta_block1 (y : S2x256.Idx) : k1_pay3 a m v w y = delta (w y) (mom (m y) (a y)) (vel (v y) (a y)) := rfl

end Block

variable (V : (c : Dev nD) → (b : Ref sig .tc) → Buf (Elt Ideal) ((c : Thread nD τ).loc b))

theorem idx1 : ∀ t : Fin cfg1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] :=
  (by decide +kernel : ∀ t : Fin grid1.N, _)

theorem read1_0 (c : Dev nD) (t : Fin cfg1.N) (y : S2x256.Idx) : iblk1 V c 0 t y = V c main_arg4 (((cfg1.win 4).blk t).view.emb y) := by
  obtain ⟨y0, y1, rfl⟩ : ∃ (y0 : Fin 2) (y1 : Fin 256), y = ix2 y0 y1 := ⟨y 0, y 1, eq_ix2 y⟩
  blk_ext [iblk1, idx1 t]

theorem read1_1 (c : Dev nD) (t : Fin cfg1.N) (y : S2x256.Idx) : iblk1 V c 1 t y = V c main_arg5 (((cfg1.win 4).blk t).view.emb y) := by
  obtain ⟨y0, y1, rfl⟩ : ∃ (y0 : Fin 2) (y1 : Fin 256), y = ix2 y0 y1 := ⟨y 0, y 1, eq_ix2 y⟩
  blk_ext [iblk1, idx1 t]

theorem read1_2 (c : Dev nD) (t : Fin cfg1.N) (y : S2x256.Idx) : iblk1 V c 2 t y = V c main_arg6 (((cfg1.win 4).blk t).view.emb y) := by
  obtain ⟨y0, y1, rfl⟩ : ∃ (y0 : Fin 2) (y1 : Fin 256), y = ix2 y0 y1 := ⟨y 0, y 1, eq_ix2 y⟩
  blk_ext [iblk1, idx1 t]

theorem read1_3 (c : Dev nD) (t : Fin cfg1.N) (y : S2x256.Idx) : iblk1 V c 3 t y = V c main_arg7 (((cfg1.win 4).blk t).view.emb y) := by
  obtain ⟨y0, y1, rfl⟩ : ∃ (y0 : Fin 2) (y1 : Fin 256), y = ix2 y0 y1 := ⟨y 0, y 1, eq_ix2 y⟩
  blk_ext [iblk1, idx1 t]

theorem grad_final1 (c : Dev nD) : (dat1 V c).arrAt 4 cfg1.N = (V c main_arg7) := by
  refine (dat1 V c).arrAt_eq_of_covers 4 _ (by decide +kernel) fun t _ y => ?_
  blk_simp
  rw [after1_4]; frame_out
  exact ((read1_3 V c t y))

theorem delta_final1 (c : Dev nD) : (dat1 V c).arrAt 5 cfg1.N = deltaArr (V c main_arg4) (momArr (V c main_arg5) (V c main_arg7)) (velArr (V c main_arg6) (V c main_arg7)) := by
  refine (dat1 V c).arrAt_eq_of_covers 5 _ (by decide +kernel) fun t _ y => ?_
  blk_simp
  rw [after1_5]; frame_out
  exact (delta_block1 _ _ _ _ y).trans (delta_congr (read1_0 V c t y) (congrArg₂ mom (read1_1 V c t y) (read1_3 V c t y)) (congrArg₂ vel (read1_2 V c t y) (read1_3 V c t y)))

theorem mom_final1 (c : Dev nD) : (dat1 V c).arrAt 6 cfg1.N = momArr (V c main_arg5) (V c main_arg7) := by
  refine (dat1 V c).arrAt_eq_of_covers 6 _ (by decide +kernel) fun t _ y => ?_
  blk_simp
  rw [after1_6]; frame_out
  exact (mom_block1 _ _ y).trans (congrArg₂ mom (read1_1 V c t y) (read1_3 V c t y))

theorem vel_final1 (c : Dev nD) : (dat1 V c).arrAt 7 cfg1.N = velArr (V c main_arg6) (V c main_arg7) := by
  refine (dat1 V c).arrAt_eq_of_covers 7 _ (by decide +kernel) fun t _ y => ?_
  blk_simp
  rw [after1_7]; frame_out
  exact (vel_block1 _ _ y).trans (congrArg₂ vel (read1_2 V c t y) (read1_3 V c t y))

end Cert.Proof.SmallIdeal
-- ==== Proof.Small2.lean ====
/- What the optimiser's call `adamw_hgrn_lb` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S2x256 .f32)

theorem mom_block2 (y : S2x256.Idx) : k2_pay1 a m y = mom (m y) (a y) := rfl

theorem vel_block2 (y : S2x256.Idx) : k2_pay2 a v y = vel (v y) (a y) := rfl

theorem delta_block2 (y : S2x256.Idx) : k2_pay3 a m v w y = delta (w y) (mom (m y) (a y)) (vel (v y) (a y)) := rfl

end Block

variable (V : (c : Dev nD) → (b : Ref sig .tc) → Buf (Elt Ideal) ((c : Thread nD τ).loc b))

theorem idx2 : ∀ t : Fin cfg2.N, win2_0.index t = ![0, 0] ∧ win2_1.index t = ![0, 0] ∧ win2_2.index t = ![0, 0] ∧ win2_3.index t = ![0, 0] ∧ win2_4.index t = ![0, 0] ∧ win2_5.index t = ![0, 0] ∧ win2_6.index t = ![0, 0] ∧ win2_7.index t = ![0, 0] :=
  (by decide +kernel : ∀ t : Fin grid2.N, _)

theorem read2_0 (c : Dev nD) (t : Fin cfg2.N) (y : S2x256.Idx) : iblk2 V c 0 t y = V c main_arg8 (((cfg2.win 4).blk t).view.emb y) := by
  obtain ⟨y0, y1, rfl⟩ : ∃ (y0 : Fin 2) (y1 : Fin 256), y = ix2 y0 y1 := ⟨y 0, y 1, eq_ix2 y⟩
  blk_ext [iblk2, idx2 t]

theorem read2_1 (c : Dev nD) (t : Fin cfg2.N) (y : S2x256.Idx) : iblk2 V c 1 t y = V c main_arg9 (((cfg2.win 4).blk t).view.emb y) := by
  obtain ⟨y0, y1, rfl⟩ : ∃ (y0 : Fin 2) (y1 : Fin 256), y = ix2 y0 y1 := ⟨y 0, y 1, eq_ix2 y⟩
  blk_ext [iblk2, idx2 t]

theorem read2_2 (c : Dev nD) (t : Fin cfg2.N) (y : S2x256.Idx) : iblk2 V c 2 t y = V c main_arg10 (((cfg2.win 4).blk t).view.emb y) := by
  obtain ⟨y0, y1, rfl⟩ : ∃ (y0 : Fin 2) (y1 : Fin 256), y = ix2 y0 y1 := ⟨y 0, y 1, eq_ix2 y⟩
  blk_ext [iblk2, idx2 t]

theorem read2_3 (c : Dev nD) (t : Fin cfg2.N) (y : S2x256.Idx) : iblk2 V c 3 t y = V c main_arg11 (((cfg2.win 4).blk t).view.emb y) := by
  obtain ⟨y0, y1, rfl⟩ : ∃ (y0 : Fin 2) (y1 : Fin 256), y = ix2 y0 y1 := ⟨y 0, y 1, eq_ix2 y⟩
  blk_ext [iblk2, idx2 t]

theorem grad_final2 (c : Dev nD) : (dat2 V c).arrAt 4 cfg2.N = (V c main_arg11) := by
  refine (dat2 V c).arrAt_eq_of_covers 4 _ (by decide +kernel) fun t _ y => ?_
  blk_simp
  rw [after2_4]; frame_out
  exact ((read2_3 V c t y))

theorem delta_final2 (c : Dev nD) : (dat2 V c).arrAt 5 cfg2.N = deltaArr (V c main_arg8) (momArr (V c main_arg9) (V c main_arg11)) (velArr (V c main_arg10) (V c main_arg11)) := by
  refine (dat2 V c).arrAt_eq_of_covers 5 _ (by decide +kernel) fun t _ y => ?_
  blk_simp
  rw [after2_5]; frame_out
  exact (delta_block2 _ _ _ _ y).trans (delta_congr (read2_0 V c t y) (congrArg₂ mom (read2_1 V c t y) (read2_3 V c t y)) (congrArg₂ vel (read2_2 V c t y) (read2_3 V c t y)))

theorem mom_final2 (c : Dev nD) : (dat2 V c).arrAt 6 cfg2.N = momArr (V c main_arg9) (V c main_arg11) := by
  refine (dat2 V c).arrAt_eq_of_covers 6 _ (by decide +kernel) fun t _ y => ?_
  blk_simp
  rw [after2_6]; frame_out
  exact (mom_block2 _ _ y).trans (congrArg₂ mom (read2_1 V c t y) (read2_3 V c t y))

theorem vel_final2 (c : Dev nD) : (dat2 V c).arrAt 7 cfg2.N = velArr (V c main_arg10) (V c main_arg11) := by
  refine (dat2 V c).arrAt_eq_of_covers 7 _ (by decide +kernel) fun t _ y => ?_
  blk_simp
  rw [after2_7]; frame_out
  exact (vel_block2 _ _ y).trans (congrArg₂ vel (read2_2 V c t y) (read2_3 V c t y))

end Cert.Proof.SmallIdeal
-- ==== Proof.Small3.lean ====
/- What the optimiser's call `adamw_hgrn_g_norm` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S2x128 .f32)

theorem mom_block3 (y : S2x128.Idx) : k3_pay1 a m y = mom (m y) (a y) := rfl

theorem vel_block3 (y : S2x128.Idx) : k3_pay2 a v y = vel (v y) (a y) := rfl

theorem delta_block3 (y : S2x128.Idx) : k3_pay3 a m v w y = delta (w y) (mom (m y) (a y)) (vel (v y) (a y)) := rfl

end Block

variable (V : (c : Dev nD) → (b : Ref sig .tc) → Buf (Elt Ideal) ((c : Thread nD τ).loc b))

theorem idx3 : ∀ t : Fin cfg3.N, win3_0.index t = ![0, 0] ∧ win3_1.index t = ![0, 0] ∧ win3_2.index t = ![0, 0] ∧ win3_3.index t = ![0, 0] ∧ win3_4.index t = ![0, 0] ∧ win3_5.index t = ![0, 0] ∧ win3_6.index t = ![0, 0] ∧ win3_7.index t = ![0, 0] :=
  (by decide +kernel : ∀ t : Fin grid3.N, _)

theorem read3_0 (c : Dev nD) (t : Fin cfg3.N) (y : S2x128.Idx) : iblk3 V c 0 t y = V c main_arg12 (((cfg3.win 4).blk t).view.emb y) := by
  obtain ⟨y0, y1, rfl⟩ : ∃ (y0 : Fin 2) (y1 : Fin 128), y = ix2 y0 y1 := ⟨y 0, y 1, eq_ix2 y⟩
  blk_ext [iblk3, idx3 t]

theorem read3_1 (c : Dev nD) (t : Fin cfg3.N) (y : S2x128.Idx) : iblk3 V c 1 t y = V c main_arg13 (((cfg3.win 4).blk t).view.emb y) := by
  obtain ⟨y0, y1, rfl⟩ : ∃ (y0 : Fin 2) (y1 : Fin 128), y = ix2 y0 y1 := ⟨y 0, y 1, eq_ix2 y⟩
  blk_ext [iblk3, idx3 t]

theorem read3_2 (c : Dev nD) (t : Fin cfg3.N) (y : S2x128.Idx) : iblk3 V c 2 t y = V c main_arg14 (((cfg3.win 4).blk t).view.emb y) := by
  obtain ⟨y0, y1, rfl⟩ : ∃ (y0 : Fin 2) (y1 : Fin 128), y = ix2 y0 y1 := ⟨y 0, y 1, eq_ix2 y⟩
  blk_ext [iblk3, idx3 t]

theorem read3_3 (c : Dev nD) (t : Fin cfg3.N) (y : S2x128.Idx) : iblk3 V c 3 t y = V c main_arg15 (((cfg3.win 4).blk t).view.emb y) := by
  obtain ⟨y0, y1, rfl⟩ : ∃ (y0 : Fin 2) (y1 : Fin 128), y = ix2 y0 y1 := ⟨y 0, y 1, eq_ix2 y⟩
  blk_ext [iblk3, idx3 t]

theorem grad_final3 (c : Dev nD) : (dat3 V c).arrAt 4 cfg3.N = (V c main_arg15) := by
  refine (dat3 V c).arrAt_eq_of_covers 4 _ (by decide +kernel) fun t _ y => ?_
  blk_simp
  rw [after3_4]; frame_out
  exact ((read3_3 V c t y))

theorem delta_final3 (c : Dev nD) : (dat3 V c).arrAt 5 cfg3.N = deltaArr (V c main_arg12) (momArr (V c main_arg13) (V c main_arg15)) (velArr (V c main_arg14) (V c main_arg15)) := by
  refine (dat3 V c).arrAt_eq_of_covers 5 _ (by decide +kernel) fun t _ y => ?_
  blk_simp
  rw [after3_5]; frame_out
  exact (delta_block3 _ _ _ _ y).trans (delta_congr (read3_0 V c t y) (congrArg₂ mom (read3_1 V c t y) (read3_3 V c t y)) (congrArg₂ vel (read3_2 V c t y) (read3_3 V c t y)))

theorem mom_final3 (c : Dev nD) : (dat3 V c).arrAt 6 cfg3.N = momArr (V c main_arg13) (V c main_arg15) := by
  refine (dat3 V c).arrAt_eq_of_covers 6 _ (by decide +kernel) fun t _ y => ?_
  blk_simp
  rw [after3_6]; frame_out
  exact (mom_block3 _ _ y).trans (congrArg₂ mom (read3_1 V c t y) (read3_3 V c t y))

theorem vel_final3 (c : Dev nD) : (dat3 V c).arrAt 7 cfg3.N = velArr (V c main_arg14) (V c main_arg15) := by
  refine (dat3 V c).arrAt_eq_of_covers 7 _ (by decide +kernel) fun t _ y => ?_
  blk_simp
  rw [after3_7]; frame_out
  exact (vel_block3 _ _ y).trans (congrArg₂ vel (read3_2 V c t y) (read3_3 V c t y))

end Cert.Proof.SmallIdeal
-- ==== Proof.Small4.lean ====
/- What the optimiser's call `adamw_ada_w` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S512x768 .f32)

theorem mom_block4 (y : S512x768.Idx) : k4_pay1 a m y = mom (m y) (a y) := rfl

theorem vel_block4 (y : S512x768.Idx) : k4_pay2 a v y = vel (v y) (a y) := rfl

theorem delta_block4 (y : S512x768.Idx) : k4_pay3 a m v w y = delta (w y) (mom (m y) (a y)) (vel (v y) (a y)) := rfl

end Block

variable (V : (c : Dev nD) → (b : Ref sig .tc) → Buf (Elt Ideal) ((c : Thread nD τ).loc b))

theorem idx4 : ∀ t : Fin cfg4.N, win4_0.index t = ![(grid4.coords t 0).val, 0] ∧ win4_1.index t = ![(grid4.coords t 0).val, 0] ∧ win4_2.index t = ![(grid4.coords t 0).val, 0] ∧ win4_3.index t = ![(grid4.coords t 0).val, 0] ∧ win4_4.index t = ![(grid4.coords t 0).val, 0] ∧ win4_5.index t = ![(grid4.coords t 0).val, 0] ∧ win4_6.index t = ![(grid4.coords t 0).val, 0] ∧ win4_7.index t = ![(grid4.coords t 0).val, 0] :=
  (by decide +kernel : ∀ t : Fin grid4.N, _)

theorem read4_0 (c : Dev nD) (t : Fin cfg4.N) (y : S512x768.Idx) : iblk4 V c 0 t y = V c main_arg16 (((cfg4.win 4).blk t).view.emb y) := by
  obtain ⟨y0, y1, rfl⟩ : ∃ (y0 : Fin 512) (y1 : Fin 768), y = ix2 y0 y1 := ⟨y 0, y 1, eq_ix2 y⟩
  blk_ext [iblk4, idx4 t]

theorem read4_1 (c : Dev nD) (t : Fin cfg4.N) (y : S512x768.Idx) : iblk4 V c 1 t y = V c main_arg17 (((cfg4.win 4).blk t).view.emb y) := by
  obtain ⟨y0, y1, rfl⟩ : ∃ (y0 : Fin 512) (y1 : Fin 768), y = ix2 y0 y1 := ⟨y 0, y 1, eq_ix2 y⟩
  blk_ext [iblk4, idx4 t]

theorem read4_2 (c : Dev nD) (t : Fin cfg4.N) (y : S512x768.Idx) : iblk4 V c 2 t y = V c main_arg18 (((cfg4.win 4).blk t).view.emb y) := by
  obtain ⟨y0, y1, rfl⟩ : ∃ (y0 : Fin 512) (y1 : Fin 768), y = ix2 y0 y1 := ⟨y 0, y 1, eq_ix2 y⟩
  blk_ext [iblk4, idx4 t]

theorem read4_3 (c : Dev nD) (t : Fin cfg4.N) (y : S512x768.Idx) : iblk4 V c 3 t y = V c main_arg19 (((cfg4.win 4).blk t).view.emb y) := by
  obtain ⟨y0, y1, rfl⟩ : ∃ (y0 : Fin 512) (y1 : Fin 768), y = ix2 y0 y1 := ⟨y 0, y 1, eq_ix2 y⟩
  blk_ext [iblk4, idx4 t]

theorem grad_final4 (c : Dev nD) : (dat4 V c).arrAt 4 cfg4.N = (V c main_arg19) := by
  refine (dat4 V c).arrAt_eq_of_covers 4 _ (by decide +kernel) fun t _ y => ?_
  blk_simp
  rw [after4_4]; frame_out
  exact ((read4_3 V c t y))

theorem delta_final4 (c : Dev nD) : (dat4 V c).arrAt 5 cfg4.N = deltaArr (V c main_arg16) (momArr (V c main_arg17) (V c main_arg19)) (velArr (V c main_arg18) (V c main_arg19)) := by
  refine (dat4 V c).arrAt_eq_of_covers 5 _ (by decide +kernel) fun t _ y => ?_
  blk_simp
  rw [after4_5]; frame_out
  exact (delta_block4 _ _ _ _ y).trans (delta_congr (read4_0 V c t y) (congrArg₂ mom (read4_1 V c t y) (read4_3 V c t y)) (congrArg₂ vel (read4_2 V c t y) (read4_3 V c t y)))

theorem mom_final4 (c : Dev nD) : (dat4 V c).arrAt 6 cfg4.N = momArr (V c main_arg17) (V c main_arg19) := by
  refine (dat4 V c).arrAt_eq_of_covers 6 _ (by decide +kernel) fun t _ y => ?_
  blk_simp
  rw [after4_6]; frame_out
  exact (mom_block4 _ _ y).trans (congrArg₂ mom (read4_1 V c t y) (read4_3 V c t y))

theorem vel_final4 (c : Dev nD) : (dat4 V c).arrAt 7 cfg4.N = velArr (V c main_arg18) (V c main_arg19) := by
  refine (dat4 V c).arrAt_eq_of_covers 7 _ (by decide +kernel) fun t _ y => ?_
  blk_simp
  rw [after4_7]; frame_out
  exact (vel_block4 _ _ y).trans (congrArg₂ vel (read4_2 V c t y) (read4_3 V c t y))

end Cert.Proof.SmallIdeal
-- ==== Proof.Small5.lean ====
/- What the optimiser's call `adamw_ada_b` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S8x768 .f32)

theorem mom_block5 (y : S8x768.Idx) : k5_pay1 a m y = mom (m y) (a y) := rfl

theorem vel_block5 (y : S8x768.Idx) : k5_pay2 a v y = vel (v y) (a y) := rfl

theorem delta_block5 (y : S8x768.Idx) : k5_pay3 a m v w y = delta (w y) (mom (m y) (a y)) (vel (v y) (a y)) := rfl

end Block

variable (V : (c : Dev nD) → (b : Ref sig .tc) → Buf (Elt Ideal) ((c : Thread nD τ).loc b))

theorem idx5 : ∀ t : Fin cfg5.N, win5_0.index t = ![0, 0] ∧ win5_1.index t = ![0, 0] ∧ win5_2.index t = ![0, 0] ∧ win5_3.index t = ![0, 0] ∧ win5_4.index t = ![0, 0] ∧ win5_5.index t = ![0, 0] ∧ win5_6.index t = ![0, 0] ∧ win5_7.index t = ![0, 0] :=
  (by decide +kernel : ∀ t : Fin grid5.N, _)

theorem read5_0 (c : Dev nD) (t : Fin cfg5.N) (y : S8x768.Idx) : iblk5 V c 0 t y = V c main_arg20 (((cfg5.win 4).blk t).view.emb y) := by
  obtain ⟨y0, y1, rfl⟩ : ∃ (y0 : Fin 8) (y1 : Fin 768), y = ix2 y0 y1 := ⟨y 0, y 1, eq_ix2 y⟩
  blk_ext [iblk5, idx5 t]

theorem read5_1 (c : Dev nD) (t : Fin cfg5.N) (y : S8x768.Idx) : iblk5 V c 1 t y = V c main_arg21 (((cfg5.win 4).blk t).view.emb y) := by
  obtain ⟨y0, y1, rfl⟩ : ∃ (y0 : Fin 8) (y1 : Fin 768), y = ix2 y0 y1 := ⟨y 0, y 1, eq_ix2 y⟩
  blk_ext [iblk5, idx5 t]

theorem read5_2 (c : Dev nD) (t : Fin cfg5.N) (y : S8x768.Idx) : iblk5 V c 2 t y = V c main_arg22 (((cfg5.win 4).blk t).view.emb y) := by
  obtain ⟨y0, y1, rfl⟩ : ∃ (y0 : Fin 8) (y1 : Fin 768), y = ix2 y0 y1 := ⟨y 0, y 1, eq_ix2 y⟩
  blk_ext [iblk5, idx5 t]

theorem read5_3 (c : Dev nD) (t : Fin cfg5.N) (y : S8x768.Idx) : iblk5 V c 3 t y = V c main_arg23 (((cfg5.win 4).blk t).view.emb y) := by
  obtain ⟨y0, y1, rfl⟩ : ∃ (y0 : Fin 8) (y1 : Fin 768), y = ix2 y0 y1 := ⟨y 0, y 1, eq_ix2 y⟩
  blk_ext [iblk5, idx5 t]

theorem grad_final5 (c : Dev nD) : (dat5 V c).arrAt 4 cfg5.N = (V c main_arg23) := by
  refine (dat5 V c).arrAt_eq_of_covers 4 _ (by decide +kernel) fun t _ y => ?_
  blk_simp
  rw [after5_4]; frame_out
  exact ((read5_3 V c t y))

theorem delta_final5 (c : Dev nD) : (dat5 V c).arrAt 5 cfg5.N = deltaArr (V c main_arg20) (momArr (V c main_arg21) (V c main_arg23)) (velArr (V c main_arg22) (V c main_arg23)) := by
  refine (dat5 V c).arrAt_eq_of_covers 5 _ (by decide +kernel) fun t _ y => ?_
  blk_simp
  rw [after5_5]; frame_out
  exact (delta_block5 _ _ _ _ y).trans (delta_congr (read5_0 V c t y) (congrArg₂ mom (read5_1 V c t y) (read5_3 V c t y)) (congrArg₂ vel (read5_2 V c t y) (read5_3 V c t y)))

theorem mom_final5 (c : Dev nD) : (dat5 V c).arrAt 6 cfg5.N = momArr (V c main_arg21) (V c main_arg23) := by
  refine (dat5 V c).arrAt_eq_of_covers 6 _ (by decide +kernel) fun t _ y => ?_
  blk_simp
  rw [after5_6]; frame_out
  exact (mom_block5 _ _ y).trans (congrArg₂ mom (read5_1 V c t y) (read5_3 V c t y))

theorem vel_final5 (c : Dev nD) : (dat5 V c).arrAt 7 cfg5.N = velArr (V c main_arg22) (V c main_arg23) := by
  refine (dat5 V c).arrAt_eq_of_covers 7 _ (by decide +kernel) fun t _ y => ?_
  blk_simp
  rw [after5_7]; frame_out
  exact (vel_block5 _ _ y).trans (congrArg₂ vel (read5_2 V c t y) (read5_3 V c t y))

end Cert.Proof.SmallIdeal
-- ==== Proof.Small6.lean ====
/- What the optimiser's call `adamw_ln_g` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S8x256 .f32)

theorem mom_block6 (y : S8x256.Idx) : k6_pay1 a m y = mom (m y) (a y) := rfl

theorem vel_block6 (y : S8x256.Idx) : k6_pay2 a v y = vel (v y) (a y) := rfl

theorem delta_block6 (y : S8x256.Idx) : k6_pay3 a m v w y = delta (w y) (mom (m y) (a y)) (vel (v y) (a y)) := rfl

end Block

variable (V : (c : Dev nD) → (b : Ref sig .tc) → Buf (Elt Ideal) ((c : Thread nD τ).loc b))

theorem idx6 : ∀ t : Fin cfg6.N, win6_0.index t = ![0, 0] ∧ win6_1.index t = ![0, 0] ∧ win6_2.index t = ![0, 0] ∧ win6_3.index t = ![0, 0] ∧ win6_4.index t = ![0, 0] ∧ win6_5.index t = ![0, 0] ∧ win6_6.index t = ![0, 0] ∧ win6_7.index t = ![0, 0] :=
  (by decide +kernel : ∀ t : Fin grid6.N, _)

theorem read6_0 (c : Dev nD) (t : Fin cfg6.N) (y : S8x256.Idx) : iblk6 V c 0 t y = V c main_arg24 (((cfg6.win 4).blk t).view.emb y) := by
  obtain ⟨y0, y1, rfl⟩ : ∃ (y0 : Fin 8) (y1 : Fin 256), y = ix2 y0 y1 := ⟨y 0, y 1, eq_ix2 y⟩
  blk_ext [iblk6, idx6 t]

theorem read6_1 (c : Dev nD) (t : Fin cfg6.N) (y : S8x256.Idx) : iblk6 V c 1 t y = V c main_arg25 (((cfg6.win 4).blk t).view.emb y) := by
  obtain ⟨y0, y1, rfl⟩ : ∃ (y0 : Fin 8) (y1 : Fin 256), y = ix2 y0 y1 := ⟨y 0, y 1, eq_ix2 y⟩
  blk_ext [iblk6, idx6 t]

theorem read6_2 (c : Dev nD) (t : Fin cfg6.N) (y : S8x256.Idx) : iblk6 V c 2 t y = V c main_arg26 (((cfg6.win 4).blk t).view.emb y) := by
  obtain ⟨y0, y1, rfl⟩ : ∃ (y0 : Fin 8) (y1 : Fin 256), y = ix2 y0 y1 := ⟨y 0, y 1, eq_ix2 y⟩
  blk_ext [iblk6, idx6 t]

theorem read6_3 (c : Dev nD) (t : Fin cfg6.N) (y : S8x256.Idx) : iblk6 V c 3 t y = V c main_arg27 (((cfg6.win 4).blk t).view.emb y) := by
  obtain ⟨y0, y1, rfl⟩ : ∃ (y0 : Fin 8) (y1 : Fin 256), y = ix2 y0 y1 := ⟨y 0, y 1, eq_ix2 y⟩
  blk_ext [iblk6, idx6 t]

theorem grad_final6 (c : Dev nD) : (dat6 V c).arrAt 4 cfg6.N = (V c main_arg27) := by
  refine (dat6 V c).arrAt_eq_of_covers 4 _ (by decide +kernel) fun t _ y => ?_
  blk_simp
  rw [after6_4]; frame_out
  exact ((read6_3 V c t y))

theorem delta_final6 (c : Dev nD) : (dat6 V c).arrAt 5 cfg6.N = deltaArr (V c main_arg24) (momArr (V c main_arg25) (V c main_arg27)) (velArr (V c main_arg26) (V c main_arg27)) := by
  refine (dat6 V c).arrAt_eq_of_covers 5 _ (by decide +kernel) fun t _ y => ?_
  blk_simp
  rw [after6_5]; frame_out
  exact (delta_block6 _ _ _ _ y).trans (delta_congr (read6_0 V c t y) (congrArg₂ mom (read6_1 V c t y) (read6_3 V c t y)) (congrArg₂ vel (read6_2 V c t y) (read6_3 V c t y)))

theorem mom_final6 (c : Dev nD) : (dat6 V c).arrAt 6 cfg6.N = momArr (V c main_arg25) (V c main_arg27) := by
  refine (dat6 V c).arrAt_eq_of_covers 6 _ (by decide +kernel) fun t _ y => ?_
  blk_simp
  rw [after6_6]; frame_out
  exact (mom_block6 _ _ y).trans (congrArg₂ mom (read6_1 V c t y) (read6_3 V c t y))

theorem vel_final6 (c : Dev nD) : (dat6 V c).arrAt 7 cfg6.N = velArr (V c main_arg26) (V c main_arg27) := by
  refine (dat6 V c).arrAt_eq_of_covers 7 _ (by decide +kernel) fun t _ y => ?_
  blk_simp
  rw [after6_7]; frame_out
  exact (vel_block6 _ _ y).trans (congrArg₂ vel (read6_2 V c t y) (read6_3 V c t y))

end Cert.Proof.SmallIdeal
-- ==== Proof.Small7.lean ====
/- What the optimiser's call `adamw_ln_b` leaves. -/
module

public import proofs.«01_k».proof.Proof.Gen.SmallIdeal.Frame
public import proofs.«01_k».proof.Proof.AdamModel

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel

section Block

variable (w m v a : Vec Ideal S8x256 .f32)

theorem mom_block7 (y : S8x256.Idx) : k7_pay1 a m y = mom (m y) (a y) := rfl

theorem vel_block7 (y : S8x256.Idx) : k7_pay2 a v y = vel (v y) (a y) := rfl

theorem delta_block7 (y : S8x256.Idx) : k7_pay3 a m v w y = delta (w y) (mom (m y) (a y)) (vel (v y) (a y)) := rfl

end Block

variable (V : (c : Dev nD) → (b : Ref sig .tc) → Buf (Elt Ideal) ((c : Thread nD τ).loc b))

theorem idx7 : ∀ t : Fin cfg7.N, win7_0.index t = ![0, 0] ∧ win7_1.index t = ![0, 0] ∧ win7_2.index t = ![0, 0] ∧ win7_3.index t = ![0, 0] ∧ win7_4.index t = ![0, 0] ∧ win7_5.index t = ![0, 0] ∧ win7_6.index t = ![0, 0] ∧ win7_7.index t = ![0, 0] :=
  (by decide +kernel : ∀ t : Fin grid7.N, _)

theorem read7_0 (c : Dev nD) (t : Fin cfg7.N) (y : S8x256.Idx) : iblk7 V c 0 t y = V c main_arg28 (((cfg7.win 4).blk t).view.emb y) := by
  obtain ⟨y0, y1, rfl⟩ : ∃ (y0 : Fin 8) (y1 : Fin 256), y = ix2 y0 y1 := ⟨y 0, y 1, eq_ix2 y⟩
  blk_ext [iblk7, idx7 t]

theorem read7_1 (c : Dev nD) (t : Fin cfg7.N) (y : S8x256.Idx) : iblk7 V c 1 t y = V c main_arg29 (((cfg7.win 4).blk t).view.emb y) := by
  obtain ⟨y0, y1, rfl⟩ : ∃ (y0 : Fin 8) (y1 : Fin 256), y = ix2 y0 y1 := ⟨y 0, y 1, eq_ix2 y⟩
  blk_ext [iblk7, idx7 t]

theorem read7_2 (c : Dev nD) (t : Fin cfg7.N) (y : S8x256.Idx) : iblk7 V c 2 t y = V c main_arg30 (((cfg7.win 4).blk t).view.emb y) := by
  obtain ⟨y0, y1, rfl⟩ : ∃ (y0 : Fin 8) (y1 : Fin 256), y = ix2 y0 y1 := ⟨y 0, y 1, eq_ix2 y⟩
  blk_ext [iblk7, idx7 t]

theorem read7_3 (c : Dev nD) (t : Fin cfg7.N) (y : S8x256.Idx) : iblk7 V c 3 t y = V c main_arg31 (((cfg7.win 4).blk t).view.emb y) := by
  obtain ⟨y0, y1, rfl⟩ : ∃ (y0 : Fin 8) (y1 : Fin 256), y = ix2 y0 y1 := ⟨y 0, y 1, eq_ix2 y⟩
  blk_ext [iblk7, idx7 t]

theorem grad_final7 (c : Dev nD) : (dat7 V c).arrAt 4 cfg7.N = (V c main_arg31) := by
  refine (dat7 V c).arrAt_eq_of_covers 4 _ (by decide +kernel) fun t _ y => ?_
  blk_simp
  rw [after7_4]; frame_out
  exact ((read7_3 V c t y))

theorem delta_final7 (c : Dev nD) : (dat7 V c).arrAt 5 cfg7.N = deltaArr (V c main_arg28) (momArr (V c main_arg29) (V c main_arg31)) (velArr (V c main_arg30) (V c main_arg31)) := by
  refine (dat7 V c).arrAt_eq_of_covers 5 _ (by decide +kernel) fun t _ y => ?_
  blk_simp
  rw [after7_5]; frame_out
  exact (delta_block7 _ _ _ _ y).trans (delta_congr (read7_0 V c t y) (congrArg₂ mom (read7_1 V c t y) (read7_3 V c t y)) (congrArg₂ vel (read7_2 V c t y) (read7_3 V c t y)))

theorem mom_final7 (c : Dev nD) : (dat7 V c).arrAt 6 cfg7.N = momArr (V c main_arg29) (V c main_arg31) := by
  refine (dat7 V c).arrAt_eq_of_covers 6 _ (by decide +kernel) fun t _ y => ?_
  blk_simp
  rw [after7_6]; frame_out
  exact (mom_block7 _ _ y).trans (congrArg₂ mom (read7_1 V c t y) (read7_3 V c t y))

theorem vel_final7 (c : Dev nD) : (dat7 V c).arrAt 7 cfg7.N = velArr (V c main_arg30) (V c main_arg31) := by
  refine (dat7 V c).arrAt_eq_of_covers 7 _ (by decide +kernel) fun t _ y => ?_
  blk_simp
  rw [after7_7]; frame_out
  exact (vel_block7 _ _ y).trans (congrArg₂ vel (read7_2 V c t y) (read7_3 V c t y))

end Cert.Proof.SmallIdeal
-- ==== Proof.SmallRun.lean ====
/- The run of the program of the optimiser's small weights: what each returned array holds at the end. -/
module

public import proofs.«01_k».proof.Proof.Small0
public import proofs.«01_k».proof.Proof.Small1
public import proofs.«01_k».proof.Proof.Small2
public import proofs.«01_k».proof.Proof.Small3
public import proofs.«01_k».proof.Proof.Small4
public import proofs.«01_k».proof.Proof.Small5
public import proofs.«01_k».proof.Proof.Small6
public import proofs.«01_k».proof.Proof.Small7
public import Idealize.ShloMosaic.Lib.Ring
public import Idealize.ShloMosaic.Lib.Tactic
public import Idealize.ShloMosaic.Lib.Claim

@[expose] public section

set_option maxRecDepth 16384

noncomputable section

namespace Cert.Proof.SmallIdeal

open Cert.SmallIdeal Cert.SmallIdeal.Gen
open Idealize.ShloMosaic Idealize.ShloMosaic.TcCoe Idealize.ShloMosaic.Tactic Idealize.SL.Sem
open Idealize.ShloMosaic.Pipeline (Dat)
open Cert.Proof.AdamModel
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- An argument as launched. -/
abbrev arg (c : Dev nD) (b : Ref sig .tc) : Buf (Elt Ideal) ((c : Thread nD τ).loc b) := m ((c : Thread nD τ).loc b)

/-- The gradient of weight 0. -/
def res0_0 (c : Dev nD) : FVec Ideal S2x768 .f32 := (arg m c main_arg3)

theorem end_v0_0 (c : Dev nD) : W8 m ρ c (Proc.devRef .tc main_v0_0) = res0_0 m c :=
  (W8_of m ρ c main_v0_0 (by decide)).trans ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans ((W1_arr m ρ c 4).trans ((grad_final0 (V0 m ρ) c).trans (W0_args m ρ c main_arg3 (by decide))))))))))

/-- The change of weight 0. -/
def res0_1 (c : Dev nD) : FVec Ideal S2x768 .f32 := step (arg m c main_arg0) (arg m c main_arg1) (arg m c main_arg2) (arg m c main_arg3)

theorem end_v0_1 (c : Dev nD) : W8 m ρ c (Proc.devRef .tc main_v0_1) = res0_1 m c :=
  (W8_of m ρ c main_v0_1 (by decide)).trans ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans ((W1_arr m ρ c 5).trans ((delta_final0 (V0 m ρ) c).trans (step_congr (W0_args m ρ c main_arg0 (by decide)) (W0_args m ρ c main_arg1 (by decide)) (W0_args m ρ c main_arg2 (by decide)) (W0_args m ρ c main_arg3 (by decide)))))))))))

/-- The new first moments of weight 0. -/
def res0_2 (c : Dev nD) : FVec Ideal S2x768 .f32 := momArr (arg m c main_arg1) (arg m c main_arg3)

theorem end_v0_2 (c : Dev nD) : W8 m ρ c (Proc.devRef .tc main_v0_2) = res0_2 m c :=
  (W8_of m ρ c main_v0_2 (by decide)).trans ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans ((W1_arr m ρ c 6).trans ((mom_final0 (V0 m ρ) c).trans (congrArg₂ momArr (W0_args m ρ c main_arg1 (by decide)) (W0_args m ρ c main_arg3 (by decide)))))))))))

/-- The new second moments of weight 0. -/
def res0_3 (c : Dev nD) : FVec Ideal S2x768 .f32 := velArr (arg m c main_arg2) (arg m c main_arg3)

theorem end_v0_3 (c : Dev nD) : W8 m ρ c (Proc.devRef .tc main_v0_3) = res0_3 m c :=
  (W8_of m ρ c main_v0_3 (by decide)).trans ((W7_of m ρ c main_v0_3 (by decide)).trans ((W6_of m ρ c main_v0_3 (by decide)).trans ((W5_of m ρ c main_v0_3 (by decide)).trans ((W4_of m ρ c main_v0_3 (by decide)).trans ((W3_of m ρ c main_v0_3 (by decide)).trans ((W2_of m ρ c main_v0_3 (by decide)).trans ((W1_arr m ρ c 7).trans ((vel_final0 (V0 m ρ) c).trans (congrArg₂ velArr (W0_args m ρ c main_arg2 (by decide)) (W0_args m ρ c main_arg3 (by decide)))))))))))

/-- The gradient of weight 1. -/
def res1_0 (c : Dev nD) : FVec Ideal S2x256 .f32 := (arg m c main_arg7)

theorem end_v1_0 (c : Dev nD) : W8 m ρ c (Proc.devRef .tc main_v1_0) = res1_0 m c :=
  (W8_of m ρ c main_v1_0 (by decide)).trans ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)).trans ((W2_arr m ρ c 4).trans ((grad_final1 (V1 m ρ) c).trans (W1_args m ρ c main_arg7 (by decide)))))))))

/-- The change of weight 1. -/
def res1_1 (c : Dev nD) : FVec Ideal S2x256 .f32 := step (arg m c main_arg4) (arg m c main_arg5) (arg m c main_arg6) (arg m c main_arg7)

theorem end_v1_1 (c : Dev nD) : W8 m ρ c (Proc.devRef .tc main_v1_1) = res1_1 m c :=
  (W8_of m ρ c main_v1_1 (by decide)).trans ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)).trans ((W2_arr m ρ c 5).trans ((delta_final1 (V1 m ρ) c).trans (step_congr (W1_args m ρ c main_arg4 (by decide)) (W1_args m ρ c main_arg5 (by decide)) (W1_args m ρ c main_arg6 (by decide)) (W1_args m ρ c main_arg7 (by decide))))))))))

/-- The new first moments of weight 1. -/
def res1_2 (c : Dev nD) : FVec Ideal S2x256 .f32 := momArr (arg m c main_arg5) (arg m c main_arg7)

theorem end_v1_2 (c : Dev nD) : W8 m ρ c (Proc.devRef .tc main_v1_2) = res1_2 m c :=
  (W8_of m ρ c main_v1_2 (by decide)).trans ((W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)).trans ((W2_arr m ρ c 6).trans ((mom_final1 (V1 m ρ) c).trans (congrArg₂ momArr (W1_args m ρ c main_arg5 (by decide)) (W1_args m ρ c main_arg7 (by decide))))))))))

/-- The new second moments of weight 1. -/
def res1_3 (c : Dev nD) : FVec Ideal S2x256 .f32 := velArr (arg m c main_arg6) (arg m c main_arg7)

theorem end_v1_3 (c : Dev nD) : W8 m ρ c (Proc.devRef .tc main_v1_3) = res1_3 m c :=
  (W8_of m ρ c main_v1_3 (by decide)).trans ((W7_of m ρ c main_v1_3 (by decide)).trans ((W6_of m ρ c main_v1_3 (by decide)).trans ((W5_of m ρ c main_v1_3 (by decide)).trans ((W4_of m ρ c main_v1_3 (by decide)).trans ((W3_of m ρ c main_v1_3 (by decide)).trans ((W2_arr m ρ c 7).trans ((vel_final1 (V1 m ρ) c).trans (congrArg₂ velArr (W1_args m ρ c main_arg6 (by decide)) (W1_args m ρ c main_arg7 (by decide))))))))))

/-- The gradient of weight 2. -/
def res2_0 (c : Dev nD) : FVec Ideal S2x256 .f32 := (arg m c main_arg11)

theorem end_v2_0 (c : Dev nD) : W8 m ρ c (Proc.devRef .tc main_v2_0) = res2_0 m c :=
  (W8_of m ρ c main_v2_0 (by decide)).trans ((W7_of m ρ c main_v2_0 (by decide)).trans ((W6_of m ρ c main_v2_0 (by decide)).trans ((W5_of m ρ c main_v2_0 (by decide)).trans ((W4_of m ρ c main_v2_0 (by decide)).trans ((W3_arr m ρ c 4).trans ((grad_final2 (V2 m ρ) c).trans (W2_args m ρ c main_arg11 (by decide))))))))

/-- The change of weight 2. -/
def res2_1 (c : Dev nD) : FVec Ideal S2x256 .f32 := step (arg m c main_arg8) (arg m c main_arg9) (arg m c main_arg10) (arg m c main_arg11)

theorem end_v2_1 (c : Dev nD) : W8 m ρ c (Proc.devRef .tc main_v2_1) = res2_1 m c :=
  (W8_of m ρ c main_v2_1 (by decide)).trans ((W7_of m ρ c main_v2_1 (by decide)).trans ((W6_of m ρ c main_v2_1 (by decide)).trans ((W5_of m ρ c main_v2_1 (by decide)).trans ((W4_of m ρ c main_v2_1 (by decide)).trans ((W3_arr m ρ c 5).trans ((delta_final2 (V2 m ρ) c).trans (step_congr (W2_args m ρ c main_arg8 (by decide)) (W2_args m ρ c main_arg9 (by decide)) (W2_args m ρ c main_arg10 (by decide)) (W2_args m ρ c main_arg11 (by decide)))))))))

/-- The new first moments of weight 2. -/
def res2_2 (c : Dev nD) : FVec Ideal S2x256 .f32 := momArr (arg m c main_arg9) (arg m c main_arg11)

theorem end_v2_2 (c : Dev nD) : W8 m ρ c (Proc.devRef .tc main_v2_2) = res2_2 m c :=
  (W8_of m ρ c main_v2_2 (by decide)).trans ((W7_of m ρ c main_v2_2 (by decide)).trans ((W6_of m ρ c main_v2_2 (by decide)).trans ((W5_of m ρ c main_v2_2 (by decide)).trans ((W4_of m ρ c main_v2_2 (by decide)).trans ((W3_arr m ρ c 6).trans ((mom_final2 (V2 m ρ) c).trans (congrArg₂ momArr (W2_args m ρ c main_arg9 (by decide)) (W2_args m ρ c main_arg11 (by decide)))))))))

/-- The new second moments of weight 2. -/
def res2_3 (c : Dev nD) : FVec Ideal S2x256 .f32 := velArr (arg m c main_arg10) (arg m c main_arg11)

theorem end_v2_3 (c : Dev nD) : W8 m ρ c (Proc.devRef .tc main_v2_3) = res2_3 m c :=
  (W8_of m ρ c main_v2_3 (by decide)).trans ((W7_of m ρ c main_v2_3 (by decide)).trans ((W6_of m ρ c main_v2_3 (by decide)).trans ((W5_of m ρ c main_v2_3 (by decide)).trans ((W4_of m ρ c main_v2_3 (by decide)).trans ((W3_arr m ρ c 7).trans ((vel_final2 (V2 m ρ) c).trans (congrArg₂ velArr (W2_args m ρ c main_arg10 (by decide)) (W2_args m ρ c main_arg11 (by decide)))))))))

/-- The gradient of weight 3. -/
def res3_0 (c : Dev nD) : FVec Ideal S2x128 .f32 := (arg m c main_arg15)

theorem end_v3_0 (c : Dev nD) : W8 m ρ c (Proc.devRef .tc main_v3_0) = res3_0 m c :=
  (W8_of m ρ c main_v3_0 (by decide)).trans ((W7_of m ρ c main_v3_0 (by decide)).trans ((W6_of m ρ c main_v3_0 (by decide)).trans ((W5_of m ρ c main_v3_0 (by decide)).trans ((W4_arr m ρ c 4).trans ((grad_final3 (V3 m ρ) c).trans (W3_args m ρ c main_arg15 (by decide)))))))

/-- The change of weight 3. -/
def res3_1 (c : Dev nD) : FVec Ideal S2x128 .f32 := step (arg m c main_arg12) (arg m c main_arg13) (arg m c main_arg14) (arg m c main_arg15)

theorem end_v3_1 (c : Dev nD) : W8 m ρ c (Proc.devRef .tc main_v3_1) = res3_1 m c :=
  (W8_of m ρ c main_v3_1 (by decide)).trans ((W7_of m ρ c main_v3_1 (by decide)).trans ((W6_of m ρ c main_v3_1 (by decide)).trans ((W5_of m ρ c main_v3_1 (by decide)).trans ((W4_arr m ρ c 5).trans ((delta_final3 (V3 m ρ) c).trans (step_congr (W3_args m ρ c main_arg12 (by decide)) (W3_args m ρ c main_arg13 (by decide)) (W3_args m ρ c main_arg14 (by decide)) (W3_args m ρ c main_arg15 (by decide))))))))

/-- The new first moments of weight 3. -/
def res3_2 (c : Dev nD) : FVec Ideal S2x128 .f32 := momArr (arg m c main_arg13) (arg m c main_arg15)

theorem end_v3_2 (c : Dev nD) : W8 m ρ c (Proc.devRef .tc main_v3_2) = res3_2 m c :=
  (W8_of m ρ c main_v3_2 (by decide)).trans ((W7_of m ρ c main_v3_2 (by decide)).trans ((W6_of m ρ c main_v3_2 (by decide)).trans ((W5_of m ρ c main_v3_2 (by decide)).trans ((W4_arr m ρ c 6).trans ((mom_final3 (V3 m ρ) c).trans (congrArg₂ momArr (W3_args m ρ c main_arg13 (by decide)) (W3_args m ρ c main_arg15 (by decide))))))))

/-- The new second moments of weight 3. -/
def res3_3 (c : Dev nD) : FVec Ideal S2x128 .f32 := velArr (arg m c main_arg14) (arg m c main_arg15)

theorem end_v3_3 (c : Dev nD) : W8 m ρ c (Proc.devRef .tc main_v3_3) = res3_3 m c :=
  (W8_of m ρ c main_v3_3 (by decide)).trans ((W7_of m ρ c main_v3_3 (by decide)).trans ((W6_of m ρ c main_v3_3 (by decide)).trans ((W5_of m ρ c main_v3_3 (by decide)).trans ((W4_arr m ρ c 7).trans ((vel_final3 (V3 m ρ) c).trans (congrArg₂ velArr (W3_args m ρ c main_arg14 (by decide)) (W3_args m ρ c main_arg15 (by decide))))))))

/-- The gradient of weight 4. -/
def res4_0 (c : Dev nD) : FVec Ideal S8192x768 .f32 := (arg m c main_arg19)

theorem end_v4_0 (c : Dev nD) : W8 m ρ c (Proc.devRef .tc main_v4_0) = res4_0 m c :=
  (W8_of m ρ c main_v4_0 (by decide)).trans ((W7_of m ρ c main_v4_0 (by decide)).trans ((W6_of m ρ c main_v4_0 (by decide)).trans ((W5_arr m ρ c 4).trans ((grad_final4 (V4 m ρ) c).trans (W4_args m ρ c main_arg19 (by decide))))))

/-- The change of weight 4. -/
def res4_1 (c : Dev nD) : FVec Ideal S8192x768 .f32 := step (arg m c main_arg16) (arg m c main_arg17) (arg m c main_arg18) (arg m c main_arg19)

theorem end_v4_1 (c : Dev nD) : W8 m ρ c (Proc.devRef .tc main_v4_1) = res4_1 m c :=
  (W8_of m ρ c main_v4_1 (by decide)).trans ((W7_of m ρ c main_v4_1 (by decide)).trans ((W6_of m ρ c main_v4_1 (by decide)).trans ((W5_arr m ρ c 5).trans ((delta_final4 (V4 m ρ) c).trans (step_congr (W4_args m ρ c main_arg16 (by decide)) (W4_args m ρ c main_arg17 (by decide)) (W4_args m ρ c main_arg18 (by decide)) (W4_args m ρ c main_arg19 (by decide)))))))

/-- The new first moments of weight 4. -/
def res4_2 (c : Dev nD) : FVec Ideal S8192x768 .f32 := momArr (arg m c main_arg17) (arg m c main_arg19)

theorem end_v4_2 (c : Dev nD) : W8 m ρ c (Proc.devRef .tc main_v4_2) = res4_2 m c :=
  (W8_of m ρ c main_v4_2 (by decide)).trans ((W7_of m ρ c main_v4_2 (by decide)).trans ((W6_of m ρ c main_v4_2 (by decide)).trans ((W5_arr m ρ c 6).trans ((mom_final4 (V4 m ρ) c).trans (congrArg₂ momArr (W4_args m ρ c main_arg17 (by decide)) (W4_args m ρ c main_arg19 (by decide)))))))

/-- The new second moments of weight 4. -/
def res4_3 (c : Dev nD) : FVec Ideal S8192x768 .f32 := velArr (arg m c main_arg18) (arg m c main_arg19)

theorem end_v4_3 (c : Dev nD) : W8 m ρ c (Proc.devRef .tc main_v4_3) = res4_3 m c :=
  (W8_of m ρ c main_v4_3 (by decide)).trans ((W7_of m ρ c main_v4_3 (by decide)).trans ((W6_of m ρ c main_v4_3 (by decide)).trans ((W5_arr m ρ c 7).trans ((vel_final4 (V4 m ρ) c).trans (congrArg₂ velArr (W4_args m ρ c main_arg18 (by decide)) (W4_args m ρ c main_arg19 (by decide)))))))

/-- The gradient of weight 5. -/
def res5_0 (c : Dev nD) : FVec Ideal S8x768 .f32 := (arg m c main_arg23)

theorem end_v5_0 (c : Dev nD) : W8 m ρ c (Proc.devRef .tc main_v5_0) = res5_0 m c :=
  (W8_of m ρ c main_v5_0 (by decide)).trans ((W7_of m ρ c main_v5_0 (by decide)).trans ((W6_arr m ρ c 4).trans ((grad_final5 (V5 m ρ) c).trans (W5_args m ρ c main_arg23 (by decide)))))

/-- The change of weight 5. -/
def res5_1 (c : Dev nD) : FVec Ideal S8x768 .f32 := step (arg m c main_arg20) (arg m c main_arg21) (arg m c main_arg22) (arg m c main_arg23)

theorem end_v5_1 (c : Dev nD) : W8 m ρ c (Proc.devRef .tc main_v5_1) = res5_1 m c :=
  (W8_of m ρ c main_v5_1 (by decide)).trans ((W7_of m ρ c main_v5_1 (by decide)).trans ((W6_arr m ρ c 5).trans ((delta_final5 (V5 m ρ) c).trans (step_congr (W5_args m ρ c main_arg20 (by decide)) (W5_args m ρ c main_arg21 (by decide)) (W5_args m ρ c main_arg22 (by decide)) (W5_args m ρ c main_arg23 (by decide))))))

/-- The new first moments of weight 5. -/
def res5_2 (c : Dev nD) : FVec Ideal S8x768 .f32 := momArr (arg m c main_arg21) (arg m c main_arg23)

theorem end_v5_2 (c : Dev nD) : W8 m ρ c (Proc.devRef .tc main_v5_2) = res5_2 m c :=
  (W8_of m ρ c main_v5_2 (by decide)).trans ((W7_of m ρ c main_v5_2 (by decide)).trans ((W6_arr m ρ c 6).trans ((mom_final5 (V5 m ρ) c).trans (congrArg₂ momArr (W5_args m ρ c main_arg21 (by decide)) (W5_args m ρ c main_arg23 (by decide))))))

/-- The new second moments of weight 5. -/
def res5_3 (c : Dev nD) : FVec Ideal S8x768 .f32 := velArr (arg m c main_arg22) (arg m c main_arg23)

theorem end_v5_3 (c : Dev nD) : W8 m ρ c (Proc.devRef .tc main_v5_3) = res5_3 m c :=
  (W8_of m ρ c main_v5_3 (by decide)).trans ((W7_of m ρ c main_v5_3 (by decide)).trans ((W6_arr m ρ c 7).trans ((vel_final5 (V5 m ρ) c).trans (congrArg₂ velArr (W5_args m ρ c main_arg22 (by decide)) (W5_args m ρ c main_arg23 (by decide))))))

/-- The gradient of weight 6. -/
def res6_0 (c : Dev nD) : FVec Ideal S8x256 .f32 := (arg m c main_arg27)

theorem end_v6_0 (c : Dev nD) : W8 m ρ c (Proc.devRef .tc main_v6_0) = res6_0 m c :=
  (W8_of m ρ c main_v6_0 (by decide)).trans ((W7_arr m ρ c 4).trans ((grad_final6 (V6 m ρ) c).trans (W6_args m ρ c main_arg27 (by decide))))

/-- The change of weight 6. -/
def res6_1 (c : Dev nD) : FVec Ideal S8x256 .f32 := step (arg m c main_arg24) (arg m c main_arg25) (arg m c main_arg26) (arg m c main_arg27)

theorem end_v6_1 (c : Dev nD) : W8 m ρ c (Proc.devRef .tc main_v6_1) = res6_1 m c :=
  (W8_of m ρ c main_v6_1 (by decide)).trans ((W7_arr m ρ c 5).trans ((delta_final6 (V6 m ρ) c).trans (step_congr (W6_args m ρ c main_arg24 (by decide)) (W6_args m ρ c main_arg25 (by decide)) (W6_args m ρ c main_arg26 (by decide)) (W6_args m ρ c main_arg27 (by decide)))))

/-- The new first moments of weight 6. -/
def res6_2 (c : Dev nD) : FVec Ideal S8x256 .f32 := momArr (arg m c main_arg25) (arg m c main_arg27)

theorem end_v6_2 (c : Dev nD) : W8 m ρ c (Proc.devRef .tc main_v6_2) = res6_2 m c :=
  (W8_of m ρ c main_v6_2 (by decide)).trans ((W7_arr m ρ c 6).trans ((mom_final6 (V6 m ρ) c).trans (congrArg₂ momArr (W6_args m ρ c main_arg25 (by decide)) (W6_args m ρ c main_arg27 (by decide)))))

/-- The new second moments of weight 6. -/
def res6_3 (c : Dev nD) : FVec Ideal S8x256 .f32 := velArr (arg m c main_arg26) (arg m c main_arg27)

theorem end_v6_3 (c : Dev nD) : W8 m ρ c (Proc.devRef .tc main_v6_3) = res6_3 m c :=
  (W8_of m ρ c main_v6_3 (by decide)).trans ((W7_arr m ρ c 7).trans ((vel_final6 (V6 m ρ) c).trans (congrArg₂ velArr (W6_args m ρ c main_arg26 (by decide)) (W6_args m ρ c main_arg27 (by decide)))))

/-- The gradient of weight 7. -/
def res7_0 (c : Dev nD) : FVec Ideal S8x256 .f32 := (arg m c main_arg31)

theorem end_v7_0 (c : Dev nD) : W8 m ρ c (Proc.devRef .tc main_v7_0) = res7_0 m c :=
  (W8_arr m ρ c 4).trans ((grad_final7 (V7 m ρ) c).trans (W7_args m ρ c main_arg31 (by decide)))

/-- The change of weight 7. -/
def res7_1 (c : Dev nD) : FVec Ideal S8x256 .f32 := step (arg m c main_arg28) (arg m c main_arg29) (arg m c main_arg30) (arg m c main_arg31)

theorem end_v7_1 (c : Dev nD) : W8 m ρ c (Proc.devRef .tc main_v7_1) = res7_1 m c :=
  (W8_arr m ρ c 5).trans ((delta_final7 (V7 m ρ) c).trans (step_congr (W7_args m ρ c main_arg28 (by decide)) (W7_args m ρ c main_arg29 (by decide)) (W7_args m ρ c main_arg30 (by decide)) (W7_args m ρ c main_arg31 (by decide))))

/-- The new first moments of weight 7. -/
def res7_2 (c : Dev nD) : FVec Ideal S8x256 .f32 := momArr (arg m c main_arg29) (arg m c main_arg31)

theorem end_v7_2 (c : Dev nD) : W8 m ρ c (Proc.devRef .tc main_v7_2) = res7_2 m c :=
  (W8_arr m ρ c 6).trans ((mom_final7 (V7 m ρ) c).trans (congrArg₂ momArr (W7_args m ρ c main_arg29 (by decide)) (W7_args m ρ c main_arg31 (by decide))))

/-- The new second moments of weight 7. -/
def res7_3 (c : Dev nD) : FVec Ideal S8x256 .f32 := velArr (arg m c main_arg30) (arg m c main_arg31)

theorem end_v7_3 (c : Dev nD) : W8 m ρ c (Proc.devRef .tc main_v7_3) = res7_3 m c :=
  (W8_arr m ρ c 7).trans ((vel_final7 (V7 m ρ) c).trans (congrArg₂ velArr (W7_args m ρ c main_arg30 (by decide)) (W7_args m ρ c main_arg31 (by decide))))

set_option backward.isDefEq.respectTransparency.types false in
/-- Every execution ends with every array as the calls, run in turn, leave it. -/
theorem ended : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

set_option maxHeartbeats 4000000 in
/-- Every execution ends with the step of every weight in the results, and the arguments as launched. -/
theorem ran : θ_run defs (onTc (τ := τ) (main (F := Ideal))) ⟨m, fun _ => 0, ρ⟩ (fun r => ∀ c : Dev nD,
      r.2.mem ((c.tc : Thread nD τ).loc main_v0_0) = res0_0 m c
      ∧ r.2.mem ((c.tc : Thread nD τ).loc main_v0_1) = res0_1 m c
      ∧ r.2.mem ((c.tc : Thread nD τ).loc main_v0_2) = res0_2 m c
      ∧ r.2.mem ((c.tc : Thread nD τ).loc main_v0_3) = res0_3 m c
      ∧ r.2.mem ((c.tc : Thread nD τ).loc main_v1_0) = res1_0 m c
      ∧ r.2.mem ((c.tc : Thread nD τ).loc main_v1_1) = res1_1 m c
      ∧ r.2.mem ((c.tc : Thread nD τ).loc main_v1_2) = res1_2 m c
      ∧ r.2.mem ((c.tc : Thread nD τ).loc main_v1_3) = res1_3 m c
      ∧ r.2.mem ((c.tc : Thread nD τ).loc main_v2_0) = res2_0 m c
      ∧ r.2.mem ((c.tc : Thread nD τ).loc main_v2_1) = res2_1 m c
      ∧ r.2.mem ((c.tc : Thread nD τ).loc main_v2_2) = res2_2 m c
      ∧ r.2.mem ((c.tc : Thread nD τ).loc main_v2_3) = res2_3 m c
      ∧ r.2.mem ((c.tc : Thread nD τ).loc main_v3_0) = res3_0 m c
      ∧ r.2.mem ((c.tc : Thread nD τ).loc main_v3_1) = res3_1 m c
      ∧ r.2.mem ((c.tc : Thread nD τ).loc main_v3_2) = res3_2 m c
      ∧ r.2.mem ((c.tc : Thread nD τ).loc main_v3_3) = res3_3 m c
      ∧ r.2.mem ((c.tc : Thread nD τ).loc main_v4_0) = res4_0 m c
      ∧ r.2.mem ((c.tc : Thread nD τ).loc main_v4_1) = res4_1 m c
      ∧ r.2.mem ((c.tc : Thread nD τ).loc main_v4_2) = res4_2 m c
      ∧ r.2.mem ((c.tc : Thread nD τ).loc main_v4_3) = res4_3 m c
      ∧ r.2.mem ((c.tc : Thread nD τ).loc main_v5_0) = res5_0 m c
      ∧ r.2.mem ((c.tc : Thread nD τ).loc main_v5_1) = res5_1 m c
      ∧ r.2.mem ((c.tc : Thread nD τ).loc main_v5_2) = res5_2 m c
      ∧ r.2.mem ((c.tc : Thread nD τ).loc main_v5_3) = res5_3 m c
      ∧ r.2.mem ((c.tc : Thread nD τ).loc main_v6_0) = res6_0 m c
      ∧ r.2.mem ((c.tc : Thread nD τ).loc main_v6_1) = res6_1 m c
      ∧ r.2.mem ((c.tc : Thread nD τ).loc main_v6_2) = res6_2 m c
      ∧ r.2.mem ((c.tc : Thread nD τ).loc main_v6_3) = res6_3 m c
      ∧ r.2.mem ((c.tc : Thread nD τ).loc main_v7_0) = res7_0 m c
      ∧ r.2.mem ((c.tc : Thread nD τ).loc main_v7_1) = res7_1 m c
      ∧ r.2.mem ((c.tc : Thread nD τ).loc main_v7_2) = res7_2 m c
      ∧ r.2.mem ((c.tc : Thread nD τ).loc main_v7_3) = res7_3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
      ⟨(h c _ (mem_uc main_v0_0 (by decide))).trans (end_v0_0 m ρ c),
       (h c _ (mem_uc main_v0_1 (by decide))).trans (end_v0_1 m ρ c),
       (h c _ (mem_uc main_v0_2 (by decide))).trans (end_v0_2 m ρ c),
       (h c _ (mem_uc main_v0_3 (by decide))).trans (end_v0_3 m ρ c),
       (h c _ (mem_uc main_v1_0 (by decide))).trans (end_v1_0 m ρ c),
       (h c _ (mem_uc main_v1_1 (by decide))).trans (end_v1_1 m ρ c),
       (h c _ (mem_uc main_v1_2 (by decide))).trans (end_v1_2 m ρ c),
       (h c _ (mem_uc main_v1_3 (by decide))).trans (end_v1_3 m ρ c),
       (h c _ (mem_uc main_v2_0 (by decide))).trans (end_v2_0 m ρ c),
       (h c _ (mem_uc main_v2_1 (by decide))).trans (end_v2_1 m ρ c),
       (h c _ (mem_uc main_v2_2 (by decide))).trans (end_v2_2 m ρ c),
       (h c _ (mem_uc main_v2_3 (by decide))).trans (end_v2_3 m ρ c),
       (h c _ (mem_uc main_v3_0 (by decide))).trans (end_v3_0 m ρ c),
       (h c _ (mem_uc main_v3_1 (by decide))).trans (end_v3_1 m ρ c),
       (h c _ (mem_uc main_v3_2 (by decide))).trans (end_v3_2 m ρ c),
       (h c _ (mem_uc main_v3_3 (by decide))).trans (end_v3_3 m ρ c),
       (h c _ (mem_uc main_v4_0 (by decide))).trans (end_v4_0 m ρ c),
       (h c _ (mem_uc main_v4_1 (by decide))).trans (end_v4_1 m ρ c),
       (h c _ (mem_uc main_v4_2 (by decide))).trans (end_v4_2 m ρ c),
       (h c _ (mem_uc main_v4_3 (by decide))).trans (end_v4_3 m ρ c),
       (h c _ (mem_uc main_v5_0 (by decide))).trans (end_v5_0 m ρ c),
       (h c _ (mem_uc main_v5_1 (by decide))).trans (end_v5_1 m ρ c),
       (h c _ (mem_uc main_v5_2 (by decide))).trans (end_v5_2 m ρ c),
       (h c _ (mem_uc main_v5_3 (by decide))).trans (end_v5_3 m ρ c),
       (h c _ (mem_uc main_v6_0 (by decide))).trans (end_v6_0 m ρ c),
       (h c _ (mem_uc main_v6_1 (by decide))).trans (end_v6_1 m ρ c),
       (h c _ (mem_uc main_v6_2 (by decide))).trans (end_v6_2 m ρ c),
       (h c _ (mem_uc main_v6_3 (by decide))).trans (end_v6_3 m ρ c),
       (h c _ (mem_uc main_v7_0 (by decide))).trans (end_v7_0 m ρ c),
       (h c _ (mem_uc main_v7_1 (by decide))).trans (end_v7_1 m ρ c),
       (h c _ (mem_uc main_v7_2 (by decide))).trans (end_v7_2 m ρ c),
       (h c _ (mem_uc main_v7_3 (by decide))).trans (end_v7_3 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c),
       (h c _ (mem_uc main_arg30 (by decide))).trans (W8_main_arg30 m ρ c),
       (h c _ (mem_uc main_arg31 (by decide))).trans (W8_main_arg31 m ρ c)⟩)
    (ended m ρ)

end Cert.Proof.SmallIdeal
-- ==== Proof.lean ====
/- The gradient of the causal attention, the gated feed-forward and the projections with their gradients, and the optimiser's step: what is claimed of the kernel's calls, and its proof. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnReferenceIdeal
public import proofs.«01_k».proof.Proof.Gen.HgrnReferenceIdeal.Run
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaReferenceIdeal
public import proofs.«01_k».proof.Proof.Gen.MlaReferenceIdeal.Run
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamReferenceIdeal
public import proofs.«01_k».proof.Proof.Gen.AdamReferenceIdeal.Run
public import proofs.«01_k».proof.Proof.Gen.Small
public import proofs.«01_k».proof.Proof.Gen.Small.Frame
public import proofs.«01_k».proof.Proof.Gen.SmallIdeal
public import proofs.«01_k».proof.Proof.Gen.SmallIdeal.Frame
public import proofs.«01_k».proof.Proof.Gen.SmallReferenceIdeal
public import proofs.«01_k».proof.Proof.Gen.SmallReferenceIdeal.Run
public import proofs.«01_k».proof.Proof.FrameKernel
public import proofs.«01_k».proof.Proof.FrameKernelIdeal
public import proofs.«01_k».proof.Proof.EndsKernelIdeal
public import proofs.«01_k».proof.Proof.FfnRun
public import proofs.«01_k».proof.Proof.FfnReference
public import proofs.«01_k».proof.Proof.HgrnRun
public import proofs.«01_k».proof.Proof.HgrnReference
public import proofs.«01_k».proof.Proof.MlaRun
public import proofs.«01_k».proof.Proof.MlaReference
public import proofs.«01_k».proof.Proof.AdamRun
public import proofs.«01_k».proof.Proof.SmallRun
public import Idealize.ShloMosaic.Lib.Claim

@[expose] public section

set_option maxRecDepth 16384

noncomputable section

namespace Cert.Proof

open Idealize.ShloMosaic

/-- The two named constants are the reals they are named. -/
theorem named : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E16C740#32 (((3424635 / 33554432) * (Real.log 2)⁻¹ : ℝ) : EReal) rfl⟩

/-- The reference leaves its arguments as they were; it declares no semaphore. -/
theorem quietReference : Cert.quiescent_ReferenceIdeal (hReferenceIdeal := Cert.ReferenceIdeal.Gen.facts) := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The precondition's arrays have their shapes. -/
theorem preFacts : Cert.Pre_finite.Facts := ⟨by decide, by decide, by decide⟩

/-- An entry whose absolute value is under infinity is a real. -/
theorem real_entry (x : EReal) (h : Ideal.cmp .olt (max x (-x)) (Ideal.ofBits .bf16 0x7F80#16) = 1#1) : x = ((x.toReal : ℝ) : EReal) := by
  rw [Model.word_inf] at h
  have h' : max x (-x) < ⊤ := by
    by_contra hn
    have : Ideal.cmp .olt (max x (-x)) ⊤ = BitVec.ofBool (decide (max x (-x) < ⊤)) := rfl
    rw [this, decide_eq_false hn] at h
    exact absurd h (by decide)
  refine Model.real_of (fun e => ?_) (fun e => ?_)
  · rw [e] at h'; exact absurd h' (by simp)
  · rw [e] at h'; exact absurd h' (by simp)

section Value

variable (m : (ℓ : Loc Cert.KernelIdeal.nD Cert.KernelIdeal.τ Cert.KernelIdeal.sig) → Buf (Elt Ideal) ℓ)
  (hpre : Cert.Pre_KernelIdeal_finite (hPre_finite := preFacts) m) (c : Dev Cert.KernelIdeal.nD)

include hpre in
theorem real0 (x) : KernelIdeal.aQ m c x = (((KernelIdeal.aQ m c x).toReal : ℝ) : EReal) := real_entry _ (congrFun (hpre c).1 x)
include hpre in
theorem real1 (x) : KernelIdeal.aK m c x = (((KernelIdeal.aK m c x).toReal : ℝ) : EReal) := real_entry _ (congrFun (hpre c).2.1 x)
include hpre in
theorem real2 (x) : KernelIdeal.aV m c x = (((KernelIdeal.aV m c x).toReal : ℝ) : EReal) := real_entry _ (congrFun (hpre c).2.2.1 x)
include hpre in
theorem real3 (x) : KernelIdeal.aW m c x = (((KernelIdeal.aW m c x).toReal : ℝ) : EReal) := real_entry _ (congrFun (hpre c).2.2.2 x)

end Value

/-- Where the kernel's run leaves its three results. -/
theorem kernelRun (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v29_0) = (KernelIdeal.dats m 0 c).arrAt 6 Cert.KernelIdeal.cfg0.N
      ∧ r.2.mem ((c.tc : Thread Cert.KernelIdeal.nD Cert.KernelIdeal.τ).loc Cert.KernelIdeal.main_v29_1) = (KernelIdeal.dats m 0 c).arrAt 7 Cert.KernelIdeal.cfg0.N
      ∧ r.2.mem ((c.tc : Thread Cert.KernelIdeal.nD Cert.KernelIdeal.τ).loc Cert.KernelIdeal.main_v29_2) = (KernelIdeal.dats m 0 c).arrAt 8 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  (θ_run Cert.KernelIdeal.defs _ _).mono (fun r h c => ⟨(h.1.1 c).1 6, (h.1.1 c).1 7, (h.1.1 c).1 8, h.2.1 c⟩)
    (Cert.Proof.KernelIdeal.both m g)

/-- On finite arguments the kernel's three gradients are the reference's. -/
theorem value : Cert.algebraic_KernelIdeal_ReferenceIdeal_pre_finite (hKernelIdeal := Cert.KernelIdeal.Gen.facts) (hReferenceIdeal := Cert.ReferenceIdeal.Gen.facts) (hPre_finite := preFacts) := by
  intro m g m' g' hpre hagree
  refine ⟨fun c => Reference.rDQ (KernelIdeal.aQ m c) (KernelIdeal.aK m c) (KernelIdeal.aV m c) (KernelIdeal.aW m c),
    fun c => Reference.rDK (KernelIdeal.aQ m c) (KernelIdeal.aK m c) (KernelIdeal.aV m c) (KernelIdeal.aW m c),
    fun c => Reference.rDV (KernelIdeal.aQ m c) (KernelIdeal.aK m c) (KernelIdeal.aW m c), ?_, ?_⟩
  · exact (θ_run _ _ _).mono (fun r h c => ⟨(h c).1.trans (KernelIdeal.end6 m c (real0 m hpre c) (real1 m hpre c) (real2 m hpre c) (real3 m hpre c)),
      (h c).2.1.trans (KernelIdeal.end7 m c (real0 m hpre c) (real1 m hpre c) (real2 m hpre c) (real3 m hpre c)),
      (h c).2.2.1.trans (KernelIdeal.end8 m c (real0 m hpre c) (real1 m hpre c) (real3 m hpre c)), (h c).2.2.2⟩) (kernelRun m g)
  · exact (θ_run _ _ _).mono (fun r h c => ⟨(h c).1.trans ((Reference.q_eq m' c).trans (congr (congr (congr (congrArg Reference.rDQ (hagree c).1) (hagree c).2.1) (hagree c).2.2.1) (hagree c).2.2.2)),
      (h c).2.1.trans ((Reference.k_eq m' c).trans (congr (congr (congr (congrArg Reference.rDK (hagree c).1) (hagree c).2.1) (hagree c).2.2.1) (hagree c).2.2.2)),
      (h c).2.2.1.trans ((Reference.v_eq m' c).trans (congr (congr (congrArg Reference.rDV (hagree c).1) (hagree c).2.1) (hagree c).2.2.2)), (h c).2.2.2⟩)
      (Cert.ReferenceIdeal.Value.run (F := Ideal) m' g')

/-- The feed-forward reference leaves its arguments as they were; it declares no semaphore. -/
theorem quietFfnReference : Cert.quiescent_FfnReferenceIdeal (hFfnReferenceIdeal := Cert.FfnReferenceIdeal.Gen.facts) := fun m g _ =>
  (θ_run Cert.FfnReferenceIdeal.defs _ _).mono
    (fun r h => ⟨fun c => (h c).2.2.2.2, Idealize.ShloMosaic.sem_eq_zero_of_no_sems (by decide) r.2⟩)
    (Cert.FfnReferenceIdeal.Value.run (F := Ideal) m g)

/-- The feed-forward's four results are the reference's. -/
theorem valueFfn : Cert.algebraic_FfnIdeal_FfnReferenceIdeal (hFfnIdeal := Cert.FfnIdeal.Gen.facts) (hFfnReferenceIdeal := Cert.FfnReferenceIdeal.Gen.facts) := by
  intro m g m' g' _ hagree
  refine ⟨fun c => FfnReference.rY (FfnIdeal.aH m c) (FfnIdeal.aW m c) (FfnIdeal.aO m c),
    fun c => FfnReference.rDH (FfnIdeal.aH m c) (FfnIdeal.aW m c) (FfnIdeal.aO m c) (FfnIdeal.aC m c),
    fun c => FfnReference.rDW (FfnIdeal.aH m c) (FfnIdeal.aW m c) (FfnIdeal.aO m c) (FfnIdeal.aC m c),
    fun c => FfnReference.rDO (FfnIdeal.aH m c) (FfnIdeal.aW m c) (FfnIdeal.aC m c), ?_, ?_⟩
  · exact (θ_run _ _ _).mono (fun r h c => ⟨(h c).1.trans ((FfnIdeal.end_v5 m g c).trans (FfnReference.rY_eq _ _ _).symm),
      (h c).2.1.trans ((FfnIdeal.end_v12 m g c).trans (FfnReference.rDH_eq _ _ _ _).symm),
      (h c).2.2.1.trans ((FfnIdeal.end_v14 m g c).trans (FfnReference.rDW_eq _ _ _ _).symm),
      (h c).2.2.2.1.trans ((FfnIdeal.end_v9 m g c).trans (FfnReference.rDO_eq _ _ _).symm), (h c).2.2.2.2⟩) (FfnIdeal.ran m g)
  · exact (θ_run _ _ _).mono (fun r h c => ⟨(h c).1.trans (congr (congr (congrArg FfnReference.rY (hagree c).1) (hagree c).2.1) (hagree c).2.2.1),
      (h c).2.1.trans (congr (congr (congr (congrArg FfnReference.rDH (hagree c).1) (hagree c).2.1) (hagree c).2.2.1) (hagree c).2.2.2),
      (h c).2.2.1.trans (congr (congr (congr (congrArg FfnReference.rDW (hagree c).1) (hagree c).2.1) (hagree c).2.2.1) (hagree c).2.2.2),
      (h c).2.2.2.1.trans (congr (congr (congrArg FfnReference.rDO (hagree c).1) (hagree c).2.1) (hagree c).2.2.2), (h c).2.2.2.2⟩)
      (FfnReference.ran m' g')

/-- The reference of the projections around the recurrence leaves its arguments as they were; it declares no semaphore. -/
theorem quietHgrnReference : Cert.quiescent_HgrnReferenceIdeal (hHgrnReferenceIdeal := Cert.HgrnReferenceIdeal.Gen.facts) := fun m g _ =>
  (θ_run Cert.HgrnReferenceIdeal.defs _ _).mono
    (fun r h => ⟨fun c => (h c).2.2.2.2.2.2, Idealize.ShloMosaic.sem_eq_zero_of_no_sems (by decide) r.2⟩)
    (Cert.HgrnReferenceIdeal.Value.run (F := Ideal) m g)

/-- The results of the projections around the recurrence are the reference's. -/
theorem valueHgrn : Cert.algebraic_HgrnIdeal_HgrnReferenceIdeal (hHgrnIdeal := Cert.HgrnIdeal.Gen.facts) (hHgrnReferenceIdeal := Cert.HgrnReferenceIdeal.Gen.facts) := by
  intro m g m' g' _ hagree
  refine ⟨fun c => HgrnIdeal.inOut (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)),
    fun c => HgrnIdeal.inBack (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg1)),
    fun c => HgrnIdeal.inGrad (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg2)),
    fun c => HgrnIdeal.oOut (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)),
    fun c => HgrnIdeal.oBack (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg4)),
    fun c => HgrnIdeal.oGrad (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg5)), ?_, ?_⟩
  · exact HgrnIdeal.ran m g
  · exact (θ_run _ _ _).mono (fun r h c => ⟨(h c).1.trans (congrArg₂ HgrnIdeal.inOut (hagree c).1 (hagree c).2.1),
      (h c).2.1.trans (congrArg₂ HgrnIdeal.inBack (hagree c).2.2.1 (hagree c).2.1),
      (h c).2.2.1.trans (congrArg₂ HgrnIdeal.inGrad (hagree c).1 (hagree c).2.2.1),
      (h c).2.2.2.1.trans (congrArg₂ HgrnIdeal.oOut (hagree c).2.2.2.1 (hagree c).2.2.2.2.1),
      (h c).2.2.2.2.1.trans (congrArg₂ HgrnIdeal.oBack (hagree c).2.2.2.2.2 (hagree c).2.2.2.2.1),
      (h c).2.2.2.2.2.1.trans (congrArg₂ HgrnIdeal.oGrad (hagree c).2.2.2.1 (hagree c).2.2.2.2.2), (h c).2.2.2.2.2.2⟩)
      (HgrnReference.ran m' g')

/-- The reference of the projections around the attention leaves its arguments as they were; it declares no semaphore. -/
theorem quietMlaReference : Cert.quiescent_MlaReferenceIdeal (hMlaReferenceIdeal := Cert.MlaReferenceIdeal.Gen.facts) := fun m g _ =>
  (θ_run Cert.MlaReferenceIdeal.defs _ _).mono
    (fun r h => ⟨fun c => (h c).2.2.2.2.2.2.2.2.2.2.2.2, Idealize.ShloMosaic.sem_eq_zero_of_no_sems (by decide) r.2⟩)
    (Cert.MlaReferenceIdeal.Value.run (F := Ideal) m g)

/-- The results of the projections around the attention are the reference's. -/
theorem valueMla : Cert.algebraic_MlaIdeal_MlaReferenceIdeal (hMlaIdeal := Cert.MlaIdeal.Gen.facts) (hMlaReferenceIdeal := Cert.MlaReferenceIdeal.Gen.facts) := by
  intro m g m' g' _ hagree
  refine ⟨fun c => MlaIdeal.inOut (m ((c.tc : Thread Cert.MlaIdeal.nD Cert.MlaIdeal.τ).loc Cert.MlaIdeal.main_arg0)) (m ((c.tc : Thread Cert.MlaIdeal.nD Cert.MlaIdeal.τ).loc Cert.MlaIdeal.main_arg1)),
    fun c => MlaIdeal.inBack (m ((c.tc : Thread Cert.MlaIdeal.nD Cert.MlaIdeal.τ).loc Cert.MlaIdeal.main_arg2)) (m ((c.tc : Thread Cert.MlaIdeal.nD Cert.MlaIdeal.τ).loc Cert.MlaIdeal.main_arg1)),
    fun c => MlaIdeal.inGrad (m ((c.tc : Thread Cert.MlaIdeal.nD Cert.MlaIdeal.τ).loc Cert.MlaIdeal.main_arg0)) (m ((c.tc : Thread Cert.MlaIdeal.nD Cert.MlaIdeal.τ).loc Cert.MlaIdeal.main_arg2)),
    fun c => MlaIdeal.qbOut (m ((c.tc : Thread Cert.MlaIdeal.nD Cert.MlaIdeal.τ).loc Cert.MlaIdeal.main_arg3)) (m ((c.tc : Thread Cert.MlaIdeal.nD Cert.MlaIdeal.τ).loc Cert.MlaIdeal.main_arg4)),
    fun c => MlaIdeal.qbBack (m ((c.tc : Thread Cert.MlaIdeal.nD Cert.MlaIdeal.τ).loc Cert.MlaIdeal.main_arg5)) (m ((c.tc : Thread Cert.MlaIdeal.nD Cert.MlaIdeal.τ).loc Cert.MlaIdeal.main_arg4)),
    fun c => MlaIdeal.qbGrad (m ((c.tc : Thread Cert.MlaIdeal.nD Cert.MlaIdeal.τ).loc Cert.MlaIdeal.main_arg3)) (m ((c.tc : Thread Cert.MlaIdeal.nD Cert.MlaIdeal.τ).loc Cert.MlaIdeal.main_arg5)),
    fun c => MlaIdeal.kvbOut (m ((c.tc : Thread Cert.MlaIdeal.nD Cert.MlaIdeal.τ).loc Cert.MlaIdeal.main_arg6)) (m ((c.tc : Thread Cert.MlaIdeal.nD Cert.MlaIdeal.τ).loc Cert.MlaIdeal.main_arg7)),
    fun c => MlaIdeal.kvbBack (m ((c.tc : Thread Cert.MlaIdeal.nD Cert.MlaIdeal.τ).loc Cert.MlaIdeal.main_arg8)) (m ((c.tc : Thread Cert.MlaIdeal.nD Cert.MlaIdeal.τ).loc Cert.MlaIdeal.main_arg7)),
    fun c => MlaIdeal.kvbGrad (m ((c.tc : Thread Cert.MlaIdeal.nD Cert.MlaIdeal.τ).loc Cert.MlaIdeal.main_arg6)) (m ((c.tc : Thread Cert.MlaIdeal.nD Cert.MlaIdeal.τ).loc Cert.MlaIdeal.main_arg8)),
    fun c => MlaIdeal.oOut (m ((c.tc : Thread Cert.MlaIdeal.nD Cert.MlaIdeal.τ).loc Cert.MlaIdeal.main_arg9)) (m ((c.tc : Thread Cert.MlaIdeal.nD Cert.MlaIdeal.τ).loc Cert.MlaIdeal.main_arg10)),
    fun c => MlaIdeal.oBack (m ((c.tc : Thread Cert.MlaIdeal.nD Cert.MlaIdeal.τ).loc Cert.MlaIdeal.main_arg11)) (m ((c.tc : Thread Cert.MlaIdeal.nD Cert.MlaIdeal.τ).loc Cert.MlaIdeal.main_arg10)),
    fun c => MlaIdeal.oGrad (m ((c.tc : Thread Cert.MlaIdeal.nD Cert.MlaIdeal.τ).loc Cert.MlaIdeal.main_arg9)) (m ((c.tc : Thread Cert.MlaIdeal.nD Cert.MlaIdeal.τ).loc Cert.MlaIdeal.main_arg11)), ?_, ?_⟩
  · exact MlaIdeal.ran m g
  · exact (θ_run _ _ _).mono (fun r h c => ⟨(h c).1.trans (congrArg₂ MlaIdeal.inOut (hagree c).1 (hagree c).2.1),
      (h c).2.1.trans (congrArg₂ MlaIdeal.inBack (hagree c).2.2.1 (hagree c).2.1),
      (h c).2.2.1.trans (congrArg₂ MlaIdeal.inGrad (hagree c).1 (hagree c).2.2.1),
      (h c).2.2.2.1.trans (congrArg₂ MlaIdeal.qbOut (hagree c).2.2.2.1 (hagree c).2.2.2.2.1),
      (h c).2.2.2.2.1.trans (congrArg₂ MlaIdeal.qbBack (hagree c).2.2.2.2.2.1 (hagree c).2.2.2.2.1),
      (h c).2.2.2.2.2.1.trans (congrArg₂ MlaIdeal.qbGrad (hagree c).2.2.2.1 (hagree c).2.2.2.2.2.1),
      (h c).2.2.2.2.2.2.1.trans (congrArg₂ MlaIdeal.kvbOut (hagree c).2.2.2.2.2.2.1 (hagree c).2.2.2.2.2.2.2.1),
      (h c).2.2.2.2.2.2.2.1.trans (congrArg₂ MlaIdeal.kvbBack (hagree c).2.2.2.2.2.2.2.2.1 (hagree c).2.2.2.2.2.2.2.1),
      (h c).2.2.2.2.2.2.2.2.1.trans (congrArg₂ MlaIdeal.kvbGrad (hagree c).2.2.2.2.2.2.1 (hagree c).2.2.2.2.2.2.2.2.1),
      (h c).2.2.2.2.2.2.2.2.2.1.trans (congrArg₂ MlaIdeal.oOut (hagree c).2.2.2.2.2.2.2.2.2.1 (hagree c).2.2.2.2.2.2.2.2.2.2.1),
      (h c).2.2.2.2.2.2.2.2.2.2.1.trans (congrArg₂ MlaIdeal.oBack (hagree c).2.2.2.2.2.2.2.2.2.2.2 (hagree c).2.2.2.2.2.2.2.2.2.2.1),
      (h c).2.2.2.2.2.2.2.2.2.2.2.1.trans (congrArg₂ MlaIdeal.oGrad (hagree c).2.2.2.2.2.2.2.2.2.1 (hagree c).2.2.2.2.2.2.2.2.2.2.2), (h c).2.2.2.2.2.2.2.2.2.2.2.2⟩)
      (MlaReference.ran m' g')

set_option maxHeartbeats 4000000 in
/-- The reference of the optimiser's large weights leaves its arguments as they were; it declares no semaphore. -/
theorem quietAdamReference : Cert.quiescent_AdamReferenceIdeal (hAdamReferenceIdeal := Cert.AdamReferenceIdeal.Gen.facts) := fun m g _ =>
  (θ_run Cert.AdamReferenceIdeal.defs _ _).mono
    (fun r h => ⟨fun c => (h c).2.2.2.2.2.2.2.2.2.2.2.2.2.2.2.2.2.2.2.2.2.2.2.2.2.2.2.2.2.2.2.2, Idealize.ShloMosaic.sem_eq_zero_of_no_sems (by decide) r.2⟩)
    (Cert.AdamReferenceIdeal.Value.run (F := Ideal) m g)

set_option maxHeartbeats 4000000 in
open AdamModel in
/-- The step of the optimiser's large weights is the reference's. -/
theorem valueAdam : Cert.algebraic_AdamIdeal_AdamReferenceIdeal (hAdamIdeal := Cert.AdamIdeal.Gen.facts) (hAdamReferenceIdeal := Cert.AdamReferenceIdeal.Gen.facts) := by
  intro m g m' g' _ hagree
  refine ⟨AdamIdeal.res0_0 m, AdamIdeal.res0_1 m, AdamIdeal.res0_2 m, AdamIdeal.res0_3 m, AdamIdeal.res1_0 m, AdamIdeal.res1_1 m, AdamIdeal.res1_2 m, AdamIdeal.res1_3 m, AdamIdeal.res2_0 m, AdamIdeal.res2_1 m, AdamIdeal.res2_2 m, AdamIdeal.res2_3 m, AdamIdeal.res3_0 m, AdamIdeal.res3_1 m, AdamIdeal.res3_2 m, AdamIdeal.res3_3 m, AdamIdeal.res4_0 m, AdamIdeal.res4_1 m, AdamIdeal.res4_2 m, AdamIdeal.res4_3 m, AdamIdeal.res5_0 m, AdamIdeal.res5_1 m, AdamIdeal.res5_2 m, AdamIdeal.res5_3 m, AdamIdeal.res6_0 m, AdamIdeal.res6_1 m, AdamIdeal.res6_2 m, AdamIdeal.res6_3 m, AdamIdeal.res7_0 m, AdamIdeal.res7_1 m, AdamIdeal.res7_2 m, AdamIdeal.res7_3 m, ?_, ?_⟩
  · exact AdamIdeal.ran m g
  · exact (θ_run _ _ _).mono (fun r h c => by
      obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hagree c
      obtain ⟨h0, h1, h2, h3, h4, h5, h6, h7, h8, h9, h10, h11, h12, h13, h14, h15, h16, h17, h18, h19, h20, h21, h22, h23, h24, h25, h26, h27, h28, h29, h30, h31, hr⟩ := h c
      exact ⟨h0.trans (congrArg₂ both a3 a4),
        h1.trans ((refDelta_eq _ _ _ _).trans (step_congr a0 a1 a2 (congrArg₂ both a3 a4))),
        h2.trans (congrArg₂ momArr a1 (congrArg₂ both a3 a4)),
        h3.trans (congrArg₂ velArr a2 (congrArg₂ both a3 a4)),
        h4.trans (congrArg₂ both a8 a9),
        h5.trans ((refDelta_eq _ _ _ _).trans (step_congr a5 a6 a7 (congrArg₂ both a8 a9))),
        h6.trans (congrArg₂ momArr a6 (congrArg₂ both a8 a9)),
        h7.trans (congrArg₂ velArr a7 (congrArg₂ both a8 a9)),
        h8.trans (congrArg₂ both a13 a14),
        h9.trans ((refDelta_eq _ _ _ _).trans (step_congr a10 a11 a12 (congrArg₂ both a13 a14))),
        h10.trans (congrArg₂ momArr a11 (congrArg₂ both a13 a14)),
        h11.trans (congrArg₂ velArr a12 (congrArg₂ both a13 a14)),
        h12.trans (congrArg₂ both a18 a19),
        h13.trans ((refDelta_eq _ _ _ _).trans (step_congr a15 a16 a17 (congrArg₂ both a18 a19))),
        h14.trans (congrArg₂ momArr a16 (congrArg₂ both a18 a19)),
        h15.trans (congrArg₂ velArr a17 (congrArg₂ both a18 a19)),
        h16.trans (congrArg₂ both a23 a24),
        h17.trans ((refDelta_eq _ _ _ _).trans (step_congr a20 a21 a22 (congrArg₂ both a23 a24))),
        h18.trans (congrArg₂ momArr a21 (congrArg₂ both a23 a24)),
        h19.trans (congrArg₂ velArr a22 (congrArg₂ both a23 a24)),
        h20.trans (congrArg₂ both a28 a29),
        h21.trans ((refDelta_eq _ _ _ _).trans (step_congr a25 a26 a27 (congrArg₂ both a28 a29))),
        h22.trans (congrArg₂ momArr a26 (congrArg₂ both a28 a29)),
        h23.trans (congrArg₂ velArr a27 (congrArg₂ both a28 a29)),
        h24.trans (congrArg₂ both a33 a34),
        h25.trans ((refDelta_eq _ _ _ _).trans (step_congr a30 a31 a32 (congrArg₂ both a33 a34))),
        h26.trans (congrArg₂ momArr a31 (congrArg₂ both a33 a34)),
        h27.trans (congrArg₂ velArr a32 (congrArg₂ both a33 a34)),
        h28.trans (congrArg₂ both a38 a39),
        h29.trans ((refDelta_eq _ _ _ _).trans (step_congr a35 a36 a37 (congrArg₂ both a38 a39))),
        h30.trans (congrArg₂ momArr a36 (congrArg₂ both a38 a39)),
        h31.trans (congrArg₂ velArr a37 (congrArg₂ both a38 a39)), hr⟩)
      (Cert.AdamReferenceIdeal.Value.run (F := Ideal) m' g')

/-- The two named numbers of the optimiser's large weights are the reciprocals of the bias corrections. -/
theorem namedAdam : Cert.preserves_Adam_AdamIdeal :=
  ⟨IdealRules.named_const.statement Cert.AdamIdeal.κ "correct1" .f32 0x3FC48605#32 (((5463681 / 8388608)⁻¹ : ℝ) : EReal) rfl,
    IdealRules.named_const.statement Cert.AdamIdeal.κ "correct2" .f32 0x42C8E6D3#32 (((2672307 / 268435456)⁻¹ : ℝ) : EReal) rfl⟩

set_option maxHeartbeats 4000000 in
/-- The reference of the optimiser's small weights leaves its arguments as they were; it declares no semaphore. -/
theorem quietSmallReference : Cert.quiescent_SmallReferenceIdeal (hSmallReferenceIdeal := Cert.SmallReferenceIdeal.Gen.facts) := fun m g _ =>
  (θ_run Cert.SmallReferenceIdeal.defs _ _).mono
    (fun r h => ⟨fun c => (h c).2.2.2.2.2.2.2.2.2.2.2.2.2.2.2.2.2.2.2.2.2.2.2.2.2.2.2.2.2.2.2.2, Idealize.ShloMosaic.sem_eq_zero_of_no_sems (by decide) r.2⟩)
    (Cert.SmallReferenceIdeal.Value.run (F := Ideal) m g)

set_option maxHeartbeats 4000000 in
open AdamModel in
/-- The step of the optimiser's small weights is the reference's. -/
theorem valueSmall : Cert.algebraic_SmallIdeal_SmallReferenceIdeal (hSmallIdeal := Cert.SmallIdeal.Gen.facts) (hSmallReferenceIdeal := Cert.SmallReferenceIdeal.Gen.facts) := by
  intro m g m' g' _ hagree
  refine ⟨SmallIdeal.res0_0 m, SmallIdeal.res0_1 m, SmallIdeal.res0_2 m, SmallIdeal.res0_3 m, SmallIdeal.res1_0 m, SmallIdeal.res1_1 m, SmallIdeal.res1_2 m, SmallIdeal.res1_3 m, SmallIdeal.res2_0 m, SmallIdeal.res2_1 m, SmallIdeal.res2_2 m, SmallIdeal.res2_3 m, SmallIdeal.res3_0 m, SmallIdeal.res3_1 m, SmallIdeal.res3_2 m, SmallIdeal.res3_3 m, SmallIdeal.res4_0 m, SmallIdeal.res4_1 m, SmallIdeal.res4_2 m, SmallIdeal.res4_3 m, SmallIdeal.res5_0 m, SmallIdeal.res5_1 m, SmallIdeal.res5_2 m, SmallIdeal.res5_3 m, SmallIdeal.res6_0 m, SmallIdeal.res6_1 m, SmallIdeal.res6_2 m, SmallIdeal.res6_3 m, SmallIdeal.res7_0 m, SmallIdeal.res7_1 m, SmallIdeal.res7_2 m, SmallIdeal.res7_3 m, ?_, ?_⟩
  · exact SmallIdeal.ran m g
  · exact (θ_run _ _ _).mono (fun r h c => by
      obtain ⟨a0, a1, a2, a3, a4, a5, a6, a7, a8, a9, a10, a11, a12, a13, a14, a15, a16, a17, a18, a19, a20, a21, a22, a23, a24, a25, a26, a27, a28, a29, a30, a31⟩ := hagree c
      obtain ⟨h0, h1, h2, h3, h4, h5, h6, h7, h8, h9, h10, h11, h12, h13, h14, h15, h16, h17, h18, h19, h20, h21, h22, h23, h24, h25, h26, h27, h28, h29, h30, h31, hr⟩ := h c
      exact ⟨h0.trans a3,
        h1.trans ((refDelta_eq _ _ _ _).trans (step_congr a0 a1 a2 a3)),
        h2.trans (congrArg₂ momArr a1 a3),
        h3.trans (congrArg₂ velArr a2 a3),
        h4.trans a7,
        h5.trans ((refDelta_eq _ _ _ _).trans (step_congr a4 a5 a6 a7)),
        h6.trans (congrArg₂ momArr a5 a7),
        h7.trans (congrArg₂ velArr a6 a7),
        h8.trans a11,
        h9.trans ((refDelta_eq _ _ _ _).trans (step_congr a8 a9 a10 a11)),
        h10.trans (congrArg₂ momArr a9 a11),
        h11.trans (congrArg₂ velArr a10 a11),
        h12.trans a15,
        h13.trans ((refDelta_eq _ _ _ _).trans (step_congr a12 a13 a14 a15)),
        h14.trans (congrArg₂ momArr a13 a15),
        h15.trans (congrArg₂ velArr a14 a15),
        h16.trans a19,
        h17.trans ((refDelta_eq _ _ _ _).trans (step_congr a16 a17 a18 a19)),
        h18.trans (congrArg₂ momArr a17 a19),
        h19.trans (congrArg₂ velArr a18 a19),
        h20.trans a23,
        h21.trans ((refDelta_eq _ _ _ _).trans (step_congr a20 a21 a22 a23)),
        h22.trans (congrArg₂ momArr a21 a23),
        h23.trans (congrArg₂ velArr a22 a23),
        h24.trans a27,
        h25.trans ((refDelta_eq _ _ _ _).trans (step_congr a24 a25 a26 a27)),
        h26.trans (congrArg₂ momArr a25 a27),
        h27.trans (congrArg₂ velArr a26 a27),
        h28.trans a31,
        h29.trans ((refDelta_eq _ _ _ _).trans (step_congr a28 a29 a30 a31)),
        h30.trans (congrArg₂ momArr a29 a31),
        h31.trans (congrArg₂ velArr a30 a31), hr⟩)
      (Cert.SmallReferenceIdeal.Value.run (F := Ideal) m' g')

/-- The two named numbers of the optimiser's small weights are the reciprocals of the bias corrections. -/
theorem namedSmall : Cert.preserves_Small_SmallIdeal :=
  ⟨IdealRules.named_const.statement Cert.SmallIdeal.κ "correct1" .f32 0x3FC48605#32 (((5463681 / 8388608)⁻¹ : ℝ) : EReal) rfl,
    IdealRules.named_const.statement Cert.SmallIdeal.κ "correct2" .f32 0x42C8E6D3#32 (((2672307 / 268435456)⁻¹ : ℝ) : EReal) rfl⟩

theorem claim : Cert.Claim := by
  refine ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Hgrn.Gen.facts, Cert.HgrnIdeal.Gen.facts, Cert.HgrnReferenceIdeal.Gen.facts,
    Cert.Mla.Gen.facts, Cert.MlaIdeal.Gen.facts, Cert.MlaReferenceIdeal.Gen.facts,
    Cert.Adam.Gen.facts, Cert.AdamIdeal.Gen.facts, Cert.AdamReferenceIdeal.Gen.facts, Cert.Small.Gen.facts, Cert.SmallIdeal.Gen.facts, Cert.SmallReferenceIdeal.Gen.facts, preFacts, ?_⟩
  exact ⟨fun m g _ => Cert.Proof.Kernel.framed m g, fun m g _ => Cert.Proof.KernelIdeal.framed m g, fun m g _ => Cert.Proof.KernelIdeal.framed m g,
    quietReference, fun m g _ => quietReference m g trivial, fun m g _ => Cert.Ffn.Gen.frame m g, fun m g _ => Cert.FfnIdeal.Gen.frame m g,
    quietFfnReference, fun m g _ => Cert.Hgrn.Gen.frame m g, fun m g _ => Cert.HgrnIdeal.Gen.frame m g, quietHgrnReference,
    fun m g _ => Cert.Mla.Gen.frame m g, fun m g _ => Cert.MlaIdeal.Gen.frame m g, quietMlaReference,
    fun m g _ => Cert.Adam.Gen.frame m g, fun m g _ => Cert.AdamIdeal.Gen.frame m g, quietAdamReference,
    fun m g _ => Cert.Small.Gen.frame m g, fun m g _ => Cert.SmallIdeal.Gen.frame m g, quietSmallReference,
    named, value, trivial, valueFfn, trivial, valueHgrn, trivial, valueMla,
    namedAdam, valueAdam, namedSmall, valueSmall⟩

end Cert.Proof

end
